-- ==== Defs.lean ====
def Pre_Kernel [hPre_names_a_code : Cert.Pre_names_a_code.Facts] (m : (ℓ : Loc Cert.Kernel.nD Cert.Kernel.τ Cert.Kernel.sig) → Buf (Elt Bits) ℓ) : Prop :=
  ∀ c : Dev Cert.Kernel.nD,
    (Cert.Pre_names_a_code.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_names_a_code : Cert.Pre_names_a_code.Facts] (m : (ℓ : Loc Cert.KernelIdeal.nD Cert.KernelIdeal.τ Cert.KernelIdeal.sig) → Buf (Elt Ideal) ℓ) : Prop :=
  ∀ c : Dev Cert.KernelIdeal.nD,
    (Cert.Pre_names_a_code.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_names_a_code [hPre_names_a_code : Cert.Pre_names_a_code.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_names_a_code.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_names_a_code : Cert.Pre_names_a_code.Facts] (m : (ℓ : Loc Cert.Reference.nD Cert.Reference.τ Cert.Reference.sig) → Buf (Elt Bits) ℓ) : Prop :=
  ∀ c : Dev Cert.Reference.nD,
    (Cert.Pre_names_a_code.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_Deconv (m : (ℓ : Loc Cert.Deconv.nD Cert.Deconv.τ Cert.Deconv.sig) → Buf (Elt Bits) ℓ) : Prop :=
  True

def Pre_DeconvIdeal (m : (ℓ : Loc Cert.DeconvIdeal.nD Cert.DeconvIdeal.τ Cert.DeconvIdeal.sig) → Buf (Elt Ideal) ℓ) : Prop :=
  True

def Pre_DeconvReferenceIdeal (m : (ℓ : Loc Cert.DeconvReferenceIdeal.nD Cert.DeconvReferenceIdeal.τ Cert.DeconvReferenceIdeal.sig) → Buf (Elt Ideal) ℓ) : Prop :=
  True

def Pre_Deconv1 (m : (ℓ : Loc Cert.Deconv1.nD Cert.Deconv1.τ Cert.Deconv1.sig) → Buf (Elt Bits) ℓ) : Prop :=
  True

def Pre_Deconv1Ideal (m : (ℓ : Loc Cert.Deconv1Ideal.nD Cert.Deconv1Ideal.τ Cert.Deconv1Ideal.sig) → Buf (Elt Ideal) ℓ) : Prop :=
  True

def Pre_Deconv1ReferenceIdeal (m : (ℓ : Loc Cert.Deconv1ReferenceIdeal.nD Cert.Deconv1ReferenceIdeal.τ Cert.Deconv1ReferenceIdeal.sig) → Buf (Elt Ideal) ℓ) : Prop :=
  True

def Pre_Conv1 (m : (ℓ : Loc Cert.Conv1.nD Cert.Conv1.τ Cert.Conv1.sig) → Buf (Elt Bits) ℓ) : Prop :=
  True

def Pre_Conv1Ideal (m : (ℓ : Loc Cert.Conv1Ideal.nD Cert.Conv1Ideal.τ Cert.Conv1Ideal.sig) → Buf (Elt Ideal) ℓ) : Prop :=
  True

def Pre_Conv1ReferenceIdeal (m : (ℓ : Loc Cert.Conv1ReferenceIdeal.nD Cert.Conv1ReferenceIdeal.τ Cert.Conv1ReferenceIdeal.sig) → Buf (Elt Ideal) ℓ) : Prop :=
  True

def Pre_Conv2 (m : (ℓ : Loc Cert.Conv2.nD Cert.Conv2.τ Cert.Conv2.sig) → Buf (Elt Bits) ℓ) : Prop :=
  True

def Pre_Conv2Ideal (m : (ℓ : Loc Cert.Conv2Ideal.nD Cert.Conv2Ideal.τ Cert.Conv2Ideal.sig) → Buf (Elt Ideal) ℓ) : Prop :=
  True

def Pre_Conv2ReferenceIdeal (m : (ℓ : Loc Cert.Conv2ReferenceIdeal.nD Cert.Conv2ReferenceIdeal.τ Cert.Conv2ReferenceIdeal.sig) → Buf (Elt Ideal) ℓ) : Prop :=
  True

def Pre_Codes (m : (ℓ : Loc Cert.Codes.nD Cert.Codes.τ Cert.Codes.sig) → Buf (Elt Bits) ℓ) : Prop :=
  True

def Pre_CodesIdeal (m : (ℓ : Loc Cert.CodesIdeal.nD Cert.CodesIdeal.τ Cert.CodesIdeal.sig) → Buf (Elt Ideal) ℓ) : Prop :=
  True

def Pre_CodesIdeal_finite [hPre_finite : Cert.Pre_finite.Facts] (m : (ℓ : Loc Cert.CodesIdeal.nD Cert.CodesIdeal.τ Cert.CodesIdeal.sig) → Buf (Elt Ideal) ℓ) : Prop :=
  ∀ c : Dev Cert.CodesIdeal.nD,
    (Cert.Pre_finite.fn (F := Ideal) (m ((c.tc : Thread Cert.CodesIdeal.nD Cert.CodesIdeal.τ).loc Cert.CodesIdeal.main_arg0)) (m ((c.tc : Thread Cert.CodesIdeal.nD Cert.CodesIdeal.τ).loc Cert.CodesIdeal.main_arg1)) (m ((c.tc : Thread Cert.CodesIdeal.nD Cert.CodesIdeal.τ).loc Cert.CodesIdeal.main_arg2)) (m ((c.tc : Thread Cert.CodesIdeal.nD Cert.CodesIdeal.τ).loc Cert.CodesIdeal.main_arg3))) = (fun _ => 1#1)

def Pre_CodesReferenceIdeal (m : (ℓ : Loc Cert.CodesReferenceIdeal.nD Cert.CodesReferenceIdeal.τ Cert.CodesReferenceIdeal.sig) → Buf (Elt Ideal) ℓ) : Prop :=
  True

def Pre_CodesReferenceIdeal_finite [hPre_finite : Cert.Pre_finite.Facts] (m : (ℓ : Loc Cert.CodesReferenceIdeal.nD Cert.CodesReferenceIdeal.τ Cert.CodesReferenceIdeal.sig) → Buf (Elt Ideal) ℓ) : Prop :=
  ∀ c : Dev Cert.CodesReferenceIdeal.nD,
    (Cert.Pre_finite.fn (F := Ideal) (m ((c.tc : Thread Cert.CodesReferenceIdeal.nD Cert.CodesReferenceIdeal.τ).loc Cert.CodesReferenceIdeal.main_arg0)) (m ((c.tc : Thread Cert.CodesReferenceIdeal.nD Cert.CodesReferenceIdeal.τ).loc Cert.CodesReferenceIdeal.main_arg1)) (m ((c.tc : Thread Cert.CodesReferenceIdeal.nD Cert.CodesReferenceIdeal.τ).loc Cert.CodesReferenceIdeal.main_arg2)) (m ((c.tc : Thread Cert.CodesReferenceIdeal.nD Cert.CodesReferenceIdeal.τ).loc Cert.CodesReferenceIdeal.main_arg3))) = (fun _ => 1#1)

def quiescent_Kernel [hKernel : Cert.Kernel.Facts] [hPre_names_a_code : Cert.Pre_names_a_code.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_names_a_code : Cert.Pre_names_a_code.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_names_a_code [hReferenceIdeal : Cert.ReferenceIdeal.Facts] [hPre_names_a_code : Cert.Pre_names_a_code.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_names_a_code m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_names_a_code : Cert.Pre_names_a_code.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2))
      ∧ r.2.sem = fun _ => 0)

def quiescent_Deconv [hDeconv : Cert.Deconv.Facts] : Prop :=
  ∀ (m : (ℓ : Loc Cert.Deconv.nD Cert.Deconv.τ Cert.Deconv.sig) → Buf (Elt Bits) ℓ) (g : Dev Cert.Deconv.nD → PrngReg), Pre_Deconv m →
    θ_run (Cert.Deconv.defs (F := Bits)) (onTc (τ := Cert.Deconv.τ) (Cert.Deconv.main (F := Bits))) ⟨m, fun _ => 0, g⟩ (fun r => (∀ c : Dev Cert.Deconv.nD,
      r.2.mem ((c.tc : Thread Cert.Deconv.nD Cert.Deconv.τ).loc Cert.Deconv.main_arg0) = m ((c.tc : Thread Cert.Deconv.nD Cert.Deconv.τ).loc Cert.Deconv.main_arg0)
      ∧ r.2.mem ((c.tc : Thread Cert.Deconv.nD Cert.Deconv.τ).loc Cert.Deconv.main_arg1) = m ((c.tc : Thread Cert.Deconv.nD Cert.Deconv.τ).loc Cert.Deconv.main_arg1)
      ∧ r.2.mem ((c.tc : Thread Cert.Deconv.nD Cert.Deconv.τ).loc Cert.Deconv.main_arg2) = m ((c.tc : Thread Cert.Deconv.nD Cert.Deconv.τ).loc Cert.Deconv.main_arg2))
      ∧ r.2.sem = fun _ => 0)

def quiescent_DeconvIdeal [hDeconvIdeal : Cert.DeconvIdeal.Facts] : Prop :=
  ∀ (m : (ℓ : Loc Cert.DeconvIdeal.nD Cert.DeconvIdeal.τ Cert.DeconvIdeal.sig) → Buf (Elt Ideal) ℓ) (g : Dev Cert.DeconvIdeal.nD → PrngReg), Pre_DeconvIdeal m →
    θ_run (Cert.DeconvIdeal.defs (F := Ideal)) (onTc (τ := Cert.DeconvIdeal.τ) (Cert.DeconvIdeal.main (F := Ideal))) ⟨m, fun _ => 0, g⟩ (fun r => (∀ c : Dev Cert.DeconvIdeal.nD,
      r.2.mem ((c.tc : Thread Cert.DeconvIdeal.nD Cert.DeconvIdeal.τ).loc Cert.DeconvIdeal.main_arg0) = m ((c.tc : Thread Cert.DeconvIdeal.nD Cert.DeconvIdeal.τ).loc Cert.DeconvIdeal.main_arg0)
      ∧ r.2.mem ((c.tc : Thread Cert.DeconvIdeal.nD Cert.DeconvIdeal.τ).loc Cert.DeconvIdeal.main_arg1) = m ((c.tc : Thread Cert.DeconvIdeal.nD Cert.DeconvIdeal.τ).loc Cert.DeconvIdeal.main_arg1)
      ∧ r.2.mem ((c.tc : Thread Cert.DeconvIdeal.nD Cert.DeconvIdeal.τ).loc Cert.DeconvIdeal.main_arg2) = m ((c.tc : Thread Cert.DeconvIdeal.nD Cert.DeconvIdeal.τ).loc Cert.DeconvIdeal.main_arg2))
      ∧ r.2.sem = fun _ => 0)

def quiescent_DeconvReferenceIdeal [hDeconvReferenceIdeal : Cert.DeconvReferenceIdeal.Facts] : Prop :=
  ∀ (m : (ℓ : Loc Cert.DeconvReferenceIdeal.nD Cert.DeconvReferenceIdeal.τ Cert.DeconvReferenceIdeal.sig) → Buf (Elt Ideal) ℓ) (g : Dev Cert.DeconvReferenceIdeal.nD → PrngReg), Pre_DeconvReferenceIdeal m →
    θ_run (Cert.DeconvReferenceIdeal.defs (F := Ideal)) (onTc (τ := Cert.DeconvReferenceIdeal.τ) (Cert.DeconvReferenceIdeal.main (F := Ideal))) ⟨m, fun _ => 0, g⟩ (fun r => (∀ c : Dev Cert.DeconvReferenceIdeal.nD,
      r.2.mem ((c.tc : Thread Cert.DeconvReferenceIdeal.nD Cert.DeconvReferenceIdeal.τ).loc Cert.DeconvReferenceIdeal.main_arg0) = m ((c.tc : Thread Cert.DeconvReferenceIdeal.nD Cert.DeconvReferenceIdeal.τ).loc Cert.DeconvReferenceIdeal.main_arg0)
      ∧ r.2.mem ((c.tc : Thread Cert.DeconvReferenceIdeal.nD Cert.DeconvReferenceIdeal.τ).loc Cert.DeconvReferenceIdeal.main_arg1) = m ((c.tc : Thread Cert.DeconvReferenceIdeal.nD Cert.DeconvReferenceIdeal.τ).loc Cert.DeconvReferenceIdeal.main_arg1)
      ∧ r.2.mem ((c.tc : Thread Cert.DeconvReferenceIdeal.nD Cert.DeconvReferenceIdeal.τ).loc Cert.DeconvReferenceIdeal.main_arg2) = m ((c.tc : Thread Cert.DeconvReferenceIdeal.nD Cert.DeconvReferenceIdeal.τ).loc Cert.DeconvReferenceIdeal.main_arg2))
      ∧ r.2.sem = fun _ => 0)

def quiescent_Deconv1 [hDeconv1 : Cert.Deconv1.Facts] : Prop :=
  ∀ (m : (ℓ : Loc Cert.Deconv1.nD Cert.Deconv1.τ Cert.Deconv1.sig) → Buf (Elt Bits) ℓ) (g : Dev Cert.Deconv1.nD → PrngReg), Pre_Deconv1 m →
    θ_run (Cert.Deconv1.defs (F := Bits)) (onTc (τ := Cert.Deconv1.τ) (Cert.Deconv1.main (F := Bits))) ⟨m, fun _ => 0, g⟩ (fun r => (∀ c : Dev Cert.Deconv1.nD,
      r.2.mem ((c.tc : Thread Cert.Deconv1.nD Cert.Deconv1.τ).loc Cert.Deconv1.main_arg0) = m ((c.tc : Thread Cert.Deconv1.nD Cert.Deconv1.τ).loc Cert.Deconv1.main_arg0)
      ∧ r.2.mem ((c.tc : Thread Cert.Deconv1.nD Cert.Deconv1.τ).loc Cert.Deconv1.main_arg1) = m ((c.tc : Thread Cert.Deconv1.nD Cert.Deconv1.τ).loc Cert.Deconv1.main_arg1)
      ∧ r.2.mem ((c.tc : Thread Cert.Deconv1.nD Cert.Deconv1.τ).loc Cert.Deconv1.main_arg2) = m ((c.tc : Thread Cert.Deconv1.nD Cert.Deconv1.τ).loc Cert.Deconv1.main_arg2))
      ∧ r.2.sem = fun _ => 0)

def quiescent_Deconv1Ideal [hDeconv1Ideal : Cert.Deconv1Ideal.Facts] : Prop :=
  ∀ (m : (ℓ : Loc Cert.Deconv1Ideal.nD Cert.Deconv1Ideal.τ Cert.Deconv1Ideal.sig) → Buf (Elt Ideal) ℓ) (g : Dev Cert.Deconv1Ideal.nD → PrngReg), Pre_Deconv1Ideal m →
    θ_run (Cert.Deconv1Ideal.defs (F := Ideal)) (onTc (τ := Cert.Deconv1Ideal.τ) (Cert.Deconv1Ideal.main (F := Ideal))) ⟨m, fun _ => 0, g⟩ (fun r => (∀ c : Dev Cert.Deconv1Ideal.nD,
      r.2.mem ((c.tc : Thread Cert.Deconv1Ideal.nD Cert.Deconv1Ideal.τ).loc Cert.Deconv1Ideal.main_arg0) = m ((c.tc : Thread Cert.Deconv1Ideal.nD Cert.Deconv1Ideal.τ).loc Cert.Deconv1Ideal.main_arg0)
      ∧ r.2.mem ((c.tc : Thread Cert.Deconv1Ideal.nD Cert.Deconv1Ideal.τ).loc Cert.Deconv1Ideal.main_arg1) = m ((c.tc : Thread Cert.Deconv1Ideal.nD Cert.Deconv1Ideal.τ).loc Cert.Deconv1Ideal.main_arg1)
      ∧ r.2.mem ((c.tc : Thread Cert.Deconv1Ideal.nD Cert.Deconv1Ideal.τ).loc Cert.Deconv1Ideal.main_arg2) = m ((c.tc : Thread Cert.Deconv1Ideal.nD Cert.Deconv1Ideal.τ).loc Cert.Deconv1Ideal.main_arg2))
      ∧ r.2.sem = fun _ => 0)

def quiescent_Deconv1ReferenceIdeal [hDeconv1ReferenceIdeal : Cert.Deconv1ReferenceIdeal.Facts] : Prop :=
  ∀ (m : (ℓ : Loc Cert.Deconv1ReferenceIdeal.nD Cert.Deconv1ReferenceIdeal.τ Cert.Deconv1ReferenceIdeal.sig) → Buf (Elt Ideal) ℓ) (g : Dev Cert.Deconv1ReferenceIdeal.nD → PrngReg), Pre_Deconv1ReferenceIdeal m →
    θ_run (Cert.Deconv1ReferenceIdeal.defs (F := Ideal)) (onTc (τ := Cert.Deconv1ReferenceIdeal.τ) (Cert.Deconv1ReferenceIdeal.main (F := Ideal))) ⟨m, fun _ => 0, g⟩ (fun r => (∀ c : Dev Cert.Deconv1ReferenceIdeal.nD,
      r.2.mem ((c.tc : Thread Cert.Deconv1ReferenceIdeal.nD Cert.Deconv1ReferenceIdeal.τ).loc Cert.Deconv1ReferenceIdeal.main_arg0) = m ((c.tc : Thread Cert.Deconv1ReferenceIdeal.nD Cert.Deconv1ReferenceIdeal.τ).loc Cert.Deconv1ReferenceIdeal.main_arg0)
      ∧ r.2.mem ((c.tc : Thread Cert.Deconv1ReferenceIdeal.nD Cert.Deconv1ReferenceIdeal.τ).loc Cert.Deconv1ReferenceIdeal.main_arg1) = m ((c.tc : Thread Cert.Deconv1ReferenceIdeal.nD Cert.Deconv1ReferenceIdeal.τ).loc Cert.Deconv1ReferenceIdeal.main_arg1)
      ∧ r.2.mem ((c.tc : Thread Cert.Deconv1ReferenceIdeal.nD Cert.Deconv1ReferenceIdeal.τ).loc Cert.Deconv1ReferenceIdeal.main_arg2) = m ((c.tc : Thread Cert.Deconv1ReferenceIdeal.nD Cert.Deconv1ReferenceIdeal.τ).loc Cert.Deconv1ReferenceIdeal.main_arg2))
      ∧ r.2.sem = fun _ => 0)

def quiescent_Conv1 [hConv1 : Cert.Conv1.Facts] : Prop :=
  ∀ (m : (ℓ : Loc Cert.Conv1.nD Cert.Conv1.τ Cert.Conv1.sig) → Buf (Elt Bits) ℓ) (g : Dev Cert.Conv1.nD → PrngReg), Pre_Conv1 m →
    θ_run (Cert.Conv1.defs (F := Bits)) (onTc (τ := Cert.Conv1.τ) (Cert.Conv1.main (F := Bits))) ⟨m, fun _ => 0, g⟩ (fun r => (∀ c : Dev Cert.Conv1.nD,
      r.2.mem ((c.tc : Thread Cert.Conv1.nD Cert.Conv1.τ).loc Cert.Conv1.main_arg0) = m ((c.tc : Thread Cert.Conv1.nD Cert.Conv1.τ).loc Cert.Conv1.main_arg0)
      ∧ r.2.mem ((c.tc : Thread Cert.Conv1.nD Cert.Conv1.τ).loc Cert.Conv1.main_arg1) = m ((c.tc : Thread Cert.Conv1.nD Cert.Conv1.τ).loc Cert.Conv1.main_arg1)
      ∧ r.2.mem ((c.tc : Thread Cert.Conv1.nD Cert.Conv1.τ).loc Cert.Conv1.main_arg2) = m ((c.tc : Thread Cert.Conv1.nD Cert.Conv1.τ).loc Cert.Conv1.main_arg2))
      ∧ r.2.sem = fun _ => 0)

def quiescent_Conv1Ideal [hConv1Ideal : Cert.Conv1Ideal.Facts] : Prop :=
  ∀ (m : (ℓ : Loc Cert.Conv1Ideal.nD Cert.Conv1Ideal.τ Cert.Conv1Ideal.sig) → Buf (Elt Ideal) ℓ) (g : Dev Cert.Conv1Ideal.nD → PrngReg), Pre_Conv1Ideal m →
    θ_run (Cert.Conv1Ideal.defs (F := Ideal)) (onTc (τ := Cert.Conv1Ideal.τ) (Cert.Conv1Ideal.main (F := Ideal))) ⟨m, fun _ => 0, g⟩ (fun r => (∀ c : Dev Cert.Conv1Ideal.nD,
      r.2.mem ((c.tc : Thread Cert.Conv1Ideal.nD Cert.Conv1Ideal.τ).loc Cert.Conv1Ideal.main_arg0) = m ((c.tc : Thread Cert.Conv1Ideal.nD Cert.Conv1Ideal.τ).loc Cert.Conv1Ideal.main_arg0)
      ∧ r.2.mem ((c.tc : Thread Cert.Conv1Ideal.nD Cert.Conv1Ideal.τ).loc Cert.Conv1Ideal.main_arg1) = m ((c.tc : Thread Cert.Conv1Ideal.nD Cert.Conv1Ideal.τ).loc Cert.Conv1Ideal.main_arg1)
      ∧ r.2.mem ((c.tc : Thread Cert.Conv1Ideal.nD Cert.Conv1Ideal.τ).loc Cert.Conv1Ideal.main_arg2) = m ((c.tc : Thread Cert.Conv1Ideal.nD Cert.Conv1Ideal.τ).loc Cert.Conv1Ideal.main_arg2))
      ∧ r.2.sem = fun _ => 0)

def quiescent_Conv1ReferenceIdeal [hConv1ReferenceIdeal : Cert.Conv1ReferenceIdeal.Facts] : Prop :=
  ∀ (m : (ℓ : Loc Cert.Conv1ReferenceIdeal.nD Cert.Conv1ReferenceIdeal.τ Cert.Conv1ReferenceIdeal.sig) → Buf (Elt Ideal) ℓ) (g : Dev Cert.Conv1ReferenceIdeal.nD → PrngReg), Pre_Conv1ReferenceIdeal m →
    θ_run (Cert.Conv1ReferenceIdeal.defs (F := Ideal)) (onTc (τ := Cert.Conv1ReferenceIdeal.τ) (Cert.Conv1ReferenceIdeal.main (F := Ideal))) ⟨m, fun _ => 0, g⟩ (fun r => (∀ c : Dev Cert.Conv1ReferenceIdeal.nD,
      r.2.mem ((c.tc : Thread Cert.Conv1ReferenceIdeal.nD Cert.Conv1ReferenceIdeal.τ).loc Cert.Conv1ReferenceIdeal.main_arg0) = m ((c.tc : Thread Cert.Conv1ReferenceIdeal.nD Cert.Conv1ReferenceIdeal.τ).loc Cert.Conv1ReferenceIdeal.main_arg0)
      ∧ r.2.mem ((c.tc : Thread Cert.Conv1ReferenceIdeal.nD Cert.Conv1ReferenceIdeal.τ).loc Cert.Conv1ReferenceIdeal.main_arg1) = m ((c.tc : Thread Cert.Conv1ReferenceIdeal.nD Cert.Conv1ReferenceIdeal.τ).loc Cert.Conv1ReferenceIdeal.main_arg1)
      ∧ r.2.mem ((c.tc : Thread Cert.Conv1ReferenceIdeal.nD Cert.Conv1ReferenceIdeal.τ).loc Cert.Conv1ReferenceIdeal.main_arg2) = m ((c.tc : Thread Cert.Conv1ReferenceIdeal.nD Cert.Conv1ReferenceIdeal.τ).loc Cert.Conv1ReferenceIdeal.main_arg2))
      ∧ r.2.sem = fun _ => 0)

def quiescent_Conv2 [hConv2 : Cert.Conv2.Facts] : Prop :=
  ∀ (m : (ℓ : Loc Cert.Conv2.nD Cert.Conv2.τ Cert.Conv2.sig) → Buf (Elt Bits) ℓ) (g : Dev Cert.Conv2.nD → PrngReg), Pre_Conv2 m →
    θ_run (Cert.Conv2.defs (F := Bits)) (onTc (τ := Cert.Conv2.τ) (Cert.Conv2.main (F := Bits))) ⟨m, fun _ => 0, g⟩ (fun r => (∀ c : Dev Cert.Conv2.nD,
      r.2.mem ((c.tc : Thread Cert.Conv2.nD Cert.Conv2.τ).loc Cert.Conv2.main_arg0) = m ((c.tc : Thread Cert.Conv2.nD Cert.Conv2.τ).loc Cert.Conv2.main_arg0)
      ∧ r.2.mem ((c.tc : Thread Cert.Conv2.nD Cert.Conv2.τ).loc Cert.Conv2.main_arg1) = m ((c.tc : Thread Cert.Conv2.nD Cert.Conv2.τ).loc Cert.Conv2.main_arg1)
      ∧ r.2.mem ((c.tc : Thread Cert.Conv2.nD Cert.Conv2.τ).loc Cert.Conv2.main_arg2) = m ((c.tc : Thread Cert.Conv2.nD Cert.Conv2.τ).loc Cert.Conv2.main_arg2))
      ∧ r.2.sem = fun _ => 0)

def quiescent_Conv2Ideal [hConv2Ideal : Cert.Conv2Ideal.Facts] : Prop :=
  ∀ (m : (ℓ : Loc Cert.Conv2Ideal.nD Cert.Conv2Ideal.τ Cert.Conv2Ideal.sig) → Buf (Elt Ideal) ℓ) (g : Dev Cert.Conv2Ideal.nD → PrngReg), Pre_Conv2Ideal m →
    θ_run (Cert.Conv2Ideal.defs (F := Ideal)) (onTc (τ := Cert.Conv2Ideal.τ) (Cert.Conv2Ideal.main (F := Ideal))) ⟨m, fun _ => 0, g⟩ (fun r => (∀ c : Dev Cert.Conv2Ideal.nD,
      r.2.mem ((c.tc : Thread Cert.Conv2Ideal.nD Cert.Conv2Ideal.τ).loc Cert.Conv2Ideal.main_arg0) = m ((c.tc : Thread Cert.Conv2Ideal.nD Cert.Conv2Ideal.τ).loc Cert.Conv2Ideal.main_arg0)
      ∧ r.2.mem ((c.tc : Thread Cert.Conv2Ideal.nD Cert.Conv2Ideal.τ).loc Cert.Conv2Ideal.main_arg1) = m ((c.tc : Thread Cert.Conv2Ideal.nD Cert.Conv2Ideal.τ).loc Cert.Conv2Ideal.main_arg1)
      ∧ r.2.mem ((c.tc : Thread Cert.Conv2Ideal.nD Cert.Conv2Ideal.τ).loc Cert.Conv2Ideal.main_arg2) = m ((c.tc : Thread Cert.Conv2Ideal.nD Cert.Conv2Ideal.τ).loc Cert.Conv2Ideal.main_arg2))
      ∧ r.2.sem = fun _ => 0)

def quiescent_Conv2ReferenceIdeal [hConv2ReferenceIdeal : Cert.Conv2ReferenceIdeal.Facts] : Prop :=
  ∀ (m : (ℓ : Loc Cert.Conv2ReferenceIdeal.nD Cert.Conv2ReferenceIdeal.τ Cert.Conv2ReferenceIdeal.sig) → Buf (Elt Ideal) ℓ) (g : Dev Cert.Conv2ReferenceIdeal.nD → PrngReg), Pre_Conv2ReferenceIdeal m →
    θ_run (Cert.Conv2ReferenceIdeal.defs (F := Ideal)) (onTc (τ := Cert.Conv2ReferenceIdeal.τ) (Cert.Conv2ReferenceIdeal.main (F := Ideal))) ⟨m, fun _ => 0, g⟩ (fun r => (∀ c : Dev Cert.Conv2ReferenceIdeal.nD,
      r.2.mem ((c.tc : Thread Cert.Conv2ReferenceIdeal.nD Cert.Conv2ReferenceIdeal.τ).loc Cert.Conv2ReferenceIdeal.main_arg0) = m ((c.tc : Thread Cert.Conv2ReferenceIdeal.nD Cert.Conv2ReferenceIdeal.τ).loc Cert.Conv2ReferenceIdeal.main_arg0)
      ∧ r.2.mem ((c.tc : Thread Cert.Conv2ReferenceIdeal.nD Cert.Conv2ReferenceIdeal.τ).loc Cert.Conv2ReferenceIdeal.main_arg1) = m ((c.tc : Thread Cert.Conv2ReferenceIdeal.nD Cert.Conv2ReferenceIdeal.τ).loc Cert.Conv2ReferenceIdeal.main_arg1)
      ∧ r.2.mem ((c.tc : Thread Cert.Conv2ReferenceIdeal.nD Cert.Conv2ReferenceIdeal.τ).loc Cert.Conv2ReferenceIdeal.main_arg2) = m ((c.tc : Thread Cert.Conv2ReferenceIdeal.nD Cert.Conv2ReferenceIdeal.τ).loc Cert.Conv2ReferenceIdeal.main_arg2))
      ∧ r.2.sem = fun _ => 0)

def quiescent_Codes [hCodes : Cert.Codes.Facts] : Prop :=
  ∀ (m : (ℓ : Loc Cert.Codes.nD Cert.Codes.τ Cert.Codes.sig) → Buf (Elt Bits) ℓ) (g : Dev Cert.Codes.nD → PrngReg), Pre_Codes m →
    θ_run (Cert.Codes.defs (F := Bits)) (onTc (τ := Cert.Codes.τ) (Cert.Codes.main (F := Bits))) ⟨m, fun _ => 0, g⟩ (fun r => (∀ c : Dev Cert.Codes.nD,
      r.2.mem ((c.tc : Thread Cert.Codes.nD Cert.Codes.τ).loc Cert.Codes.main_arg0) = m ((c.tc : Thread Cert.Codes.nD Cert.Codes.τ).loc Cert.Codes.main_arg0)
      ∧ r.2.mem ((c.tc : Thread Cert.Codes.nD Cert.Codes.τ).loc Cert.Codes.main_arg1) = m ((c.tc : Thread Cert.Codes.nD Cert.Codes.τ).loc Cert.Codes.main_arg1)
      ∧ r.2.mem ((c.tc : Thread Cert.Codes.nD Cert.Codes.τ).loc Cert.Codes.main_arg2) = m ((c.tc : Thread Cert.Codes.nD Cert.Codes.τ).loc Cert.Codes.main_arg2)
      ∧ r.2.mem ((c.tc : Thread Cert.Codes.nD Cert.Codes.τ).loc Cert.Codes.main_arg3) = m ((c.tc : Thread Cert.Codes.nD Cert.Codes.τ).loc Cert.Codes.main_arg3))
      ∧ r.2.sem = fun _ => 0)

def quiescent_CodesIdeal [hCodesIdeal : Cert.CodesIdeal.Facts] : Prop :=
  ∀ (m : (ℓ : Loc Cert.CodesIdeal.nD Cert.CodesIdeal.τ Cert.CodesIdeal.sig) → Buf (Elt Ideal) ℓ) (g : Dev Cert.CodesIdeal.nD → PrngReg), Pre_CodesIdeal m →
    θ_run (Cert.CodesIdeal.defs (F := Ideal)) (onTc (τ := Cert.CodesIdeal.τ) (Cert.CodesIdeal.main (F := Ideal))) ⟨m, fun _ => 0, g⟩ (fun r => (∀ c : Dev Cert.CodesIdeal.nD,
      r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
      ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1)
      ∧ r.2.mem ((c.tc : Thread Cert.CodesIdeal.nD Cert.CodesIdeal.τ).loc Cert.CodesIdeal.main_arg2) = m ((c.tc : Thread Cert.CodesIdeal.nD Cert.CodesIdeal.τ).loc Cert.CodesIdeal.main_arg2)
      ∧ r.2.mem ((c.tc : Thread Cert.CodesIdeal.nD Cert.CodesIdeal.τ).loc Cert.CodesIdeal.main_arg3) = m ((c.tc : Thread Cert.CodesIdeal.nD Cert.CodesIdeal.τ).loc Cert.CodesIdeal.main_arg3))
      ∧ r.2.sem = fun _ => 0)

def quiescent_CodesIdeal_pre_finite [hCodesIdeal : Cert.CodesIdeal.Facts] [hPre_finite : Cert.Pre_finite.Facts] : Prop :=
  ∀ (m : (ℓ : Loc Cert.CodesIdeal.nD Cert.CodesIdeal.τ Cert.CodesIdeal.sig) → Buf (Elt Ideal) ℓ) (g : Dev Cert.CodesIdeal.nD → PrngReg), Pre_CodesIdeal_finite m →
    θ_run (Cert.CodesIdeal.defs (F := Ideal)) (onTc (τ := Cert.CodesIdeal.τ) (Cert.CodesIdeal.main (F := Ideal))) ⟨m, fun _ => 0, g⟩ (fun r => (∀ c : Dev Cert.CodesIdeal.nD,
      r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
      ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1)
      ∧ r.2.mem ((c.tc : Thread Cert.CodesIdeal.nD Cert.CodesIdeal.τ).loc Cert.CodesIdeal.main_arg2) = m ((c.tc : Thread Cert.CodesIdeal.nD Cert.CodesIdeal.τ).loc Cert.CodesIdeal.main_arg2)
      ∧ r.2.mem ((c.tc : Thread Cert.CodesIdeal.nD Cert.CodesIdeal.τ).loc Cert.CodesIdeal.main_arg3) = m ((c.tc : Thread Cert.CodesIdeal.nD Cert.CodesIdeal.τ).loc Cert.CodesIdeal.main_arg3))
      ∧ r.2.sem = fun _ => 0)

def quiescent_CodesReferenceIdeal [hCodesReferenceIdeal : Cert.CodesReferenceIdeal.Facts] : Prop :=
  ∀ (m : (ℓ : Loc Cert.CodesReferenceIdeal.nD Cert.CodesReferenceIdeal.τ Cert.CodesReferenceIdeal.sig) → Buf (Elt Ideal) ℓ) (g : Dev Cert.CodesReferenceIdeal.nD → PrngReg), Pre_CodesReferenceIdeal m →
    θ_run (Cert.CodesReferenceIdeal.defs (F := Ideal)) (onTc (τ := Cert.CodesReferenceIdeal.τ) (Cert.CodesReferenceIdeal.main (F := Ideal))) ⟨m, fun _ => 0, g⟩ (fun r => (∀ c : Dev Cert.CodesReferenceIdeal.nD,
      r.2.mem ((c.tc : Thread Cert.CodesReferenceIdeal.nD Cert.CodesReferenceIdeal.τ).loc Cert.CodesReferenceIdeal.main_arg0) = m ((c.tc : Thread Cert.CodesReferenceIdeal.nD Cert.CodesReferenceIdeal.τ).loc Cert.CodesReferenceIdeal.main_arg0)
      ∧ r.2.mem ((c.tc : Thread Cert.CodesReferenceIdeal.nD Cert.CodesReferenceIdeal.τ).loc Cert.CodesReferenceIdeal.main_arg1) = m ((c.tc : Thread Cert.CodesReferenceIdeal.nD Cert.CodesReferenceIdeal.τ).loc Cert.CodesReferenceIdeal.main_arg1)
      ∧ r.2.mem ((c.tc : Thread Cert.CodesReferenceIdeal.nD Cert.CodesReferenceIdeal.τ).loc Cert.CodesReferenceIdeal.main_arg2) = m ((c.tc : Thread Cert.CodesReferenceIdeal.nD Cert.CodesReferenceIdeal.τ).loc Cert.CodesReferenceIdeal.main_arg2)
      ∧ r.2.mem ((c.tc : Thread Cert.CodesReferenceIdeal.nD Cert.CodesReferenceIdeal.τ).loc Cert.CodesReferenceIdeal.main_arg3) = m ((c.tc : Thread Cert.CodesReferenceIdeal.nD Cert.CodesReferenceIdeal.τ).loc Cert.CodesReferenceIdeal.main_arg3))
      ∧ r.2.sem = fun _ => 0)

def quiescent_CodesReferenceIdeal_pre_finite [hCodesReferenceIdeal : Cert.CodesReferenceIdeal.Facts] [hPre_finite : Cert.Pre_finite.Facts] : Prop :=
  ∀ (m : (ℓ : Loc Cert.CodesReferenceIdeal.nD Cert.CodesReferenceIdeal.τ Cert.CodesReferenceIdeal.sig) → Buf (Elt Ideal) ℓ) (g : Dev Cert.CodesReferenceIdeal.nD → PrngReg), Pre_CodesReferenceIdeal_finite m →
    θ_run (Cert.CodesReferenceIdeal.defs (F := Ideal)) (onTc (τ := Cert.CodesReferenceIdeal.τ) (Cert.CodesReferenceIdeal.main (F := Ideal))) ⟨m, fun _ => 0, g⟩ (fun r => (∀ c : Dev Cert.CodesReferenceIdeal.nD,
      r.2.mem ((c.tc : Thread Cert.CodesReferenceIdeal.nD Cert.CodesReferenceIdeal.τ).loc Cert.CodesReferenceIdeal.main_arg0) = m ((c.tc : Thread Cert.CodesReferenceIdeal.nD Cert.CodesReferenceIdeal.τ).loc Cert.CodesReferenceIdeal.main_arg0)
      ∧ r.2.mem ((c.tc : Thread Cert.CodesReferenceIdeal.nD Cert.CodesReferenceIdeal.τ).loc Cert.CodesReferenceIdeal.main_arg1) = m ((c.tc : Thread Cert.CodesReferenceIdeal.nD Cert.CodesReferenceIdeal.τ).loc Cert.CodesReferenceIdeal.main_arg1)
      ∧ r.2.mem ((c.tc : Thread Cert.CodesReferenceIdeal.nD Cert.CodesReferenceIdeal.τ).loc Cert.CodesReferenceIdeal.main_arg2) = m ((c.tc : Thread Cert.CodesReferenceIdeal.nD Cert.CodesReferenceIdeal.τ).loc Cert.CodesReferenceIdeal.main_arg2)
      ∧ r.2.mem ((c.tc : Thread Cert.CodesReferenceIdeal.nD Cert.CodesReferenceIdeal.τ).loc Cert.CodesReferenceIdeal.main_arg3) = m ((c.tc : Thread Cert.CodesReferenceIdeal.nD Cert.CodesReferenceIdeal.τ).loc Cert.CodesReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_names_a_code : Cert.Pre_names_a_code.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_names_a_code : Cert.Pre_names_a_code.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)) →
    ∃ (v0 : (c : Dev Cert.LastIdeal.nD) → Buf (Elt Ideal) ((c.tc : Thread Cert.LastIdeal.nD Cert.LastIdeal.τ).loc Cert.LastIdeal.main_v253)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v253) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v56) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2))

def preserves_Deconv_DeconvIdeal : Prop :=
  True

def algebraic_DeconvIdeal_DeconvReferenceIdeal [hDeconvIdeal : Cert.DeconvIdeal.Facts] [hDeconvReferenceIdeal : Cert.DeconvReferenceIdeal.Facts] : Prop :=
  ∀ (m : (ℓ : Loc Cert.DeconvIdeal.nD Cert.DeconvIdeal.τ Cert.DeconvIdeal.sig) → Buf (Elt Ideal) ℓ) (g : Dev Cert.DeconvIdeal.nD → PrngReg)
    (m' : (ℓ : Loc Cert.DeconvReferenceIdeal.nD Cert.DeconvReferenceIdeal.τ Cert.DeconvReferenceIdeal.sig) → Buf (Elt Ideal) ℓ) (g' : Dev Cert.DeconvReferenceIdeal.nD → PrngReg), Pre_DeconvIdeal m →
    (∀ c : Dev Cert.DeconvIdeal.nD,
      m' ((c.tc : Thread Cert.DeconvReferenceIdeal.nD Cert.DeconvReferenceIdeal.τ).loc Cert.DeconvReferenceIdeal.main_arg0) = m ((c.tc : Thread Cert.DeconvIdeal.nD Cert.DeconvIdeal.τ).loc Cert.DeconvIdeal.main_arg0)
      ∧ m' ((c.tc : Thread Cert.DeconvReferenceIdeal.nD Cert.DeconvReferenceIdeal.τ).loc Cert.DeconvReferenceIdeal.main_arg1) = m ((c.tc : Thread Cert.DeconvIdeal.nD Cert.DeconvIdeal.τ).loc Cert.DeconvIdeal.main_arg1)
      ∧ m' ((c.tc : Thread Cert.DeconvReferenceIdeal.nD Cert.DeconvReferenceIdeal.τ).loc Cert.DeconvReferenceIdeal.main_arg2) = m ((c.tc : Thread Cert.DeconvIdeal.nD Cert.DeconvIdeal.τ).loc Cert.DeconvIdeal.main_arg2)) →
    ∃ (v0 : (c : Dev Cert.DeconvIdeal.nD) → Buf (Elt Ideal) ((c.tc : Thread Cert.DeconvIdeal.nD Cert.DeconvIdeal.τ).loc Cert.DeconvIdeal.main_v68)),
      θ_run (Cert.DeconvIdeal.defs (F := Ideal)) (onTc (τ := Cert.DeconvIdeal.τ) (Cert.DeconvIdeal.main (F := Ideal))) ⟨m, fun _ => 0, g⟩ (fun r => ∀ c : Dev Cert.DeconvIdeal.nD,
          r.2.mem ((c.tc : Thread Cert.DeconvIdeal.nD Cert.DeconvIdeal.τ).loc Cert.DeconvIdeal.main_v68) = v0 c
          ∧ r.2.mem ((c.tc : Thread Cert.DeconvIdeal.nD Cert.DeconvIdeal.τ).loc Cert.DeconvIdeal.main_arg0) = m ((c.tc : Thread Cert.DeconvIdeal.nD Cert.DeconvIdeal.τ).loc Cert.DeconvIdeal.main_arg0)
          ∧ r.2.mem ((c.tc : Thread Cert.DeconvIdeal.nD Cert.DeconvIdeal.τ).loc Cert.DeconvIdeal.main_arg1) = m ((c.tc : Thread Cert.DeconvIdeal.nD Cert.DeconvIdeal.τ).loc Cert.DeconvIdeal.main_arg1)
          ∧ r.2.mem ((c.tc : Thread Cert.DeconvIdeal.nD Cert.DeconvIdeal.τ).loc Cert.DeconvIdeal.main_arg2) = m ((c.tc : Thread Cert.DeconvIdeal.nD Cert.DeconvIdeal.τ).loc Cert.DeconvIdeal.main_arg2))
      ∧ θ_run (Cert.DeconvReferenceIdeal.defs (F := Ideal)) (onTc (τ := Cert.DeconvReferenceIdeal.τ) (Cert.DeconvReferenceIdeal.main (F := Ideal))) ⟨m', fun _ => 0, g'⟩ (fun r => ∀ c : Dev Cert.DeconvReferenceIdeal.nD,
          r.2.mem ((c.tc : Thread Cert.DeconvReferenceIdeal.nD Cert.DeconvReferenceIdeal.τ).loc Cert.DeconvReferenceIdeal.main_v92) = v0 c
          ∧ r.2.mem ((c.tc : Thread Cert.DeconvReferenceIdeal.nD Cert.DeconvReferenceIdeal.τ).loc Cert.DeconvReferenceIdeal.main_arg0) = m' ((c.tc : Thread Cert.DeconvReferenceIdeal.nD Cert.DeconvReferenceIdeal.τ).loc Cert.DeconvReferenceIdeal.main_arg0)
          ∧ r.2.mem ((c.tc : Thread Cert.DeconvReferenceIdeal.nD Cert.DeconvReferenceIdeal.τ).loc Cert.DeconvReferenceIdeal.main_arg1) = m' ((c.tc : Thread Cert.DeconvReferenceIdeal.nD Cert.DeconvReferenceIdeal.τ).loc Cert.DeconvReferenceIdeal.main_arg1)
          ∧ r.2.mem ((c.tc : Thread Cert.DeconvReferenceIdeal.nD Cert.DeconvReferenceIdeal.τ).loc Cert.DeconvReferenceIdeal.main_arg2) = m' ((c.tc : Thread Cert.DeconvReferenceIdeal.nD Cert.DeconvReferenceIdeal.τ).loc Cert.DeconvReferenceIdeal.main_arg2))

def preserves_Deconv1_Deconv1Ideal : Prop :=
  True

def algebraic_Deconv1Ideal_Deconv1ReferenceIdeal [hDeconv1Ideal : Cert.Deconv1Ideal.Facts] [hDeconv1ReferenceIdeal : Cert.Deconv1ReferenceIdeal.Facts] : Prop :=
  ∀ (m : (ℓ : Loc Cert.Deconv1Ideal.nD Cert.Deconv1Ideal.τ Cert.Deconv1Ideal.sig) → Buf (Elt Ideal) ℓ) (g : Dev Cert.Deconv1Ideal.nD → PrngReg)
    (m' : (ℓ : Loc Cert.Deconv1ReferenceIdeal.nD Cert.Deconv1ReferenceIdeal.τ Cert.Deconv1ReferenceIdeal.sig) → Buf (Elt Ideal) ℓ) (g' : Dev Cert.Deconv1ReferenceIdeal.nD → PrngReg), Pre_Deconv1Ideal m →
    (∀ c : Dev Cert.Deconv1Ideal.nD,
      m' ((c.tc : Thread Cert.Deconv1ReferenceIdeal.nD Cert.Deconv1ReferenceIdeal.τ).loc Cert.Deconv1ReferenceIdeal.main_arg0) = m ((c.tc : Thread Cert.Deconv1Ideal.nD Cert.Deconv1Ideal.τ).loc Cert.Deconv1Ideal.main_arg0)
      ∧ m' ((c.tc : Thread Cert.Deconv1ReferenceIdeal.nD Cert.Deconv1ReferenceIdeal.τ).loc Cert.Deconv1ReferenceIdeal.main_arg1) = m ((c.tc : Thread Cert.Deconv1Ideal.nD Cert.Deconv1Ideal.τ).loc Cert.Deconv1Ideal.main_arg1)
      ∧ m' ((c.tc : Thread Cert.Deconv1ReferenceIdeal.nD Cert.Deconv1ReferenceIdeal.τ).loc Cert.Deconv1ReferenceIdeal.main_arg2) = m ((c.tc : Thread Cert.Deconv1Ideal.nD Cert.Deconv1Ideal.τ).loc Cert.Deconv1Ideal.main_arg2)) →
    ∃ (v0 : (c : Dev Cert.Deconv1Ideal.nD) → Buf (Elt Ideal) ((c.tc : Thread Cert.Deconv1Ideal.nD Cert.Deconv1Ideal.τ).loc Cert.Deconv1Ideal.main_v1)),
      θ_run (Cert.Deconv1Ideal.defs (F := Ideal)) (onTc (τ := Cert.Deconv1Ideal.τ) (Cert.Deconv1Ideal.main (F := Ideal))) ⟨m, fun _ => 0, g⟩ (fun r => ∀ c : Dev Cert.Deconv1Ideal.nD,
          r.2.mem ((c.tc : Thread Cert.Deconv1Ideal.nD Cert.Deconv1Ideal.τ).loc Cert.Deconv1Ideal.main_v1) = v0 c
          ∧ r.2.mem ((c.tc : Thread Cert.Deconv1Ideal.nD Cert.Deconv1Ideal.τ).loc Cert.Deconv1Ideal.main_arg0) = m ((c.tc : Thread Cert.Deconv1Ideal.nD Cert.Deconv1Ideal.τ).loc Cert.Deconv1Ideal.main_arg0)
          ∧ r.2.mem ((c.tc : Thread Cert.Deconv1Ideal.nD Cert.Deconv1Ideal.τ).loc Cert.Deconv1Ideal.main_arg1) = m ((c.tc : Thread Cert.Deconv1Ideal.nD Cert.Deconv1Ideal.τ).loc Cert.Deconv1Ideal.main_arg1)
          ∧ r.2.mem ((c.tc : Thread Cert.Deconv1Ideal.nD Cert.Deconv1Ideal.τ).loc Cert.Deconv1Ideal.main_arg2) = m ((c.tc : Thread Cert.Deconv1Ideal.nD Cert.Deconv1Ideal.τ).loc Cert.Deconv1Ideal.main_arg2))
      ∧ θ_run (Cert.Deconv1ReferenceIdeal.defs (F := Ideal)) (onTc (τ := Cert.Deconv1ReferenceIdeal.τ) (Cert.Deconv1ReferenceIdeal.main (F := Ideal))) ⟨m', fun _ => 0, g'⟩ (fun r => ∀ c : Dev Cert.Deconv1ReferenceIdeal.nD,
          r.2.mem ((c.tc : Thread Cert.Deconv1ReferenceIdeal.nD Cert.Deconv1ReferenceIdeal.τ).loc Cert.Deconv1ReferenceIdeal.main_v88) = v0 c
          ∧ r.2.mem ((c.tc : Thread Cert.Deconv1ReferenceIdeal.nD Cert.Deconv1ReferenceIdeal.τ).loc Cert.Deconv1ReferenceIdeal.main_arg0) = m' ((c.tc : Thread Cert.Deconv1ReferenceIdeal.nD Cert.Deconv1ReferenceIdeal.τ).loc Cert.Deconv1ReferenceIdeal.main_arg0)
          ∧ r.2.mem ((c.tc : Thread Cert.Deconv1ReferenceIdeal.nD Cert.Deconv1ReferenceIdeal.τ).loc Cert.Deconv1ReferenceIdeal.main_arg1) = m' ((c.tc : Thread Cert.Deconv1ReferenceIdeal.nD Cert.Deconv1ReferenceIdeal.τ).loc Cert.Deconv1ReferenceIdeal.main_arg1)
          ∧ r.2.mem ((c.tc : Thread Cert.Deconv1ReferenceIdeal.nD Cert.Deconv1ReferenceIdeal.τ).loc Cert.Deconv1ReferenceIdeal.main_arg2) = m' ((c.tc : Thread Cert.Deconv1ReferenceIdeal.nD Cert.Deconv1ReferenceIdeal.τ).loc Cert.Deconv1ReferenceIdeal.main_arg2))

def preserves_Conv1_Conv1Ideal : Prop :=
  True

def algebraic_Conv1Ideal_Conv1ReferenceIdeal [hConv1Ideal : Cert.Conv1Ideal.Facts] [hConv1ReferenceIdeal : Cert.Conv1ReferenceIdeal.Facts] : Prop :=
  ∀ (m : (ℓ : Loc Cert.Conv1Ideal.nD Cert.Conv1Ideal.τ Cert.Conv1Ideal.sig) → Buf (Elt Ideal) ℓ) (g : Dev Cert.Conv1Ideal.nD → PrngReg)
    (m' : (ℓ : Loc Cert.Conv1ReferenceIdeal.nD Cert.Conv1ReferenceIdeal.τ Cert.Conv1ReferenceIdeal.sig) → Buf (Elt Ideal) ℓ) (g' : Dev Cert.Conv1ReferenceIdeal.nD → PrngReg), Pre_Conv1Ideal m →
    (∀ c : Dev Cert.Conv1Ideal.nD,
      m' ((c.tc : Thread Cert.Conv1ReferenceIdeal.nD Cert.Conv1ReferenceIdeal.τ).loc Cert.Conv1ReferenceIdeal.main_arg0) = m ((c.tc : Thread Cert.Conv1Ideal.nD Cert.Conv1Ideal.τ).loc Cert.Conv1Ideal.main_arg0)
      ∧ m' ((c.tc : Thread Cert.Conv1ReferenceIdeal.nD Cert.Conv1ReferenceIdeal.τ).loc Cert.Conv1ReferenceIdeal.main_arg1) = m ((c.tc : Thread Cert.Conv1Ideal.nD Cert.Conv1Ideal.τ).loc Cert.Conv1Ideal.main_arg1)
      ∧ m' ((c.tc : Thread Cert.Conv1ReferenceIdeal.nD Cert.Conv1ReferenceIdeal.τ).loc Cert.Conv1ReferenceIdeal.main_arg2) = m ((c.tc : Thread Cert.Conv1Ideal.nD Cert.Conv1Ideal.τ).loc Cert.Conv1Ideal.main_arg2)) →
    ∃ (v0 : (c : Dev Cert.Conv1Ideal.nD) → Buf (Elt Ideal) ((c.tc : Thread Cert.Conv1Ideal.nD Cert.Conv1Ideal.τ).loc Cert.Conv1Ideal.main_v10)),
      θ_run (Cert.Conv1Ideal.defs (F := Ideal)) (onTc (τ := Cert.Conv1Ideal.τ) (Cert.Conv1Ideal.main (F := Ideal))) ⟨m, fun _ => 0, g⟩ (fun r => ∀ c : Dev Cert.Conv1Ideal.nD,
          r.2.mem ((c.tc : Thread Cert.Conv1Ideal.nD Cert.Conv1Ideal.τ).loc Cert.Conv1Ideal.main_v10) = v0 c
          ∧ r.2.mem ((c.tc : Thread Cert.Conv1Ideal.nD Cert.Conv1Ideal.τ).loc Cert.Conv1Ideal.main_arg0) = m ((c.tc : Thread Cert.Conv1Ideal.nD Cert.Conv1Ideal.τ).loc Cert.Conv1Ideal.main_arg0)
          ∧ r.2.mem ((c.tc : Thread Cert.Conv1Ideal.nD Cert.Conv1Ideal.τ).loc Cert.Conv1Ideal.main_arg1) = m ((c.tc : Thread Cert.Conv1Ideal.nD Cert.Conv1Ideal.τ).loc Cert.Conv1Ideal.main_arg1)
          ∧ r.2.mem ((c.tc : Thread Cert.Conv1Ideal.nD Cert.Conv1Ideal.τ).loc Cert.Conv1Ideal.main_arg2) = m ((c.tc : Thread Cert.Conv1Ideal.nD Cert.Conv1Ideal.τ).loc Cert.Conv1Ideal.main_arg2))
      ∧ θ_run (Cert.Conv1ReferenceIdeal.defs (F := Ideal)) (onTc (τ := Cert.Conv1ReferenceIdeal.τ) (Cert.Conv1ReferenceIdeal.main (F := Ideal))) ⟨m', fun _ => 0, g'⟩ (fun r => ∀ c : Dev Cert.Conv1ReferenceIdeal.nD,
          r.2.mem ((c.tc : Thread Cert.Conv1ReferenceIdeal.nD Cert.Conv1ReferenceIdeal.τ).loc Cert.Conv1ReferenceIdeal.main_v87) = v0 c
          ∧ r.2.mem ((c.tc : Thread Cert.Conv1ReferenceIdeal.nD Cert.Conv1ReferenceIdeal.τ).loc Cert.Conv1ReferenceIdeal.main_arg0) = m' ((c.tc : Thread Cert.Conv1ReferenceIdeal.nD Cert.Conv1ReferenceIdeal.τ).loc Cert.Conv1ReferenceIdeal.main_arg0)
          ∧ r.2.mem ((c.tc : Thread Cert.Conv1ReferenceIdeal.nD Cert.Conv1ReferenceIdeal.τ).loc Cert.Conv1ReferenceIdeal.main_arg1) = m' ((c.tc : Thread Cert.Conv1ReferenceIdeal.nD Cert.Conv1ReferenceIdeal.τ).loc Cert.Conv1ReferenceIdeal.main_arg1)
          ∧ r.2.mem ((c.tc : Thread Cert.Conv1ReferenceIdeal.nD Cert.Conv1ReferenceIdeal.τ).loc Cert.Conv1ReferenceIdeal.main_arg2) = m' ((c.tc : Thread Cert.Conv1ReferenceIdeal.nD Cert.Conv1ReferenceIdeal.τ).loc Cert.Conv1ReferenceIdeal.main_arg2))

def preserves_Conv2_Conv2Ideal : Prop :=
  True

def algebraic_Conv2Ideal_Conv2ReferenceIdeal [hConv2Ideal : Cert.Conv2Ideal.Facts] [hConv2ReferenceIdeal : Cert.Conv2ReferenceIdeal.Facts] : Prop :=
  ∀ (m : (ℓ : Loc Cert.Conv2Ideal.nD Cert.Conv2Ideal.τ Cert.Conv2Ideal.sig) → Buf (Elt Ideal) ℓ) (g : Dev Cert.Conv2Ideal.nD → PrngReg)
    (m' : (ℓ : Loc Cert.Conv2ReferenceIdeal.nD Cert.Conv2ReferenceIdeal.τ Cert.Conv2ReferenceIdeal.sig) → Buf (Elt Ideal) ℓ) (g' : Dev Cert.Conv2ReferenceIdeal.nD → PrngReg), Pre_Conv2Ideal m →
    (∀ c : Dev Cert.Conv2Ideal.nD,
      m' ((c.tc : Thread Cert.Conv2ReferenceIdeal.nD Cert.Conv2ReferenceIdeal.τ).loc Cert.Conv2ReferenceIdeal.main_arg0) = m ((c.tc : Thread Cert.Conv2Ideal.nD Cert.Conv2Ideal.τ).loc Cert.Conv2Ideal.main_arg0)
      ∧ m' ((c.tc : Thread Cert.Conv2ReferenceIdeal.nD Cert.Conv2ReferenceIdeal.τ).loc Cert.Conv2ReferenceIdeal.main_arg1) = m ((c.tc : Thread Cert.Conv2Ideal.nD Cert.Conv2Ideal.τ).loc Cert.Conv2Ideal.main_arg1)
      ∧ m' ((c.tc : Thread Cert.Conv2ReferenceIdeal.nD Cert.Conv2ReferenceIdeal.τ).loc Cert.Conv2ReferenceIdeal.main_arg2) = m ((c.tc : Thread Cert.Conv2Ideal.nD Cert.Conv2Ideal.τ).loc Cert.Conv2Ideal.main_arg2)) →
    ∃ (v0 : (c : Dev Cert.Conv2Ideal.nD) → Buf (Elt Ideal) ((c.tc : Thread Cert.Conv2Ideal.nD Cert.Conv2Ideal.τ).loc Cert.Conv2Ideal.main_v8)),
      θ_run (Cert.Conv2Ideal.defs (F := Ideal)) (onTc (τ := Cert.Conv2Ideal.τ) (Cert.Conv2Ideal.main (F := Ideal))) ⟨m, fun _ => 0, g⟩ (fun r => ∀ c : Dev Cert.Conv2Ideal.nD,
          r.2.mem ((c.tc : Thread Cert.Conv2Ideal.nD Cert.Conv2Ideal.τ).loc Cert.Conv2Ideal.main_v8) = v0 c
          ∧ r.2.mem ((c.tc : Thread Cert.Conv2Ideal.nD Cert.Conv2Ideal.τ).loc Cert.Conv2Ideal.main_arg0) = m ((c.tc : Thread Cert.Conv2Ideal.nD Cert.Conv2Ideal.τ).loc Cert.Conv2Ideal.main_arg0)
          ∧ r.2.mem ((c.tc : Thread Cert.Conv2Ideal.nD Cert.Conv2Ideal.τ).loc Cert.Conv2Ideal.main_arg1) = m ((c.tc : Thread Cert.Conv2Ideal.nD Cert.Conv2Ideal.τ).loc Cert.Conv2Ideal.main_arg1)
          ∧ r.2.mem ((c.tc : Thread Cert.Conv2Ideal.nD Cert.Conv2Ideal.τ).loc Cert.Conv2Ideal.main_arg2) = m ((c.tc : Thread Cert.Conv2Ideal.nD Cert.Conv2Ideal.τ).loc Cert.Conv2Ideal.main_arg2))
      ∧ θ_run (Cert.Conv2ReferenceIdeal.defs (F := Ideal)) (onTc (τ := Cert.Conv2ReferenceIdeal.τ) (Cert.Conv2ReferenceIdeal.main (F := Ideal))) ⟨m', fun _ => 0, g'⟩ (fun r => ∀ c : Dev Cert.Conv2ReferenceIdeal.nD,
          r.2.mem ((c.tc : Thread Cert.Conv2ReferenceIdeal.nD Cert.Conv2ReferenceIdeal.τ).loc Cert.Conv2ReferenceIdeal.main_v86) = v0 c
          ∧ r.2.mem ((c.tc : Thread Cert.Conv2ReferenceIdeal.nD Cert.Conv2ReferenceIdeal.τ).loc Cert.Conv2ReferenceIdeal.main_arg0) = m' ((c.tc : Thread Cert.Conv2ReferenceIdeal.nD Cert.Conv2ReferenceIdeal.τ).loc Cert.Conv2ReferenceIdeal.main_arg0)
          ∧ r.2.mem ((c.tc : Thread Cert.Conv2ReferenceIdeal.nD Cert.Conv2ReferenceIdeal.τ).loc Cert.Conv2ReferenceIdeal.main_arg1) = m' ((c.tc : Thread Cert.Conv2ReferenceIdeal.nD Cert.Conv2ReferenceIdeal.τ).loc Cert.Conv2ReferenceIdeal.main_arg1)
          ∧ r.2.mem ((c.tc : Thread Cert.Conv2ReferenceIdeal.nD Cert.Conv2ReferenceIdeal.τ).loc Cert.Conv2ReferenceIdeal.main_arg2) = m' ((c.tc : Thread Cert.Conv2ReferenceIdeal.nD Cert.Conv2ReferenceIdeal.τ).loc Cert.Conv2ReferenceIdeal.main_arg2))

def preserves_Codes_CodesIdeal : Prop :=
  True

def algebraic_CodesIdeal_CodesReferenceIdeal_pre_finite [hCodesIdeal : Cert.CodesIdeal.Facts] [hCodesReferenceIdeal : Cert.CodesReferenceIdeal.Facts] [hPre_finite : Cert.Pre_finite.Facts] : Prop :=
  ∀ (m : (ℓ : Loc Cert.CodesIdeal.nD Cert.CodesIdeal.τ Cert.CodesIdeal.sig) → Buf (Elt Ideal) ℓ) (g : Dev Cert.CodesIdeal.nD → PrngReg)
    (m' : (ℓ : Loc Cert.CodesReferenceIdeal.nD Cert.CodesReferenceIdeal.τ Cert.CodesReferenceIdeal.sig) → Buf (Elt Ideal) ℓ) (g' : Dev Cert.CodesReferenceIdeal.nD → PrngReg), Pre_CodesIdeal_finite m →
    (∀ c : Dev Cert.CodesIdeal.nD,
      m' ((c.tc : Thread Cert.CodesReferenceIdeal.nD Cert.CodesReferenceIdeal.τ).loc Cert.CodesReferenceIdeal.main_arg0) = m ((c.tc : Thread Cert.CodesIdeal.nD Cert.CodesIdeal.τ).loc Cert.CodesIdeal.main_arg0)
      ∧ m' ((c.tc : Thread Cert.CodesReferenceIdeal.nD Cert.CodesReferenceIdeal.τ).loc Cert.CodesReferenceIdeal.main_arg1) = m ((c.tc : Thread Cert.CodesIdeal.nD Cert.CodesIdeal.τ).loc Cert.CodesIdeal.main_arg1)
      ∧ m' ((c.tc : Thread Cert.CodesReferenceIdeal.nD Cert.CodesReferenceIdeal.τ).loc Cert.CodesReferenceIdeal.main_arg2) = m ((c.tc : Thread Cert.CodesIdeal.nD Cert.CodesIdeal.τ).loc Cert.CodesIdeal.main_arg2)
      ∧ m' ((c.tc : Thread Cert.CodesReferenceIdeal.nD Cert.CodesReferenceIdeal.τ).loc Cert.CodesReferenceIdeal.main_arg3) = m ((c.tc : Thread Cert.CodesIdeal.nD Cert.CodesIdeal.τ).loc Cert.CodesIdeal.main_arg3)) →
    ∃ (v0 : (c : Dev Cert.CodesIdeal.nD) → Buf (Elt Ideal) ((c.tc : Thread Cert.CodesIdeal.nD Cert.CodesIdeal.τ).loc Cert.CodesIdeal.main_v9)),
      θ_run (Cert.CodesIdeal.defs (F := Ideal)) (onTc (τ := Cert.CodesIdeal.τ) (Cert.CodesIdeal.main (F := Ideal))) ⟨m, fun _ => 0, g⟩ (fun r => ∀ c : Dev Cert.CodesIdeal.nD,
          r.2.mem ((c.tc : Thread Cert.CodesIdeal.nD Cert.CodesIdeal.τ).loc Cert.CodesIdeal.main_v9) = v0 c
          ∧ r.2.mem ((c.tc : Thread Cert.CodesIdeal.nD Cert.CodesIdeal.τ).loc Cert.CodesIdeal.main_arg0) = m ((c.tc : Thread Cert.CodesIdeal.nD Cert.CodesIdeal.τ).loc Cert.CodesIdeal.main_arg0)
          ∧ r.2.mem ((c.tc : Thread Cert.CodesIdeal.nD Cert.CodesIdeal.τ).loc Cert.CodesIdeal.main_arg1) = m ((c.tc : Thread Cert.CodesIdeal.nD Cert.CodesIdeal.τ).loc Cert.CodesIdeal.main_arg1)
          ∧ r.2.mem ((c.tc : Thread Cert.CodesIdeal.nD Cert.CodesIdeal.τ).loc Cert.CodesIdeal.main_arg2) = m ((c.tc : Thread Cert.CodesIdeal.nD Cert.CodesIdeal.τ).loc Cert.CodesIdeal.main_arg2)
          ∧ r.2.mem ((c.tc : Thread Cert.CodesIdeal.nD Cert.CodesIdeal.τ).loc Cert.CodesIdeal.main_arg3) = m ((c.tc : Thread Cert.CodesIdeal.nD Cert.CodesIdeal.τ).loc Cert.CodesIdeal.main_arg3))
      ∧ θ_run (Cert.CodesReferenceIdeal.defs (F := Ideal)) (onTc (τ := Cert.CodesReferenceIdeal.τ) (Cert.CodesReferenceIdeal.main (F := Ideal))) ⟨m', fun _ => 0, g'⟩ (fun r => ∀ c : Dev Cert.CodesReferenceIdeal.nD,
          r.2.mem ((c.tc : Thread Cert.CodesReferenceIdeal.nD Cert.CodesReferenceIdeal.τ).loc Cert.CodesReferenceIdeal.main_v66) = v0 c
          ∧ r.2.mem ((c.tc : Thread Cert.CodesReferenceIdeal.nD Cert.CodesReferenceIdeal.τ).loc Cert.CodesReferenceIdeal.main_arg0) = m' ((c.tc : Thread Cert.CodesReferenceIdeal.nD Cert.CodesReferenceIdeal.τ).loc Cert.CodesReferenceIdeal.main_arg0)
          ∧ r.2.mem ((c.tc : Thread Cert.CodesReferenceIdeal.nD Cert.CodesReferenceIdeal.τ).loc Cert.CodesReferenceIdeal.main_arg1) = m' ((c.tc : Thread Cert.CodesReferenceIdeal.nD Cert.CodesReferenceIdeal.τ).loc Cert.CodesReferenceIdeal.main_arg1)
          ∧ r.2.mem ((c.tc : Thread Cert.CodesReferenceIdeal.nD Cert.CodesReferenceIdeal.τ).loc Cert.CodesReferenceIdeal.main_arg2) = m' ((c.tc : Thread Cert.CodesReferenceIdeal.nD Cert.CodesReferenceIdeal.τ).loc Cert.CodesReferenceIdeal.main_arg2)
          ∧ r.2.mem ((c.tc : Thread Cert.CodesReferenceIdeal.nD Cert.CodesReferenceIdeal.τ).loc Cert.CodesReferenceIdeal.main_arg3) = m' ((c.tc : Thread Cert.CodesReferenceIdeal.nD Cert.CodesReferenceIdeal.τ).loc Cert.CodesReferenceIdeal.main_arg3))

def Claim : Prop :=
  ∃ (hKernel : Cert.Kernel.Facts) (hKernelIdeal : Cert.KernelIdeal.Facts) (hReferenceIdeal : Cert.ReferenceIdeal.Facts) (hReference : Cert.Reference.Facts) (hLast : Cert.Last.Facts) (hLastIdeal : Cert.LastIdeal.Facts) (hLastReferenceIdeal : Cert.LastReferenceIdeal.Facts) (hDeconv : Cert.Deconv.Facts) (hDeconvIdeal : Cert.DeconvIdeal.Facts) (hDeconvReferenceIdeal : Cert.DeconvReferenceIdeal.Facts) (hDeconv1 : Cert.Deconv1.Facts) (hDeconv1Ideal : Cert.Deconv1Ideal.Facts) (hDeconv1ReferenceIdeal : Cert.Deconv1ReferenceIdeal.Facts) (hConv1 : Cert.Conv1.Facts) (hConv1Ideal : Cert.Conv1Ideal.Facts) (hConv1ReferenceIdeal : Cert.Conv1ReferenceIdeal.Facts) (hConv2 : Cert.Conv2.Facts) (hConv2Ideal : Cert.Conv2Ideal.Facts) (hConv2ReferenceIdeal : Cert.Conv2ReferenceIdeal.Facts) (hCodes : Cert.Codes.Facts) (hCodesIdeal : Cert.CodesIdeal.Facts) (hCodesReferenceIdeal : Cert.CodesReferenceIdeal.Facts) (hPre_names_a_code : Cert.Pre_names_a_code.Facts) (hPre_finite : Cert.Pre_finite.Facts),
    quiescent_Kernel (hKernel := hKernel) (hPre_names_a_code := hPre_names_a_code)
    ∧ quiescent_KernelIdeal (hKernelIdeal := hKernelIdeal) (hPre_names_a_code := hPre_names_a_code)
    ∧ quiescent_ReferenceIdeal (hReferenceIdeal := hReferenceIdeal)
    ∧ quiescent_ReferenceIdeal_pre_names_a_code (hReferenceIdeal := hReferenceIdeal) (hPre_names_a_code := hPre_names_a_code)
    ∧ quiescent_Reference (hReference := hReference) (hPre_names_a_code := hPre_names_a_code)
    ∧ quiescent_Last (hLast := hLast)
    ∧ quiescent_LastIdeal (hLastIdeal := hLastIdeal)
    ∧ quiescent_LastReferenceIdeal (hLastReferenceIdeal := hLastReferenceIdeal)
    ∧ quiescent_Deconv (hDeconv := hDeconv)
    ∧ quiescent_DeconvIdeal (hDeconvIdeal := hDeconvIdeal)
    ∧ quiescent_DeconvReferenceIdeal (hDeconvReferenceIdeal := hDeconvReferenceIdeal)
    ∧ quiescent_Deconv1 (hDeconv1 := hDeconv1)
    ∧ quiescent_Deconv1Ideal (hDeconv1Ideal := hDeconv1Ideal)
    ∧ quiescent_Deconv1ReferenceIdeal (hDeconv1ReferenceIdeal := hDeconv1ReferenceIdeal)
    ∧ quiescent_Conv1 (hConv1 := hConv1)
    ∧ quiescent_Conv1Ideal (hConv1Ideal := hConv1Ideal)
    ∧ quiescent_Conv1ReferenceIdeal (hConv1ReferenceIdeal := hConv1ReferenceIdeal)
    ∧ quiescent_Conv2 (hConv2 := hConv2)
    ∧ quiescent_Conv2Ideal (hConv2Ideal := hConv2Ideal)
    ∧ quiescent_Conv2ReferenceIdeal (hConv2ReferenceIdeal := hConv2ReferenceIdeal)
    ∧ quiescent_Codes (hCodes := hCodes)
    ∧ quiescent_CodesIdeal (hCodesIdeal := hCodesIdeal)
    ∧ quiescent_CodesIdeal_pre_finite (hCodesIdeal := hCodesIdeal) (hPre_finite := hPre_finite)
    ∧ quiescent_CodesReferenceIdeal (hCodesReferenceIdeal := hCodesReferenceIdeal)
    ∧ quiescent_CodesReferenceIdeal_pre_finite (hCodesReferenceIdeal := hCodesReferenceIdeal) (hPre_finite := hPre_finite)
    ∧ preserves_Kernel_KernelIdeal
    ∧ algebraic_KernelIdeal_ReferenceIdeal (hKernelIdeal := hKernelIdeal) (hReferenceIdeal := hReferenceIdeal) (hPre_names_a_code := hPre_names_a_code)
    ∧ bitexact_Kernel_Reference (hKernel := hKernel) (hReference := hReference) (hPre_names_a_code := hPre_names_a_code)
    ∧ preserves_Last_LastIdeal
    ∧ algebraic_LastIdeal_LastReferenceIdeal (hLastIdeal := hLastIdeal) (hLastReferenceIdeal := hLastReferenceIdeal)
    ∧ preserves_Deconv_DeconvIdeal
    ∧ algebraic_DeconvIdeal_DeconvReferenceIdeal (hDeconvIdeal := hDeconvIdeal) (hDeconvReferenceIdeal := hDeconvReferenceIdeal)
    ∧ preserves_Deconv1_Deconv1Ideal
    ∧ algebraic_Deconv1Ideal_Deconv1ReferenceIdeal (hDeconv1Ideal := hDeconv1Ideal) (hDeconv1ReferenceIdeal := hDeconv1ReferenceIdeal)
    ∧ preserves_Conv1_Conv1Ideal
    ∧ algebraic_Conv1Ideal_Conv1ReferenceIdeal (hConv1Ideal := hConv1Ideal) (hConv1ReferenceIdeal := hConv1ReferenceIdeal)
    ∧ preserves_Conv2_Conv2Ideal
    ∧ algebraic_Conv2Ideal_Conv2ReferenceIdeal (hConv2Ideal := hConv2Ideal) (hConv2ReferenceIdeal := hConv2ReferenceIdeal)
    ∧ preserves_Codes_CodesIdeal
    ∧ algebraic_CodesIdeal_CodesReferenceIdeal_pre_finite (hCodesIdeal := hCodesIdeal) (hCodesReferenceIdeal := hCodesReferenceIdeal) (hPre_finite := hPre_finite)
-- ==== Pre_finite.lean ====
abbrev S8x56x56x128 : Shape := ⟨4, ![8, 56, 56, 128]⟩
abbrev S128x128x3x3 : Shape := ⟨4, ![128, 128, 3, 3]⟩
abbrev S128 : Shape := ⟨1, ![128]⟩
abbrev S512x128 : Shape := ⟨2, ![512, 128]⟩
abbrev S_ : Shape := ⟨0, ![]⟩

class Facts : Prop where
  bcast_S_S8x56x56x128 : S_.BroadcastsInDim S8x56x56x128 (![] : Fin 0 → Fin S8x56x56x128.rank)
  reducesTo_S8x56x56x128_S_d0_1_2_3 : S8x56x56x128.ReducesTo [0, 1, 2, 3] S_
  h_S_ : 0 < S_.numel
  bcast_S_S128x128x3x3 : S_.BroadcastsInDim S128x128x3x3 (![] : Fin 0 → Fin S128x128x3x3.rank)
  reducesTo_S128x128x3x3_S_d0_1_2_3 : S128x128x3x3.ReducesTo [0, 1, 2, 3] S_
  bcast_S_S128 : S_.BroadcastsInDim S128 (![] : Fin 0 → Fin S128.rank)
  reducesTo_S128_S_d0 : S128.ReducesTo [0] S_
  bcast_S_S512x128 : S_.BroadcastsInDim S512x128 (![] : Fin 0 → Fin S512x128.rank)
  reducesTo_S512x128_S_d0_1 : S512x128.ReducesTo [0, 1] S_

variable [Facts]

def fn_part1 {F : FTy → Type} [FloatOps F] (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  main_v18

def fn {F : FTy → Type} [FloatOps F] (main_arg0 : FVec F S8x56x56x128 .f32) (main_arg1 : FVec F S128x128x3x3 .f32) (main_arg2 : FVec F S128 .f32) (main_arg3 : FVec F S512x128 .f32) : IVec S_ 1 :=
  let main_v0 : FVec F S8x56x56x128 .f32 := Host.absf main_arg0
  let main_cst : FVec F S_ .f32 := constant S_ .f32 0x7F800000#32
  let main_v1 : FVec F S8x56x56x128 .f32 := broadcastInDim S8x56x56x128 ![] bcast_S_S8x56x56x128 main_cst
  let main_v2 : IVec S8x56x56x128 1 := cmpf .olt main_v0 main_v1
  let main_c : IVec S_ 1 := constantI S_ 1 1#1
  let main_v3 : IVec S_ 1 := (fun x v => Host.reduce IntOp.andi x v reducesTo_S8x56x56x128_S_d0_1_2_3 h_S_) main_v2 main_c
  let main_v4 : FVec F S128x128x3x3 .f32 := Host.absf main_arg1
  let main_cst_0 : FVec F S_ .f32 := constant S_ .f32 0x7F800000#32
  let main_v5 : FVec F S128x128x3x3 .f32 := broadcastInDim S128x128x3x3 ![] bcast_S_S128x128x3x3 main_cst_0
  let main_v6 : IVec S128x128x3x3 1 := cmpf .olt main_v4 main_v5
  let main_c_1 : IVec S_ 1 := constantI S_ 1 1#1
  let main_v7 : IVec S_ 1 := (fun x v => Host.reduce IntOp.andi x v reducesTo_S128x128x3x3_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_v13 main_v16
-- ==== Pre_names_a_code.lean ====
abbrev S512x128 : Shape := ⟨2, ![512, 128]⟩
abbrev S8x3136x1 : Shape := ⟨3, ![8, 3136, 1]⟩
abbrev S_ : Shape := ⟨0, ![]⟩

class Facts : Prop where
  bcast_S_S8x3136x1 : S_.BroadcastsInDim S8x3136x1 (![] : Fin 0 → Fin S8x3136x1.rank)
  reducesTo_S8x3136x1_S_d0_1_2 : S8x3136x1.ReducesTo [0, 1, 2] S_
  h_S_ : 0 < S_.numel

variable [Facts]

def fn {F : FTy → Type} [FloatOps F] (main_arg0 : FVec F S512x128 .f32) (main_arg1 : IVec S8x3136x1 32) : IVec S_ 1 :=
  let main_c : IVec S_ 32 := constantI S_ 32 0#32
  let main_v0 : IVec S8x3136x1 32 := broadcastInDim S8x3136x1 ![] bcast_S_S8x3136x1 main_c
  let main_v1 : IVec S8x3136x1 1 := cmpi .sge main_arg1 main_v0
  let main_c_0 : IVec S_ 1 := constantI S_ 1 1#1
  let main_v2 : IVec S_ 1 := (fun x v => Host.reduce IntOp.andi x v reducesTo_S8x3136x1_S_d0_1_2 h_S_) main_v1 main_c_0
  let main_c_1 : IVec S_ 32 := constantI S_ 32 512#32
  let main_v3 : IVec S8x3136x1 32 := broadcastInDim S8x3136x1 ![] bcast_S_S8x3136x1 main_c_1
  let main_v4 : IVec S8x3136x1 1 := cmpi .slt main_arg1 main_v3
  let main_c_2 : IVec S_ 1 := constantI S_ 1 1#1
  let main_v5 : IVec S_ 1 := (fun x v => Host.reduce IntOp.andi x v reducesTo_S8x3136x1_S_d0_1_2 h_S_) main_v4 main_c_2
  let main_v6 : IVec S_ 1 := andi main_v2 main_v5
  main_v6
-- ==== Kernel.lean ====
abbrev S512x128 : Shape := ⟨2, ![512, 128]⟩
abbrev S8x3136x1 : Shape := ⟨3, ![8, 3136, 1]⟩
abbrev S25088 : Shape := ⟨1, ![25088]⟩
abbrev S25088x128 : Shape := ⟨2, ![25088, 128]⟩
abbrev S784 : Shape := ⟨1, ![784]⟩
abbrev S400x128 : Shape := ⟨2, ![400, 128]⟩
abbrev S_ : Shape := ⟨0, ![]⟩
abbrev S16 : Shape := ⟨1, ![16]⟩
abbrev S384x128 : Shape := ⟨2, ![384, 128]⟩
abbrev S8x56x56x128 : Shape := ⟨4, ![8, 56, 56, 128]⟩

abbrev nBuf : Table → Nat
  | .hbm => 5
  | .local .scVector .vmem => 3
  | _ => 0

abbrev bufTy : (tb : Table) → Fin (nBuf tb) → BufTy
  | .hbm, ⟨0, _⟩ => ⟨S512x128, .f32⟩
  | .hbm, ⟨1, _⟩ => ⟨S8x3136x1, .i32⟩
  | .hbm, ⟨2, _⟩ => ⟨S25088, .i32⟩
  | .hbm, ⟨3, _⟩ => ⟨S25088x128, .f32⟩
  | .hbm, ⟨4, _⟩ => ⟨S8x56x56x128, .f32⟩
  | .local .scVector .vmem, ⟨0, _⟩ => ⟨S512x128, .f32⟩
  | .local .scVector .vmem, ⟨1, _⟩ => ⟨S784, .i32⟩
  | .local .scVector .vmem, ⟨2, _⟩ => ⟨S400x128, .f32⟩
  | _, _ => ⟨S512x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  ![v2.toNat]
@[reducible] def k0_t1_loop : Scf.Loop 32 :=
  let c0_i32_0 : BitVec 32 := 0#32
  let c25_i32 : BitVec 32 := 25#32
  let v4 : BitVec 32 := Scalar.addi c0_i32_0 c25_i32
  let c1_i32 : BitVec 32 := 1#32
  ⟨c0_i32_0, v4, c1_i32⟩
def k0_off2 (k0_t1 : Fin k0_t1_loop.trips) : Fin 1 → Nat :=
  let c0_i32_7 : BitVec 32 := 0#32
  let c0_i32_0 : BitVec 32 := 0#32
  let c1_i32 : BitVec 32 := 1#32
  let arg8 : BitVec 32 := Scf.iv c0_i32_0 c1_i32 k0_t1
  let c16_i32 : BitVec 32 := 16#32
  let v10 : BitVec 32 := Scalar.muli arg8 c16_i32
  let v11 : BitVec 32 := Scalar.addi c0_i32_7 v10
  let v12 : Index := Scalar.indexCast v11
  ![v12.toNat]

def k0_chk1 (v13 : IVec S16 32) (v16 : IVec S16 32) (v17 : IVec S16 32) : Prop :=
  (∀ a x, ((![v13, v17] : Fin 2 → IVec S16 32) a x).toNat < S512x128.size a) ∧
  (∀ a x, ((![v16, v17] : Fin 2 → IVec S16 32) a x).toNat < S400x128.size a)
theorem k0_idx1_inb : ∀ (v13 : IVec S16 32) (v16 : IVec S16 32) (v17 : IVec S16 32) (k0_hw1 : k0_chk1 v13 v16 v17), ∀ a x, ((![v13, v17] : Fin 2 → IVec S16 32) a x).toNat < S512x128.size a := fun v13 v16 v17 k0_hw1 => k0_hw1.1
theorem k0_idx2_inb : ∀ (v13 : IVec S16 32) (v16 : IVec S16 32) (v17 : IVec S16 32) (k0_hw1 : k0_chk1 v13 v16 v17), ∀ a x, ((![v16, v17] : Fin 2 → IVec S16 32) a x).toNat < S400x128.size a := fun v13 v16 v17 k0_hw1 => k0_hw1.2

def k0_chk2 (v13 : IVec S16 32) (v16 : IVec S16 32) (v19 : IVec S16 32) : Prop :=
  (∀ a x, ((![v13, v19] : Fin 2 → IVec S16 32) a x).toNat < S512x128.size a) ∧
  (∀ a x, ((![v16, v19] : Fin 2 → IVec S16 32) a x).toNat < S400x128.size a)
theorem k0_idx3_inb : ∀ (v13 : IVec S16 32) (v16 : IVec S16 32) (v19 : IVec S16 32) (k0_hw2 : k0_chk2 v13 v16 v19), ∀ a x, ((![v13, v19] : Fin 2 → IVec S16 32) a x).toNat < S512x128.size a := fun v13 v16 v19 k0_hw2 => k0_hw2.1
theorem k0_idx4_inb : ∀ (v13 : IVec S16 32) (v16 : IVec S16 32) (v19 : IVec S16 32) (k0_hw2 : k0_chk2 v13 v16 v19), ∀ a x, ((![v16, v19] : Fin 2 → IVec S16 32) a x).toNat < S400x128.size a := fun v13 v16 v19 k0_hw2 => k0_hw2.2

def k0_chk3 (v13 : IVec S16 32) (v16 : IVec S16 32) (v21 : IVec S16 32) : Prop :=
  (∀ a x, ((![v13, v21] : Fin 2 → IVec S16 32) a x).toNat < S512x128.size a) ∧
  (∀ a x, ((![v16, v21] : Fin 2 → IVec S16 32) a x).toNat < S400x128.size a)
theorem k0_idx5_inb : ∀ (v13 : IVec S16 32) (v16 : IVec S16 32) (v21 : IVec S16 32) (k0_hw3 : k0_chk3 v13 v16 v21), ∀ a x, ((![v13, v21] : Fin 2 → IVec S16 32) a x).toNat < S512x128.size a := fun v13 v16 v21 k0_hw3 => k0_hw3.1
theorem k0_idx6_inb : ∀ (v13 : IVec S16 32) (v16 : IVec S16 32) (v21 : IVec S16 32) (k0_hw3 : k0_chk3 v13 v16 v21), ∀ a x, ((![v16, v21] : Fin 2 → IVec S16 32) a x).toNat < S400x128.size a := fun v13 v16 v21 k0_hw3 => k0_hw3.2

def k0_chk4 (v13 : IVec S16 32) (v16 : IVec S16 32) (v23 : IVec S16 32) : Prop :=
  (∀ a x, ((![v13, v23] : Fin 2 → IVec S16 32) a x).toNat < S512x128.size a) ∧
  (∀ a x, ((![v16, v23] : Fin 2 → IVec S16 32) a x).toNat < S400x128.size a)
theorem k0_idx7_inb : ∀ (v13 : IVec S16 32) (v16 : IVec S16 32) (v23 : IVec S16 32) (k0_hw4 : k0_chk4 v13 v16 v23), ∀ a x, ((![v13, v23] : Fin 2 → IVec S16 32) a x).toNat < S512x128.size a := fun v13 v16 v23 k0_hw4 => k0_hw4.1
theorem k0_idx8_inb : ∀ (v13 : IVec S16 32) (v16 : IVec S16 32) (v23 : IVec S16 32) (k0_hw4 : k0_chk4 v13 v16 v23), ∀ a x, ((![v16, v23] : Fin 2 → IVec S16 32) a x).toNat < S400x128.size a := fun v13 v16 v23 k0_hw4 => k0_hw4.2

def k0_chk5 (v13 : IVec S16 32) (v16 : IVec S16 32) (v25 : IVec S16 32) : Prop :=
  (∀ a x, ((![v13, v25] : Fin 2 → IVec S16 32) a x).toNat < S512x128.size a) ∧
  (∀ a x, ((![v16, v25] : Fin 2 → IVec S16 32) a x).toNat < S400x128.size a)
theorem k0_idx9_inb : ∀ (v13 : IVec S16 32) (v16 : IVec S16 32) (v25 : IVec S16 32) (k0_hw5 : k0_chk5 v13 v16 v25), ∀ a x, ((![v13, v25] : Fin 2 → IVec S16 32) a x).toNat < S512x128.size a := fun v13 v16 v25 k0_hw5 => k0_hw5.1
theorem k0_idx10_inb : ∀ (v13 : IVec S16 32) (v16 : IVec S16 32) (v25 : IVec S16 32) (k0_hw5 : k0_chk5 v13 v16 v25), ∀ a x, ((![v16, v25] : Fin 2 → IVec S16 32) a x).toNat < S400x128.size a := fun v13 v16 v25 k0_hw5 => k0_hw5.2

def k0_chk6 (v13 : IVec S16 32) (v16 : IVec S16 32) (v27 : IVec S16 32) : Prop :=
  (∀ a x, ((![v13, v27] : Fin 2 → IVec S16 32) a x).toNat < S512x128.size a) ∧
  (∀ a x, ((![v16, v27] : Fin 2 → IVec S16 32) a x).toNat < S400x128.size a)
theorem k0_idx11_inb : ∀ (v13 : IVec S16 32) (v16 : IVec S16 32) (v27 : IVec S16 32) (k0_hw6 : k0_chk6 v13 v16 v27), ∀ a x, ((![v13, v27] : Fin 2 → IVec S16 32) a x).toNat < S512x128.size a := fun v13 v16 v27 k0_hw6 => k0_hw6.1
theorem k0_idx12_inb : ∀ (v13 : IVec S16 32) (v16 : IVec S16 32) (v27 : IVec S16 32) (k0_hw6 : k0_chk6 v13 v16 v27), ∀ a x, ((![v16, v27] : Fin 2 → IVec S16 32) a x).toNat < S400x128.size a := fun v13 v16 v27 k0_hw6 => k0_hw6.2

def k0_chk7 (v13 : IVec S16 32) (v16 : IVec S16 32) (v29 : IVec S16 32) : Prop :=
  (∀ a x, ((![v13, v29] : Fin 2 → IVec S16 32) a x).toNat < S512x128.size a) ∧
  (∀ a x, ((![v16, v29] : Fin 2 → IVec S16 32) a x).toNat < S400x128.size a)
theorem k0_idx13_inb : ∀ (v13 : IVec S16 32) (v16 : IVec S16 32) (v29 : IVec S16 32) (k0_hw7 : k0_chk7 v13 v16 v29), ∀ a x, ((![v13, v29] : Fin 2 → IVec S16 32) a x).toNat < S512x128.size a := fun v13 v16 v29 k0_hw7 => k0_hw7.1
theorem k0_idx14_inb : ∀ (v13 : IVec S16 32) (v16 : IVec S16 32) (v29 : IVec S16 32) (k0_hw7 : k0_chk7 v13 v16 v29), ∀ a x, ((![v16, v29] : Fin 2 → IVec S16 32) a x).toNat < S400x128.size a := fun v13 v16 v29 k0_hw7 => k0_hw7.2

def k0_chk8 (v13 : IVec S16 32) (v16 : IVec S16 32) (v31 : IVec S16 32) : Prop :=
  (∀ a x, ((![v13, v31] : Fin 2 → IVec S16 32) a x).toNat < S512x128.size a) ∧
  (∀ a x, ((![v16, v31] : Fin 2 → IVec S16 32) a x).toNat < S400x128.size a)
theorem k0_idx15_inb : ∀ (v13 : IVec S16 32) (v16 : IVec S16 32) (v31 : IVec S16 32) (k0_hw8 : k0_chk8 v13 v16 v31), ∀ a x, ((![v13, v31] : Fin 2 → IVec S16 32) a x).toNat < S512x128.size a := fun v13 v16 v31 k0_hw8 => k0_hw8.1
theorem k0_idx16_inb : ∀ (v13 : IVec S16 32) (v16 : IVec S16 32) (v31 : IVec S16 32) (k0_hw8 : k0_chk8 v13 v16 v31), ∀ a x, ((![v16, v31] : Fin 2 → IVec S16 32) a x).toNat < S400x128.size a := fun v13 v16 v31 k0_hw8 => k0_hw8.2

def k0_chk9 (v13 : IVec S16 32) (v16 : IVec S16 32) (v33 : IVec S16 32) : Prop :=
  (∀ a x, ((![v13, v33] : Fin 2 → IVec S16 32) a x).toNat < S512x128.size a) ∧
  (∀ a x, ((![v16, v33] : Fin 2 → IVec S16 32) a x).toNat < S400x128.size a)
theorem k0_idx17_inb : ∀ (v13 : IVec S16 32) (v16 : IVec S16 32) (v33 : IVec S16 32) (k0_hw9 : k0_chk9 v13 v16 v33), ∀ a x, ((![v13, v33] : Fin 2 → IVec S16 32) a x).toNat < S512x128.size a := fun v13 v16 v33 k0_hw9 => k0_hw9.1
theorem k0_idx18_inb : ∀ (v13 : IVec S16 32) (v16 : IVec S16 32) (v33 : IVec S16 32) (k0_hw9 : k0_chk9 v13 v16 v33), ∀ a x, ((![v16, v33] : Fin 2 → IVec S16 32) a x).toNat < S400x128.size a := fun v13 v16 v33 k0_hw9 => k0_hw9.2

def k0_chk10 (v13 : IVec S16 32) (v16 : IVec S16 32) (v35 : IVec S16 32) : Prop :=
  (∀ a x, ((![v13, v35] : Fin 2 → IVec S16 32) a x).toNat < S512x128.size a) ∧
  (∀ a x, ((![v16, v35] : Fin 2 → IVec S16 32) a x).toNat < S400x128.size a)
theorem k0_idx19_inb : ∀ (v13 : IVec S16 32) (v16 : IVec S16 32) (v35 : IVec S16 32) (k0_hw10 : k0_chk10 v13 v16 v35), ∀ a x, ((![v13, v35] : Fin 2 → IVec S16 32) a x).toNat < S512x128.size a := fun v13 v16 v35 k0_hw10 => k0_hw10.1
theorem k0_idx20_inb : ∀ (v13 : IVec S16 32) (v16 : IVec S16 32) (v35 : IVec S16 32) (k0_hw10 : k0_chk10 v13 v16 v35), ∀ a x, ((![v16, v35] : Fin 2 → IVec S16 32) a x).toNat < S400x128.size a := fun v13 v16 v35 k0_hw10 => k0_hw10.2

def k0_chk11 (v13 : IVec S16 32) (v16 : IVec S16 32) (v37 : IVec S16 32) : Prop :=
  (∀ a x, ((![v13, v37] : Fin 2 → IVec S16 32) a x).toNat < S512x128.size a) ∧
  (∀ a x, ((![v16, v37] : Fin 2 → IVec S16 32) a x).toNat < S400x128.size a)
theorem k0_idx21_inb : ∀ (v13 : IVec S16 32) (v16 : IVec S16 32) (v37 : IVec S16 32) (k0_hw11 : k0_chk11 v13 v16 v37), ∀ a x, ((![v13, v37] : Fin 2 → IVec S16 32) a x).toNat < S512x128.size a := fun v13 v16 v37 k0_hw11 => k0_hw11.1
theorem k0_idx22_inb : ∀ (v13 : IVec S16 32) (v16 : IVec S16 32) (v37 : IVec S16 32) (k0_hw11 : k0_chk11 v13 v16 v37), ∀ a x, ((![v16, v37] : Fin 2 → IVec S16 32) a x).toNat < S400x128.size a := fun v13 v16 v37 k0_hw11 => k0_hw11.2

def k0_chk12 (v13 : IVec S16 32) (v16 : IVec S16 32) (v39 : IVec S16 32) : Prop :=
  (∀ a x, ((![v13, v39] : Fin 2 → IVec S16 32) a x).toNat < S512x128.size a) ∧
  (∀ a x, ((![v16, v39] : Fin 2 → IVec S16 32) a x).toNat < S400x128.size a)
theorem k0_idx23_inb : ∀ (v13 : IVec S16 32) (v16 : IVec S16 32) (v39 : IVec S16 32) (k0_hw12 : k0_chk12 v13 v16 v39), ∀ a x, ((![v13, v39] : Fin 2 → IVec S16 32) a x).toNat < S512x128.size a := fun v13 v16 v39 k0_hw12 => k0_hw12.1
theorem k0_idx24_inb : ∀ (v13 : IVec S16 32) (v16 : IVec S16 32) (v39 : IVec S16 32) (k0_hw12 : k0_chk12 v13 v16 v39), ∀ a x, ((![v16, v39] : Fin 2 → IVec S16 32) a x).toNat < S400x128.size a := fun v13 v16 v39 k0_hw12 => k0_hw12.2

def k0_chk13 (v13 : IVec S16 32) (v16 : IVec S16 32) (v41 : IVec S16 32) : Prop :=
  (∀ a x, ((![v13, v41] : Fin 2 → IVec S16 32) a x).toNat < S512x128.size a) ∧
  (∀ a x, ((![v16, v41] : Fin 2 → IVec S16 32) a x).toNat < S400x128.size a)
theorem k0_idx25_inb : ∀ (v13 : IVec S16 32) (v16 : IVec S16 32) (v41 : IVec S16 32) (k0_hw13 : k0_chk13 v13 v16 v41), ∀ a x, ((![v13, v41] : Fin 2 → IVec S16 32) a x).toNat < S512x128.size a := fun v13 v16 v41 k0_hw13 => k0_hw13.1
theorem k0_idx26_inb : ∀ (v13 : IVec S16 32) (v16 : IVec S16 32) (v41 : IVec S16 32) (k0_hw13 : k0_chk13 v13 v16 v41), ∀ a x, ((![v16, v41] : Fin 2 → IVec S16 32) a x).toNat < S400x128.size a := fun v13 v16 v41 k0_hw13 => k0_hw13.2

def k0_chk14 (v13 : IVec S16 32) (v16 : IVec S16 32) (v43 : IVec S16 32) : Prop :=
  (∀ a x, ((![v13, v43] : Fin 2 → IVec S16 32) a x).toNat < S512x128.size a) ∧
  (∀ a x, ((![v16, v43] : Fin 2 → IVec S16 32) a x).toNat < S400x128.size a)
theorem k0_idx27_inb : ∀ (v13 : IVec S16 32) (v16 : IVec S16 32) (v43 : IVec S16 32) (k0_hw14 : k0_chk14 v13 v16 v43), ∀ a x, ((![v13, v43] : Fin 2 → IVec S16 32) a x).toNat < S512x128.size a := fun v13 v16 v43 k0_hw14 => k0_hw14.1
theorem k0_idx28_inb : ∀ (v13 : IVec S16 32) (v16 : IVec S16 32) (v43 : IVec S16 32) (k0_hw14 : k0_chk14 v13 v16 v43), ∀ a x, ((![v16, v43] : Fin 2 → IVec S16 32) a x).toNat < S400x128.size a := fun v13 v16 v43 k0_hw14 => k0_hw14.2

def k0_chk15 (v13 : IVec S16 32) (v16 : IVec S16 32) (v45 : IVec S16 32) : Prop :=
  (∀ a x, ((![v13, v45] : Fin 2 → IVec S16 32) a x).toNat < S512x128.size a) ∧
  (∀ a x, ((![v16, v45] : Fin 2 → IVec S16 32) a x).toNat < S400x128.size a)
theorem k0_idx29_inb : ∀ (v13 : IVec S16 32) (v16 : IVec S16 32) (v45 : IVec S16 32) (k0_hw15 : k0_chk15 v13 v16 v45), ∀ a x, ((![v13, v45] : Fin 2 → IVec S16 32) a x).toNat < S512x128.size a := fun v13 v16 v45 k0_hw15 => k0_hw15.1
theorem k0_idx30_inb : ∀ (v13 : IVec S16 32) (v16 : IVec S16 32) (v45 : IVec S16 32) (k0_hw15 : k0_chk15 v13 v16 v45), ∀ a x, ((![v16, v45] : Fin 2 → IVec S16 32) a x).toNat < S400x128.size a := fun v13 v16 v45 k0_hw15 => k0_hw15.2

def k0_chk16 (v13 : IVec S16 32) (v16 : IVec S16 32) (v47 : IVec S16 32) : Prop :=
  (∀ a x, ((![v13, v47] : Fin 2 → IVec S16 32) a x).toNat < S512x128.size a) ∧
  (∀ a x, ((![v16, v47] : Fin 2 → IVec S16 32) a x).toNat < S400x128.size a)
theorem k0_idx31_inb : ∀ (v13 : IVec S16 32) (v16 : IVec S16 32) (v47 : IVec S16 32) (k0_hw16 : k0_chk16 v13 v16 v47), ∀ a x, ((![v13, v47] : Fin 2 → IVec S16 32) a x).toNat < S512x128.size a := fun v13 v16 v47 k0_hw16 => k0_hw16.1
theorem k0_idx32_inb : ∀ (v13 : IVec S16 32) (v16 : IVec S16 32) (v47 : IVec S16 32) (k0_hw16 : k0_chk16 v13 v16 v47), ∀ a x, ((![v16, v47] : Fin 2 → IVec S16 32) a x).toNat < S400x128.size a := fun v13 v16 v47 k0_hw16 => k0_hw16.2

def k0_chk17 (v13 : IVec S16 32) (v16 : IVec S16 32) (v49 : IVec S16 32) : Prop :=
  (∀ a x, ((![v13, v49] : Fin 2 → IVec S16 32) a x).toNat < S512x128.size a) ∧
  (∀ a x, ((![v16, v49] : Fin 2 → IVec S16 32) a x).toNat < S400x128.size a)
theorem k0_idx33_inb : ∀ (v13 : IVec S16 32) (v16 : IVec S16 32) (v49 : IVec S16 32) (k0_hw17 : k0_chk17 v13 v16 v49), ∀ a x, ((![v13, v49] : Fin 2 → IVec S16 32) a x).toNat < S512x128.size a := fun v13 v16 v49 k0_hw17 => k0_hw17.1
theorem k0_idx34_inb : ∀ (v13 : IVec S16 32) (v16 : IVec S16 32) (v49 : IVec S16 32) (k0_hw17 : k0_chk17 v13 v16 v49), ∀ a x, ((![v16, v49] : Fin 2 → IVec S16 32) a x).toNat < S400x128.size a := fun v13 v16 v49 k0_hw17 => k0_hw17.2

def k0_chk18 (v13 : IVec S16 32) (v16 : IVec S16 32) (v51 : IVec S16 32) : Prop :=
  (∀ a x, ((![v13, v51] : Fin 2 → IVec S16 32) a x).toNat < S512x128.size a) ∧
  (∀ a x, ((![v16, v51] : Fin 2 → IVec S16 32) a x).toNat < S400x128.size a)
theorem k0_idx35_inb : ∀ (v13 : IVec S16 32) (v16 : IVec S16 32) (v51 : IVec S16 32) (k0_hw18 : k0_chk18 v13 v16 v51), ∀ a x, ((![v13, v51] : Fin 2 → IVec S16 32) a x).toNat < S512x128.size a := fun v13 v16 v51 k0_hw18 => k0_hw18.1
theorem k0_idx36_inb : ∀ (v13 : IVec S16 32) (v16 : IVec S16 32) (v51 : IVec S16 32) (k0_hw18 : k0_chk18 v13 v16 v51), ∀ a x, ((![v16, v51] : Fin 2 → IVec S16 32) a x).toNat < S400x128.size a := fun v13 v16 v51 k0_hw18 => k0_hw18.2

def k0_chk19 (v13 : IVec S16 32) (v16 : IVec S16 32) (v53 : IVec S16 32) : Prop :=
  (∀ a x, ((![v13, v53] : Fin 2 → IVec S16 32) a x).toNat < S512x128.size a) ∧
  (∀ a x, ((![v16, v53] : Fin 2 → IVec S16 32) a x).toNat < S400x128.size a)
theorem k0_idx37_inb : ∀ (v13 : IVec S16 32) (v16 : IVec S16 32) (v53 : IVec S16 32) (k0_hw19 : k0_chk19 v13 v16 v53), ∀ a x, ((![v13, v53] : Fin 2 → IVec S16 32) a x).toNat < S512x128.size a := fun v13 v16 v53 k0_hw19 => k0_hw19.1
theorem k0_idx38_inb : ∀ (v13 : IVec S16 32) (v16 : IVec S16 32) (v53 : IVec S16 32) (k0_hw19 : k0_chk19 v13 v16 v53), ∀ a x, ((![v16, v53] : Fin 2 → IVec S16 32) a x).toNat < S400x128.size a := fun v13 v16 v53 k0_hw19 => k0_hw19.2

def k0_chk20 (v13 : IVec S16 32) (v16 : IVec S16 32) (v55 : IVec S16 32) : Prop :=
  (∀ a x, ((![v13, v55] : Fin 2 → IVec S16 32) a x).toNat < S512x128.size a) ∧
  (∀ a x, ((![v16, v55] : Fin 2 → IVec S16 32) a x).toNat < S400x128.size a)
theorem k0_idx39_inb : ∀ (v13 : IVec S16 32) (v16 : IVec S16 32) (v55 : IVec S16 32) (k0_hw20 : k0_chk20 v13 v16 v55), ∀ a x, ((![v13, v55] : Fin 2 → IVec S16 32) a x).toNat < S512x128.size a := fun v13 v16 v55 k0_hw20 => k0_hw20.1
theorem k0_idx40_inb : ∀ (v13 : IVec S16 32) (v16 : IVec S16 32) (v55 : IVec S16 32) (k0_hw20 : k0_chk20 v13 v16 v55), ∀ a x, ((![v16, v55] : Fin 2 → IVec S16 32) a x).toNat < S400x128.size a := fun v13 v16 v55 k0_hw20 => k0_hw20.2

def k0_chk21 (v13 : IVec S16 32) (v16 : IVec S16 32) (v57 : IVec S16 32) : Prop :=
  (∀ a x, ((![v13, v57] : Fin 2 → IVec S16 32) a x).toNat < S512x128.size a) ∧
  (∀ a x, ((![v16, v57] : Fin 2 → IVec S16 32) a x).toNat < S400x128.size a)
theorem k0_idx41_inb : ∀ (v13 : IVec S16 32) (v16 : IVec S16 32) (v57 : IVec S16 32) (k0_hw21 : k0_chk21 v13 v16 v57), ∀ a x, ((![v13, v57] : Fin 2 → IVec S16 32) a x).toNat < S512x128.size a := fun v13 v16 v57 k0_hw21 => k0_hw21.1
theorem k0_idx42_inb : ∀ (v13 : IVec S16 32) (v16 : IVec S16 32) (v57 : IVec S16 32) (k0_hw21 : k0_chk21 v13 v16 v57), ∀ a x, ((![v16, v57] : Fin 2 → IVec S16 32) a x).toNat < S400x128.size a := fun v13 v16 v57 k0_hw21 => k0_hw21.2

def k0_chk22 (v13 : IVec S16 32) (v16 : IVec S16 32) (v59 : IVec S16 32) : Prop :=
  (∀ a x, ((![v13, v59] : Fin 2 → IVec S16 32) a x).toNat < S512x128.size a) ∧
  (∀ a x, ((![v16, v59] : Fin 2 → IVec S16 32) a x).toNat < S400x128.size a)
theorem k0_idx43_inb : ∀ (v13 : IVec S16 32) (v16 : IVec S16 32) (v59 : IVec S16 32) (k0_hw22 : k0_chk22 v13 v16 v59), ∀ a x, ((![v13, v59] : Fin 2 → IVec S16 32) a x).toNat < S512x128.size a := fun v13 v16 v59 k0_hw22 => k0_hw22.1
theorem k0_idx44_inb : ∀ (v13 : IVec S16 32) (v16 : IVec S16 32) (v59 : IVec S16 32) (k0_hw22 : k0_chk22 v13 v16 v59), ∀ a x, ((![v16, v59] : Fin 2 → IVec S16 32) a x).toNat < S400x128.size a := fun v13 v16 v59 k0_hw22 => k0_hw22.2

def k0_chk23 (v13 : IVec S16 32) (v16 : IVec S16 32) (v61 : IVec S16 32) : Prop :=
  (∀ a x, ((![v13, v61] : Fin 2 → IVec S16 32) a x).toNat < S512x128.size a) ∧
  (∀ a x, ((![v16, v61] : Fin 2 → IVec S16 32) a x).toNat < S400x128.size a)
theorem k0_idx45_inb : ∀ (v13 : IVec S16 32) (v16 : IVec S16 32) (v61 : IVec S16 32) (k0_hw23 : k0_chk23 v13 v16 v61), ∀ a x, ((![v13, v61] : Fin 2 → IVec S16 32) a x).toNat < S512x128.size a := fun v13 v16 v61 k0_hw23 => k0_hw23.1
theorem k0_idx46_inb : ∀ (v13 : IVec S16 32) (v16 : IVec S16 32) (v61 : IVec S16 32) (k0_hw23 : k0_chk23 v13 v16 v61), ∀ a x, ((![v16, v61] : Fin 2 → IVec S16 32) a x).toNat < S400x128.size a := fun v13 v16 v61 k0_hw23 => k0_hw23.2

def k0_chk24 (v13 : IVec S16 32) (v16 : IVec S16 32) (v63 : IVec S16 32) : Prop :=
  (∀ a x, ((![v13, v63] : Fin 2 → IVec S16 32) a x).toNat < S512x128.size a) ∧
  (∀ a x, ((![v16, v63] : Fin 2 → IVec S16 32) a x).toNat < S400x128.size a)
theorem k0_idx47_inb : ∀ (v13 : IVec S16 32) (v16 : IVec S16 32) (v63 : IVec S16 32) (k0_hw24 : k0_chk24 v13 v16 v63), ∀ a x, ((![v13, v63] : Fin 2 → IVec S16 32) a x).toNat < S512x128.size a := fun v13 v16 v63 k0_hw24 => k0_hw24.1
theorem k0_idx48_inb : ∀ (v13 : IVec S16 32) (v16 : IVec S16 32) (v63 : IVec S16 32) (k0_hw24 : k0_chk24 v13 v16 v63), ∀ a x, ((![v16, v63] : Fin 2 → IVec S16 32) a x).toNat < S400x128.size a := fun v13 v16 v63 k0_hw24 => k0_hw24.2

def k0_chk25 (v13 : IVec S16 32) (v16 : IVec S16 32) (v65 : IVec S16 32) : Prop :=
  (∀ a x, ((![v13, v65] : Fin 2 → IVec S16 32) a x).toNat < S512x128.size a) ∧
  (∀ a x, ((![v16, v65] : Fin 2 → IVec S16 32) a x).toNat < S400x128.size a)
theorem k0_idx49_inb : ∀ (v13 : IVec S16 32) (v16 : IVec S16 32) (v65 : IVec S16 32) (k0_hw25 : k0_chk25 v13 v16 v65), ∀ a x, ((![v13, v65] : Fin 2 → IVec S16 32) a x).toNat < S512x128.size a := fun v13 v16 v65 k0_hw25 => k0_hw25.1
theorem k0_idx50_inb : ∀ (v13 : IVec S16 32) (v16 : IVec S16 32) (v65 : IVec S16 32) (k0_hw25 : k0_chk25 v13 v16 v65), ∀ a x, ((![v16, v65] : Fin 2 → IVec S16 32) a x).toNat < S400x128.size a := fun v13 v16 v65 k0_hw25 => k0_hw25.2

def k0_chk26 (v13 : IVec S16 32) (v16 : IVec S16 32) (v67 : IVec S16 32) : Prop :=
  (∀ a x, ((![v13, v67] : Fin 2 → IVec S16 32) a x).toNat < S512x128.size a) ∧
  (∀ a x, ((![v16, v67] : Fin 2 → IVec S16 32) a x).toNat < S400x128.size a)
theorem k0_idx51_inb : ∀ (v13 : IVec S16 32) (v16 : IVec S16 32) (v67 : IVec S16 32) (k0_hw26 : k0_chk26 v13 v16 v67), ∀ a x, ((![v13, v67] : Fin 2 → IVec S16 32) a x).toNat < S512x128.size a := fun v13 v16 v67 k0_hw26 => k0_hw26.1
theorem k0_idx52_inb : ∀ (v13 : IVec S16 32) (v16 : IVec S16 32) (v67 : IVec S16 32) (k0_hw26 : k0_chk26 v13 v16 v67), ∀ a x, ((![v16, v67] : Fin 2 → IVec S16 32) a x).toNat < S400x128.size a := fun v13 v16 v67 k0_hw26 => k0_hw26.2

def k0_chk27 (v13 : IVec S16 32) (v16 : IVec S16 32) (v69 : IVec S16 32) : Prop :=
  (∀ a x, ((![v13, v69] : Fin 2 → IVec S16 32) a x).toNat < S512x128.size a) ∧
  (∀ a x, ((![v16, v69] : Fin 2 → IVec S16 32) a x).toNat < S400x128.size a)
theorem k0_idx53_inb : ∀ (v13 : IVec S16 32) (v16 : IVec S16 32) (v69 : IVec S16 32) (k0_hw27 : k0_chk27 v13 v16 v69), ∀ a x, ((![v13, v69] : Fin 2 → IVec S16 32) a x).toNat < S512x128.size a := fun v13 v16 v69 k0_hw27 => k0_hw27.1
theorem k0_idx54_inb : ∀ (v13 : IVec S16 32) (v16 : IVec S16 32) (v69 : IVec S16 32) (k0_hw27 : k0_chk27 v13 v16 v69), ∀ a x, ((![v16, v69] : Fin 2 → IVec S16 32) a x).toNat < S400x128.size a := fun v13 v16 v69 k0_hw27 => k0_hw27.2

def k0_chk28 (v13 : IVec S16 32) (v16 : IVec S16 32) (v71 : IVec S16 32) : Prop :=
  (∀ a x, ((![v13, v71] : Fin 2 → IVec S16 32) a x).toNat < S512x128.size a) ∧
  (∀ a x, ((![v16, v71] : Fin 2 → IVec S16 32) a x).toNat < S400x128.size a)
theorem k0_idx55_inb : ∀ (v13 : IVec S16 32) (v16 : IVec S16 32) (v71 : IVec S16 32) (k0_hw28 : k0_chk28 v13 v16 v71), ∀ a x, ((![v13, v71] : Fin 2 → IVec S16 32) a x).toNat < S512x128.size a := fun v13 v16 v71 k0_hw28 => k0_hw28.1
theorem k0_idx56_inb : ∀ (v13 : IVec S16 32) (v16 : IVec S16 32) (v71 : IVec S16 32) (k0_hw28 : k0_chk28 v13 v16 v71), ∀ a x, ((![v16, v71] : Fin 2 → IVec S16 32) a x).toNat < S400x128.size a := fun v13 v16 v71 k0_hw28 => k0_hw28.2

def k0_chk29 (v13 : IVec S16 32) (v16 : IVec S16 32) (v73 : IVec S16 32) : Prop :=
  (∀ a x, ((![v13, v73] : Fin 2 → IVec S16 32) a x).toNat < S512x128.size a) ∧
  (∀ a x, ((![v16, v73] : Fin 2 → IVec S16 32) a x).toNat < S400x128.size a)
theorem k0_idx57_inb : ∀ (v13 : IVec S16 32) (v16 : IVec S16 32) (v73 : IVec S16 32) (k0_hw29 : k0_chk29 v13 v16 v73), ∀ a x, ((![v13, v73] : Fin 2 → IVec S16 32) a x).toNat < S512x128.size a := fun v13 v16 v73 k0_hw29 => k0_hw29.1
theorem k0_idx58_inb : ∀ (v13 : IVec S16 32) (v16 : IVec S16 32) (v73 : IVec S16 32) (k0_hw29 : k0_chk29 v13 v16 v73), ∀ a x, ((![v16, v73] : Fin 2 → IVec S16 32) a x).toNat < S400x128.size a := fun v13 v16 v73 k0_hw29 => k0_hw29.2

def k0_chk30 (v13 : IVec S16 32) (v16 : IVec S16 32) (v75 : IVec S16 32) : Prop :=
  (∀ a x, ((![v13, v75] : Fin 2 → IVec S16 32) a x).toNat < S512x128.size a) ∧
  (∀ a x, ((![v16, v75] : Fin 2 → IVec S16 32) a x).toNat < S400x128.size a)
theorem k0_idx59_inb : ∀ (v13 : IVec S16 32) (v16 : IVec S16 32) (v75 : IVec S16 32) (k0_hw30 : k0_chk30 v13 v16 v75), ∀ a x, ((![v13, v75] : Fin 2 → IVec S16 32) a x).toNat < S512x128.size a := fun v13 v16 v75 k0_hw30 => k0_hw30.1
theorem k0_idx60_inb : ∀ (v13 : IVec S16 32) (v16 : IVec S16 32) (v75 : IVec S16 32) (k0_hw30 : k0_chk30 v13 v16 v75), ∀ a x, ((![v16, v75] : Fin 2 → IVec S16 32) a x).toNat < S400x128.size a := fun v13 v16 v75 k0_hw30 => k0_hw30.2

def k0_chk31 (v13 : IVec S16 32) (v16 : IVec S16 32) (v77 : IVec S16 32) : Prop :=
  (∀ a x, ((![v13, v77] : Fin 2 → IVec S16 32) a x).toNat < S512x128.size a) ∧
  (∀ a x, ((![v16, v77] : Fin 2 → IVec S16 32) a x).toNat < S400x128.size a)
theorem k0_idx61_inb : ∀ (v13 : IVec S16 32) (v16 : IVec S16 32) (v77 : IVec S16 32) (k0_hw31 : k0_chk31 v13 v16 v77), ∀ a x, ((![v13, v77] : Fin 2 → IVec S16 32) a x).toNat < S512x128.size a := fun v13 v16 v77 k0_hw31 => k0_hw31.1
theorem k0_idx62_inb : ∀ (v13 : IVec S16 32) (v16 : IVec S16 32) (v77 : IVec S16 32) (k0_hw31 : k0_chk31 v13 v16 v77), ∀ a x, ((![v16, v77] : Fin 2 → IVec S16 32) a x).toNat < S400x128.size a := fun v13 v16 v77 k0_hw31 => k0_hw31.2

def k0_chk32 (v13 : IVec S16 32) (v16 : IVec S16 32) (v79 : IVec S16 32) : Prop :=
  (∀ a x, ((![v13, v79] : Fin 2 → IVec S16 32) a x).toNat < S512x128.size a) ∧
  (∀ a x, ((![v16, v79] : Fin 2 → IVec S16 32) a x).toNat < S400x128.size a)
theorem k0_idx63_inb : ∀ (v13 : IVec S16 32) (v16 : IVec S16 32) (v79 : IVec S16 32) (k0_hw32 : k0_chk32 v13 v16 v79), ∀ a x, ((![v13, v79] : Fin 2 → IVec S16 32) a x).toNat < S512x128.size a := fun v13 v16 v79 k0_hw32 => k0_hw32.1
theorem k0_idx64_inb : ∀ (v13 : IVec S16 32) (v16 : IVec S16 32) (v79 : IVec S16 32) (k0_hw32 : k0_chk32 v13 v16 v79), ∀ a x, ((![v16, v79] : Fin 2 → IVec S16 32) a x).toNat < S400x128.size a := fun v13 v16 v79 k0_hw32 => k0_hw32.2

def k0_chk33 (v13 : IVec S16 32) (v16 : IVec S16 32) (v81 : IVec S16 32) : Prop :=
  (∀ a x, ((![v13, v81] : Fin 2 → IVec S16 32) a x).toNat < S512x128.size a) ∧
  (∀ a x, ((![v16, v81] : Fin 2 → IVec S16 32) a x).toNat < S400x128.size a)
theorem k0_idx65_inb : ∀ (v13 : IVec S16 32) (v16 : IVec S16 32) (v81 : IVec S16 32) (k0_hw33 : k0_chk33 v13 v16 v81), ∀ a x, ((![v13, v81] : Fin 2 → IVec S16 32) a x).toNat < S512x128.size a := fun v13 v16 v81 k0_hw33 => k0_hw33.1
theorem k0_idx66_inb : ∀ (v13 : IVec S16 32) (v16 : IVec S16 32) (v81 : IVec S16 32) (k0_hw33 : k0_chk33 v13 v16 v81), ∀ a x, ((![v16, v81] : Fin 2 → IVec S16 32) a x).toNat < S400x128.size a := fun v13 v16 v81 k0_hw33 => k0_hw33.2

def k0_chk34 (v13 : IVec S16 32) (v16 : IVec S16 32) (v83 : IVec S16 32) : Prop :=
  (∀ a x, ((![v13, v83] : Fin 2 → IVec S16 32) a x).toNat < S512x128.size a) ∧
  (∀ a x, ((![v16, v83] : Fin 2 → IVec S16 32) a x).toNat < S400x128.size a)
theorem k0_idx67_inb : ∀ (v13 : IVec S16 32) (v16 : IVec S16 32) (v83 : IVec S16 32) (k0_hw34 : k0_chk34 v13 v16 v83), ∀ a x, ((![v13, v83] : Fin 2 → IVec S16 32) a x).toNat < S512x128.size a := fun v13 v16 v83 k0_hw34 => k0_hw34.1
theorem k0_idx68_inb : ∀ (v13 : IVec S16 32) (v16 : IVec S16 32) (v83 : IVec S16 32) (k0_hw34 : k0_chk34 v13 v16 v83), ∀ a x, ((![v16, v83] : Fin 2 → IVec S16 32) a x).toNat < S400x128.size a := fun v13 v16 v83 k0_hw34 => k0_hw34.2

def k0_chk35 (v13 : IVec S16 32) (v16 : IVec S16 32) (v85 : IVec S16 32) : Prop :=
  (∀ a x, ((![v13, v85] : Fin 2 → IVec S16 32) a x).toNat < S512x128.size a) ∧
  (∀ a x, ((![v16, v85] : Fin 2 → IVec S16 32) a x).toNat < S400x128.size a)
theorem k0_idx69_inb : ∀ (v13 : IVec S16 32) (v16 : IVec S16 32) (v85 : IVec S16 32) (k0_hw35 : k0_chk35 v13 v16 v85), ∀ a x, ((![v13, v85] : Fin 2 → IVec S16 32) a x).toNat < S512x128.size a := fun v13 v16 v85 k0_hw35 => k0_hw35.1
theorem k0_idx70_inb : ∀ (v13 : IVec S16 32) (v16 : IVec S16 32) (v85 : IVec S16 32) (k0_hw35 : k0_chk35 v13 v16 v85), ∀ a x, ((![v16, v85] : Fin 2 → IVec S16 32) a x).toNat < S400x128.size a := fun v13 v16 v85 k0_hw35 => k0_hw35.2

def k0_chk36 (v13 : IVec S16 32) (v16 : IVec S16 32) (v87 : IVec S16 32) : Prop :=
  (∀ a x, ((![v13, v87] : Fin 2 → IVec S16 32) a x).toNat < S512x128.size a) ∧
  (∀ a x, ((![v16, v87] : Fin 2 → IVec S16 32) a x).toNat < S400x128.size a)
theorem k0_idx71_inb : ∀ (v13 : IVec S16 32) (v16 : IVec S16 32) (v87 : IVec S16 32) (k0_hw36 : k0_chk36 v13 v16 v87), ∀ a x, ((![v13, v87] : Fin 2 → IVec S16 32) a x).toNat < S512x128.size a := fun v13 v16 v87 k0_hw36 => k0_hw36.1
theorem k0_idx72_inb : ∀ (v13 : IVec S16 32) (v16 : IVec S16 32) (v87 : IVec S16 32) (k0_hw36 : k0_chk36 v13 v16 v87), ∀ a x, ((![v16, v87] : Fin 2 → IVec S16 32) a x).toNat < S400x128.size a := fun v13 v16 v87 k0_hw36 => k0_hw36.2

def k0_chk37 (v13 : IVec S16 32) (v16 : IVec S16 32) (v89 : IVec S16 32) : Prop :=
  (∀ a x, ((![v13, v89] : Fin 2 → IVec S16 32) a x).toNat < S512x128.size a) ∧
  (∀ a x, ((![v16, v89] : Fin 2 → IVec S16 32) a x).toNat < S400x128.size a)
theorem k0_idx73_inb : ∀ (v13 : IVec S16 32) (v16 : IVec S16 32) (v89 : IVec S16 32) (k0_hw37 : k0_chk37 v13 v16 v89), ∀ a x, ((![v13, v89] : Fin 2 → IVec S16 32) a x).toNat < S512x128.size a := fun v13 v16 v89 k0_hw37 => k0_hw37.1
theorem k0_idx74_inb : ∀ (v13 : IVec S16 32) (v16 : IVec S16 32) (v89 : IVec S16 32) (k0_hw37 : k0_chk37 v13 v16 v89), ∀ a x, ((![v16, v89] : Fin 2 → IVec S16 32) a x).toNat < S400x128.size a := fun v13 v16 v89 k0_hw37 => k0_hw37.2

def k0_chk38 (v13 : IVec S16 32) (v16 : IVec S16 32) (v91 : IVec S16 32) : Prop :=
  (∀ a x, ((![v13, v91] : Fin 2 → IVec S16 32) a x).toNat < S512x128.size a) ∧
  (∀ a x, ((![v16, v91] : Fin 2 → IVec S16 32) a x).toNat < S400x128.size a)
theorem k0_idx75_inb : ∀ (v13 : IVec S16 32) (v16 : IVec S16 32) (v91 : IVec S16 32) (k0_hw38 : k0_chk38 v13 v16 v91), ∀ a x, ((![v13, v91] : Fin 2 → IVec S16 32) a x).toNat < S512x128.size a := fun v13 v16 v91 k0_hw38 => k0_hw38.1
theorem k0_idx76_inb : ∀ (v13 : IVec S16 32) (v16 : IVec S16 32) (v91 : IVec S16 32) (k0_hw38 : k0_chk38 v13 v16 v91), ∀ a x, ((![v16, v91] : Fin 2 → IVec S16 32) a x).toNat < S400x128.size a := fun v13 v16 v91 k0_hw38 => k0_hw38.2

def k0_chk39 (v13 : IVec S16 32) (v16 : IVec S16 32) (v93 : IVec S16 32) : Prop :=
  (∀ a x, ((![v13, v93] : Fin 2 → IVec S16 32) a x).toNat < S512x128.size a) ∧
  (∀ a x, ((![v16, v93] : Fin 2 → IVec S16 32) a x).toNat < S400x128.size a)
theorem k0_idx77_inb : ∀ (v13 : IVec S16 32) (v16 : IVec S16 32) (v93 : IVec S16 32) (k0_hw39 : k0_chk39 v13 v16 v93), ∀ a x, ((![v13, v93] : Fin 2 → IVec S16 32) a x).toNat < S512x128.size a := fun v13 v16 v93 k0_hw39 => k0_hw39.1
theorem k0_idx78_inb : ∀ (v13 : IVec S16 32) (v16 : IVec S16 32) (v93 : IVec S16 32) (k0_hw39 : k0_chk39 v13 v16 v93), ∀ a x, ((![v16, v93] : Fin 2 → IVec S16 32) a x).toNat < S400x128.size a := fun v13 v16 v93 k0_hw39 => k0_hw39.2

def k0_chk40 (v13 : IVec S16 32) (v16 : IVec S16 32) (v95 : IVec S16 32) : Prop :=
  (∀ a x, ((![v13, v95] : Fin 2 → IVec S16 32) a x).toNat < S512x128.size a) ∧
  (∀ a x, ((![v16, v95] : Fin 2 → IVec S16 32) a x).toNat < S400x128.size a)
theorem k0_idx79_inb : ∀ (v13 : IVec S16 32) (v16 : IVec S16 32) (v95 : IVec S16 32) (k0_hw40 : k0_chk40 v13 v16 v95), ∀ a x, ((![v13, v95] : Fin 2 → IVec S16 32) a x).toNat < S512x128.size a := fun v13 v16 v95 k0_hw40 => k0_hw40.1
theorem k0_idx80_inb : ∀ (v13 : IVec S16 32) (v16 : IVec S16 32) (v95 : IVec S16 32) (k0_hw40 : k0_chk40 v13 v16 v95), ∀ a x, ((![v16, v95] : Fin 2 → IVec S16 32) a x).toNat < S400x128.size a := fun v13 v16 v95 k0_hw40 => k0_hw40.2

def k0_chk41 (v13 : IVec S16 32) (v16 : IVec S16 32) (v97 : IVec S16 32) : Prop :=
  (∀ a x, ((![v13, v97] : Fin 2 → IVec S16 32) a x).toNat < S512x128.size a) ∧
  (∀ a x, ((![v16, v97] : Fin 2 → IVec S16 32) a x).toNat < S400x128.size a)
theorem k0_idx81_inb : ∀ (v13 : IVec S16 32) (v16 : IVec S16 32) (v97 : IVec S16 32) (k0_hw41 : k0_chk41 v13 v16 v97), ∀ a x, ((![v13, v97] : Fin 2 → IVec S16 32) a x).toNat < S512x128.size a := fun v13 v16 v97 k0_hw41 => k0_hw41.1
theorem k0_idx82_inb : ∀ (v13 : IVec S16 32) (v16 : IVec S16 32) (v97 : IVec S16 32) (k0_hw41 : k0_chk41 v13 v16 v97), ∀ a x, ((![v16, v97] : Fin 2 → IVec S16 32) a x).toNat < S400x128.size a := fun v13 v16 v97 k0_hw41 => k0_hw41.2

def k0_chk42 (v13 : IVec S16 32) (v16 : IVec S16 32) (v99 : IVec S16 32) : Prop :=
  (∀ a x, ((![v13, v99] : Fin 2 → IVec S16 32) a x).toNat < S512x128.size a) ∧
  (∀ a x, ((![v16, v99] : Fin 2 → IVec S16 32) a x).toNat < S400x128.size a)
theorem k0_idx83_inb : ∀ (v13 : IVec S16 32) (v16 : IVec S16 32) (v99 : IVec S16 32) (k0_hw42 : k0_chk42 v13 v16 v99), ∀ a x, ((![v13, v99] : Fin 2 → IVec S16 32) a x).toNat < S512x128.size a := fun v13 v16 v99 k0_hw42 => k0_hw42.1
theorem k0_idx84_inb : ∀ (v13 : IVec S16 32) (v16 : IVec S16 32) (v99 : IVec S16 32) (k0_hw42 : k0_chk42 v13 v16 v99), ∀ a x, ((![v16, v99] : Fin 2 → IVec S16 32) a x).toNat < S400x128.size a := fun v13 v16 v99 k0_hw42 => k0_hw42.2

def k0_chk43 (v13 : IVec S16 32) (v16 : IVec S16 32) (v101 : IVec S16 32) : Prop :=
  (∀ a x, ((![v13, v101] : Fin 2 → IVec S16 32) a x).toNat < S512x128.size a) ∧
  (∀ a x, ((![v16, v101] : Fin 2 → IVec S16 32) a x).toNat < S400x128.size a)
theorem k0_idx85_inb : ∀ (v13 : IVec S16 32) (v16 : IVec S16 32) (v101 : IVec S16 32) (k0_hw43 : k0_chk43 v13 v16 v101), ∀ a x, ((![v13, v101] : Fin 2 → IVec S16 32) a x).toNat < S512x128.size a := fun v13 v16 v101 k0_hw43 => k0_hw43.1
theorem k0_idx86_inb : ∀ (v13 : IVec S16 32) (v16 : IVec S16 32) (v101 : IVec S16 32) (k0_hw43 : k0_chk43 v13 v16 v101), ∀ a x, ((![v16, v101] : Fin 2 → IVec S16 32) a x).toNat < S400x128.size a := fun v13 v16 v101 k0_hw43 => k0_hw43.2

def k0_chk44 (v13 : IVec S16 32) (v16 : IVec S16 32) (v103 : IVec S16 32) : Prop :=
  (∀ a x, ((![v13, v103] : Fin 2 → IVec S16 32) a x).toNat < S512x128.size a) ∧
  (∀ a x, ((![v16, v103] : Fin 2 → IVec S16 32) a x).toNat < S400x128.size a)
theorem k0_idx87_inb : ∀ (v13 : IVec S16 32) (v16 : IVec S16 32) (v103 : IVec S16 32) (k0_hw44 : k0_chk44 v13 v16 v103), ∀ a x, ((![v13, v103] : Fin 2 → IVec S16 32) a x).toNat < S512x128.size a := fun v13 v16 v103 k0_hw44 => k0_hw44.1
theorem k0_idx88_inb : ∀ (v13 : IVec S16 32) (v16 : IVec S16 32) (v103 : IVec S16 32) (k0_hw44 : k0_chk44 v13 v16 v103), ∀ a x, ((![v16, v103] : Fin 2 → IVec S16 32) a x).toNat < S400x128.size a := fun v13 v16 v103 k0_hw44 => k0_hw44.2

def k0_chk45 (v13 : IVec S16 32) (v16 : IVec S16 32) (v105 : IVec S16 32) : Prop :=
  (∀ a x, ((![v13, v105] : Fin 2 → IVec S16 32) a x).toNat < S512x128.size a) ∧
  (∀ a x, ((![v16, v105] : Fin 2 → IVec S16 32) a x).toNat < S400x128.size a)
theorem k0_idx89_inb : ∀ (v13 : IVec S16 32) (v16 : IVec S16 32) (v105 : IVec S16 32) (k0_hw45 : k0_chk45 v13 v16 v105), ∀ a x, ((![v13, v105] : Fin 2 → IVec S16 32) a x).toNat < S512x128.size a := fun v13 v16 v105 k0_hw45 => k0_hw45.1
theorem k0_idx90_inb : ∀ (v13 : IVec S16 32) (v16 : IVec S16 32) (v105 : IVec S16 32) (k0_hw45 : k0_chk45 v13 v16 v105), ∀ a x, ((![v16, v105] : Fin 2 → IVec S16 32) a x).toNat < S400x128.size a := fun v13 v16 v105 k0_hw45 => k0_hw45.2

def k0_chk46 (v13 : IVec S16 32) (v16 : IVec S16 32) (v107 : IVec S16 32) : Prop :=
  (∀ a x, ((![v13, v107] : Fin 2 → IVec S16 32) a x).toNat < S512x128.size a) ∧
  (∀ a x, ((![v16, v107] : Fin 2 → IVec S16 32) a x).toNat < S400x128.size a)
theorem k0_idx91_inb : ∀ (v13 : IVec S16 32) (v16 : IVec S16 32) (v107 : IVec S16 32) (k0_hw46 : k0_chk46 v13 v16 v107), ∀ a x, ((![v13, v107] : Fin 2 → IVec S16 32) a x).toNat < S512x128.size a := fun v13 v16 v107 k0_hw46 => k0_hw46.1
theorem k0_idx92_inb : ∀ (v13 : IVec S16 32) (v16 : IVec S16 32) (v107 : IVec S16 32) (k0_hw46 : k0_chk46 v13 v16 v107), ∀ a x, ((![v16, v107] : Fin 2 → IVec S16 32) a x).toNat < S400x128.size a := fun v13 v16 v107 k0_hw46 => k0_hw46.2

def k0_chk47 (v13 : IVec S16 32) (v16 : IVec S16 32) (v109 : IVec S16 32) : Prop :=
  (∀ a x, ((![v13, v109] : Fin 2 → IVec S16 32) a x).toNat < S512x128.size a) ∧
  (∀ a x, ((![v16, v109] : Fin 2 → IVec S16 32) a x).toNat < S400x128.size a)
theorem k0_idx93_inb : ∀ (v13 : IVec S16 32) (v16 : IVec S16 32) (v109 : IVec S16 32) (k0_hw47 : k0_chk47 v13 v16 v109), ∀ a x, ((![v13, v109] : Fin 2 → IVec S16 32) a x).toNat < S512x128.size a := fun v13 v16 v109 k0_hw47 => k0_hw47.1
theorem k0_idx94_inb : ∀ (v13 : IVec S16 32) (v16 : IVec S16 32) (v109 : IVec S16 32) (k0_hw47 : k0_chk47 v13 v16 v109), ∀ a x, ((![v16, v109] : Fin 2 → IVec S16 32) a x).toNat < S400x128.size a := fun v13 v16 v109 k0_hw47 => k0_hw47.2

def k0_chk48 (v13 : IVec S16 32) (v16 : IVec S16 32) (v111 : IVec S16 32) : Prop :=
  (∀ a x, ((![v13, v111] : Fin 2 → IVec S16 32) a x).toNat < S512x128.size a) ∧
  (∀ a x, ((![v16, v111] : Fin 2 → IVec S16 32) a x).toNat < S400x128.size a)
theorem k0_idx95_inb : ∀ (v13 : IVec S16 32) (v16 : IVec S16 32) (v111 : IVec S16 32) (k0_hw48 : k0_chk48 v13 v16 v111), ∀ a x, ((![v13, v111] : Fin 2 → IVec S16 32) a x).toNat < S512x128.size a := fun v13 v16 v111 k0_hw48 => k0_hw48.1
theorem k0_idx96_inb : ∀ (v13 : IVec S16 32) (v16 : IVec S16 32) (v111 : IVec S16 32) (k0_hw48 : k0_chk48 v13 v16 v111), ∀ a x, ((![v16, v111] : Fin 2 → IVec S16 32) a x).toNat < S400x128.size a := fun v13 v16 v111 k0_hw48 => k0_hw48.2

def k0_chk49 (v13 : IVec S16 32) (v16 : IVec S16 32) (v113 : IVec S16 32) : Prop :=
  (∀ a x, ((![v13, v113] : Fin 2 → IVec S16 32) a x).toNat < S512x128.size a) ∧
  (∀ a x, ((![v16, v113] : Fin 2 → IVec S16 32) a x).toNat < S400x128.size a)
theorem k0_idx97_inb : ∀ (v13 : IVec S16 32) (v16 : IVec S16 32) (v113 : IVec S16 32) (k0_hw49 : k0_chk49 v13 v16 v113), ∀ a x, ((![v13, v113] : Fin 2 → IVec S16 32) a x).toNat < S512x128.size a := fun v13 v16 v113 k0_hw49 => k0_hw49.1
theorem k0_idx98_inb : ∀ (v13 : IVec S16 32) (v16 : IVec S16 32) (v113 : IVec S16 32) (k0_hw49 : k0_chk49 v13 v16 v113), ∀ a x, ((![v16, v113] : Fin 2 → IVec S16 32) a x).toNat < S400x128.size a := fun v13 v16 v113 k0_hw49 => k0_hw49.2

def k0_chk50 (v13 : IVec S16 32) (v16 : IVec S16 32) (v115 : IVec S16 32) : Prop :=
  (∀ a x, ((![v13, v115] : Fin 2 → IVec S16 32) a x).toNat < S512x128.size a) ∧
  (∀ a x, ((![v16, v115] : Fin 2 → IVec S16 32) a x).toNat < S400x128.size a)
theorem k0_idx99_inb : ∀ (v13 : IVec S16 32) (v16 : IVec S16 32) (v115 : IVec S16 32) (k0_hw50 : k0_chk50 v13 v16 v115), ∀ a x, ((![v13, v115] : Fin 2 → IVec S16 32) a x).toNat < S512x128.size a := fun v13 v16 v115 k0_hw50 => k0_hw50.1
theorem k0_idx100_inb : ∀ (v13 : IVec S16 32) (v16 : IVec S16 32) (v115 : IVec S16 32) (k0_hw50 : k0_chk50 v13 v16 v115), ∀ a x, ((![v16, v115] : Fin 2 → IVec S16 32) a x).toNat < S400x128.size a := fun v13 v16 v115 k0_hw50 => k0_hw50.2

def k0_chk51 (v13 : IVec S16 32) (v16 : IVec S16 32) (v117 : IVec S16 32) : Prop :=
  (∀ a x, ((![v13, v117] : Fin 2 → IVec S16 32) a x).toNat < S512x128.size a) ∧
  (∀ a x, ((![v16, v117] : Fin 2 → IVec S16 32) a x).toNat < S400x128.size a)
theorem k0_idx101_inb : ∀ (v13 : IVec S16 32) (v16 : IVec S16 32) (v117 : IVec S16 32) (k0_hw51 : k0_chk51 v13 v16 v117), ∀ a x, ((![v13, v117] : Fin 2 → IVec S16 32) a x).toNat < S512x128.size a := fun v13 v16 v117 k0_hw51 => k0_hw51.1
theorem k0_idx102_inb : ∀ (v13 : IVec S16 32) (v16 : IVec S16 32) (v117 : IVec S16 32) (k0_hw51 : k0_chk51 v13 v16 v117), ∀ a x, ((![v16, v117] : Fin 2 → IVec S16 32) a x).toNat < S400x128.size a := fun v13 v16 v117 k0_hw51 => k0_hw51.2

def k0_chk52 (v13 : IVec S16 32) (v16 : IVec S16 32) (v119 : IVec S16 32) : Prop :=
  (∀ a x, ((![v13, v119] : Fin 2 → IVec S16 32) a x).toNat < S512x128.size a) ∧
  (∀ a x, ((![v16, v119] : Fin 2 → IVec S16 32) a x).toNat < S400x128.size a)
theorem k0_idx103_inb : ∀ (v13 : IVec S16 32) (v16 : IVec S16 32) (v119 : IVec S16 32) (k0_hw52 : k0_chk52 v13 v16 v119), ∀ a x, ((![v13, v119] : Fin 2 → IVec S16 32) a x).toNat < S512x128.size a := fun v13 v16 v119 k0_hw52 => k0_hw52.1
theorem k0_idx104_inb : ∀ (v13 : IVec S16 32) (v16 : IVec S16 32) (v119 : IVec S16 32) (k0_hw52 : k0_chk52 v13 v16 v119), ∀ a x, ((![v16, v119] : Fin 2 → IVec S16 32) a x).toNat < S400x128.size a := fun v13 v16 v119 k0_hw52 => k0_hw52.2

def k0_chk53 (v13 : IVec S16 32) (v16 : IVec S16 32) (v121 : IVec S16 32) : Prop :=
  (∀ a x, ((![v13, v121] : Fin 2 → IVec S16 32) a x).toNat < S512x128.size a) ∧
  (∀ a x, ((![v16, v121] : Fin 2 → IVec S16 32) a x).toNat < S400x128.size a)
theorem k0_idx105_inb : ∀ (v13 : IVec S16 32) (v16 : IVec S16 32) (v121 : IVec S16 32) (k0_hw53 : k0_chk53 v13 v16 v121), ∀ a x, ((![v13, v121] : Fin 2 → IVec S16 32) a x).toNat < S512x128.size a := fun v13 v16 v121 k0_hw53 => k0_hw53.1
theorem k0_idx106_inb : ∀ (v13 : IVec S16 32) (v16 : IVec S16 32) (v121 : IVec S16 32) (k0_hw53 : k0_chk53 v13 v16 v121), ∀ a x, ((![v16, v121] : Fin 2 → IVec S16 32) a x).toNat < S400x128.size a := fun v13 v16 v121 k0_hw53 => k0_hw53.2

def k0_chk54 (v13 : IVec S16 32) (v16 : IVec S16 32) (v123 : IVec S16 32) : Prop :=
  (∀ a x, ((![v13, v123] : Fin 2 → IVec S16 32) a x).toNat < S512x128.size a) ∧
  (∀ a x, ((![v16, v123] : Fin 2 → IVec S16 32) a x).toNat < S400x128.size a)
theorem k0_idx107_inb : ∀ (v13 : IVec S16 32) (v16 : IVec S16 32) (v123 : IVec S16 32) (k0_hw54 : k0_chk54 v13 v16 v123), ∀ a x, ((![v13, v123] : Fin 2 → IVec S16 32) a x).toNat < S512x128.size a := fun v13 v16 v123 k0_hw54 => k0_hw54.1
theorem k0_idx108_inb : ∀ (v13 : IVec S16 32) (v16 : IVec S16 32) (v123 : IVec S16 32) (k0_hw54 : k0_chk54 v13 v16 v123), ∀ a x, ((![v16, v123] : Fin 2 → IVec S16 32) a x).toNat < S400x128.size a := fun v13 v16 v123 k0_hw54 => k0_hw54.2

def k0_chk55 (v13 : IVec S16 32) (v16 : IVec S16 32) (v125 : IVec S16 32) : Prop :=
  (∀ a x, ((![v13, v125] : Fin 2 → IVec S16 32) a x).toNat < S512x128.size a) ∧
  (∀ a x, ((![v16, v125] : Fin 2 → IVec S16 32) a x).toNat < S400x128.size a)
theorem k0_idx109_inb : ∀ (v13 : IVec S16 32) (v16 : IVec S16 32) (v125 : IVec S16 32) (k0_hw55 : k0_chk55 v13 v16 v125), ∀ a x, ((![v13, v125] : Fin 2 → IVec S16 32) a x).toNat < S512x128.size a := fun v13 v16 v125 k0_hw55 => k0_hw55.1
theorem k0_idx110_inb : ∀ (v13 : IVec S16 32) (v16 : IVec S16 32) (v125 : IVec S16 32) (k0_hw55 : k0_chk55 v13 v16 v125), ∀ a x, ((![v16, v125] : Fin 2 → IVec S16 32) a x).toNat < S400x128.size a := fun v13 v16 v125 k0_hw55 => k0_hw55.2

def k0_chk56 (v13 : IVec S16 32) (v16 : IVec S16 32) (v127 : IVec S16 32) : Prop :=
  (∀ a x, ((![v13, v127] : Fin 2 → IVec S16 32) a x).toNat < S512x128.size a) ∧
  (∀ a x, ((![v16, v127] : Fin 2 → IVec S16 32) a x).toNat < S400x128.size a)
theorem k0_idx111_inb : ∀ (v13 : IVec S16 32) (v16 : IVec S16 32) (v127 : IVec S16 32) (k0_hw56 : k0_chk56 v13 v16 v127), ∀ a x, ((![v13, v127] : Fin 2 → IVec S16 32) a x).toNat < S512x128.size a := fun v13 v16 v127 k0_hw56 => k0_hw56.1
theorem k0_idx112_inb : ∀ (v13 : IVec S16 32) (v16 : IVec S16 32) (v127 : IVec S16 32) (k0_hw56 : k0_chk56 v13 v16 v127), ∀ a x, ((![v16, v127] : Fin 2 → IVec S16 32) a x).toNat < S400x128.size a := fun v13 v16 v127 k0_hw56 => k0_hw56.2

def k0_chk57 (v13 : IVec S16 32) (v16 : IVec S16 32) (v129 : IVec S16 32) : Prop :=
  (∀ a x, ((![v13, v129] : Fin 2 → IVec S16 32) a x).toNat < S512x128.size a) ∧
  (∀ a x, ((![v16, v129] : Fin 2 → IVec S16 32) a x).toNat < S400x128.size a)
theorem k0_idx113_inb : ∀ (v13 : IVec S16 32) (v16 : IVec S16 32) (v129 : IVec S16 32) (k0_hw57 : k0_chk57 v13 v16 v129), ∀ a x, ((![v13, v129] : Fin 2 → IVec S16 32) a x).toNat < S512x128.size a := fun v13 v16 v129 k0_hw57 => k0_hw57.1
theorem k0_idx114_inb : ∀ (v13 : IVec S16 32) (v16 : IVec S16 32) (v129 : IVec S16 32) (k0_hw57 : k0_chk57 v13 v16 v129), ∀ a x, ((![v16, v129] : Fin 2 → IVec S16 32) a x).toNat < S400x128.size a := fun v13 v16 v129 k0_hw57 => k0_hw57.2

def k0_chk58 (v13 : IVec S16 32) (v16 : IVec S16 32) (v131 : IVec S16 32) : Prop :=
  (∀ a x, ((![v13, v131] : Fin 2 → IVec S16 32) a x).toNat < S512x128.size a) ∧
  (∀ a x, ((![v16, v131] : Fin 2 → IVec S16 32) a x).toNat < S400x128.size a)
theorem k0_idx115_inb : ∀ (v13 : IVec S16 32) (v16 : IVec S16 32) (v131 : IVec S16 32) (k0_hw58 : k0_chk58 v13 v16 v131), ∀ a x, ((![v13, v131] : Fin 2 → IVec S16 32) a x).toNat < S512x128.size a := fun v13 v16 v131 k0_hw58 => k0_hw58.1
theorem k0_idx116_inb : ∀ (v13 : IVec S16 32) (v16 : IVec S16 32) (v131 : IVec S16 32) (k0_hw58 : k0_chk58 v13 v16 v131), ∀ a x, ((![v16, v131] : Fin 2 → IVec S16 32) a x).toNat < S400x128.size a := fun v13 v16 v131 k0_hw58 => k0_hw58.2

def k0_chk59 (v13 : IVec S16 32) (v16 : IVec S16 32) (v133 : IVec S16 32) : Prop :=
  (∀ a x, ((![v13, v133] : Fin 2 → IVec S16 32) a x).toNat < S512x128.size a) ∧
  (∀ a x, ((![v16, v133] : Fin 2 → IVec S16 32) a x).toNat < S400x128.size a)
theorem k0_idx117_inb : ∀ (v13 : IVec S16 32) (v16 : IVec S16 32) (v133 : IVec S16 32) (k0_hw59 : k0_chk59 v13 v16 v133), ∀ a x, ((![v13, v133] : Fin 2 → IVec S16 32) a x).toNat < S512x128.size a := fun v13 v16 v133 k0_hw59 => k0_hw59.1
theorem k0_idx118_inb : ∀ (v13 : IVec S16 32) (v16 : IVec S16 32) (v133 : IVec S16 32) (k0_hw59 : k0_chk59 v13 v16 v133), ∀ a x, ((![v16, v133] : Fin 2 → IVec S16 32) a x).toNat < S400x128.size a := fun v13 v16 v133 k0_hw59 => k0_hw59.2

def k0_chk60 (v13 : IVec S16 32) (v16 : IVec S16 32) (v135 : IVec S16 32) : Prop :=
  (∀ a x, ((![v13, v135] : Fin 2 → IVec S16 32) a x).toNat < S512x128.size a) ∧
  (∀ a x, ((![v16, v135] : Fin 2 → IVec S16 32) a x).toNat < S400x128.size a)
theorem k0_idx119_inb : ∀ (v13 : IVec S16 32) (v16 : IVec S16 32) (v135 : IVec S16 32) (k0_hw60 : k0_chk60 v13 v16 v135), ∀ a x, ((![v13, v135] : Fin 2 → IVec S16 32) a x).toNat < S512x128.size a := fun v13 v16 v135 k0_hw60 => k0_hw60.1
theorem k0_idx120_inb : ∀ (v13 : IVec S16 32) (v16 : IVec S16 32) (v135 : IVec S16 32) (k0_hw60 : k0_chk60 v13 v16 v135), ∀ a x, ((![v16, v135] : Fin 2 → IVec S16 32) a x).toNat < S400x128.size a := fun v13 v16 v135 k0_hw60 => k0_hw60.2

def k0_chk61 (v13 : IVec S16 32) (v16 : IVec S16 32) (v137 : IVec S16 32) : Prop :=
  (∀ a x, ((![v13, v137] : Fin 2 → IVec S16 32) a x).toNat < S512x128.size a) ∧
  (∀ a x, ((![v16, v137] : Fin 2 → IVec S16 32) a x).toNat < S400x128.size a)
theorem k0_idx121_inb : ∀ (v13 : IVec S16 32) (v16 : IVec S16 32) (v137 : IVec S16 32) (k0_hw61 : k0_chk61 v13 v16 v137), ∀ a x, ((![v13, v137] : Fin 2 → IVec S16 32) a x).toNat < S512x128.size a := fun v13 v16 v137 k0_hw61 => k0_hw61.1
theorem k0_idx122_inb : ∀ (v13 : IVec S16 32) (v16 : IVec S16 32) (v137 : IVec S16 32) (k0_hw61 : k0_chk61 v13 v16 v137), ∀ a x, ((![v16, v137] : Fin 2 → IVec S16 32) a x).toNat < S400x128.size a := fun v13 v16 v137 k0_hw61 => k0_hw61.2

def k0_chk62 (v13 : IVec S16 32) (v16 : IVec S16 32) (v139 : IVec S16 32) : Prop :=
  (∀ a x, ((![v13, v139] : Fin 2 → IVec S16 32) a x).toNat < S512x128.size a) ∧
  (∀ a x, ((![v16, v139] : Fin 2 → IVec S16 32) a x).toNat < S400x128.size a)
theorem k0_idx123_inb : ∀ (v13 : IVec S16 32) (v16 : IVec S16 32) (v139 : IVec S16 32) (k0_hw62 : k0_chk62 v13 v16 v139), ∀ a x, ((![v13, v139] : Fin 2 → IVec S16 32) a x).toNat < S512x128.size a := fun v13 v16 v139 k0_hw62 => k0_hw62.1
theorem k0_idx124_inb : ∀ (v13 : IVec S16 32) (v16 : IVec S16 32) (v139 : IVec S16 32) (k0_hw62 : k0_chk62 v13 v16 v139), ∀ a x, ((![v16, v139] : Fin 2 → IVec S16 32) a x).toNat < S400x128.size a := fun v13 v16 v139 k0_hw62 => k0_hw62.2

def k0_chk63 (v13 : IVec S16 32) (v16 : IVec S16 32) (v141 : IVec S16 32) : Prop :=
  (∀ a x, ((![v13, v141] : Fin 2 → IVec S16 32) a x).toNat < S512x128.size a) ∧
  (∀ a x, ((![v16, v141] : Fin 2 → IVec S16 32) a x).toNat < S400x128.size a)
theorem k0_idx125_inb : ∀ (v13 : IVec S16 32) (v16 : IVec S16 32) (v141 : IVec S16 32) (k0_hw63 : k0_chk63 v13 v16 v141), ∀ a x, ((![v13, v141] : Fin 2 → IVec S16 32) a x).toNat < S512x128.size a := fun v13 v16 v141 k0_hw63 => k0_hw63.1
theorem k0_idx126_inb : ∀ (v13 : IVec S16 32) (v16 : IVec S16 32) (v141 : IVec S16 32) (k0_hw63 : k0_chk63 v13 v16 v141), ∀ a x, ((![v16, v141] : Fin 2 → IVec S16 32) a x).toNat < S400x128.size a := fun v13 v16 v141 k0_hw63 => k0_hw63.2

def k0_chk64 (v13 : IVec S16 32) (v16 : IVec S16 32) (v143 : IVec S16 32) : Prop :=
  (∀ a x, ((![v13, v143] : Fin 2 → IVec S16 32) a x).toNat < S512x128.size a) ∧
  (∀ a x, ((![v16, v143] : Fin 2 → IVec S16 32) a x).toNat < S400x128.size a)
theorem k0_idx127_inb : ∀ (v13 : IVec S16 32) (v16 : IVec S16 32) (v143 : IVec S16 32) (k0_hw64 : k0_chk64 v13 v16 v143), ∀ a x, ((![v13, v143] : Fin 2 → IVec S16 32) a x).toNat < S512x128.size a := fun v13 v16 v143 k0_hw64 => k0_hw64.1
theorem k0_idx128_inb : ∀ (v13 : IVec S16 32) (v16 : IVec S16 32) (v143 : IVec S16 32) (k0_hw64 : k0_chk64 v13 v16 v143), ∀ a x, ((![v16, v143] : Fin 2 → IVec S16 32) a x).toNat < S400x128.size a := fun v13 v16 v143 k0_hw64 => k0_hw64.2

def k0_chk65 (v13 : IVec S16 32) (v16 : IVec S16 32) (v145 : IVec S16 32) : Prop :=
  (∀ a x, ((![v13, v145] : Fin 2 → IVec S16 32) a x).toNat < S512x128.size a) ∧
  (∀ a x, ((![v16, v145] : Fin 2 → IVec S16 32) a x).toNat < S400x128.size a)
theorem k0_idx129_inb : ∀ (v13 : IVec S16 32) (v16 : IVec S16 32) (v145 : IVec S16 32) (k0_hw65 : k0_chk65 v13 v16 v145), ∀ a x, ((![v13, v145] : Fin 2 → IVec S16 32) a x).toNat < S512x128.size a := fun v13 v16 v145 k0_hw65 => k0_hw65.1
theorem k0_idx130_inb : ∀ (v13 : IVec S16 32) (v16 : IVec S16 32) (v145 : IVec S16 32) (k0_hw65 : k0_chk65 v13 v16 v145), ∀ a x, ((![v16, v145] : Fin 2 → IVec S16 32) a x).toNat < S400x128.size a := fun v13 v16 v145 k0_hw65 => k0_hw65.2

def k0_chk66 (v13 : IVec S16 32) (v16 : IVec S16 32) (v147 : IVec S16 32) : Prop :=
  (∀ a x, ((![v13, v147] : Fin 2 → IVec S16 32) a x).toNat < S512x128.size a) ∧
  (∀ a x, ((![v16, v147] : Fin 2 → IVec S16 32) a x).toNat < S400x128.size a)
theorem k0_idx131_inb : ∀ (v13 : IVec S16 32) (v16 : IVec S16 32) (v147 : IVec S16 32) (k0_hw66 : k0_chk66 v13 v16 v147), ∀ a x, ((![v13, v147] : Fin 2 → IVec S16 32) a x).toNat < S512x128.size a := fun v13 v16 v147 k0_hw66 => k0_hw66.1
theorem k0_idx132_inb : ∀ (v13 : IVec S16 32) (v16 : IVec S16 32) (v147 : IVec S16 32) (k0_hw66 : k0_chk66 v13 v16 v147), ∀ a x, ((![v16, v147] : Fin 2 → IVec S16 32) a x).toNat < S400x128.size a := fun v13 v16 v147 k0_hw66 => k0_hw66.2

def k0_chk67 (v13 : IVec S16 32) (v16 : IVec S16 32) (v149 : IVec S16 32) : Prop :=
  (∀ a x, ((![v13, v149] : Fin 2 → IVec S16 32) a x).toNat < S512x128.size a) ∧
  (∀ a x, ((![v16, v149] : Fin 2 → IVec S16 32) a x).toNat < S400x128.size a)
theorem k0_idx133_inb : ∀ (v13 : IVec S16 32) (v16 : IVec S16 32) (v149 : IVec S16 32) (k0_hw67 : k0_chk67 v13 v16 v149), ∀ a x, ((![v13, v149] : Fin 2 → IVec S16 32) a x).toNat < S512x128.size a := fun v13 v16 v149 k0_hw67 => k0_hw67.1
theorem k0_idx134_inb : ∀ (v13 : IVec S16 32) (v16 : IVec S16 32) (v149 : IVec S16 32) (k0_hw67 : k0_chk67 v13 v16 v149), ∀ a x, ((![v16, v149] : Fin 2 → IVec S16 32) a x).toNat < S400x128.size a := fun v13 v16 v149 k0_hw67 => k0_hw67.2

def k0_chk68 (v13 : IVec S16 32) (v16 : IVec S16 32) (v151 : IVec S16 32) : Prop :=
  (∀ a x, ((![v13, v151] : Fin 2 → IVec S16 32) a x).toNat < S512x128.size a) ∧
  (∀ a x, ((![v16, v151] : Fin 2 → IVec S16 32) a x).toNat < S400x128.size a)
theorem k0_idx135_inb : ∀ (v13 : IVec S16 32) (v16 : IVec S16 32) (v151 : IVec S16 32) (k0_hw68 : k0_chk68 v13 v16 v151), ∀ a x, ((![v13, v151] : Fin 2 → IVec S16 32) a x).toNat < S512x128.size a := fun v13 v16 v151 k0_hw68 => k0_hw68.1
theorem k0_idx136_inb : ∀ (v13 : IVec S16 32) (v16 : IVec S16 32) (v151 : IVec S16 32) (k0_hw68 : k0_chk68 v13 v16 v151), ∀ a x, ((![v16, v151] : Fin 2 → IVec S16 32) a x).toNat < S400x128.size a := fun v13 v16 v151 k0_hw68 => k0_hw68.2

def k0_chk69 (v13 : IVec S16 32) (v16 : IVec S16 32) (v153 : IVec S16 32) : Prop :=
  (∀ a x, ((![v13, v153] : Fin 2 → IVec S16 32) a x).toNat < S512x128.size a) ∧
  (∀ a x, ((![v16, v153] : Fin 2 → IVec S16 32) a x).toNat < S400x128.size a)
theorem k0_idx137_inb : ∀ (v13 : IVec S16 32) (v16 : IVec S16 32) (v153 : IVec S16 32) (k0_hw69 : k0_chk69 v13 v16 v153), ∀ a x, ((![v13, v153] : Fin 2 → IVec S16 32) a x).toNat < S512x128.size a := fun v13 v16 v153 k0_hw69 => k0_hw69.1
theorem k0_idx138_inb : ∀ (v13 : IVec S16 32) (v16 : IVec S16 32) (v153 : IVec S16 32) (k0_hw69 : k0_chk69 v13 v16 v153), ∀ a x, ((![v16, v153] : Fin 2 → IVec S16 32) a x).toNat < S400x128.size a := fun v13 v16 v153 k0_hw69 => k0_hw69.2

def k0_chk70 (v13 : IVec S16 32) (v16 : IVec S16 32) (v155 : IVec S16 32) : Prop :=
  (∀ a x, ((![v13, v155] : Fin 2 → IVec S16 32) a x).toNat < S512x128.size a) ∧
  (∀ a x, ((![v16, v155] : Fin 2 → IVec S16 32) a x).toNat < S400x128.size a)
theorem k0_idx139_inb : ∀ (v13 : IVec S16 32) (v16 : IVec S16 32) (v155 : IVec S16 32) (k0_hw70 : k0_chk70 v13 v16 v155), ∀ a x, ((![v13, v155] : Fin 2 → IVec S16 32) a x).toNat < S512x128.size a := fun v13 v16 v155 k0_hw70 => k0_hw70.1
theorem k0_idx140_inb : ∀ (v13 : IVec S16 32) (v16 : IVec S16 32) (v155 : IVec S16 32) (k0_hw70 : k0_chk70 v13 v16 v155), ∀ a x, ((![v16, v155] : Fin 2 → IVec S16 32) a x).toNat < S400x128.size a := fun v13 v16 v155 k0_hw70 => k0_hw70.2

def k0_chk71 (v13 : IVec S16 32) (v16 : IVec S16 32) (v157 : IVec S16 32) : Prop :=
  (∀ a x, ((![v13, v157] : Fin 2 → IVec S16 32) a x).toNat < S512x128.size a) ∧
  (∀ a x, ((![v16, v157] : Fin 2 → IVec S16 32) a x).toNat < S400x128.size a)
theorem k0_idx141_inb : ∀ (v13 : IVec S16 32) (v16 : IVec S16 32) (v157 : IVec S16 32) (k0_hw71 : k0_chk71 v13 v16 v157), ∀ a x, ((![v13, v157] : Fin 2 → IVec S16 32) a x).toNat < S512x128.size a := fun v13 v16 v157 k0_hw71 => k0_hw71.1
theorem k0_idx142_inb : ∀ (v13 : IVec S16 32) (v16 : IVec S16 32) (v157 : IVec S16 32) (k0_hw71 : k0_chk71 v13 v16 v157), ∀ a x, ((![v16, v157] : Fin 2 → IVec S16 32) a x).toNat < S400x128.size a := fun v13 v16 v157 k0_hw71 => k0_hw71.2

def k0_chk72 (v13 : IVec S16 32) (v16 : IVec S16 32) (v159 : IVec S16 32) : Prop :=
  (∀ a x, ((![v13, v159] : Fin 2 → IVec S16 32) a x).toNat < S512x128.size a) ∧
  (∀ a x, ((![v16, v159] : Fin 2 → IVec S16 32) a x).toNat < S400x128.size a)
theorem k0_idx143_inb : ∀ (v13 : IVec S16 32) (v16 : IVec S16 32) (v159 : IVec S16 32) (k0_hw72 : k0_chk72 v13 v16 v159), ∀ a x, ((![v13, v159] : Fin 2 → IVec S16 32) a x).toNat < S512x128.size a := fun v13 v16 v159 k0_hw72 => k0_hw72.1
theorem k0_idx144_inb : ∀ (v13 : IVec S16 32) (v16 : IVec S16 32) (v159 : IVec S16 32) (k0_hw72 : k0_chk72 v13 v16 v159), ∀ a x, ((![v16, v159] : Fin 2 → IVec S16 32) a x).toNat < S400x128.size a := fun v13 v16 v159 k0_hw72 => k0_hw72.2

def k0_chk73 (v13 : IVec S16 32) (v16 : IVec S16 32) (v161 : IVec S16 32) : Prop :=
  (∀ a x, ((![v13, v161] : Fin 2 → IVec S16 32) a x).toNat < S512x128.size a) ∧
  (∀ a x, ((![v16, v161] : Fin 2 → IVec S16 32) a x).toNat < S400x128.size a)
theorem k0_idx145_inb : ∀ (v13 : IVec S16 32) (v16 : IVec S16 32) (v161 : IVec S16 32) (k0_hw73 : k0_chk73 v13 v16 v161), ∀ a x, ((![v13, v161] : Fin 2 → IVec S16 32) a x).toNat < S512x128.size a := fun v13 v16 v161 k0_hw73 => k0_hw73.1
theorem k0_idx146_inb : ∀ (v13 : IVec S16 32) (v16 : IVec S16 32) (v161 : IVec S16 32) (k0_hw73 : k0_chk73 v13 v16 v161), ∀ a x, ((![v16, v161] : Fin 2 → IVec S16 32) a x).toNat < S400x128.size a := fun v13 v16 v161 k0_hw73 => k0_hw73.2

def k0_chk74 (v13 : IVec S16 32) (v16 : IVec S16 32) (v163 : IVec S16 32) : Prop :=
  (∀ a x, ((![v13, v163] : Fin 2 → IVec S16 32) a x).toNat < S512x128.size a) ∧
  (∀ a x, ((![v16, v163] : Fin 2 → IVec S16 32) a x).toNat < S400x128.size a)
theorem k0_idx147_inb : ∀ (v13 : IVec S16 32) (v16 : IVec S16 32) (v163 : IVec S16 32) (k0_hw74 : k0_chk74 v13 v16 v163), ∀ a x, ((![v13, v163] : Fin 2 → IVec S16 32) a x).toNat < S512x128.size a := fun v13 v16 v163 k0_hw74 => k0_hw74.1
theorem k0_idx148_inb : ∀ (v13 : IVec S16 32) (v16 : IVec S16 32) (v163 : IVec S16 32) (k0_hw74 : k0_chk74 v13 v16 v163), ∀ a x, ((![v16, v163] : Fin 2 → IVec S16 32) a x).toNat < S400x128.size a := fun v13 v16 v163 k0_hw74 => k0_hw74.2

def k0_chk75 (v13 : IVec S16 32) (v16 : IVec S16 32) (v165 : IVec S16 32) : Prop :=
  (∀ a x, ((![v13, v165] : Fin 2 → IVec S16 32) a x).toNat < S512x128.size a) ∧
  (∀ a x, ((![v16, v165] : Fin 2 → IVec S16 32) a x).toNat < S400x128.size a)
theorem k0_idx149_inb : ∀ (v13 : IVec S16 32) (v16 : IVec S16 32) (v165 : IVec S16 32) (k0_hw75 : k0_chk75 v13 v16 v165), ∀ a x, ((![v13, v165] : Fin 2 → IVec S16 32) a x).toNat < S512x128.size a := fun v13 v16 v165 k0_hw75 => k0_hw75.1
theorem k0_idx150_inb : ∀ (v13 : IVec S16 32) (v16 : IVec S16 32) (v165 : IVec S16 32) (k0_hw75 : k0_chk75 v13 v16 v165), ∀ a x, ((![v16, v165] : Fin 2 → IVec S16 32) a x).toNat < S400x128.size a := fun v13 v16 v165 k0_hw75 => k0_hw75.2

def k0_chk76 (v13 : IVec S16 32) (v16 : IVec S16 32) (v167 : IVec S16 32) : Prop :=
  (∀ a x, ((![v13, v167] : Fin 2 → IVec S16 32) a x).toNat < S512x128.size a) ∧
  (∀ a x, ((![v16, v167] : Fin 2 → IVec S16 32) a x).toNat < S400x128.size a)
theorem k0_idx151_inb : ∀ (v13 : IVec S16 32) (v16 : IVec S16 32) (v167 : IVec S16 32) (k0_hw76 : k0_chk76 v13 v16 v167), ∀ a x, ((![v13, v167] : Fin 2 → IVec S16 32) a x).toNat < S512x128.size a := fun v13 v16 v167 k0_hw76 => k0_hw76.1
theorem k0_idx152_inb : ∀ (v13 : IVec S16 32) (v16 : IVec S16 32) (v167 : IVec S16 32) (k0_hw76 : k0_chk76 v13 v16 v167), ∀ a x, ((![v16, v167] : Fin 2 → IVec S16 32) a x).toNat < S400x128.size a := fun v13 v16 v167 k0_hw76 => k0_hw76.2

def k0_chk77 (v13 : IVec S16 32) (v16 : IVec S16 32) (v169 : IVec S16 32) : Prop :=
  (∀ a x, ((![v13, v169] : Fin 2 → IVec S16 32) a x).toNat < S512x128.size a) ∧
  (∀ a x, ((![v16, v169] : Fin 2 → IVec S16 32) a x).toNat < S400x128.size a)
theorem k0_idx153_inb : ∀ (v13 : IVec S16 32) (v16 : IVec S16 32) (v169 : IVec S16 32) (k0_hw77 : k0_chk77 v13 v16 v169), ∀ a x, ((![v13, v169] : Fin 2 → IVec S16 32) a x).toNat < S512x128.size a := fun v13 v16 v169 k0_hw77 => k0_hw77.1
theorem k0_idx154_inb : ∀ (v13 : IVec S16 32) (v16 : IVec S16 32) (v169 : IVec S16 32) (k0_hw77 : k0_chk77 v13 v16 v169), ∀ a x, ((![v16, v169] : Fin 2 → IVec S16 32) a x).toNat < S400x128.size a := fun v13 v16 v169 k0_hw77 => k0_hw77.2

def k0_chk78 (v13 : IVec S16 32) (v16 : IVec S16 32) (v171 : IVec S16 32) : Prop :=
  (∀ a x, ((![v13, v171] : Fin 2 → IVec S16 32) a x).toNat < S512x128.size a) ∧
  (∀ a x, ((![v16, v171] : Fin 2 → IVec S16 32) a x).toNat < S400x128.size a)
theorem k0_idx155_inb : ∀ (v13 : IVec S16 32) (v16 : IVec S16 32) (v171 : IVec S16 32) (k0_hw78 : k0_chk78 v13 v16 v171), ∀ a x, ((![v13, v171] : Fin 2 → IVec S16 32) a x).toNat < S512x128.size a := fun v13 v16 v171 k0_hw78 => k0_hw78.1
theorem k0_idx156_inb : ∀ (v13 : IVec S16 32) (v16 : IVec S16 32) (v171 : IVec S16 32) (k0_hw78 : k0_chk78 v13 v16 v171), ∀ a x, ((![v16, v171] : Fin 2 → IVec S16 32) a x).toNat < S400x128.size a := fun v13 v16 v171 k0_hw78 => k0_hw78.2

def k0_chk79 (v13 : IVec S16 32) (v16 : IVec S16 32) (v173 : IVec S16 32) : Prop :=
  (∀ a x, ((![v13, v173] : Fin 2 → IVec S16 32) a x).toNat < S512x128.size a) ∧
  (∀ a x, ((![v16, v173] : Fin 2 → IVec S16 32) a x).toNat < S400x128.size a)
theorem k0_idx157_inb : ∀ (v13 : IVec S16 32) (v16 : IVec S16 32) (v173 : IVec S16 32) (k0_hw79 : k0_chk79 v13 v16 v173), ∀ a x, ((![v13, v173] : Fin 2 → IVec S16 32) a x).toNat < S512x128.size a := fun v13 v16 v173 k0_hw79 => k0_hw79.1
theorem k0_idx158_inb : ∀ (v13 : IVec S16 32) (v16 : IVec S16 32) (v173 : IVec S16 32) (k0_hw79 : k0_chk79 v13 v16 v173), ∀ a x, ((![v16, v173] : Fin 2 → IVec S16 32) a x).toNat < S400x128.size a := fun v13 v16 v173 k0_hw79 => k0_hw79.2

def k0_chk80 (v13 : IVec S16 32) (v16 : IVec S16 32) (v175 : IVec S16 32) : Prop :=
  (∀ a x, ((![v13, v175] : Fin 2 → IVec S16 32) a x).toNat < S512x128.size a) ∧
  (∀ a x, ((![v16, v175] : Fin 2 → IVec S16 32) a x).toNat < S400x128.size a)
theorem k0_idx159_inb : ∀ (v13 : IVec S16 32) (v16 : IVec S16 32) (v175 : IVec S16 32) (k0_hw80 : k0_chk80 v13 v16 v175), ∀ a x, ((![v13, v175] : Fin 2 → IVec S16 32) a x).toNat < S512x128.size a := fun v13 v16 v175 k0_hw80 => k0_hw80.1
theorem k0_idx160_inb : ∀ (v13 : IVec S16 32) (v16 : IVec S16 32) (v175 : IVec S16 32) (k0_hw80 : k0_chk80 v13 v16 v175), ∀ a x, ((![v16, v175] : Fin 2 → IVec S16 32) a x).toNat < S400x128.size a := fun v13 v16 v175 k0_hw80 => k0_hw80.2

def k0_chk81 (v13 : IVec S16 32) (v16 : IVec S16 32) (v177 : IVec S16 32) : Prop :=
  (∀ a x, ((![v13, v177] : Fin 2 → IVec S16 32) a x).toNat < S512x128.size a) ∧
  (∀ a x, ((![v16, v177] : Fin 2 → IVec S16 32) a x).toNat < S400x128.size a)
theorem k0_idx161_inb : ∀ (v13 : IVec S16 32) (v16 : IVec S16 32) (v177 : IVec S16 32) (k0_hw81 : k0_chk81 v13 v16 v177), ∀ a x, ((![v13, v177] : Fin 2 → IVec S16 32) a x).toNat < S512x128.size a := fun v13 v16 v177 k0_hw81 => k0_hw81.1
theorem k0_idx162_inb : ∀ (v13 : IVec S16 32) (v16 : IVec S16 32) (v177 : IVec S16 32) (k0_hw81 : k0_chk81 v13 v16 v177), ∀ a x, ((![v16, v177] : Fin 2 → IVec S16 32) a x).toNat < S400x128.size a := fun v13 v16 v177 k0_hw81 => k0_hw81.2

def k0_chk82 (v13 : IVec S16 32) (v16 : IVec S16 32) (v179 : IVec S16 32) : Prop :=
  (∀ a x, ((![v13, v179] : Fin 2 → IVec S16 32) a x).toNat < S512x128.size a) ∧
  (∀ a x, ((![v16, v179] : Fin 2 → IVec S16 32) a x).toNat < S400x128.size a)
theorem k0_idx163_inb : ∀ (v13 : IVec S16 32) (v16 : IVec S16 32) (v179 : IVec S16 32) (k0_hw82 : k0_chk82 v13 v16 v179), ∀ a x, ((![v13, v179] : Fin 2 → IVec S16 32) a x).toNat < S512x128.size a := fun v13 v16 v179 k0_hw82 => k0_hw82.1
theorem k0_idx164_inb : ∀ (v13 : IVec S16 32) (v16 : IVec S16 32) (v179 : IVec S16 32) (k0_hw82 : k0_chk82 v13 v16 v179), ∀ a x, ((![v16, v179] : Fin 2 → IVec S16 32) a x).toNat < S400x128.size a := fun v13 v16 v179 k0_hw82 => k0_hw82.2

def k0_chk83 (v13 : IVec S16 32) (v16 : IVec S16 32) (v181 : IVec S16 32) : Prop :=
  (∀ a x, ((![v13, v181] : Fin 2 → IVec S16 32) a x).toNat < S512x128.size a) ∧
  (∀ a x, ((![v16, v181] : Fin 2 → IVec S16 32) a x).toNat < S400x128.size a)
theorem k0_idx165_inb : ∀ (v13 : IVec S16 32) (v16 : IVec S16 32) (v181 : IVec S16 32) (k0_hw83 : k0_chk83 v13 v16 v181), ∀ a x, ((![v13, v181] : Fin 2 → IVec S16 32) a x).toNat < S512x128.size a := fun v13 v16 v181 k0_hw83 => k0_hw83.1
theorem k0_idx166_inb : ∀ (v13 : IVec S16 32) (v16 : IVec S16 32) (v181 : IVec S16 32) (k0_hw83 : k0_chk83 v13 v16 v181), ∀ a x, ((![v16, v181] : Fin 2 → IVec S16 32) a x).toNat < S400x128.size a := fun v13 v16 v181 k0_hw83 => k0_hw83.2

def k0_chk84 (v13 : IVec S16 32) (v16 : IVec S16 32) (v183 : IVec S16 32) : Prop :=
  (∀ a x, ((![v13, v183] : Fin 2 → IVec S16 32) a x).toNat < S512x128.size a) ∧
  (∀ a x, ((![v16, v183] : Fin 2 → IVec S16 32) a x).toNat < S400x128.size a)
theorem k0_idx167_inb : ∀ (v13 : IVec S16 32) (v16 : IVec S16 32) (v183 : IVec S16 32) (k0_hw84 : k0_chk84 v13 v16 v183), ∀ a x, ((![v13, v183] : Fin 2 → IVec S16 32) a x).toNat < S512x128.size a := fun v13 v16 v183 k0_hw84 => k0_hw84.1
theorem k0_idx168_inb : ∀ (v13 : IVec S16 32) (v16 : IVec S16 32) (v183 : IVec S16 32) (k0_hw84 : k0_chk84 v13 v16 v183), ∀ a x, ((![v16, v183] : Fin 2 → IVec S16 32) a x).toNat < S400x128.size a := fun v13 v16 v183 k0_hw84 => k0_hw84.2

def k0_chk85 (v13 : IVec S16 32) (v16 : IVec S16 32) (v185 : IVec S16 32) : Prop :=
  (∀ a x, ((![v13, v185] : Fin 2 → IVec S16 32) a x).toNat < S512x128.size a) ∧
  (∀ a x, ((![v16, v185] : Fin 2 → IVec S16 32) a x).toNat < S400x128.size a)
theorem k0_idx169_inb : ∀ (v13 : IVec S16 32) (v16 : IVec S16 32) (v185 : IVec S16 32) (k0_hw85 : k0_chk85 v13 v16 v185), ∀ a x, ((![v13, v185] : Fin 2 → IVec S16 32) a x).toNat < S512x128.size a := fun v13 v16 v185 k0_hw85 => k0_hw85.1
theorem k0_idx170_inb : ∀ (v13 : IVec S16 32) (v16 : IVec S16 32) (v185 : IVec S16 32) (k0_hw85 : k0_chk85 v13 v16 v185), ∀ a x, ((![v16, v185] : Fin 2 → IVec S16 32) a x).toNat < S400x128.size a := fun v13 v16 v185 k0_hw85 => k0_hw85.2

def k0_chk86 (v13 : IVec S16 32) (v16 : IVec S16 32) (v187 : IVec S16 32) : Prop :=
  (∀ a x, ((![v13, v187] : Fin 2 → IVec S16 32) a x).toNat < S512x128.size a) ∧
  (∀ a x, ((![v16, v187] : Fin 2 → IVec S16 32) a x).toNat < S400x128.size a)
theorem k0_idx171_inb : ∀ (v13 : IVec S16 32) (v16 : IVec S16 32) (v187 : IVec S16 32) (k0_hw86 : k0_chk86 v13 v16 v187), ∀ a x, ((![v13, v187] : Fin 2 → IVec S16 32) a x).toNat < S512x128.size a := fun v13 v16 v187 k0_hw86 => k0_hw86.1
theorem k0_idx172_inb : ∀ (v13 : IVec S16 32) (v16 : IVec S16 32) (v187 : IVec S16 32) (k0_hw86 : k0_chk86 v13 v16 v187), ∀ a x, ((![v16, v187] : Fin 2 → IVec S16 32) a x).toNat < S400x128.size a := fun v13 v16 v187 k0_hw86 => k0_hw86.2

def k0_chk87 (v13 : IVec S16 32) (v16 : IVec S16 32) (v189 : IVec S16 32) : Prop :=
  (∀ a x, ((![v13, v189] : Fin 2 → IVec S16 32) a x).toNat < S512x128.size a) ∧
  (∀ a x, ((![v16, v189] : Fin 2 → IVec S16 32) a x).toNat < S400x128.size a)
theorem k0_idx173_inb : ∀ (v13 : IVec S16 32) (v16 : IVec S16 32) (v189 : IVec S16 32) (k0_hw87 : k0_chk87 v13 v16 v189), ∀ a x, ((![v13, v189] : Fin 2 → IVec S16 32) a x).toNat < S512x128.size a := fun v13 v16 v189 k0_hw87 => k0_hw87.1
theorem k0_idx174_inb : ∀ (v13 : IVec S16 32) (v16 : IVec S16 32) (v189 : IVec S16 32) (k0_hw87 : k0_chk87 v13 v16 v189), ∀ a x, ((![v16, v189] : Fin 2 → IVec S16 32) a x).toNat < S400x128.size a := fun v13 v16 v189 k0_hw87 => k0_hw87.2

def k0_chk88 (v13 : IVec S16 32) (v16 : IVec S16 32) (v191 : IVec S16 32) : Prop :=
  (∀ a x, ((![v13, v191] : Fin 2 → IVec S16 32) a x).toNat < S512x128.size a) ∧
  (∀ a x, ((![v16, v191] : Fin 2 → IVec S16 32) a x).toNat < S400x128.size a)
theorem k0_idx175_inb : ∀ (v13 : IVec S16 32) (v16 : IVec S16 32) (v191 : IVec S16 32) (k0_hw88 : k0_chk88 v13 v16 v191), ∀ a x, ((![v13, v191] : Fin 2 → IVec S16 32) a x).toNat < S512x128.size a := fun v13 v16 v191 k0_hw88 => k0_hw88.1
theorem k0_idx176_inb : ∀ (v13 : IVec S16 32) (v16 : IVec S16 32) (v191 : IVec S16 32) (k0_hw88 : k0_chk88 v13 v16 v191), ∀ a x, ((![v16, v191] : Fin 2 → IVec S16 32) a x).toNat < S400x128.size a := fun v13 v16 v191 k0_hw88 => k0_hw88.2

def k0_chk89 (v13 : IVec S16 32) (v16 : IVec S16 32) (v193 : IVec S16 32) : Prop :=
  (∀ a x, ((![v13, v193] : Fin 2 → IVec S16 32) a x).toNat < S512x128.size a) ∧
  (∀ a x, ((![v16, v193] : Fin 2 → IVec S16 32) a x).toNat < S400x128.size a)
theorem k0_idx177_inb : ∀ (v13 : IVec S16 32) (v16 : IVec S16 32) (v193 : IVec S16 32) (k0_hw89 : k0_chk89 v13 v16 v193), ∀ a x, ((![v13, v193] : Fin 2 → IVec S16 32) a x).toNat < S512x128.size a := fun v13 v16 v193 k0_hw89 => k0_hw89.1
theorem k0_idx178_inb : ∀ (v13 : IVec S16 32) (v16 : IVec S16 32) (v193 : IVec S16 32) (k0_hw89 : k0_chk89 v13 v16 v193), ∀ a x, ((![v16, v193] : Fin 2 → IVec S16 32) a x).toNat < S400x128.size a := fun v13 v16 v193 k0_hw89 => k0_hw89.2

def k0_chk90 (v13 : IVec S16 32) (v16 : IVec S16 32) (v195 : IVec S16 32) : Prop :=
  (∀ a x, ((![v13, v195] : Fin 2 → IVec S16 32) a x).toNat < S512x128.size a) ∧
  (∀ a x, ((![v16, v195] : Fin 2 → IVec S16 32) a x).toNat < S400x128.size a)
theorem k0_idx179_inb : ∀ (v13 : IVec S16 32) (v16 : IVec S16 32) (v195 : IVec S16 32) (k0_hw90 : k0_chk90 v13 v16 v195), ∀ a x, ((![v13, v195] : Fin 2 → IVec S16 32) a x).toNat < S512x128.size a := fun v13 v16 v195 k0_hw90 => k0_hw90.1
theorem k0_idx180_inb : ∀ (v13 : IVec S16 32) (v16 : IVec S16 32) (v195 : IVec S16 32) (k0_hw90 : k0_chk90 v13 v16 v195), ∀ a x, ((![v16, v195] : Fin 2 → IVec S16 32) a x).toNat < S400x128.size a := fun v13 v16 v195 k0_hw90 => k0_hw90.2

def k0_chk91 (v13 : IVec S16 32) (v16 : IVec S16 32) (v197 : IVec S16 32) : Prop :=
  (∀ a x, ((![v13, v197] : Fin 2 → IVec S16 32) a x).toNat < S512x128.size a) ∧
  (∀ a x, ((![v16, v197] : Fin 2 → IVec S16 32) a x).toNat < S400x128.size a)
theorem k0_idx181_inb : ∀ (v13 : IVec S16 32) (v16 : IVec S16 32) (v197 : IVec S16 32) (k0_hw91 : k0_chk91 v13 v16 v197), ∀ a x, ((![v13, v197] : Fin 2 → IVec S16 32) a x).toNat < S512x128.size a := fun v13 v16 v197 k0_hw91 => k0_hw91.1
theorem k0_idx182_inb : ∀ (v13 : IVec S16 32) (v16 : IVec S16 32) (v197 : IVec S16 32) (k0_hw91 : k0_chk91 v13 v16 v197), ∀ a x, ((![v16, v197] : Fin 2 → IVec S16 32) a x).toNat < S400x128.size a := fun v13 v16 v197 k0_hw91 => k0_hw91.2

def k0_chk92 (v13 : IVec S16 32) (v16 : IVec S16 32) (v199 : IVec S16 32) : Prop :=
  (∀ a x, ((![v13, v199] : Fin 2 → IVec S16 32) a x).toNat < S512x128.size a) ∧
  (∀ a x, ((![v16, v199] : Fin 2 → IVec S16 32) a x).toNat < S400x128.size a)
theorem k0_idx183_inb : ∀ (v13 : IVec S16 32) (v16 : IVec S16 32) (v199 : IVec S16 32) (k0_hw92 : k0_chk92 v13 v16 v199), ∀ a x, ((![v13, v199] : Fin 2 → IVec S16 32) a x).toNat < S512x128.size a := fun v13 v16 v199 k0_hw92 => k0_hw92.1
theorem k0_idx184_inb : ∀ (v13 : IVec S16 32) (v16 : IVec S16 32) (v199 : IVec S16 32) (k0_hw92 : k0_chk92 v13 v16 v199), ∀ a x, ((![v16, v199] : Fin 2 → IVec S16 32) a x).toNat < S400x128.size a := fun v13 v16 v199 k0_hw92 => k0_hw92.2

def k0_chk93 (v13 : IVec S16 32) (v16 : IVec S16 32) (v201 : IVec S16 32) : Prop :=
  (∀ a x, ((![v13, v201] : Fin 2 → IVec S16 32) a x).toNat < S512x128.size a) ∧
  (∀ a x, ((![v16, v201] : Fin 2 → IVec S16 32) a x).toNat < S400x128.size a)
theorem k0_idx185_inb : ∀ (v13 : IVec S16 32) (v16 : IVec S16 32) (v201 : IVec S16 32) (k0_hw93 : k0_chk93 v13 v16 v201), ∀ a x, ((![v13, v201] : Fin 2 → IVec S16 32) a x).toNat < S512x128.size a := fun v13 v16 v201 k0_hw93 => k0_hw93.1
theorem k0_idx186_inb : ∀ (v13 : IVec S16 32) (v16 : IVec S16 32) (v201 : IVec S16 32) (k0_hw93 : k0_chk93 v13 v16 v201), ∀ a x, ((![v16, v201] : Fin 2 → IVec S16 32) a x).toNat < S400x128.size a := fun v13 v16 v201 k0_hw93 => k0_hw93.2

def k0_chk94 (v13 : IVec S16 32) (v16 : IVec S16 32) (v203 : IVec S16 32) : Prop :=
  (∀ a x, ((![v13, v203] : Fin 2 → IVec S16 32) a x).toNat < S512x128.size a) ∧
  (∀ a x, ((![v16, v203] : Fin 2 → IVec S16 32) a x).toNat < S400x128.size a)
theorem k0_idx187_inb : ∀ (v13 : IVec S16 32) (v16 : IVec S16 32) (v203 : IVec S16 32) (k0_hw94 : k0_chk94 v13 v16 v203), ∀ a x, ((![v13, v203] : Fin 2 → IVec S16 32) a x).toNat < S512x128.size a := fun v13 v16 v203 k0_hw94 => k0_hw94.1
theorem k0_idx188_inb : ∀ (v13 : IVec S16 32) (v16 : IVec S16 32) (v203 : IVec S16 32) (k0_hw94 : k0_chk94 v13 v16 v203), ∀ a x, ((![v16, v203] : Fin 2 → IVec S16 32) a x).toNat < S400x128.size a := fun v13 v16 v203 k0_hw94 => k0_hw94.2

def k0_chk95 (v13 : IVec S16 32) (v16 : IVec S16 32) (v205 : IVec S16 32) : Prop :=
  (∀ a x, ((![v13, v205] : Fin 2 → IVec S16 32) a x).toNat < S512x128.size a) ∧
  (∀ a x, ((![v16, v205] : Fin 2 → IVec S16 32) a x).toNat < S400x128.size a)
theorem k0_idx189_inb : ∀ (v13 : IVec S16 32) (v16 : IVec S16 32) (v205 : IVec S16 32) (k0_hw95 : k0_chk95 v13 v16 v205), ∀ a x, ((![v13, v205] : Fin 2 → IVec S16 32) a x).toNat < S512x128.size a := fun v13 v16 v205 k0_hw95 => k0_hw95.1
theorem k0_idx190_inb : ∀ (v13 : IVec S16 32) (v16 : IVec S16 32) (v205 : IVec S16 32) (k0_hw95 : k0_chk95 v13 v16 v205), ∀ a x, ((![v16, v205] : Fin 2 → IVec S16 32) a x).toNat < S400x128.size a := fun v13 v16 v205 k0_hw95 => k0_hw95.2

def k0_chk96 (v13 : IVec S16 32) (v16 : IVec S16 32) (v207 : IVec S16 32) : Prop :=
  (∀ a x, ((![v13, v207] : Fin 2 → IVec S16 32) a x).toNat < S512x128.size a) ∧
  (∀ a x, ((![v16, v207] : Fin 2 → IVec S16 32) a x).toNat < S400x128.size a)
theorem k0_idx191_inb : ∀ (v13 : IVec S16 32) (v16 : IVec S16 32) (v207 : IVec S16 32) (k0_hw96 : k0_chk96 v13 v16 v207), ∀ a x, ((![v13, v207] : Fin 2 → IVec S16 32) a x).toNat < S512x128.size a := fun v13 v16 v207 k0_hw96 => k0_hw96.1
theorem k0_idx192_inb : ∀ (v13 : IVec S16 32) (v16 : IVec S16 32) (v207 : IVec S16 32) (k0_hw96 : k0_chk96 v13 v16 v207), ∀ a x, ((![v16, v207] : Fin 2 → IVec S16 32) a x).toNat < S400x128.size a := fun v13 v16 v207 k0_hw96 => k0_hw96.2

def k0_chk97 (v13 : IVec S16 32) (v16 : IVec S16 32) (v209 : IVec S16 32) : Prop :=
  (∀ a x, ((![v13, v209] : Fin 2 → IVec S16 32) a x).toNat < S512x128.size a) ∧
  (∀ a x, ((![v16, v209] : Fin 2 → IVec S16 32) a x).toNat < S400x128.size a)
theorem k0_idx193_inb : ∀ (v13 : IVec S16 32) (v16 : IVec S16 32) (v209 : IVec S16 32) (k0_hw97 : k0_chk97 v13 v16 v209), ∀ a x, ((![v13, v209] : Fin 2 → IVec S16 32) a x).toNat < S512x128.size a := fun v13 v16 v209 k0_hw97 => k0_hw97.1
theorem k0_idx194_inb : ∀ (v13 : IVec S16 32) (v16 : IVec S16 32) (v209 : IVec S16 32) (k0_hw97 : k0_chk97 v13 v16 v209), ∀ a x, ((![v16, v209] : Fin 2 → IVec S16 32) a x).toNat < S400x128.size a := fun v13 v16 v209 k0_hw97 => k0_hw97.2

def k0_chk98 (v13 : IVec S16 32) (v16 : IVec S16 32) (v211 : IVec S16 32) : Prop :=
  (∀ a x, ((![v13, v211] : Fin 2 → IVec S16 32) a x).toNat < S512x128.size a) ∧
  (∀ a x, ((![v16, v211] : Fin 2 → IVec S16 32) a x).toNat < S400x128.size a)
theorem k0_idx195_inb : ∀ (v13 : IVec S16 32) (v16 : IVec S16 32) (v211 : IVec S16 32) (k0_hw98 : k0_chk98 v13 v16 v211), ∀ a x, ((![v13, v211] : Fin 2 → IVec S16 32) a x).toNat < S512x128.size a := fun v13 v16 v211 k0_hw98 => k0_hw98.1
theorem k0_idx196_inb : ∀ (v13 : IVec S16 32) (v16 : IVec S16 32) (v211 : IVec S16 32) (k0_hw98 : k0_chk98 v13 v16 v211), ∀ a x, ((![v16, v211] : Fin 2 → IVec S16 32) a x).toNat < S400x128.size a := fun v13 v16 v211 k0_hw98 => k0_hw98.2

def k0_chk99 (v13 : IVec S16 32) (v16 : IVec S16 32) (v213 : IVec S16 32) : Prop :=
  (∀ a x, ((![v13, v213] : Fin 2 → IVec S16 32) a x).toNat < S512x128.size a) ∧
  (∀ a x, ((![v16, v213] : Fin 2 → IVec S16 32) a x).toNat < S400x128.size a)
theorem k0_idx197_inb : ∀ (v13 : IVec S16 32) (v16 : IVec S16 32) (v213 : IVec S16 32) (k0_hw99 : k0_chk99 v13 v16 v213), ∀ a x, ((![v13, v213] : Fin 2 → IVec S16 32) a x).toNat < S512x128.size a := fun v13 v16 v213 k0_hw99 => k0_hw99.1
theorem k0_idx198_inb : ∀ (v13 : IVec S16 32) (v16 : IVec S16 32) (v213 : IVec S16 32) (k0_hw99 : k0_chk99 v13 v16 v213), ∀ a x, ((![v16, v213] : Fin 2 → IVec S16 32) a x).toNat < S400x128.size a := fun v13 v16 v213 k0_hw99 => k0_hw99.2

def k0_chk100 (v13 : IVec S16 32) (v16 : IVec S16 32) (v215 : IVec S16 32) : Prop :=
  (∀ a x, ((![v13, v215] : Fin 2 → IVec S16 32) a x).toNat < S512x128.size a) ∧
  (∀ a x, ((![v16, v215] : Fin 2 → IVec S16 32) a x).toNat < S400x128.size a)
theorem k0_idx199_inb : ∀ (v13 : IVec S16 32) (v16 : IVec S16 32) (v215 : IVec S16 32) (k0_hw100 : k0_chk100 v13 v16 v215), ∀ a x, ((![v13, v215] : Fin 2 → IVec S16 32) a x).toNat < S512x128.size a := fun v13 v16 v215 k0_hw100 => k0_hw100.1
theorem k0_idx200_inb : ∀ (v13 : IVec S16 32) (v16 : IVec S16 32) (v215 : IVec S16 32) (k0_hw100 : k0_chk100 v13 v16 v215), ∀ a x, ((![v16, v215] : Fin 2 → IVec S16 32) a x).toNat < S400x128.size a := fun v13 v16 v215 k0_hw100 => k0_hw100.2

def k0_chk101 (v13 : IVec S16 32) (v16 : IVec S16 32) (v217 : IVec S16 32) : Prop :=
  (∀ a x, ((![v13, v217] : Fin 2 → IVec S16 32) a x).toNat < S512x128.size a) ∧
  (∀ a x, ((![v16, v217] : Fin 2 → IVec S16 32) a x).toNat < S400x128.size a)
theorem k0_idx201_inb : ∀ (v13 : IVec S16 32) (v16 : IVec S16 32) (v217 : IVec S16 32) (k0_hw101 : k0_chk101 v13 v16 v217), ∀ a x, ((![v13, v217] : Fin 2 → IVec S16 32) a x).toNat < S512x128.size a := fun v13 v16 v217 k0_hw101 => k0_hw101.1
theorem k0_idx202_inb : ∀ (v13 : IVec S16 32) (v16 : IVec S16 32) (v217 : IVec S16 32) (k0_hw101 : k0_chk101 v13 v16 v217), ∀ a x, ((![v16, v217] : Fin 2 → IVec S16 32) a x).toNat < S400x128.size a := fun v13 v16 v217 k0_hw101 => k0_hw101.2

def k0_chk102 (v13 : IVec S16 32) (v16 : IVec S16 32) (v219 : IVec S16 32) : Prop :=
  (∀ a x, ((![v13, v219] : Fin 2 → IVec S16 32) a x).toNat < S512x128.size a) ∧
  (∀ a x, ((![v16, v219] : Fin 2 → IVec S16 32) a x).toNat < S400x128.size a)
theorem k0_idx203_inb : ∀ (v13 : IVec S16 32) (v16 : IVec S16 32) (v219 : IVec S16 32) (k0_hw102 : k0_chk102 v13 v16 v219), ∀ a x, ((![v13, v219] : Fin 2 → IVec S16 32) a x).toNat < S512x128.size a := fun v13 v16 v219 k0_hw102 => k0_hw102.1
theorem k0_idx204_inb : ∀ (v13 : IVec S16 32) (v16 : IVec S16 32) (v219 : IVec S16 32) (k0_hw102 : k0_chk102 v13 v16 v219), ∀ a x, ((![v16, v219] : Fin 2 → IVec S16 32) a x).toNat < S400x128.size a := fun v13 v16 v219 k0_hw102 => k0_hw102.2

def k0_chk103 (v13 : IVec S16 32) (v16 : IVec S16 32) (v221 : IVec S16 32) : Prop :=
  (∀ a x, ((![v13, v221] : Fin 2 → IVec S16 32) a x).toNat < S512x128.size a) ∧
  (∀ a x, ((![v16, v221] : Fin 2 → IVec S16 32) a x).toNat < S400x128.size a)
theorem k0_idx205_inb : ∀ (v13 : IVec S16 32) (v16 : IVec S16 32) (v221 : IVec S16 32) (k0_hw103 : k0_chk103 v13 v16 v221), ∀ a x, ((![v13, v221] : Fin 2 → IVec S16 32) a x).toNat < S512x128.size a := fun v13 v16 v221 k0_hw103 => k0_hw103.1
theorem k0_idx206_inb : ∀ (v13 : IVec S16 32) (v16 : IVec S16 32) (v221 : IVec S16 32) (k0_hw103 : k0_chk103 v13 v16 v221), ∀ a x, ((![v16, v221] : Fin 2 → IVec S16 32) a x).toNat < S400x128.size a := fun v13 v16 v221 k0_hw103 => k0_hw103.2

def k0_chk104 (v13 : IVec S16 32) (v16 : IVec S16 32) (v223 : IVec S16 32) : Prop :=
  (∀ a x, ((![v13, v223] : Fin 2 → IVec S16 32) a x).toNat < S512x128.size a) ∧
  (∀ a x, ((![v16, v223] : Fin 2 → IVec S16 32) a x).toNat < S400x128.size a)
theorem k0_idx207_inb : ∀ (v13 : IVec S16 32) (v16 : IVec S16 32) (v223 : IVec S16 32) (k0_hw104 : k0_chk104 v13 v16 v223), ∀ a x, ((![v13, v223] : Fin 2 → IVec S16 32) a x).toNat < S512x128.size a := fun v13 v16 v223 k0_hw104 => k0_hw104.1
theorem k0_idx208_inb : ∀ (v13 : IVec S16 32) (v16 : IVec S16 32) (v223 : IVec S16 32) (k0_hw104 : k0_chk104 v13 v16 v223), ∀ a x, ((![v16, v223] : Fin 2 → IVec S16 32) a x).toNat < S400x128.size a := fun v13 v16 v223 k0_hw104 => k0_hw104.2

def k0_chk105 (v13 : IVec S16 32) (v16 : IVec S16 32) (v225 : IVec S16 32) : Prop :=
  (∀ a x, ((![v13, v225] : Fin 2 → IVec S16 32) a x).toNat < S512x128.size a) ∧
  (∀ a x, ((![v16, v225] : Fin 2 → IVec S16 32) a x).toNat < S400x128.size a)
theorem k0_idx209_inb : ∀ (v13 : IVec S16 32) (v16 : IVec S16 32) (v225 : IVec S16 32) (k0_hw105 : k0_chk105 v13 v16 v225), ∀ a x, ((![v13, v225] : Fin 2 → IVec S16 32) a x).toNat < S512x128.size a := fun v13 v16 v225 k0_hw105 => k0_hw105.1
theorem k0_idx210_inb : ∀ (v13 : IVec S16 32) (v16 : IVec S16 32) (v225 : IVec S16 32) (k0_hw105 : k0_chk105 v13 v16 v225), ∀ a x, ((![v16, v225] : Fin 2 → IVec S16 32) a x).toNat < S400x128.size a := fun v13 v16 v225 k0_hw105 => k0_hw105.2

def k0_chk106 (v13 : IVec S16 32) (v16 : IVec S16 32) (v227 : IVec S16 32) : Prop :=
  (∀ a x, ((![v13, v227] : Fin 2 → IVec S16 32) a x).toNat < S512x128.size a) ∧
  (∀ a x, ((![v16, v227] : Fin 2 → IVec S16 32) a x).toNat < S400x128.size a)
theorem k0_idx211_inb : ∀ (v13 : IVec S16 32) (v16 : IVec S16 32) (v227 : IVec S16 32) (k0_hw106 : k0_chk106 v13 v16 v227), ∀ a x, ((![v13, v227] : Fin 2 → IVec S16 32) a x).toNat < S512x128.size a := fun v13 v16 v227 k0_hw106 => k0_hw106.1
theorem k0_idx212_inb : ∀ (v13 : IVec S16 32) (v16 : IVec S16 32) (v227 : IVec S16 32) (k0_hw106 : k0_chk106 v13 v16 v227), ∀ a x, ((![v16, v227] : Fin 2 → IVec S16 32) a x).toNat < S400x128.size a := fun v13 v16 v227 k0_hw106 => k0_hw106.2

def k0_chk107 (v13 : IVec S16 32) (v16 : IVec S16 32) (v229 : IVec S16 32) : Prop :=
  (∀ a x, ((![v13, v229] : Fin 2 → IVec S16 32) a x).toNat < S512x128.size a) ∧
  (∀ a x, ((![v16, v229] : Fin 2 → IVec S16 32) a x).toNat < S400x128.size a)
theorem k0_idx213_inb : ∀ (v13 : IVec S16 32) (v16 : IVec S16 32) (v229 : IVec S16 32) (k0_hw107 : k0_chk107 v13 v16 v229), ∀ a x, ((![v13, v229] : Fin 2 → IVec S16 32) a x).toNat < S512x128.size a := fun v13 v16 v229 k0_hw107 => k0_hw107.1
theorem k0_idx214_inb : ∀ (v13 : IVec S16 32) (v16 : IVec S16 32) (v229 : IVec S16 32) (k0_hw107 : k0_chk107 v13 v16 v229), ∀ a x, ((![v16, v229] : Fin 2 → IVec S16 32) a x).toNat < S400x128.size a := fun v13 v16 v229 k0_hw107 => k0_hw107.2

def k0_chk108 (v13 : IVec S16 32) (v16 : IVec S16 32) (v231 : IVec S16 32) : Prop :=
  (∀ a x, ((![v13, v231] : Fin 2 → IVec S16 32) a x).toNat < S512x128.size a) ∧
  (∀ a x, ((![v16, v231] : Fin 2 → IVec S16 32) a x).toNat < S400x128.size a)
theorem k0_idx215_inb : ∀ (v13 : IVec S16 32) (v16 : IVec S16 32) (v231 : IVec S16 32) (k0_hw108 : k0_chk108 v13 v16 v231), ∀ a x, ((![v13, v231] : Fin 2 → IVec S16 32) a x).toNat < S512x128.size a := fun v13 v16 v231 k0_hw108 => k0_hw108.1
theorem k0_idx216_inb : ∀ (v13 : IVec S16 32) (v16 : IVec S16 32) (v231 : IVec S16 32) (k0_hw108 : k0_chk108 v13 v16 v231), ∀ a x, ((![v16, v231] : Fin 2 → IVec S16 32) a x).toNat < S400x128.size a := fun v13 v16 v231 k0_hw108 => k0_hw108.2

def k0_chk109 (v13 : IVec S16 32) (v16 : IVec S16 32) (v233 : IVec S16 32) : Prop :=
  (∀ a x, ((![v13, v233] : Fin 2 → IVec S16 32) a x).toNat < S512x128.size a) ∧
  (∀ a x, ((![v16, v233] : Fin 2 → IVec S16 32) a x).toNat < S400x128.size a)
theorem k0_idx217_inb : ∀ (v13 : IVec S16 32) (v16 : IVec S16 32) (v233 : IVec S16 32) (k0_hw109 : k0_chk109 v13 v16 v233), ∀ a x, ((![v13, v233] : Fin 2 → IVec S16 32) a x).toNat < S512x128.size a := fun v13 v16 v233 k0_hw109 => k0_hw109.1
theorem k0_idx218_inb : ∀ (v13 : IVec S16 32) (v16 : IVec S16 32) (v233 : IVec S16 32) (k0_hw109 : k0_chk109 v13 v16 v233), ∀ a x, ((![v16, v233] : Fin 2 → IVec S16 32) a x).toNat < S400x128.size a := fun v13 v16 v233 k0_hw109 => k0_hw109.2

def k0_chk110 (v13 : IVec S16 32) (v16 : IVec S16 32) (v235 : IVec S16 32) : Prop :=
  (∀ a x, ((![v13, v235] : Fin 2 → IVec S16 32) a x).toNat < S512x128.size a) ∧
  (∀ a x, ((![v16, v235] : Fin 2 → IVec S16 32) a x).toNat < S400x128.size a)
theorem k0_idx219_inb : ∀ (v13 : IVec S16 32) (v16 : IVec S16 32) (v235 : IVec S16 32) (k0_hw110 : k0_chk110 v13 v16 v235), ∀ a x, ((![v13, v235] : Fin 2 → IVec S16 32) a x).toNat < S512x128.size a := fun v13 v16 v235 k0_hw110 => k0_hw110.1
theorem k0_idx220_inb : ∀ (v13 : IVec S16 32) (v16 : IVec S16 32) (v235 : IVec S16 32) (k0_hw110 : k0_chk110 v13 v16 v235), ∀ a x, ((![v16, v235] : Fin 2 → IVec S16 32) a x).toNat < S400x128.size a := fun v13 v16 v235 k0_hw110 => k0_hw110.2

def k0_chk111 (v13 : IVec S16 32) (v16 : IVec S16 32) (v237 : IVec S16 32) : Prop :=
  (∀ a x, ((![v13, v237] : Fin 2 → IVec S16 32) a x).toNat < S512x128.size a) ∧
  (∀ a x, ((![v16, v237] : Fin 2 → IVec S16 32) a x).toNat < S400x128.size a)
theorem k0_idx221_inb : ∀ (v13 : IVec S16 32) (v16 : IVec S16 32) (v237 : IVec S16 32) (k0_hw111 : k0_chk111 v13 v16 v237), ∀ a x, ((![v13, v237] : Fin 2 → IVec S16 32) a x).toNat < S512x128.size a := fun v13 v16 v237 k0_hw111 => k0_hw111.1
theorem k0_idx222_inb : ∀ (v13 : IVec S16 32) (v16 : IVec S16 32) (v237 : IVec S16 32) (k0_hw111 : k0_chk111 v13 v16 v237), ∀ a x, ((![v16, v237] : Fin 2 → IVec S16 32) a x).toNat < S400x128.size a := fun v13 v16 v237 k0_hw111 => k0_hw111.2

def k0_chk112 (v13 : IVec S16 32) (v16 : IVec S16 32) (v239 : IVec S16 32) : Prop :=
  (∀ a x, ((![v13, v239] : Fin 2 → IVec S16 32) a x).toNat < S512x128.size a) ∧
  (∀ a x, ((![v16, v239] : Fin 2 → IVec S16 32) a x).toNat < S400x128.size a)
theorem k0_idx223_inb : ∀ (v13 : IVec S16 32) (v16 : IVec S16 32) (v239 : IVec S16 32) (k0_hw112 : k0_chk112 v13 v16 v239), ∀ a x, ((![v13, v239] : Fin 2 → IVec S16 32) a x).toNat < S512x128.size a := fun v13 v16 v239 k0_hw112 => k0_hw112.1
theorem k0_idx224_inb : ∀ (v13 : IVec S16 32) (v16 : IVec S16 32) (v239 : IVec S16 32) (k0_hw112 : k0_chk112 v13 v16 v239), ∀ a x, ((![v16, v239] : Fin 2 → IVec S16 32) a x).toNat < S400x128.size a := fun v13 v16 v239 k0_hw112 => k0_hw112.2

def k0_chk113 (v13 : IVec S16 32) (v16 : IVec S16 32) (v241 : IVec S16 32) : Prop :=
  (∀ a x, ((![v13, v241] : Fin 2 → IVec S16 32) a x).toNat < S512x128.size a) ∧
  (∀ a x, ((![v16, v241] : Fin 2 → IVec S16 32) a x).toNat < S400x128.size a)
theorem k0_idx225_inb : ∀ (v13 : IVec S16 32) (v16 : IVec S16 32) (v241 : IVec S16 32) (k0_hw113 : k0_chk113 v13 v16 v241), ∀ a x, ((![v13, v241] : Fin 2 → IVec S16 32) a x).toNat < S512x128.size a := fun v13 v16 v241 k0_hw113 => k0_hw113.1
theorem k0_idx226_inb : ∀ (v13 : IVec S16 32) (v16 : IVec S16 32) (v241 : IVec S16 32) (k0_hw113 : k0_chk113 v13 v16 v241), ∀ a x, ((![v16, v241] : Fin 2 → IVec S16 32) a x).toNat < S400x128.size a := fun v13 v16 v241 k0_hw113 => k0_hw113.2

def k0_chk114 (v13 : IVec S16 32) (v16 : IVec S16 32) (v243 : IVec S16 32) : Prop :=
  (∀ a x, ((![v13, v243] : Fin 2 → IVec S16 32) a x).toNat < S512x128.size a) ∧
  (∀ a x, ((![v16, v243] : Fin 2 → IVec S16 32) a x).toNat < S400x128.size a)
theorem k0_idx227_inb : ∀ (v13 : IVec S16 32) (v16 : IVec S16 32) (v243 : IVec S16 32) (k0_hw114 : k0_chk114 v13 v16 v243), ∀ a x, ((![v13, v243] : Fin 2 → IVec S16 32) a x).toNat < S512x128.size a := fun v13 v16 v243 k0_hw114 => k0_hw114.1
theorem k0_idx228_inb : ∀ (v13 : IVec S16 32) (v16 : IVec S16 32) (v243 : IVec S16 32) (k0_hw114 : k0_chk114 v13 v16 v243), ∀ a x, ((![v16, v243] : Fin 2 → IVec S16 32) a x).toNat < S400x128.size a := fun v13 v16 v243 k0_hw114 => k0_hw114.2

def k0_chk115 (v13 : IVec S16 32) (v16 : IVec S16 32) (v245 : IVec S16 32) : Prop :=
  (∀ a x, ((![v13, v245] : Fin 2 → IVec S16 32) a x).toNat < S512x128.size a) ∧
  (∀ a x, ((![v16, v245] : Fin 2 → IVec S16 32) a x).toNat < S400x128.size a)
theorem k0_idx229_inb : ∀ (v13 : IVec S16 32) (v16 : IVec S16 32) (v245 : IVec S16 32) (k0_hw115 : k0_chk115 v13 v16 v245), ∀ a x, ((![v13, v245] : Fin 2 → IVec S16 32) a x).toNat < S512x128.size a := fun v13 v16 v245 k0_hw115 => k0_hw115.1
theorem k0_idx230_inb : ∀ (v13 : IVec S16 32) (v16 : IVec S16 32) (v245 : IVec S16 32) (k0_hw115 : k0_chk115 v13 v16 v245), ∀ a x, ((![v16, v245] : Fin 2 → IVec S16 32) a x).toNat < S400x128.size a := fun v13 v16 v245 k0_hw115 => k0_hw115.2

def k0_chk116 (v13 : IVec S16 32) (v16 : IVec S16 32) (v247 : IVec S16 32) : Prop :=
  (∀ a x, ((![v13, v247] : Fin 2 → IVec S16 32) a x).toNat < S512x128.size a) ∧
  (∀ a x, ((![v16, v247] : Fin 2 → IVec S16 32) a x).toNat < S400x128.size a)
theorem k0_idx231_inb : ∀ (v13 : IVec S16 32) (v16 : IVec S16 32) (v247 : IVec S16 32) (k0_hw116 : k0_chk116 v13 v16 v247), ∀ a x, ((![v13, v247] : Fin 2 → IVec S16 32) a x).toNat < S512x128.size a := fun v13 v16 v247 k0_hw116 => k0_hw116.1
theorem k0_idx232_inb : ∀ (v13 : IVec S16 32) (v16 : IVec S16 32) (v247 : IVec S16 32) (k0_hw116 : k0_chk116 v13 v16 v247), ∀ a x, ((![v16, v247] : Fin 2 → IVec S16 32) a x).toNat < S400x128.size a := fun v13 v16 v247 k0_hw116 => k0_hw116.2

def k0_chk117 (v13 : IVec S16 32) (v16 : IVec S16 32) (v249 : IVec S16 32) : Prop :=
  (∀ a x, ((![v13, v249] : Fin 2 → IVec S16 32) a x).toNat < S512x128.size a) ∧
  (∀ a x, ((![v16, v249] : Fin 2 → IVec S16 32) a x).toNat < S400x128.size a)
theorem k0_idx233_inb : ∀ (v13 : IVec S16 32) (v16 : IVec S16 32) (v249 : IVec S16 32) (k0_hw117 : k0_chk117 v13 v16 v249), ∀ a x, ((![v13, v249] : Fin 2 → IVec S16 32) a x).toNat < S512x128.size a := fun v13 v16 v249 k0_hw117 => k0_hw117.1
theorem k0_idx234_inb : ∀ (v13 : IVec S16 32) (v16 : IVec S16 32) (v249 : IVec S16 32) (k0_hw117 : k0_chk117 v13 v16 v249), ∀ a x, ((![v16, v249] : Fin 2 → IVec S16 32) a x).toNat < S400x128.size a := fun v13 v16 v249 k0_hw117 => k0_hw117.2

def k0_chk118 (v13 : IVec S16 32) (v16 : IVec S16 32) (v251 : IVec S16 32) : Prop :=
  (∀ a x, ((![v13, v251] : Fin 2 → IVec S16 32) a x).toNat < S512x128.size a) ∧
  (∀ a x, ((![v16, v251] : Fin 2 → IVec S16 32) a x).toNat < S400x128.size a)
theorem k0_idx235_inb : ∀ (v13 : IVec S16 32) (v16 : IVec S16 32) (v251 : IVec S16 32) (k0_hw118 : k0_chk118 v13 v16 v251), ∀ a x, ((![v13, v251] : Fin 2 → IVec S16 32) a x).toNat < S512x128.size a := fun v13 v16 v251 k0_hw118 => k0_hw118.1
theorem k0_idx236_inb : ∀ (v13 : IVec S16 32) (v16 : IVec S16 32) (v251 : IVec S16 32) (k0_hw118 : k0_chk118 v13 v16 v251), ∀ a x, ((![v16, v251] : Fin 2 → IVec S16 32) a x).toNat < S400x128.size a := fun v13 v16 v251 k0_hw118 => k0_hw118.2

def k0_chk119 (v13 : IVec S16 32) (v16 : IVec S16 32) (v253 : IVec S16 32) : Prop :=
  (∀ a x, ((![v13, v253] : Fin 2 → IVec S16 32) a x).toNat < S512x128.size a) ∧
  (∀ a x, ((![v16, v253] : Fin 2 → IVec S16 32) a x).toNat < S400x128.size a)
theorem k0_idx237_inb : ∀ (v13 : IVec S16 32) (v16 : IVec S16 32) (v253 : IVec S16 32) (k0_hw119 : k0_chk119 v13 v16 v253), ∀ a x, ((![v13, v253] : Fin 2 → IVec S16 32) a x).toNat < S512x128.size a := fun v13 v16 v253 k0_hw119 => k0_hw119.1
theorem k0_idx238_inb : ∀ (v13 : IVec S16 32) (v16 : IVec S16 32) (v253 : IVec S16 32) (k0_hw119 : k0_chk119 v13 v16 v253), ∀ a x, ((![v16, v253] : Fin 2 → IVec S16 32) a x).toNat < S400x128.size a := fun v13 v16 v253 k0_hw119 => k0_hw119.2

def k0_chk120 (v13 : IVec S16 32) (v16 : IVec S16 32) (v255 : IVec S16 32) : Prop :=
  (∀ a x, ((![v13, v255] : Fin 2 → IVec S16 32) a x).toNat < S512x128.size a) ∧
  (∀ a x, ((![v16, v255] : Fin 2 → IVec S16 32) a x).toNat < S400x128.size a)
theorem k0_idx239_inb : ∀ (v13 : IVec S16 32) (v16 : IVec S16 32) (v255 : IVec S16 32) (k0_hw120 : k0_chk120 v13 v16 v255), ∀ a x, ((![v13, v255] : Fin 2 → IVec S16 32) a x).toNat < S512x128.size a := fun v13 v16 v255 k0_hw120 => k0_hw120.1
theorem k0_idx240_inb : ∀ (v13 : IVec S16 32) (v16 : IVec S16 32) (v255 : IVec S16 32) (k0_hw120 : k0_chk120 v13 v16 v255), ∀ a x, ((![v16, v255] : Fin 2 → IVec S16 32) a x).toNat < S400x128.size a := fun v13 v16 v255 k0_hw120 => k0_hw120.2

def k0_chk121 (v13 : IVec S16 32) (v16 : IVec S16 32) (v257 : IVec S16 32) : Prop :=
  (∀ a x, ((![v13, v257] : Fin 2 → IVec S16 32) a x).toNat < S512x128.size a) ∧
  (∀ a x, ((![v16, v257] : Fin 2 → IVec S16 32) a x).toNat < S400x128.size a)
theorem k0_idx241_inb : ∀ (v13 : IVec S16 32) (v16 : IVec S16 32) (v257 : IVec S16 32) (k0_hw121 : k0_chk121 v13 v16 v257), ∀ a x, ((![v13, v257] : Fin 2 → IVec S16 32) a x).toNat < S512x128.size a := fun v13 v16 v257 k0_hw121 => k0_hw121.1
theorem k0_idx242_inb : ∀ (v13 : IVec S16 32) (v16 : IVec S16 32) (v257 : IVec S16 32) (k0_hw121 : k0_chk121 v13 v16 v257), ∀ a x, ((![v16, v257] : Fin 2 → IVec S16 32) a x).toNat < S400x128.size a := fun v13 v16 v257 k0_hw121 => k0_hw121.2

def k0_chk122 (v13 : IVec S16 32) (v16 : IVec S16 32) (v259 : IVec S16 32) : Prop :=
  (∀ a x, ((![v13, v259] : Fin 2 → IVec S16 32) a x).toNat < S512x128.size a) ∧
  (∀ a x, ((![v16, v259] : Fin 2 → IVec S16 32) a x).toNat < S400x128.size a)
theorem k0_idx243_inb : ∀ (v13 : IVec S16 32) (v16 : IVec S16 32) (v259 : IVec S16 32) (k0_hw122 : k0_chk122 v13 v16 v259), ∀ a x, ((![v13, v259] : Fin 2 → IVec S16 32) a x).toNat < S512x128.size a := fun v13 v16 v259 k0_hw122 => k0_hw122.1
theorem k0_idx244_inb : ∀ (v13 : IVec S16 32) (v16 : IVec S16 32) (v259 : IVec S16 32) (k0_hw122 : k0_chk122 v13 v16 v259), ∀ a x, ((![v16, v259] : Fin 2 → IVec S16 32) a x).toNat < S400x128.size a := fun v13 v16 v259 k0_hw122 => k0_hw122.2

def k0_chk123 (v13 : IVec S16 32) (v16 : IVec S16 32) (v261 : IVec S16 32) : Prop :=
  (∀ a x, ((![v13, v261] : Fin 2 → IVec S16 32) a x).toNat < S512x128.size a) ∧
  (∀ a x, ((![v16, v261] : Fin 2 → IVec S16 32) a x).toNat < S400x128.size a)
theorem k0_idx245_inb : ∀ (v13 : IVec S16 32) (v16 : IVec S16 32) (v261 : IVec S16 32) (k0_hw123 : k0_chk123 v13 v16 v261), ∀ a x, ((![v13, v261] : Fin 2 → IVec S16 32) a x).toNat < S512x128.size a := fun v13 v16 v261 k0_hw123 => k0_hw123.1
theorem k0_idx246_inb : ∀ (v13 : IVec S16 32) (v16 : IVec S16 32) (v261 : IVec S16 32) (k0_hw123 : k0_chk123 v13 v16 v261), ∀ a x, ((![v16, v261] : Fin 2 → IVec S16 32) a x).toNat < S400x128.size a := fun v13 v16 v261 k0_hw123 => k0_hw123.2

def k0_chk124 (v13 : IVec S16 32) (v16 : IVec S16 32) (v263 : IVec S16 32) : Prop :=
  (∀ a x, ((![v13, v263] : Fin 2 → IVec S16 32) a x).toNat < S512x128.size a) ∧
  (∀ a x, ((![v16, v263] : Fin 2 → IVec S16 32) a x).toNat < S400x128.size a)
theorem k0_idx247_inb : ∀ (v13 : IVec S16 32) (v16 : IVec S16 32) (v263 : IVec S16 32) (k0_hw124 : k0_chk124 v13 v16 v263), ∀ a x, ((![v13, v263] : Fin 2 → IVec S16 32) a x).toNat < S512x128.size a := fun v13 v16 v263 k0_hw124 => k0_hw124.1
theorem k0_idx248_inb : ∀ (v13 : IVec S16 32) (v16 : IVec S16 32) (v263 : IVec S16 32) (k0_hw124 : k0_chk124 v13 v16 v263), ∀ a x, ((![v16, v263] : Fin 2 → IVec S16 32) a x).toNat < S400x128.size a := fun v13 v16 v263 k0_hw124 => k0_hw124.2

def k0_chk125 (v13 : IVec S16 32) (v16 : IVec S16 32) (v265 : IVec S16 32) : Prop :=
  (∀ a x, ((![v13, v265] : Fin 2 → IVec S16 32) a x).toNat < S512x128.size a) ∧
  (∀ a x, ((![v16, v265] : Fin 2 → IVec S16 32) a x).toNat < S400x128.size a)
theorem k0_idx249_inb : ∀ (v13 : IVec S16 32) (v16 : IVec S16 32) (v265 : IVec S16 32) (k0_hw125 : k0_chk125 v13 v16 v265), ∀ a x, ((![v13, v265] : Fin 2 → IVec S16 32) a x).toNat < S512x128.size a := fun v13 v16 v265 k0_hw125 => k0_hw125.1
theorem k0_idx250_inb : ∀ (v13 : IVec S16 32) (v16 : IVec S16 32) (v265 : IVec S16 32) (k0_hw125 : k0_chk125 v13 v16 v265), ∀ a x, ((![v16, v265] : Fin 2 → IVec S16 32) a x).toNat < S400x128.size a := fun v13 v16 v265 k0_hw125 => k0_hw125.2

def k0_chk126 (v13 : IVec S16 32) (v16 : IVec S16 32) (v267 : IVec S16 32) : Prop :=
  (∀ a x, ((![v13, v267] : Fin 2 → IVec S16 32) a x).toNat < S512x128.size a) ∧
  (∀ a x, ((![v16, v267] : Fin 2 → IVec S16 32) a x).toNat < S400x128.size a)
theorem k0_idx251_inb : ∀ (v13 : IVec S16 32) (v16 : IVec S16 32) (v267 : IVec S16 32) (k0_hw126 : k0_chk126 v13 v16 v267), ∀ a x, ((![v13, v267] : Fin 2 → IVec S16 32) a x).toNat < S512x128.size a := fun v13 v16 v267 k0_hw126 => k0_hw126.1
theorem k0_idx252_inb : ∀ (v13 : IVec S16 32) (v16 : IVec S16 32) (v267 : IVec S16 32) (k0_hw126 : k0_chk126 v13 v16 v267), ∀ a x, ((![v16, v267] : Fin 2 → IVec S16 32) a x).toNat < S400x128.size a := fun v13 v16 v267 k0_hw126 => k0_hw126.2

def k0_chk127 (v13 : IVec S16 32) (v16 : IVec S16 32) (v269 : IVec S16 32) : Prop :=
  (∀ a x, ((![v13, v269] : Fin 2 → IVec S16 32) a x).toNat < S512x128.size a) ∧
  (∀ a x, ((![v16, v269] : Fin 2 → IVec S16 32) a x).toNat < S400x128.size a)
theorem k0_idx253_inb : ∀ (v13 : IVec S16 32) (v16 : IVec S16 32) (v269 : IVec S16 32) (k0_hw127 : k0_chk127 v13 v16 v269), ∀ a x, ((![v13, v269] : Fin 2 → IVec S16 32) a x).toNat < S512x128.size a := fun v13 v16 v269 k0_hw127 => k0_hw127.1
theorem k0_idx254_inb : ∀ (v13 : IVec S16 32) (v16 : IVec S16 32) (v269 : IVec S16 32) (k0_hw127 : k0_chk127 v13 v16 v269), ∀ a x, ((![v16, v269] : Fin 2 → IVec S16 32) a x).toNat < S400x128.size a := fun v13 v16 v269 k0_hw127 => k0_hw127.2

def k0_chk128 (v13 : IVec S16 32) (v16 : IVec S16 32) (v271 : IVec S16 32) : Prop :=
  (∀ a x, ((![v13, v271] : Fin 2 → IVec S16 32) a x).toNat < S512x128.size a) ∧
  (∀ a x, ((![v16, v271] : Fin 2 → IVec S16 32) a x).toNat < S400x128.size a)
theorem k0_idx255_inb : ∀ (v13 : IVec S16 32) (v16 : IVec S16 32) (v271 : IVec S16 32) (k0_hw128 : k0_chk128 v13 v16 v271), ∀ a x, ((![v13, v271] : Fin 2 → IVec S16 32) a x).toNat < S512x128.size a := fun v13 v16 v271 k0_hw128 => k0_hw128.1
theorem k0_idx256_inb : ∀ (v13 : IVec S16 32) (v16 : IVec S16 32) (v271 : IVec S16 32) (k0_hw128 : k0_chk128 v13 v16 v271), ∀ a x, ((![v16, v271] : Fin 2 → IVec S16 32) a x).toNat < S400x128.size a := fun v13 v16 v271 k0_hw128 => k0_hw128.2
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let c0_i32_2 : BitVec 32 := 0#32
  let v6 : BitVec 32 := Scalar.addi v2 c0_i32_2
  let c0_i32_9_r2 : BitVec 32 := 0#32
  ![v6.toNat, 0]
@[reducible] def k0_t2_loop : Scf.Loop 32 :=
  let c0_i32_4 : BitVec 32 := 0#32
  let c24_i32 : BitVec 32 := 24#32
  let v7 : BitVec 32 := Scalar.addi c0_i32_4 c24_i32
  let c1_i32_5 : BitVec 32 := 1#32
  ⟨c0_i32_4, v7, c1_i32_5⟩
def k0_off4 (k0_t2 : Fin k0_t2_loop.trips) : Fin 1 → Nat :=
  let c400_i32_7 : BitVec 32 := 400#32
  let c0_i32_4 : BitVec 32 := 0#32
  let c1_i32_5 : BitVec 32 := 1#32
  let arg8 : BitVec 32 := Scf.iv c0_i32_4 c1_i32_5 k0_t2
  let c16_i32 : BitVec 32 := 16#32
  let v10 : BitVec 32 := Scalar.muli arg8 c16_i32
  let v11 : BitVec 32 := Scalar.addi c400_i32_7 v10
  let v12 : Index := Scalar.indexCast v11
  ![v12.toNat]

def k0_chk129 (v13 : IVec S16 32) (v16 : IVec S16 32) (v17 : IVec S16 32) : Prop :=
  (∀ a x, ((![v13, v17] : Fin 2 → IVec S16 32) a x).toNat < S512x128.size a) ∧
  (∀ a x, ((![v16, v17] : Fin 2 → IVec S16 32) a x).toNat < S400x128.size a)
theorem k0_idx257_inb : ∀ (v13 : IVec S16 32) (v16 : IVec S16 32) (v17 : IVec S16 32) (k0_hw129 : k0_chk129 v13 v16 v17), ∀ a x, ((![v13, v17] : Fin 2 → IVec S16 32) a x).toNat < S512x128.size a := fun v13 v16 v17 k0_hw129 => k0_hw129.1
theorem k0_idx258_inb : ∀ (v13 : IVec S16 32) (v16 : IVec S16 32) (v17 : IVec S16 32) (k0_hw129 : k0_chk129 v13 v16 v17), ∀ a x, ((![v16, v17] : Fin 2 → IVec S16 32) a x).toNat < S400x128.size a := fun v13 v16 v17 k0_hw129 => k0_hw129.2

def k0_chk130 (v13 : IVec S16 32) (v16 : IVec S16 32) (v19 : IVec S16 32) : Prop :=
  (∀ a x, ((![v13, v19] : Fin 2 → IVec S16 32) a x).toNat < S512x128.size a) ∧
  (∀ a x, ((![v16, v19] : Fin 2 → IVec S16 32) a x).toNat < S400x128.size a)
theorem k0_idx259_inb : ∀ (v13 : IVec S16 32) (v16 : IVec S16 32) (v19 : IVec S16 32) (k0_hw130 : k0_chk130 v13 v16 v19), ∀ a x, ((![v13, v19] : Fin 2 → IVec S16 32) a x).toNat < S512x128.size a := fun v13 v16 v19 k0_hw130 => k0_hw130.1
theorem k0_idx260_inb : ∀ (v13 : IVec S16 32) (v16 : IVec S16 32) (v19 : IVec S16 32) (k0_hw130 : k0_chk130 v13 v16 v19), ∀ a x, ((![v16, v19] : Fin 2 → IVec S16 32) a x).toNat < S400x128.size a := fun v13 v16 v19 k0_hw130 => k0_hw130.2

def k0_chk131 (v13 : IVec S16 32) (v16 : IVec S16 32) (v21 : IVec S16 32) : Prop :=
  (∀ a x, ((![v13, v21] : Fin 2 → IVec S16 32) a x).toNat < S512x128.size a) ∧
  (∀ a x, ((![v16, v21] : Fin 2 → IVec S16 32) a x).toNat < S400x128.size a)
theorem k0_idx261_inb : ∀ (v13 : IVec S16 32) (v16 : IVec S16 32) (v21 : IVec S16 32) (k0_hw131 : k0_chk131 v13 v16 v21), ∀ a x, ((![v13, v21] : Fin 2 → IVec S16 32) a x).toNat < S512x128.size a := fun v13 v16 v21 k0_hw131 => k0_hw131.1
theorem k0_idx262_inb : ∀ (v13 : IVec S16 32) (v16 : IVec S16 32) (v21 : IVec S16 32) (k0_hw131 : k0_chk131 v13 v16 v21), ∀ a x, ((![v16, v21] : Fin 2 → IVec S16 32) a x).toNat < S400x128.size a := fun v13 v16 v21 k0_hw131 => k0_hw131.2

def k0_chk132 (v13 : IVec S16 32) (v16 : IVec S16 32) (v23 : IVec S16 32) : Prop :=
  (∀ a x, ((![v13, v23] : Fin 2 → IVec S16 32) a x).toNat < S512x128.size a) ∧
  (∀ a x, ((![v16, v23] : Fin 2 → IVec S16 32) a x).toNat < S400x128.size a)
theorem k0_idx263_inb : ∀ (v13 : IVec S16 32) (v16 : IVec S16 32) (v23 : IVec S16 32) (k0_hw132 : k0_chk132 v13 v16 v23), ∀ a x, ((![v13, v23] : Fin 2 → IVec S16 32) a x).toNat < S512x128.size a := fun v13 v16 v23 k0_hw132 => k0_hw132.1
theorem k0_idx264_inb : ∀ (v13 : IVec S16 32) (v16 : IVec S16 32) (v23 : IVec S16 32) (k0_hw132 : k0_chk132 v13 v16 v23), ∀ a x, ((![v16, v23] : Fin 2 → IVec S16 32) a x).toNat < S400x128.size a := fun v13 v16 v23 k0_hw132 => k0_hw132.2

def k0_chk133 (v13 : IVec S16 32) (v16 : IVec S16 32) (v25 : IVec S16 32) : Prop :=
  (∀ a x, ((![v13, v25] : Fin 2 → IVec S16 32) a x).toNat < S512x128.size a) ∧
  (∀ a x, ((![v16, v25] : Fin 2 → IVec S16 32) a x).toNat < S400x128.size a)
theorem k0_idx265_inb : ∀ (v13 : IVec S16 32) (v16 : IVec S16 32) (v25 : IVec S16 32) (k0_hw133 : k0_chk133 v13 v16 v25), ∀ a x, ((![v13, v25] : Fin 2 → IVec S16 32) a x).toNat < S512x128.size a := fun v13 v16 v25 k0_hw133 => k0_hw133.1
theorem k0_idx266_inb : ∀ (v13 : IVec S16 32) (v16 : IVec S16 32) (v25 : IVec S16 32) (k0_hw133 : k0_chk133 v13 v16 v25), ∀ a x, ((![v16, v25] : Fin 2 → IVec S16 32) a x).toNat < S400x128.size a := fun v13 v16 v25 k0_hw133 => k0_hw133.2

def k0_chk134 (v13 : IVec S16 32) (v16 : IVec S16 32) (v27 : IVec S16 32) : Prop :=
  (∀ a x, ((![v13, v27] : Fin 2 → IVec S16 32) a x).toNat < S512x128.size a) ∧
  (∀ a x, ((![v16, v27] : Fin 2 → IVec S16 32) a x).toNat < S400x128.size a)
theorem k0_idx267_inb : ∀ (v13 : IVec S16 32) (v16 : IVec S16 32) (v27 : IVec S16 32) (k0_hw134 : k0_chk134 v13 v16 v27), ∀ a x, ((![v13, v27] : Fin 2 → IVec S16 32) a x).toNat < S512x128.size a := fun v13 v16 v27 k0_hw134 => k0_hw134.1
theorem k0_idx268_inb : ∀ (v13 : IVec S16 32) (v16 : IVec S16 32) (v27 : IVec S16 32) (k0_hw134 : k0_chk134 v13 v16 v27), ∀ a x, ((![v16, v27] : Fin 2 → IVec S16 32) a x).toNat < S400x128.size a := fun v13 v16 v27 k0_hw134 => k0_hw134.2

def k0_chk135 (v13 : IVec S16 32) (v16 : IVec S16 32) (v29 : IVec S16 32) : Prop :=
  (∀ a x, ((![v13, v29] : Fin 2 → IVec S16 32) a x).toNat < S512x128.size a) ∧
  (∀ a x, ((![v16, v29] : Fin 2 → IVec S16 32) a x).toNat < S400x128.size a)
theorem k0_idx269_inb : ∀ (v13 : IVec S16 32) (v16 : IVec S16 32) (v29 : IVec S16 32) (k0_hw135 : k0_chk135 v13 v16 v29), ∀ a x, ((![v13, v29] : Fin 2 → IVec S16 32) a x).toNat < S512x128.size a := fun v13 v16 v29 k0_hw135 => k0_hw135.1
theorem k0_idx270_inb : ∀ (v13 : IVec S16 32) (v16 : IVec S16 32) (v29 : IVec S16 32) (k0_hw135 : k0_chk135 v13 v16 v29), ∀ a x, ((![v16, v29] : Fin 2 → IVec S16 32) a x).toNat < S400x128.size a := fun v13 v16 v29 k0_hw135 => k0_hw135.2

def k0_chk136 (v13 : IVec S16 32) (v16 : IVec S16 32) (v31 : IVec S16 32) : Prop :=
  (∀ a x, ((![v13, v31] : Fin 2 → IVec S16 32) a x).toNat < S512x128.size a) ∧
  (∀ a x, ((![v16, v31] : Fin 2 → IVec S16 32) a x).toNat < S400x128.size a)
theorem k0_idx271_inb : ∀ (v13 : IVec S16 32) (v16 : IVec S16 32) (v31 : IVec S16 32) (k0_hw136 : k0_chk136 v13 v16 v31), ∀ a x, ((![v13, v31] : Fin 2 → IVec S16 32) a x).toNat < S512x128.size a := fun v13 v16 v31 k0_hw136 => k0_hw136.1
theorem k0_idx272_inb : ∀ (v13 : IVec S16 32) (v16 : IVec S16 32) (v31 : IVec S16 32) (k0_hw136 : k0_chk136 v13 v16 v31), ∀ a x, ((![v16, v31] : Fin 2 → IVec S16 32) a x).toNat < S400x128.size a := fun v13 v16 v31 k0_hw136 => k0_hw136.2

def k0_chk137 (v13 : IVec S16 32) (v16 : IVec S16 32) (v33 : IVec S16 32) : Prop :=
  (∀ a x, ((![v13, v33] : Fin 2 → IVec S16 32) a x).toNat < S512x128.size a) ∧
  (∀ a x, ((![v16, v33] : Fin 2 → IVec S16 32) a x).toNat < S400x128.size a)
theorem k0_idx273_inb : ∀ (v13 : IVec S16 32) (v16 : IVec S16 32) (v33 : IVec S16 32) (k0_hw137 : k0_chk137 v13 v16 v33), ∀ a x, ((![v13, v33] : Fin 2 → IVec S16 32) a x).toNat < S512x128.size a := fun v13 v16 v33 k0_hw137 => k0_hw137.1
theorem k0_idx274_inb : ∀ (v13 : IVec S16 32) (v16 : IVec S16 32) (v33 : IVec S16 32) (k0_hw137 : k0_chk137 v13 v16 v33), ∀ a x, ((![v16, v33] : Fin 2 → IVec S16 32) a x).toNat < S400x128.size a := fun v13 v16 v33 k0_hw137 => k0_hw137.2

def k0_chk138 (v13 : IVec S16 32) (v16 : IVec S16 32) (v35 : IVec S16 32) : Prop :=
  (∀ a x, ((![v13, v35] : Fin 2 → IVec S16 32) a x).toNat < S512x128.size a) ∧
  (∀ a x, ((![v16, v35] : Fin 2 → IVec S16 32) a x).toNat < S400x128.size a)
theorem k0_idx275_inb : ∀ (v13 : IVec S16 32) (v16 : IVec S16 32) (v35 : IVec S16 32) (k0_hw138 : k0_chk138 v13 v16 v35), ∀ a x, ((![v13, v35] : Fin 2 → IVec S16 32) a x).toNat < S512x128.size a := fun v13 v16 v35 k0_hw138 => k0_hw138.1
theorem k0_idx276_inb : ∀ (v13 : IVec S16 32) (v16 : IVec S16 32) (v35 : IVec S16 32) (k0_hw138 : k0_chk138 v13 v16 v35), ∀ a x, ((![v16, v35] : Fin 2 → IVec S16 32) a x).toNat < S400x128.size a := fun v13 v16 v35 k0_hw138 => k0_hw138.2

def k0_chk139 (v13 : IVec S16 32) (v16 : IVec S16 32) (v37 : IVec S16 32) : Prop :=
  (∀ a x, ((![v13, v37] : Fin 2 → IVec S16 32) a x).toNat < S512x128.size a) ∧
  (∀ a x, ((![v16, v37] : Fin 2 → IVec S16 32) a x).toNat < S400x128.size a)
theorem k0_idx277_inb : ∀ (v13 : IVec S16 32) (v16 : IVec S16 32) (v37 : IVec S16 32) (k0_hw139 : k0_chk139 v13 v16 v37), ∀ a x, ((![v13, v37] : Fin 2 → IVec S16 32) a x).toNat < S512x128.size a := fun v13 v16 v37 k0_hw139 => k0_hw139.1
theorem k0_idx278_inb : ∀ (v13 : IVec S16 32) (v16 : IVec S16 32) (v37 : IVec S16 32) (k0_hw139 : k0_chk139 v13 v16 v37), ∀ a x, ((![v16, v37] : Fin 2 → IVec S16 32) a x).toNat < S400x128.size a := fun v13 v16 v37 k0_hw139 => k0_hw139.2

def k0_chk140 (v13 : IVec S16 32) (v16 : IVec S16 32) (v39 : IVec S16 32) : Prop :=
  (∀ a x, ((![v13, v39] : Fin 2 → IVec S16 32) a x).toNat < S512x128.size a) ∧
  (∀ a x, ((![v16, v39] : Fin 2 → IVec S16 32) a x).toNat < S400x128.size a)
theorem k0_idx279_inb : ∀ (v13 : IVec S16 32) (v16 : IVec S16 32) (v39 : IVec S16 32) (k0_hw140 : k0_chk140 v13 v16 v39), ∀ a x, ((![v13, v39] : Fin 2 → IVec S16 32) a x).toNat < S512x128.size a := fun v13 v16 v39 k0_hw140 => k0_hw140.1
theorem k0_idx280_inb : ∀ (v13 : IVec S16 32) (v16 : IVec S16 32) (v39 : IVec S16 32) (k0_hw140 : k0_chk140 v13 v16 v39), ∀ a x, ((![v16, v39] : Fin 2 → IVec S16 32) a x).toNat < S400x128.size a := fun v13 v16 v39 k0_hw140 => k0_hw140.2

def k0_chk141 (v13 : IVec S16 32) (v16 : IVec S16 32) (v41 : IVec S16 32) : Prop :=
  (∀ a x, ((![v13, v41] : Fin 2 → IVec S16 32) a x).toNat < S512x128.size a) ∧
  (∀ a x, ((![v16, v41] : Fin 2 → IVec S16 32) a x).toNat < S400x128.size a)
theorem k0_idx281_inb : ∀ (v13 : IVec S16 32) (v16 : IVec S16 32) (v41 : IVec S16 32) (k0_hw141 : k0_chk141 v13 v16 v41), ∀ a x, ((![v13, v41] : Fin 2 → IVec S16 32) a x).toNat < S512x128.size a := fun v13 v16 v41 k0_hw141 => k0_hw141.1
theorem k0_idx282_inb : ∀ (v13 : IVec S16 32) (v16 : IVec S16 32) (v41 : IVec S16 32) (k0_hw141 : k0_chk141 v13 v16 v41), ∀ a x, ((![v16, v41] : Fin 2 → IVec S16 32) a x).toNat < S400x128.size a := fun v13 v16 v41 k0_hw141 => k0_hw141.2

def k0_chk142 (v13 : IVec S16 32) (v16 : IVec S16 32) (v43 : IVec S16 32) : Prop :=
  (∀ a x, ((![v13, v43] : Fin 2 → IVec S16 32) a x).toNat < S512x128.size a) ∧
  (∀ a x, ((![v16, v43] : Fin 2 → IVec S16 32) a x).toNat < S400x128.size a)
theorem k0_idx283_inb : ∀ (v13 : IVec S16 32) (v16 : IVec S16 32) (v43 : IVec S16 32) (k0_hw142 : k0_chk142 v13 v16 v43), ∀ a x, ((![v13, v43] : Fin 2 → IVec S16 32) a x).toNat < S512x128.size a := fun v13 v16 v43 k0_hw142 => k0_hw142.1
theorem k0_idx284_inb : ∀ (v13 : IVec S16 32) (v16 : IVec S16 32) (v43 : IVec S16 32) (k0_hw142 : k0_chk142 v13 v16 v43), ∀ a x, ((![v16, v43] : Fin 2 → IVec S16 32) a x).toNat < S400x128.size a := fun v13 v16 v43 k0_hw142 => k0_hw142.2

def k0_chk143 (v13 : IVec S16 32) (v16 : IVec S16 32) (v45 : IVec S16 32) : Prop :=
  (∀ a x, ((![v13, v45] : Fin 2 → IVec S16 32) a x).toNat < S512x128.size a) ∧
  (∀ a x, ((![v16, v45] : Fin 2 → IVec S16 32) a x).toNat < S400x128.size a)
theorem k0_idx285_inb : ∀ (v13 : IVec S16 32) (v16 : IVec S16 32) (v45 : IVec S16 32) (k0_hw143 : k0_chk143 v13 v16 v45), ∀ a x, ((![v13, v45] : Fin 2 → IVec S16 32) a x).toNat < S512x128.size a := fun v13 v16 v45 k0_hw143 => k0_hw143.1
theorem k0_idx286_inb : ∀ (v13 : IVec S16 32) (v16 : IVec S16 32) (v45 : IVec S16 32) (k0_hw143 : k0_chk143 v13 v16 v45), ∀ a x, ((![v16, v45] : Fin 2 → IVec S16 32) a x).toNat < S400x128.size a := fun v13 v16 v45 k0_hw143 => k0_hw143.2

def k0_chk144 (v13 : IVec S16 32) (v16 : IVec S16 32) (v47 : IVec S16 32) : Prop :=
  (∀ a x, ((![v13, v47] : Fin 2 → IVec S16 32) a x).toNat < S512x128.size a) ∧
  (∀ a x, ((![v16, v47] : Fin 2 → IVec S16 32) a x).toNat < S400x128.size a)
theorem k0_idx287_inb : ∀ (v13 : IVec S16 32) (v16 : IVec S16 32) (v47 : IVec S16 32) (k0_hw144 : k0_chk144 v13 v16 v47), ∀ a x, ((![v13, v47] : Fin 2 → IVec S16 32) a x).toNat < S512x128.size a := fun v13 v16 v47 k0_hw144 => k0_hw144.1
theorem k0_idx288_inb : ∀ (v13 : IVec S16 32) (v16 : IVec S16 32) (v47 : IVec S16 32) (k0_hw144 : k0_chk144 v13 v16 v47), ∀ a x, ((![v16, v47] : Fin 2 → IVec S16 32) a x).toNat < S400x128.size a := fun v13 v16 v47 k0_hw144 => k0_hw144.2

def k0_chk145 (v13 : IVec S16 32) (v16 : IVec S16 32) (v49 : IVec S16 32) : Prop :=
  (∀ a x, ((![v13, v49] : Fin 2 → IVec S16 32) a x).toNat < S512x128.size a) ∧
  (∀ a x, ((![v16, v49] : Fin 2 → IVec S16 32) a x).toNat < S400x128.size a)
theorem k0_idx289_inb : ∀ (v13 : IVec S16 32) (v16 : IVec S16 32) (v49 : IVec S16 32) (k0_hw145 : k0_chk145 v13 v16 v49), ∀ a x, ((![v13, v49] : Fin 2 → IVec S16 32) a x).toNat < S512x128.size a := fun v13 v16 v49 k0_hw145 => k0_hw145.1
theorem k0_idx290_inb : ∀ (v13 : IVec S16 32) (v16 : IVec S16 32) (v49 : IVec S16 32) (k0_hw145 : k0_chk145 v13 v16 v49), ∀ a x, ((![v16, v49] : Fin 2 → IVec S16 32) a x).toNat < S400x128.size a := fun v13 v16 v49 k0_hw145 => k0_hw145.2

def k0_chk146 (v13 : IVec S16 32) (v16 : IVec S16 32) (v51 : IVec S16 32) : Prop :=
  (∀ a x, ((![v13, v51] : Fin 2 → IVec S16 32) a x).toNat < S512x128.size a) ∧
  (∀ a x, ((![v16, v51] : Fin 2 → IVec S16 32) a x).toNat < S400x128.size a)
theorem k0_idx291_inb : ∀ (v13 : IVec S16 32) (v16 : IVec S16 32) (v51 : IVec S16 32) (k0_hw146 : k0_chk146 v13 v16 v51), ∀ a x, ((![v13, v51] : Fin 2 → IVec S16 32) a x).toNat < S512x128.size a := fun v13 v16 v51 k0_hw146 => k0_hw146.1
theorem k0_idx292_inb : ∀ (v13 : IVec S16 32) (v16 : IVec S16 32) (v51 : IVec S16 32) (k0_hw146 : k0_chk146 v13 v16 v51), ∀ a x, ((![v16, v51] : Fin 2 → IVec S16 32) a x).toNat < S400x128.size a := fun v13 v16 v51 k0_hw146 => k0_hw146.2

def k0_chk147 (v13 : IVec S16 32) (v16 : IVec S16 32) (v53 : IVec S16 32) : Prop :=
  (∀ a x, ((![v13, v53] : Fin 2 → IVec S16 32) a x).toNat < S512x128.size a) ∧
  (∀ a x, ((![v16, v53] : Fin 2 → IVec S16 32) a x).toNat < S400x128.size a)
theorem k0_idx293_inb : ∀ (v13 : IVec S16 32) (v16 : IVec S16 32) (v53 : IVec S16 32) (k0_hw147 : k0_chk147 v13 v16 v53), ∀ a x, ((![v13, v53] : Fin 2 → IVec S16 32) a x).toNat < S512x128.size a := fun v13 v16 v53 k0_hw147 => k0_hw147.1
theorem k0_idx294_inb : ∀ (v13 : IVec S16 32) (v16 : IVec S16 32) (v53 : IVec S16 32) (k0_hw147 : k0_chk147 v13 v16 v53), ∀ a x, ((![v16, v53] : Fin 2 → IVec S16 32) a x).toNat < S400x128.size a := fun v13 v16 v53 k0_hw147 => k0_hw147.2

def k0_chk148 (v13 : IVec S16 32) (v16 : IVec S16 32) (v55 : IVec S16 32) : Prop :=
  (∀ a x, ((![v13, v55] : Fin 2 → IVec S16 32) a x).toNat < S512x128.size a) ∧
  (∀ a x, ((![v16, v55] : Fin 2 → IVec S16 32) a x).toNat < S400x128.size a)
theorem k0_idx295_inb : ∀ (v13 : IVec S16 32) (v16 : IVec S16 32) (v55 : IVec S16 32) (k0_hw148 : k0_chk148 v13 v16 v55), ∀ a x, ((![v13, v55] : Fin 2 → IVec S16 32) a x).toNat < S512x128.size a := fun v13 v16 v55 k0_hw148 => k0_hw148.1
theorem k0_idx296_inb : ∀ (v13 : IVec S16 32) (v16 : IVec S16 32) (v55 : IVec S16 32) (k0_hw148 : k0_chk148 v13 v16 v55), ∀ a x, ((![v16, v55] : Fin 2 → IVec S16 32) a x).toNat < S400x128.size a := fun v13 v16 v55 k0_hw148 => k0_hw148.2

def k0_chk149 (v13 : IVec S16 32) (v16 : IVec S16 32) (v57 : IVec S16 32) : Prop :=
  (∀ a x, ((![v13, v57] : Fin 2 → IVec S16 32) a x).toNat < S512x128.size a) ∧
  (∀ a x, ((![v16, v57] : Fin 2 → IVec S16 32) a x).toNat < S400x128.size a)
theorem k0_idx297_inb : ∀ (v13 : IVec S16 32) (v16 : IVec S16 32) (v57 : IVec S16 32) (k0_hw149 : k0_chk149 v13 v16 v57), ∀ a x, ((![v13, v57] : Fin 2 → IVec S16 32) a x).toNat < S512x128.size a := fun v13 v16 v57 k0_hw149 => k0_hw149.1
theorem k0_idx298_inb : ∀ (v13 : IVec S16 32) (v16 : IVec S16 32) (v57 : IVec S16 32) (k0_hw149 : k0_chk149 v13 v16 v57), ∀ a x, ((![v16, v57] : Fin 2 → IVec S16 32) a x).toNat < S400x128.size a := fun v13 v16 v57 k0_hw149 => k0_hw149.2

def k0_chk150 (v13 : IVec S16 32) (v16 : IVec S16 32) (v59 : IVec S16 32) : Prop :=
  (∀ a x, ((![v13, v59] : Fin 2 → IVec S16 32) a x).toNat < S512x128.size a) ∧
  (∀ a x, ((![v16, v59] : Fin 2 → IVec S16 32) a x).toNat < S400x128.size a)
theorem k0_idx299_inb : ∀ (v13 : IVec S16 32) (v16 : IVec S16 32) (v59 : IVec S16 32) (k0_hw150 : k0_chk150 v13 v16 v59), ∀ a x, ((![v13, v59] : Fin 2 → IVec S16 32) a x).toNat < S512x128.size a := fun v13 v16 v59 k0_hw150 => k0_hw150.1
theorem k0_idx300_inb : ∀ (v13 : IVec S16 32) (v16 : IVec S16 32) (v59 : IVec S16 32) (k0_hw150 : k0_chk150 v13 v16 v59), ∀ a x, ((![v16, v59] : Fin 2 → IVec S16 32) a x).toNat < S400x128.size a := fun v13 v16 v59 k0_hw150 => k0_hw150.2

def k0_chk151 (v13 : IVec S16 32) (v16 : IVec S16 32) (v61 : IVec S16 32) : Prop :=
  (∀ a x, ((![v13, v61] : Fin 2 → IVec S16 32) a x).toNat < S512x128.size a) ∧
  (∀ a x, ((![v16, v61] : Fin 2 → IVec S16 32) a x).toNat < S400x128.size a)
theorem k0_idx301_inb : ∀ (v13 : IVec S16 32) (v16 : IVec S16 32) (v61 : IVec S16 32) (k0_hw151 : k0_chk151 v13 v16 v61), ∀ a x, ((![v13, v61] : Fin 2 → IVec S16 32) a x).toNat < S512x128.size a := fun v13 v16 v61 k0_hw151 => k0_hw151.1
theorem k0_idx302_inb : ∀ (v13 : IVec S16 32) (v16 : IVec S16 32) (v61 : IVec S16 32) (k0_hw151 : k0_chk151 v13 v16 v61), ∀ a x, ((![v16, v61] : Fin 2 → IVec S16 32) a x).toNat < S400x128.size a := fun v13 v16 v61 k0_hw151 => k0_hw151.2

def k0_chk152 (v13 : IVec S16 32) (v16 : IVec S16 32) (v63 : IVec S16 32) : Prop :=
  (∀ a x, ((![v13, v63] : Fin 2 → IVec S16 32) a x).toNat < S512x128.size a) ∧
  (∀ a x, ((![v16, v63] : Fin 2 → IVec S16 32) a x).toNat < S400x128.size a)
theorem k0_idx303_inb : ∀ (v13 : IVec S16 32) (v16 : IVec S16 32) (v63 : IVec S16 32) (k0_hw152 : k0_chk152 v13 v16 v63), ∀ a x, ((![v13, v63] : Fin 2 → IVec S16 32) a x).toNat < S512x128.size a := fun v13 v16 v63 k0_hw152 => k0_hw152.1
theorem k0_idx304_inb : ∀ (v13 : IVec S16 32) (v16 : IVec S16 32) (v63 : IVec S16 32) (k0_hw152 : k0_chk152 v13 v16 v63), ∀ a x, ((![v16, v63] : Fin 2 → IVec S16 32) a x).toNat < S400x128.size a := fun v13 v16 v63 k0_hw152 => k0_hw152.2

def k0_chk153 (v13 : IVec S16 32) (v16 : IVec S16 32) (v65 : IVec S16 32) : Prop :=
  (∀ a x, ((![v13, v65] : Fin 2 → IVec S16 32) a x).toNat < S512x128.size a) ∧
  (∀ a x, ((![v16, v65] : Fin 2 → IVec S16 32) a x).toNat < S400x128.size a)
theorem k0_idx305_inb : ∀ (v13 : IVec S16 32) (v16 : IVec S16 32) (v65 : IVec S16 32) (k0_hw153 : k0_chk153 v13 v16 v65), ∀ a x, ((![v13, v65] : Fin 2 → IVec S16 32) a x).toNat < S512x128.size a := fun v13 v16 v65 k0_hw153 => k0_hw153.1
theorem k0_idx306_inb : ∀ (v13 : IVec S16 32) (v16 : IVec S16 32) (v65 : IVec S16 32) (k0_hw153 : k0_chk153 v13 v16 v65), ∀ a x, ((![v16, v65] : Fin 2 → IVec S16 32) a x).toNat < S400x128.size a := fun v13 v16 v65 k0_hw153 => k0_hw153.2

def k0_chk154 (v13 : IVec S16 32) (v16 : IVec S16 32) (v67 : IVec S16 32) : Prop :=
  (∀ a x, ((![v13, v67] : Fin 2 → IVec S16 32) a x).toNat < S512x128.size a) ∧
  (∀ a x, ((![v16, v67] : Fin 2 → IVec S16 32) a x).toNat < S400x128.size a)
theorem k0_idx307_inb : ∀ (v13 : IVec S16 32) (v16 : IVec S16 32) (v67 : IVec S16 32) (k0_hw154 : k0_chk154 v13 v16 v67), ∀ a x, ((![v13, v67] : Fin 2 → IVec S16 32) a x).toNat < S512x128.size a := fun v13 v16 v67 k0_hw154 => k0_hw154.1
theorem k0_idx308_inb : ∀ (v13 : IVec S16 32) (v16 : IVec S16 32) (v67 : IVec S16 32) (k0_hw154 : k0_chk154 v13 v16 v67), ∀ a x, ((![v16, v67] : Fin 2 → IVec S16 32) a x).toNat < S400x128.size a := fun v13 v16 v67 k0_hw154 => k0_hw154.2

def k0_chk155 (v13 : IVec S16 32) (v16 : IVec S16 32) (v69 : IVec S16 32) : Prop :=
  (∀ a x, ((![v13, v69] : Fin 2 → IVec S16 32) a x).toNat < S512x128.size a) ∧
  (∀ a x, ((![v16, v69] : Fin 2 → IVec S16 32) a x).toNat < S400x128.size a)
theorem k0_idx309_inb : ∀ (v13 : IVec S16 32) (v16 : IVec S16 32) (v69 : IVec S16 32) (k0_hw155 : k0_chk155 v13 v16 v69), ∀ a x, ((![v13, v69] : Fin 2 → IVec S16 32) a x).toNat < S512x128.size a := fun v13 v16 v69 k0_hw155 => k0_hw155.1
theorem k0_idx310_inb : ∀ (v13 : IVec S16 32) (v16 : IVec S16 32) (v69 : IVec S16 32) (k0_hw155 : k0_chk155 v13 v16 v69), ∀ a x, ((![v16, v69] : Fin 2 → IVec S16 32) a x).toNat < S400x128.size a := fun v13 v16 v69 k0_hw155 => k0_hw155.2

def k0_chk156 (v13 : IVec S16 32) (v16 : IVec S16 32) (v71 : IVec S16 32) : Prop :=
  (∀ a x, ((![v13, v71] : Fin 2 → IVec S16 32) a x).toNat < S512x128.size a) ∧
  (∀ a x, ((![v16, v71] : Fin 2 → IVec S16 32) a x).toNat < S400x128.size a)
theorem k0_idx311_inb : ∀ (v13 : IVec S16 32) (v16 : IVec S16 32) (v71 : IVec S16 32) (k0_hw156 : k0_chk156 v13 v16 v71), ∀ a x, ((![v13, v71] : Fin 2 → IVec S16 32) a x).toNat < S512x128.size a := fun v13 v16 v71 k0_hw156 => k0_hw156.1
theorem k0_idx312_inb : ∀ (v13 : IVec S16 32) (v16 : IVec S16 32) (v71 : IVec S16 32) (k0_hw156 : k0_chk156 v13 v16 v71), ∀ a x, ((![v16, v71] : Fin 2 → IVec S16 32) a x).toNat < S400x128.size a := fun v13 v16 v71 k0_hw156 => k0_hw156.2

def k0_chk157 (v13 : IVec S16 32) (v16 : IVec S16 32) (v73 : IVec S16 32) : Prop :=
  (∀ a x, ((![v13, v73] : Fin 2 → IVec S16 32) a x).toNat < S512x128.size a) ∧
  (∀ a x, ((![v16, v73] : Fin 2 → IVec S16 32) a x).toNat < S400x128.size a)
theorem k0_idx313_inb : ∀ (v13 : IVec S16 32) (v16 : IVec S16 32) (v73 : IVec S16 32) (k0_hw157 : k0_chk157 v13 v16 v73), ∀ a x, ((![v13, v73] : Fin 2 → IVec S16 32) a x).toNat < S512x128.size a := fun v13 v16 v73 k0_hw157 => k0_hw157.1
theorem k0_idx314_inb : ∀ (v13 : IVec S16 32) (v16 : IVec S16 32) (v73 : IVec S16 32) (k0_hw157 : k0_chk157 v13 v16 v73), ∀ a x, ((![v16, v73] : Fin 2 → IVec S16 32) a x).toNat < S400x128.size a := fun v13 v16 v73 k0_hw157 => k0_hw157.2

def k0_chk158 (v13 : IVec S16 32) (v16 : IVec S16 32) (v75 : IVec S16 32) : Prop :=
  (∀ a x, ((![v13, v75] : Fin 2 → IVec S16 32) a x).toNat < S512x128.size a) ∧
  (∀ a x, ((![v16, v75] : Fin 2 → IVec S16 32) a x).toNat < S400x128.size a)
theorem k0_idx315_inb : ∀ (v13 : IVec S16 32) (v16 : IVec S16 32) (v75 : IVec S16 32) (k0_hw158 : k0_chk158 v13 v16 v75), ∀ a x, ((![v13, v75] : Fin 2 → IVec S16 32) a x).toNat < S512x128.size a := fun v13 v16 v75 k0_hw158 => k0_hw158.1
theorem k0_idx316_inb : ∀ (v13 : IVec S16 32) (v16 : IVec S16 32) (v75 : IVec S16 32) (k0_hw158 : k0_chk158 v13 v16 v75), ∀ a x, ((![v16, v75] : Fin 2 → IVec S16 32) a x).toNat < S400x128.size a := fun v13 v16 v75 k0_hw158 => k0_hw158.2

def k0_chk159 (v13 : IVec S16 32) (v16 : IVec S16 32) (v77 : IVec S16 32) : Prop :=
  (∀ a x, ((![v13, v77] : Fin 2 → IVec S16 32) a x).toNat < S512x128.size a) ∧
  (∀ a x, ((![v16, v77] : Fin 2 → IVec S16 32) a x).toNat < S400x128.size a)
theorem k0_idx317_inb : ∀ (v13 : IVec S16 32) (v16 : IVec S16 32) (v77 : IVec S16 32) (k0_hw159 : k0_chk159 v13 v16 v77), ∀ a x, ((![v13, v77] : Fin 2 → IVec S16 32) a x).toNat < S512x128.size a := fun v13 v16 v77 k0_hw159 => k0_hw159.1
theorem k0_idx318_inb : ∀ (v13 : IVec S16 32) (v16 : IVec S16 32) (v77 : IVec S16 32) (k0_hw159 : k0_chk159 v13 v16 v77), ∀ a x, ((![v16, v77] : Fin 2 → IVec S16 32) a x).toNat < S400x128.size a := fun v13 v16 v77 k0_hw159 => k0_hw159.2

def k0_chk160 (v13 : IVec S16 32) (v16 : IVec S16 32) (v79 : IVec S16 32) : Prop :=
  (∀ a x, ((![v13, v79] : Fin 2 → IVec S16 32) a x).toNat < S512x128.size a) ∧
  (∀ a x, ((![v16, v79] : Fin 2 → IVec S16 32) a x).toNat < S400x128.size a)
theorem k0_idx319_inb : ∀ (v13 : IVec S16 32) (v16 : IVec S16 32) (v79 : IVec S16 32) (k0_hw160 : k0_chk160 v13 v16 v79), ∀ a x, ((![v13, v79] : Fin 2 → IVec S16 32) a x).toNat < S512x128.size a := fun v13 v16 v79 k0_hw160 => k0_hw160.1
theorem k0_idx320_inb : ∀ (v13 : IVec S16 32) (v16 : IVec S16 32) (v79 : IVec S16 32) (k0_hw160 : k0_chk160 v13 v16 v79), ∀ a x, ((![v16, v79] : Fin 2 → IVec S16 32) a x).toNat < S400x128.size a := fun v13 v16 v79 k0_hw160 => k0_hw160.2

def k0_chk161 (v13 : IVec S16 32) (v16 : IVec S16 32) (v81 : IVec S16 32) : Prop :=
  (∀ a x, ((![v13, v81] : Fin 2 → IVec S16 32) a x).toNat < S512x128.size a) ∧
  (∀ a x, ((![v16, v81] : Fin 2 → IVec S16 32) a x).toNat < S400x128.size a)
theorem k0_idx321_inb : ∀ (v13 : IVec S16 32) (v16 : IVec S16 32) (v81 : IVec S16 32) (k0_hw161 : k0_chk161 v13 v16 v81), ∀ a x, ((![v13, v81] : Fin 2 → IVec S16 32) a x).toNat < S512x128.size a := fun v13 v16 v81 k0_hw161 => k0_hw161.1
theorem k0_idx322_inb : ∀ (v13 : IVec S16 32) (v16 : IVec S16 32) (v81 : IVec S16 32) (k0_hw161 : k0_chk161 v13 v16 v81), ∀ a x, ((![v16, v81] : Fin 2 → IVec S16 32) a x).toNat < S400x128.size a := fun v13 v16 v81 k0_hw161 => k0_hw161.2

def k0_chk162 (v13 : IVec S16 32) (v16 : IVec S16 32) (v83 : IVec S16 32) : Prop :=
  (∀ a x, ((![v13, v83] : Fin 2 → IVec S16 32) a x).toNat < S512x128.size a) ∧
  (∀ a x, ((![v16, v83] : Fin 2 → IVec S16 32) a x).toNat < S400x128.size a)
theorem k0_idx323_inb : ∀ (v13 : IVec S16 32) (v16 : IVec S16 32) (v83 : IVec S16 32) (k0_hw162 : k0_chk162 v13 v16 v83), ∀ a x, ((![v13, v83] : Fin 2 → IVec S16 32) a x).toNat < S512x128.size a := fun v13 v16 v83 k0_hw162 => k0_hw162.1
theorem k0_idx324_inb : ∀ (v13 : IVec S16 32) (v16 : IVec S16 32) (v83 : IVec S16 32) (k0_hw162 : k0_chk162 v13 v16 v83), ∀ a x, ((![v16, v83] : Fin 2 → IVec S16 32) a x).toNat < S400x128.size a := fun v13 v16 v83 k0_hw162 => k0_hw162.2

def k0_chk163 (v13 : IVec S16 32) (v16 : IVec S16 32) (v85 : IVec S16 32) : Prop :=
  (∀ a x, ((![v13, v85] : Fin 2 → IVec S16 32) a x).toNat < S512x128.size a) ∧
  (∀ a x, ((![v16, v85] : Fin 2 → IVec S16 32) a x).toNat < S400x128.size a)
theorem k0_idx325_inb : ∀ (v13 : IVec S16 32) (v16 : IVec S16 32) (v85 : IVec S16 32) (k0_hw163 : k0_chk163 v13 v16 v85), ∀ a x, ((![v13, v85] : Fin 2 → IVec S16 32) a x).toNat < S512x128.size a := fun v13 v16 v85 k0_hw163 => k0_hw163.1
theorem k0_idx326_inb : ∀ (v13 : IVec S16 32) (v16 : IVec S16 32) (v85 : IVec S16 32) (k0_hw163 : k0_chk163 v13 v16 v85), ∀ a x, ((![v16, v85] : Fin 2 → IVec S16 32) a x).toNat < S400x128.size a := fun v13 v16 v85 k0_hw163 => k0_hw163.2

def k0_chk164 (v13 : IVec S16 32) (v16 : IVec S16 32) (v87 : IVec S16 32) : Prop :=
  (∀ a x, ((![v13, v87] : Fin 2 → IVec S16 32) a x).toNat < S512x128.size a) ∧
  (∀ a x, ((![v16, v87] : Fin 2 → IVec S16 32) a x).toNat < S400x128.size a)
theorem k0_idx327_inb : ∀ (v13 : IVec S16 32) (v16 : IVec S16 32) (v87 : IVec S16 32) (k0_hw164 : k0_chk164 v13 v16 v87), ∀ a x, ((![v13, v87] : Fin 2 → IVec S16 32) a x).toNat < S512x128.size a := fun v13 v16 v87 k0_hw164 => k0_hw164.1
theorem k0_idx328_inb : ∀ (v13 : IVec S16 32) (v16 : IVec S16 32) (v87 : IVec S16 32) (k0_hw164 : k0_chk164 v13 v16 v87), ∀ a x, ((![v16, v87] : Fin 2 → IVec S16 32) a x).toNat < S400x128.size a := fun v13 v16 v87 k0_hw164 => k0_hw164.2

def k0_chk165 (v13 : IVec S16 32) (v16 : IVec S16 32) (v89 : IVec S16 32) : Prop :=
  (∀ a x, ((![v13, v89] : Fin 2 → IVec S16 32) a x).toNat < S512x128.size a) ∧
  (∀ a x, ((![v16, v89] : Fin 2 → IVec S16 32) a x).toNat < S400x128.size a)
theorem k0_idx329_inb : ∀ (v13 : IVec S16 32) (v16 : IVec S16 32) (v89 : IVec S16 32) (k0_hw165 : k0_chk165 v13 v16 v89), ∀ a x, ((![v13, v89] : Fin 2 → IVec S16 32) a x).toNat < S512x128.size a := fun v13 v16 v89 k0_hw165 => k0_hw165.1
theorem k0_idx330_inb : ∀ (v13 : IVec S16 32) (v16 : IVec S16 32) (v89 : IVec S16 32) (k0_hw165 : k0_chk165 v13 v16 v89), ∀ a x, ((![v16, v89] : Fin 2 → IVec S16 32) a x).toNat < S400x128.size a := fun v13 v16 v89 k0_hw165 => k0_hw165.2

def k0_chk166 (v13 : IVec S16 32) (v16 : IVec S16 32) (v91 : IVec S16 32) : Prop :=
  (∀ a x, ((![v13, v91] : Fin 2 → IVec S16 32) a x).toNat < S512x128.size a) ∧
  (∀ a x, ((![v16, v91] : Fin 2 → IVec S16 32) a x).toNat < S400x128.size a)
theorem k0_idx331_inb : ∀ (v13 : IVec S16 32) (v16 : IVec S16 32) (v91 : IVec S16 32) (k0_hw166 : k0_chk166 v13 v16 v91), ∀ a x, ((![v13, v91] : Fin 2 → IVec S16 32) a x).toNat < S512x128.size a := fun v13 v16 v91 k0_hw166 => k0_hw166.1
theorem k0_idx332_inb : ∀ (v13 : IVec S16 32) (v16 : IVec S16 32) (v91 : IVec S16 32) (k0_hw166 : k0_chk166 v13 v16 v91), ∀ a x, ((![v16, v91] : Fin 2 → IVec S16 32) a x).toNat < S400x128.size a := fun v13 v16 v91 k0_hw166 => k0_hw166.2

def k0_chk167 (v13 : IVec S16 32) (v16 : IVec S16 32) (v93 : IVec S16 32) : Prop :=
  (∀ a x, ((![v13, v93] : Fin 2 → IVec S16 32) a x).toNat < S512x128.size a) ∧
  (∀ a x, ((![v16, v93] : Fin 2 → IVec S16 32) a x).toNat < S400x128.size a)
theorem k0_idx333_inb : ∀ (v13 : IVec S16 32) (v16 : IVec S16 32) (v93 : IVec S16 32) (k0_hw167 : k0_chk167 v13 v16 v93), ∀ a x, ((![v13, v93] : Fin 2 → IVec S16 32) a x).toNat < S512x128.size a := fun v13 v16 v93 k0_hw167 => k0_hw167.1
theorem k0_idx334_inb : ∀ (v13 : IVec S16 32) (v16 : IVec S16 32) (v93 : IVec S16 32) (k0_hw167 : k0_chk167 v13 v16 v93), ∀ a x, ((![v16, v93] : Fin 2 → IVec S16 32) a x).toNat < S400x128.size a := fun v13 v16 v93 k0_hw167 => k0_hw167.2

def k0_chk168 (v13 : IVec S16 32) (v16 : IVec S16 32) (v95 : IVec S16 32) : Prop :=
  (∀ a x, ((![v13, v95] : Fin 2 → IVec S16 32) a x).toNat < S512x128.size a) ∧
  (∀ a x, ((![v16, v95] : Fin 2 → IVec S16 32) a x).toNat < S400x128.size a)
theorem k0_idx335_inb : ∀ (v13 : IVec S16 32) (v16 : IVec S16 32) (v95 : IVec S16 32) (k0_hw168 : k0_chk168 v13 v16 v95), ∀ a x, ((![v13, v95] : Fin 2 → IVec S16 32) a x).toNat < S512x128.size a := fun v13 v16 v95 k0_hw168 => k0_hw168.1
theorem k0_idx336_inb : ∀ (v13 : IVec S16 32) (v16 : IVec S16 32) (v95 : IVec S16 32) (k0_hw168 : k0_chk168 v13 v16 v95), ∀ a x, ((![v16, v95] : Fin 2 → IVec S16 32) a x).toNat < S400x128.size a := fun v13 v16 v95 k0_hw168 => k0_hw168.2

def k0_chk169 (v13 : IVec S16 32) (v16 : IVec S16 32) (v97 : IVec S16 32) : Prop :=
  (∀ a x, ((![v13, v97] : Fin 2 → IVec S16 32) a x).toNat < S512x128.size a) ∧
  (∀ a x, ((![v16, v97] : Fin 2 → IVec S16 32) a x).toNat < S400x128.size a)
theorem k0_idx337_inb : ∀ (v13 : IVec S16 32) (v16 : IVec S16 32) (v97 : IVec S16 32) (k0_hw169 : k0_chk169 v13 v16 v97), ∀ a x, ((![v13, v97] : Fin 2 → IVec S16 32) a x).toNat < S512x128.size a := fun v13 v16 v97 k0_hw169 => k0_hw169.1
theorem k0_idx338_inb : ∀ (v13 : IVec S16 32) (v16 : IVec S16 32) (v97 : IVec S16 32) (k0_hw169 : k0_chk169 v13 v16 v97), ∀ a x, ((![v16, v97] : Fin 2 → IVec S16 32) a x).toNat < S400x128.size a := fun v13 v16 v97 k0_hw169 => k0_hw169.2

def k0_chk170 (v13 : IVec S16 32) (v16 : IVec S16 32) (v99 : IVec S16 32) : Prop :=
  (∀ a x, ((![v13, v99] : Fin 2 → IVec S16 32) a x).toNat < S512x128.size a) ∧
  (∀ a x, ((![v16, v99] : Fin 2 → IVec S16 32) a x).toNat < S400x128.size a)
theorem k0_idx339_inb : ∀ (v13 : IVec S16 32) (v16 : IVec S16 32) (v99 : IVec S16 32) (k0_hw170 : k0_chk170 v13 v16 v99), ∀ a x, ((![v13, v99] : Fin 2 → IVec S16 32) a x).toNat < S512x128.size a := fun v13 v16 v99 k0_hw170 => k0_hw170.1
theorem k0_idx340_inb : ∀ (v13 : IVec S16 32) (v16 : IVec S16 32) (v99 : IVec S16 32) (k0_hw170 : k0_chk170 v13 v16 v99), ∀ a x, ((![v16, v99] : Fin 2 → IVec S16 32) a x).toNat < S400x128.size a := fun v13 v16 v99 k0_hw170 => k0_hw170.2

def k0_chk171 (v13 : IVec S16 32) (v16 : IVec S16 32) (v101 : IVec S16 32) : Prop :=
  (∀ a x, ((![v13, v101] : Fin 2 → IVec S16 32) a x).toNat < S512x128.size a) ∧
  (∀ a x, ((![v16, v101] : Fin 2 → IVec S16 32) a x).toNat < S400x128.size a)
theorem k0_idx341_inb : ∀ (v13 : IVec S16 32) (v16 : IVec S16 32) (v101 : IVec S16 32) (k0_hw171 : k0_chk171 v13 v16 v101), ∀ a x, ((![v13, v101] : Fin 2 → IVec S16 32) a x).toNat < S512x128.size a := fun v13 v16 v101 k0_hw171 => k0_hw171.1
theorem k0_idx342_inb : ∀ (v13 : IVec S16 32) (v16 : IVec S16 32) (v101 : IVec S16 32) (k0_hw171 : k0_chk171 v13 v16 v101), ∀ a x, ((![v16, v101] : Fin 2 → IVec S16 32) a x).toNat < S400x128.size a := fun v13 v16 v101 k0_hw171 => k0_hw171.2

def k0_chk172 (v13 : IVec S16 32) (v16 : IVec S16 32) (v103 : IVec S16 32) : Prop :=
  (∀ a x, ((![v13, v103] : Fin 2 → IVec S16 32) a x).toNat < S512x128.size a) ∧
  (∀ a x, ((![v16, v103] : Fin 2 → IVec S16 32) a x).toNat < S400x128.size a)
theorem k0_idx343_inb : ∀ (v13 : IVec S16 32) (v16 : IVec S16 32) (v103 : IVec S16 32) (k0_hw172 : k0_chk172 v13 v16 v103), ∀ a x, ((![v13, v103] : Fin 2 → IVec S16 32) a x).toNat < S512x128.size a := fun v13 v16 v103 k0_hw172 => k0_hw172.1
theorem k0_idx344_inb : ∀ (v13 : IVec S16 32) (v16 : IVec S16 32) (v103 : IVec S16 32) (k0_hw172 : k0_chk172 v13 v16 v103), ∀ a x, ((![v16, v103] : Fin 2 → IVec S16 32) a x).toNat < S400x128.size a := fun v13 v16 v103 k0_hw172 => k0_hw172.2

def k0_chk173 (v13 : IVec S16 32) (v16 : IVec S16 32) (v105 : IVec S16 32) : Prop :=
  (∀ a x, ((![v13, v105] : Fin 2 → IVec S16 32) a x).toNat < S512x128.size a) ∧
  (∀ a x, ((![v16, v105] : Fin 2 → IVec S16 32) a x).toNat < S400x128.size a)
theorem k0_idx345_inb : ∀ (v13 : IVec S16 32) (v16 : IVec S16 32) (v105 : IVec S16 32) (k0_hw173 : k0_chk173 v13 v16 v105), ∀ a x, ((![v13, v105] : Fin 2 → IVec S16 32) a x).toNat < S512x128.size a := fun v13 v16 v105 k0_hw173 => k0_hw173.1
theorem k0_idx346_inb : ∀ (v13 : IVec S16 32) (v16 : IVec S16 32) (v105 : IVec S16 32) (k0_hw173 : k0_chk173 v13 v16 v105), ∀ a x, ((![v16, v105] : Fin 2 → IVec S16 32) a x).toNat < S400x128.size a := fun v13 v16 v105 k0_hw173 => k0_hw173.2

def k0_chk174 (v13 : IVec S16 32) (v16 : IVec S16 32) (v107 : IVec S16 32) : Prop :=
  (∀ a x, ((![v13, v107] : Fin 2 → IVec S16 32) a x).toNat < S512x128.size a) ∧
  (∀ a x, ((![v16, v107] : Fin 2 → IVec S16 32) a x).toNat < S400x128.size a)
theorem k0_idx347_inb : ∀ (v13 : IVec S16 32) (v16 : IVec S16 32) (v107 : IVec S16 32) (k0_hw174 : k0_chk174 v13 v16 v107), ∀ a x, ((![v13, v107] : Fin 2 → IVec S16 32) a x).toNat < S512x128.size a := fun v13 v16 v107 k0_hw174 => k0_hw174.1
theorem k0_idx348_inb : ∀ (v13 : IVec S16 32) (v16 : IVec S16 32) (v107 : IVec S16 32) (k0_hw174 : k0_chk174 v13 v16 v107), ∀ a x, ((![v16, v107] : Fin 2 → IVec S16 32) a x).toNat < S400x128.size a := fun v13 v16 v107 k0_hw174 => k0_hw174.2

def k0_chk175 (v13 : IVec S16 32) (v16 : IVec S16 32) (v109 : IVec S16 32) : Prop :=
  (∀ a x, ((![v13, v109] : Fin 2 → IVec S16 32) a x).toNat < S512x128.size a) ∧
  (∀ a x, ((![v16, v109] : Fin 2 → IVec S16 32) a x).toNat < S400x128.size a)
theorem k0_idx349_inb : ∀ (v13 : IVec S16 32) (v16 : IVec S16 32) (v109 : IVec S16 32) (k0_hw175 : k0_chk175 v13 v16 v109), ∀ a x, ((![v13, v109] : Fin 2 → IVec S16 32) a x).toNat < S512x128.size a := fun v13 v16 v109 k0_hw175 => k0_hw175.1
theorem k0_idx350_inb : ∀ (v13 : IVec S16 32) (v16 : IVec S16 32) (v109 : IVec S16 32) (k0_hw175 : k0_chk175 v13 v16 v109), ∀ a x, ((![v16, v109] : Fin 2 → IVec S16 32) a x).toNat < S400x128.size a := fun v13 v16 v109 k0_hw175 => k0_hw175.2

def k0_chk176 (v13 : IVec S16 32) (v16 : IVec S16 32) (v111 : IVec S16 32) : Prop :=
  (∀ a x, ((![v13, v111] : Fin 2 → IVec S16 32) a x).toNat < S512x128.size a) ∧
  (∀ a x, ((![v16, v111] : Fin 2 → IVec S16 32) a x).toNat < S400x128.size a)
theorem k0_idx351_inb : ∀ (v13 : IVec S16 32) (v16 : IVec S16 32) (v111 : IVec S16 32) (k0_hw176 : k0_chk176 v13 v16 v111), ∀ a x, ((![v13, v111] : Fin 2 → IVec S16 32) a x).toNat < S512x128.size a := fun v13 v16 v111 k0_hw176 => k0_hw176.1
theorem k0_idx352_inb : ∀ (v13 : IVec S16 32) (v16 : IVec S16 32) (v111 : IVec S16 32) (k0_hw176 : k0_chk176 v13 v16 v111), ∀ a x, ((![v16, v111] : Fin 2 → IVec S16 32) a x).toNat < S400x128.size a := fun v13 v16 v111 k0_hw176 => k0_hw176.2

def k0_chk177 (v13 : IVec S16 32) (v16 : IVec S16 32) (v113 : IVec S16 32) : Prop :=
  (∀ a x, ((![v13, v113] : Fin 2 → IVec S16 32) a x).toNat < S512x128.size a) ∧
  (∀ a x, ((![v16, v113] : Fin 2 → IVec S16 32) a x).toNat < S400x128.size a)
theorem k0_idx353_inb : ∀ (v13 : IVec S16 32) (v16 : IVec S16 32) (v113 : IVec S16 32) (k0_hw177 : k0_chk177 v13 v16 v113), ∀ a x, ((![v13, v113] : Fin 2 → IVec S16 32) a x).toNat < S512x128.size a := fun v13 v16 v113 k0_hw177 => k0_hw177.1
theorem k0_idx354_inb : ∀ (v13 : IVec S16 32) (v16 : IVec S16 32) (v113 : IVec S16 32) (k0_hw177 : k0_chk177 v13 v16 v113), ∀ a x, ((![v16, v113] : Fin 2 → IVec S16 32) a x).toNat < S400x128.size a := fun v13 v16 v113 k0_hw177 => k0_hw177.2

def k0_chk178 (v13 : IVec S16 32) (v16 : IVec S16 32) (v115 : IVec S16 32) : Prop :=
  (∀ a x, ((![v13, v115] : Fin 2 → IVec S16 32) a x).toNat < S512x128.size a) ∧
  (∀ a x, ((![v16, v115] : Fin 2 → IVec S16 32) a x).toNat < S400x128.size a)
theorem k0_idx355_inb : ∀ (v13 : IVec S16 32) (v16 : IVec S16 32) (v115 : IVec S16 32) (k0_hw178 : k0_chk178 v13 v16 v115), ∀ a x, ((![v13, v115] : Fin 2 → IVec S16 32) a x).toNat < S512x128.size a := fun v13 v16 v115 k0_hw178 => k0_hw178.1
theorem k0_idx356_inb : ∀ (v13 : IVec S16 32) (v16 : IVec S16 32) (v115 : IVec S16 32) (k0_hw178 : k0_chk178 v13 v16 v115), ∀ a x, ((![v16, v115] : Fin 2 → IVec S16 32) a x).toNat < S400x128.size a := fun v13 v16 v115 k0_hw178 => k0_hw178.2

def k0_chk179 (v13 : IVec S16 32) (v16 : IVec S16 32) (v117 : IVec S16 32) : Prop :=
  (∀ a x, ((![v13, v117] : Fin 2 → IVec S16 32) a x).toNat < S512x128.size a) ∧
  (∀ a x, ((![v16, v117] : Fin 2 → IVec S16 32) a x).toNat < S400x128.size a)
theorem k0_idx357_inb : ∀ (v13 : IVec S16 32) (v16 : IVec S16 32) (v117 : IVec S16 32) (k0_hw179 : k0_chk179 v13 v16 v117), ∀ a x, ((![v13, v117] : Fin 2 → IVec S16 32) a x).toNat < S512x128.size a := fun v13 v16 v117 k0_hw179 => k0_hw179.1
theorem k0_idx358_inb : ∀ (v13 : IVec S16 32) (v16 : IVec S16 32) (v117 : IVec S16 32) (k0_hw179 : k0_chk179 v13 v16 v117), ∀ a x, ((![v16, v117] : Fin 2 → IVec S16 32) a x).toNat < S400x128.size a := fun v13 v16 v117 k0_hw179 => k0_hw179.2

def k0_chk180 (v13 : IVec S16 32) (v16 : IVec S16 32) (v119 : IVec S16 32) : Prop :=
  (∀ a x, ((![v13, v119] : Fin 2 → IVec S16 32) a x).toNat < S512x128.size a) ∧
  (∀ a x, ((![v16, v119] : Fin 2 → IVec S16 32) a x).toNat < S400x128.size a)
theorem k0_idx359_inb : ∀ (v13 : IVec S16 32) (v16 : IVec S16 32) (v119 : IVec S16 32) (k0_hw180 : k0_chk180 v13 v16 v119), ∀ a x, ((![v13, v119] : Fin 2 → IVec S16 32) a x).toNat < S512x128.size a := fun v13 v16 v119 k0_hw180 => k0_hw180.1
theorem k0_idx360_inb : ∀ (v13 : IVec S16 32) (v16 : IVec S16 32) (v119 : IVec S16 32) (k0_hw180 : k0_chk180 v13 v16 v119), ∀ a x, ((![v16, v119] : Fin 2 → IVec S16 32) a x).toNat < S400x128.size a := fun v13 v16 v119 k0_hw180 => k0_hw180.2

def k0_chk181 (v13 : IVec S16 32) (v16 : IVec S16 32) (v121 : IVec S16 32) : Prop :=
  (∀ a x, ((![v13, v121] : Fin 2 → IVec S16 32) a x).toNat < S512x128.size a) ∧
  (∀ a x, ((![v16, v121] : Fin 2 → IVec S16 32) a x).toNat < S400x128.size a)
theorem k0_idx361_inb : ∀ (v13 : IVec S16 32) (v16 : IVec S16 32) (v121 : IVec S16 32) (k0_hw181 : k0_chk181 v13 v16 v121), ∀ a x, ((![v13, v121] : Fin 2 → IVec S16 32) a x).toNat < S512x128.size a := fun v13 v16 v121 k0_hw181 => k0_hw181.1
theorem k0_idx362_inb : ∀ (v13 : IVec S16 32) (v16 : IVec S16 32) (v121 : IVec S16 32) (k0_hw181 : k0_chk181 v13 v16 v121), ∀ a x, ((![v16, v121] : Fin 2 → IVec S16 32) a x).toNat < S400x128.size a := fun v13 v16 v121 k0_hw181 => k0_hw181.2

def k0_chk182 (v13 : IVec S16 32) (v16 : IVec S16 32) (v123 : IVec S16 32) : Prop :=
  (∀ a x, ((![v13, v123] : Fin 2 → IVec S16 32) a x).toNat < S512x128.size a) ∧
  (∀ a x, ((![v16, v123] : Fin 2 → IVec S16 32) a x).toNat < S400x128.size a)
theorem k0_idx363_inb : ∀ (v13 : IVec S16 32) (v16 : IVec S16 32) (v123 : IVec S16 32) (k0_hw182 : k0_chk182 v13 v16 v123), ∀ a x, ((![v13, v123] : Fin 2 → IVec S16 32) a x).toNat < S512x128.size a := fun v13 v16 v123 k0_hw182 => k0_hw182.1
theorem k0_idx364_inb : ∀ (v13 : IVec S16 32) (v16 : IVec S16 32) (v123 : IVec S16 32) (k0_hw182 : k0_chk182 v13 v16 v123), ∀ a x, ((![v16, v123] : Fin 2 → IVec S16 32) a x).toNat < S400x128.size a := fun v13 v16 v123 k0_hw182 => k0_hw182.2

def k0_chk183 (v13 : IVec S16 32) (v16 : IVec S16 32) (v125 : IVec S16 32) : Prop :=
  (∀ a x, ((![v13, v125] : Fin 2 → IVec S16 32) a x).toNat < S512x128.size a) ∧
  (∀ a x, ((![v16, v125] : Fin 2 → IVec S16 32) a x).toNat < S400x128.size a)
theorem k0_idx365_inb : ∀ (v13 : IVec S16 32) (v16 : IVec S16 32) (v125 : IVec S16 32) (k0_hw183 : k0_chk183 v13 v16 v125), ∀ a x, ((![v13, v125] : Fin 2 → IVec S16 32) a x).toNat < S512x128.size a := fun v13 v16 v125 k0_hw183 => k0_hw183.1
theorem k0_idx366_inb : ∀ (v13 : IVec S16 32) (v16 : IVec S16 32) (v125 : IVec S16 32) (k0_hw183 : k0_chk183 v13 v16 v125), ∀ a x, ((![v16, v125] : Fin 2 → IVec S16 32) a x).toNat < S400x128.size a := fun v13 v16 v125 k0_hw183 => k0_hw183.2

def k0_chk184 (v13 : IVec S16 32) (v16 : IVec S16 32) (v127 : IVec S16 32) : Prop :=
  (∀ a x, ((![v13, v127] : Fin 2 → IVec S16 32) a x).toNat < S512x128.size a) ∧
  (∀ a x, ((![v16, v127] : Fin 2 → IVec S16 32) a x).toNat < S400x128.size a)
theorem k0_idx367_inb : ∀ (v13 : IVec S16 32) (v16 : IVec S16 32) (v127 : IVec S16 32) (k0_hw184 : k0_chk184 v13 v16 v127), ∀ a x, ((![v13, v127] : Fin 2 → IVec S16 32) a x).toNat < S512x128.size a := fun v13 v16 v127 k0_hw184 => k0_hw184.1
theorem k0_idx368_inb : ∀ (v13 : IVec S16 32) (v16 : IVec S16 32) (v127 : IVec S16 32) (k0_hw184 : k0_chk184 v13 v16 v127), ∀ a x, ((![v16, v127] : Fin 2 → IVec S16 32) a x).toNat < S400x128.size a := fun v13 v16 v127 k0_hw184 => k0_hw184.2

def k0_chk185 (v13 : IVec S16 32) (v16 : IVec S16 32) (v129 : IVec S16 32) : Prop :=
  (∀ a x, ((![v13, v129] : Fin 2 → IVec S16 32) a x).toNat < S512x128.size a) ∧
  (∀ a x, ((![v16, v129] : Fin 2 → IVec S16 32) a x).toNat < S400x128.size a)
theorem k0_idx369_inb : ∀ (v13 : IVec S16 32) (v16 : IVec S16 32) (v129 : IVec S16 32) (k0_hw185 : k0_chk185 v13 v16 v129), ∀ a x, ((![v13, v129] : Fin 2 → IVec S16 32) a x).toNat < S512x128.size a := fun v13 v16 v129 k0_hw185 => k0_hw185.1
theorem k0_idx370_inb : ∀ (v13 : IVec S16 32) (v16 : IVec S16 32) (v129 : IVec S16 32) (k0_hw185 : k0_chk185 v13 v16 v129), ∀ a x, ((![v16, v129] : Fin 2 → IVec S16 32) a x).toNat < S400x128.size a := fun v13 v16 v129 k0_hw185 => k0_hw185.2

def k0_chk186 (v13 : IVec S16 32) (v16 : IVec S16 32) (v131 : IVec S16 32) : Prop :=
  (∀ a x, ((![v13, v131] : Fin 2 → IVec S16 32) a x).toNat < S512x128.size a) ∧
  (∀ a x, ((![v16, v131] : Fin 2 → IVec S16 32) a x).toNat < S400x128.size a)
theorem k0_idx371_inb : ∀ (v13 : IVec S16 32) (v16 : IVec S16 32) (v131 : IVec S16 32) (k0_hw186 : k0_chk186 v13 v16 v131), ∀ a x, ((![v13, v131] : Fin 2 → IVec S16 32) a x).toNat < S512x128.size a := fun v13 v16 v131 k0_hw186 => k0_hw186.1
theorem k0_idx372_inb : ∀ (v13 : IVec S16 32) (v16 : IVec S16 32) (v131 : IVec S16 32) (k0_hw186 : k0_chk186 v13 v16 v131), ∀ a x, ((![v16, v131] : Fin 2 → IVec S16 32) a x).toNat < S400x128.size a := fun v13 v16 v131 k0_hw186 => k0_hw186.2

def k0_chk187 (v13 : IVec S16 32) (v16 : IVec S16 32) (v133 : IVec S16 32) : Prop :=
  (∀ a x, ((![v13, v133] : Fin 2 → IVec S16 32) a x).toNat < S512x128.size a) ∧
  (∀ a x, ((![v16, v133] : Fin 2 → IVec S16 32) a x).toNat < S400x128.size a)
theorem k0_idx373_inb : ∀ (v13 : IVec S16 32) (v16 : IVec S16 32) (v133 : IVec S16 32) (k0_hw187 : k0_chk187 v13 v16 v133), ∀ a x, ((![v13, v133] : Fin 2 → IVec S16 32) a x).toNat < S512x128.size a := fun v13 v16 v133 k0_hw187 => k0_hw187.1
theorem k0_idx374_inb : ∀ (v13 : IVec S16 32) (v16 : IVec S16 32) (v133 : IVec S16 32) (k0_hw187 : k0_chk187 v13 v16 v133), ∀ a x, ((![v16, v133] : Fin 2 → IVec S16 32) a x).toNat < S400x128.size a := fun v13 v16 v133 k0_hw187 => k0_hw187.2

def k0_chk188 (v13 : IVec S16 32) (v16 : IVec S16 32) (v135 : IVec S16 32) : Prop :=
  (∀ a x, ((![v13, v135] : Fin 2 → IVec S16 32) a x).toNat < S512x128.size a) ∧
  (∀ a x, ((![v16, v135] : Fin 2 → IVec S16 32) a x).toNat < S400x128.size a)
theorem k0_idx375_inb : ∀ (v13 : IVec S16 32) (v16 : IVec S16 32) (v135 : IVec S16 32) (k0_hw188 : k0_chk188 v13 v16 v135), ∀ a x, ((![v13, v135] : Fin 2 → IVec S16 32) a x).toNat < S512x128.size a := fun v13 v16 v135 k0_hw188 => k0_hw188.1
theorem k0_idx376_inb : ∀ (v13 : IVec S16 32) (v16 : IVec S16 32) (v135 : IVec S16 32) (k0_hw188 : k0_chk188 v13 v16 v135), ∀ a x, ((![v16, v135] : Fin 2 → IVec S16 32) a x).toNat < S400x128.size a := fun v13 v16 v135 k0_hw188 => k0_hw188.2

def k0_chk189 (v13 : IVec S16 32) (v16 : IVec S16 32) (v137 : IVec S16 32) : Prop :=
  (∀ a x, ((![v13, v137] : Fin 2 → IVec S16 32) a x).toNat < S512x128.size a) ∧
  (∀ a x, ((![v16, v137] : Fin 2 → IVec S16 32) a x).toNat < S400x128.size a)
theorem k0_idx377_inb : ∀ (v13 : IVec S16 32) (v16 : IVec S16 32) (v137 : IVec S16 32) (k0_hw189 : k0_chk189 v13 v16 v137), ∀ a x, ((![v13, v137] : Fin 2 → IVec S16 32) a x).toNat < S512x128.size a := fun v13 v16 v137 k0_hw189 => k0_hw189.1
theorem k0_idx378_inb : ∀ (v13 : IVec S16 32) (v16 : IVec S16 32) (v137 : IVec S16 32) (k0_hw189 : k0_chk189 v13 v16 v137), ∀ a x, ((![v16, v137] : Fin 2 → IVec S16 32) a x).toNat < S400x128.size a := fun v13 v16 v137 k0_hw189 => k0_hw189.2

def k0_chk190 (v13 : IVec S16 32) (v16 : IVec S16 32) (v139 : IVec S16 32) : Prop :=
  (∀ a x, ((![v13, v139] : Fin 2 → IVec S16 32) a x).toNat < S512x128.size a) ∧
  (∀ a x, ((![v16, v139] : Fin 2 → IVec S16 32) a x).toNat < S400x128.size a)
theorem k0_idx379_inb : ∀ (v13 : IVec S16 32) (v16 : IVec S16 32) (v139 : IVec S16 32) (k0_hw190 : k0_chk190 v13 v16 v139), ∀ a x, ((![v13, v139] : Fin 2 → IVec S16 32) a x).toNat < S512x128.size a := fun v13 v16 v139 k0_hw190 => k0_hw190.1
theorem k0_idx380_inb : ∀ (v13 : IVec S16 32) (v16 : IVec S16 32) (v139 : IVec S16 32) (k0_hw190 : k0_chk190 v13 v16 v139), ∀ a x, ((![v16, v139] : Fin 2 → IVec S16 32) a x).toNat < S400x128.size a := fun v13 v16 v139 k0_hw190 => k0_hw190.2

def k0_chk191 (v13 : IVec S16 32) (v16 : IVec S16 32) (v141 : IVec S16 32) : Prop :=
  (∀ a x, ((![v13, v141] : Fin 2 → IVec S16 32) a x).toNat < S512x128.size a) ∧
  (∀ a x, ((![v16, v141] : Fin 2 → IVec S16 32) a x).toNat < S400x128.size a)
theorem k0_idx381_inb : ∀ (v13 : IVec S16 32) (v16 : IVec S16 32) (v141 : IVec S16 32) (k0_hw191 : k0_chk191 v13 v16 v141), ∀ a x, ((![v13, v141] : Fin 2 → IVec S16 32) a x).toNat < S512x128.size a := fun v13 v16 v141 k0_hw191 => k0_hw191.1
theorem k0_idx382_inb : ∀ (v13 : IVec S16 32) (v16 : IVec S16 32) (v141 : IVec S16 32) (k0_hw191 : k0_chk191 v13 v16 v141), ∀ a x, ((![v16, v141] : Fin 2 → IVec S16 32) a x).toNat < S400x128.size a := fun v13 v16 v141 k0_hw191 => k0_hw191.2

def k0_chk192 (v13 : IVec S16 32) (v16 : IVec S16 32) (v143 : IVec S16 32) : Prop :=
  (∀ a x, ((![v13, v143] : Fin 2 → IVec S16 32) a x).toNat < S512x128.size a) ∧
  (∀ a x, ((![v16, v143] : Fin 2 → IVec S16 32) a x).toNat < S400x128.size a)
theorem k0_idx383_inb : ∀ (v13 : IVec S16 32) (v16 : IVec S16 32) (v143 : IVec S16 32) (k0_hw192 : k0_chk192 v13 v16 v143), ∀ a x, ((![v13, v143] : Fin 2 → IVec S16 32) a x).toNat < S512x128.size a := fun v13 v16 v143 k0_hw192 => k0_hw192.1
theorem k0_idx384_inb : ∀ (v13 : IVec S16 32) (v16 : IVec S16 32) (v143 : IVec S16 32) (k0_hw192 : k0_chk192 v13 v16 v143), ∀ a x, ((![v16, v143] : Fin 2 → IVec S16 32) a x).toNat < S400x128.size a := fun v13 v16 v143 k0_hw192 => k0_hw192.2

def k0_chk193 (v13 : IVec S16 32) (v16 : IVec S16 32) (v145 : IVec S16 32) : Prop :=
  (∀ a x, ((![v13, v145] : Fin 2 → IVec S16 32) a x).toNat < S512x128.size a) ∧
  (∀ a x, ((![v16, v145] : Fin 2 → IVec S16 32) a x).toNat < S400x128.size a)
theorem k0_idx385_inb : ∀ (v13 : IVec S16 32) (v16 : IVec S16 32) (v145 : IVec S16 32) (k0_hw193 : k0_chk193 v13 v16 v145), ∀ a x, ((![v13, v145] : Fin 2 → IVec S16 32) a x).toNat < S512x128.size a := fun v13 v16 v145 k0_hw193 => k0_hw193.1
theorem k0_idx386_inb : ∀ (v13 : IVec S16 32) (v16 : IVec S16 32) (v145 : IVec S16 32) (k0_hw193 : k0_chk193 v13 v16 v145), ∀ a x, ((![v16, v145] : Fin 2 → IVec S16 32) a x).toNat < S400x128.size a := fun v13 v16 v145 k0_hw193 => k0_hw193.2

def k0_chk194 (v13 : IVec S16 32) (v16 : IVec S16 32) (v147 : IVec S16 32) : Prop :=
  (∀ a x, ((![v13, v147] : Fin 2 → IVec S16 32) a x).toNat < S512x128.size a) ∧
  (∀ a x, ((![v16, v147] : Fin 2 → IVec S16 32) a x).toNat < S400x128.size a)
theorem k0_idx387_inb : ∀ (v13 : IVec S16 32) (v16 : IVec S16 32) (v147 : IVec S16 32) (k0_hw194 : k0_chk194 v13 v16 v147), ∀ a x, ((![v13, v147] : Fin 2 → IVec S16 32) a x).toNat < S512x128.size a := fun v13 v16 v147 k0_hw194 => k0_hw194.1
theorem k0_idx388_inb : ∀ (v13 : IVec S16 32) (v16 : IVec S16 32) (v147 : IVec S16 32) (k0_hw194 : k0_chk194 v13 v16 v147), ∀ a x, ((![v16, v147] : Fin 2 → IVec S16 32) a x).toNat < S400x128.size a := fun v13 v16 v147 k0_hw194 => k0_hw194.2

def k0_chk195 (v13 : IVec S16 32) (v16 : IVec S16 32) (v149 : IVec S16 32) : Prop :=
  (∀ a x, ((![v13, v149] : Fin 2 → IVec S16 32) a x).toNat < S512x128.size a) ∧
  (∀ a x, ((![v16, v149] : Fin 2 → IVec S16 32) a x).toNat < S400x128.size a)
theorem k0_idx389_inb : ∀ (v13 : IVec S16 32) (v16 : IVec S16 32) (v149 : IVec S16 32) (k0_hw195 : k0_chk195 v13 v16 v149), ∀ a x, ((![v13, v149] : Fin 2 → IVec S16 32) a x).toNat < S512x128.size a := fun v13 v16 v149 k0_hw195 => k0_hw195.1
theorem k0_idx390_inb : ∀ (v13 : IVec S16 32) (v16 : IVec S16 32) (v149 : IVec S16 32) (k0_hw195 : k0_chk195 v13 v16 v149), ∀ a x, ((![v16, v149] : Fin 2 → IVec S16 32) a x).toNat < S400x128.size a := fun v13 v16 v149 k0_hw195 => k0_hw195.2

def k0_chk196 (v13 : IVec S16 32) (v16 : IVec S16 32) (v151 : IVec S16 32) : Prop :=
  (∀ a x, ((![v13, v151] : Fin 2 → IVec S16 32) a x).toNat < S512x128.size a) ∧
  (∀ a x, ((![v16, v151] : Fin 2 → IVec S16 32) a x).toNat < S400x128.size a)
theorem k0_idx391_inb : ∀ (v13 : IVec S16 32) (v16 : IVec S16 32) (v151 : IVec S16 32) (k0_hw196 : k0_chk196 v13 v16 v151), ∀ a x, ((![v13, v151] : Fin 2 → IVec S16 32) a x).toNat < S512x128.size a := fun v13 v16 v151 k0_hw196 => k0_hw196.1
theorem k0_idx392_inb : ∀ (v13 : IVec S16 32) (v16 : IVec S16 32) (v151 : IVec S16 32) (k0_hw196 : k0_chk196 v13 v16 v151), ∀ a x, ((![v16, v151] : Fin 2 → IVec S16 32) a x).toNat < S400x128.size a := fun v13 v16 v151 k0_hw196 => k0_hw196.2

def k0_chk197 (v13 : IVec S16 32) (v16 : IVec S16 32) (v153 : IVec S16 32) : Prop :=
  (∀ a x, ((![v13, v153] : Fin 2 → IVec S16 32) a x).toNat < S512x128.size a) ∧
  (∀ a x, ((![v16, v153] : Fin 2 → IVec S16 32) a x).toNat < S400x128.size a)
theorem k0_idx393_inb : ∀ (v13 : IVec S16 32) (v16 : IVec S16 32) (v153 : IVec S16 32) (k0_hw197 : k0_chk197 v13 v16 v153), ∀ a x, ((![v13, v153] : Fin 2 → IVec S16 32) a x).toNat < S512x128.size a := fun v13 v16 v153 k0_hw197 => k0_hw197.1
theorem k0_idx394_inb : ∀ (v13 : IVec S16 32) (v16 : IVec S16 32) (v153 : IVec S16 32) (k0_hw197 : k0_chk197 v13 v16 v153), ∀ a x, ((![v16, v153] : Fin 2 → IVec S16 32) a x).toNat < S400x128.size a := fun v13 v16 v153 k0_hw197 => k0_hw197.2

def k0_chk198 (v13 : IVec S16 32) (v16 : IVec S16 32) (v155 : IVec S16 32) : Prop :=
  (∀ a x, ((![v13, v155] : Fin 2 → IVec S16 32) a x).toNat < S512x128.size a) ∧
  (∀ a x, ((![v16, v155] : Fin 2 → IVec S16 32) a x).toNat < S400x128.size a)
theorem k0_idx395_inb : ∀ (v13 : IVec S16 32) (v16 : IVec S16 32) (v155 : IVec S16 32) (k0_hw198 : k0_chk198 v13 v16 v155), ∀ a x, ((![v13, v155] : Fin 2 → IVec S16 32) a x).toNat < S512x128.size a := fun v13 v16 v155 k0_hw198 => k0_hw198.1
theorem k0_idx396_inb : ∀ (v13 : IVec S16 32) (v16 : IVec S16 32) (v155 : IVec S16 32) (k0_hw198 : k0_chk198 v13 v16 v155), ∀ a x, ((![v16, v155] : Fin 2 → IVec S16 32) a x).toNat < S400x128.size a := fun v13 v16 v155 k0_hw198 => k0_hw198.2

def k0_chk199 (v13 : IVec S16 32) (v16 : IVec S16 32) (v157 : IVec S16 32) : Prop :=
  (∀ a x, ((![v13, v157] : Fin 2 → IVec S16 32) a x).toNat < S512x128.size a) ∧
  (∀ a x, ((![v16, v157] : Fin 2 → IVec S16 32) a x).toNat < S400x128.size a)
theorem k0_idx397_inb : ∀ (v13 : IVec S16 32) (v16 : IVec S16 32) (v157 : IVec S16 32) (k0_hw199 : k0_chk199 v13 v16 v157), ∀ a x, ((![v13, v157] : Fin 2 → IVec S16 32) a x).toNat < S512x128.size a := fun v13 v16 v157 k0_hw199 => k0_hw199.1
theorem k0_idx398_inb : ∀ (v13 : IVec S16 32) (v16 : IVec S16 32) (v157 : IVec S16 32) (k0_hw199 : k0_chk199 v13 v16 v157), ∀ a x, ((![v16, v157] : Fin 2 → IVec S16 32) a x).toNat < S400x128.size a := fun v13 v16 v157 k0_hw199 => k0_hw199.2

def k0_chk200 (v13 : IVec S16 32) (v16 : IVec S16 32) (v159 : IVec S16 32) : Prop :=
  (∀ a x, ((![v13, v159] : Fin 2 → IVec S16 32) a x).toNat < S512x128.size a) ∧
  (∀ a x, ((![v16, v159] : Fin 2 → IVec S16 32) a x).toNat < S400x128.size a)
theorem k0_idx399_inb : ∀ (v13 : IVec S16 32) (v16 : IVec S16 32) (v159 : IVec S16 32) (k0_hw200 : k0_chk200 v13 v16 v159), ∀ a x, ((![v13, v159] : Fin 2 → IVec S16 32) a x).toNat < S512x128.size a := fun v13 v16 v159 k0_hw200 => k0_hw200.1
theorem k0_idx400_inb : ∀ (v13 : IVec S16 32) (v16 : IVec S16 32) (v159 : IVec S16 32) (k0_hw200 : k0_chk200 v13 v16 v159), ∀ a x, ((![v16, v159] : Fin 2 → IVec S16 32) a x).toNat < S400x128.size a := fun v13 v16 v159 k0_hw200 => k0_hw200.2

def k0_chk201 (v13 : IVec S16 32) (v16 : IVec S16 32) (v161 : IVec S16 32) : Prop :=
  (∀ a x, ((![v13, v161] : Fin 2 → IVec S16 32) a x).toNat < S512x128.size a) ∧
  (∀ a x, ((![v16, v161] : Fin 2 → IVec S16 32) a x).toNat < S400x128.size a)
theorem k0_idx401_inb : ∀ (v13 : IVec S16 32) (v16 : IVec S16 32) (v161 : IVec S16 32) (k0_hw201 : k0_chk201 v13 v16 v161), ∀ a x, ((![v13, v161] : Fin 2 → IVec S16 32) a x).toNat < S512x128.size a := fun v13 v16 v161 k0_hw201 => k0_hw201.1
theorem k0_idx402_inb : ∀ (v13 : IVec S16 32) (v16 : IVec S16 32) (v161 : IVec S16 32) (k0_hw201 : k0_chk201 v13 v16 v161), ∀ a x, ((![v16, v161] : Fin 2 → IVec S16 32) a x).toNat < S400x128.size a := fun v13 v16 v161 k0_hw201 => k0_hw201.2

def k0_chk202 (v13 : IVec S16 32) (v16 : IVec S16 32) (v163 : IVec S16 32) : Prop :=
  (∀ a x, ((![v13, v163] : Fin 2 → IVec S16 32) a x).toNat < S512x128.size a) ∧
  (∀ a x, ((![v16, v163] : Fin 2 → IVec S16 32) a x).toNat < S400x128.size a)
theorem k0_idx403_inb : ∀ (v13 : IVec S16 32) (v16 : IVec S16 32) (v163 : IVec S16 32) (k0_hw202 : k0_chk202 v13 v16 v163), ∀ a x, ((![v13, v163] : Fin 2 → IVec S16 32) a x).toNat < S512x128.size a := fun v13 v16 v163 k0_hw202 => k0_hw202.1
theorem k0_idx404_inb : ∀ (v13 : IVec S16 32) (v16 : IVec S16 32) (v163 : IVec S16 32) (k0_hw202 : k0_chk202 v13 v16 v163), ∀ a x, ((![v16, v163] : Fin 2 → IVec S16 32) a x).toNat < S400x128.size a := fun v13 v16 v163 k0_hw202 => k0_hw202.2

def k0_chk203 (v13 : IVec S16 32) (v16 : IVec S16 32) (v165 : IVec S16 32) : Prop :=
  (∀ a x, ((![v13, v165] : Fin 2 → IVec S16 32) a x).toNat < S512x128.size a) ∧
  (∀ a x, ((![v16, v165] : Fin 2 → IVec S16 32) a x).toNat < S400x128.size a)
theorem k0_idx405_inb : ∀ (v13 : IVec S16 32) (v16 : IVec S16 32) (v165 : IVec S16 32) (k0_hw203 : k0_chk203 v13 v16 v165), ∀ a x, ((![v13, v165] : Fin 2 → IVec S16 32) a x).toNat < S512x128.size a := fun v13 v16 v165 k0_hw203 => k0_hw203.1
theorem k0_idx406_inb : ∀ (v13 : IVec S16 32) (v16 : IVec S16 32) (v165 : IVec S16 32) (k0_hw203 : k0_chk203 v13 v16 v165), ∀ a x, ((![v16, v165] : Fin 2 → IVec S16 32) a x).toNat < S400x128.size a := fun v13 v16 v165 k0_hw203 => k0_hw203.2

def k0_chk204 (v13 : IVec S16 32) (v16 : IVec S16 32) (v167 : IVec S16 32) : Prop :=
  (∀ a x, ((![v13, v167] : Fin 2 → IVec S16 32) a x).toNat < S512x128.size a) ∧
  (∀ a x, ((![v16, v167] : Fin 2 → IVec S16 32) a x).toNat < S400x128.size a)
theorem k0_idx407_inb : ∀ (v13 : IVec S16 32) (v16 : IVec S16 32) (v167 : IVec S16 32) (k0_hw204 : k0_chk204 v13 v16 v167), ∀ a x, ((![v13, v167] : Fin 2 → IVec S16 32) a x).toNat < S512x128.size a := fun v13 v16 v167 k0_hw204 => k0_hw204.1
theorem k0_idx408_inb : ∀ (v13 : IVec S16 32) (v16 : IVec S16 32) (v167 : IVec S16 32) (k0_hw204 : k0_chk204 v13 v16 v167), ∀ a x, ((![v16, v167] : Fin 2 → IVec S16 32) a x).toNat < S400x128.size a := fun v13 v16 v167 k0_hw204 => k0_hw204.2

def k0_chk205 (v13 : IVec S16 32) (v16 : IVec S16 32) (v169 : IVec S16 32) : Prop :=
  (∀ a x, ((![v13, v169] : Fin 2 → IVec S16 32) a x).toNat < S512x128.size a) ∧
  (∀ a x, ((![v16, v169] : Fin 2 → IVec S16 32) a x).toNat < S400x128.size a)
theorem k0_idx409_inb : ∀ (v13 : IVec S16 32) (v16 : IVec S16 32) (v169 : IVec S16 32) (k0_hw205 : k0_chk205 v13 v16 v169), ∀ a x, ((![v13, v169] : Fin 2 → IVec S16 32) a x).toNat < S512x128.size a := fun v13 v16 v169 k0_hw205 => k0_hw205.1
theorem k0_idx410_inb : ∀ (v13 : IVec S16 32) (v16 : IVec S16 32) (v169 : IVec S16 32) (k0_hw205 : k0_chk205 v13 v16 v169), ∀ a x, ((![v16, v169] : Fin 2 → IVec S16 32) a x).toNat < S400x128.size a := fun v13 v16 v169 k0_hw205 => k0_hw205.2

def k0_chk206 (v13 : IVec S16 32) (v16 : IVec S16 32) (v171 : IVec S16 32) : Prop :=
  (∀ a x, ((![v13, v171] : Fin 2 → IVec S16 32) a x).toNat < S512x128.size a) ∧
  (∀ a x, ((![v16, v171] : Fin 2 → IVec S16 32) a x).toNat < S400x128.size a)
theorem k0_idx411_inb : ∀ (v13 : IVec S16 32) (v16 : IVec S16 32) (v171 : IVec S16 32) (k0_hw206 : k0_chk206 v13 v16 v171), ∀ a x, ((![v13, v171] : Fin 2 → IVec S16 32) a x).toNat < S512x128.size a := fun v13 v16 v171 k0_hw206 => k0_hw206.1
theorem k0_idx412_inb : ∀ (v13 : IVec S16 32) (v16 : IVec S16 32) (v171 : IVec S16 32) (k0_hw206 : k0_chk206 v13 v16 v171), ∀ a x, ((![v16, v171] : Fin 2 → IVec S16 32) a x).toNat < S400x128.size a := fun v13 v16 v171 k0_hw206 => k0_hw206.2

def k0_chk207 (v13 : IVec S16 32) (v16 : IVec S16 32) (v173 : IVec S16 32) : Prop :=
  (∀ a x, ((![v13, v173] : Fin 2 → IVec S16 32) a x).toNat < S512x128.size a) ∧
  (∀ a x, ((![v16, v173] : Fin 2 → IVec S16 32) a x).toNat < S400x128.size a)
theorem k0_idx413_inb : ∀ (v13 : IVec S16 32) (v16 : IVec S16 32) (v173 : IVec S16 32) (k0_hw207 : k0_chk207 v13 v16 v173), ∀ a x, ((![v13, v173] : Fin 2 → IVec S16 32) a x).toNat < S512x128.size a := fun v13 v16 v173 k0_hw207 => k0_hw207.1
theorem k0_idx414_inb : ∀ (v13 : IVec S16 32) (v16 : IVec S16 32) (v173 : IVec S16 32) (k0_hw207 : k0_chk207 v13 v16 v173), ∀ a x, ((![v16, v173] : Fin 2 → IVec S16 32) a x).toNat < S400x128.size a := fun v13 v16 v173 k0_hw207 => k0_hw207.2

def k0_chk208 (v13 : IVec S16 32) (v16 : IVec S16 32) (v175 : IVec S16 32) : Prop :=
  (∀ a x, ((![v13, v175] : Fin 2 → IVec S16 32) a x).toNat < S512x128.size a) ∧
  (∀ a x, ((![v16, v175] : Fin 2 → IVec S16 32) a x).toNat < S400x128.size a)
theorem k0_idx415_inb : ∀ (v13 : IVec S16 32) (v16 : IVec S16 32) (v175 : IVec S16 32) (k0_hw208 : k0_chk208 v13 v16 v175), ∀ a x, ((![v13, v175] : Fin 2 → IVec S16 32) a x).toNat < S512x128.size a := fun v13 v16 v175 k0_hw208 => k0_hw208.1
theorem k0_idx416_inb : ∀ (v13 : IVec S16 32) (v16 : IVec S16 32) (v175 : IVec S16 32) (k0_hw208 : k0_chk208 v13 v16 v175), ∀ a x, ((![v16, v175] : Fin 2 → IVec S16 32) a x).toNat < S400x128.size a := fun v13 v16 v175 k0_hw208 => k0_hw208.2

def k0_chk209 (v13 : IVec S16 32) (v16 : IVec S16 32) (v177 : IVec S16 32) : Prop :=
  (∀ a x, ((![v13, v177] : Fin 2 → IVec S16 32) a x).toNat < S512x128.size a) ∧
  (∀ a x, ((![v16, v177] : Fin 2 → IVec S16 32) a x).toNat < S400x128.size a)
theorem k0_idx417_inb : ∀ (v13 : IVec S16 32) (v16 : IVec S16 32) (v177 : IVec S16 32) (k0_hw209 : k0_chk209 v13 v16 v177), ∀ a x, ((![v13, v177] : Fin 2 → IVec S16 32) a x).toNat < S512x128.size a := fun v13 v16 v177 k0_hw209 => k0_hw209.1
theorem k0_idx418_inb : ∀ (v13 : IVec S16 32) (v16 : IVec S16 32) (v177 : IVec S16 32) (k0_hw209 : k0_chk209 v13 v16 v177), ∀ a x, ((![v16, v177] : Fin 2 → IVec S16 32) a x).toNat < S400x128.size a := fun v13 v16 v177 k0_hw209 => k0_hw209.2

def k0_chk210 (v13 : IVec S16 32) (v16 : IVec S16 32) (v179 : IVec S16 32) : Prop :=
  (∀ a x, ((![v13, v179] : Fin 2 → IVec S16 32) a x).toNat < S512x128.size a) ∧
  (∀ a x, ((![v16, v179] : Fin 2 → IVec S16 32) a x).toNat < S400x128.size a)
theorem k0_idx419_inb : ∀ (v13 : IVec S16 32) (v16 : IVec S16 32) (v179 : IVec S16 32) (k0_hw210 : k0_chk210 v13 v16 v179), ∀ a x, ((![v13, v179] : Fin 2 → IVec S16 32) a x).toNat < S512x128.size a := fun v13 v16 v179 k0_hw210 => k0_hw210.1
theorem k0_idx420_inb : ∀ (v13 : IVec S16 32) (v16 : IVec S16 32) (v179 : IVec S16 32) (k0_hw210 : k0_chk210 v13 v16 v179), ∀ a x, ((![v16, v179] : Fin 2 → IVec S16 32) a x).toNat < S400x128.size a := fun v13 v16 v179 k0_hw210 => k0_hw210.2

def k0_chk211 (v13 : IVec S16 32) (v16 : IVec S16 32) (v181 : IVec S16 32) : Prop :=
  (∀ a x, ((![v13, v181] : Fin 2 → IVec S16 32) a x).toNat < S512x128.size a) ∧
  (∀ a x, ((![v16, v181] : Fin 2 → IVec S16 32) a x).toNat < S400x128.size a)
theorem k0_idx421_inb : ∀ (v13 : IVec S16 32) (v16 : IVec S16 32) (v181 : IVec S16 32) (k0_hw211 : k0_chk211 v13 v16 v181), ∀ a x, ((![v13, v181] : Fin 2 → IVec S16 32) a x).toNat < S512x128.size a := fun v13 v16 v181 k0_hw211 => k0_hw211.1
theorem k0_idx422_inb : ∀ (v13 : IVec S16 32) (v16 : IVec S16 32) (v181 : IVec S16 32) (k0_hw211 : k0_chk211 v13 v16 v181), ∀ a x, ((![v16, v181] : Fin 2 → IVec S16 32) a x).toNat < S400x128.size a := fun v13 v16 v181 k0_hw211 => k0_hw211.2

def k0_chk212 (v13 : IVec S16 32) (v16 : IVec S16 32) (v183 : IVec S16 32) : Prop :=
  (∀ a x, ((![v13, v183] : Fin 2 → IVec S16 32) a x).toNat < S512x128.size a) ∧
  (∀ a x, ((![v16, v183] : Fin 2 → IVec S16 32) a x).toNat < S400x128.size a)
theorem k0_idx423_inb : ∀ (v13 : IVec S16 32) (v16 : IVec S16 32) (v183 : IVec S16 32) (k0_hw212 : k0_chk212 v13 v16 v183), ∀ a x, ((![v13, v183] : Fin 2 → IVec S16 32) a x).toNat < S512x128.size a := fun v13 v16 v183 k0_hw212 => k0_hw212.1
theorem k0_idx424_inb : ∀ (v13 : IVec S16 32) (v16 : IVec S16 32) (v183 : IVec S16 32) (k0_hw212 : k0_chk212 v13 v16 v183), ∀ a x, ((![v16, v183] : Fin 2 → IVec S16 32) a x).toNat < S400x128.size a := fun v13 v16 v183 k0_hw212 => k0_hw212.2

def k0_chk213 (v13 : IVec S16 32) (v16 : IVec S16 32) (v185 : IVec S16 32) : Prop :=
  (∀ a x, ((![v13, v185] : Fin 2 → IVec S16 32) a x).toNat < S512x128.size a) ∧
  (∀ a x, ((![v16, v185] : Fin 2 → IVec S16 32) a x).toNat < S400x128.size a)
theorem k0_idx425_inb : ∀ (v13 : IVec S16 32) (v16 : IVec S16 32) (v185 : IVec S16 32) (k0_hw213 : k0_chk213 v13 v16 v185), ∀ a x, ((![v13, v185] : Fin 2 → IVec S16 32) a x).toNat < S512x128.size a := fun v13 v16 v185 k0_hw213 => k0_hw213.1
theorem k0_idx426_inb : ∀ (v13 : IVec S16 32) (v16 : IVec S16 32) (v185 : IVec S16 32) (k0_hw213 : k0_chk213 v13 v16 v185), ∀ a x, ((![v16, v185] : Fin 2 → IVec S16 32) a x).toNat < S400x128.size a := fun v13 v16 v185 k0_hw213 => k0_hw213.2

def k0_chk214 (v13 : IVec S16 32) (v16 : IVec S16 32) (v187 : IVec S16 32) : Prop :=
  (∀ a x, ((![v13, v187] : Fin 2 → IVec S16 32) a x).toNat < S512x128.size a) ∧
  (∀ a x, ((![v16, v187] : Fin 2 → IVec S16 32) a x).toNat < S400x128.size a)
theorem k0_idx427_inb : ∀ (v13 : IVec S16 32) (v16 : IVec S16 32) (v187 : IVec S16 32) (k0_hw214 : k0_chk214 v13 v16 v187), ∀ a x, ((![v13, v187] : Fin 2 → IVec S16 32) a x).toNat < S512x128.size a := fun v13 v16 v187 k0_hw214 => k0_hw214.1
theorem k0_idx428_inb : ∀ (v13 : IVec S16 32) (v16 : IVec S16 32) (v187 : IVec S16 32) (k0_hw214 : k0_chk214 v13 v16 v187), ∀ a x, ((![v16, v187] : Fin 2 → IVec S16 32) a x).toNat < S400x128.size a := fun v13 v16 v187 k0_hw214 => k0_hw214.2

def k0_chk215 (v13 : IVec S16 32) (v16 : IVec S16 32) (v189 : IVec S16 32) : Prop :=
  (∀ a x, ((![v13, v189] : Fin 2 → IVec S16 32) a x).toNat < S512x128.size a) ∧
  (∀ a x, ((![v16, v189] : Fin 2 → IVec S16 32) a x).toNat < S400x128.size a)
theorem k0_idx429_inb : ∀ (v13 : IVec S16 32) (v16 : IVec S16 32) (v189 : IVec S16 32) (k0_hw215 : k0_chk215 v13 v16 v189), ∀ a x, ((![v13, v189] : Fin 2 → IVec S16 32) a x).toNat < S512x128.size a := fun v13 v16 v189 k0_hw215 => k0_hw215.1
theorem k0_idx430_inb : ∀ (v13 : IVec S16 32) (v16 : IVec S16 32) (v189 : IVec S16 32) (k0_hw215 : k0_chk215 v13 v16 v189), ∀ a x, ((![v16, v189] : Fin 2 → IVec S16 32) a x).toNat < S400x128.size a := fun v13 v16 v189 k0_hw215 => k0_hw215.2

def k0_chk216 (v13 : IVec S16 32) (v16 : IVec S16 32) (v191 : IVec S16 32) : Prop :=
  (∀ a x, ((![v13, v191] : Fin 2 → IVec S16 32) a x).toNat < S512x128.size a) ∧
  (∀ a x, ((![v16, v191] : Fin 2 → IVec S16 32) a x).toNat < S400x128.size a)
theorem k0_idx431_inb : ∀ (v13 : IVec S16 32) (v16 : IVec S16 32) (v191 : IVec S16 32) (k0_hw216 : k0_chk216 v13 v16 v191), ∀ a x, ((![v13, v191] : Fin 2 → IVec S16 32) a x).toNat < S512x128.size a := fun v13 v16 v191 k0_hw216 => k0_hw216.1
theorem k0_idx432_inb : ∀ (v13 : IVec S16 32) (v16 : IVec S16 32) (v191 : IVec S16 32) (k0_hw216 : k0_chk216 v13 v16 v191), ∀ a x, ((![v16, v191] : Fin 2 → IVec S16 32) a x).toNat < S400x128.size a := fun v13 v16 v191 k0_hw216 => k0_hw216.2

def k0_chk217 (v13 : IVec S16 32) (v16 : IVec S16 32) (v193 : IVec S16 32) : Prop :=
  (∀ a x, ((![v13, v193] : Fin 2 → IVec S16 32) a x).toNat < S512x128.size a) ∧
  (∀ a x, ((![v16, v193] : Fin 2 → IVec S16 32) a x).toNat < S400x128.size a)
theorem k0_idx433_inb : ∀ (v13 : IVec S16 32) (v16 : IVec S16 32) (v193 : IVec S16 32) (k0_hw217 : k0_chk217 v13 v16 v193), ∀ a x, ((![v13, v193] : Fin 2 → IVec S16 32) a x).toNat < S512x128.size a := fun v13 v16 v193 k0_hw217 => k0_hw217.1
theorem k0_idx434_inb : ∀ (v13 : IVec S16 32) (v16 : IVec S16 32) (v193 : IVec S16 32) (k0_hw217 : k0_chk217 v13 v16 v193), ∀ a x, ((![v16, v193] : Fin 2 → IVec S16 32) a x).toNat < S400x128.size a := fun v13 v16 v193 k0_hw217 => k0_hw217.2

def k0_chk218 (v13 : IVec S16 32) (v16 : IVec S16 32) (v195 : IVec S16 32) : Prop :=
  (∀ a x, ((![v13, v195] : Fin 2 → IVec S16 32) a x).toNat < S512x128.size a) ∧
  (∀ a x, ((![v16, v195] : Fin 2 → IVec S16 32) a x).toNat < S400x128.size a)
theorem k0_idx435_inb : ∀ (v13 : IVec S16 32) (v16 : IVec S16 32) (v195 : IVec S16 32) (k0_hw218 : k0_chk218 v13 v16 v195), ∀ a x, ((![v13, v195] : Fin 2 → IVec S16 32) a x).toNat < S512x128.size a := fun v13 v16 v195 k0_hw218 => k0_hw218.1
theorem k0_idx436_inb : ∀ (v13 : IVec S16 32) (v16 : IVec S16 32) (v195 : IVec S16 32) (k0_hw218 : k0_chk218 v13 v16 v195), ∀ a x, ((![v16, v195] : Fin 2 → IVec S16 32) a x).toNat < S400x128.size a := fun v13 v16 v195 k0_hw218 => k0_hw218.2

def k0_chk219 (v13 : IVec S16 32) (v16 : IVec S16 32) (v197 : IVec S16 32) : Prop :=
  (∀ a x, ((![v13, v197] : Fin 2 → IVec S16 32) a x).toNat < S512x128.size a) ∧
  (∀ a x, ((![v16, v197] : Fin 2 → IVec S16 32) a x).toNat < S400x128.size a)
theorem k0_idx437_inb : ∀ (v13 : IVec S16 32) (v16 : IVec S16 32) (v197 : IVec S16 32) (k0_hw219 : k0_chk219 v13 v16 v197), ∀ a x, ((![v13, v197] : Fin 2 → IVec S16 32) a x).toNat < S512x128.size a := fun v13 v16 v197 k0_hw219 => k0_hw219.1
theorem k0_idx438_inb : ∀ (v13 : IVec S16 32) (v16 : IVec S16 32) (v197 : IVec S16 32) (k0_hw219 : k0_chk219 v13 v16 v197), ∀ a x, ((![v16, v197] : Fin 2 → IVec S16 32) a x).toNat < S400x128.size a := fun v13 v16 v197 k0_hw219 => k0_hw219.2

def k0_chk220 (v13 : IVec S16 32) (v16 : IVec S16 32) (v199 : IVec S16 32) : Prop :=
  (∀ a x, ((![v13, v199] : Fin 2 → IVec S16 32) a x).toNat < S512x128.size a) ∧
  (∀ a x, ((![v16, v199] : Fin 2 → IVec S16 32) a x).toNat < S400x128.size a)
theorem k0_idx439_inb : ∀ (v13 : IVec S16 32) (v16 : IVec S16 32) (v199 : IVec S16 32) (k0_hw220 : k0_chk220 v13 v16 v199), ∀ a x, ((![v13, v199] : Fin 2 → IVec S16 32) a x).toNat < S512x128.size a := fun v13 v16 v199 k0_hw220 => k0_hw220.1
theorem k0_idx440_inb : ∀ (v13 : IVec S16 32) (v16 : IVec S16 32) (v199 : IVec S16 32) (k0_hw220 : k0_chk220 v13 v16 v199), ∀ a x, ((![v16, v199] : Fin 2 → IVec S16 32) a x).toNat < S400x128.size a := fun v13 v16 v199 k0_hw220 => k0_hw220.2

def k0_chk221 (v13 : IVec S16 32) (v16 : IVec S16 32) (v201 : IVec S16 32) : Prop :=
  (∀ a x, ((![v13, v201] : Fin 2 → IVec S16 32) a x).toNat < S512x128.size a) ∧
  (∀ a x, ((![v16, v201] : Fin 2 → IVec S16 32) a x).toNat < S400x128.size a)
theorem k0_idx441_inb : ∀ (v13 : IVec S16 32) (v16 : IVec S16 32) (v201 : IVec S16 32) (k0_hw221 : k0_chk221 v13 v16 v201), ∀ a x, ((![v13, v201] : Fin 2 → IVec S16 32) a x).toNat < S512x128.size a := fun v13 v16 v201 k0_hw221 => k0_hw221.1
theorem k0_idx442_inb : ∀ (v13 : IVec S16 32) (v16 : IVec S16 32) (v201 : IVec S16 32) (k0_hw221 : k0_chk221 v13 v16 v201), ∀ a x, ((![v16, v201] : Fin 2 → IVec S16 32) a x).toNat < S400x128.size a := fun v13 v16 v201 k0_hw221 => k0_hw221.2

def k0_chk222 (v13 : IVec S16 32) (v16 : IVec S16 32) (v203 : IVec S16 32) : Prop :=
  (∀ a x, ((![v13, v203] : Fin 2 → IVec S16 32) a x).toNat < S512x128.size a) ∧
  (∀ a x, ((![v16, v203] : Fin 2 → IVec S16 32) a x).toNat < S400x128.size a)
theorem k0_idx443_inb : ∀ (v13 : IVec S16 32) (v16 : IVec S16 32) (v203 : IVec S16 32) (k0_hw222 : k0_chk222 v13 v16 v203), ∀ a x, ((![v13, v203] : Fin 2 → IVec S16 32) a x).toNat < S512x128.size a := fun v13 v16 v203 k0_hw222 => k0_hw222.1
theorem k0_idx444_inb : ∀ (v13 : IVec S16 32) (v16 : IVec S16 32) (v203 : IVec S16 32) (k0_hw222 : k0_chk222 v13 v16 v203), ∀ a x, ((![v16, v203] : Fin 2 → IVec S16 32) a x).toNat < S400x128.size a := fun v13 v16 v203 k0_hw222 => k0_hw222.2

def k0_chk223 (v13 : IVec S16 32) (v16 : IVec S16 32) (v205 : IVec S16 32) : Prop :=
  (∀ a x, ((![v13, v205] : Fin 2 → IVec S16 32) a x).toNat < S512x128.size a) ∧
  (∀ a x, ((![v16, v205] : Fin 2 → IVec S16 32) a x).toNat < S400x128.size a)
theorem k0_idx445_inb : ∀ (v13 : IVec S16 32) (v16 : IVec S16 32) (v205 : IVec S16 32) (k0_hw223 : k0_chk223 v13 v16 v205), ∀ a x, ((![v13, v205] : Fin 2 → IVec S16 32) a x).toNat < S512x128.size a := fun v13 v16 v205 k0_hw223 => k0_hw223.1
theorem k0_idx446_inb : ∀ (v13 : IVec S16 32) (v16 : IVec S16 32) (v205 : IVec S16 32) (k0_hw223 : k0_chk223 v13 v16 v205), ∀ a x, ((![v16, v205] : Fin 2 → IVec S16 32) a x).toNat < S400x128.size a := fun v13 v16 v205 k0_hw223 => k0_hw223.2

def k0_chk224 (v13 : IVec S16 32) (v16 : IVec S16 32) (v207 : IVec S16 32) : Prop :=
  (∀ a x, ((![v13, v207] : Fin 2 → IVec S16 32) a x).toNat < S512x128.size a) ∧
  (∀ a x, ((![v16, v207] : Fin 2 → IVec S16 32) a x).toNat < S400x128.size a)
theorem k0_idx447_inb : ∀ (v13 : IVec S16 32) (v16 : IVec S16 32) (v207 : IVec S16 32) (k0_hw224 : k0_chk224 v13 v16 v207), ∀ a x, ((![v13, v207] : Fin 2 → IVec S16 32) a x).toNat < S512x128.size a := fun v13 v16 v207 k0_hw224 => k0_hw224.1
theorem k0_idx448_inb : ∀ (v13 : IVec S16 32) (v16 : IVec S16 32) (v207 : IVec S16 32) (k0_hw224 : k0_chk224 v13 v16 v207), ∀ a x, ((![v16, v207] : Fin 2 → IVec S16 32) a x).toNat < S400x128.size a := fun v13 v16 v207 k0_hw224 => k0_hw224.2

def k0_chk225 (v13 : IVec S16 32) (v16 : IVec S16 32) (v209 : IVec S16 32) : Prop :=
  (∀ a x, ((![v13, v209] : Fin 2 → IVec S16 32) a x).toNat < S512x128.size a) ∧
  (∀ a x, ((![v16, v209] : Fin 2 → IVec S16 32) a x).toNat < S400x128.size a)
theorem k0_idx449_inb : ∀ (v13 : IVec S16 32) (v16 : IVec S16 32) (v209 : IVec S16 32) (k0_hw225 : k0_chk225 v13 v16 v209), ∀ a x, ((![v13, v209] : Fin 2 → IVec S16 32) a x).toNat < S512x128.size a := fun v13 v16 v209 k0_hw225 => k0_hw225.1
theorem k0_idx450_inb : ∀ (v13 : IVec S16 32) (v16 : IVec S16 32) (v209 : IVec S16 32) (k0_hw225 : k0_chk225 v13 v16 v209), ∀ a x, ((![v16, v209] : Fin 2 → IVec S16 32) a x).toNat < S400x128.size a := fun v13 v16 v209 k0_hw225 => k0_hw225.2

def k0_chk226 (v13 : IVec S16 32) (v16 : IVec S16 32) (v211 : IVec S16 32) : Prop :=
  (∀ a x, ((![v13, v211] : Fin 2 → IVec S16 32) a x).toNat < S512x128.size a) ∧
  (∀ a x, ((![v16, v211] : Fin 2 → IVec S16 32) a x).toNat < S400x128.size a)
theorem k0_idx451_inb : ∀ (v13 : IVec S16 32) (v16 : IVec S16 32) (v211 : IVec S16 32) (k0_hw226 : k0_chk226 v13 v16 v211), ∀ a x, ((![v13, v211] : Fin 2 → IVec S16 32) a x).toNat < S512x128.size a := fun v13 v16 v211 k0_hw226 => k0_hw226.1
theorem k0_idx452_inb : ∀ (v13 : IVec S16 32) (v16 : IVec S16 32) (v211 : IVec S16 32) (k0_hw226 : k0_chk226 v13 v16 v211), ∀ a x, ((![v16, v211] : Fin 2 → IVec S16 32) a x).toNat < S400x128.size a := fun v13 v16 v211 k0_hw226 => k0_hw226.2

def k0_chk227 (v13 : IVec S16 32) (v16 : IVec S16 32) (v213 : IVec S16 32) : Prop :=
  (∀ a x, ((![v13, v213] : Fin 2 → IVec S16 32) a x).toNat < S512x128.size a) ∧
  (∀ a x, ((![v16, v213] : Fin 2 → IVec S16 32) a x).toNat < S400x128.size a)
theorem k0_idx453_inb : ∀ (v13 : IVec S16 32) (v16 : IVec S16 32) (v213 : IVec S16 32) (k0_hw227 : k0_chk227 v13 v16 v213), ∀ a x, ((![v13, v213] : Fin 2 → IVec S16 32) a x).toNat < S512x128.size a := fun v13 v16 v213 k0_hw227 => k0_hw227.1
theorem k0_idx454_inb : ∀ (v13 : IVec S16 32) (v16 : IVec S16 32) (v213 : IVec S16 32) (k0_hw227 : k0_chk227 v13 v16 v213), ∀ a x, ((![v16, v213] : Fin 2 → IVec S16 32) a x).toNat < S400x128.size a := fun v13 v16 v213 k0_hw227 => k0_hw227.2

def k0_chk228 (v13 : IVec S16 32) (v16 : IVec S16 32) (v215 : IVec S16 32) : Prop :=
  (∀ a x, ((![v13, v215] : Fin 2 → IVec S16 32) a x).toNat < S512x128.size a) ∧
  (∀ a x, ((![v16, v215] : Fin 2 → IVec S16 32) a x).toNat < S400x128.size a)
theorem k0_idx455_inb : ∀ (v13 : IVec S16 32) (v16 : IVec S16 32) (v215 : IVec S16 32) (k0_hw228 : k0_chk228 v13 v16 v215), ∀ a x, ((![v13, v215] : Fin 2 → IVec S16 32) a x).toNat < S512x128.size a := fun v13 v16 v215 k0_hw228 => k0_hw228.1
theorem k0_idx456_inb : ∀ (v13 : IVec S16 32) (v16 : IVec S16 32) (v215 : IVec S16 32) (k0_hw228 : k0_chk228 v13 v16 v215), ∀ a x, ((![v16, v215] : Fin 2 → IVec S16 32) a x).toNat < S400x128.size a := fun v13 v16 v215 k0_hw228 => k0_hw228.2

def k0_chk229 (v13 : IVec S16 32) (v16 : IVec S16 32) (v217 : IVec S16 32) : Prop :=
  (∀ a x, ((![v13, v217] : Fin 2 → IVec S16 32) a x).toNat < S512x128.size a) ∧
  (∀ a x, ((![v16, v217] : Fin 2 → IVec S16 32) a x).toNat < S400x128.size a)
theorem k0_idx457_inb : ∀ (v13 : IVec S16 32) (v16 : IVec S16 32) (v217 : IVec S16 32) (k0_hw229 : k0_chk229 v13 v16 v217), ∀ a x, ((![v13, v217] : Fin 2 → IVec S16 32) a x).toNat < S512x128.size a := fun v13 v16 v217 k0_hw229 => k0_hw229.1
theorem k0_idx458_inb : ∀ (v13 : IVec S16 32) (v16 : IVec S16 32) (v217 : IVec S16 32) (k0_hw229 : k0_chk229 v13 v16 v217), ∀ a x, ((![v16, v217] : Fin 2 → IVec S16 32) a x).toNat < S400x128.size a := fun v13 v16 v217 k0_hw229 => k0_hw229.2

def k0_chk230 (v13 : IVec S16 32) (v16 : IVec S16 32) (v219 : IVec S16 32) : Prop :=
  (∀ a x, ((![v13, v219] : Fin 2 → IVec S16 32) a x).toNat < S512x128.size a) ∧
  (∀ a x, ((![v16, v219] : Fin 2 → IVec S16 32) a x).toNat < S400x128.size a)
theorem k0_idx459_inb : ∀ (v13 : IVec S16 32) (v16 : IVec S16 32) (v219 : IVec S16 32) (k0_hw230 : k0_chk230 v13 v16 v219), ∀ a x, ((![v13, v219] : Fin 2 → IVec S16 32) a x).toNat < S512x128.size a := fun v13 v16 v219 k0_hw230 => k0_hw230.1
theorem k0_idx460_inb : ∀ (v13 : IVec S16 32) (v16 : IVec S16 32) (v219 : IVec S16 32) (k0_hw230 : k0_chk230 v13 v16 v219), ∀ a x, ((![v16, v219] : Fin 2 → IVec S16 32) a x).toNat < S400x128.size a := fun v13 v16 v219 k0_hw230 => k0_hw230.2

def k0_chk231 (v13 : IVec S16 32) (v16 : IVec S16 32) (v221 : IVec S16 32) : Prop :=
  (∀ a x, ((![v13, v221] : Fin 2 → IVec S16 32) a x).toNat < S512x128.size a) ∧
  (∀ a x, ((![v16, v221] : Fin 2 → IVec S16 32) a x).toNat < S400x128.size a)
theorem k0_idx461_inb : ∀ (v13 : IVec S16 32) (v16 : IVec S16 32) (v221 : IVec S16 32) (k0_hw231 : k0_chk231 v13 v16 v221), ∀ a x, ((![v13, v221] : Fin 2 → IVec S16 32) a x).toNat < S512x128.size a := fun v13 v16 v221 k0_hw231 => k0_hw231.1
theorem k0_idx462_inb : ∀ (v13 : IVec S16 32) (v16 : IVec S16 32) (v221 : IVec S16 32) (k0_hw231 : k0_chk231 v13 v16 v221), ∀ a x, ((![v16, v221] : Fin 2 → IVec S16 32) a x).toNat < S400x128.size a := fun v13 v16 v221 k0_hw231 => k0_hw231.2

def k0_chk232 (v13 : IVec S16 32) (v16 : IVec S16 32) (v223 : IVec S16 32) : Prop :=
  (∀ a x, ((![v13, v223] : Fin 2 → IVec S16 32) a x).toNat < S512x128.size a) ∧
  (∀ a x, ((![v16, v223] : Fin 2 → IVec S16 32) a x).toNat < S400x128.size a)
theorem k0_idx463_inb : ∀ (v13 : IVec S16 32) (v16 : IVec S16 32) (v223 : IVec S16 32) (k0_hw232 : k0_chk232 v13 v16 v223), ∀ a x, ((![v13, v223] : Fin 2 → IVec S16 32) a x).toNat < S512x128.size a := fun v13 v16 v223 k0_hw232 => k0_hw232.1
theorem k0_idx464_inb : ∀ (v13 : IVec S16 32) (v16 : IVec S16 32) (v223 : IVec S16 32) (k0_hw232 : k0_chk232 v13 v16 v223), ∀ a x, ((![v16, v223] : Fin 2 → IVec S16 32) a x).toNat < S400x128.size a := fun v13 v16 v223 k0_hw232 => k0_hw232.2

def k0_chk233 (v13 : IVec S16 32) (v16 : IVec S16 32) (v225 : IVec S16 32) : Prop :=
  (∀ a x, ((![v13, v225] : Fin 2 → IVec S16 32) a x).toNat < S512x128.size a) ∧
  (∀ a x, ((![v16, v225] : Fin 2 → IVec S16 32) a x).toNat < S400x128.size a)
theorem k0_idx465_inb : ∀ (v13 : IVec S16 32) (v16 : IVec S16 32) (v225 : IVec S16 32) (k0_hw233 : k0_chk233 v13 v16 v225), ∀ a x, ((![v13, v225] : Fin 2 → IVec S16 32) a x).toNat < S512x128.size a := fun v13 v16 v225 k0_hw233 => k0_hw233.1
theorem k0_idx466_inb : ∀ (v13 : IVec S16 32) (v16 : IVec S16 32) (v225 : IVec S16 32) (k0_hw233 : k0_chk233 v13 v16 v225), ∀ a x, ((![v16, v225] : Fin 2 → IVec S16 32) a x).toNat < S400x128.size a := fun v13 v16 v225 k0_hw233 => k0_hw233.2

def k0_chk234 (v13 : IVec S16 32) (v16 : IVec S16 32) (v227 : IVec S16 32) : Prop :=
  (∀ a x, ((![v13, v227] : Fin 2 → IVec S16 32) a x).toNat < S512x128.size a) ∧
  (∀ a x, ((![v16, v227] : Fin 2 → IVec S16 32) a x).toNat < S400x128.size a)
theorem k0_idx467_inb : ∀ (v13 : IVec S16 32) (v16 : IVec S16 32) (v227 : IVec S16 32) (k0_hw234 : k0_chk234 v13 v16 v227), ∀ a x, ((![v13, v227] : Fin 2 → IVec S16 32) a x).toNat < S512x128.size a := fun v13 v16 v227 k0_hw234 => k0_hw234.1
theorem k0_idx468_inb : ∀ (v13 : IVec S16 32) (v16 : IVec S16 32) (v227 : IVec S16 32) (k0_hw234 : k0_chk234 v13 v16 v227), ∀ a x, ((![v16, v227] : Fin 2 → IVec S16 32) a x).toNat < S400x128.size a := fun v13 v16 v227 k0_hw234 => k0_hw234.2

def k0_chk235 (v13 : IVec S16 32) (v16 : IVec S16 32) (v229 : IVec S16 32) : Prop :=
  (∀ a x, ((![v13, v229] : Fin 2 → IVec S16 32) a x).toNat < S512x128.size a) ∧
  (∀ a x, ((![v16, v229] : Fin 2 → IVec S16 32) a x).toNat < S400x128.size a)
theorem k0_idx469_inb : ∀ (v13 : IVec S16 32) (v16 : IVec S16 32) (v229 : IVec S16 32) (k0_hw235 : k0_chk235 v13 v16 v229), ∀ a x, ((![v13, v229] : Fin 2 → IVec S16 32) a x).toNat < S512x128.size a := fun v13 v16 v229 k0_hw235 => k0_hw235.1
theorem k0_idx470_inb : ∀ (v13 : IVec S16 32) (v16 : IVec S16 32) (v229 : IVec S16 32) (k0_hw235 : k0_chk235 v13 v16 v229), ∀ a x, ((![v16, v229] : Fin 2 → IVec S16 32) a x).toNat < S400x128.size a := fun v13 v16 v229 k0_hw235 => k0_hw235.2

def k0_chk236 (v13 : IVec S16 32) (v16 : IVec S16 32) (v231 : IVec S16 32) : Prop :=
  (∀ a x, ((![v13, v231] : Fin 2 → IVec S16 32) a x).toNat < S512x128.size a) ∧
  (∀ a x, ((![v16, v231] : Fin 2 → IVec S16 32) a x).toNat < S400x128.size a)
theorem k0_idx471_inb : ∀ (v13 : IVec S16 32) (v16 : IVec S16 32) (v231 : IVec S16 32) (k0_hw236 : k0_chk236 v13 v16 v231), ∀ a x, ((![v13, v231] : Fin 2 → IVec S16 32) a x).toNat < S512x128.size a := fun v13 v16 v231 k0_hw236 => k0_hw236.1
theorem k0_idx472_inb : ∀ (v13 : IVec S16 32) (v16 : IVec S16 32) (v231 : IVec S16 32) (k0_hw236 : k0_chk236 v13 v16 v231), ∀ a x, ((![v16, v231] : Fin 2 → IVec S16 32) a x).toNat < S400x128.size a := fun v13 v16 v231 k0_hw236 => k0_hw236.2

def k0_chk237 (v13 : IVec S16 32) (v16 : IVec S16 32) (v233 : IVec S16 32) : Prop :=
  (∀ a x, ((![v13, v233] : Fin 2 → IVec S16 32) a x).toNat < S512x128.size a) ∧
  (∀ a x, ((![v16, v233] : Fin 2 → IVec S16 32) a x).toNat < S400x128.size a)
theorem k0_idx473_inb : ∀ (v13 : IVec S16 32) (v16 : IVec S16 32) (v233 : IVec S16 32) (k0_hw237 : k0_chk237 v13 v16 v233), ∀ a x, ((![v13, v233] : Fin 2 → IVec S16 32) a x).toNat < S512x128.size a := fun v13 v16 v233 k0_hw237 => k0_hw237.1
theorem k0_idx474_inb : ∀ (v13 : IVec S16 32) (v16 : IVec S16 32) (v233 : IVec S16 32) (k0_hw237 : k0_chk237 v13 v16 v233), ∀ a x, ((![v16, v233] : Fin 2 → IVec S16 32) a x).toNat < S400x128.size a := fun v13 v16 v233 k0_hw237 => k0_hw237.2

def k0_chk238 (v13 : IVec S16 32) (v16 : IVec S16 32) (v235 : IVec S16 32) : Prop :=
  (∀ a x, ((![v13, v235] : Fin 2 → IVec S16 32) a x).toNat < S512x128.size a) ∧
  (∀ a x, ((![v16, v235] : Fin 2 → IVec S16 32) a x).toNat < S400x128.size a)
theorem k0_idx475_inb : ∀ (v13 : IVec S16 32) (v16 : IVec S16 32) (v235 : IVec S16 32) (k0_hw238 : k0_chk238 v13 v16 v235), ∀ a x, ((![v13, v235] : Fin 2 → IVec S16 32) a x).toNat < S512x128.size a := fun v13 v16 v235 k0_hw238 => k0_hw238.1
theorem k0_idx476_inb : ∀ (v13 : IVec S16 32) (v16 : IVec S16 32) (v235 : IVec S16 32) (k0_hw238 : k0_chk238 v13 v16 v235), ∀ a x, ((![v16, v235] : Fin 2 → IVec S16 32) a x).toNat < S400x128.size a := fun v13 v16 v235 k0_hw238 => k0_hw238.2

def k0_chk239 (v13 : IVec S16 32) (v16 : IVec S16 32) (v237 : IVec S16 32) : Prop :=
  (∀ a x, ((![v13, v237] : Fin 2 → IVec S16 32) a x).toNat < S512x128.size a) ∧
  (∀ a x, ((![v16, v237] : Fin 2 → IVec S16 32) a x).toNat < S400x128.size a)
theorem k0_idx477_inb : ∀ (v13 : IVec S16 32) (v16 : IVec S16 32) (v237 : IVec S16 32) (k0_hw239 : k0_chk239 v13 v16 v237), ∀ a x, ((![v13, v237] : Fin 2 → IVec S16 32) a x).toNat < S512x128.size a := fun v13 v16 v237 k0_hw239 => k0_hw239.1
theorem k0_idx478_inb : ∀ (v13 : IVec S16 32) (v16 : IVec S16 32) (v237 : IVec S16 32) (k0_hw239 : k0_chk239 v13 v16 v237), ∀ a x, ((![v16, v237] : Fin 2 → IVec S16 32) a x).toNat < S400x128.size a := fun v13 v16 v237 k0_hw239 => k0_hw239.2

def k0_chk240 (v13 : IVec S16 32) (v16 : IVec S16 32) (v239 : IVec S16 32) : Prop :=
  (∀ a x, ((![v13, v239] : Fin 2 → IVec S16 32) a x).toNat < S512x128.size a) ∧
  (∀ a x, ((![v16, v239] : Fin 2 → IVec S16 32) a x).toNat < S400x128.size a)
theorem k0_idx479_inb : ∀ (v13 : IVec S16 32) (v16 : IVec S16 32) (v239 : IVec S16 32) (k0_hw240 : k0_chk240 v13 v16 v239), ∀ a x, ((![v13, v239] : Fin 2 → IVec S16 32) a x).toNat < S512x128.size a := fun v13 v16 v239 k0_hw240 => k0_hw240.1
theorem k0_idx480_inb : ∀ (v13 : IVec S16 32) (v16 : IVec S16 32) (v239 : IVec S16 32) (k0_hw240 : k0_chk240 v13 v16 v239), ∀ a x, ((![v16, v239] : Fin 2 → IVec S16 32) a x).toNat < S400x128.size a := fun v13 v16 v239 k0_hw240 => k0_hw240.2

def k0_chk241 (v13 : IVec S16 32) (v16 : IVec S16 32) (v241 : IVec S16 32) : Prop :=
  (∀ a x, ((![v13, v241] : Fin 2 → IVec S16 32) a x).toNat < S512x128.size a) ∧
  (∀ a x, ((![v16, v241] : Fin 2 → IVec S16 32) a x).toNat < S400x128.size a)
theorem k0_idx481_inb : ∀ (v13 : IVec S16 32) (v16 : IVec S16 32) (v241 : IVec S16 32) (k0_hw241 : k0_chk241 v13 v16 v241), ∀ a x, ((![v13, v241] : Fin 2 → IVec S16 32) a x).toNat < S512x128.size a := fun v13 v16 v241 k0_hw241 => k0_hw241.1
theorem k0_idx482_inb : ∀ (v13 : IVec S16 32) (v16 : IVec S16 32) (v241 : IVec S16 32) (k0_hw241 : k0_chk241 v13 v16 v241), ∀ a x, ((![v16, v241] : Fin 2 → IVec S16 32) a x).toNat < S400x128.size a := fun v13 v16 v241 k0_hw241 => k0_hw241.2

def k0_chk242 (v13 : IVec S16 32) (v16 : IVec S16 32) (v243 : IVec S16 32) : Prop :=
  (∀ a x, ((![v13, v243] : Fin 2 → IVec S16 32) a x).toNat < S512x128.size a) ∧
  (∀ a x, ((![v16, v243] : Fin 2 → IVec S16 32) a x).toNat < S400x128.size a)
theorem k0_idx483_inb : ∀ (v13 : IVec S16 32) (v16 : IVec S16 32) (v243 : IVec S16 32) (k0_hw242 : k0_chk242 v13 v16 v243), ∀ a x, ((![v13, v243] : Fin 2 → IVec S16 32) a x).toNat < S512x128.size a := fun v13 v16 v243 k0_hw242 => k0_hw242.1
theorem k0_idx484_inb : ∀ (v13 : IVec S16 32) (v16 : IVec S16 32) (v243 : IVec S16 32) (k0_hw242 : k0_chk242 v13 v16 v243), ∀ a x, ((![v16, v243] : Fin 2 → IVec S16 32) a x).toNat < S400x128.size a := fun v13 v16 v243 k0_hw242 => k0_hw242.2

def k0_chk243 (v13 : IVec S16 32) (v16 : IVec S16 32) (v245 : IVec S16 32) : Prop :=
  (∀ a x, ((![v13, v245] : Fin 2 → IVec S16 32) a x).toNat < S512x128.size a) ∧
  (∀ a x, ((![v16, v245] : Fin 2 → IVec S16 32) a x).toNat < S400x128.size a)
theorem k0_idx485_inb : ∀ (v13 : IVec S16 32) (v16 : IVec S16 32) (v245 : IVec S16 32) (k0_hw243 : k0_chk243 v13 v16 v245), ∀ a x, ((![v13, v245] : Fin 2 → IVec S16 32) a x).toNat < S512x128.size a := fun v13 v16 v245 k0_hw243 => k0_hw243.1
theorem k0_idx486_inb : ∀ (v13 : IVec S16 32) (v16 : IVec S16 32) (v245 : IVec S16 32) (k0_hw243 : k0_chk243 v13 v16 v245), ∀ a x, ((![v16, v245] : Fin 2 → IVec S16 32) a x).toNat < S400x128.size a := fun v13 v16 v245 k0_hw243 => k0_hw243.2

def k0_chk244 (v13 : IVec S16 32) (v16 : IVec S16 32) (v247 : IVec S16 32) : Prop :=
  (∀ a x, ((![v13, v247] : Fin 2 → IVec S16 32) a x).toNat < S512x128.size a) ∧
  (∀ a x, ((![v16, v247] : Fin 2 → IVec S16 32) a x).toNat < S400x128.size a)
theorem k0_idx487_inb : ∀ (v13 : IVec S16 32) (v16 : IVec S16 32) (v247 : IVec S16 32) (k0_hw244 : k0_chk244 v13 v16 v247), ∀ a x, ((![v13, v247] : Fin 2 → IVec S16 32) a x).toNat < S512x128.size a := fun v13 v16 v247 k0_hw244 => k0_hw244.1
theorem k0_idx488_inb : ∀ (v13 : IVec S16 32) (v16 : IVec S16 32) (v247 : IVec S16 32) (k0_hw244 : k0_chk244 v13 v16 v247), ∀ a x, ((![v16, v247] : Fin 2 → IVec S16 32) a x).toNat < S400x128.size a := fun v13 v16 v247 k0_hw244 => k0_hw244.2

def k0_chk245 (v13 : IVec S16 32) (v16 : IVec S16 32) (v249 : IVec S16 32) : Prop :=
  (∀ a x, ((![v13, v249] : Fin 2 → IVec S16 32) a x).toNat < S512x128.size a) ∧
  (∀ a x, ((![v16, v249] : Fin 2 → IVec S16 32) a x).toNat < S400x128.size a)
theorem k0_idx489_inb : ∀ (v13 : IVec S16 32) (v16 : IVec S16 32) (v249 : IVec S16 32) (k0_hw245 : k0_chk245 v13 v16 v249), ∀ a x, ((![v13, v249] : Fin 2 → IVec S16 32) a x).toNat < S512x128.size a := fun v13 v16 v249 k0_hw245 => k0_hw245.1
theorem k0_idx490_inb : ∀ (v13 : IVec S16 32) (v16 : IVec S16 32) (v249 : IVec S16 32) (k0_hw245 : k0_chk245 v13 v16 v249), ∀ a x, ((![v16, v249] : Fin 2 → IVec S16 32) a x).toNat < S400x128.size a := fun v13 v16 v249 k0_hw245 => k0_hw245.2

def k0_chk246 (v13 : IVec S16 32) (v16 : IVec S16 32) (v251 : IVec S16 32) : Prop :=
  (∀ a x, ((![v13, v251] : Fin 2 → IVec S16 32) a x).toNat < S512x128.size a) ∧
  (∀ a x, ((![v16, v251] : Fin 2 → IVec S16 32) a x).toNat < S400x128.size a)
theorem k0_idx491_inb : ∀ (v13 : IVec S16 32) (v16 : IVec S16 32) (v251 : IVec S16 32) (k0_hw246 : k0_chk246 v13 v16 v251), ∀ a x, ((![v13, v251] : Fin 2 → IVec S16 32) a x).toNat < S512x128.size a := fun v13 v16 v251 k0_hw246 => k0_hw246.1
theorem k0_idx492_inb : ∀ (v13 : IVec S16 32) (v16 : IVec S16 32) (v251 : IVec S16 32) (k0_hw246 : k0_chk246 v13 v16 v251), ∀ a x, ((![v16, v251] : Fin 2 → IVec S16 32) a x).toNat < S400x128.size a := fun v13 v16 v251 k0_hw246 => k0_hw246.2

def k0_chk247 (v13 : IVec S16 32) (v16 : IVec S16 32) (v253 : IVec S16 32) : Prop :=
  (∀ a x, ((![v13, v253] : Fin 2 → IVec S16 32) a x).toNat < S512x128.size a) ∧
  (∀ a x, ((![v16, v253] : Fin 2 → IVec S16 32) a x).toNat < S400x128.size a)
theorem k0_idx493_inb : ∀ (v13 : IVec S16 32) (v16 : IVec S16 32) (v253 : IVec S16 32) (k0_hw247 : k0_chk247 v13 v16 v253), ∀ a x, ((![v13, v253] : Fin 2 → IVec S16 32) a x).toNat < S512x128.size a := fun v13 v16 v253 k0_hw247 => k0_hw247.1
theorem k0_idx494_inb : ∀ (v13 : IVec S16 32) (v16 : IVec S16 32) (v253 : IVec S16 32) (k0_hw247 : k0_chk247 v13 v16 v253), ∀ a x, ((![v16, v253] : Fin 2 → IVec S16 32) a x).toNat < S400x128.size a := fun v13 v16 v253 k0_hw247 => k0_hw247.2

def k0_chk248 (v13 : IVec S16 32) (v16 : IVec S16 32) (v255 : IVec S16 32) : Prop :=
  (∀ a x, ((![v13, v255] : Fin 2 → IVec S16 32) a x).toNat < S512x128.size a) ∧
  (∀ a x, ((![v16, v255] : Fin 2 → IVec S16 32) a x).toNat < S400x128.size a)
theorem k0_idx495_inb : ∀ (v13 : IVec S16 32) (v16 : IVec S16 32) (v255 : IVec S16 32) (k0_hw248 : k0_chk248 v13 v16 v255), ∀ a x, ((![v13, v255] : Fin 2 → IVec S16 32) a x).toNat < S512x128.size a := fun v13 v16 v255 k0_hw248 => k0_hw248.1
theorem k0_idx496_inb : ∀ (v13 : IVec S16 32) (v16 : IVec S16 32) (v255 : IVec S16 32) (k0_hw248 : k0_chk248 v13 v16 v255), ∀ a x, ((![v16, v255] : Fin 2 → IVec S16 32) a x).toNat < S400x128.size a := fun v13 v16 v255 k0_hw248 => k0_hw248.2

def k0_chk249 (v13 : IVec S16 32) (v16 : IVec S16 32) (v257 : IVec S16 32) : Prop :=
  (∀ a x, ((![v13, v257] : Fin 2 → IVec S16 32) a x).toNat < S512x128.size a) ∧
  (∀ a x, ((![v16, v257] : Fin 2 → IVec S16 32) a x).toNat < S400x128.size a)
theorem k0_idx497_inb : ∀ (v13 : IVec S16 32) (v16 : IVec S16 32) (v257 : IVec S16 32) (k0_hw249 : k0_chk249 v13 v16 v257), ∀ a x, ((![v13, v257] : Fin 2 → IVec S16 32) a x).toNat < S512x128.size a := fun v13 v16 v257 k0_hw249 => k0_hw249.1
theorem k0_idx498_inb : ∀ (v13 : IVec S16 32) (v16 : IVec S16 32) (v257 : IVec S16 32) (k0_hw249 : k0_chk249 v13 v16 v257), ∀ a x, ((![v16, v257] : Fin 2 → IVec S16 32) a x).toNat < S400x128.size a := fun v13 v16 v257 k0_hw249 => k0_hw249.2

def k0_chk250 (v13 : IVec S16 32) (v16 : IVec S16 32) (v259 : IVec S16 32) : Prop :=
  (∀ a x, ((![v13, v259] : Fin 2 → IVec S16 32) a x).toNat < S512x128.size a) ∧
  (∀ a x, ((![v16, v259] : Fin 2 → IVec S16 32) a x).toNat < S400x128.size a)
theorem k0_idx499_inb : ∀ (v13 : IVec S16 32) (v16 : IVec S16 32) (v259 : IVec S16 32) (k0_hw250 : k0_chk250 v13 v16 v259), ∀ a x, ((![v13, v259] : Fin 2 → IVec S16 32) a x).toNat < S512x128.size a := fun v13 v16 v259 k0_hw250 => k0_hw250.1
theorem k0_idx500_inb : ∀ (v13 : IVec S16 32) (v16 : IVec S16 32) (v259 : IVec S16 32) (k0_hw250 : k0_chk250 v13 v16 v259), ∀ a x, ((![v16, v259] : Fin 2 → IVec S16 32) a x).toNat < S400x128.size a := fun v13 v16 v259 k0_hw250 => k0_hw250.2

def k0_chk251 (v13 : IVec S16 32) (v16 : IVec S16 32) (v261 : IVec S16 32) : Prop :=
  (∀ a x, ((![v13, v261] : Fin 2 → IVec S16 32) a x).toNat < S512x128.size a) ∧
  (∀ a x, ((![v16, v261] : Fin 2 → IVec S16 32) a x).toNat < S400x128.size a)
theorem k0_idx501_inb : ∀ (v13 : IVec S16 32) (v16 : IVec S16 32) (v261 : IVec S16 32) (k0_hw251 : k0_chk251 v13 v16 v261), ∀ a x, ((![v13, v261] : Fin 2 → IVec S16 32) a x).toNat < S512x128.size a := fun v13 v16 v261 k0_hw251 => k0_hw251.1
theorem k0_idx502_inb : ∀ (v13 : IVec S16 32) (v16 : IVec S16 32) (v261 : IVec S16 32) (k0_hw251 : k0_chk251 v13 v16 v261), ∀ a x, ((![v16, v261] : Fin 2 → IVec S16 32) a x).toNat < S400x128.size a := fun v13 v16 v261 k0_hw251 => k0_hw251.2

def k0_chk252 (v13 : IVec S16 32) (v16 : IVec S16 32) (v263 : IVec S16 32) : Prop :=
  (∀ a x, ((![v13, v263] : Fin 2 → IVec S16 32) a x).toNat < S512x128.size a) ∧
  (∀ a x, ((![v16, v263] : Fin 2 → IVec S16 32) a x).toNat < S400x128.size a)
theorem k0_idx503_inb : ∀ (v13 : IVec S16 32) (v16 : IVec S16 32) (v263 : IVec S16 32) (k0_hw252 : k0_chk252 v13 v16 v263), ∀ a x, ((![v13, v263] : Fin 2 → IVec S16 32) a x).toNat < S512x128.size a := fun v13 v16 v263 k0_hw252 => k0_hw252.1
theorem k0_idx504_inb : ∀ (v13 : IVec S16 32) (v16 : IVec S16 32) (v263 : IVec S16 32) (k0_hw252 : k0_chk252 v13 v16 v263), ∀ a x, ((![v16, v263] : Fin 2 → IVec S16 32) a x).toNat < S400x128.size a := fun v13 v16 v263 k0_hw252 => k0_hw252.2

def k0_chk253 (v13 : IVec S16 32) (v16 : IVec S16 32) (v265 : IVec S16 32) : Prop :=
  (∀ a x, ((![v13, v265] : Fin 2 → IVec S16 32) a x).toNat < S512x128.size a) ∧
  (∀ a x, ((![v16, v265] : Fin 2 → IVec S16 32) a x).toNat < S400x128.size a)
theorem k0_idx505_inb : ∀ (v13 : IVec S16 32) (v16 : IVec S16 32) (v265 : IVec S16 32) (k0_hw253 : k0_chk253 v13 v16 v265), ∀ a x, ((![v13, v265] : Fin 2 → IVec S16 32) a x).toNat < S512x128.size a := fun v13 v16 v265 k0_hw253 => k0_hw253.1
theorem k0_idx506_inb : ∀ (v13 : IVec S16 32) (v16 : IVec S16 32) (v265 : IVec S16 32) (k0_hw253 : k0_chk253 v13 v16 v265), ∀ a x, ((![v16, v265] : Fin 2 → IVec S16 32) a x).toNat < S400x128.size a := fun v13 v16 v265 k0_hw253 => k0_hw253.2

def k0_chk254 (v13 : IVec S16 32) (v16 : IVec S16 32) (v267 : IVec S16 32) : Prop :=
  (∀ a x, ((![v13, v267] : Fin 2 → IVec S16 32) a x).toNat < S512x128.size a) ∧
  (∀ a x, ((![v16, v267] : Fin 2 → IVec S16 32) a x).toNat < S400x128.size a)
theorem k0_idx507_inb : ∀ (v13 : IVec S16 32) (v16 : IVec S16 32) (v267 : IVec S16 32) (k0_hw254 : k0_chk254 v13 v16 v267), ∀ a x, ((![v13, v267] : Fin 2 → IVec S16 32) a x).toNat < S512x128.size a := fun v13 v16 v267 k0_hw254 => k0_hw254.1
theorem k0_idx508_inb : ∀ (v13 : IVec S16 32) (v16 : IVec S16 32) (v267 : IVec S16 32) (k0_hw254 : k0_chk254 v13 v16 v267), ∀ a x, ((![v16, v267] : Fin 2 → IVec S16 32) a x).toNat < S400x128.size a := fun v13 v16 v267 k0_hw254 => k0_hw254.2

def k0_chk255 (v13 : IVec S16 32) (v16 : IVec S16 32) (v269 : IVec S16 32) : Prop :=
  (∀ a x, ((![v13, v269] : Fin 2 → IVec S16 32) a x).toNat < S512x128.size a) ∧
  (∀ a x, ((![v16, v269] : Fin 2 → IVec S16 32) a x).toNat < S400x128.size a)
theorem k0_idx509_inb : ∀ (v13 : IVec S16 32) (v16 : IVec S16 32) (v269 : IVec S16 32) (k0_hw255 : k0_chk255 v13 v16 v269), ∀ a x, ((![v13, v269] : Fin 2 → IVec S16 32) a x).toNat < S512x128.size a := fun v13 v16 v269 k0_hw255 => k0_hw255.1
theorem k0_idx510_inb : ∀ (v13 : IVec S16 32) (v16 : IVec S16 32) (v269 : IVec S16 32) (k0_hw255 : k0_chk255 v13 v16 v269), ∀ a x, ((![v16, v269] : Fin 2 → IVec S16 32) a x).toNat < S400x128.size a := fun v13 v16 v269 k0_hw255 => k0_hw255.2

def k0_chk256 (v13 : IVec S16 32) (v16 : IVec S16 32) (v271 : IVec S16 32) : Prop :=
  (∀ a x, ((![v13, v271] : Fin 2 → IVec S16 32) a x).toNat < S512x128.size a) ∧
  (∀ a x, ((![v16, v271] : Fin 2 → IVec S16 32) a x).toNat < S400x128.size a)
theorem k0_idx511_inb : ∀ (v13 : IVec S16 32) (v16 : IVec S16 32) (v271 : IVec S16 32) (k0_hw256 : k0_chk256 v13 v16 v271), ∀ a x, ((![v13, v271] : Fin 2 → IVec S16 32) a x).toNat < S512x128.size a := fun v13 v16 v271 k0_hw256 => k0_hw256.1
theorem k0_idx512_inb : ∀ (v13 : IVec S16 32) (v16 : IVec S16 32) (v271 : IVec S16 32) (k0_hw256 : k0_chk256 v13 v16 v271), ∀ a x, ((![v16, v271] : Fin 2 → IVec S16 32) a x).toNat < S400x128.size a := fun v13 v16 v271 k0_hw256 => k0_hw256.2
def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  let c400_i32 : BitVec 32 := 400#32
  let v9 : BitVec 32 := Scalar.addi v2 c400_i32
  let c0_i32_9_r3 : BitVec 32 := 0#32
  ![v9.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S512x128 : Shape := ⟨2, ![512, 128]⟩
abbrev S8x3136x1 : Shape := ⟨3, ![8, 3136, 1]⟩
abbrev S25088 : Shape := ⟨1, ![25088]⟩
abbrev S_ : Shape := ⟨0, ![]⟩
abbrev S25088x1 : Shape := ⟨2, ![25088, 1]⟩
abbrev S1 : Shape := ⟨1, ![1]⟩
abbrev S1x1 : Shape := ⟨2, ![1, 1]⟩
abbrev S25088x128 : Shape := ⟨2, ![25088, 128]⟩
abbrev S8x56x56x128 : Shape := ⟨4, ![8, 56, 56, 128]⟩

abbrev nBuf : Space → Nat
  | .hbm => 27
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S8x3136x1, .i32⟩
  | .hbm, ⟨2, _⟩ => ⟨S25088, .i32⟩
  | .hbm, ⟨3, _⟩ => ⟨S_, .i32⟩
  | .hbm, ⟨4, _⟩ => ⟨S25088, .i32⟩
  | .hbm, ⟨5, _⟩ => ⟨S25088, .i1⟩
  | .hbm, ⟨6, _⟩ => ⟨S_, .i32⟩
  | .hbm, ⟨7, _⟩ => ⟨S25088, .i32⟩
  | .hbm, ⟨8, _⟩ => ⟨S25088, .i32⟩
  | .hbm, ⟨9, _⟩ => ⟨S25088, .i32⟩
  | .hbm, ⟨10, _⟩ => ⟨S25088x1, .i32⟩
  | .hbm, ⟨11, _⟩ => ⟨S1, .i32⟩
  | .hbm, ⟨12, _⟩ => ⟨S_, .i32⟩
  | .hbm, ⟨13, _⟩ => ⟨S25088x1, .i32⟩
  | .hbm, ⟨14, _⟩ => ⟨S25088x1, .i1⟩
  | .hbm, ⟨15, _⟩ => ⟨S1x1, .i32⟩
  | .hbm, ⟨16, _⟩ => ⟨S25088x1, .i32⟩
  | .hbm, ⟨17, _⟩ => ⟨S25088x1, .i1⟩
  | .hbm, ⟨18, _⟩ => ⟨S25088x1, .i1⟩
  | .hbm, ⟨19, _⟩ => ⟨S_, .i1⟩
  | .hbm, ⟨20, _⟩ => ⟨S25088, .i1⟩
  | .hbm, ⟨21, _⟩ => ⟨S25088x128, .f32⟩
  | .hbm, ⟨22, _⟩ => ⟨S25088x128, .i1⟩
  | .hbm, ⟨23, _⟩ => ⟨S_, .f32⟩
  | .hbm, ⟨24, _⟩ => ⟨S25088x128, .f32⟩
  | .hbm, ⟨25, _⟩ => ⟨S25088x128, .f32⟩
  | .hbm, ⟨26, _⟩ => ⟨S8x56x56x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]
-- ==== Last.lean ====
abbrev S8x2x114x114x128 : Shape := ⟨5, ![8, 2, 114, 114, 128]⟩
abbrev S3x64x3x3 : Shape := ⟨4, ![3, 64, 3, 3]⟩
abbrev S3 : Shape := ⟨1, ![3]⟩
abbrev S3x3x64x3 : Shape := ⟨4, ![3, 3, 64, 3]⟩
abbrev S_ : Shape := ⟨0, ![]⟩
abbrev S128x12 : Shape := ⟨2, ![128, 12]⟩
abbrev S1x1x64x3 : Shape := ⟨4, ![1, 1, 64, 3]⟩
abbrev S64x3 : Shape := ⟨2, ![64, 3]⟩
abbrev S1 : Shape := ⟨1, ![1]⟩
abbrev S2 : Shape := ⟨1, ![2]⟩
abbrev S1x128x12 : Shape := ⟨3, ![1, 128, 12]⟩
abbrev S3x128x12 : Shape := ⟨3, ![3, 128, 12]⟩
abbrev S1x3x128x12 : Shape := ⟨4, ![1, 3, 128, 12]⟩
abbrev S4x3x128x12 : Shape := ⟨4, ![4, 3, 128, 12]⟩
abbrev S1x3 : Shape := ⟨2, ![1, 3]⟩
abbrev S4x3 : Shape := ⟨2, ![4, 3]⟩
abbrev S12 : Shape := ⟨1, ![12]⟩
abbrev S8x12x112x112 : Shape := ⟨4, ![8, 12, 112, 112]⟩
abbrev S1x2x114x114x128 : Shape := ⟨5, ![1, 2, 114, 114, 128]⟩
abbrev S1x12x112x112 : Shape := ⟨4, ![1, 12, 112, 112]⟩
abbrev S12x3136 : Shape := ⟨2, ![12, 3136]⟩
abbrev S1x1x28x112x128 : Shape := ⟨5, ![1, 1, 28, 112, 128]⟩
abbrev S28x112x128 : Shape := ⟨3, ![28, 112, 128]⟩
abbrev S3136x128 : Shape := ⟨2, ![3136, 128]⟩
abbrev S1x1x128x12 : Shape := ⟨4, ![1, 1, 128, 12]⟩
abbrev S12x1 : Shape := ⟨2, ![12, 1]⟩
abbrev S12x28x112 : Shape := ⟨3, ![12, 28, 112]⟩
abbrev S1x12x28x112 : Shape := ⟨4, ![1, 12, 28, 112]⟩

abbrev nBuf : Space → Nat
  | .hbm => 341
  | .vmem => 6
  | .smem => 0
  | _ => 0

abbrev hbmTy0_0 (i : Nat) : BufTy := match i % 128 with
  | 0 => ⟨S8x2x114x114x128, .f32⟩
  | 1 => ⟨S3x64x3x3, .f32⟩
  | 2 => ⟨S3, .f32⟩
  | 3 => ⟨S3x3x64x3, .f32⟩
  | 4 => ⟨S_, .f32⟩
  | 5 => ⟨S128x12, .f32⟩
  | 6 => ⟨S1x1x64x3, .f32⟩
  | 7 => ⟨S64x3, .f32⟩
  | 8 => ⟨S_, .i32⟩
  | 9 => ⟨S1, .i32⟩
  | 10 => ⟨S_, .i32⟩
  | 11 => ⟨S1, .i32⟩
  | 12 => ⟨S2, .i32⟩
  | 13 => ⟨S128x12, .f32⟩
  | 14 => ⟨S_, .f32⟩
  | 15 => ⟨S128x12, .f32⟩
  | 16 => ⟨S1x1x64x3, .f32⟩
  | 17 => ⟨S64x3, .f32⟩
  | 18 => ⟨S_, .i32⟩
  | 19 => ⟨S1, .i32⟩
  | 20 => ⟨S_, .i32⟩
  | 21 => ⟨S1, .i32⟩
  | 22 => ⟨S2, .i32⟩
  | 23 => ⟨S128x12, .f32⟩
  | 24 => ⟨S1x1x64x3, .f32⟩
  | 25 => ⟨S64x3, .f32⟩
  | 26 => ⟨S_, .i32⟩
  | 27 => ⟨S1, .i32⟩
  | 28 => ⟨S_, .i32⟩
  | 29 => ⟨S1, .i32⟩
  | 30 => ⟨S2, .i32⟩
  | 31 => ⟨S128x12, .f32⟩
  | 32 => ⟨S1x1x64x3, .f32⟩
  | 33 => ⟨S64x3, .f32⟩
  | 34 => ⟨S_, .i32⟩
  | 35 => ⟨S1, .i32⟩
  | 36 => ⟨S_, .i32⟩
  | 37 => ⟨S1, .i32⟩
  | 38 => ⟨S2, .i32⟩
  | 39 => ⟨S128x12, .f32⟩
  | 40 => ⟨S1x1x64x3, .f32⟩
  | 41 => ⟨S64x3, .f32⟩
  | 42 => ⟨S_, .i32⟩
  | 43 => ⟨S1, .i32⟩
  | 44 => ⟨S_, .i32⟩
  | 45 => ⟨S1, .i32⟩
  | 46 => ⟨S2, .i32⟩
  | 47 => ⟨S128x12, .f32⟩
  | 48 => ⟨S_, .f32⟩
  | 49 => ⟨S128x12, .f32⟩
  | 50 => ⟨S1x1x64x3, .f32⟩
  | 51 => ⟨S64x3, .f32⟩
  | 52 => ⟨S_, .i32⟩
  | 53 => ⟨S1, .i32⟩
  | 54 => ⟨S_, .i32⟩
  | 55 => ⟨S1, .i32⟩
  | 56 => ⟨S2, .i32⟩
  | 57 => ⟨S128x12, .f32⟩
  | 58 => ⟨S1x128x12, .f32⟩
  | 59 => ⟨S1x128x12, .f32⟩
  | 60 => ⟨S1x128x12, .f32⟩
  | 61 => ⟨S3x128x12, .f32⟩
  | 62 => ⟨S_, .f32⟩
  | 63 => ⟨S128x12, .f32⟩
  | 64 => ⟨S1x1x64x3, .f32⟩
  | 65 => ⟨S64x3, .f32⟩
  | 66 => ⟨S_, .i32⟩
  | 67 => ⟨S1, .i32⟩
  | 68 => ⟨S_, .i32⟩
  | 69 => ⟨S1, .i32⟩
  | 70 => ⟨S2, .i32⟩
  | 71 => ⟨S128x12, .f32⟩
  | 72 => ⟨S1x1x64x3, .f32⟩
  | 73 => ⟨S64x3, .f32⟩
  | 74 => ⟨S_, .i32⟩
  | 75 => ⟨S1, .i32⟩
  | 76 => ⟨S_, .i32⟩
  | 77 => ⟨S1, .i32⟩
  | 78 => ⟨S2, .i32⟩
  | 79 => ⟨S128x12, .f32⟩
  | 80 => ⟨S_, .f32⟩
  | 81 => ⟨S128x12, .f32⟩
  | 82 => ⟨S1x1x64x3, .f32⟩
  | 83 => ⟨S64x3, .f32⟩
  | 84 => ⟨S_, .i32⟩
  | 85 => ⟨S1, .i32⟩
  | 86 => ⟨S_, .i32⟩
  | 87 => ⟨S1, .i32⟩
  | 88 => ⟨S2, .i32⟩
  | 89 => ⟨S128x12, .f32⟩
  | 90 => ⟨S1x1x64x3, .f32⟩
  | 91 => ⟨S64x3, .f32⟩
  | 92 => ⟨S_, .i32⟩
  | 93 => ⟨S1, .i32⟩
  | 94 => ⟨S_, .i32⟩
  | 95 => ⟨S1, .i32⟩
  | 96 => ⟨S2, .i32⟩
  | 97 => ⟨S128x12, .f32⟩
  | 98 => ⟨S1x1x64x3, .f32⟩
  | 99 => ⟨S64x3, .f32⟩
  | 100 => ⟨S_, .i32⟩
  | 101 => ⟨S1, .i32⟩
  | 102 => ⟨S_, .i32⟩
  | 103 => ⟨S1, .i32⟩
  | 104 => ⟨S2, .i32⟩
  | 105 => ⟨S128x12, .f32⟩
  | 106 => ⟨S1x1x64x3, .f32⟩
  | 107 => ⟨S64x3, .f32⟩
  | 108 => ⟨S_, .i32⟩
  | 109 => ⟨S1, .i32⟩
  | 110 => ⟨S_, .i32⟩
  | 111 => ⟨S1, .i32⟩
  | 112 => ⟨S2, .i32⟩
  | 113 => ⟨S128x12, .f32⟩
  | 114 => ⟨S1x1x64x3, .f32⟩
  | 115 => ⟨S64x3, .f32⟩
  | 116 => ⟨S_, .i32⟩
  | 117 => ⟨S1, .i32⟩
  | 118 => ⟨S_, .i32⟩
  | 119 => ⟨S1, .i32⟩
  | 120 => ⟨S2, .i32⟩
  | 121 => ⟨S128x12, .f32⟩
  | 122 => ⟨S1x1x64x3, .f32⟩
  | 123 => ⟨S64x3, .f32⟩
  | 124 => ⟨S_, .i32⟩
  | 125 => ⟨S1, .i32⟩
  | 126 => ⟨S_, .i32⟩
  | 127 => ⟨S1, .i32⟩
  | _ => ⟨S8x2x114x114x128, .f32⟩

abbrev hbmTy0_1 (i : Nat) : BufTy := match i % 128 with
  | 0 => ⟨S2, .i32⟩
  | 1 => ⟨S128x12, .f32⟩
  | 2 => ⟨S1x1x64x3, .f32⟩
  | 3 => ⟨S64x3, .f32⟩
  | 4 => ⟨S_, .i32⟩
  | 5 => ⟨S1, .i32⟩
  | 6 => ⟨S_, .i32⟩
  | 7 => ⟨S1, .i32⟩
  | 8 => ⟨S2, .i32⟩
  | 9 => ⟨S128x12, .f32⟩
  | 10 => ⟨S1x1x64x3, .f32⟩
  | 11 => ⟨S64x3, .f32⟩
  | 12 => ⟨S_, .i32⟩
  | 13 => ⟨S1, .i32⟩
  | 14 => ⟨S_, .i32⟩
  | 15 => ⟨S1, .i32⟩
  | 16 => ⟨S2, .i32⟩
  | 17 => ⟨S128x12, .f32⟩
  | 18 => ⟨S_, .f32⟩
  | 19 => ⟨S128x12, .f32⟩
  | 20 => ⟨S1x1x64x3, .f32⟩
  | 21 => ⟨S64x3, .f32⟩
  | 22 => ⟨S_, .i32⟩
  | 23 => ⟨S1, .i32⟩
  | 24 => ⟨S_, .i32⟩
  | 25 => ⟨S1, .i32⟩
  | 26 => ⟨S2, .i32⟩
  | 27 => ⟨S128x12, .f32⟩
  | 28 => ⟨S1x1x64x3, .f32⟩
  | 29 => ⟨S64x3, .f32⟩
  | 30 => ⟨S_, .i32⟩
  | 31 => ⟨S1, .i32⟩
  | 32 => ⟨S_, .i32⟩
  | 33 => ⟨S1, .i32⟩
  | 34 => ⟨S2, .i32⟩
  | 35 => ⟨S128x12, .f32⟩
  | 36 => ⟨S1x128x12, .f32⟩
  | 37 => ⟨S1x128x12, .f32⟩
  | 38 => ⟨S1x128x12, .f32⟩
  | 39 => ⟨S3x128x12, .f32⟩
  | 40 => ⟨S_, .f32⟩
  | 41 => ⟨S128x12, .f32⟩
  | 42 => ⟨S1x1x64x3, .f32⟩
  | 43 => ⟨S64x3, .f32⟩
  | 44 => ⟨S_, .i32⟩
  | 45 => ⟨S1, .i32⟩
  | 46 => ⟨S_, .i32⟩
  | 47 => ⟨S1, .i32⟩
  | 48 => ⟨S2, .i32⟩
  | 49 => ⟨S128x12, .f32⟩
  | 50 => ⟨S1x1x64x3, .f32⟩
  | 51 => ⟨S64x3, .f32⟩
  | 52 => ⟨S_, .i32⟩
  | 53 => ⟨S1, .i32⟩
  | 54 => ⟨S_, .i32⟩
  | 55 => ⟨S1, .i32⟩
  | 56 => ⟨S2, .i32⟩
  | 57 => ⟨S128x12, .f32⟩
  | 58 => ⟨S_, .f32⟩
  | 59 => ⟨S128x12, .f32⟩
  | 60 => ⟨S1x1x64x3, .f32⟩
  | 61 => ⟨S64x3, .f32⟩
  | 62 => ⟨S_, .i32⟩
  | 63 => ⟨S1, .i32⟩
  | 64 => ⟨S_, .i32⟩
  | 65 => ⟨S1, .i32⟩
  | 66 => ⟨S2, .i32⟩
  | 67 => ⟨S128x12, .f32⟩
  | 68 => ⟨S1x1x64x3, .f32⟩
  | 69 => ⟨S64x3, .f32⟩
  | 70 => ⟨S_, .i32⟩
  | 71 => ⟨S1, .i32⟩
  | 72 => ⟨S_, .i32⟩
  | 73 => ⟨S1, .i32⟩
  | 74 => ⟨S2, .i32⟩
  | 75 => ⟨S128x12, .f32⟩
  | 76 => ⟨S1x1x64x3, .f32⟩
  | 77 => ⟨S64x3, .f32⟩
  | 78 => ⟨S_, .i32⟩
  | 79 => ⟨S1, .i32⟩
  | 80 => ⟨S_, .i32⟩
  | 81 => ⟨S1, .i32⟩
  | 82 => ⟨S2, .i32⟩
  | 83 => ⟨S128x12, .f32⟩
  | 84 => ⟨S1x1x64x3, .f32⟩
  | 85 => ⟨S64x3, .f32⟩
  | 86 => ⟨S_, .i32⟩
  | 87 => ⟨S1, .i32⟩
  | 88 => ⟨S_, .i32⟩
  | 89 => ⟨S1, .i32⟩
  | 90 => ⟨S2, .i32⟩
  | 91 => ⟨S128x12, .f32⟩
  | 92 => ⟨S1x1x64x3, .f32⟩
  | 93 => ⟨S64x3, .f32⟩
  | 94 => ⟨S_, .i32⟩
  | 95 => ⟨S1, .i32⟩
  | 96 => ⟨S_, .i32⟩
  | 97 => ⟨S1, .i32⟩
  | 98 => ⟨S2, .i32⟩
  | 99 => ⟨S128x12, .f32⟩
  | 100 => ⟨S1x1x64x3, .f32⟩
  | 101 => ⟨S64x3, .f32⟩
  | 102 => ⟨S_, .i32⟩
  | 103 => ⟨S1, .i32⟩
  | 104 => ⟨S_, .i32⟩
  | 105 => ⟨S1, .i32⟩
  | 106 => ⟨S2, .i32⟩
  | 107 => ⟨S128x12, .f32⟩
  | 108 => ⟨S1x1x64x3, .f32⟩
  | 109 => ⟨S64x3, .f32⟩
  | 110 => ⟨S_, .i32⟩
  | 111 => ⟨S1, .i32⟩
  | 112 => ⟨S_, .i32⟩
  | 113 => ⟨S1, .i32⟩
  | 114 => ⟨S2, .i32⟩
  | 115 => ⟨S128x12, .f32⟩
  | 116 => ⟨S1x1x64x3, .f32⟩
  | 117 => ⟨S64x3, .f32⟩
  | 118 => ⟨S_, .i32⟩
  | 119 => ⟨S1, .i32⟩
  | 120 => ⟨S_, .i32⟩
  | 121 => ⟨S1, .i32⟩
  | 122 => ⟨S2, .i32⟩
  | 123 => ⟨S128x12, .f32⟩
  | 124 => ⟨S_, .f32⟩
  | 125 => ⟨S128x12, .f32⟩
  | 126 => ⟨S1x1x64x3, .f32⟩
  | 127 => ⟨S64x3, .f32⟩
  | _ => ⟨S8x2x114x114x128, .f32⟩

abbrev hbmTy0_2 (i : Nat) : BufTy := match i % 128 with
  | 0 => ⟨S_, .i32⟩
  | 1 => ⟨S1, .i32⟩
  | 2 => ⟨S_, .i32⟩
  | 3 => ⟨S1, .i32⟩
  | 4 => ⟨S2, .i32⟩
  | 5 => ⟨S128x12, .f32⟩
  | 6 => ⟨S1x1x64x3, .f32⟩
  | 7 => ⟨S64x3, .f32⟩
  | 8 => ⟨S_, .i32⟩
  | 9 => ⟨S1, .i32⟩
  | 10 => ⟨S_, .i32⟩
  | 11 => ⟨S1, .i32⟩
  | 12 => ⟨S2, .i32⟩
  | 13 => ⟨S128x12, .f32⟩
  | 14 => ⟨S1x128x12, .f32⟩
  | 15 => ⟨S1x128x12, .f32⟩
  | 16 => ⟨S1x128x12, .f32⟩
  | 17 => ⟨S3x128x12, .f32⟩
  | 18 => ⟨S_, .f32⟩
  | 19 => ⟨S128x12, .f32⟩
  | 20 => ⟨S1x1x64x3, .f32⟩
  | 21 => ⟨S64x3, .f32⟩
  | 22 => ⟨S_, .i32⟩
  | 23 => ⟨S1, .i32⟩
  | 24 => ⟨S_, .i32⟩
  | 25 => ⟨S1, .i32⟩
  | 26 => ⟨S2, .i32⟩
  | 27 => ⟨S128x12, .f32⟩
  | 28 => ⟨S_, .f32⟩
  | 29 => ⟨S128x12, .f32⟩
  | 30 => ⟨S1x1x64x3, .f32⟩
  | 31 => ⟨S64x3, .f32⟩
  | 32 => ⟨S_, .i32⟩
  | 33 => ⟨S1, .i32⟩
  | 34 => ⟨S_, .i32⟩
  | 35 => ⟨S1, .i32⟩
  | 36 => ⟨S2, .i32⟩
  | 37 => ⟨S128x12, .f32⟩
  | 38 => ⟨S1x1x64x3, .f32⟩
  | 39 => ⟨S64x3, .f32⟩
  | 40 => ⟨S_, .i32⟩
  | 41 => ⟨S1, .i32⟩
  | 42 => ⟨S_, .i32⟩
  | 43 => ⟨S1, .i32⟩
  | 44 => ⟨S2, .i32⟩
  | 45 => ⟨S128x12, .f32⟩
  | 46 => ⟨S1x1x64x3, .f32⟩
  | 47 => ⟨S64x3, .f32⟩
  | 48 => ⟨S_, .i32⟩
  | 49 => ⟨S1, .i32⟩
  | 50 => ⟨S_, .i32⟩
  | 51 => ⟨S1, .i32⟩
  | 52 => ⟨S2, .i32⟩
  | 53 => ⟨S128x12, .f32⟩
  | 54 => ⟨S1x1x64x3, .f32⟩
  | 55 => ⟨S64x3, .f32⟩
  | 56 => ⟨S_, .i32⟩
  | 57 => ⟨S1, .i32⟩
  | 58 => ⟨S_, .i32⟩
  | 59 => ⟨S1, .i32⟩
  | 60 => ⟨S2, .i32⟩
  | 61 => ⟨S128x12, .f32⟩
  | 62 => ⟨S_, .f32⟩
  | 63 => ⟨S128x12, .f32⟩
  | 64 => ⟨S1x1x64x3, .f32⟩
  | 65 => ⟨S64x3, .f32⟩
  | 66 => ⟨S_, .i32⟩
  | 67 => ⟨S1, .i32⟩
  | 68 => ⟨S_, .i32⟩
  | 69 => ⟨S1, .i32⟩
  | 70 => ⟨S2, .i32⟩
  | 71 => ⟨S128x12, .f32⟩
  | 72 => ⟨S1x128x12, .f32⟩
  | 73 => ⟨S1x128x12, .f32⟩
  | 74 => ⟨S1x128x12, .f32⟩
  | 75 => ⟨S3x128x12, .f32⟩
  | 76 => ⟨S1x3x128x12, .f32⟩
  | 77 => ⟨S1x3x128x12, .f32⟩
  | 78 => ⟨S1x3x128x12, .f32⟩
  | 79 => ⟨S1x3x128x12, .f32⟩
  | 80 => ⟨S4x3x128x12, .f32⟩
  | 81 => ⟨S1x3, .f32⟩
  | 82 => ⟨S4x3, .f32⟩
  | 83 => ⟨S12, .f32⟩
  | 84 => ⟨S8x12x112x112, .f32⟩
  | _ => ⟨S8x2x114x114x128, .f32⟩

abbrev hbmTy (i : Nat) : BufTy := match i / 128 with
  | 0 => hbmTy0_0 i
  | 1 => hbmTy0_1 i
  | 2 => hbmTy0_2 i
  | _ => ⟨S8x2x114x114x128, .f32⟩

abbrev bufTy : (tb : Table) → Fin (tcTables nBuf tb) → BufTy
  | .hbm, ⟨i, _⟩ => hbmTy i
  | .local _ .vmem, ⟨0, _⟩ => ⟨S1x2x114x114x128, .f32⟩
  | .local _ .vmem, ⟨1, _⟩ => ⟨S1x2x114x114x128, .f32⟩
  | .local _ .vmem, ⟨2, _⟩ => ⟨S4x3x128x12, .f32⟩
  | .local _ .vmem, ⟨3, _⟩ => ⟨S12, .f32⟩
  | .local _ .vmem, ⟨4, _⟩ => ⟨S1x12x112x112, .f32⟩
  | .local _ .vmem, ⟨5, _⟩ => ⟨S1x12x112x112, .f32⟩
  | _, _ => ⟨S8x2x114x114x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_c_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_6 : Ref sig .tc := ⟨.hbm, 34, rfl⟩
abbrev main_v23 : Ref sig .tc := ⟨.hbm, 35, rfl⟩
abbrev main_c_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_8 : Ref sig .tc := ⟨.hbm, 42, rfl⟩
abbrev main_v29 : Ref sig .tc := ⟨.hbm, 43, rfl⟩
abbrev main_c_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_10 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_11 : Ref sig .tc := ⟨.hbm, 52, rfl⟩
abbrev main_v36 : Ref sig .tc := ⟨.hbm, 53, rfl⟩
abbrev main_c_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_13 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_14 : Ref sig .tc := ⟨.hbm, 66, rfl⟩
abbrev main_v47 : Ref sig .tc := ⟨.hbm, 67, rfl⟩
abbrev main_c_15 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_16 : Ref sig .tc := ⟨.hbm, 74, rfl⟩
abbrev main_v53 : Ref sig .tc := ⟨.hbm, 75, rfl⟩
abbrev main_c_17 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_18 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_19 : Ref sig .tc := ⟨.hbm, 84, rfl⟩
abbrev main_v60 : Ref sig .tc := ⟨.hbm, 85, rfl⟩
abbrev main_c_20 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_21 : Ref sig .tc := ⟨.hbm, 92, rfl⟩
abbrev main_v66 : Ref sig .tc := ⟨.hbm, 93, rfl⟩
abbrev main_c_22 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_23 : Ref sig .tc := ⟨.hbm, 100, rfl⟩
abbrev main_v72 : Ref sig .tc := ⟨.hbm, 101, rfl⟩
abbrev main_c_24 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_25 : Ref sig .tc := ⟨.hbm, 108, rfl⟩
abbrev main_v78 : Ref sig .tc := ⟨.hbm, 109, rfl⟩
abbrev main_c_26 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_c_27 : Ref sig .tc := ⟨.hbm, 116, rfl⟩
abbrev main_v84 : Ref sig .tc := ⟨.hbm, 117, rfl⟩
abbrev main_c_28 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_c_29 : Ref sig .tc := ⟨.hbm, 124, rfl⟩
abbrev main_v90 : Ref sig .tc := ⟨.hbm, 125, rfl⟩
abbrev main_c_30 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_c_31 : Ref sig .tc := ⟨.hbm, 132, rfl⟩
abbrev main_v96 : Ref sig .tc := ⟨.hbm, 133, rfl⟩
abbrev main_c_32 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_c_33 : Ref sig .tc := ⟨.hbm, 140, rfl⟩
abbrev main_v102 : Ref sig .tc := ⟨.hbm, 141, rfl⟩
abbrev main_c_34 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_35 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_c_36 : Ref sig .tc := ⟨.hbm, 150, rfl⟩
abbrev main_v109 : Ref sig .tc := ⟨.hbm, 151, rfl⟩
abbrev main_c_37 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_c_38 : Ref sig .tc := ⟨.hbm, 158, rfl⟩
abbrev main_v115 : Ref sig .tc := ⟨.hbm, 159, rfl⟩
abbrev main_c_39 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_40 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_c_41 : Ref sig .tc := ⟨.hbm, 172, rfl⟩
abbrev main_v126 : Ref sig .tc := ⟨.hbm, 173, rfl⟩
abbrev main_c_42 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_c_43 : Ref sig .tc := ⟨.hbm, 180, rfl⟩
abbrev main_v132 : Ref sig .tc := ⟨.hbm, 181, rfl⟩
abbrev main_c_44 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_cst_45 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_c_46 : Ref sig .tc := ⟨.hbm, 190, rfl⟩
abbrev main_v139 : Ref sig .tc := ⟨.hbm, 191, rfl⟩
abbrev main_c_47 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_c_48 : Ref sig .tc := ⟨.hbm, 198, rfl⟩
abbrev main_v145 : Ref sig .tc := ⟨.hbm, 199, rfl⟩
abbrev main_c_49 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_c_50 : Ref sig .tc := ⟨.hbm, 206, rfl⟩
abbrev main_v151 : Ref sig .tc := ⟨.hbm, 207, rfl⟩
abbrev main_c_51 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_c_52 : Ref sig .tc := ⟨.hbm, 214, rfl⟩
abbrev main_v157 : Ref sig .tc := ⟨.hbm, 215, rfl⟩
abbrev main_c_53 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_c_54 : Ref sig .tc := ⟨.hbm, 222, rfl⟩
abbrev main_v163 : Ref sig .tc := ⟨.hbm, 223, rfl⟩
abbrev main_c_55 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_c_56 : Ref sig .tc := ⟨.hbm, 230, rfl⟩
abbrev main_v169 : Ref sig .tc := ⟨.hbm, 231, rfl⟩
abbrev main_c_57 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_c_58 : Ref sig .tc := ⟨.hbm, 238, rfl⟩
abbrev main_v175 : Ref sig .tc := ⟨.hbm, 239, rfl⟩
abbrev main_c_59 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_c_60 : Ref sig .tc := ⟨.hbm, 246, rfl⟩
abbrev main_v181 : Ref sig .tc := ⟨.hbm, 247, rfl⟩
abbrev main_c_61 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_cst_62 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_c_63 : Ref sig .tc := ⟨.hbm, 256, rfl⟩
abbrev main_v188 : Ref sig .tc := ⟨.hbm, 257, rfl⟩
abbrev main_c_64 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_c_65 : Ref sig .tc := ⟨.hbm, 264, rfl⟩
abbrev main_v194 : Ref sig .tc := ⟨.hbm, 265, rfl⟩
abbrev main_c_66 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_cst_67 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_c_68 : Ref sig .tc := ⟨.hbm, 278, rfl⟩
abbrev main_v205 : Ref sig .tc := ⟨.hbm, 279, rfl⟩
abbrev main_c_69 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_cst_70 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩
abbrev main_c_71 : Ref sig .tc := ⟨.hbm, 288, rfl⟩
abbrev main_v212 : Ref sig .tc := ⟨.hbm, 289, rfl⟩
abbrev main_c_72 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩
abbrev main_v217 : Ref sig .tc := ⟨.hbm, 295, rfl⟩
abbrev main_c_73 : Ref sig .tc := ⟨.hbm, 296, rfl⟩
abbrev main_v218 : Ref sig .tc := ⟨.hbm, 297, rfl⟩
abbrev main_c_74 : Ref sig .tc := ⟨.hbm, 298, rfl⟩
abbrev main_v219 : Ref sig .tc := ⟨.hbm, 299, rfl⟩
abbrev main_v220 : Ref sig .tc := ⟨.hbm, 300, rfl⟩
abbrev main_v221 : Ref sig .tc := ⟨.hbm, 301, rfl⟩
abbrev main_v222 : Ref sig .tc := ⟨.hbm, 302, rfl⟩
abbrev main_v223 : Ref sig .tc := ⟨.hbm, 303, rfl⟩
abbrev main_c_75 : Ref sig .tc := ⟨.hbm, 304, rfl⟩
abbrev main_v224 : Ref sig .tc := ⟨.hbm, 305, rfl⟩
abbrev main_c_76 : Ref sig .tc := ⟨.hbm, 306, rfl⟩
abbrev main_v225 : Ref sig .tc := ⟨.hbm, 307, rfl⟩
abbrev main_v226 : Ref sig .tc := ⟨.hbm, 308, rfl⟩
abbrev main_v227 : Ref sig .tc := ⟨.hbm, 309, rfl⟩
abbrev main_v228 : Ref sig .tc := ⟨.hbm, 310, rfl⟩
abbrev main_v229 : Ref sig .tc := ⟨.hbm, 311, rfl⟩
abbrev main_c_77 : Ref sig .tc := ⟨.hbm, 312, rfl⟩
abbrev main_v230 : Ref sig .tc := ⟨.hbm, 313, rfl⟩
abbrev main_c_78 : Ref sig .tc := ⟨.hbm, 314, rfl⟩
abbrev main_v231 : Ref sig .tc := ⟨.hbm, 315, rfl⟩
abbrev main_v232 : Ref sig .tc := ⟨.hbm, 316, rfl⟩
abbrev main_v233 : Ref sig .tc := ⟨.hbm, 317, rfl⟩
abbrev main_cst_79 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_c_80 : Ref sig .tc := ⟨.hbm, 322, rfl⟩
abbrev main_v237 : Ref sig .tc := ⟨.hbm, 323, rfl⟩
abbrev main_c_81 : Ref sig .tc := ⟨.hbm, 324, rfl⟩
abbrev main_v238 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_v243 : Ref sig .tc := ⟨.hbm, 330, rfl⟩
abbrev main_v244 : Ref sig .tc := ⟨.hbm, 331, rfl⟩
abbrev main_v245 : Ref sig .tc := ⟨.hbm, 332, rfl⟩
abbrev main_v246 : Ref sig .tc := ⟨.hbm, 333, rfl⟩
abbrev main_v247 : Ref sig .tc := ⟨.hbm, 334, rfl⟩
abbrev main_v248 : Ref sig .tc := ⟨.hbm, 335, rfl⟩
abbrev main_v249 : Ref sig .tc := ⟨.hbm, 336, rfl⟩
abbrev main_v250 : Ref sig .tc := ⟨.hbm, 337, rfl⟩
abbrev main_v251 : Ref sig .tc := ⟨.hbm, 338, rfl⟩
abbrev main_v252 : Ref sig .tc := ⟨.hbm, 339, rfl⟩
abbrev main_v253 : Ref sig .tc := ⟨.hbm, 340, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2x114x114x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x3x128x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x12x112x112 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LastReferenceIdeal.lean ====
abbrev S8x2x114x114x128 : Shape := ⟨5, ![8, 2, 114, 114, 128]⟩
abbrev S3x64x3x3 : Shape := ⟨4, ![3, 64, 3, 3]⟩
abbrev S3 : Shape := ⟨1, ![3]⟩
abbrev S8x2x114x114x2x64 : Shape := ⟨6, ![8, 2, 114, 114, 2, 64]⟩
abbrev S8x114x2x114x2x64 : Shape := ⟨6, ![8, 114, 2, 114, 2, 64]⟩
abbrev S8x228x228x64 : Shape := ⟨4, ![8, 228, 228, 64]⟩
abbrev S_ : Shape := ⟨0, ![]⟩
abbrev S8x224x224x3 : Shape := ⟨4, ![8, 224, 224, 3]⟩
abbrev S8x224x224x64 : Shape := ⟨4, ![8, 224, 224, 64]⟩
abbrev S3x64x1x1 : Shape := ⟨4, ![3, 64, 1, 1]⟩
abbrev S3x64 : Shape := ⟨2, ![3, 64]⟩
abbrev S8x3x224x224 : Shape := ⟨4, ![8, 3, 224, 224]⟩
abbrev S1x3x1x1 : Shape := ⟨4, ![1, 3, 1, 1]⟩
abbrev S8x3x112x2x112x2 : Shape := ⟨6, ![8, 3, 112, 2, 112, 2]⟩
abbrev S8x2x2x3x112x112 : Shape := ⟨6, ![8, 2, 2, 3, 112, 112]⟩
abbrev S8x12x112x112 : Shape := ⟨4, ![8, 12, 112, 112]⟩

abbrev nBuf : Space → Nat
  | .hbm => 61
  | .vmem => 0
  | .smem => 0
  | _ => 0

abbrev bufTy : (tb : Table) → Fin (tcTables nBuf tb) → BufTy
  | .hbm, ⟨0, _⟩ => ⟨S8x2x114x114x128, .f32⟩
  | .hbm, ⟨1, _⟩ => ⟨S3x64x3x3, .f32⟩
  | .hbm, ⟨2, _⟩ => ⟨S3, .f32⟩
  | .hbm, ⟨3, _⟩ => ⟨S8x2x114x114x2x64, .f32⟩
  | .hbm, ⟨4, _⟩ => ⟨S8x114x2x114x2x64, .f32⟩
  | .hbm, ⟨5, _⟩ => ⟨S8x228x228x64, .f32⟩
  | .hbm, ⟨6, _⟩ => ⟨S_, .f32⟩
  | .hbm, ⟨7, _⟩ => ⟨S8x224x224x3, .f32⟩
  | .hbm, ⟨8, _⟩ => ⟨S8x224x224x64, .f32⟩
  | .hbm, ⟨9, _⟩ => ⟨S3x64x1x1, .f32⟩
  | .hbm, ⟨10, _⟩ => ⟨S3x64, .f32⟩
  | .hbm, ⟨11, _⟩ => ⟨S8x224x224x3, .f32⟩
  | .hbm, ⟨12, _⟩ => ⟨S8x224x224x3, .f32⟩
  | .hbm, ⟨13, _⟩ => ⟨S8x224x224x64, .f32⟩
  | .hbm, ⟨14, _⟩ => ⟨S3x64x1x1, .f32⟩
  | .hbm, ⟨15, _⟩ => ⟨S3x64, .f32⟩
  | .hbm, ⟨16, _⟩ => ⟨S8x224x224x3, .f32⟩
  | .hbm, ⟨17, _⟩ => ⟨S8x224x224x3, .f32⟩
  | .hbm, ⟨18, _⟩ => ⟨S8x224x224x64, .f32⟩
  | .hbm, ⟨19, _⟩ => ⟨S3x64x1x1, .f32⟩
  | .hbm, ⟨20, _⟩ => ⟨S3x64, .f32⟩
  | .hbm, ⟨21, _⟩ => ⟨S8x224x224x3, .f32⟩
  | .hbm, ⟨22, _⟩ => ⟨S8x224x224x3, .f32⟩
  | .hbm, ⟨23, _⟩ => ⟨S8x224x224x64, .f32⟩
  | .hbm, ⟨24, _⟩ => ⟨S3x64x1x1, .f32⟩
  | .hbm, ⟨25, _⟩ => ⟨S3x64, .f32⟩
  | .hbm, ⟨26, _⟩ => ⟨S8x224x224x3, .f32⟩
  | .hbm, ⟨27, _⟩ => ⟨S8x224x224x3, .f32⟩
  | .hbm, ⟨28, _⟩ => ⟨S8x224x224x64, .f32⟩
  | .hbm, ⟨29, _⟩ => ⟨S3x64x1x1, .f32⟩
  | .hbm, ⟨30, _⟩ => ⟨S3x64, .f32⟩
  | .hbm, ⟨31, _⟩ => ⟨S8x224x224x3, .f32⟩
  | .hbm, ⟨32, _⟩ => ⟨S8x224x224x3, .f32⟩
  | .hbm, ⟨33, _⟩ => ⟨S8x224x224x64, .f32⟩
  | .hbm, ⟨34, _⟩ => ⟨S3x64x1x1, .f32⟩
  | .hbm, ⟨35, _⟩ => ⟨S3x64, .f32⟩
  | .hbm, ⟨36, _⟩ => ⟨S8x224x224x3, .f32⟩
  | .hbm, ⟨37, _⟩ => ⟨S8x224x224x3, .f32⟩
  | .hbm, ⟨38, _⟩ => ⟨S8x224x224x64, .f32⟩
  | .hbm, ⟨39, _⟩ => ⟨S3x64x1x1, .f32⟩
  | .hbm, ⟨40, _⟩ => ⟨S3x64, .f32⟩
  | .hbm, ⟨41, _⟩ => ⟨S8x224x224x3, .f32⟩
  | .hbm, ⟨42, _⟩ => ⟨S8x224x224x3, .f32⟩
  | .hbm, ⟨43, _⟩ => ⟨S8x224x224x64, .f32⟩
  | .hbm, ⟨44, _⟩ => ⟨S3x64x1x1, .f32⟩
  | .hbm, ⟨45, _⟩ => ⟨S3x64, .f32⟩
  | .hbm, ⟨46, _⟩ => ⟨S8x224x224x3, .f32⟩
  | .hbm, ⟨47, _⟩ => ⟨S8x224x224x3, .f32⟩
  | .hbm, ⟨48, _⟩ => ⟨S8x224x224x64, .f32⟩
  | .hbm, ⟨49, _⟩ => ⟨S3x64x1x1, .f32⟩
  | .hbm, ⟨50, _⟩ => ⟨S3x64, .f32⟩
  | .hbm, ⟨51, _⟩ => ⟨S8x224x224x3, .f32⟩
  | .hbm, ⟨52, _⟩ => ⟨S8x224x224x3, .f32⟩
  | .hbm, ⟨53, _⟩ => ⟨S8x3x224x224, .f32⟩
  | .hbm, ⟨54, _⟩ => ⟨S1x3x1x1, .f32⟩
  | .hbm, ⟨55, _⟩ => ⟨S8x3x224x224, .f32⟩
  | .hbm, ⟨56, _⟩ => ⟨S8x3x224x224, .f32⟩
  | .hbm, ⟨57, _⟩ => ⟨S8x3x224x224, .f32⟩
  | .hbm, ⟨58, _⟩ => ⟨S8x3x112x2x112x2, .f32⟩
  | .hbm, ⟨59, _⟩ => ⟨S8x2x2x3x112x112, .f32⟩
  | .hbm, ⟨60, _⟩ => ⟨S8x12x112x112, .f32⟩
  | _, _ => ⟨S8x2x114x114x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩

abbrev nD : Nat := 1
abbrev τ : Topo := Topo.v7x

variable {F : FTy → Type} [FloatOps F]
-- ==== Deconv.lean ====
abbrev S8x112x112x128 : Shape := ⟨4, ![8, 112, 112, 128]⟩
abbrev S128x64x4x4 : Shape := ⟨4, ![128, 64, 4, 4]⟩
abbrev S64 : Shape := ⟨1, ![64]⟩
abbrev S4x4x128x64 : Shape := ⟨4, ![4, 4, 128, 64]⟩
abbrev S_ : Shape := ⟨0, ![]⟩
abbrev S128x64 : Shape := ⟨2, ![128, 64]⟩
abbrev S1x1x128x64 : Shape := ⟨4, ![1, 1, 128, 64]⟩
abbrev S128x128 : Shape := ⟨2, ![128, 128]⟩
abbrev S1x128x128 : Shape := ⟨3, ![1, 128, 128]⟩
abbrev S3x128x128 : Shape := ⟨3, ![3, 128, 128]⟩
abbrev S1x3x128x128 : Shape := ⟨4, ![1, 3, 128, 128]⟩
abbrev S4x3x128x128 : Shape := ⟨4, ![4, 3, 128, 128]⟩
abbrev S128 : Shape := ⟨1, ![128]⟩
abbrev S8x2x114x114x128 : Shape := ⟨5, ![8, 2, 114, 114, 128]⟩
abbrev S1x112x112x128 : Shape := ⟨4, ![1, 112, 112, 128]⟩
abbrev S1x2x114x114x128 : Shape := ⟨5, ![1, 2, 114, 114, 128]⟩
abbrev S114x114x128 : Shape := ⟨3, ![114, 114, 128]⟩
abbrev S112x112x128 : Shape := ⟨3, ![112, 112, 128]⟩
abbrev S114x128 : Shape := ⟨2, ![114, 128]⟩
abbrev S1x1x1x114x128 : Shape := ⟨5, ![1, 1, 1, 114, 128]⟩
abbrev S3136x128 : Shape := ⟨2, ![3136, 128]⟩
abbrev S28x112x128 : Shape := ⟨3, ![28, 112, 128]⟩
abbrev S1x1x128x128 : Shape := ⟨4, ![1, 1, 128, 128]⟩
abbrev S1x128 : Shape := ⟨2, ![1, 128]⟩
abbrev S1x1x28x112x128 : Shape := ⟨5, ![1, 1, 28, 112, 128]⟩
abbrev S28x1x128 : Shape := ⟨3, ![28, 1, 128]⟩
abbrev S1x1x28x1x128 : Shape := ⟨5, ![1, 1, 28, 1, 128]⟩

abbrev nBuf : Space → Nat
  | .hbm => 73
  | .vmem => 7
  | .smem => 0
  | _ => 0

abbrev bufTy : (tb : Table) → Fin (tcTables nBuf tb) → BufTy
  | .hbm, ⟨0, _⟩ => ⟨S8x112x112x128, .f32⟩
  | .hbm, ⟨1, _⟩ => ⟨S128x64x4x4, .f32⟩
  | .hbm, ⟨2, _⟩ => ⟨S64, .f32⟩
  | .hbm, ⟨3, _⟩ => ⟨S4x4x128x64, .f32⟩
  | .hbm, ⟨4, _⟩ => ⟨S_, .f32⟩
  | .hbm, ⟨5, _⟩ => ⟨S128x64, .f32⟩
  | .hbm, ⟨6, _⟩ => ⟨S1x1x128x64, .f32⟩
  | .hbm, ⟨7, _⟩ => ⟨S128x64, .f32⟩
  | .hbm, ⟨8, _⟩ => ⟨S128x128, .f32⟩
  | .hbm, ⟨9, _⟩ => ⟨S1x1x128x64, .f32⟩
  | .hbm, ⟨10, _⟩ => ⟨S128x64, .f32⟩
  | .hbm, ⟨11, _⟩ => ⟨S1x1x128x64, .f32⟩
  | .hbm, ⟨12, _⟩ => ⟨S128x64, .f32⟩
  | .hbm, ⟨13, _⟩ => ⟨S128x128, .f32⟩
  | .hbm, ⟨14, _⟩ => ⟨S1x1x128x64, .f32⟩
  | .hbm, ⟨15, _⟩ => ⟨S128x64, .f32⟩
  | .hbm, ⟨16, _⟩ => ⟨S128x128, .f32⟩
  | .hbm, ⟨17, _⟩ => ⟨S1x128x128, .f32⟩
  | .hbm, ⟨18, _⟩ => ⟨S1x128x128, .f32⟩
  | .hbm, ⟨19, _⟩ => ⟨S1x128x128, .f32⟩
  | .hbm, ⟨20, _⟩ => ⟨S3x128x128, .f32⟩
  | .hbm, ⟨21, _⟩ => ⟨S1x1x128x64, .f32⟩
  | .hbm, ⟨22, _⟩ => ⟨S128x64, .f32⟩
  | .hbm, ⟨23, _⟩ => ⟨S128x128, .f32⟩
  | .hbm, ⟨24, _⟩ => ⟨S1x1x128x64, .f32⟩
  | .hbm, ⟨25, _⟩ => ⟨S128x64, .f32⟩
  | .hbm, ⟨26, _⟩ => ⟨S1x1x128x64, .f32⟩
  | .hbm, ⟨27, _⟩ => ⟨S128x64, .f32⟩
  | .hbm, ⟨28, _⟩ => ⟨S128x128, .f32⟩
  | .hbm, ⟨29, _⟩ => ⟨S1x1x128x64, .f32⟩
  | .hbm, ⟨30, _⟩ => ⟨S128x64, .f32⟩
  | .hbm, ⟨31, _⟩ => ⟨S128x128, .f32⟩
  | .hbm, ⟨32, _⟩ => ⟨S1x128x128, .f32⟩
  | .hbm, ⟨33, _⟩ => ⟨S1x128x128, .f32⟩
  | .hbm, ⟨34, _⟩ => ⟨S1x128x128, .f32⟩
  | .hbm, ⟨35, _⟩ => ⟨S3x128x128, .f32⟩
  | .hbm, ⟨36, _⟩ => ⟨S1x1x128x64, .f32⟩
  | .hbm, ⟨37, _⟩ => ⟨S128x64, .f32⟩
  | .hbm, ⟨38, _⟩ => ⟨S128x128, .f32⟩
  | .hbm, ⟨39, _⟩ => ⟨S1x1x128x64, .f32⟩
  | .hbm, ⟨40, _⟩ => ⟨S128x64, .f32⟩
  | .hbm, ⟨41, _⟩ => ⟨S1x1x128x64, .f32⟩
  | .hbm, ⟨42, _⟩ => ⟨S128x64, .f32⟩
  | .hbm, ⟨43, _⟩ => ⟨S128x128, .f32⟩
  | .hbm, ⟨44, _⟩ => ⟨S1x1x128x64, .f32⟩
  | .hbm, ⟨45, _⟩ => ⟨S128x64, .f32⟩
  | .hbm, ⟨46, _⟩ => ⟨S128x128, .f32⟩
  | .hbm, ⟨47, _⟩ => ⟨S1x128x128, .f32⟩
  | .hbm, ⟨48, _⟩ => ⟨S1x128x128, .f32⟩
  | .hbm, ⟨49, _⟩ => ⟨S1x128x128, .f32⟩
  | .hbm, ⟨50, _⟩ => ⟨S3x128x128, .f32⟩
  | .hbm, ⟨51, _⟩ => ⟨S1x1x128x64, .f32⟩
  | .hbm, ⟨52, _⟩ => ⟨S128x64, .f32⟩
  | .hbm, ⟨53, _⟩ => ⟨S128x128, .f32⟩
  | .hbm, ⟨54, _⟩ => ⟨S1x1x128x64, .f32⟩
  | .hbm, ⟨55, _⟩ => ⟨S128x64, .f32⟩
  | .hbm, ⟨56, _⟩ => ⟨S1x1x128x64, .f32⟩
  | .hbm, ⟨57, _⟩ => ⟨S128x64, .f32⟩
  | .hbm, ⟨58, _⟩ => ⟨S128x128, .f32⟩
  | .hbm, ⟨59, _⟩ => ⟨S1x1x128x64, .f32⟩
  | .hbm, ⟨60, _⟩ => ⟨S128x64, .f32⟩
  | .hbm, ⟨61, _⟩ => ⟨S128x128, .f32⟩
  | .hbm, ⟨62, _⟩ => ⟨S1x128x128, .f32⟩
  | .hbm, ⟨63, _⟩ => ⟨S1x128x128, .f32⟩
  | .hbm, ⟨64, _⟩ => ⟨S1x128x128, .f32⟩
  | .hbm, ⟨65, _⟩ => ⟨S3x128x128, .f32⟩
  | .hbm, ⟨66, _⟩ => ⟨S1x3x128x128, .f32⟩
  | .hbm, ⟨67, _⟩ => ⟨S1x3x128x128, .f32⟩
  | .hbm, ⟨68, _⟩ => ⟨S1x3x128x128, .f32⟩
  | .hbm, ⟨69, _⟩ => ⟨S1x3x128x128, .f32⟩
  | .hbm, ⟨70, _⟩ => ⟨S4x3x128x128, .f32⟩
  | .hbm, ⟨71, _⟩ => ⟨S128, .f32⟩
  | .hbm, ⟨72, _⟩ => ⟨S8x2x114x114x128, .f32⟩
  | .local _ .vmem, ⟨0, _⟩ => ⟨S1x112x112x128, .f32⟩
  | .local _ .vmem, ⟨1, _⟩ => ⟨S1x112x112x128, .f32⟩
  | .local _ .vmem, ⟨2, _⟩ => ⟨S4x3x128x128, .f32⟩
  | .local _ .vmem, ⟨3, _⟩ => ⟨S128, .f32⟩
  | .local _ .vmem, ⟨4, _⟩ => ⟨S1x2x114x114x128, .f32⟩
  | .local _ .vmem, ⟨5, _⟩ => ⟨S1x2x114x114x128, .f32⟩
  | .local _ .vmem, ⟨6, _⟩ => ⟨S114x114x128, .f32⟩
  | _, _ => ⟨S8x112x112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x112x112x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x3x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2x114x114x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DeconvReferenceIdeal.lean ====
abbrev S8x112x112x128 : Shape := ⟨4, ![8, 112, 112, 128]⟩
abbrev S128x64x4x4 : Shape := ⟨4, ![128, 64, 4, 4]⟩
abbrev S64 : Shape := ⟨1, ![64]⟩
abbrev S_ : Shape := ⟨0, ![]⟩
abbrev S8x227x227x128 : Shape := ⟨4, ![8, 227, 227, 128]⟩
abbrev S64x128x4x4 : Shape := ⟨4, ![64, 128, 4, 4]⟩
abbrev S8x224x224x64 : Shape := ⟨4, ![8, 224, 224, 64]⟩
abbrev S8x224x224x128 : Shape := ⟨4, ![8, 224, 224, 128]⟩
abbrev S64x128x1x1 : Shape := ⟨4, ![64, 128, 1, 1]⟩
abbrev S64x128 : Shape := ⟨2, ![64, 128]⟩
abbrev S1x1x1x64 : Shape := ⟨4, ![1, 1, 1, 64]⟩
abbrev S8x228x228x64 : Shape := ⟨4, ![8, 228, 228, 64]⟩
abbrev S8x114x2x114x2x64 : Shape := ⟨6, ![8, 114, 2, 114, 2, 64]⟩
abbrev S8x2x114x114x2x64 : Shape := ⟨6, ![8, 2, 114, 114, 2, 64]⟩
abbrev S8x2x114x114x128 : Shape := ⟨5, ![8, 2, 114, 114, 128]⟩

abbrev nBuf : Space → Nat
  | .hbm => 101
  | .vmem => 0
  | .smem => 0
  | _ => 0

abbrev bufTy : (tb : Table) → Fin (tcTables nBuf tb) → BufTy
  | .hbm, ⟨0, _⟩ => ⟨S8x112x112x128, .f32⟩
  | .hbm, ⟨1, _⟩ => ⟨S128x64x4x4, .f32⟩
  | .hbm, ⟨2, _⟩ => ⟨S64, .f32⟩
  | .hbm, ⟨3, _⟩ => ⟨S_, .f32⟩
  | .hbm, ⟨4, _⟩ => ⟨S8x227x227x128, .f32⟩
  | .hbm, ⟨5, _⟩ => ⟨S128x64x4x4, .f32⟩
  | .hbm, ⟨6, _⟩ => ⟨S64x128x4x4, .f32⟩
  | .hbm, ⟨7, _⟩ => ⟨S_, .f32⟩
  | .hbm, ⟨8, _⟩ => ⟨S8x224x224x64, .f32⟩
  | .hbm, ⟨9, _⟩ => ⟨S8x224x224x128, .f32⟩
  | .hbm, ⟨10, _⟩ => ⟨S64x128x1x1, .f32⟩
  | .hbm, ⟨11, _⟩ => ⟨S64x128, .f32⟩
  | .hbm, ⟨12, _⟩ => ⟨S8x224x224x64, .f32⟩
  | .hbm, ⟨13, _⟩ => ⟨S8x224x224x64, .f32⟩
  | .hbm, ⟨14, _⟩ => ⟨S8x224x224x128, .f32⟩
  | .hbm, ⟨15, _⟩ => ⟨S64x128x1x1, .f32⟩
  | .hbm, ⟨16, _⟩ => ⟨S64x128, .f32⟩
  | .hbm, ⟨17, _⟩ => ⟨S8x224x224x64, .f32⟩
  | .hbm, ⟨18, _⟩ => ⟨S8x224x224x64, .f32⟩
  | .hbm, ⟨19, _⟩ => ⟨S8x224x224x128, .f32⟩
  | .hbm, ⟨20, _⟩ => ⟨S64x128x1x1, .f32⟩
  | .hbm, ⟨21, _⟩ => ⟨S64x128, .f32⟩
  | .hbm, ⟨22, _⟩ => ⟨S8x224x224x64, .f32⟩
  | .hbm, ⟨23, _⟩ => ⟨S8x224x224x64, .f32⟩
  | .hbm, ⟨24, _⟩ => ⟨S8x224x224x128, .f32⟩
  | .hbm, ⟨25, _⟩ => ⟨S64x128x1x1, .f32⟩
  | .hbm, ⟨26, _⟩ => ⟨S64x128, .f32⟩
  | .hbm, ⟨27, _⟩ => ⟨S8x224x224x64, .f32⟩
  | .hbm, ⟨28, _⟩ => ⟨S8x224x224x64, .f32⟩
  | .hbm, ⟨29, _⟩ => ⟨S8x224x224x128, .f32⟩
  | .hbm, ⟨30, _⟩ => ⟨S64x128x1x1, .f32⟩
  | .hbm, ⟨31, _⟩ => ⟨S64x128, .f32⟩
  | .hbm, ⟨32, _⟩ => ⟨S8x224x224x64, .f32⟩
  | .hbm, ⟨33, _⟩ => ⟨S8x224x224x64, .f32⟩
  | .hbm, ⟨34, _⟩ => ⟨S8x224x224x128, .f32⟩
  | .hbm, ⟨35, _⟩ => ⟨S64x128x1x1, .f32⟩
  | .hbm, ⟨36, _⟩ => ⟨S64x128, .f32⟩
  | .hbm, ⟨37, _⟩ => ⟨S8x224x224x64, .f32⟩
  | .hbm, ⟨38, _⟩ => ⟨S8x224x224x64, .f32⟩
  | .hbm, ⟨39, _⟩ => ⟨S8x224x224x128, .f32⟩
  | .hbm, ⟨40, _⟩ => ⟨S64x128x1x1, .f32⟩
  | .hbm, ⟨41, _⟩ => ⟨S64x128, .f32⟩
  | .hbm, ⟨42, _⟩ => ⟨S8x224x224x64, .f32⟩
  | .hbm, ⟨43, _⟩ => ⟨S8x224x224x64, .f32⟩
  | .hbm, ⟨44, _⟩ => ⟨S8x224x224x128, .f32⟩
  | .hbm, ⟨45, _⟩ => ⟨S64x128x1x1, .f32⟩
  | .hbm, ⟨46, _⟩ => ⟨S64x128, .f32⟩
  | .hbm, ⟨47, _⟩ => ⟨S8x224x224x64, .f32⟩
  | .hbm, ⟨48, _⟩ => ⟨S8x224x224x64, .f32⟩
  | .hbm, ⟨49, _⟩ => ⟨S8x224x224x128, .f32⟩
  | .hbm, ⟨50, _⟩ => ⟨S64x128x1x1, .f32⟩
  | .hbm, ⟨51, _⟩ => ⟨S64x128, .f32⟩
  | .hbm, ⟨52, _⟩ => ⟨S8x224x224x64, .f32⟩
  | .hbm, ⟨53, _⟩ => ⟨S8x224x224x64, .f32⟩
  | .hbm, ⟨54, _⟩ => ⟨S8x224x224x128, .f32⟩
  | .hbm, ⟨55, _⟩ => ⟨S64x128x1x1, .f32⟩
  | .hbm, ⟨56, _⟩ => ⟨S64x128, .f32⟩
  | .hbm, ⟨57, _⟩ => ⟨S8x224x224x64, .f32⟩
  | .hbm, ⟨58, _⟩ => ⟨S8x224x224x64, .f32⟩
  | .hbm, ⟨59, _⟩ => ⟨S8x224x224x128, .f32⟩
  | .hbm, ⟨60, _⟩ => ⟨S64x128x1x1, .f32⟩
  | .hbm, ⟨61, _⟩ => ⟨S64x128, .f32⟩
  | .hbm, ⟨62, _⟩ => ⟨S8x224x224x64, .f32⟩
  | .hbm, ⟨63, _⟩ => ⟨S8x224x224x64, .f32⟩
  | .hbm, ⟨64, _⟩ => ⟨S8x224x224x128, .f32⟩
  | .hbm, ⟨65, _⟩ => ⟨S64x128x1x1, .f32⟩
  | .hbm, ⟨66, _⟩ => ⟨S64x128, .f32⟩
  | .hbm, ⟨67, _⟩ => ⟨S8x224x224x64, .f32⟩
  | .hbm, ⟨68, _⟩ => ⟨S8x224x224x64, .f32⟩
  | .hbm, ⟨69, _⟩ => ⟨S8x224x224x128, .f32⟩
  | .hbm, ⟨70, _⟩ => ⟨S64x128x1x1, .f32⟩
  | .hbm, ⟨71, _⟩ => ⟨S64x128, .f32⟩
  | .hbm, ⟨72, _⟩ => ⟨S8x224x224x64, .f32⟩
  | .hbm, ⟨73, _⟩ => ⟨S8x224x224x64, .f32⟩
  | .hbm, ⟨74, _⟩ => ⟨S8x224x224x128, .f32⟩
  | .hbm, ⟨75, _⟩ => ⟨S64x128x1x1, .f32⟩
  | .hbm, ⟨76, _⟩ => ⟨S64x128, .f32⟩
  | .hbm, ⟨77, _⟩ => ⟨S8x224x224x64, .f32⟩
  | .hbm, ⟨78, _⟩ => ⟨S8x224x224x64, .f32⟩
  | .hbm, ⟨79, _⟩ => ⟨S8x224x224x128, .f32⟩
  | .hbm, ⟨80, _⟩ => ⟨S64x128x1x1, .f32⟩
  | .hbm, ⟨81, _⟩ => ⟨S64x128, .f32⟩
  | .hbm, ⟨82, _⟩ => ⟨S8x224x224x64, .f32⟩
  | .hbm, ⟨83, _⟩ => ⟨S8x224x224x64, .f32⟩
  | .hbm, ⟨84, _⟩ => ⟨S8x224x224x128, .f32⟩
  | .hbm, ⟨85, _⟩ => ⟨S64x128x1x1, .f32⟩
  | .hbm, ⟨86, _⟩ => ⟨S64x128, .f32⟩
  | .hbm, ⟨87, _⟩ => ⟨S8x224x224x64, .f32⟩
  | .hbm, ⟨88, _⟩ => ⟨S8x224x224x64, .f32⟩
  | .hbm, ⟨89, _⟩ => ⟨S1x1x1x64, .f32⟩
  | .hbm, ⟨90, _⟩ => ⟨S8x224x224x64, .f32⟩
  | .hbm, ⟨91, _⟩ => ⟨S8x224x224x64, .f32⟩
  | .hbm, ⟨92, _⟩ => ⟨S_, .f32⟩
  | .hbm, ⟨93, _⟩ => ⟨S8x224x224x64, .f32⟩
  | .hbm, ⟨94, _⟩ => ⟨S8x224x224x64, .f32⟩
  | .hbm, ⟨95, _⟩ => ⟨S_, .i32⟩
  | .hbm, ⟨96, _⟩ => ⟨S_, .f32⟩
  | .hbm, ⟨97, _⟩ => ⟨S8x228x228x64, .f32⟩
  | .hbm, ⟨98, _⟩ => ⟨S8x114x2x114x2x64, .f32⟩
  | .hbm, ⟨99, _⟩ => ⟨S8x2x114x114x2x64, .f32⟩
  | .hbm, ⟨100, _⟩ => ⟨S8x2x114x114x128, .f32⟩
  | _, _ => ⟨S8x112x112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_cst_1 : Ref sig .tc := ⟨.hbm, 92, rfl⟩
abbrev main_v87 : Ref sig .tc := ⟨.hbm, 93, rfl⟩
abbrev main_v88 : Ref sig .tc := ⟨.hbm, 94, rfl⟩
abbrev main_c : Ref sig .tc := ⟨.hbm, 95, rfl⟩
abbrev main_call1_v0 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩

abbrev nD : Nat := 1
abbrev τ : Topo := Topo.v7x

variable {F : FTy → Type} [FloatOps F]
-- ==== Deconv1.lean ====
abbrev S8x56x56x128 : Shape := ⟨4, ![8, 56, 56, 128]⟩
abbrev S128x128x4x4 : Shape := ⟨4, ![128, 128, 4, 4]⟩
abbrev S128 : Shape := ⟨1, ![128]⟩
abbrev S4x4x128x128 : Shape := ⟨4, ![4, 4, 128, 128]⟩
abbrev S8x112x112x128 : Shape := ⟨4, ![8, 112, 112, 128]⟩
abbrev S1x56x56x128 : Shape := ⟨4, ![1, 56, 56, 128]⟩
abbrev S1x112x112x128 : Shape := ⟨4, ![1, 112, 112, 128]⟩
abbrev S58x58x128 : Shape := ⟨3, ![58, 58, 128]⟩
abbrev S56x56x128 : Shape := ⟨3, ![56, 56, 128]⟩
abbrev S1568x128 : Shape := ⟨2, ![1568, 128]⟩
abbrev S28x56x128 : Shape := ⟨3, ![28, 56, 128]⟩
abbrev S1x1x128x128 : Shape := ⟨4, ![1, 1, 128, 128]⟩
abbrev S128x128 : Shape := ⟨2, ![128, 128]⟩
abbrev S1x128 : Shape := ⟨2, ![1, 128]⟩
abbrev S1x28x56x128 : Shape := ⟨4, ![1, 28, 56, 128]⟩

abbrev nBuf : Space → Nat
  | .hbm => 5
  | .vmem => 7
  | .smem => 0
  | _ => 0

abbrev bufTy : (tb : Table) → Fin (tcTables nBuf tb) → BufTy
  | .hbm, ⟨0, _⟩ => ⟨S8x56x56x128, .f32⟩
  | .hbm, ⟨1, _⟩ => ⟨S128x128x4x4, .f32⟩
  | .hbm, ⟨2, _⟩ => ⟨S128, .f32⟩
  | .hbm, ⟨3, _⟩ => ⟨S4x4x128x128, .f32⟩
  | .hbm, ⟨4, _⟩ => ⟨S8x112x112x128, .f32⟩
  | .local _ .vmem, ⟨0, _⟩ => ⟨S1x56x56x128, .f32⟩
  | .local _ .vmem, ⟨1, _⟩ => ⟨S1x56x56x128, .f32⟩
  | .local _ .vmem, ⟨2, _⟩ => ⟨S4x4x128x128, .f32⟩
  | .local _ .vmem, ⟨3, _⟩ => ⟨S128, .f32⟩
  | .local _ .vmem, ⟨4, _⟩ => ⟨S1x112x112x128, .f32⟩
  | .local _ .vmem, ⟨5, _⟩ => ⟨S1x112x112x128, .f32⟩
  | .local _ .vmem, ⟨6, _⟩ => ⟨S58x58x128, .f32⟩
  | _, _ => ⟨S8x56x56x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x56x56x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x112x112x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Deconv1ReferenceIdeal.lean ====
abbrev S8x56x56x128 : Shape := ⟨4, ![8, 56, 56, 128]⟩
abbrev S128x128x4x4 : Shape := ⟨4, ![128, 128, 4, 4]⟩
abbrev S128 : Shape := ⟨1, ![128]⟩
abbrev S_ : Shape := ⟨0, ![]⟩
abbrev S8x115x115x128 : Shape := ⟨4, ![8, 115, 115, 128]⟩
abbrev S8x112x112x128 : Shape := ⟨4, ![8, 112, 112, 128]⟩
abbrev S128x128x1x1 : Shape := ⟨4, ![128, 128, 1, 1]⟩
abbrev S128x128 : Shape := ⟨2, ![128, 128]⟩
abbrev S1x1x1x128 : Shape := ⟨4, ![1, 1, 1, 128]⟩

abbrev nBuf : Space → Nat
  | .hbm => 95
  | .vmem => 0
  | .smem => 0
  | _ => 0

abbrev bufTy : (tb : Table) → Fin (tcTables nBuf tb) → BufTy
  | .hbm, ⟨0, _⟩ => ⟨S8x56x56x128, .f32⟩
  | .hbm, ⟨1, _⟩ => ⟨S128x128x4x4, .f32⟩
  | .hbm, ⟨2, _⟩ => ⟨S128, .f32⟩
  | .hbm, ⟨3, _⟩ => ⟨S_, .f32⟩
  | .hbm, ⟨4, _⟩ => ⟨S8x115x115x128, .f32⟩
  | .hbm, ⟨5, _⟩ => ⟨S128x128x4x4, .f32⟩
  | .hbm, ⟨6, _⟩ => ⟨S128x128x4x4, .f32⟩
  | .hbm, ⟨7, _⟩ => ⟨S_, .f32⟩
  | .hbm, ⟨8, _⟩ => ⟨S8x112x112x128, .f32⟩
  | .hbm, ⟨9, _⟩ => ⟨S8x112x112x128, .f32⟩
  | .hbm, ⟨10, _⟩ => ⟨S128x128x1x1, .f32⟩
  | .hbm, ⟨11, _⟩ => ⟨S128x128, .f32⟩
  | .hbm, ⟨12, _⟩ => ⟨S8x112x112x128, .f32⟩
  | .hbm, ⟨13, _⟩ => ⟨S8x112x112x128, .f32⟩
  | .hbm, ⟨14, _⟩ => ⟨S8x112x112x128, .f32⟩
  | .hbm, ⟨15, _⟩ => ⟨S128x128x1x1, .f32⟩
  | .hbm, ⟨16, _⟩ => ⟨S128x128, .f32⟩
  | .hbm, ⟨17, _⟩ => ⟨S8x112x112x128, .f32⟩
  | .hbm, ⟨18, _⟩ => ⟨S8x112x112x128, .f32⟩
  | .hbm, ⟨19, _⟩ => ⟨S8x112x112x128, .f32⟩
  | .hbm, ⟨20, _⟩ => ⟨S128x128x1x1, .f32⟩
  | .hbm, ⟨21, _⟩ => ⟨S128x128, .f32⟩
  | .hbm, ⟨22, _⟩ => ⟨S8x112x112x128, .f32⟩
  | .hbm, ⟨23, _⟩ => ⟨S8x112x112x128, .f32⟩
  | .hbm, ⟨24, _⟩ => ⟨S8x112x112x128, .f32⟩
  | .hbm, ⟨25, _⟩ => ⟨S128x128x1x1, .f32⟩
  | .hbm, ⟨26, _⟩ => ⟨S128x128, .f32⟩
  | .hbm, ⟨27, _⟩ => ⟨S8x112x112x128, .f32⟩
  | .hbm, ⟨28, _⟩ => ⟨S8x112x112x128, .f32⟩
  | .hbm, ⟨29, _⟩ => ⟨S8x112x112x128, .f32⟩
  | .hbm, ⟨30, _⟩ => ⟨S128x128x1x1, .f32⟩
  | .hbm, ⟨31, _⟩ => ⟨S128x128, .f32⟩
  | .hbm, ⟨32, _⟩ => ⟨S8x112x112x128, .f32⟩
  | .hbm, ⟨33, _⟩ => ⟨S8x112x112x128, .f32⟩
  | .hbm, ⟨34, _⟩ => ⟨S8x112x112x128, .f32⟩
  | .hbm, ⟨35, _⟩ => ⟨S128x128x1x1, .f32⟩
  | .hbm, ⟨36, _⟩ => ⟨S128x128, .f32⟩
  | .hbm, ⟨37, _⟩ => ⟨S8x112x112x128, .f32⟩
  | .hbm, ⟨38, _⟩ => ⟨S8x112x112x128, .f32⟩
  | .hbm, ⟨39, _⟩ => ⟨S8x112x112x128, .f32⟩
  | .hbm, ⟨40, _⟩ => ⟨S128x128x1x1, .f32⟩
  | .hbm, ⟨41, _⟩ => ⟨S128x128, .f32⟩
  | .hbm, ⟨42, _⟩ => ⟨S8x112x112x128, .f32⟩
  | .hbm, ⟨43, _⟩ => ⟨S8x112x112x128, .f32⟩
  | .hbm, ⟨44, _⟩ => ⟨S8x112x112x128, .f32⟩
  | .hbm, ⟨45, _⟩ => ⟨S128x128x1x1, .f32⟩
  | .hbm, ⟨46, _⟩ => ⟨S128x128, .f32⟩
  | .hbm, ⟨47, _⟩ => ⟨S8x112x112x128, .f32⟩
  | .hbm, ⟨48, _⟩ => ⟨S8x112x112x128, .f32⟩
  | .hbm, ⟨49, _⟩ => ⟨S8x112x112x128, .f32⟩
  | .hbm, ⟨50, _⟩ => ⟨S128x128x1x1, .f32⟩
  | .hbm, ⟨51, _⟩ => ⟨S128x128, .f32⟩
  | .hbm, ⟨52, _⟩ => ⟨S8x112x112x128, .f32⟩
  | .hbm, ⟨53, _⟩ => ⟨S8x112x112x128, .f32⟩
  | .hbm, ⟨54, _⟩ => ⟨S8x112x112x128, .f32⟩
  | .hbm, ⟨55, _⟩ => ⟨S128x128x1x1, .f32⟩
  | .hbm, ⟨56, _⟩ => ⟨S128x128, .f32⟩
  | .hbm, ⟨57, _⟩ => ⟨S8x112x112x128, .f32⟩
  | .hbm, ⟨58, _⟩ => ⟨S8x112x112x128, .f32⟩
  | .hbm, ⟨59, _⟩ => ⟨S8x112x112x128, .f32⟩
  | .hbm, ⟨60, _⟩ => ⟨S128x128x1x1, .f32⟩
  | .hbm, ⟨61, _⟩ => ⟨S128x128, .f32⟩
  | .hbm, ⟨62, _⟩ => ⟨S8x112x112x128, .f32⟩
  | .hbm, ⟨63, _⟩ => ⟨S8x112x112x128, .f32⟩
  | .hbm, ⟨64, _⟩ => ⟨S8x112x112x128, .f32⟩
  | .hbm, ⟨65, _⟩ => ⟨S128x128x1x1, .f32⟩
  | .hbm, ⟨66, _⟩ => ⟨S128x128, .f32⟩
  | .hbm, ⟨67, _⟩ => ⟨S8x112x112x128, .f32⟩
  | .hbm, ⟨68, _⟩ => ⟨S8x112x112x128, .f32⟩
  | .hbm, ⟨69, _⟩ => ⟨S8x112x112x128, .f32⟩
  | .hbm, ⟨70, _⟩ => ⟨S128x128x1x1, .f32⟩
  | .hbm, ⟨71, _⟩ => ⟨S128x128, .f32⟩
  | .hbm, ⟨72, _⟩ => ⟨S8x112x112x128, .f32⟩
  | .hbm, ⟨73, _⟩ => ⟨S8x112x112x128, .f32⟩
  | .hbm, ⟨74, _⟩ => ⟨S8x112x112x128, .f32⟩
  | .hbm, ⟨75, _⟩ => ⟨S128x128x1x1, .f32⟩
  | .hbm, ⟨76, _⟩ => ⟨S128x128, .f32⟩
  | .hbm, ⟨77, _⟩ => ⟨S8x112x112x128, .f32⟩
  | .hbm, ⟨78, _⟩ => ⟨S8x112x112x128, .f32⟩
  | .hbm, ⟨79, _⟩ => ⟨S8x112x112x128, .f32⟩
  | .hbm, ⟨80, _⟩ => ⟨S128x128x1x1, .f32⟩
  | .hbm, ⟨81, _⟩ => ⟨S128x128, .f32⟩
  | .hbm, ⟨82, _⟩ => ⟨S8x112x112x128, .f32⟩
  | .hbm, ⟨83, _⟩ => ⟨S8x112x112x128, .f32⟩
  | .hbm, ⟨84, _⟩ => ⟨S8x112x112x128, .f32⟩
  | .hbm, ⟨85, _⟩ => ⟨S128x128x1x1, .f32⟩
  | .hbm, ⟨86, _⟩ => ⟨S128x128, .f32⟩
  | .hbm, ⟨87, _⟩ => ⟨S8x112x112x128, .f32⟩
  | .hbm, ⟨88, _⟩ => ⟨S8x112x112x128, .f32⟩
  | .hbm, ⟨89, _⟩ => ⟨S1x1x1x128, .f32⟩
  | .hbm, ⟨90, _⟩ => ⟨S8x112x112x128, .f32⟩
  | .hbm, ⟨91, _⟩ => ⟨S8x112x112x128, .f32⟩
  | .hbm, ⟨92, _⟩ => ⟨S_, .f32⟩
  | .hbm, ⟨93, _⟩ => ⟨S8x112x112x128, .f32⟩
  | .hbm, ⟨94, _⟩ => ⟨S8x112x112x128, .f32⟩
  | _, _ => ⟨S8x56x56x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_cst_1 : Ref sig .tc := ⟨.hbm, 92, rfl⟩
abbrev main_v87 : Ref sig .tc := ⟨.hbm, 93, rfl⟩
abbrev main_v88 : Ref sig .tc := ⟨.hbm, 94, rfl⟩

abbrev nD : Nat := 1
abbrev τ : Topo := Topo.v7x

variable {F : FTy → Type} [FloatOps F]
-- ==== Conv1.lean ====
abbrev S8x3x224x224 : Shape := ⟨4, ![8, 3, 224, 224]⟩
abbrev S64x3x4x4 : Shape := ⟨4, ![64, 3, 4, 4]⟩
abbrev S64 : Shape := ⟨1, ![64]⟩
abbrev S8x224x224x3 : Shape := ⟨4, ![8, 224, 224, 3]⟩
abbrev S_ : Shape := ⟨0, ![]⟩
abbrev S8x226x226x3 : Shape := ⟨4, ![8, 226, 226, 3]⟩
abbrev S8x113x2x113x2x3 : Shape := ⟨6, ![8, 113, 2, 113, 2, 3]⟩
abbrev S2x2x8x113x113x3 : Shape := ⟨6, ![2, 2, 8, 113, 113, 3]⟩
abbrev S8x113x113x2x2x3 : Shape := ⟨6, ![8, 113, 113, 2, 2, 3]⟩
abbrev S8x113x113x12 : Shape := ⟨4, ![8, 113, 113, 12]⟩
abbrev S4x4x3x64 : Shape := ⟨4, ![4, 4, 3, 64]⟩
abbrev S2x2x2x2x3x64 : Shape := ⟨6, ![2, 2, 2, 2, 3, 64]⟩
abbrev S2x2x12x64 : Shape := ⟨4, ![2, 2, 12, 64]⟩
abbrev S8x112x112x64 : Shape := ⟨4, ![8, 112, 112, 64]⟩
abbrev S1x113x113x12 : Shape := ⟨4, ![1, 113, 113, 12]⟩
abbrev S1x112x112x64 : Shape := ⟨4, ![1, 112, 112, 64]⟩
abbrev S1x16x112x12 : Shape := ⟨4, ![1, 16, 112, 12]⟩
abbrev S16x112x12 : Shape := ⟨3, ![16, 112, 12]⟩
abbrev S1792x12 : Shape := ⟨2, ![1792, 12]⟩
abbrev S1x1x12x64 : Shape := ⟨4, ![1, 1, 12, 64]⟩
abbrev S12x64 : Shape := ⟨2, ![12, 64]⟩
abbrev S1792x64 : Shape := ⟨2, ![1792, 64]⟩
abbrev S1x64 : Shape := ⟨2, ![1, 64]⟩
abbrev S16x112x64 : Shape := ⟨3, ![16, 112, 64]⟩
abbrev S1x16x112x64 : Shape := ⟨4, ![1, 16, 112, 64]⟩

abbrev nBuf : Space → Nat
  | .hbm => 16
  | .vmem => 6
  | .smem => 0
  | _ => 0

abbrev bufTy : (tb : Table) → Fin (tcTables nBuf tb) → BufTy
  | .hbm, ⟨0, _⟩ => ⟨S8x3x224x224, .f32⟩
  | .hbm, ⟨1, _⟩ => ⟨S64x3x4x4, .f32⟩
  | .hbm, ⟨2, _⟩ => ⟨S64, .f32⟩
  | .hbm, ⟨3, _⟩ => ⟨S8x224x224x3, .f32⟩
  | .hbm, ⟨4, _⟩ => ⟨S_, .i32⟩
  | .hbm, ⟨5, _⟩ => ⟨S_, .f32⟩
  | .hbm, ⟨6, _⟩ => ⟨S8x226x226x3, .f32⟩
  | .hbm, ⟨7, _⟩ => ⟨S8x113x2x113x2x3, .f32⟩
  | .hbm, ⟨8, _⟩ => ⟨S2x2x8x113x113x3, .f32⟩
  | .hbm, ⟨9, _⟩ => ⟨S8x113x113x2x2x3, .f32⟩
  | .hbm, ⟨10, _⟩ => ⟨S8x113x113x12, .f32⟩
  | .hbm, ⟨11, _⟩ => ⟨S4x4x3x64, .f32⟩
  | .hbm, ⟨12, _⟩ => ⟨S2x2x2x2x3x64, .f32⟩
  | .hbm, ⟨13, _⟩ => ⟨S2x2x2x2x3x64, .f32⟩
  | .hbm, ⟨14, _⟩ => ⟨S2x2x12x64, .f32⟩
  | .hbm, ⟨15, _⟩ => ⟨S8x112x112x64, .f32⟩
  | .local _ .vmem, ⟨0, _⟩ => ⟨S1x113x113x12, .f32⟩
  | .local _ .vmem, ⟨1, _⟩ => ⟨S1x113x113x12, .f32⟩
  | .local _ .vmem, ⟨2, _⟩ => ⟨S2x2x12x64, .f32⟩
  | .local _ .vmem, ⟨3, _⟩ => ⟨S64, .f32⟩
  | .local _ .vmem, ⟨4, _⟩ => ⟨S1x112x112x64, .f32⟩
  | .local _ .vmem, ⟨5, _⟩ => ⟨S1x112x112x64, .f32⟩
  | _, _ => ⟨S8x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x113x113x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2x12x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x112x112x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Conv1ReferenceIdeal.lean ====
abbrev S8x3x224x224 : Shape := ⟨4, ![8, 3, 224, 224]⟩
abbrev S64x3x4x4 : Shape := ⟨4, ![64, 3, 4, 4]⟩
abbrev S64 : Shape := ⟨1, ![64]⟩
abbrev S8x224x224x3 : Shape := ⟨4, ![8, 224, 224, 3]⟩
abbrev S_ : Shape := ⟨0, ![]⟩
abbrev S8x226x226x3 : Shape := ⟨4, ![8, 226, 226, 3]⟩
abbrev S8x112x112x64 : Shape := ⟨4, ![8, 112, 112, 64]⟩
abbrev S8x112x112x3 : Shape := ⟨4, ![8, 112, 112, 3]⟩
abbrev S64x3x1x1 : Shape := ⟨4, ![64, 3, 1, 1]⟩
abbrev S64x3 : Shape := ⟨2, ![64, 3]⟩
abbrev S1x1x1x64 : Shape := ⟨4, ![1, 1, 1, 64]⟩

abbrev nBuf : Space → Nat
  | .hbm => 95
  | .vmem => 0
  | .smem => 0
  | _ => 0

abbrev bufTy : (tb : Table) → Fin (tcTables nBuf tb) → BufTy
  | .hbm, ⟨0, _⟩ => ⟨S8x3x224x224, .f32⟩
  | .hbm, ⟨1, _⟩ => ⟨S64x3x4x4, .f32⟩
  | .hbm, ⟨2, _⟩ => ⟨S64, .f32⟩
  | .hbm, ⟨3, _⟩ => ⟨S8x224x224x3, .f32⟩
  | .hbm, ⟨4, _⟩ => ⟨S_, .i32⟩
  | .hbm, ⟨5, _⟩ => ⟨S_, .f32⟩
  | .hbm, ⟨6, _⟩ => ⟨S8x226x226x3, .f32⟩
  | .hbm, ⟨7, _⟩ => ⟨S_, .f32⟩
  | .hbm, ⟨8, _⟩ => ⟨S8x112x112x64, .f32⟩
  | .hbm, ⟨9, _⟩ => ⟨S8x112x112x3, .f32⟩
  | .hbm, ⟨10, _⟩ => ⟨S64x3x1x1, .f32⟩
  | .hbm, ⟨11, _⟩ => ⟨S64x3, .f32⟩
  | .hbm, ⟨12, _⟩ => ⟨S8x112x112x64, .f32⟩
  | .hbm, ⟨13, _⟩ => ⟨S8x112x112x64, .f32⟩
  | .hbm, ⟨14, _⟩ => ⟨S8x112x112x3, .f32⟩
  | .hbm, ⟨15, _⟩ => ⟨S64x3x1x1, .f32⟩
  | .hbm, ⟨16, _⟩ => ⟨S64x3, .f32⟩
  | .hbm, ⟨17, _⟩ => ⟨S8x112x112x64, .f32⟩
  | .hbm, ⟨18, _⟩ => ⟨S8x112x112x64, .f32⟩
  | .hbm, ⟨19, _⟩ => ⟨S8x112x112x3, .f32⟩
  | .hbm, ⟨20, _⟩ => ⟨S64x3x1x1, .f32⟩
  | .hbm, ⟨21, _⟩ => ⟨S64x3, .f32⟩
  | .hbm, ⟨22, _⟩ => ⟨S8x112x112x64, .f32⟩
  | .hbm, ⟨23, _⟩ => ⟨S8x112x112x64, .f32⟩
  | .hbm, ⟨24, _⟩ => ⟨S8x112x112x3, .f32⟩
  | .hbm, ⟨25, _⟩ => ⟨S64x3x1x1, .f32⟩
  | .hbm, ⟨26, _⟩ => ⟨S64x3, .f32⟩
  | .hbm, ⟨27, _⟩ => ⟨S8x112x112x64, .f32⟩
  | .hbm, ⟨28, _⟩ => ⟨S8x112x112x64, .f32⟩
  | .hbm, ⟨29, _⟩ => ⟨S8x112x112x3, .f32⟩
  | .hbm, ⟨30, _⟩ => ⟨S64x3x1x1, .f32⟩
  | .hbm, ⟨31, _⟩ => ⟨S64x3, .f32⟩
  | .hbm, ⟨32, _⟩ => ⟨S8x112x112x64, .f32⟩
  | .hbm, ⟨33, _⟩ => ⟨S8x112x112x64, .f32⟩
  | .hbm, ⟨34, _⟩ => ⟨S8x112x112x3, .f32⟩
  | .hbm, ⟨35, _⟩ => ⟨S64x3x1x1, .f32⟩
  | .hbm, ⟨36, _⟩ => ⟨S64x3, .f32⟩
  | .hbm, ⟨37, _⟩ => ⟨S8x112x112x64, .f32⟩
  | .hbm, ⟨38, _⟩ => ⟨S8x112x112x64, .f32⟩
  | .hbm, ⟨39, _⟩ => ⟨S8x112x112x3, .f32⟩
  | .hbm, ⟨40, _⟩ => ⟨S64x3x1x1, .f32⟩
  | .hbm, ⟨41, _⟩ => ⟨S64x3, .f32⟩
  | .hbm, ⟨42, _⟩ => ⟨S8x112x112x64, .f32⟩
  | .hbm, ⟨43, _⟩ => ⟨S8x112x112x64, .f32⟩
  | .hbm, ⟨44, _⟩ => ⟨S8x112x112x3, .f32⟩
  | .hbm, ⟨45, _⟩ => ⟨S64x3x1x1, .f32⟩
  | .hbm, ⟨46, _⟩ => ⟨S64x3, .f32⟩
  | .hbm, ⟨47, _⟩ => ⟨S8x112x112x64, .f32⟩
  | .hbm, ⟨48, _⟩ => ⟨S8x112x112x64, .f32⟩
  | .hbm, ⟨49, _⟩ => ⟨S8x112x112x3, .f32⟩
  | .hbm, ⟨50, _⟩ => ⟨S64x3x1x1, .f32⟩
  | .hbm, ⟨51, _⟩ => ⟨S64x3, .f32⟩
  | .hbm, ⟨52, _⟩ => ⟨S8x112x112x64, .f32⟩
  | .hbm, ⟨53, _⟩ => ⟨S8x112x112x64, .f32⟩
  | .hbm, ⟨54, _⟩ => ⟨S8x112x112x3, .f32⟩
  | .hbm, ⟨55, _⟩ => ⟨S64x3x1x1, .f32⟩
  | .hbm, ⟨56, _⟩ => ⟨S64x3, .f32⟩
  | .hbm, ⟨57, _⟩ => ⟨S8x112x112x64, .f32⟩
  | .hbm, ⟨58, _⟩ => ⟨S8x112x112x64, .f32⟩
  | .hbm, ⟨59, _⟩ => ⟨S8x112x112x3, .f32⟩
  | .hbm, ⟨60, _⟩ => ⟨S64x3x1x1, .f32⟩
  | .hbm, ⟨61, _⟩ => ⟨S64x3, .f32⟩
  | .hbm, ⟨62, _⟩ => ⟨S8x112x112x64, .f32⟩
  | .hbm, ⟨63, _⟩ => ⟨S8x112x112x64, .f32⟩
  | .hbm, ⟨64, _⟩ => ⟨S8x112x112x3, .f32⟩
  | .hbm, ⟨65, _⟩ => ⟨S64x3x1x1, .f32⟩
  | .hbm, ⟨66, _⟩ => ⟨S64x3, .f32⟩
  | .hbm, ⟨67, _⟩ => ⟨S8x112x112x64, .f32⟩
  | .hbm, ⟨68, _⟩ => ⟨S8x112x112x64, .f32⟩
  | .hbm, ⟨69, _⟩ => ⟨S8x112x112x3, .f32⟩
  | .hbm, ⟨70, _⟩ => ⟨S64x3x1x1, .f32⟩
  | .hbm, ⟨71, _⟩ => ⟨S64x3, .f32⟩
  | .hbm, ⟨72, _⟩ => ⟨S8x112x112x64, .f32⟩
  | .hbm, ⟨73, _⟩ => ⟨S8x112x112x64, .f32⟩
  | .hbm, ⟨74, _⟩ => ⟨S8x112x112x3, .f32⟩
  | .hbm, ⟨75, _⟩ => ⟨S64x3x1x1, .f32⟩
  | .hbm, ⟨76, _⟩ => ⟨S64x3, .f32⟩
  | .hbm, ⟨77, _⟩ => ⟨S8x112x112x64, .f32⟩
  | .hbm, ⟨78, _⟩ => ⟨S8x112x112x64, .f32⟩
  | .hbm, ⟨79, _⟩ => ⟨S8x112x112x3, .f32⟩
  | .hbm, ⟨80, _⟩ => ⟨S64x3x1x1, .f32⟩
  | .hbm, ⟨81, _⟩ => ⟨S64x3, .f32⟩
  | .hbm, ⟨82, _⟩ => ⟨S8x112x112x64, .f32⟩
  | .hbm, ⟨83, _⟩ => ⟨S8x112x112x64, .f32⟩
  | .hbm, ⟨84, _⟩ => ⟨S8x112x112x3, .f32⟩
  | .hbm, ⟨85, _⟩ => ⟨S64x3x1x1, .f32⟩
  | .hbm, ⟨86, _⟩ => ⟨S64x3, .f32⟩
  | .hbm, ⟨87, _⟩ => ⟨S8x112x112x64, .f32⟩
  | .hbm, ⟨88, _⟩ => ⟨S8x112x112x64, .f32⟩
  | .hbm, ⟨89, _⟩ => ⟨S1x1x1x64, .f32⟩
  | .hbm, ⟨90, _⟩ => ⟨S8x112x112x64, .f32⟩
  | .hbm, ⟨91, _⟩ => ⟨S8x112x112x64, .f32⟩
  | .hbm, ⟨92, _⟩ => ⟨S_, .f32⟩
  | .hbm, ⟨93, _⟩ => ⟨S8x112x112x64, .f32⟩
  | .hbm, ⟨94, _⟩ => ⟨S8x112x112x64, .f32⟩
  | _, _ => ⟨S8x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_cst_0 : Ref sig .tc := ⟨.hbm, 92, rfl⟩
abbrev main_v86 : Ref sig .tc := ⟨.hbm, 93, rfl⟩
abbrev main_v87 : Ref sig .tc := ⟨.hbm, 94, rfl⟩

abbrev nD : Nat := 1
abbrev τ : Topo := Topo.v7x

variable {F : FTy → Type} [FloatOps F]
-- ==== Conv2.lean ====
abbrev S8x112x112x64 : Shape := ⟨4, ![8, 112, 112, 64]⟩
abbrev S128x64x4x4 : Shape := ⟨4, ![128, 64, 4, 4]⟩
abbrev S128 : Shape := ⟨1, ![128]⟩
abbrev S_ : Shape := ⟨0, ![]⟩
abbrev S8x114x114x64 : Shape := ⟨4, ![8, 114, 114, 64]⟩
abbrev S8x57x2x57x2x64 : Shape := ⟨6, ![8, 57, 2, 57, 2, 64]⟩
abbrev S8x2x57x57x2x64 : Shape := ⟨6, ![8, 2, 57, 57, 2, 64]⟩
abbrev S8x2x57x57x128 : Shape := ⟨5, ![8, 2, 57, 57, 128]⟩
abbrev S4x4x64x128 : Shape := ⟨4, ![4, 4, 64, 128]⟩
abbrev S2x2x2x2x64x128 : Shape := ⟨6, ![2, 2, 2, 2, 64, 128]⟩
abbrev S2x2x2x128x128 : Shape := ⟨5, ![2, 2, 2, 128, 128]⟩
abbrev S8x56x56x128 : Shape := ⟨4, ![8, 56, 56, 128]⟩
abbrev S1x2x57x57x128 : Shape := ⟨5, ![1, 2, 57, 57, 128]⟩
abbrev S1x56x56x128 : Shape := ⟨4, ![1, 56, 56, 128]⟩
abbrev S1x1x28x56x128 : Shape := ⟨5, ![1, 1, 28, 56, 128]⟩
abbrev S28x56x128 : Shape := ⟨3, ![28, 56, 128]⟩
abbrev S1568x128 : Shape := ⟨2, ![1568, 128]⟩
abbrev S1x1x1x128x128 : Shape := ⟨5, ![1, 1, 1, 128, 128]⟩
abbrev S128x128 : Shape := ⟨2, ![128, 128]⟩
abbrev S1x128 : Shape := ⟨2, ![1, 128]⟩
abbrev S1x28x56x128 : Shape := ⟨4, ![1, 28, 56, 128]⟩

abbrev nBuf : Space → Nat
  | .hbm => 14
  | .vmem => 6
  | .smem => 0
  | _ => 0

abbrev bufTy : (tb : Table) → Fin (tcTables nBuf tb) → BufTy
  | .hbm, ⟨0, _⟩ => ⟨S8x112x112x64, .f32⟩
  | .hbm, ⟨1, _⟩ => ⟨S128x64x4x4, .f32⟩
  | .hbm, ⟨2, _⟩ => ⟨S128, .f32⟩
  | .hbm, ⟨3, _⟩ => ⟨S_, .i32⟩
  | .hbm, ⟨4, _⟩ => ⟨S_, .f32⟩
  | .hbm, ⟨5, _⟩ => ⟨S8x114x114x64, .f32⟩
  | .hbm, ⟨6, _⟩ => ⟨S8x57x2x57x2x64, .f32⟩
  | .hbm, ⟨7, _⟩ => ⟨S8x2x57x57x2x64, .f32⟩
  | .hbm, ⟨8, _⟩ => ⟨S8x2x57x57x128, .f32⟩
  | .hbm, ⟨9, _⟩ => ⟨S4x4x64x128, .f32⟩
  | .hbm, ⟨10, _⟩ => ⟨S2x2x2x2x64x128, .f32⟩
  | .hbm, ⟨11, _⟩ => ⟨S2x2x2x2x64x128, .f32⟩
  | .hbm, ⟨12, _⟩ => ⟨S2x2x2x128x128, .f32⟩
  | .hbm, ⟨13, _⟩ => ⟨S8x56x56x128, .f32⟩
  | .local _ .vmem, ⟨0, _⟩ => ⟨S1x2x57x57x128, .f32⟩
  | .local _ .vmem, ⟨1, _⟩ => ⟨S1x2x57x57x128, .f32⟩
  | .local _ .vmem, ⟨2, _⟩ => ⟨S2x2x2x128x128, .f32⟩
  | .local _ .vmem, ⟨3, _⟩ => ⟨S128, .f32⟩
  | .local _ .vmem, ⟨4, _⟩ => ⟨S1x56x56x128, .f32⟩
  | .local _ .vmem, ⟨5, _⟩ => ⟨S1x56x56x128, .f32⟩
  | _, _ => ⟨S8x112x112x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2x57x57x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2x2x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x56x56x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Conv2ReferenceIdeal.lean ====
abbrev S8x112x112x64 : Shape := ⟨4, ![8, 112, 112, 64]⟩
abbrev S128x64x4x4 : Shape := ⟨4, ![128, 64, 4, 4]⟩
abbrev S128 : Shape := ⟨1, ![128]⟩
abbrev S_ : Shape := ⟨0, ![]⟩
abbrev S8x114x114x64 : Shape := ⟨4, ![8, 114, 114, 64]⟩
abbrev S8x56x56x128 : Shape := ⟨4, ![8, 56, 56, 128]⟩
abbrev S8x56x56x64 : Shape := ⟨4, ![8, 56, 56, 64]⟩
abbrev S128x64x1x1 : Shape := ⟨4, ![128, 64, 1, 1]⟩
abbrev S128x64 : Shape := ⟨2, ![128, 64]⟩
abbrev S1x1x1x128 : Shape := ⟨4, ![1, 1, 1, 128]⟩

abbrev nBuf : Space → Nat
  | .hbm => 94
  | .vmem => 0
  | .smem => 0
  | _ => 0

abbrev bufTy : (tb : Table) → Fin (tcTables nBuf tb) → BufTy
  | .hbm, ⟨0, _⟩ => ⟨S8x112x112x64, .f32⟩
  | .hbm, ⟨1, _⟩ => ⟨S128x64x4x4, .f32⟩
  | .hbm, ⟨2, _⟩ => ⟨S128, .f32⟩
  | .hbm, ⟨3, _⟩ => ⟨S_, .i32⟩
  | .hbm, ⟨4, _⟩ => ⟨S_, .f32⟩
  | .hbm, ⟨5, _⟩ => ⟨S8x114x114x64, .f32⟩
  | .hbm, ⟨6, _⟩ => ⟨S_, .f32⟩
  | .hbm, ⟨7, _⟩ => ⟨S8x56x56x128, .f32⟩
  | .hbm, ⟨8, _⟩ => ⟨S8x56x56x64, .f32⟩
  | .hbm, ⟨9, _⟩ => ⟨S128x64x1x1, .f32⟩
  | .hbm, ⟨10, _⟩ => ⟨S128x64, .f32⟩
  | .hbm, ⟨11, _⟩ => ⟨S8x56x56x128, .f32⟩
  | .hbm, ⟨12, _⟩ => ⟨S8x56x56x128, .f32⟩
  | .hbm, ⟨13, _⟩ => ⟨S8x56x56x64, .f32⟩
  | .hbm, ⟨14, _⟩ => ⟨S128x64x1x1, .f32⟩
  | .hbm, ⟨15, _⟩ => ⟨S128x64, .f32⟩
  | .hbm, ⟨16, _⟩ => ⟨S8x56x56x128, .f32⟩
  | .hbm, ⟨17, _⟩ => ⟨S8x56x56x128, .f32⟩
  | .hbm, ⟨18, _⟩ => ⟨S8x56x56x64, .f32⟩
  | .hbm, ⟨19, _⟩ => ⟨S128x64x1x1, .f32⟩
  | .hbm, ⟨20, _⟩ => ⟨S128x64, .f32⟩
  | .hbm, ⟨21, _⟩ => ⟨S8x56x56x128, .f32⟩
  | .hbm, ⟨22, _⟩ => ⟨S8x56x56x128, .f32⟩
  | .hbm, ⟨23, _⟩ => ⟨S8x56x56x64, .f32⟩
  | .hbm, ⟨24, _⟩ => ⟨S128x64x1x1, .f32⟩
  | .hbm, ⟨25, _⟩ => ⟨S128x64, .f32⟩
  | .hbm, ⟨26, _⟩ => ⟨S8x56x56x128, .f32⟩
  | .hbm, ⟨27, _⟩ => ⟨S8x56x56x128, .f32⟩
  | .hbm, ⟨28, _⟩ => ⟨S8x56x56x64, .f32⟩
  | .hbm, ⟨29, _⟩ => ⟨S128x64x1x1, .f32⟩
  | .hbm, ⟨30, _⟩ => ⟨S128x64, .f32⟩
  | .hbm, ⟨31, _⟩ => ⟨S8x56x56x128, .f32⟩
  | .hbm, ⟨32, _⟩ => ⟨S8x56x56x128, .f32⟩
  | .hbm, ⟨33, _⟩ => ⟨S8x56x56x64, .f32⟩
  | .hbm, ⟨34, _⟩ => ⟨S128x64x1x1, .f32⟩
  | .hbm, ⟨35, _⟩ => ⟨S128x64, .f32⟩
  | .hbm, ⟨36, _⟩ => ⟨S8x56x56x128, .f32⟩
  | .hbm, ⟨37, _⟩ => ⟨S8x56x56x128, .f32⟩
  | .hbm, ⟨38, _⟩ => ⟨S8x56x56x64, .f32⟩
  | .hbm, ⟨39, _⟩ => ⟨S128x64x1x1, .f32⟩
  | .hbm, ⟨40, _⟩ => ⟨S128x64, .f32⟩
  | .hbm, ⟨41, _⟩ => ⟨S8x56x56x128, .f32⟩
  | .hbm, ⟨42, _⟩ => ⟨S8x56x56x128, .f32⟩
  | .hbm, ⟨43, _⟩ => ⟨S8x56x56x64, .f32⟩
  | .hbm, ⟨44, _⟩ => ⟨S128x64x1x1, .f32⟩
  | .hbm, ⟨45, _⟩ => ⟨S128x64, .f32⟩
  | .hbm, ⟨46, _⟩ => ⟨S8x56x56x128, .f32⟩
  | .hbm, ⟨47, _⟩ => ⟨S8x56x56x128, .f32⟩
  | .hbm, ⟨48, _⟩ => ⟨S8x56x56x64, .f32⟩
  | .hbm, ⟨49, _⟩ => ⟨S128x64x1x1, .f32⟩
  | .hbm, ⟨50, _⟩ => ⟨S128x64, .f32⟩
  | .hbm, ⟨51, _⟩ => ⟨S8x56x56x128, .f32⟩
  | .hbm, ⟨52, _⟩ => ⟨S8x56x56x128, .f32⟩
  | .hbm, ⟨53, _⟩ => ⟨S8x56x56x64, .f32⟩
  | .hbm, ⟨54, _⟩ => ⟨S128x64x1x1, .f32⟩
  | .hbm, ⟨55, _⟩ => ⟨S128x64, .f32⟩
  | .hbm, ⟨56, _⟩ => ⟨S8x56x56x128, .f32⟩
  | .hbm, ⟨57, _⟩ => ⟨S8x56x56x128, .f32⟩
  | .hbm, ⟨58, _⟩ => ⟨S8x56x56x64, .f32⟩
  | .hbm, ⟨59, _⟩ => ⟨S128x64x1x1, .f32⟩
  | .hbm, ⟨60, _⟩ => ⟨S128x64, .f32⟩
  | .hbm, ⟨61, _⟩ => ⟨S8x56x56x128, .f32⟩
  | .hbm, ⟨62, _⟩ => ⟨S8x56x56x128, .f32⟩
  | .hbm, ⟨63, _⟩ => ⟨S8x56x56x64, .f32⟩
  | .hbm, ⟨64, _⟩ => ⟨S128x64x1x1, .f32⟩
  | .hbm, ⟨65, _⟩ => ⟨S128x64, .f32⟩
  | .hbm, ⟨66, _⟩ => ⟨S8x56x56x128, .f32⟩
  | .hbm, ⟨67, _⟩ => ⟨S8x56x56x128, .f32⟩
  | .hbm, ⟨68, _⟩ => ⟨S8x56x56x64, .f32⟩
  | .hbm, ⟨69, _⟩ => ⟨S128x64x1x1, .f32⟩
  | .hbm, ⟨70, _⟩ => ⟨S128x64, .f32⟩
  | .hbm, ⟨71, _⟩ => ⟨S8x56x56x128, .f32⟩
  | .hbm, ⟨72, _⟩ => ⟨S8x56x56x128, .f32⟩
  | .hbm, ⟨73, _⟩ => ⟨S8x56x56x64, .f32⟩
  | .hbm, ⟨74, _⟩ => ⟨S128x64x1x1, .f32⟩
  | .hbm, ⟨75, _⟩ => ⟨S128x64, .f32⟩
  | .hbm, ⟨76, _⟩ => ⟨S8x56x56x128, .f32⟩
  | .hbm, ⟨77, _⟩ => ⟨S8x56x56x128, .f32⟩
  | .hbm, ⟨78, _⟩ => ⟨S8x56x56x64, .f32⟩
  | .hbm, ⟨79, _⟩ => ⟨S128x64x1x1, .f32⟩
  | .hbm, ⟨80, _⟩ => ⟨S128x64, .f32⟩
  | .hbm, ⟨81, _⟩ => ⟨S8x56x56x128, .f32⟩
  | .hbm, ⟨82, _⟩ => ⟨S8x56x56x128, .f32⟩
  | .hbm, ⟨83, _⟩ => ⟨S8x56x56x64, .f32⟩
  | .hbm, ⟨84, _⟩ => ⟨S128x64x1x1, .f32⟩
  | .hbm, ⟨85, _⟩ => ⟨S128x64, .f32⟩
  | .hbm, ⟨86, _⟩ => ⟨S8x56x56x128, .f32⟩
  | .hbm, ⟨87, _⟩ => ⟨S8x56x56x128, .f32⟩
  | .hbm, ⟨88, _⟩ => ⟨S1x1x1x128, .f32⟩
  | .hbm, ⟨89, _⟩ => ⟨S8x56x56x128, .f32⟩
  | .hbm, ⟨90, _⟩ => ⟨S8x56x56x128, .f32⟩
  | .hbm, ⟨91, _⟩ => ⟨S_, .f32⟩
  | .hbm, ⟨92, _⟩ => ⟨S8x56x56x128, .f32⟩
  | .hbm, ⟨93, _⟩ => ⟨S8x56x56x128, .f32⟩
  | _, _ => ⟨S8x112x112x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_cst_0 : Ref sig .tc := ⟨.hbm, 91, rfl⟩
abbrev main_v85 : Ref sig .tc := ⟨.hbm, 92, rfl⟩
abbrev main_v86 : Ref sig .tc := ⟨.hbm, 93, rfl⟩

abbrev nD : Nat := 1
abbrev τ : Topo := Topo.v7x

variable {F : FTy → Type} [FloatOps F]
-- ==== Codes.lean ====
abbrev S8x56x56x128 : Shape := ⟨4, ![8, 56, 56, 128]⟩
abbrev S128x128x3x3 : Shape := ⟨4, ![128, 128, 3, 3]⟩
abbrev S128 : Shape := ⟨1, ![128]⟩
abbrev S512x128 : Shape := ⟨2, ![512, 128]⟩
abbrev S3x3x128x128 : Shape := ⟨4, ![3, 3, 128, 128]⟩
abbrev S128x512 : Shape := ⟨2, ![128, 512]⟩
abbrev S_ : Shape := ⟨0, ![]⟩
abbrev S512 : Shape := ⟨1, ![512]⟩
abbrev S1x512 : Shape := ⟨2, ![1, 512]⟩
abbrev S8x3136x1 : Shape := ⟨3, ![8, 3136, 1]⟩
abbrev S1x56x56x128 : Shape := ⟨4, ![1, 56, 56, 128]⟩
abbrev S1x3136x1 : Shape := ⟨3, ![1, 3136, 1]⟩
abbrev S58x58x128 : Shape := ⟨3, ![58, 58, 128]⟩
abbrev S56x56x128 : Shape := ⟨3, ![56, 56, 128]⟩
abbrev S28x56x128 : Shape := ⟨3, ![28, 56, 128]⟩
abbrev S1568x128 : Shape := ⟨2, ![1568, 128]⟩
abbrev S1x1x128x128 : Shape := ⟨4, ![1, 1, 128, 128]⟩
abbrev S128x128 : Shape := ⟨2, ![128, 128]⟩
abbrev S1x128 : Shape := ⟨2, ![1, 128]⟩
abbrev S1568x512 : Shape := ⟨2, ![1568, 512]⟩
abbrev S1568 : Shape := ⟨1, ![1568]⟩
abbrev S1568x1 : Shape := ⟨2, ![1568, 1]⟩
abbrev S1x1568x1 : Shape := ⟨3, ![1, 1568, 1]⟩

abbrev nBuf : Space → Nat
  | .hbm => 17
  | .vmem => 9
  | .smem => 0
  | _ => 0

abbrev bufTy : (tb : Table) → Fin (tcTables nBuf tb) → BufTy
  | .hbm, ⟨0, _⟩ => ⟨S8x56x56x128, .f32⟩
  | .hbm, ⟨1, _⟩ => ⟨S128x128x3x3, .f32⟩
  | .hbm, ⟨2, _⟩ => ⟨S128, .f32⟩
  | .hbm, ⟨3, _⟩ => ⟨S512x128, .f32⟩
  | .hbm, ⟨4, _⟩ => ⟨S3x3x128x128, .f32⟩
  | .hbm, ⟨5, _⟩ => ⟨S128x512, .f32⟩
  | .hbm, ⟨6, _⟩ => ⟨S512x128, .f32⟩
  | .hbm, ⟨7, _⟩ => ⟨S_, .f32⟩
  | .hbm, ⟨8, _⟩ => ⟨S512, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S1x512, .f32⟩
  | .hbm, ⟨16, _⟩ => ⟨S8x3136x1, .i32⟩
  | .local _ .vmem, ⟨0, _⟩ => ⟨S1x56x56x128, .f32⟩
  | .local _ .vmem, ⟨1, _⟩ => ⟨S1x56x56x128, .f32⟩
  | .local _ .vmem, ⟨2, _⟩ => ⟨S3x3x128x128, .f32⟩
  | .local _ .vmem, ⟨3, _⟩ => ⟨S128, .f32⟩
  | .local _ .vmem, ⟨4, _⟩ => ⟨S128x512, .f32⟩
  | .local _ .vmem, ⟨5, _⟩ => ⟨S1x512, .f32⟩
  | .local _ .vmem, ⟨6, _⟩ => ⟨S1x3136x1, .i32⟩
  | .local _ .vmem, ⟨7, _⟩ => ⟨S1x3136x1, .i32⟩
  | .local _ .vmem, ⟨8, _⟩ => ⟨S58x58x128, .f32⟩
  | _, _ => ⟨S8x56x56x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x56x56x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x3x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x3136x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CodesReferenceIdeal.lean ====
abbrev S8x56x56x128 : Shape := ⟨4, ![8, 56, 56, 128]⟩
abbrev S128x128x3x3 : Shape := ⟨4, ![128, 128, 3, 3]⟩
abbrev S128 : Shape := ⟨1, ![128]⟩
abbrev S512x128 : Shape := ⟨2, ![512, 128]⟩
abbrev S_ : Shape := ⟨0, ![]⟩
abbrev S8x58x58x128 : Shape := ⟨4, ![8, 58, 58, 128]⟩
abbrev S128x128x1x1 : Shape := ⟨4, ![128, 128, 1, 1]⟩
abbrev S128x128 : Shape := ⟨2, ![128, 128]⟩
abbrev S1x1x1x128 : Shape := ⟨4, ![1, 1, 1, 128]⟩
abbrev S25088x128 : Shape := ⟨2, ![25088, 128]⟩
abbrev S25088 : Shape := ⟨1, ![25088]⟩
abbrev S25088x1 : Shape := ⟨2, ![25088, 1]⟩
abbrev S512 : Shape := ⟨1, ![512]⟩
abbrev S1x512 : Shape := ⟨2, ![1, 512]⟩
abbrev S25088x512 : Shape := ⟨2, ![25088, 512]⟩
abbrev S128x512 : Shape := ⟨2, ![128, 512]⟩
abbrev S8x3136x1 : Shape := ⟨3, ![8, 3136, 1]⟩

abbrev nBuf : Space → Nat
  | .hbm => 81
  | .vmem => 0
  | .smem => 0
  | _ => 0

abbrev bufTy : (tb : Table) → Fin (tcTables nBuf tb) → BufTy
  | .hbm, ⟨0, _⟩ => ⟨S8x56x56x128, .f32⟩
  | .hbm, ⟨1, _⟩ => ⟨S128x128x3x3, .f32⟩
  | .hbm, ⟨2, _⟩ => ⟨S128, .f32⟩
  | .hbm, ⟨3, _⟩ => ⟨S512x128, .f32⟩
  | .hbm, ⟨4, _⟩ => ⟨S_, .i32⟩
  | .hbm, ⟨5, _⟩ => ⟨S_, .f32⟩
  | .hbm, ⟨6, _⟩ => ⟨S8x58x58x128, .f32⟩
  | .hbm, ⟨7, _⟩ => ⟨S_, .f32⟩
  | .hbm, ⟨8, _⟩ => ⟨S8x56x56x128, .f32⟩
  | .hbm, ⟨9, _⟩ => ⟨S8x56x56x128, .f32⟩
  | .hbm, ⟨10, _⟩ => ⟨S128x128x1x1, .f32⟩
  | .hbm, ⟨11, _⟩ => ⟨S128x128, .f32⟩
  | .hbm, ⟨12, _⟩ => ⟨S8x56x56x128, .f32⟩
  | .hbm, ⟨13, _⟩ => ⟨S8x56x56x128, .f32⟩
  | .hbm, ⟨14, _⟩ => ⟨S8x56x56x128, .f32⟩
  | .hbm, ⟨15, _⟩ => ⟨S128x128x1x1, .f32⟩
  | .hbm, ⟨16, _⟩ => ⟨S128x128, .f32⟩
  | .hbm, ⟨17, _⟩ => ⟨S8x56x56x128, .f32⟩
  | .hbm, ⟨18, _⟩ => ⟨S8x56x56x128, .f32⟩
  | .hbm, ⟨19, _⟩ => ⟨S8x56x56x128, .f32⟩
  | .hbm, ⟨20, _⟩ => ⟨S128x128x1x1, .f32⟩
  | .hbm, ⟨21, _⟩ => ⟨S128x128, .f32⟩
  | .hbm, ⟨22, _⟩ => ⟨S8x56x56x128, .f32⟩
  | .hbm, ⟨23, _⟩ => ⟨S8x56x56x128, .f32⟩
  | .hbm, ⟨24, _⟩ => ⟨S8x56x56x128, .f32⟩
  | .hbm, ⟨25, _⟩ => ⟨S128x128x1x1, .f32⟩
  | .hbm, ⟨26, _⟩ => ⟨S128x128, .f32⟩
  | .hbm, ⟨27, _⟩ => ⟨S8x56x56x128, .f32⟩
  | .hbm, ⟨28, _⟩ => ⟨S8x56x56x128, .f32⟩
  | .hbm, ⟨29, _⟩ => ⟨S8x56x56x128, .f32⟩
  | .hbm, ⟨30, _⟩ => ⟨S128x128x1x1, .f32⟩
  | .hbm, ⟨31, _⟩ => ⟨S128x128, .f32⟩
  | .hbm, ⟨32, _⟩ => ⟨S8x56x56x128, .f32⟩
  | .hbm, ⟨33, _⟩ => ⟨S8x56x56x128, .f32⟩
  | .hbm, ⟨34, _⟩ => ⟨S8x56x56x128, .f32⟩
  | .hbm, ⟨35, _⟩ => ⟨S128x128x1x1, .f32⟩
  | .hbm, ⟨36, _⟩ => ⟨S128x128, .f32⟩
  | .hbm, ⟨37, _⟩ => ⟨S8x56x56x128, .f32⟩
  | .hbm, ⟨38, _⟩ => ⟨S8x56x56x128, .f32⟩
  | .hbm, ⟨39, _⟩ => ⟨S8x56x56x128, .f32⟩
  | .hbm, ⟨40, _⟩ => ⟨S128x128x1x1, .f32⟩
  | .hbm, ⟨41, _⟩ => ⟨S128x128, .f32⟩
  | .hbm, ⟨42, _⟩ => ⟨S8x56x56x128, .f32⟩
  | .hbm, ⟨43, _⟩ => ⟨S8x56x56x128, .f32⟩
  | .hbm, ⟨44, _⟩ => ⟨S8x56x56x128, .f32⟩
  | .hbm, ⟨45, _⟩ => ⟨S128x128x1x1, .f32⟩
  | .hbm, ⟨46, _⟩ => ⟨S128x128, .f32⟩
  | .hbm, ⟨47, _⟩ => ⟨S8x56x56x128, .f32⟩
  | .hbm, ⟨48, _⟩ => ⟨S8x56x56x128, .f32⟩
  | .hbm, ⟨49, _⟩ => ⟨S8x56x56x128, .f32⟩
  | .hbm, ⟨50, _⟩ => ⟨S128x128x1x1, .f32⟩
  | .hbm, ⟨51, _⟩ => ⟨S128x128, .f32⟩
  | .hbm, ⟨52, _⟩ => ⟨S8x56x56x128, .f32⟩
  | .hbm, ⟨53, _⟩ => ⟨S8x56x56x128, .f32⟩
  | .hbm, ⟨54, _⟩ => ⟨S1x1x1x128, .f32⟩
  | .hbm, ⟨55, _⟩ => ⟨S8x56x56x128, .f32⟩
  | .hbm, ⟨56, _⟩ => ⟨S8x56x56x128, .f32⟩
  | .hbm, ⟨57, _⟩ => ⟨S25088x128, .f32⟩
  | .hbm, ⟨58, _⟩ => ⟨S25088x128, .f32⟩
  | .hbm, ⟨59, _⟩ => ⟨S_, .f32⟩
  | .hbm, ⟨60, _⟩ => ⟨S25088, .f32⟩
  | .hbm, ⟨61, _⟩ => ⟨S25088x1, .f32⟩
  | .hbm, ⟨62, _⟩ => ⟨S512x128, .f32⟩
  | .hbm, ⟨63, _⟩ => ⟨S_, .f32⟩
  | .hbm, ⟨64, _⟩ => ⟨S512, .f32⟩
  | .hbm, ⟨65, _⟩ => ⟨S1x512, .f32⟩
  | .hbm, ⟨66, _⟩ => ⟨S25088x512, .f32⟩
  | .hbm, ⟨67, _⟩ => ⟨S25088x512, .f32⟩
  | .hbm, ⟨68, _⟩ => ⟨S25088x512, .f32⟩
  | .hbm, ⟨69, _⟩ => ⟨S128x512, .f32⟩
  | .hbm, ⟨70, _⟩ => ⟨S25088x512, .f32⟩
  | .hbm, ⟨71, _⟩ => ⟨S_, .f32⟩
  | .hbm, ⟨72, _⟩ => ⟨S25088x512, .f32⟩
  | .hbm, ⟨73, _⟩ => ⟨S25088x512, .f32⟩
  | .hbm, ⟨74, _⟩ => ⟨S25088x512, .f32⟩
  | .hbm, ⟨75, _⟩ => ⟨S25088x512, .i32⟩
  | .hbm, ⟨76, _⟩ => ⟨S_, .f32⟩
  | .hbm, ⟨77, _⟩ => ⟨S_, .i32⟩
  | .hbm, ⟨78, _⟩ => ⟨S25088, .f32⟩
  | .hbm, ⟨79, _⟩ => ⟨S25088, .i32⟩
  | .hbm, ⟨80, _⟩ => ⟨S8x3136x1, .i32⟩
  | _, _ => ⟨S8x56x56x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_cst_0 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_1 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_cst_2 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_call1_v0 : Ref sig .tc := ⟨.hbm, 75, rfl⟩
abbrev main_call1_cst : Ref sig .tc := ⟨.hbm, 76, rfl⟩
abbrev main_call1_c : Ref sig .tc := ⟨.hbm, 77, rfl⟩
abbrev main_call1_v1_0 : Ref sig .tc := ⟨.hbm, 78, rfl⟩
abbrev main_v65 : Ref sig .tc := ⟨.hbm, 79, rfl⟩
abbrev main_v66 : Ref sig .tc := ⟨.hbm, 80, rfl⟩

abbrev nD : Nat := 1
abbrev τ : Topo := Topo.v7x

variable {F : FTy → Type} [FloatOps F]
-- ==== Proof.Ideal.Lanes.lean ====
/-
  Sixteen lanes at a time: what one indexed load of the code book and one indexed store of the row scratch do to the
  rows gathered so far, and one trip of each of the kernel's two loops (128 columns of sixteen rows).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

/-! ## The code book's rows -/

/-- Row `r`, column `c` of the code book. -/
abbrev at2 (r : Fin 512) (c : Fin 128) : S512x128.Idx := fun a => match a with | 0 => r | 1 => c

/-- The row a word names (words below 512 name themselves). -/
def rowOf (w : BitVec 32) : Fin 512 := ⟨w.toNat % 512, Nat.mod_lt _ (by norm_num)⟩

/-- What a task is to leave at row `x 0` of its row scratch: row `J (x 0)` of the code book. -/
def tgt (E : S512x128.Idx → Elt F .f32) (J : ℕ → Fin 512) (x : S400x128.Idx) : Elt F .f32 := E (at2 (J (x 0).val) (x 1))

/-- The row scratch `f` after `g` groups of sixteen rows and `c` columns of the next group. -/
def Filled (T : S400x128.Idx → Elt F .f32) (g c : ℕ) (f : S400x128.Idx → Elt F .f32) : Prop :=
  ∀ x : S400x128.Idx, (x 0).val < 16 * g ∨ ((x 0).val < 16 * g + 16 ∧ (x 1).val < c) → f x = T x

theorem Filled.next {T : S400x128.Idx → Elt F .f32} {g : ℕ} {f : S400x128.Idx → Elt F .f32} (h : Filled T g 128 f) :
    Filled T (g + 1) 0 f := fun x hx => h x (by
  rcases hx with hx | ⟨_, hx⟩
  · by_cases h' : (x 0).val < 16 * g
    · exact .inl h'
    · exact .inr ⟨by omega, (x 1).isLt⟩
  · omega)

/-- An unmasked indexed store, at an index `j`: `w`, when every lane that names `j` carries `w` and what was at `j`
    is `w` where no lane names it. -/
theorem storeIdx_eq {s : Shape} {e : EltTy} {d : Fin 1 → ℕ} (f : Vec F s e) (idxs : Fin s.rank → IVec ⟨1, d⟩ 32) (v : Vec F ⟨1, d⟩ e)
    (h : ∀ a x, (idxs a x).toNat < s.size a) (j : s.Idx) (w : Elt F e)
    (hv : ∀ x, (∀ a, (j a).val = (idxs a x).toNat) → v x = w)
    (hf : (∀ k : Fin (d 0), ¬ ∀ a, (j a).val = (idxs a (Shape.ofLane k)).toNat) → f j = w) :
    storeIdx f idxs v (fun _ => 1#1) false h j = w := by
  have key : ∀ (st : Vec F s e → Fin (d 0) → Vec F s e)
      (_ : ∀ g k, st g k j = if ∀ a, (j a).val = (idxs a (Shape.ofLane k)).toNat then v (Shape.ofLane k) else g j)
      (l : List (Fin (d 0))) (g : Vec F s e),
      ((∀ k ∈ l, ¬ ∀ a, (j a).val = (idxs a (Shape.ofLane k)).toNat) → g j = w) → l.foldl st g j = w := by
    intro st hst l
    induction l with
    | nil => intro g hg; exact hg (fun k hk => nomatch hk)
    | cons k l ih =>
      intro g hg
      refine ih _ fun hl => ?_
      rw [hst]
      by_cases hk : ∀ a, (j a).val = (idxs a (Shape.ofLane k)).toNat
      · rw [if_pos hk]; exact hv _ hk
      · rw [if_neg hk]
        refine hg fun k' hk' => ?_
        rcases List.mem_cons.mp hk' with rfl | hk'
        · exact hk
        · exact hl k' hk'
  unfold storeIdx
  exact key _ (fun g k => (congrFun (if_pos rfl) j).trans (by simp only [Bool.false_eq_true, if_false]; rfl)) _ f fun hl => hf fun k => hl k (List.mem_finRange k)

/-- Lane `x`'s row of the code book and of the scratch: the sixteen loaded words are `J` at the group's rows, the
    sixteen rows the group's. -/
structure Lanes (J : ℕ → Fin 512) (g : ℕ) (iv rv : IVec S16 32) : Prop where
  word : ∀ x : S16.Idx, (iv x).toNat = (J (16 * g + (x 0).val)).val
  row : ∀ x : S16.Idx, (rv x).toNat = 16 * g + (x 0).val

theorem Lanes.loads {J : ℕ → Fin 512} {g : ℕ} {iv rv : IVec S16 32} (h : Lanes J g iv rv) {c : ℕ} (hc : c < 128) :
    ∀ a x, ((![iv, broadcast S16 (BitVec.ofNat 32 c)] : Fin 2 → IVec S16 32) a x).toNat < S512x128.size a := by
  intro a x
  match a with
  | 0 => show (iv x).toNat < 512; rw [h.word]; exact (J _).isLt
  | 1 => show (BitVec.ofNat 32 c).toNat < 128; rw [BitVec.toNat_ofNat]; omega

theorem Lanes.stores {J : ℕ → Fin 512} {g : ℕ} {iv rv : IVec S16 32} (h : Lanes J g iv rv) (hg : g < 25) {c : ℕ} (hc : c < 128) :
    ∀ a x, ((![rv, broadcast S16 (BitVec.ofNat 32 c)] : Fin 2 → IVec S16 32) a x).toNat < S400x128.size a := by
  intro a x
  match a with
  | 0 => show (rv x).toNat < 400; rw [h.row]; have : (x 0).val < 16 := (x 0).isLt; omega
  | 1 => show (BitVec.ofNat 32 c).toNat < 128; rw [BitVec.toNat_ofNat]; omega

/-- Storing column `c` of the loaded rows fills column `c` of the group. -/
theorem Filled.store {E : S512x128.Idx → Elt F .f32} {J : ℕ → Fin 512} {g : ℕ} {iv rv : IVec S16 32} (hl : Lanes J g iv rv)
    {c : ℕ} (hc : c < 128) {f : S400x128.Idx → Elt F .f32} (hf : Filled (tgt E J) g c f)
    (h₁ : ∀ a x, ((![iv, broadcast S16 (BitVec.ofNat 32 c)] : Fin 2 → IVec S16 32) a x).toNat < S512x128.size a)
    (h₂ : ∀ a x, ((![rv, broadcast S16 (BitVec.ofNat 32 c)] : Fin 2 → IVec S16 32) a x).toNat < S400x128.size a) :
    Filled (tgt E J) g (c + 1)
      (storeIdx (F := F) (e := .f32) f ![rv, broadcast S16 (BitVec.ofNat 32 c)]
        (loadIdx (F := F) (e := .f32) E ![iv, broadcast S16 (BitVec.ofNat 32 c)] h₁) (fun _ => 1#1) false h₂) := by
  have hcc : (BitVec.ofNat 32 c).toNat = c := by rw [BitVec.toNat_ofNat]; omega
  intro x hx
  refine storeIdx_eq _ _ _ _ _ _ (fun k hk => ?_) (fun hk => ?_)
  · have h0 : (x 0).val = (rv k).toNat := hk 0
    have h1 : (x 1).val = (BitVec.ofNat 32 c).toNat := hk 1
    rw [hl.row] at h0
    rw [hcc] at h1
    show E _ = E _
    congr 1
    funext a
    match a with
    | 0 => apply Fin.ext; show (iv k).toNat = (J (x 0).val).val; rw [hl.word, h0]
    | 1 => apply Fin.ext; show (BitVec.ofNat 32 c).toNat = (x 1).val; rw [hcc, h1]
  · refine hf x ?_
    by_contra hno
    have hrow : 16 * g ≤ (x 0).val ∧ (x 0).val < 16 * g + 16 ∧ (x 1).val = c := by omega
    refine hk (⟨(x 0).val - 16 * g, by omega⟩ : Fin 16) fun a => ?_
    match a with
    | 0 =>
      show (x 0).val = (rv _).toNat
      rw [hl.row]
      show (x 0).val = 16 * g + ((x 0).val - 16 * g)
      omega
    | 1 => show (x 1).val = (BitVec.ofNat 32 c).toNat; rw [hcc]; exact hrow.2.2

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
/-- The handshakes' rounds library beside the copies' counters. -/
abbrev UU : Type := UH × Counters

local notation "𝕄" => MT nD τ sig (HIx 1) (Elt F) ℕ UU ℕ

/-! ## One column of one group, and one trip -/

/-- Grid point `L`'s SparseCore and vector subcore, and its thread. -/
abbrev cV (L : grid0.Coords) : Fin τ.nSC := (L 0).castLE hcore0
abbrev jV (L : grid0.Coords) : Fin τ.nSub := (L 1).castLE hsub0
abbrev vT (d : Dev nD) (L : grid0.Coords) : Thread nD τ := V d (cV L) (jV L)

/-- A task's scratch: the code book, its 784 indices, its gathered rows. -/
abbrev sE : Memref sig .scVector .vmem S512x128 .f32 := Memref.whole cc0_scratch0
abbrev sI : Memref sig .scVector .vmem S784 .i32 := Memref.whole cc0_scratch1
abbrev sR : Memref sig .scVector .vmem S400x128 .f32 := Memref.whole cc0_scratch2

section Steps

variable (d : Dev nD) (L : grid0.Coords)

/-- The task's scratch in the middle of a group: the code book `E`, the row scratch filled through `g` groups and `c`
    columns, and whatever else is held. -/
def St (E : S512x128.Idx → Elt F .f32) (J : ℕ → Fin 512) (R : sProp 𝕄) (g c : ℕ) : sProp 𝕄 :=
  iprop(R ∗ ((vT d L).loc cc0_scratch0 ↦{fullShare} E) ∗ ∃ f, ⌜Filled (F := F) (tgt E J) g c f⌝ ∗ (vT d L).loc cc0_scratch2 ↦{fullShare} f)

variable {E : S512x128.Idx → Elt F .f32} {J : ℕ → Fin 512} {g c : ℕ}

theorem set_sR : ((sR).access (.whole S400x128)).set = Finset.univ := Memref.set_access_whole cc0_scratch2
theorem read_sR (f : S400x128.Idx → Elt F .f32) : ((sR).access (.whole S400x128)).read (Elt F) f = f :=
  Memref.read_access_whole (Elt F) cc0_scratch2 f
theorem write_sR (f w : S400x128.Idx → Elt F .f32) : ((sR).access (.whole S400x128)).write (Elt F) f w Finset.univ = w :=
  Memref.write_access_whole_univ (Elt F) cc0_scratch2 f w

theorem read_sE (f : S512x128.Idx → Elt F .f32) : ((sE).access (.whole S512x128)).read (Elt F) f = f :=
  Memref.read_access_whole (Elt F) cc0_scratch0 f

theorem load_step {R : sProp 𝕄} {α : Type} {Q : α → sProp 𝕄} {idxs : Fin 2 → IVec S16 32} {h : ∀ a x, (idxs a x).toNat < S512x128.size a} {hl : (sE).view.Loads}
    {k : Vec F S16 .f32 → Prog (TpuEff nD τ sig (Elt F) Λ₀ (vT d L).2) α}
    (H : St d L E J R g c ⊢ wp frame (wpE (defs₀ (F := F)) 𝒱₀ (vT d L) none) Set.univ (k (loadIdx (F := F) (e := .f32) E idxs h)) Q) :
    St d L E J R g c ⊢ wp frame (wpE (defs₀ (F := F)) 𝒱₀ (vT d L) none) Set.univ (SparseCore.vectorLoadIdx sE idxs h hl >>= k) Q := by
  unfold St at H ⊢
  iintro ⟨HR, HE, Hf⟩
  iapply (SparseCore.wp_vectorLoadIdx 𝒱₀ (vT d L) none Set.univ (base := sE) (S := Finset.univ) (q := fullShare) (f := E) (Finset.subset_univ _)) $$ HE
  iintro HE
  rw [read_sE]
  iapply H
  isplitl [HR]; · iexact HR
  isplitl [HE]; · iexact HE
  iexact Hf

theorem store_step {R : sProp 𝕄} {α : Type} {Q : α → sProp 𝕄} {iv rv : IVec S16 32} (hl : Lanes J g iv rv)
    {h₁ : ∀ a x, ((![iv, broadcast S16 (BitVec.ofNat 32 c)] : Fin 2 → IVec S16 32) a x).toNat < S512x128.size a}
    {h₂ : ∀ a x, ((![rv, broadcast S16 (BitVec.ofNat 32 c)] : Fin 2 → IVec S16 32) a x).toNat < S400x128.size a}
    {hs : ((sR).access (.whole S400x128)).Stores Finset.univ}
    {k : PUnit → Prog (TpuEff nD τ sig (Elt F) Λ₀ (vT d L).2) α} (hc : c < 128)
    (H : St d L E J R g (c + 1) ⊢ wp frame (wpE (defs₀ (F := F)) 𝒱₀ (vT d L) none) Set.univ (k ⟨⟩) Q) :
    St d L E J R g c ⊢ wp frame (wpE (defs₀ (F := F)) 𝒱₀ (vT d L) none) Set.univ
      (SparseCore.vectorStoreIdx sR ![rv, broadcast S16 (BitVec.ofNat 32 c)]
        (loadIdx (F := F) (e := .f32) E ![iv, broadcast S16 (BitVec.ofNat 32 c)] h₁) (fun _ => 1#1) false h₂ hs >>= k) Q := by
  unfold St at H ⊢
  iintro ⟨HR, HE, %f, %hf, Hf⟩
  ihave Hf' := (Entails.of_eq (show ((vT d L).loc cc0_scratch2 ↦{fullShare} f : sProp 𝕄)
      = ((sR).access (.whole S400x128)).loc (vT d L) ↦[((sR).access (.whole S400x128)).set]{fullShare} f by
    rw [set_sR])) $$ Hf
  iapply (SparseCore.wp_vectorStoreIdx 𝒱₀ (vT d L) none Set.univ (base := sR) (f := f)) $$ Hf'
  iintro Hf
  iapply H
  isplitl [HR]; · iexact HR
  isplitl [HE]; · iexact HE
  iexists (storeIdx (F := F) (e := .f32) f ![rv, broadcast S16 (BitVec.ofNat 32 c)]
    (loadIdx (F := F) (e := .f32) E ![iv, broadcast S16 (BitVec.ofNat 32 c)] h₁) (fun _ => 1#1) false h₂)
  isplitr
  · ipureintro
    exact hf.store hl hc h₁ h₂
  · rw [set_sR, write_sR, read_sR]
    iexact Hf

end Steps

end Cert.KernelIdeal.Gather

end
-- ==== Proof.Ideal.Trip.lean ====
/-
  One trip of each of the kernel's two loops: sixteen indices are loaded, and 128 columns of the sixteen rows they name
  go from the code book's copy to the row scratch.
-/
module

public import proofs.«01_k».proof.Proof.Ideal.Lanes

@[expose] public section

noncomputable section

namespace Cert.KernelIdeal.Gather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Word `n` of the 784 a task holds (counted round). -/
abbrev at1 (n : ℕ) : S784.Idx := fun a => match a with | 0 => ⟨n % 784, Nat.mod_lt _ (by norm_num)⟩

/-- The rows that the words `w` name from word `s` on. -/
def rows (w : S784.Idx → BitVec 32) (s : ℕ) (n : ℕ) : Fin 512 := rowOf (w (at1 (s + n)))

/-- The sixteen words loaded for group `g`, counted from word `s`, are the ones that name the group's rows. -/
theorem lanes_of {w : S784.Idx → BitVec 32} (hw : ∀ y, (w y).toNat < 512) {s g : ℕ} (hs : s + 16 * g + 16 ≤ 784)
    {iv rv : IVec S16 32} (hi : ∀ x : S16.Idx, iv x = w (at1 (s + 16 * g + (x 0).val)))
    (hr : ∀ x : S16.Idx, (rv x).toNat = 16 * g + (x 0).val) : Lanes (rows w s) g iv rv where
  word x := by
    rw [hi]
    unfold rows rowOf
    rw [show s + (16 * g + (x 0).val) = s + 16 * g + (x 0).val by omega]
    exact (Nat.mod_eq_of_lt (hw _)).symm
  row := hr

theorem pay_row (k : ℕ) (hk : k < 25) (x : S16.Idx) :
    (addi (iota .scVector S16 32 [0] iota_S16_d0_w32_scVector)
      (broadcast S16 (Scalar.muli (Scf.iv 0#32 1#32 k) 16#32)) x).toNat = 16 * k + (x 0).val := by
  have hx : (x 0).val < 16 := (x 0).isLt
  show (BitVec.ofNat 32 (0 * 16 + (x 0).val) + (0#32 + BitVec.ofNat 32 k * 1#32) * 16#32).toNat = _
  simp only [BitVec.toNat_add, BitVec.toNat_mul, BitVec.toNat_ofNat]
  omega

section Steps

variable (d : Dev nD) (L : grid0.Coords)
variable {E : S512x128.Idx → Elt F .f32} {J : ℕ → Fin 512} {g c : ℕ}

/-- A filled group is the start of the next. -/
theorem St_next {R : sProp 𝕄} : St d L E J R g 128 ⊢ St d L E J R (g + 1) 0 := by
  unfold St
  iintro ⟨HR, HE, %f, %hf, Hf⟩
  isplitl [HR]; · iexact HR
  isplitl [HE]; · iexact HE
  iexists f; isplitr
  · ipureintro; exact hf.next
  · iexact Hf

/-- A checked condition that holds is passed. -/
theorem assume_step {T : sProp 𝕄} {P : Prop} {dec : Decidable P} {α : Type} {Q : α → sProp 𝕄}
    {k : PLift P → Prog (TpuEff nD τ sig (Elt F) Λ₀ (vT d L).2) α} (h : P)
    (H : T ⊢ wp frame (wpE (defs₀ (F := F)) 𝒱₀ (vT d L) none) Set.univ (k ⟨h⟩) Q) :
    T ⊢ wp frame (wpE (defs₀ (F := F)) 𝒱₀ (vT d L) none) Set.univ (Prog.lift (TpuEff.assume P dec) >>= k) Q :=
  H.trans (wp_assume 𝒱₀ (vT d L) none Set.univ h)

/-- A piece of program runs to its end, and the rest from there. -/
theorem bind_step {T : sProp 𝕄} {α β : Type} {Q : β → sProp 𝕄} {p : Prog (TpuEff nD τ sig (Elt F) Λ₀ (vT d L).2) α}
    {k : α → Prog (TpuEff nD τ sig (Elt F) Λ₀ (vT d L).2) β}
    (H : T ⊢ wp frame (wpE (defs₀ (F := F)) 𝒱₀ (vT d L) none) Set.univ p
      (fun a => wp frame (wpE (defs₀ (F := F)) 𝒱₀ (vT d L) none) Set.univ (k a) Q)) :
    T ⊢ wp frame (wpE (defs₀ (F := F)) 𝒱₀ (vT d L) none) Set.univ (p >>= k) Q := by
  rw [wp_bind]; exact H

theorem pure_step {T : sProp 𝕄} {α : Type} {Q : α → sProp 𝕄} {a : α} (H : T ⊢ Q a) :
    T ⊢ wp frame (wpE (defs₀ (F := F)) 𝒱₀ (vT d L) none) Set.univ (pure a) Q :=
  H.trans (by rw [Prog.pure_eq_ret, wp_ret]; exact fupd_intro)

/-- Loading words from the index scratch. -/
theorem word_step {R : sProp 𝕄} {w : S784.Idx → BitVec 32} {r : LoadRect S784} {hl : (sI).view.LoadsAt r} {α : Type} {Q : α → sProp 𝕄}
    {k : (r.shape.Idx → BitVec 32) → Prog (TpuEff nD τ sig (Elt F) Λ₀ (vT d L).2) α}
    (H : St d L E J iprop(R ∗ (vT d L).loc cc0_scratch1 ↦{fullShare} w) g c
      ⊢ wp frame (wpE (defs₀ (F := F)) 𝒱₀ (vT d L) none) Set.univ (k (fun x => w (r.idx x))) Q) :
    St d L E J iprop(R ∗ (vT d L).loc cc0_scratch1 ↦{fullShare} w) g c
      ⊢ wp frame (wpE (defs₀ (F := F)) 𝒱₀ (vT d L) none) Set.univ (Prog.lift (TpuEff.load sI r hl) >>= k) Q := by
  unfold St at H ⊢
  iintro ⟨⟨HR, Hw⟩, Hrest⟩
  iapply (wp_load 𝒱₀ (vT d L) none Set.univ (m := sI) (S := Finset.univ) (q := fullShare) (f := w) (Finset.subset_univ _)) $$ Hw
  iintro Hw
  rw [show (sI).view.readAt (Elt F) r w = (fun x => w (r.idx x)) from by
    funext x; simp only [View.readAt_apply, Memref.view_whole, View.read_whole]]
  iapply H
  isplitl [HR Hw]
  · isplitl [HR] <;> iassumption
  iexact Hrest

abbrev lanesIota : IVec S16 32 := iota .scVector S16 32 [0] iota_S16_d0_w32_scVector

variable {a2 : Memref sig .scVector .hbm S512x128 .f32} {h2 : a2.IsWhole} {a3 : Memref sig .scVector .hbm S25088 .i32} {h3 : a3.IsWhole}
  {a4 : Memref sig .scVector .hbm S25088x128 .f32} {h4 : a4.IsWhole} {r0 r1 r2 r3 : DmaSems sig S_}

theorem off2_idx (t : Fin k0_t1_loop.trips) (x : S16.Idx) :
    (Rect.unit (s := S784) (k0_off2 t) S16.size (k0_off2_inb t)).toLoadRect.idx x = at1 (0 + 16 * t.val + (x 0).val) := by
  have ht : t.val < 25 := lt_of_lt_of_le t.isLt k0_t1_abs.2.1
  have hx : (x 0).val < 16 := (x 0).isLt
  funext a; apply Fin.ext
  rw [LoadRect.idx_apply]
  match a with
  | 0 =>
    show k0_off2 t 0 + 1 * (x 0).val = (0 + 16 * t.val + (x 0).val) % 784
    rw [k0_off2_eq]
    show 16 * t.val + 1 * (x 0).val = _
    rw [Nat.mod_eq_of_lt (by omega)]; omega

theorem off4_idx (t : Fin k0_t2_loop.trips) (x : S16.Idx) :
    (Rect.unit (s := S784) (k0_off4 t) S16.size (k0_off4_inb t)).toLoadRect.idx x = at1 (400 + 16 * t.val + (x 0).val) := by
  have ht : t.val < 24 := lt_of_lt_of_le t.isLt k0_t2_abs.2.1
  have hx : (x 0).val < 16 := (x 0).isLt
  funext a; apply Fin.ext
  rw [LoadRect.idx_apply]
  match a with
  | 0 =>
    show k0_off4 t 0 + 1 * (x 0).val = (400 + 16 * t.val + (x 0).val) % 784
    rw [k0_off4_eq]
    show 16 * t.val + 400 + 1 * (x 0).val = _
    rw [Nat.mod_eq_of_lt (by omega)]; omega

/-- A named piece of program runs as its skeleton does. -/
theorem part_step {T : sProp 𝕄} {α β : Type} {Q : β → sProp 𝕄} {p p' : Prog (TpuEff nD τ sig (Elt F) Λ₀ (vT d L).2) α}
    {k : α → Prog (TpuEff nD τ sig (Elt F) Λ₀ (vT d L).2) β} (h : p = p')
    (H : T ⊢ wp frame (wpE (defs₀ (F := F)) 𝒱₀ (vT d L) none) Set.univ p'
      (fun a => wp frame (wpE (defs₀ (F := F)) 𝒱₀ (vT d L) none) Set.univ (k a) Q)) :
    T ⊢ wp frame (wpE (defs₀ (F := F)) 𝒱₀ (vT d L) none) Set.univ (p >>= k) Q :=
  bind_step d L (h ▸ H)

set_option maxRecDepth 65536 in
set_option maxHeartbeats 4000000 in
/-- One trip of the first loop: group `t`'s sixteen rows are filled. -/
theorem trip₁ {R : sProp 𝕄} {w : S784.Idx → BitVec 32} (hw : ∀ y, (w y).toNat < 512) (t : Fin k0_t1_loop.trips) (b : BitVec 32) :
    St d L E (rows w 0) iprop(R ∗ (vT d L).loc cc0_scratch1 ↦{fullShare} w) t.val 0
      ⊢ wp frame (wpE (defs₀ (F := F)) 𝒱₀ (vT d L) none) Set.univ
          (k0_t1_body L a2 h2 a3 h3 a4 h4 sE (Memref.isWhole_whole _) sI (Memref.isWhole_whole _) sR (Memref.isWhole_whole _) r0 r1 r2 r3 lanesIota t b)
          fun _ => St d L E (rows w 0) iprop(R ∗ (vT d L).loc cc0_scratch1 ↦{fullShare} w) (t.val + 1) 0 := by
  have ht : t.val < 25 := lt_of_lt_of_le t.isLt k0_t1_abs.2.1
  have hl := lanes_of (s := 0) hw (g := t.val) (by omega) (iv := fun x => w ((Rect.unit (s := S784) (k0_off2 t) S16.size (k0_off2_inb t)).toLoadRect.idx x))
    (rv := k0_pay1 lanesIota 0#32 1#32 t) (fun x => by rw [off2_idx]) (fun x => pay_row t.val ht x)
  unfold k0_t1_body
  refine part_step d L (by rw [k0_part11_eq_skeleton, k0_part11_skel]) ?_
  refine part_step d L (by rw [k0_part1_eq_skeleton, k0_part1_skel]) ?_
  refine word_step d L ?_
  iterate 9
    refine assume_step d L ⟨hl.loads (by decide), hl.stores ht (by decide)⟩ ?_
    refine load_step d L ?_
    refine store_step d L hl (by decide) ?_
  refine assume_step d L ⟨hl.loads (by decide), hl.stores ht (by decide)⟩ ?_
  refine load_step d L ?_
  refine pure_step d L ?_
  iterate 9
    refine part_step d L (by first
      | rw [k0_part2_eq_skeleton, k0_part2_skel] | rw [k0_part3_eq_skeleton, k0_part3_skel] | rw [k0_part4_eq_skeleton, k0_part4_skel]
      | rw [k0_part5_eq_skeleton, k0_part5_skel] | rw [k0_part6_eq_skeleton, k0_part6_skel] | rw [k0_part7_eq_skeleton, k0_part7_skel]
      | rw [k0_part8_eq_skeleton, k0_part8_skel] | rw [k0_part9_eq_skeleton, k0_part9_skel] | rw [k0_part10_eq_skeleton, k0_part10_skel]) ?_
    refine store_step d L hl (by decide) ?_
    iterate 11
      refine assume_step d L ⟨hl.loads (by decide), hl.stores ht (by decide)⟩ ?_
      refine load_step d L ?_
      refine store_step d L hl (by decide) ?_
    refine assume_step d L ⟨hl.loads (by decide), hl.stores ht (by decide)⟩ ?_
    refine load_step d L ?_
    refine pure_step d L ?_
  refine store_step d L hl (by decide) ?_
  iterate 9
    refine assume_step d L ⟨hl.loads (by decide), hl.stores ht (by decide)⟩ ?_
    refine load_step d L ?_
    refine store_step d L hl (by decide) ?_
  refine assume_step d L ⟨hl.loads (by decide), hl.stores ht (by decide)⟩ ?_
  refine load_step d L ?_
  refine pure_step d L ?_
  refine store_step d L hl (by decide) ?_
  refine pure_step d L ?_
  exact St_next d L

set_option maxRecDepth 65536 in
set_option maxHeartbeats 4000000 in
/-- One trip of the second loop, which starts from word 400 and fills the row scratch anew: group `t`'s sixteen rows are filled. -/
theorem trip₂ {R : sProp 𝕄} {w : S784.Idx → BitVec 32} (hw : ∀ y, (w y).toNat < 512) (t : Fin k0_t2_loop.trips) (b : BitVec 32) :
    St d L E (rows w 400) iprop(R ∗ (vT d L).loc cc0_scratch1 ↦{fullShare} w) t.val 0
      ⊢ wp frame (wpE (defs₀ (F := F)) 𝒱₀ (vT d L) none) Set.univ
          (k0_t2_body L a2 h2 a3 h3 a4 h4 sE (Memref.isWhole_whole _) sI (Memref.isWhole_whole _) sR (Memref.isWhole_whole _) r0 r1 r2 r3 lanesIota t b)
          fun _ => St d L E (rows w 400) iprop(R ∗ (vT d L).loc cc0_scratch1 ↦{fullShare} w) (t.val + 1) 0 := by
  have ht : t.val < 25 := lt_of_lt_of_le (lt_of_lt_of_le t.isLt k0_t2_abs.2.1) (by decide)
  have hl := lanes_of (s := 400) hw (g := t.val) (by have := lt_of_lt_of_le t.isLt k0_t2_abs.2.1; omega) (iv := fun x => w ((Rect.unit (s := S784) (k0_off4 t) S16.size (k0_off4_inb t)).toLoadRect.idx x))
    (rv := k0_pay2 lanesIota 0#32 1#32 t) (fun x => by rw [off4_idx]) (fun x => pay_row t.val ht x)
  unfold k0_t2_body
  refine part_step d L (by rw [k0_part22_eq_skeleton, k0_part22_skel]) ?_
  refine part_step d L (by rw [k0_part12_eq_skeleton, k0_part12_skel]) ?_
  refine word_step d L ?_
  iterate 9
    refine assume_step d L ⟨hl.loads (by decide), hl.stores ht (by decide)⟩ ?_
    refine load_step d L ?_
    refine store_step d L hl (by decide) ?_
  refine assume_step d L ⟨hl.loads (by decide), hl.stores ht (by decide)⟩ ?_
  refine load_step d L ?_
  refine pure_step d L ?_
  iterate 9
    refine part_step d L (by first
      | rw [k0_part13_eq_skeleton, k0_part13_skel] | rw [k0_part14_eq_skeleton, k0_part14_skel] | rw [k0_part15_eq_skeleton, k0_part15_skel]
      | rw [k0_part16_eq_skeleton, k0_part16_skel] | rw [k0_part17_eq_skeleton, k0_part17_skel] | rw [k0_part18_eq_skeleton, k0_part18_skel]
      | rw [k0_part19_eq_skeleton, k0_part19_skel] | rw [k0_part20_eq_skeleton, k0_part20_skel] | rw [k0_part21_eq_skeleton, k0_part21_skel]) ?_
    refine store_step d L hl (by decide) ?_
    iterate 11
      refine assume_step d L ⟨hl.loads (by decide), hl.stores ht (by decide)⟩ ?_
      refine load_step d L ?_
      refine store_step d L hl (by decide) ?_
    refine assume_step d L ⟨hl.loads (by decide), hl.stores ht (by decide)⟩ ?_
    refine load_step d L ?_
    refine pure_step d L ?_
  refine store_step d L hl (by decide) ?_
  iterate 9
    refine assume_step d L ⟨hl.loads (by decide), hl.stores ht (by decide)⟩ ?_
    refine load_step d L ?_
    refine store_step d L hl (by decide) ?_
  refine assume_step d L ⟨hl.loads (by decide), hl.stores ht (by decide)⟩ ?_
  refine load_step d L ?_
  refine pure_step d L ?_
  refine store_step d L hl (by decide) ?_
  refine pure_step d L ?_
  exact St_next d L

end Steps

end Cert.KernelIdeal.Gather

end
-- ==== Proof.Ideal.Tile.lean ====
/-
  One task: the code book and 784 indices fetched, the two loops, and the gathered rows written out in two pieces.
-/
module

public import Idealize.ShloMosaic.Lib.Pipeline.ValueKit
public import proofs.«01_k».proof.Proof.Ideal.Trip

@[expose] public section

noncomputable section

namespace Cert.KernelIdeal.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev eW : Memref sig .scVector .hbm S512x128 .f32 := Memref.whole main_arg0_scv
abbrev iW : Memref sig .scVector .hbm S25088 .i32 := Memref.whole main_v0_scv
abbrev oW : Memref sig .scVector .hbm S25088x128 .f32 := Memref.whole main_v1_scv

abbrev eLoc (d : Dev nD) : Loc nD τ sig := (SparseCore.T d).loc main_arg0
abbrev iLoc (d : Dev nD) : Loc nD τ sig := (SparseCore.T d).loc main_v0
abbrev oLoc (d : Dev nD) : Loc nD τ sig := (SparseCore.T d).loc main_v1

/-- Word `n` of the indices. -/
abbrev atI (n : ℕ) : S25088.Idx := fun a => match a with | 0 => ⟨n % 25088, Nat.mod_lt _ (by norm_num)⟩

/-- The gathered rows: row `x 0` of the result is the row of the code book that index `x 0` names. -/
def gath (E : S512x128.Idx → Elt F .f32) (I : S25088.Idx → BitVec 32) (x : S25088x128.Idx) : Elt F .f32 :=
  E (at2 (rowOf (I (atI (x 0).val))) (x 1))

section Tile

variable (d : Dev nD) (L : grid0.Coords)

/-- The two pieces of the result that task `L` writes: 400 rows, then 384. -/
abbrev oA : Memref sig .scVector .hbm S400x128 .f32 := (oW).slice (Rect.unit (s := S25088x128) (k0_off3 L) S400x128.size (k0_off3_inb L)) (fun _ => rfl)
abbrev oB : Memref sig .scVector .hbm S384x128 .f32 := (oW).slice (Rect.unit (s := S25088x128) (k0_off5 L) S384x128.size (k0_off5_inb L)) (fun _ => rfl)
/-- The 784 indices it fetches. -/
abbrev iK : Memref sig .scVector .hbm S784 .i32 := (iW).slice (Rect.unit (s := S25088) (k0_off1 L) S784.size (k0_off1_inb L)) (fun _ => rfl)
abbrev rB : Memref sig .scVector .vmem S384x128 .f32 := (sR).slice (Rect.unit (s := S400x128) ![0, 0] S384x128.size inb_S400x128_S384x128_0_0) (fun _ => rfl)

abbrev cell0 : GSem nD τ sig := (vT d L, .dma cc0_scoped0.sem)
abbrev cell1 : GSem nD τ sig := (vT d L, .dma cc0_scoped1.sem)
abbrev cell2 : GSem nD τ sig := (vT d L, .dma cc0_scoped2.sem)
abbrev cell3 : GSem nD τ sig := (vT d L, .dma cc0_scoped3.sem)

omit [FloatOps F] in
theorem ownSems0_V :
    (ownSems0 (vT d L) : sProp 𝕄)
      = iprop(semVal (cell0 d L) 0 ∗ semVal (cell1 d L) 0 ∗ semVal (cell2 d L) 0 ∗ semVal (cell3 d L) 0
          ∗ bigSep (((((ownCells (vT d L)).erase (cell0 d L)).erase (cell1 d L)).erase (cell2 d L)).erase (cell3 d L))
              fun g => semVal g 0) := by
  have h (sm : SemLoc sig) (hs : sm.isScoped .scVector = true) : ((vT d L, sm) : GSem nD τ sig) ∈ ownCells (vT d L) :=
    mem_ownCells.mpr ⟨rfl, hs⟩
  have hne {a b : SemLoc sig} (h : a ≠ b) : ((vT d L, a) : GSem nD τ sig) ≠ (vT d L, b) := fun e => h (Prod.mk.inj e).2
  unfold SparseCore.Cfg.ownSems0
  rw [SparseCore.bigSep_erase' (h (.dma cc0_scoped0.sem) (by decide)),
    SparseCore.bigSep_erase' (Finset.mem_erase.mpr ⟨hne (by decide), h (.dma cc0_scoped1.sem) (by decide)⟩),
    SparseCore.bigSep_erase' (Finset.mem_erase.mpr ⟨hne (by decide), Finset.mem_erase.mpr ⟨hne (by decide), h (.dma cc0_scoped2.sem) (by decide)⟩⟩),
    SparseCore.bigSep_erase' (Finset.mem_erase.mpr ⟨hne (by decide), Finset.mem_erase.mpr ⟨hne (by decide), Finset.mem_erase.mpr ⟨hne (by decide),
      h (.dma cc0_scoped3.sem) (by decide)⟩⟩⟩)]

omit [FloatOps F] in
/-- The three scratch buffers are among the subcore's own: they are them, at some contents, and the rest. -/
theorem ownBufs_V :
    (ownBufs (vT d L) : sProp 𝕄)
      = iprop((∃ f, (vT d L).loc cc0_scratch0 ↦{fullShare} f) ∗ (∃ f, (vT d L).loc cc0_scratch1 ↦{fullShare} f)
          ∗ (∃ f, (vT d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have h (b : Ref sig .scVector) (hb : ((Proc.scVector (cV L) (jV L)).devRef b).owner = .proc (.scVector (cV L) (jV L))) :
      (Proc.scVector (cV L) (jV L)).devRef b ∈ ownRefs (τ := τ) (.scVector (cV L) (jV L)) :=
    SparseCore.Cfg.mem_ownRefs_of_owner hb
  have hne {a b : Ref sig .scVector} (h : a ≠ b) : (Proc.scVector (cV L) (jV L)).devRef a ≠ (Proc.scVector (cV L) (jV L)).devRef b :=
    fun e => h (Proc.devRef_injective _ e)
  unfold SparseCore.Cfg.ownBufs
  refine (SparseCore.bigSep_erase' (h cc0_scratch0 rfl)).trans ?_
  rw [SparseCore.bigSep_erase' (Finset.mem_erase.mpr ⟨hne (by decide), h cc0_scratch1 rfl⟩),
    SparseCore.bigSep_erase' (Finset.mem_erase.mpr ⟨hne (by decide), Finset.mem_erase.mpr ⟨hne (by decide), h cc0_scratch2 rfl⟩⟩)]

variable {q : PosShare TreeShare} {Ev : S512x128.Idx → Elt F .f32} {Iv : S25088.Idx → BitVec 32}

/-- The number of the first of task `L`'s 784 rows. -/
abbrev base (L : grid0.Coords) : ℕ := 1568 * (L 1).val + 784 * (L 0).val

theorem base_le : base L + 784 ≤ 25088 := by
  have h0 : (L 0).val < 2 := (L 0).isLt
  have h1 : (L 1).val < 16 := (L 1).isLt
  unfold base; omega

/-- The words task `L` fetches. -/
def words (Iv : S25088.Idx → BitVec 32) : S784.Idx → BitVec 32 := fun y => Iv (atI (base L + (y 0).val))

theorem read_iK (Iv : S25088.Idx → BitVec 32) : (iK L).view.read (Elt F) (Iv : S25088.Idx → Elt F .i32) = words L Iv := by
  have hb := base_le L
  funext y
  have hy : (y 0).val < 784 := (y 0).isLt
  rw [View.read_apply, cast_eq]
  show Iv _ = Iv _
  congr 1
  funext a; apply Fin.ext
  rw [ValueKit.view_emb_slice_whole_unit_val]
  match a with
  | 0 =>
    rw [congrFun (k0_off1_eq L) 0]
    show base L + (y 0).val = (base L + (y 0).val) % 25088
    rw [Nat.mod_eq_of_lt (by omega)]

/-- Row `n` of the rows task `L` gathers from word `s` on is row `base L + s + n` of the result. -/
theorem gath_row {E : S512x128.Idx → Elt F .f32} {Iv : S25088.Idx → BitVec 32} {s n : ℕ} (hn : s + n < 784) (i : S25088x128.Idx)
    (c : Fin 128) (h0 : (i 0).val = base L + s + n) (h1 : (i 1).val = c.val) :
    E (at2 (rows (words L Iv) s n) c) = gath E Iv i := by
  unfold gath rows words
  have hc : c = i 1 := Fin.ext h1.symm
  rw [hc, h0]
  show E (at2 (rowOf (Iv (atI (base L + (s + n) % 784)))) _) = _
  rw [Nat.mod_eq_of_lt hn, ← Nat.add_assoc (base L) s n]

theorem k0_t1_trips : Scf.trips k0_t1_loop.lb k0_t1_loop.ub k0_t1_loop.st = 25 := by decide +kernel
theorem k0_t2_trips : Scf.trips k0_t2_loop.lb k0_t2_loop.ub k0_t2_loop.st = 24 := by decide +kernel

/-- The first piece of the result, once the filled row scratch is copied onto it. -/
theorem valA {E : S512x128.Idx → Elt F .f32} {Iv : S25088.Idx → BitVec 32} {f : S400x128.Idx → Elt F .f32}
    (hf : Filled (tgt E (rows (words L Iv) 0)) 25 0 f) (g : (oA L).view.ty.Contents (Elt F)) {w : S400x128.Idx → Elt F .f32}
    (hw : w = f) {i : S25088x128.Idx} (hi : i ∈ (oA L).view.set) :
    (oA L).view.writes (Elt F) g [⟨Rect.whole S400x128, w⟩] i = gath E Iv i := by
  obtain ⟨y, -, rfl⟩ := Finset.mem_map.mp hi
  subst hw
  have e := congrFun (View.read_writes_whole (oA L).view g w) y
  rw [View.read_apply, cast_eq] at e
  have hy : (y 0).val < 400 := (y 0).isLt
  rw [e, hf y (Or.inl (by omega))]
  refine gath_row L (by omega) _ _ ?_ ?_
  · refine (ValueKit.view_emb_slice_whole_unit_val main_v1_scv _ _ _ y 0).trans ?_
    rw [congrFun (k0_off3_eq L) 0]; rfl
  · refine (ValueKit.view_emb_slice_whole_unit_val main_v1_scv _ _ _ y 1).trans ?_
    rw [congrFun (k0_off3_eq L) 1]; exact Nat.zero_add _

/-- The second piece, from the 384 rows filled by the second loop. -/
theorem valB {E : S512x128.Idx → Elt F .f32} {Iv : S25088.Idx → BitVec 32} {f : S400x128.Idx → Elt F .f32}
    (hf : Filled (tgt E (rows (words L Iv) 400)) 24 0 f) (g : (oB L).view.ty.Contents (Elt F)) {w : S384x128.Idx → Elt F .f32}
    (hw : w = (rB).view.read (Elt F) f) {i : S25088x128.Idx} (hi : i ∈ (oB L).view.set) :
    (oB L).view.writes (Elt F) g [⟨Rect.whole S384x128, w⟩] i = gath E Iv i := by
  obtain ⟨y, -, rfl⟩ := Finset.mem_map.mp hi
  have e := congrFun (View.read_writes_whole (oB L).view g w) y
  rw [View.read_apply, cast_eq] at e
  have hy : (y 0).val < 384 := (y 0).isLt
  have h0 : ((rB).view.emb y 0).val = 0 + (y 0).val := ValueKit.view_emb_slice_whole_unit_val cc0_scratch2 _ _ _ y 0
  have h1 : ((rB).view.emb y 1).val = 0 + (y 1).val := ValueKit.view_emb_slice_whole_unit_val cc0_scratch2 _ _ _ y 1
  rw [e, hw, View.read_apply, cast_eq, hf _ (Or.inl (by omega))]
  refine gath_row L (by omega) _ _ ?_ ?_
  · refine (ValueKit.view_emb_slice_whole_unit_val main_v1_scv _ _ _ y 0).trans ?_
    rw [congrFun (k0_off5_eq L) 0, h0, Nat.zero_add]; rfl
  · refine (ValueKit.view_emb_slice_whole_unit_val main_v1_scv _ _ _ y 1).trans ?_
    rw [congrFun (k0_off5_eq L) 1, h1]; rfl

theorem row_whole (y : S400x128.Idx) :
    ((sR).slice (Rect.unit (s := S400x128) ![0, 0] S400x128.size inb_S400x128_S400x128_0_0) (fun _ => rfl)).view.emb y = y := by
  funext a; apply Fin.ext
  refine (ValueKit.view_emb_slice_whole_unit_val cc0_scratch2 _ _ _ y a).trans ?_
  match a with
  | 0 => exact Nat.zero_add _
  | 1 => exact Nat.zero_add _

/-- What task `L` takes: the code book and the indices to read, its two pieces of the result to write. -/
abbrev tileIn (q : PosShare TreeShare) (Ev : S512x128.Idx → Elt F .f32) (Iv : S25088.Idx → BitVec 32) : sProp 𝕄 :=
  iprop((eLoc d ↦{q} Ev) ∗ (iLoc d ↦{q} Iv) ∗ (∃ f, oLoc d ↦[(oA L).view.set]{fullShare} f) ∗ ∃ f, oLoc d ↦[(oB L).view.set]{fullShare} f)
/-- What it brings back: the same, its pieces holding the gathered rows. -/
abbrev tileOut (q : PosShare TreeShare) (Ev : S512x128.Idx → Elt F .f32) (Iv : S25088.Idx → BitVec 32) : sProp 𝕄 :=
  iprop((eLoc d ↦{q} Ev) ∗ (iLoc d ↦{q} Iv) ∗ (oLoc d ↦[(oA L).view.set]{fullShare} gath Ev Iv) ∗ oLoc d ↦[(oB L).view.set]{fullShare} gath Ev Iv)

/-- Before trip `k`: the code book and the words in place, `k` groups of rows gathered. -/
def inv (Ev : S512x128.Idx → Elt F .f32) (w : S784.Idx → BitVec 32) (s : ℕ) (k : ℕ) (_ : BitVec 32) : sProp 𝕄 :=
  St d L Ev (rows w s) iprop(⌜True⌝ ∗ (vT d L).loc cc0_scratch1 ↦{fullShare} w) k 0

theorem inv_start {w : S784.Idx → BitVec 32} {s : ℕ} {b : BitVec 32} {f : S400x128.Idx → Elt F .f32} :
    (iprop(((sE).view.loc (vT d L) ↦{fullShare} Ev) ∗ ((sI).view.loc (vT d L) ↦{fullShare} w)
      ∗ ((vT d L).loc cc0_scratch2 ↦{fullShare} f)) : sProp 𝕄) ⊢ inv d L Ev w s 0 b := by
  show (iprop(((vT d L).loc cc0_scratch0 ↦{fullShare} Ev) ∗ ((vT d L).loc cc0_scratch1 ↦{fullShare} w)
      ∗ ((vT d L).loc cc0_scratch2 ↦{fullShare} f)) : sProp 𝕄) ⊢ _
  unfold inv St
  iintro ⟨HE, HI, Hf⟩
  isplitl [HI]
  · isplitr; · ipureintro; trivial
    iexact HI
  isplitl [HE]; · iexact HE
  iexists f; isplitr
  · ipureintro
    intro x hx; omega
  · iexact Hf

set_option maxHeartbeats 4000000 in
theorem tile_body (hF : (K (F := F)).Facts) (hI : ∀ y, (Iv y).toNat < 512) (O : CellTallies nD τ sig (HIx 1)) (W : Waits sig (HIx 1)) (hO : ∀ g, O g none = 0) :
    iprop(levAts (K (F := F)).L (K (F := F)).lev ∗ emp
        ∗ tileIn d L q Ev Iv ∗ scopedBufs (vT d L) ∗ scopedSems0 (vT d L) ∗ owes (vT d L) O W)
      ⊢ wp frame (wpE (defs₀ (F := F)) 𝒱₀ (vT d L) none) Set.univ
          (cc0_gk L eW (Memref.isWhole_whole _) iW (Memref.isWhole_whole _) oW (Memref.isWhole_whole _)
            sE (Memref.isWhole_whole _) sI (Memref.isWhole_whole _) sR (Memref.isWhole_whole _) cc0_scoped0 cc0_scoped1 cc0_scoped2 cc0_scoped3)
          fun _ => iprop(tileOut d L q Ev Iv ∗ scopedBufs (vT d L) ∗ scopedSems0 (vT d L)
            ∗ ∃ W', ⌜∀ p ∈ W', p ∈ W ∨ p.2 = none⌝ ∗ owes (vT d L) O W') := by
  simp only [cc0_gk_eq_skeleton]; unfold cc0_gk_skel
  simp only [k0_part23_eq_skeleton]; unfold k0_part23_skel
  rw [(K (F := F)).scopedBufs_V hF d (cV L) (jV L), SparseCore.Cfg.scopedSems0_V (Val := Elt F) d (cV L) (jV L), ownSems0_V, ownBufs_V]
  iintro ⟨#Hlv, -, ⟨He, Hi, ⟨%fA, HA⟩, %fB, HB⟩, ⟨⟨%fe, Hse⟩, ⟨%fi, Hsi⟩, ⟨%fr, Hsr⟩, Hbufs⟩, ⟨Hsem0, Hsem1, Hsem2, Hsem3, Hsems⟩, HO⟩
  ihave Hmw := ((K (F := F)).mayWaits_none (thr := vT d L) hO) $$ Hlv
  ihave He' := (Entails.of_eq (show (eLoc d ↦{q} Ev : sProp 𝕄) = ((eW).view.loc (vT d L) ↦{q} Ev) from rfl)) $$ He
  ihave Hi' := (Entails.of_eq (show (iLoc d ↦{q} Iv : sProp 𝕄) = ((iW).view.loc (vT d L) ↦{q} Iv) from rfl)) $$ Hi
  ihave HA' := (Entails.of_eq (show (oLoc d ↦[(oA L).view.set]{fullShare} fA : sProp 𝕄) = ((oA L).view.loc (vT d L) ↦[(oA L).view.set]{fullShare} fA) from rfl)) $$ HA
  ihave HB' := (Entails.of_eq (show (oLoc d ↦[(oB L).view.set]{fullShare} fB : sProp 𝕄) = ((oB L).view.loc (vT d L) ↦[(oB L).view.set]{fullShare} fB) from rfl)) $$ HB
  ihave Hse' := (Entails.of_eq (show ((vT d L).loc cc0_scratch0 ↦{fullShare} fe : sProp 𝕄) = ((sE).view.loc (vT d L) ↦{fullShare} fe) from rfl)) $$ Hse
  ihave Hsi' := (Entails.of_eq (show ((vT d L).loc cc0_scratch1 ↦{fullShare} fi : sProp 𝕄) = ((sI).view.loc (vT d L) ↦{fullShare} fi) from rfl)) $$ Hsi
  sl_exec
  rw [show tile_body.sl.v3 = lanesIota from rfl,
    show View.write (Elt F) (sE).view fe (tile_body.sl.dma0 (Ev := Ev)) Finset.univ = Ev from View.write_whole_univ _ _ _,
    show View.write (Elt F) (sI).view fi (tile_body.sl.dma0_1 (Iv := Iv) L) Finset.univ = words L Iv from
      (View.write_whole_univ _ _ _).trans (read_iK L Iv)]
  have hw : ∀ y, (words L Iv y).toNat < 512 := fun y => hI _
  rw [bind_assoc]
  sl_for (inv d L Ev (words L Iv) 0) $$ [Hse' Hsi' Hsr]
  case region =>
    intro k b
    unfold inv tile_body.sl.prog.body_1
    set_option maxRecDepth 65536 in exact (trip₁ d L (a2 := eW) (h2 := Memref.isWhole_whole _) (a3 := iW) (h3 := Memref.isWhole_whole _) (a4 := oW)
      (h4 := Memref.isWhole_whole _) (r0 := cc0_scoped0) (r1 := cc0_scoped1) (r2 := cc0_scoped2) (r3 := cc0_scoped3) hw k b)
  · iapply (inv_start d L (f := fr)) $$ [Hse' Hsi' Hsr]
    isplitl [Hse']; · iexact Hse'
    isplitl [Hsi']; · iexact Hsi'
    iexact Hsr
  iintro %acc Hinv
  unfold inv St
  icases Hinv with ⟨⟨-, Hsi⟩, Hse, %f1, %hf1, Hsr⟩
  ihave Hsr' := (Entails.of_eq (show ((vT d L).loc cc0_scratch2 ↦{fullShare} f1 : sProp 𝕄) = ((sR).view.loc (vT d L) ↦{fullShare} f1) from rfl)) $$ Hsr
  sl_exec
  rw [bind_assoc]
  sl_for (inv d L Ev (words L Iv) 400) $$ [Hse Hsi Hsr']
  case region =>
    intro k b
    unfold inv tile_body.sl.prog.body_2
    set_option maxRecDepth 65536 in exact (trip₂ d L (a2 := eW) (h2 := Memref.isWhole_whole _) (a3 := iW) (h3 := Memref.isWhole_whole _) (a4 := oW)
      (h4 := Memref.isWhole_whole _) (r0 := cc0_scoped0) (r1 := cc0_scoped1) (r2 := cc0_scoped2) (r3 := cc0_scoped3) hw k b)
  · iapply (inv_start d L (f := f1)) $$ [Hse Hsi Hsr']
    isplitl [Hse]; · iexact Hse
    isplitl [Hsi]; · iexact Hsi
    iexact Hsr'
  iintro %acc2 Hinv
  unfold inv St
  icases Hinv with ⟨⟨-, Hsi⟩, Hse, %f2, %hf2, Hsr⟩
  ihave Hsr' := (Entails.of_eq (show ((vT d L).loc cc0_scratch2 ↦{fullShare} f2 : sProp 𝕄) = ((sR).view.loc (vT d L) ↦{fullShare} f2) from rfl)) $$ Hsr
  sl_exec
  rw [k0_t1_trips] at hf1
  rw [k0_t2_trips] at hf2
  ihave HA := (Entails.of_eq (show ((oA L).view.loc (vT d L) ↦[(oA L).view.set]{fullShare}
      (oA L).view.writes (Elt F) fA [⟨Rect.whole S400x128, tile_body.sl.dma0_2 f1⟩] : sProp 𝕄) = oLoc d ↦[(oA L).view.set]{fullShare} gath Ev Iv from
    pointsTo_congr fun i hi => valA L hf1 fA (funext fun y => congrArg f1 (row_whole y)) hi)) $$ HA'
  ihave HB := (Entails.of_eq (show ((oB L).view.loc (vT d L) ↦[(oB L).view.set]{fullShare}
      (oB L).view.writes (Elt F) fB [⟨Rect.whole S384x128, tile_body.sl.dma0_3 f2⟩] : sProp 𝕄) = oLoc d ↦[(oB L).view.set]{fullShare} gath Ev Iv from
    pointsTo_congr fun i hi => valB L hf2 fB rfl hi)) $$ HB'
  rw [wp_ret]
  imodintro
  isplitl [He' Hi' HA HB]
  · unfold tileOut
    isplitl [He']; · iexact He'
    isplitl [Hi']; · iexact Hi'
    isplitl [HA]; · iexact HA
    iexact HB
  isplitl [Hse Hsi Hsr' Hbufs]
  · isplitl [Hse]; · iexists _; iexact Hse
    isplitl [Hsi]; · iexists _; iexact Hsi
    isplitl [Hsr']; · iexists _; iexact Hsr'
    iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists _; isplitr
  rotate_left
  · iexact HO
  · ipureintro
    intro p hp
    simp only [Finset.mem_insert] at hp
    rcases hp with rfl | rfl | rfl | rfl | hp
    iterate 4
      exact Or.inr rfl
    exact Or.inl hp

end Tile

end Cert.KernelIdeal.Gather

end
-- ==== Proof.Ideal.Deal.lean ====
/-
  How the call's arrays are dealt to the thirty-two tasks and joined again: the code book and the indices as read shares of the
  whole arrays, the result in the tasks' own rows.
-/
module

public import proofs.«01_k».proof.Proof.Ideal.Tile

@[expose] public section

noncomputable section

namespace Cert.KernelIdeal.Gather

open Cert.KernelIdeal Cert.KernelIdeal.Gen

open Idealize.ShloMosaic
open Idealize.ShloMosaic.SparseCore (S V T)
open Idealize.ShloMosaic.SparseCore.Cfg (HIx)
open Idealize.ShloMosaic.Transfers (shareTok shareDrop pointsTo_toks)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The grid point of SparseCore `c`'s vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem base_coordsV (c : Fin 2) (i : Fin 16) : base (coordsV c i) = 1568 * i.val + 784 * c.val := rfl

/-- The rows of one task, and of all the tasks of one SparseCore. -/
def taskRows (c : Fin 2) (i : Fin 16) : Finset S25088x128.Idx := (oA (coordsV c i)).view.set ∪ (oB (coordsV c i)).view.set
def coreRows (c : Fin 2) : Finset S25088x128.Idx := Finset.univ.biUnion (taskRows c)

theorem mem_oA (L : grid0.Coords) (x : S25088x128.Idx) : x ∈ (oA L).view.set ↔ base L ≤ (x 0).val ∧ (x 0).val < base L + 400 := by
  refine ValueKit.mem_set_slice_whole_iff main_v1_scv _ x ?_
  rw [Rect.mem_set_unit]
  have h1 : (x 1).val < 128 := (x 1).isLt
  constructor
  · intro h
    have h0 := h 0
    rw [congrFun (k0_off3_eq L) 0] at h0
    exact h0
  · intro h a
    match a with
    | 0 => rw [congrFun (k0_off3_eq L) 0]; exact h
    | 1 => rw [congrFun (k0_off3_eq L) 1]; exact ⟨Nat.zero_le _, by show (x 1).val < 0 + 128; omega⟩

theorem mem_oB (L : grid0.Coords) (x : S25088x128.Idx) : x ∈ (oB L).view.set ↔ base L + 400 ≤ (x 0).val ∧ (x 0).val < base L + 400 + 384 := by
  refine ValueKit.mem_set_slice_whole_iff main_v1_scv _ x ?_
  rw [Rect.mem_set_unit]
  have h1 : (x 1).val < 128 := (x 1).isLt
  constructor
  · intro h
    have h0 := h 0
    rw [congrFun (k0_off5_eq L) 0] at h0
    exact h0
  · intro h a
    match a with
    | 0 => rw [congrFun (k0_off5_eq L) 0]; exact h
    | 1 => rw [congrFun (k0_off5_eq L) 1]; exact ⟨Nat.zero_le _, by show (x 1).val < 0 + 128; omega⟩

theorem mem_taskRows (c : Fin 2) (i : Fin 16) (x : S25088x128.Idx) : x ∈ taskRows c i ↔ (x 0).val / 784 = 2 * i.val + c.val := by
  unfold taskRows
  rw [Finset.mem_union, mem_oA, mem_oB, base_coordsV]
  omega

theorem mem_coreRows (c : Fin 2) (x : S25088x128.Idx) : x ∈ coreRows c ↔ (x 0).val / 784 % 2 = c.val := by
  unfold coreRows
  have hx : (x 0).val < 25088 := (x 0).isLt
  have hc := c.isLt
  simp only [Finset.mem_biUnion, Finset.mem_univ, true_and, mem_taskRows]
  constructor
  · rintro ⟨i, hi⟩; omega
  · intro h; exact ⟨⟨(x 0).val / 784 / 2, by omega⟩, by show _ = 2 * ((x 0).val / 784 / 2) + _; omega⟩

theorem pieces_disjoint (L : grid0.Coords) : Disjoint (oA L).view.set (oB L).view.set := by
  refine Finset.disjoint_left.mpr fun x h1 h2 => ?_
  rw [mem_oA] at h1; rw [mem_oB] at h2; omega

theorem tasks_disjoint (c : Fin 2) : ∀ i ∈ (Finset.univ : Finset (Fin 16)), ∀ j ∈ (Finset.univ : Finset (Fin 16)), i ≠ j → Disjoint (taskRows c i) (taskRows c j) := by
  intro i _ j _ hij
  refine Finset.disjoint_left.mpr fun x h1 h2 => hij (Fin.ext ?_)
  rw [mem_taskRows] at h1 h2; omega

theorem cores_disjoint : ∀ c ∈ (Finset.univ : Finset (Fin 2)), ∀ c' ∈ (Finset.univ : Finset (Fin 2)), c ≠ c' → Disjoint (coreRows c) (coreRows c') := by
  intro c _ c' _ hc
  refine Finset.disjoint_left.mpr fun x h1 h2 => hc (Fin.ext ?_)
  rw [mem_coreRows] at h1 h2; omega

theorem cores_cover : (Finset.univ : Finset (Fin 2)).biUnion coreRows = Finset.univ := by
  refine Finset.eq_univ_of_forall fun x => Finset.mem_biUnion.mpr ⟨⟨(x 0).val / 784 % 2, Nat.mod_lt _ (by norm_num)⟩, Finset.mem_univ _, ?_⟩
  rw [mem_coreRows]

/-- The share of the code book and of the indices that a task reads under. -/
abbrev qV (c : Fin 2) (i : Fin 16) : PosShare TreeShare := shareTok (shareTok fullShare 2 c) 16 i

/-- What of an array remains when every task has its share. -/
def rest (ℓ : Loc nD τ sig) (f : Buf (Elt F) ℓ) : sProp 𝕄 :=
  iprop((ℓ ↦{shareDrop fullShare 2} f) ∗ bigSep Finset.univ fun c : Fin 2 => ℓ ↦{shareDrop (shareTok fullShare 2 c) 16} f)

/-- An array is its remainder and the tasks' shares of it. -/
theorem shares (ℓ : Loc nD τ sig) (f : Buf (Elt F) ℓ) :
    (ℓ ↦{fullShare} f : sProp 𝕄) ⊣⊢ iprop(rest ℓ f ∗ bigSep Finset.univ fun c : Fin 2 => bigSep Finset.univ fun i : Fin 16 => ℓ ↦{qV c i} f) := by
  have h : ∀ c : Fin 2, (ℓ ↦{shareTok fullShare 2 c} f : sProp 𝕄)
      ⊣⊢ iprop((ℓ ↦{shareDrop (shareTok fullShare 2 c) 16} f) ∗ bigSep Finset.univ fun i : Fin 16 => ℓ ↦{qV c i} f) := fun c => pointsTo_toks _ 16
  unfold rest
  constructor
  · refine (pointsTo_toks (S := Finset.univ) fullShare 2).1.trans ((sep_mono_right (bigSep_mono fun c _ => (h c).1)).trans ?_)
    rw [bigSep_sep']
    iintro ⟨H1, H2, H3⟩
    isplitl [H1 H2]
    · isplitl [H1] <;> iassumption
    iexact H3
  · refine BIBase.Entails.trans ?_ (pointsTo_toks (S := Finset.univ) fullShare 2).2
    refine BIBase.Entails.trans ?_ (sep_mono_right (bigSep_mono fun c _ => (h c).2))
    rw [bigSep_sep']
    iintro ⟨⟨H1, H2⟩, H3⟩
    isplitl [H1]; · iexact H1
    isplitl [H2] <;> iassumption

/-- The result is the tasks' pieces of it. -/
theorem pieces (d : Dev nD) (f : Buf (Elt F) (oLoc d)) :
    (oLoc d ↦{fullShare} f : sProp 𝕄) = bigSep Finset.univ fun c : Fin 2 => bigSep Finset.univ fun i : Fin 16 =>
      iprop((oLoc d ↦[(oA (coordsV c i)).view.set]{fullShare} f) ∗ oLoc d ↦[(oB (coordsV c i)).view.set]{fullShare} f) := by
  rw [← cores_cover, pointsTo_biUnion Finset.univ (ℓ := oLoc d) coreRows cores_disjoint]
  refine bigSep_congr fun c _ => ?_
  unfold coreRows
  rw [pointsTo_biUnion Finset.univ (ℓ := oLoc d) (taskRows c) (tasks_disjoint c)]
  refine bigSep_congr fun i _ => ?_
  exact BI.Entails.antisymm (pointsTo_union (ℓ := oLoc d) (pieces_disjoint _)).1 (pointsTo_union (ℓ := oLoc d) (pieces_disjoint _)).2

/-- What the call takes and brings back, besides the shares that stay behind. -/
abbrev behind (d : Dev nD) (E : S512x128.Idx → Elt F .f32) (I : S25088.Idx → BitVec 32) : sProp 𝕄 := iprop(rest (eLoc d) E ∗ rest (iLoc d) I)

theorem tileIn_of (d : Dev nD) (L : grid0.Coords) (q : PosShare TreeShare) (E : S512x128.Idx → Elt F .f32) (I : S25088.Idx → BitVec 32)
    (f : Buf (Elt F) (oLoc d)) :
    iprop((eLoc d ↦{q} E) ∗ (iLoc d ↦{q} I) ∗ (oLoc d ↦[(oA L).view.set]{fullShare} f) ∗ oLoc d ↦[(oB L).view.set]{fullShare} f)
      ⊢ (tileIn d L q E I : sProp 𝕄) := by
  iintro ⟨He, Hi, Ha, Hb⟩
  isplitl [He]; · iexact He
  isplitl [Hi]; · iexact Hi
  isplitl [Ha]
  · iexists f; iexact Ha
  · iexists f; iexact Hb

theorem deal (d : Dev nD) (E : S512x128.Idx → Elt F .f32) (I : S25088.Idx → BitVec 32) (f : Buf (Elt F) (oLoc d)) :
    iprop((eLoc d ↦{fullShare} E) ∗ (iLoc d ↦{fullShare} I) ∗ oLoc d ↦{fullShare} f)
      ⊢ (iprop(behind d E I ∗ bigSep Finset.univ fun c : Fin 2 => bigSep Finset.univ fun i : Fin 16 => tileIn d (coordsV c i) (qV c i) E I) : sProp 𝕄) := by
  have h : iprop((bigSep Finset.univ fun c : Fin 2 => bigSep Finset.univ fun i : Fin 16 => eLoc d ↦{qV c i} E)
      ∗ (bigSep Finset.univ fun c : Fin 2 => bigSep Finset.univ fun i : Fin 16 => iLoc d ↦{qV c i} I)
      ∗ bigSep Finset.univ fun c : Fin 2 => bigSep Finset.univ fun i : Fin 16 =>
        iprop((oLoc d ↦[(oA (coordsV c i)).view.set]{fullShare} f) ∗ oLoc d ↦[(oB (coordsV c i)).view.set]{fullShare} f))
      ⊢ (bigSep Finset.univ fun c : Fin 2 => bigSep Finset.univ fun i : Fin 16 => tileIn d (coordsV c i) (qV c i) E I : sProp 𝕄) := by
    rw [← bigSep_sep', ← bigSep_sep']
    refine bigSep_mono fun c _ => ?_
    rw [← bigSep_sep', ← bigSep_sep']
    refine bigSep_mono fun i _ => ?_
    exact tileIn_of d (coordsV c i) (qV c i) E I f
  rw [pieces]
  iintro ⟨He, Hi, Ho⟩
  ihave He := (shares (eLoc d) E).1 $$ He
  ihave Hi := (shares (iLoc d) I).1 $$ Hi
  icases He with ⟨Her, He⟩
  icases Hi with ⟨Hir, Hi⟩
  isplitl [Her Hir]
  · isplitl [Her] <;> iassumption
  iapply h
  isplitl [He]; · iexact He
  isplitl [Hi] <;> iassumption

theorem undeal (d : Dev nD) (E : S512x128.Idx → Elt F .f32) (I : S25088.Idx → BitVec 32) :
    iprop(behind d E I ∗ bigSep Finset.univ fun c : Fin 2 => bigSep Finset.univ fun i : Fin 16 => tileOut d (coordsV c i) (qV c i) E I)
      ⊢ (iprop((eLoc d ↦{fullShare} E) ∗ (iLoc d ↦{fullShare} I) ∗ oLoc d ↦{fullShare} gath E I) : sProp 𝕄) := by
  have h : (bigSep Finset.univ fun c : Fin 2 => bigSep Finset.univ fun i : Fin 16 => tileOut d (coordsV c i) (qV c i) E I : sProp 𝕄)
      = iprop((bigSep Finset.univ fun c : Fin 2 => bigSep Finset.univ fun i : Fin 16 => eLoc d ↦{qV c i} E)
      ∗ (bigSep Finset.univ fun c : Fin 2 => bigSep Finset.univ fun i : Fin 16 => iLoc d ↦{qV c i} I)
      ∗ bigSep Finset.univ fun c : Fin 2 => bigSep Finset.univ fun i : Fin 16 =>
        iprop((oLoc d ↦[(oA (coordsV c i)).view.set]{fullShare} gath E I) ∗ oLoc d ↦[(oB (coordsV c i)).view.set]{fullShare} gath E I)) := by
    rw [← bigSep_sep', ← bigSep_sep']
    refine bigSep_congr fun c _ => ?_
    rw [← bigSep_sep', ← bigSep_sep']
  rw [h, ← pieces]
  iintro ⟨⟨Her, Hir⟩, He, Hi, Ho⟩
  isplitl [Her He]
  · iapply (shares (eLoc d) E).2
    isplitl [Her] <;> iassumption
  isplitl [Hir Hi]
  · iapply (shares (iLoc d) I).2
    isplitl [Hir] <;> iassumption
  iexact Ho

end Cert.KernelIdeal.Gather

end
-- ==== Proof.Ideal.Launch.lean ====
/-
  The whole program run: the call's hand-over to the thirty-two tasks and back, @main around it, and what every final state holds:
  the arguments as they were, the result the gathered rows.
-/
module

public import proofs.«01_k».proof.Proof.Ideal.Deal

@[expose] public section

noncomputable section

namespace Cert.KernelIdeal.Gather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

variable (m : (ℓ : Loc nD τ sig) → Buf (Elt F) ℓ) (ρ : Dev nD → PrngReg)

/-! ## The arrays of @main -/

abbrev e' : DevRef τ sig := Proc.devRef .tc (main_arg0 : Ref sig .tc)
abbrev i' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev aLoc (d : Dev nD) : Loc nD τ sig := (SparseCore.T d).loc main_arg1
abbrev rLoc (d : Dev nD) : Loc nD τ sig := (SparseCore.T d).loc main_v2
abbrev op1 : HloOp τ sig (Elt F) := StableHlo.reshape main_arg1 main_v0 (rfl : (.i32 : EltTy) = .i32) shapeCasts_S8x3136x1_S25088
abbrev op2 : HloOp τ sig (Elt F) := StableHlo.reshape main_v1 main_v2 (rfl : (.f32 : EltTy) = .f32) shapeCasts_S25088x128_S8x56x56x128
abbrev S5 : Finset (DevRef τ sig) := {e', i', v0', v1', v2'}

/-- The code book, the indices in a row, and the gathered rows at the result's shape. -/
abbrev Em (d : Dev nD) : S512x128.Idx → Elt F .f32 := m (eLoc d)
def Im (d : Dev nD) : S25088.Idx → BitVec 32 := shapeCast S25088 (m (aLoc d) : S8x3136x1.Idx → Elt F .i32) shapeCasts_S8x3136x1_S25088
def res (d : Dev nD) : S8x56x56x128.Idx → Elt F .f32 := shapeCast S8x56x56x128 (gath (Em m d) (Im m d)) shapeCasts_S25088x128_S8x56x56x128

/-- Every index names a row of the code book. -/
def PreOK : Prop := ∀ (d : Dev nD) (y : S25088.Idx), (Im m d y).toNat < 512

theorem held_S5 (d : Dev nD) (W : Valuation τ sig (Elt F)) :
    (held (T d) S5 W : sProp 𝕄) = iprop((eLoc d ↦{fullShare} W e') ∗ (aLoc d ↦{fullShare} W i') ∗ (iLoc d ↦{fullShare} W v0')
      ∗ (oLoc d ↦{fullShare} W v1') ∗ rLoc d ↦{fullShare} W v2') := by
  unfold held S5
  rw [SparseCore.bigSep_insert' (by decide), SparseCore.bigSep_insert' (by decide), SparseCore.bigSep_insert' (by decide),
    SparseCore.bigSep_insert' (by decide), bigSep_singleton]

/-- The launch's contents; after the first reshape; after the call; after the last reshape. -/
def V0 (d : Dev nD) : Valuation τ sig (Elt F) := fun b => m (d, b)
abbrev V1 (d : Dev nD) : Valuation τ sig (Elt F) := (op1 (F := F)).result (V0 m d)
def V2 (d : Dev nD) : Valuation τ sig (Elt F) := Function.update (V1 m d) v1' (gath (Em m d) (Im m d))
abbrev V3 (d : Dev nD) : Valuation τ sig (Elt F) := (op2 (F := F)).result (V2 m d)

theorem unscoped_held (d : Dev nD) : (unscopedBufs d (fun b => m ((SparseCore.T d).loc b)) : sProp 𝕄) = held (T d) S5 (V0 m d) := by
  rw [held_S5]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]
  rfl

theorem V1_ne (d : Dev nD) {b : DevRef τ sig} (h : b ≠ v0') : V1 m d b = V0 m d b :=
  (op1 (F := F)).result_of_not_mem (V0 m d) (Finset.notMem_singleton.mpr h)
theorem V1_v0 (d : Dev nD) : V1 m d v0' = Im m d := StableHlo.reshape_result _ _ _ _ _ _ _
theorem V2_ne (d : Dev nD) {b : DevRef τ sig} (h : b ≠ v1') : V2 m d b = V1 m d b := Function.update_of_ne h _ _
theorem V2_v1 (d : Dev nD) : V2 m d v1' = gath (Em m d) (Im m d) := Function.update_self _ _ _
theorem V3_ne (d : Dev nD) {b : DevRef τ sig} (h : b ≠ v2') : V3 m d b = V2 m d b :=
  (op2 (F := F)).result_of_not_mem (V2 m d) (Finset.notMem_singleton.mpr h)
theorem V3_v2 (d : Dev nD) : V3 m d v2' = res m d := by
  refine (StableHlo.reshape_result _ _ _ _ _ _ _).trans ?_
  unfold res
  rw [show V2 m d (Proc.devRef .tc (main_v1 : Ref sig .tc)) = gath (Em m d) (Im m d) from V2_v1 m d]
  rfl

/-! ## What the handshakes carry -/

/-- The call takes and brings back every task's part; nothing of the kernel's own is dealt at the launch. -/
def P : (K (F := F)).Pay (nD := nD) (Val := Elt F) (Name := ℕ) (U := UU) where
  st := fun q d c => match q with
    | 0 => bigSep Finset.univ fun i : Fin 16 => tileIn d (coordsV c i) (qV c i) (Em m d) (Im m d)
  dn := fun q d c => match q with
    | 0 => bigSep Finset.univ fun i : Fin 16 => tileOut d (coordsV c i) (qV c i) (Em m d) (Im m d)
  go := fun q d c i => match q with
    | 0 => tileIn d (coordsV c i) (qV c i) (Em m d) (Im m d)
  td := fun q d c i => match q with
    | 0 => tileOut d (coordsV c i) (qV c i) (Em m d) (Im m d)
  x := fun _ _ => iprop(emp)

instance tileIn_storable (d : Dev nD) (L : grid0.Coords) (q : PosShare TreeShare) (E : S512x128.Idx → Elt F .f32) (I : S25088.Idx → BitVec 32) :
    BI.Storable (upEmb : UEmb _ 𝕄) (tileIn d L q E I) := by unfold tileIn; infer_instance
instance tileOut_storable (d : Dev nD) (L : grid0.Coords) (q : PosShare TreeShare) (E : S512x128.Idx → Elt F .f32) (I : S25088.Idx → BitVec 32) :
    BI.Storable (upEmb : UEmb _ 𝕄) (tileOut d L q E I) := by unfold tileOut; infer_instance

instance P_storable : (P (F := F) m).IsStorable where
  st q d c := match q with
    | 0 => (inferInstance : BI.Storable (upEmb : UEmb _ 𝕄) (bigSep Finset.univ fun i : Fin 16 => tileIn d (coordsV c i) (qV c i) (Em m d) (Im m d)))
  dn q d c := match q with
    | 0 => (inferInstance : BI.Storable (upEmb : UEmb _ 𝕄) (bigSep Finset.univ fun i : Fin 16 => tileOut d (coordsV c i) (qV c i) (Em m d) (Im m d)))
  go q d c i := match q with
    | 0 => (inferInstance : BI.Storable (upEmb : UEmb _ 𝕄) (tileIn d (coordsV c i) (qV c i) (Em m d) (Im m d)))
  td q d c i := match q with
    | 0 => (inferInstance : BI.Storable (upEmb : UEmb _ 𝕄) (tileOut d (coordsV c i) (qV c i) (Em m d) (Im m d)))

/-! ## The launch theorem's obligations -/

theorem defs₀_vector (c : Fin τ.nSC) (s : Fin τ.nSub) :
    defs₀ (F := F) (.scVector c s) 0 ()
      = SparseCore.onTile hcore0 hsub0 (fun c s => cc0_gk (coordsV c s) eW (Memref.isWhole_whole _) iW (Memref.isWhole_whole _) oW (Memref.isWhole_whole _)
          sE (Memref.isWhole_whole _) sI (Memref.isWhole_whole _) sR (Memref.isWhole_whole _) cc0_scoped0 cc0_scoped1 cc0_scoped2 cc0_scoped3) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (hpre d) O W hO).trans (wp_mono frame _ _ fun _ => obl_post)

theorem vecSplit : (K (F := F)).VecSplit' (P m) 0 := by
  intro d c
  show (bigSep Finset.univ fun i : Fin 16 => tileIn d (coordsV c i) (qV c i) (Em m d) (Im m d)) ⊢ |={Set.univ}=> iprop(
      (bigSep Finset.univ fun i : Fin 16 => tileIn d (coordsV c i) (qV c i) (Em m d) (Im m d))
      ∗ ((bigSep Finset.univ fun i : Fin 16 => tileOut d (coordsV c i) (qV c i) (Em m d) (Im m d))
        -∗ bigSep Finset.univ fun i : Fin 16 => tileOut d (coordsV c i) (qV c i) (Em m d) (Im m d)))
  iintro H; imodintro
  isplitl [H]; · iexact H
  iintro H; iexact H

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

theorem st0_eq (d : Dev nD) : (bigSep Finset.univ fun c : Fin ((K (F := F)).nCore 0) => (P m).st 0 d c)
    = bigSep Finset.univ fun c : Fin 2 => bigSep Finset.univ fun i : Fin 16 => tileIn d (coordsV c i) (qV c i) (Em m d) (Im m d) := rfl
theorem dn0_eq (d : Dev nD) : (bigSep Finset.univ fun c : Fin ((K (F := F)).nCore 0) => (P m).dn 0 d c)
    = bigSep Finset.univ fun c : Fin 2 => bigSep Finset.univ fun i : Fin 16 => tileOut d (coordsV c i) (qV c i) (Em m d) (Im m d) := rfl

theorem hop1 : (op1 (F := F)).bufs ⊆ S5 := show ({i', v0'} : Finset (DevRef τ sig)) ⊆ S5 by decide
theorem hop2 : (op2 (F := F)).bufs ⊆ S5 := show ({v1', v2'} : Finset (DevRef τ sig)) ⊆ S5 by decide

/-- What @main leaves: the arguments at their launch contents, the result the gathered rows. -/
abbrev FIN (d : Dev nD) : sProp 𝕄 := iprop((eLoc d ↦{fullShare} m (eLoc d)) ∗ (aLoc d ↦{fullShare} m (aLoc d)) ∗ rLoc d ↦{fullShare} res m d)

theorem held_V1 (d : Dev nD) : (held (T d) S5 (V1 m d) : sProp 𝕄)
    = iprop((eLoc d ↦{fullShare} Em m d) ∗ (aLoc d ↦{fullShare} m (aLoc d)) ∗ (iLoc d ↦{fullShare} Im m d)
      ∗ (oLoc d ↦{fullShare} V1 m d v1') ∗ rLoc d ↦{fullShare} V1 m d v2') := by
  rw [held_S5, V1_v0, V1_ne m d (b := e') (by decide), V1_ne m d (b := i') (by decide)]; rfl

theorem held_V2 (d : Dev nD) : (held (T d) S5 (V2 m d) : sProp 𝕄)
    = iprop((eLoc d ↦{fullShare} Em m d) ∗ (aLoc d ↦{fullShare} m (aLoc d)) ∗ (iLoc d ↦{fullShare} Im m d)
      ∗ (oLoc d ↦{fullShare} gath (Em m d) (Im m d)) ∗ rLoc d ↦{fullShare} V1 m d v2') := by
  rw [held_S5, V2_v1, V2_ne m d (b := e') (by decide), V2_ne m d (b := i') (by decide), V2_ne m d (b := v0') (by decide),
    V2_ne m d (b := v2') (by decide), V1_v0, V1_ne m d (b := e') (by decide), V1_ne m d (b := i') (by decide)]; rfl

theorem held_V3 (d : Dev nD) : (held (T d) S5 (V3 m d) : sProp 𝕄)
    = iprop((eLoc d ↦{fullShare} m (eLoc d)) ∗ (aLoc d ↦{fullShare} m (aLoc d)) ∗ (iLoc d ↦{fullShare} V3 m d v0')
      ∗ (oLoc d ↦{fullShare} V3 m d v1') ∗ rLoc d ↦{fullShare} res m d) := by
  rw [held_S5, V3_v2, V3_ne m d (b := e') (by decide), V3_ne m d (b := i') (by decide), V2_ne m d (b := e') (by decide),
    V2_ne m d (b := i') (by decide), V1_ne m d (b := e') (by decide), V1_ne m d (b := i') (by decide)]; rfl

/-- @main on device `d`'s TensorCore: the indices in a row, the call, the rows at the result's shape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op1) (S := S5) hop1 (V := V0 m d)) $$ [Hb Hheld]
  · isplitl [Hb]; · iexact Hb
    iexact Hheld
  iintro ⟨Hb, Hheld⟩
  ihave Hh := (Entails.of_eq (held_V1 (F := F) m d)) $$ Hheld
  icases Hh with ⟨He, Ha, Hi, Ho, Hr⟩
  ihave Hd := (deal d (Em m d) (Im m d) _) $$ [He Hi Ho]
  · isplitl [He]; · iexact He
    isplitl [Hi] <;> iassumption
  icases Hd with ⟨Hbehind, Hdeal⟩
  rw [wp_ret]; imodintro
  iapply ((K (F := F)).wp_run (D (F := F)) 𝒱 (EH := EH) (P := P m) κ d 0) $$ [Hst Hdeal Hb Ha Hr Hbehind Hts]
  isplitr; · iexact Hctx
  isplitl [Hst]; · iexact Hst
  isplitl [Hdeal]
  · rw [st0_eq]; iexact Hdeal
  iintro ⟨Hst, Hdn⟩
  ihave Hdn' := (Entails.of_eq (dn0_eq m d)) $$ Hdn
  ihave Hu := (undeal d (Em m d) (Im m d)) $$ [Hbehind Hdn']
  · isplitl [Hbehind] <;> iassumption
  icases Hu with ⟨He, Hi, Ho⟩
  iapply (wp_hlo_within 𝒱 (SparseCore.T d) none Set.univ (op := op2) (S := S5) hop2 (V := V2 m d)) $$ [Hb He Ha Hi Ho Hr]
  · isplitl [Hb]; · iexact Hb
    rw [held_V2]
    isplitl [He]; · iexact He
    isplitl [Ha]; · iexact Ha
    isplitl [Hi]; · iexact Hi
    isplitl [Ho] <;> iassumption
  iintro ⟨Hb, Hheld⟩
  ihave Hh := (Entails.of_eq (held_V3 (F := F) m d)) $$ Hheld
  icases Hh with ⟨He, Ha, -, -, Hr⟩
  rw [wp_ret]; imodintro; imodintro
  isplitl [Hst]; · iexact Hst
  isplitr [Hb Hts]
  · isplitl [He]; · iexact He
    isplitl [Ha] <;> iassumption
  isplitl [Hb] <;> iassumption

def fq (d : Dev nD) (s' : Phys nD τ sig (Elt F)) : Prop :=
  s'.mem.mem (rLoc d) = res m d ∧ s'.mem.mem (eLoc d) = m (eLoc d) ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨He, Ha, Hr⟩, HSI⟩
  ihave H := (persistent_entails_right (SI_pointsTo_agree (st := s') (ℓ := eLoc d) (I := Finset.univ) (q := fullShare) (f := m (eLoc d)))) $$ [HSI He]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := rLoc d) (I := Finset.univ) (q := fullShare) (f := res m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r =>
  (∀ c : Dev nD, r.2.mem (rLoc c) = res m c ∧ r.2.mem (eLoc c) = m (eLoc c) ∧ r.2.mem (aLoc c) = m (aLoc c)) ∧ r.2.sem = fun _ => 0

/-- Every execution from `m`, its indices all below 512, ends with the gathered rows in the result and the arguments as they were. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Gather

end
-- ==== Proof.Ideal.Take.lean ====
/-
  The reference read back: under the precondition every index names a row of the code book, so the reference's indexing neither
  wraps an index nor fills a row, and its result is the gathered rows at the result's shape. And the precondition, read.
-/
module

public import proofs.«01_k».proof.Proof.Ideal.Launch
public import proofs.«01_k».proof.Proof.Gen.ReferenceIdeal.Run
public import proofs.«01_k».proof.Proof.Gen.Pre_names_a_code
public import Idealize.ShloMosaic.Lib.ReduceAll
public import Idealize.ShloMosaic.Lib.Routing.Ops

@[expose] public section

noncomputable section

namespace Cert.ReferenceIdeal.Take

open Cert.ReferenceIdeal Cert.ReferenceIdeal.Gen Idealize.ShloMosaic Idealize.ShloMosaic.TcCoe Idealize.SL.Sem

variable {F : FTy → Type} [FloatOps F]

/-! ## The indices as the reference uses them -/

/-- The indices in a column, 512 added to the negative ones. -/
def wrapped (I : S25088.Idx → BitVec 32) : S25088x1.Idx → BitVec 32 :=
  broadcastInDim S25088x1 ![0] bcast_S25088_S25088x1_0
    (select (cmpi .slt I (broadcastInDim S25088 ![] bcast_S_S25088 (constantI S_ 32 0#32)))
      (addi I (broadcastInDim S25088 ![] bcast_S_S25088 (constantI S_ 32 512#32))) I)

/-- A word below 512, read as a signed word, is its own value. -/
theorem toInt_small {v : BitVec 32} (h : v.toNat < 512) : v.toInt = v.toNat := by
  rw [BitVec.toInt_eq_toNat_cond, if_pos (by omega)]

/-- No index below 512 is negative, so none is wrapped. -/
theorem unwrapped {I : S25088.Idx → BitVec 32} (hI : ∀ y, (I y).toNat < 512) :
    select (cmpi .slt I (broadcastInDim S25088 ![] bcast_S_S25088 (constantI S_ 32 0#32)))
      (addi I (broadcastInDim S25088 ![] bcast_S_S25088 (constantI S_ 32 512#32))) I = I := by
  funext y
  have hn : ¬ (IntOp.cmpi .slt (I y) 0#32 = 1#1) := fun e => by
    have h1 := IntOp.cmpi_slt.1 e
    rw [toInt_small (hI y)] at h1
    have h0 : (0#32 : BitVec 32).toInt = 0 := rfl
    omega
  rw [ValueIdx.select_apply]
  exact if_neg hn

theorem wrapped_at {I : S25088.Idx → BitVec 32} (hI : ∀ y, (I y).toNat < 512) (c : Fin 25088) (z : Fin 1) :
    wrapped I (ValueIdx.ix2 c z) = I (ValueIdx.ix1 c) := by
  unfold wrapped
  rw [unwrapped hI]
  exact broadcastInDim_apply _ _ _ _ _ fun a => by
    match a with
    | ⟨0, _⟩ => rfl

theorem wrapped_small {I : S25088.Idx → BitVec 32} (hI : ∀ y, (I y).toNat < 512) (j : S25088x1.Idx) : (wrapped I j).toNat < 512 := by
  unfold wrapped
  rw [unwrapped hI]
  exact hI _

/-- The reference's range check passes at every index. -/
theorem in_range {I : S25088.Idx → BitVec 32} (hI : ∀ y, (I y).toNat < 512) (j : S25088x1.Idx) :
    andi (cmpi .sge (wrapped I) (broadcastInDim S25088x1 ![] bcast_S_S25088x1 (constantI S_ 32 0#32)))
      (cmpi .sle (wrapped I) (broadcastInDim S25088x1 ![0, 1] bcast_S1x1_S25088x1_0_1 (broadcastInDim S1x1 ![1] bcast_S1_S1x1_1 (constantI S1 32 511#32)))) j = 1#1 := by
  have hw := wrapped_small hI j
  refine IntOp.andi_eq_one.2 ⟨IntOp.cmpi_sge.2 ?_, IntOp.cmpi_sle.2 ?_⟩
  · show (0#32 : BitVec 32).toInt ≤ (wrapped I j).toInt
    rw [toInt_small hw]; exact Int.natCast_nonneg _
  · show (wrapped I j).toInt ≤ (511#32 : BitVec 32).toInt
    rw [toInt_small hw, show (511#32 : BitVec 32).toInt = 511 from rfl]; omega

/-- The reference's range check, one bit for each index. -/
def mask (I : S25088.Idx → BitVec 32) : S25088.Idx → BitVec 1 :=
  Host.reduce IntOp.andi
    (andi (cmpi .sge (wrapped I) (broadcastInDim S25088x1 ![] bcast_S_S25088x1 (constantI S_ 32 0#32)))
      (cmpi .sle (wrapped I) (broadcastInDim S25088x1 ![0, 1] bcast_S1x1_S25088x1_0_1 (broadcastInDim S1x1 ![1] bcast_S1_S1x1_1 (constantI S1 32 511#32)))))
    (constantI S_ 1 1#1) reducesTo_S25088x1_S25088_d1 h_S_

theorem mask_one {I : S25088.Idx → BitVec 32} (hI : ∀ y, (I y).toNat < 512) (j : S25088.Idx) : mask I j = 1#1 :=
  Host.reduce_andi_one _ _ _ _ j rfl (in_range hI)

/-- What the reference takes from the code book, before its last reshape. -/
def taken (E : S512x128.Idx → Elt F .f32) (I : S25088.Idx → BitVec 32) : S25088x128.Idx → Elt F .f32 :=
  select (broadcastInDim S25088x128 ![0] bcast_S25088_S25088x128_0
      (mask I))
    (Host.gather gather_S512x128_S25088x1_S25088x128_1_0_n_n_0_1_1128 E (wrapped I))
    (broadcastInDim S25088x128 ![] bcast_S_S25088x128 (constant S_ .f32 0x7FC00000#32))

/-- The rows the reference takes are the rows the indices name. -/
theorem taken_eq (E : S512x128.Idx → Elt F .f32) {I : S25088.Idx → BitVec 32} (hI : ∀ y, (I y).toNat < 512) :
    taken E I = Cert.KernelIdeal.Gather.gath E I := by
  funext x
  unfold taken
  rw [ValueIdx.select_apply]
  have hm : broadcastInDim S25088x128 ![0] bcast_S25088_S25088x128_0 (mask I) x = 1#1 := by
    unfold broadcastInDim; exact mask_one hI _
  refine (if_pos hm).trans ?_
  clear hm
  obtain ⟨c, y, rfl⟩ : ∃ (c : Fin 25088) (y : Fin 128), x = ValueIdx.ix2 c y := ⟨x 0, x 1, by funext a; match a with | ⟨0, _⟩ => rfl | ⟨1, _⟩ => rfl⟩
  have hc : I (ValueIdx.ix1 c) = I (Cert.KernelIdeal.Gather.atI c.val) := congrArg I (by
    funext a
    match a with
    | ⟨0, _⟩ => exact Fin.ext (Nat.mod_eq_of_lt c.isLt).symm)
  refine (Routing.gather_row (nb := 512) (B := 128) (n := 25088) _ rfl rfl rfl rfl rfl E (wrapped I) c y ⟨(I (ValueIdx.ix1 c)).toNat, hI _⟩
    ((wrapped_at hI c 0).trans (BitVec.eq_of_toNat_eq (by rw [BitVec.toNat_ofNat]; exact (Nat.mod_eq_of_lt (I (ValueIdx.ix1 c)).isLt).symm))) (by norm_num)).trans ?_
  unfold Cert.KernelIdeal.Gather.gath
  refine congrArg E ?_
  funext a
  match a with
  | ⟨0, _⟩ => exact Fin.ext (show (I (ValueIdx.ix1 c)).toNat = _ % 512 by rw [← hc]; exact (Nat.mod_eq_of_lt (hI _)).symm)
  | ⟨1, _⟩ => rfl

/-! ## The precondition -/

/-- The precondition says that every index is at least 0 and below 512. -/
theorem small_of_pre (e : FVec F Cert.Pre_names_a_code.S512x128 .f32) (i : IVec Cert.Pre_names_a_code.S8x3136x1 32)
    (h : Cert.Pre_names_a_code.fn e i = fun _ => 1#1) (y : S8x3136x1.Idx) : (i y).toNat < 512 := by
  have h0 := congrFun h (fun a => a.elim0)
  unfold Cert.Pre_names_a_code.fn at h0
  obtain ⟨hge, hlt⟩ := IntOp.andi_eq_one.1 h0
  haveI : Subsingleton Cert.Pre_names_a_code.S_.Idx := ⟨fun a b => funext fun k => k.elim0⟩
  have h1 := IntOp.cmpi_sge.1 (Host.reduce_andi_all _ _ _ _ _ hge y)
  have h2 := IntOp.cmpi_slt.1 (Host.reduce_andi_all _ _ _ _ _ hlt y)
  have h1' : (0#32 : BitVec 32).toInt ≤ (i y).toInt := h1
  have h2' : (i y).toInt < (512#32 : BitVec 32).toInt := h2
  rw [show (0#32 : BitVec 32).toInt = 0 from rfl] at h1'
  rw [show (512#32 : BitVec 32).toInt = 512 from rfl] at h2'
  rw [BitVec.toInt_eq_toNat_cond] at h1' h2'
  have := (i y).isLt
  split at h1' <;> omega

/-- Under the precondition the kernel's indices, in a row, all name rows. -/
theorem preOK (m : (ℓ : Loc Cert.KernelIdeal.nD Cert.KernelIdeal.τ Cert.KernelIdeal.sig) → Buf (Elt F) ℓ)
    (h : ∀ c : Dev Cert.KernelIdeal.nD, Cert.Pre_names_a_code.fn (F := F) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1) : Cert.KernelIdeal.Gather.PreOK m :=
  fun d y => small_of_pre _ _ (h d) _

/-- The reference's run: its result is the gathered rows of its own arguments, which stay as they were, and every counter is at zero. -/
theorem run_taken (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = shapeCast S8x56x56x128 (taken (m ((c.tc : Thread nD τ).loc main_arg0))
          (shapeCast S25088 (m ((c.tc : Thread nD τ).loc main_arg1)) shapeCasts_S8x3136x1_S25088)) shapeCasts_S25088x128_S8x56x56x128
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1, (h c).2.1, (h c).2.2⟩) (Value.run m ρ)

/-- The reference's frame: it declares no semaphore, so every counter is at zero. -/
theorem frame_r (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) r.2⟩) (run_taken m ρ)

/-- The kernel's frame under the precondition. -/
theorem frame_k [∀ e, Nonempty (Elt F e)] (m : (ℓ : Loc Cert.KernelIdeal.nD Cert.KernelIdeal.τ Cert.KernelIdeal.sig) → Buf (Elt F) ℓ) (ρ : Dev Cert.KernelIdeal.nD → PrngReg)
    (h : ∀ c : Dev Cert.KernelIdeal.nD, Cert.Pre_names_a_code.fn (F := F) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1) :
    θ_run (Cert.KernelIdeal.defs (F := F)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.KernelIdeal.Gather.run_main m ρ (preOK m h))

/-- From memories that agree on the arguments the kernel and the reference end with the same result. -/
theorem same [∀ e, Nonempty (Elt F e)] (m : (ℓ : Loc Cert.KernelIdeal.nD Cert.KernelIdeal.τ Cert.KernelIdeal.sig) → Buf (Elt F) ℓ) (ρ : Dev Cert.KernelIdeal.nD → PrngReg)
    (m' : (ℓ : Loc nD τ sig) → Buf (Elt F) ℓ) (ρ' : Dev nD → PrngReg)
    (h : ∀ c : Dev Cert.KernelIdeal.nD, Cert.Pre_names_a_code.fn (F := F) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1)
    (hag : ∀ c : Dev Cert.KernelIdeal.nD,
      m' ((c.tc : Thread nD τ).loc main_arg0) = m ((c.tc : Thread Cert.KernelIdeal.nD Cert.KernelIdeal.τ).loc Cert.KernelIdeal.main_arg0)
      ∧ m' ((c.tc : Thread nD τ).loc main_arg1) = m ((c.tc : Thread Cert.KernelIdeal.nD Cert.KernelIdeal.τ).loc Cert.KernelIdeal.main_arg1)) :
    ∃ (v0 : (c : Dev Cert.KernelIdeal.nD) → Buf (Elt F) ((c.tc : Thread Cert.KernelIdeal.nD Cert.KernelIdeal.τ).loc Cert.KernelIdeal.main_v2)),
      θ_run (Cert.KernelIdeal.defs (F := F)) (Cert.KernelIdeal.threads (F := F)) ⟨m, fun _ => 0, ρ⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (defs (F := F)) (onTc (τ := τ) (main (F := F))) ⟨m', fun _ => 0, ρ'⟩ (fun r => ∀ c : Dev nD,
          r.2.mem ((c.tc : Thread nD τ).loc main_v2) = v0 c
          ∧ r.2.mem ((c.tc : Thread nD τ).loc main_arg0) = m' ((c.tc : Thread nD τ).loc main_arg0)
          ∧ r.2.mem ((c.tc : Thread nD τ).loc main_arg1) = m' ((c.tc : Thread nD τ).loc main_arg1)) := by
  have hp := preOK m h
  refine ⟨fun c => Cert.KernelIdeal.Gather.res m c, (θ_run Cert.KernelIdeal.defs _ _).mono (fun _ h c => h.1 c) (Cert.KernelIdeal.Gather.run_main m ρ hp), ?_⟩
  refine (θ_run defs _ _).mono (fun _ h c => ⟨(h c).1.trans ?_, (h c).2⟩) (run_taken m' ρ')
  have e0 := (hag c).1
  have e1 := (hag c).2
  rw [e0, e1]
  exact congrArg (fun T => shapeCast S8x56x56x128 T shapeCasts_S25088x128_S8x56x56x128) (taken_eq _ (hp c))

end Cert.ReferenceIdeal.Take

end
-- ==== Proof.Last.Weights.lean ====
module

public import proofs.«01_k».proof.Proof.Gen.LastIdeal.Value
public import Idealize.ShloMosaic.Lib.Pointwise
public import Idealize.ShloMosaic.Lib.StableHlo.RunRead
public import Idealize.ShloMosaic.Lib.Routing.OpsOne

@[expose] public section

noncomputable section

namespace Cert.LastIdeal.Layer

open Cert.LastIdeal Cert.LastIdeal.Gen Idealize.ShloMosaic Idealize.ShloMosaic.TcCoe Idealize.SL.Sem

variable {F : FTy → Type} [FloatOps F]

/-- A tap of the convolution at a phase of its output: the row's phase, the tap's row, the column's phase, the tap's column. -/
abbrev Tap : Type := Fin 2 × Fin 3 × Fin 2 × Fin 3

/-- The host's step of one tap: 64 rows and 3 columns of a matrix of weights set to the convolution's weights at that tap. -/
def put (w : Vec F S3x3x64x3 .f32) (x : Vec F S128x12 .f32) (q : Tap) : Vec F S128x12 .f32 :=
  have i : IVec S1 32 := broadcastInDim S1 ![] bcast_S_S1 (constantI S_ 32 (BitVec.ofNat 32 (64 * ((q.2.2.1.val + q.2.2.2.val + 1) % 2))))
  have j : IVec S1 32 := broadcastInDim S1 ![] bcast_S_S1 (constantI S_ 32 (BitVec.ofNat 32 (3 * (2 * q.1.val + q.2.2.1.val))))
  have u : Vec F S1x1x64x3 .f32 := extractStridedSlice S1x1x64x3 ![q.2.1.val, q.2.2.2.val, 0, 0] w (by
    refine ⟨rfl, fun a => ?_⟩
    have := q.2.1.isLt; have := q.2.2.2.isLt
    fin_cases a <;> simp [S3x3x64x3, S1x1x64x3] <;> omega)
  Host.scatter scatter_S128x12_S2_S64x3_01_n_01_0 (fun _ b => b) x (concatenate S2 0 [⟨S1, i⟩, ⟨S1, j⟩] concatenates_S1_S1_S2_d0)
    (shapeCast S64x3 u shapeCasts_S1x1x64x3_S64x3)

/-- The taps in the order in which the host takes them. -/
def allTaps : List Tap :=
  [(0, 0, 0, 0), (0, 0, 0, 1), (0, 0, 0, 2), (0, 0, 1, 0), (0, 0, 1, 1), (0, 0, 1, 2),
   (0, 1, 0, 0), (0, 1, 0, 1), (0, 1, 0, 2), (0, 1, 1, 0), (0, 1, 1, 1), (0, 1, 1, 2),
   (0, 2, 0, 0), (0, 2, 0, 1), (0, 2, 0, 2), (0, 2, 1, 0), (0, 2, 1, 1), (0, 2, 1, 2),
   (1, 0, 0, 0), (1, 0, 0, 1), (1, 0, 0, 2), (1, 0, 1, 0), (1, 0, 1, 1), (1, 0, 1, 2),
   (1, 1, 0, 0), (1, 1, 0, 1), (1, 1, 0, 2), (1, 1, 1, 0), (1, 1, 1, 1), (1, 1, 1, 2),
   (1, 2, 0, 0), (1, 2, 0, 1), (1, 2, 0, 2), (1, 2, 1, 0), (1, 2, 1, 1), (1, 2, 1, 2)]

/-- Those among them that read the phases' window at row tap `t` and column `sc`. -/
def taps (t : Fin 4) (sc : Fin 3) : List Tap :=
  allTaps.filter fun q => Nat.beq (q.1.val + q.2.1.val) t.val && Nat.beq ((q.2.2.1.val + q.2.2.2.val + 1) / 2) sc.val

/-- The matrix of weights of row tap `t` and column `sc`. -/
def mat (w : Vec F S3x3x64x3 .f32) (t : Fin 4) (sc : Fin 3) : Vec F S128x12 .f32 :=
  (taps t sc).foldl (put w) (broadcastInDim S128x12 ![] bcast_S_S128x12 (constant S_ .f32 0x00000000#32))

/-- The three matrices of a row tap. -/
def row (w : Vec F S3x3x64x3 .f32) (t : Fin 4) : Vec F S3x128x12 .f32 :=
  concatenate S3x128x12 0 [⟨S1x128x12, broadcastInDim S1x128x12 ![1, 2] bcast_S128x12_S1x128x12_1_2 (mat w t 0)⟩,
    ⟨S1x128x12, broadcastInDim S1x128x12 ![1, 2] bcast_S128x12_S1x128x12_1_2 (mat w t 1)⟩,
    ⟨S1x128x12, broadcastInDim S1x128x12 ![1, 2] bcast_S128x12_S1x128x12_1_2 (mat w t 2)⟩] concatenates_S1x128x12_S1x128x12_S1x128x12_S3x128x12_d0

/-- The prepared weights. -/
def weights (w : Vec F S3x64x3x3 .f32) : Vec F S4x3x128x12 .f32 :=
  have v : Vec F S3x3x64x3 .f32 := transpose S3x3x64x3 [2, 3, 1, 0] w transposes_S3x64x3x3_S3x3x64x3_2_3_1_0
  concatenate S4x3x128x12 0 [⟨S1x3x128x12, broadcastInDim S1x3x128x12 ![1, 2, 3] bcast_S3x128x12_S1x3x128x12_1_2_3 (row v 0)⟩,
    ⟨S1x3x128x12, broadcastInDim S1x3x128x12 ![1, 2, 3] bcast_S3x128x12_S1x3x128x12_1_2_3 (row v 1)⟩,
    ⟨S1x3x128x12, broadcastInDim S1x3x128x12 ![1, 2, 3] bcast_S3x128x12_S1x3x128x12_1_2_3 (row v 2)⟩,
    ⟨S1x3x128x12, broadcastInDim S1x3x128x12 ![1, 2, 3] bcast_S3x128x12_S1x3x128x12_1_2_3 (row v 3)⟩] concatenates_S1x3x128x12_S1x3x128x12_S1x3x128x12_S1x3x128x12_S4x3x128x12_d0

/-- A concatenation of three arrays of one shape, piece by piece. -/
theorem three {α : Type} {s T : Shape} {a : Fin T.rank} {x y z x' y' z' : s.Idx → α} (hx : x = x') (hy : y = y') (hz : z = z') (h h') :
    concatenate T a [⟨s, x⟩, ⟨s, y⟩, ⟨s, z⟩] h = concatenate T a [⟨s, x'⟩, ⟨s, y'⟩, ⟨s, z'⟩] h' := by
  subst hx hy hz; rfl

/-- A concatenation of four arrays of one shape, piece by piece. -/
theorem four {α : Type} {s T : Shape} {a : Fin T.rank} {x y z w x' y' z' w' : s.Idx → α} (hx : x = x') (hy : y = y') (hz : z = z')
    (hw : w = w') (h h') :
    concatenate T a [⟨s, x⟩, ⟨s, y⟩, ⟨s, z⟩, ⟨s, w⟩] h = concatenate T a [⟨s, x'⟩, ⟨s, y'⟩, ⟨s, z'⟩, ⟨s, w'⟩] h' := by
  subst hx hy hz hw; rfl

variable (m : (ℓ : Loc nD τ sig) → Buf (Elt F) ℓ)

set_option maxRecDepth 8192 in
set_option maxHeartbeats 1000000 in
/-- The region finds the prepared weights in its second window's array. -/
theorem V_weights (c : Dev nD) : V m c main_v249 = weights (m (c, main_arg1)) := by
  have T : taps 0 0 = [(0, 0, 0, 0)]
      ∧ taps 0 1 = [(0, 0, 0, 1), (0, 0, 0, 2), (0, 0, 1, 0), (0, 0, 1, 1)]
      ∧ taps 0 2 = [(0, 0, 1, 2)]
      ∧ taps 1 0 = [(0, 1, 0, 0), (1, 0, 0, 0)]
      ∧ taps 1 1 = [(0, 1, 0, 1), (0, 1, 0, 2), (0, 1, 1, 0), (0, 1, 1, 1), (1, 0, 0, 1), (1, 0, 0, 2), (1, 0, 1, 0), (1, 0, 1, 1)]
      ∧ taps 1 2 = [(0, 1, 1, 2), (1, 0, 1, 2)]
      ∧ taps 2 0 = [(0, 2, 0, 0), (1, 1, 0, 0)]
      ∧ taps 2 1 = [(0, 2, 0, 1), (0, 2, 0, 2), (0, 2, 1, 0), (0, 2, 1, 1), (1, 1, 0, 1), (1, 1, 0, 2), (1, 1, 1, 0), (1, 1, 1, 1)]
      ∧ taps 2 2 = [(0, 2, 1, 2), (1, 1, 1, 2)]
      ∧ taps 3 0 = [(1, 2, 0, 0)]
      ∧ taps 3 1 = [(1, 2, 0, 1), (1, 2, 0, 2), (1, 2, 1, 0), (1, 2, 1, 1)]
      ∧ taps 3 2 = [(1, 2, 1, 2)] := by
    refine ⟨?_, ?_, ?_, ?_, ?_, ?_, ?_, ?_, ?_, ?_, ?_, ?_⟩ <;> rfl
  obtain ⟨h0, h1, h2, h3, h4, h5, h6, h7, h8, h9, h10, h11⟩ := T
  unfold V
  after_reads_simp [StableHlo.readPieces]
  dsimp only [Matrix.cons_val]
  after_reads_simp [StableHlo.readPieces]
  dsimp only [Matrix.cons_val]
  after_reads_simp [StableHlo.readPieces]
  unfold weights row mat
  refine four ?_ ?_ ?_ ?_ _ _ <;> refine congrArg (fun x : Vec F S3x128x12 .f32 => broadcastInDim S1x3x128x12 (![1, 2, 3] : Fin S3x128x12.rank → Fin S1x3x128x12.rank) bcast_S3x128x12_S1x3x128x12_1_2_3 x) ?_ <;>
    refine three ?_ ?_ ?_ _ _ <;> refine congrArg (fun x : Vec F S128x12 .f32 => broadcastInDim S1x128x12 (![1, 2] : Fin S128x12.rank → Fin S1x128x12.rank) bcast_S128x12_S1x128x12_1_2 x) ?_
  all_goals
    simp only [h0, h1, h2, h3, h4, h5, h6, h7, h8, h9, h10, h11, List.foldl_cons, List.foldl_nil, put, Fin.val_zero, Fin.val_one, Fin.val_two,
      Nat.reduceAdd, Nat.reduceMul, Nat.reduceMod, Nat.zero_add, Nat.add_zero, Nat.mul_zero, Nat.zero_mod]
    rfl

end Cert.LastIdeal.Layer
-- ==== Proof.Last.Entry.lean ====
module

public import proofs.«01_k».proof.Proof.Last.Weights
public import Idealize.ShloMosaic.Lib.Pointwise.IndexBridge
public import Idealize.ShloMosaic.Lib.Routing.OpsSet

@[expose] public section

noncomputable section

namespace Cert.LastIdeal.Layer

open Cert.LastIdeal Cert.LastIdeal.Gen Idealize.ShloMosaic Idealize.ShloMosaic.TcCoe Idealize.SL.Sem

variable {F : FTy → Type} [FloatOps F]

/-- The half of the 128 rows at which a tap's weights lie. -/
def half (q : Tap) : Nat := (q.2.2.1.val + q.2.2.2.val + 1) % 2

/-- The group of three columns at which a tap's weights lie. -/
def group (q : Tap) : Nat := 2 * q.1.val + q.2.2.1.val

theorem half_word : ∀ (be : Fin 2) (kw : Fin 3), (BitVec.ofNat 32 (64 * ((be.val + kw.val + 1) % 2))).toInt = ((64 * ((be.val + kw.val + 1) % 2) : Nat) : Int) := by
  decide

theorem group_word : ∀ al be : Fin 2, (BitVec.ofNat 32 (3 * (2 * al.val + be.val))).toInt = ((3 * (2 * al.val + be.val) : Nat) : Int) := by
  decide

/-- An update of the scatter lands at an entry exactly when the index words, read signed, plus its own coordinates are the entry's. -/
theorem lands (idx : IVec S2 32) (k : S64x3.Idx) (r : Fin 128) (c : Fin 12) :
    scatter_S128x12_S2_S64x3_01_n_01_0.resultIdx? k idx = some (ValueIdx.ix2 r c)
      ↔ (idx (ValueIdx.ix1 0)).toInt + ((k 0).val : Int) = r.val ∧ (idx (ValueIdx.ix1 1)).toInt + ((k 1).val : Int) = c.val := by
  have w0 : scatter_S128x12_S2_S64x3_01_n_01_0.window k 0 = (k 0).val := rfl
  have w1 : scatter_S128x12_S2_S64x3_01_n_01_0.window k 1 = (k 1).val := rfl
  have s := fun q => Routing.start_pair (R := 128) (C := 12) scatter_S128x12_S2_S64x3_01_n_01_0 rfl rfl idx k q
  rw [Routing.resultIdx?_ix2 (R := 128) (C := 12), s, s, w0, w1]

/-- One step of the host at an entry: a weight of the tap where the entry lies in the tap's rows and columns, what was there elsewhere. -/
theorem put_at (w : Vec F S3x3x64x3 .f32) (x : Vec F S128x12 .f32) (q : Tap) (pc : Fin 2) (ci : Fin 64) (g : Fin 4) (co : Fin 3) :
    put w x q (ix2 ⟨64 * pc.val + ci.val, by omega⟩ ⟨3 * g.val + co.val, by omega⟩)
      = if half q = pc.val ∧ group q = g.val then w (ix4 q.2.1 q.2.2.2 ci co)
        else x (ix2 ⟨64 * pc.val + ci.val, by omega⟩ ⟨3 * g.val + co.val, by omega⟩) := by
  unfold put
  dsimp only
  have e0 : ∀ (i j : IVec S1 32), concatenate S2 0 [⟨S1, i⟩, ⟨S1, j⟩] concatenates_S1_S1_S2_d0 (ValueIdx.ix1 0) = i (ix1 0) := fun i j => by
    rw [← ix1_eq_valueIdx]; pointwise
  have e1 : ∀ (i j : IVec S1 32), concatenate S2 0 [⟨S1, i⟩, ⟨S1, j⟩] concatenates_S1_S1_S2_d0 (ValueIdx.ix1 1) = j (ix1 0) := fun i j => by
    rw [← ix1_eq_valueIdx]; pointwise
  have b : ∀ v : BitVec 32, broadcastInDim S1 ![] bcast_S_S1 (constantI S_ 32 v) (ix1 0) = v := fun v => rfl
  have L := fun k => lands (concatenate S2 0 [⟨S1, broadcastInDim S1 ![] bcast_S_S1 (constantI S_ 32 (BitVec.ofNat 32 (64 * ((q.2.2.1.val + q.2.2.2.val + 1) % 2))))⟩,
    ⟨S1, broadcastInDim S1 ![] bcast_S_S1 (constantI S_ 32 (BitVec.ofNat 32 (3 * (2 * q.1.val + q.2.2.1.val))))⟩] concatenates_S1_S1_S2_d0) k
    ⟨64 * pc.val + ci.val, by omega⟩ ⟨3 * g.val + co.val, by omega⟩
  simp only [e0, e1, b, half_word, group_word] at L
  have hh : half q < 2 := Nat.mod_lt _ (by decide)
  rw [ix2_eq_valueIdx (⟨64 * pc.val + ci.val, by omega⟩ : Fin 128) (⟨3 * g.val + co.val, by omega⟩ : Fin 12)]
  split
  · rename_i h
    obtain ⟨h0, h1⟩ := h
    unfold half at h0
    unfold group at h1
    refine Routing.scatter_set_hit _ _ _ _ _ _ (fun k hk => ?_) (ix2 ci co) ((L _).2 ⟨?_, ?_⟩)
    · have hk := (L k).1 hk
      have k0 : (k 0).val < 64 := (k 0).isLt
      have k1 : (k 1).val < 3 := (k 1).isLt
      have e : k = ix2 ci co := by
        funext a
        fin_cases a
        · apply Fin.ext; show (k 0).val = ci.val; omega
        · apply Fin.ext; show (k 1).val = co.val; omega
      rw [e]
      pointwise
    · show _ + (ci.val : Int) = _; omega
    · show _ + (co.val : Int) = _; omega
  · rename_i h
    refine Routing.scatter_set_miss _ _ _ _ _ fun k hk => h ?_
    have hk := (L k).1 hk
    have k0 : (k 0).val < 64 := (k 0).isLt
    have k1 : (k 1).val < 3 := (k 1).isLt
    unfold half group
    exact ⟨by omega, by omega⟩

/-- The host's steps at an entry, where all the taps that reach it are the same tap of the convolution. -/
theorem steps_at (w : Vec F S3x3x64x3 .f32) (pc : Fin 2) (ci : Fin 64) (g : Fin 4) (co a b : Fin 3) (L : List Tap)
    (hL : ∀ q ∈ L, half q = pc.val ∧ group q = g.val → q.2.1 = a ∧ q.2.2.2 = b) :
    ∀ x : Vec F S128x12 .f32, L.foldl (put w) x (ix2 ⟨64 * pc.val + ci.val, by omega⟩ ⟨3 * g.val + co.val, by omega⟩)
      = if ∃ q ∈ L, half q = pc.val ∧ group q = g.val then w (ix4 a b ci co)
        else x (ix2 ⟨64 * pc.val + ci.val, by omega⟩ ⟨3 * g.val + co.val, by omega⟩) := by
  induction L with
  | nil => intro x; simp
  | cons q L ih =>
    intro x
    have e := ih (fun p hp => hL p (List.mem_cons_of_mem _ hp)) (put w x q)
    rw [List.foldl_cons, e, put_at]
    by_cases h : ∃ p ∈ L, half p = pc.val ∧ group p = g.val
    · obtain ⟨p, hp, hh⟩ := h
      rw [if_pos ⟨p, hp, hh⟩, if_pos ⟨p, List.mem_cons_of_mem _ hp, hh⟩]
    · rw [if_neg h]
      by_cases hq : half q = pc.val ∧ group q = g.val
      · obtain ⟨ha, hb⟩ := hL q List.mem_cons_self hq
        rw [if_pos hq, if_pos ⟨q, List.mem_cons_self, hq⟩, ha, hb]
      · rw [if_neg hq, if_neg]
        rintro ⟨p, hp, hh⟩
        rcases List.mem_cons.1 hp with rfl | hp
        · exact hq hh
        · exact h ⟨p, hp, hh⟩

theorem all_taps (q : Tap) : q ∈ allTaps := by
  revert q; decide

/-- The taps of a matrix, by what they read. -/
theorem mem_taps (t : Fin 4) (sc : Fin 3) (q : Tap) :
    q ∈ taps t sc ↔ q.1.val + q.2.1.val = t.val ∧ (q.2.2.1.val + q.2.2.2.val + 1) / 2 = sc.val := by
  unfold taps
  rw [List.mem_filter, Bool.and_eq_true, Nat.beq_eq, Nat.beq_eq]
  exact ⟨fun h => h.2, fun h => ⟨all_taps q, h⟩⟩

/-- A matrix of weights at an entry of the convolution's tap `(kh, kw)`, for the output's phases `(al, be)`. -/
theorem mat_tap (w : Vec F S3x3x64x3 .f32) (al be : Fin 2) (kh kw co : Fin 3) (ci : Fin 64) :
    mat w ⟨al.val + kh.val, by omega⟩ ⟨(be.val + kw.val + 1) / 2, by omega⟩
        (ix2 ⟨64 * ((be.val + kw.val + 1) % 2) + ci.val, by omega⟩ ⟨3 * (2 * al.val + be.val) + co.val, by omega⟩)
      = w (ix4 kh kw ci co) := by
  unfold mat
  have e := steps_at w ⟨(be.val + kw.val + 1) % 2, by omega⟩ ci ⟨2 * al.val + be.val, by omega⟩ co kh kw
    (taps ⟨al.val + kh.val, by omega⟩ ⟨(be.val + kw.val + 1) / 2, by omega⟩) (fun q hq hh => by
      have := (mem_taps _ _ q).1 hq
      unfold half group at hh
      simp only at this hh
      exact ⟨Fin.ext (by omega), Fin.ext (by omega)⟩) (broadcastInDim S128x12 ![] bcast_S_S128x12 (constant S_ .f32 0x00000000#32))
  rw [if_pos ⟨(al, kh, be, kw), (mem_taps _ _ _).2 ⟨rfl, rfl⟩, rfl, rfl⟩] at e
  exact e

/-- A matrix of weights elsewhere: zero. -/
theorem mat_zero (w : Vec Ideal S3x3x64x3 .f32) (t : Fin 4) (sc co : Fin 3) (pc al be : Fin 2) (ci : Fin 64)
    (h : ¬(al.val ≤ t.val ∧ t.val ≤ al.val + 2 ∧ be.val + 1 ≤ 2 * sc.val + pc.val ∧ 2 * sc.val + pc.val ≤ be.val + 3)) :
    mat w t sc (ix2 ⟨64 * pc.val + ci.val, by omega⟩ ⟨3 * (2 * al.val + be.val) + co.val, by omega⟩) = (0 : EReal) := by
  unfold mat
  have none : ∀ q ∈ taps t sc, ¬(half q = pc.val ∧ group q = 2 * al.val + be.val) := fun q hq hh => by
    have := (mem_taps _ _ q).1 hq
    unfold half group at hh
    omega
  have e := steps_at w pc ci ⟨2 * al.val + be.val, by omega⟩ co 0 0 (taps t sc) (fun q hq hh => absurd hh (none q hq))
  refine ((e _).trans (if_neg (by rintro ⟨q, hq, hh⟩; exact none q hq hh))).trans ?_
  simp only [pointwise]

/-- The prepared weights at an entry. -/
theorem weights_at (w : Vec F S3x64x3x3 .f32) (t : Fin 4) (sc : Fin 3) (k : Fin 128) (ch : Fin 12) :
    weights w (ix4 t sc k ch) = mat (transpose S3x3x64x3 [2, 3, 1, 0] w transposes_S3x64x3x3_S3x3x64x3_2_3_1_0) t sc (ix2 k ch) := by
  unfold weights row
  dsimp only
  fin_cases t <;> fin_cases sc <;> pointwise

end Cert.LastIdeal.Layer
-- ==== Proof.Last.Window.lean ====
module

public import proofs.«01_k».proof.Proof.Gen.LastIdeal.Value
public import Idealize.ShloMosaic.Lib.Pointwise
public import Idealize.ShloMosaic.Lib.Pipeline.ValueKit.Tiles

@[expose] public section

noncomputable section

namespace Cert.LastIdeal.Layer

open Cert.LastIdeal Cert.LastIdeal.Gen Idealize.ShloMosaic Idealize.ShloMosaic.TcCoe Idealize.SL.Sem

variable {F : FTy → Type} [FloatOps F]

/-- One product of the kernel: a slice of the prepared weights with a window of the image's phases. -/
def product (A : Vec F S1x1x128x12 .f32) (X : Vec F S1x1x28x112x128 .f32) : FVec F S12x3136 .f32 :=
  have a : FVec F S128x12 .f32 := shapeCast S128x12 A shapeCasts_S1x1x128x12_S128x12
  have x : FVec F S28x112x128 .f32 := shapeCast S28x112x128 X shapeCasts_S1x1x28x112x128_S28x112x128
  have y : FVec F S3136x128 .f32 := shapeCast S3136x128 x shapeCasts_S28x112x128_S3136x128
  matmul dot_S128x12_S3136x128_S12x3136_0_1_1_0_n_n none a y (constant S12x3136 .f32 0x00000000#32)

/-- One product at an output channel and a pixel of the band: the sum over the 128 lanes. -/
theorem product_at (A : Vec Ideal S1x1x128x12 .f32) (X : Vec Ideal S1x1x28x112x128 .f32) (ch : Fin 12) (r : Fin 28) (s : Fin 112) :
    product A X (ix2 ch ⟨r.val * 112 + s.val, by omega⟩) = ∑ k : Fin 128, A (ix4 0 0 k ch) * X (ix5 0 0 r s k) := by
  unfold product
  simp only [pointwise]
  exact zero_add _

/-- The band's window of the image at row tap `t` and column `sc`: rows from `r0` plus the tap's row, in the tap's row phase. -/
abbrev xRect (q t : Fin 4) (sc : Fin 3) : Rect S1x2x114x114x128 :=
  Rect.unit (s := S1x2x114x114x128) ![0, (t.val + 1) % 2, 28 * q.val + (t.val + 1) / 2, sc.val, 0] S1x1x28x112x128.size (by
    intro a; have := q.isLt; have := t.isLt; have := sc.isLt
    fin_cases a <;> simp [S1x2x114x114x128, S1x1x28x112x128] <;> omega)

/-- The slice of the prepared weights at row tap `t` and column `sc`. -/
abbrev wRect (t : Fin 4) (sc : Fin 3) : Rect S4x3x128x12 :=
  Rect.unit (s := S4x3x128x12) ![t.val, sc.val, 0, 0] S1x1x128x12.size (by
    intro a; have := t.isLt; have := sc.isLt
    fin_cases a <;> simp [S4x3x128x12, S1x1x128x12] <;> omega)

/-- Where band `q` is stored: rows `28 q` to `28 q + 27`. -/
abbrev oRect (q : Fin 4) : Rect S1x12x112x112 :=
  Rect.unit (s := S1x12x112x112) ![0, 0, 28 * q.val, 0] S1x12x28x112.size (by
    intro a; have := q.isLt
    fin_cases a <;> simp [S1x12x112x112, S1x12x28x112] <;> omega)

/-- Band `q`'s twelve products summed: they are added one after another, the columns of a row tap before the next row tap. -/
def sums (x0 : Vec F S1x2x114x114x128 .f32) (x1 : Vec F S4x3x128x12 .f32) (q : Fin 4) : FVec F S12x3136 .f32 :=
  List.foldl (fun y p => addf y (product (View.ld x1 (wRect p.1 p.2)) (View.ld x0 (xRect q p.1 p.2))))
    (broadcast S12x3136 (Scalar.ofBits .f32 0x00000000#32) : FVec F S12x3136 .f32)
    [(0, 0), (0, 1), (0, 2), (1, 0), (1, 1), (1, 2), (2, 0), (2, 1), (2, 2), (3, 0), (3, 1), (3, 2)]

/-- Band `q` as it is stored. -/
def band (x0 : Vec F S1x2x114x114x128 .f32) (x1 : Vec F S4x3x128x12 .f32) (x2 : Vec F S12 .f32) (q : Fin 4) : FVec F S1x12x28x112 .f32 :=
  have b : FVec F S12x1 .f32 := shapeCast S12x1 (View.ld x2 r0_24) shapeCasts_S12_S12x1
  have y : FVec F S12x3136 .f32 := tanh (addf (sums x0 x1 q) (broadcastTo S12x3136 b broadcasts_S12x1_S12x3136))
  have z : FVec F S12x28x112 .f32 := shapeCast S12x28x112 y shapeCasts_S12x3136_S12x28x112
  shapeCast S1x12x28x112 z shapeCasts_S12x28x112_S1x12x28x112

/-- What the body leaves in the output's buffer: the four bands. -/
theorem out_eq (x0 : Vec F S1x2x114x114x128 .f32) (x1 : Vec F S4x3x128x12 .f32) (x2 : Vec F S12 .f32) :
    out0_3 x0 x1 x2 = View.canon [⟨oRect 3, band x0 x1 x2 3⟩, ⟨oRect 2, band x0 x1 x2 2⟩, ⟨oRect 1, band x0 x1 x2 1⟩, ⟨oRect 0, band x0 x1 x2 0⟩] := rfl

/-- Twelve summands by row tap and column. -/
theorem twelve {M : Type} [AddCommMonoid M] (P : Fin 4 → Fin 3 → M) :
    ([(0, 0), (0, 1), (0, 2), (1, 0), (1, 1), (1, 2), (2, 0), (2, 1), (2, 2), (3, 0), (3, 1), (3, 2)].map fun p : Fin 4 × Fin 3 => P p.1 p.2).sum
      = ∑ t : Fin 4, ∑ sc : Fin 3, P t sc := by
  simp only [List.map_cons, List.map_nil, List.sum_cons, List.sum_nil, Fin.sum_univ_four, Fin.sum_univ_three, add_zero, add_assoc]

/-- The products summed, at an output channel and a pixel of the band. -/
theorem sums_at (x0 : Vec Ideal S1x2x114x114x128 .f32) (x1 : Vec Ideal S4x3x128x12 .f32) (q : Fin 4) (ch : Fin 12) (r : Fin 28) (s : Fin 112) :
    sums x0 x1 q (ix2 ch ⟨r.val * 112 + s.val, by omega⟩)
      = ∑ t : Fin 4, ∑ sc : Fin 3, ∑ k : Fin 128, x1 (ix4 t sc k ch)
          * x0 (ix5 0 ⟨(t.val + 1) % 2, by omega⟩ ⟨28 * q.val + r.val + (t.val + 1) / 2, by omega⟩ ⟨s.val + sc.val, by omega⟩ k) := by
  have tap : ∀ (t : Fin 4) (sc : Fin 3), product (View.ld x1 (wRect t sc)) (View.ld x0 (xRect q t sc)) (ix2 ch ⟨r.val * 112 + s.val, by omega⟩)
      = ∑ k : Fin 128, x1 (ix4 t sc k ch)
          * x0 (ix5 0 ⟨(t.val + 1) % 2, by omega⟩ ⟨28 * q.val + r.val + (t.val + 1) / 2, by omega⟩ ⟨s.val + sc.val, by omega⟩ k) := fun t sc => by
    rw [product_at]
    refine Finset.sum_congr rfl fun k _ => congrArg₂ (· * ·) (View.ld_unit_apply_of _ _ _ _ _ _ fun a => ?_) (View.ld_unit_apply_of _ _ _ _ _ _ fun a => ?_)
    · fin_cases a <;> simp [ix4]
    · fin_cases a <;> simp [ix5] <;> omega
  have fold : ∀ (L : List (Fin 4 × Fin 3)) (y : FVec Ideal S12x3136 .f32) (j : S12x3136.Idx),
      List.foldl (fun y p => addf y (product (View.ld x1 (wRect p.1 p.2)) (View.ld x0 (xRect q p.1 p.2)))) y L j
        = y j + (L.map fun p => product (View.ld x1 (wRect p.1 p.2)) (View.ld x0 (xRect q p.1 p.2)) j).sum := fun L => by
    induction L with
    | nil => intro y j; exact (add_zero _).symm
    | cons p L ih => intro y j; rw [List.foldl_cons, ih, List.map_cons, List.sum_cons, ← add_assoc]; rfl
  have zero : (broadcast S12x3136 (Scalar.ofBits .f32 0x00000000#32) : FVec Ideal S12x3136 .f32) (ix2 ch ⟨r.val * 112 + s.val, by omega⟩) = 0 := by
    simp only [pointwise]
  unfold sums
  rw [fold, zero, zero_add, List.map_congr_left fun p _ => tap p.1 p.2]
  exact twelve (M := EReal) fun t sc => ∑ k : Fin 128, x1 (ix4 t sc k ch)
          * x0 (ix5 0 ⟨(t.val + 1) % 2, by omega⟩ ⟨28 * q.val + r.val + (t.val + 1) / 2, by omega⟩ ⟨s.val + sc.val, by omega⟩ k)

/-- A band at an output channel and a pixel. -/
theorem band_at (x0 : Vec Ideal S1x2x114x114x128 .f32) (x1 : Vec Ideal S4x3x128x12 .f32) (x2 : Vec Ideal S12 .f32) (q : Fin 4) (ch : Fin 12) (r : Fin 28) (s : Fin 112) :
    band x0 x1 x2 q (ix4 0 ch r s) = Ideal.tanh (sums x0 x1 q (ix2 ch ⟨r.val * 112 + s.val, by omega⟩) + x2 (ix1 ch)) := by
  unfold band
  simp only [pointwise]
  refine congrArg (fun e => Ideal.tanh (_ + x2 (ix1 e))) (Fin.ext ?_)
  show 0 + 1 * ch.val = ch.val
  omega

/-- The kernel's result at an output channel `ch` and a pixel `(y, s)`, from one image's phases, the prepared weights and the repeated bias. -/
def win (x0 : Vec Ideal S1x2x114x114x128 .f32) (x1 : Vec Ideal S4x3x128x12 .f32) (x2 : Vec Ideal S12 .f32) (ch : Fin 12) (y s : Fin 112) : EReal :=
  Ideal.tanh ((∑ t : Fin 4, ∑ sc : Fin 3, ∑ k : Fin 128, x1 (ix4 t sc k ch)
      * x0 (ix5 0 ⟨(t.val + 1) % 2, by omega⟩ ⟨y.val + (t.val + 1) / 2, by omega⟩ ⟨s.val + sc.val, by omega⟩ k)) + x2 (ix1 ch))

/-- Each band holds the result at its own pixels. -/
theorem band_win (x0 : Vec Ideal S1x2x114x114x128 .f32) (x1 : Vec Ideal S4x3x128x12 .f32) (x2 : Vec Ideal S12 .f32) (ch : Fin 12) (y s : Fin 112) (q : Fin 4)
    (x : (⟨4, S1x12x28x112.size⟩ : Shape).Idx)
    (hx : ∀ a, ((ix4 0 ch y s : S1x12x112x112.Idx) a : Nat) = (![0, 0, 28 * q.val, 0] : Fin 4 → Nat) a + x a) :
    band x0 x1 x2 q x = win x0 x1 x2 ch y s := by
  obtain ⟨a, ch', r, s', rfl⟩ : ∃ (a : Fin 1) (b : Fin 12) (r : Fin 28) (s' : Fin 112), x = ix4 a b r s' := ⟨x 0, x 1, x 2, x 3, eq_ix4 x⟩
  obtain rfl : a = 0 := Subsingleton.elim _ _
  obtain rfl : ch = ch' := Fin.ext ((hx 1).trans (Nat.zero_add _))
  have hy : y.val = 28 * q.val + r.val := hx 2
  obtain rfl : s = s' := Fin.ext ((hx 3).trans (Nat.zero_add _))
  rw [band_at, sums_at]
  unfold win
  simp only [hy]

/-- What the body leaves in the output's buffer is the kernel's result. -/
theorem out_at (x0 : Vec Ideal S1x2x114x114x128 .f32) (x1 : Vec Ideal S4x3x128x12 .f32) (x2 : Vec Ideal S12 .f32) (ch : Fin 12) (y s : Fin 112) :
    out0_3 x0 x1 x2 (ix4 0 ch y s) = win x0 x1 x2 ch y s := by
  rw [out_eq]
  refine View.canon_eq_of_allAt (Val := Elt Ideal) (e := .f32) _ _ _ (cover0_3 _ _ _ _ _) ?_
  refine View.allAt_cons_unit _ _ _ _ _ (band_win x0 x1 x2 ch y s 3) ?_
  refine View.allAt_cons_unit _ _ _ _ _ (band_win x0 x1 x2 ch y s 2) ?_
  refine View.allAt_cons_unit _ _ _ _ _ (band_win x0 x1 x2 ch y s 1) ?_
  exact View.allAt_cons_unit _ _ _ _ _ (band_win x0 x1 x2 ch y s 0) (View.allAt_nil _ _)

end Cert.LastIdeal.Layer
end
-- ==== Proof.Last.Sum.lean ====
module

public import proofs.«01_k».proof.Proof.Last.Entry
public import proofs.«01_k».proof.Proof.Last.Window
public import Idealize.ShloMosaic.Lib.StableHlo.ReadAt

@[expose] public section

noncomputable section

namespace Cert.LastIdeal.Layer

open Cert.LastIdeal Cert.LastIdeal.Gen Idealize.ShloMosaic Idealize.ShloMosaic.TcCoe Idealize.SL.Sem

variable (m : (ℓ : Loc nD τ sig) → Buf (Elt Ideal) ℓ)

/-- The region finds the bias, repeated for the four phases, in its third window's array. -/
theorem V_bias (c : Dev nD) (g : Fin 4) (co : Fin 3) :
    V m c main_v252 (ix1 (⟨3 * g.val + co.val, by omega⟩ : Fin 12)) = m (c, main_arg2) (ix1 co) := by
  unfold V
  after_reads_at

/-- The 24 products of a pixel in which 15 have zero weights: the nine of the convolution. -/
theorem nine (H : Fin 4 → Fin 3 → Fin 2 → EReal) (T : Fin 3 → Fin 3 → EReal) (al be : Fin 2)
    (h1 : ∀ kh kw : Fin 3, H ⟨al.val + kh.val, by omega⟩ ⟨(be.val + kw.val + 1) / 2, by omega⟩ ⟨(be.val + kw.val + 1) % 2, by omega⟩ = T kh kw)
    (h0 : ∀ t sc pc, ¬(al.val ≤ t.val ∧ t.val ≤ al.val + 2 ∧ be.val + 1 ≤ 2 * sc.val + pc.val ∧ 2 * sc.val + pc.val ≤ be.val + 3) → H t sc pc = 0) :
    ∑ t, ∑ sc, ∑ pc, H t sc pc = ∑ kh, ∑ kw, T kh kw := by
  simp only [Fin.sum_univ_four, Fin.sum_univ_three, Fin.sum_univ_two, ← h1]
  fin_cases al <;> fin_cases be <;> simp [h0] <;> abel

/-- The products of a pixel at one half of the lanes, for a row tap and a column. -/
def lanes (x0 : Vec Ideal S1x2x114x114x128 .f32) (w : Vec Ideal S3x64x3x3 .f32) (al be : Fin 2) (co : Fin 3) (y s : Fin 112)
    (t : Fin 4) (sc : Fin 3) (pc : Fin 2) : EReal :=
  ∑ ci : Fin 64, mat (transpose S3x3x64x3 [2, 3, 1, 0] w transposes_S3x64x3x3_S3x3x64x3_2_3_1_0) t sc
      (ix2 ⟨64 * pc.val + ci.val, by omega⟩ ⟨3 * (2 * al.val + be.val) + co.val, by omega⟩)
    * x0 (ix5 0 ⟨(t.val + 1) % 2, by omega⟩ ⟨y.val + (t.val + 1) / 2, by omega⟩ ⟨s.val + sc.val, by omega⟩ ⟨64 * pc.val + ci.val, by omega⟩)

/-- The products of a pixel at one tap of the convolution. -/
def taken (x0 : Vec Ideal S1x2x114x114x128 .f32) (w : Vec Ideal S3x64x3x3 .f32) (al be : Fin 2) (co : Fin 3) (y s : Fin 112) (kh kw : Fin 3) : EReal :=
  ∑ ci : Fin 64, w (ix4 co ci kh kw)
    * x0 (ix5 0 ⟨(al.val + kh.val + 1) % 2, by omega⟩ ⟨y.val + (al.val + kh.val + 1) / 2, by omega⟩ ⟨s.val + (be.val + kw.val + 1) / 2, by omega⟩
        ⟨64 * ((be.val + kw.val + 1) % 2) + ci.val, by omega⟩)

theorem lanes_taken (x0 : Vec Ideal S1x2x114x114x128 .f32) (w : Vec Ideal S3x64x3x3 .f32) (al be : Fin 2) (co : Fin 3) (y s : Fin 112) (kh kw : Fin 3) :
    lanes x0 w al be co y s ⟨al.val + kh.val, by omega⟩ ⟨(be.val + kw.val + 1) / 2, by omega⟩ ⟨(be.val + kw.val + 1) % 2, by omega⟩
      = taken x0 w al be co y s kh kw := by
  unfold lanes taken
  refine Finset.sum_congr rfl fun ci _ => ?_
  refine congrArg₂ (fun a b : EReal => a * b) ?_ rfl
  refine (mat_tap _ al be kh kw co ci).trans ?_
  pointwise

theorem lanes_zero (x0 : Vec Ideal S1x2x114x114x128 .f32) (w : Vec Ideal S3x64x3x3 .f32) (al be : Fin 2) (co : Fin 3) (y s : Fin 112)
    (t : Fin 4) (sc : Fin 3) (pc : Fin 2)
    (h : ¬(al.val ≤ t.val ∧ t.val ≤ al.val + 2 ∧ be.val + 1 ≤ 2 * sc.val + pc.val ∧ 2 * sc.val + pc.val ≤ be.val + 3)) :
    lanes x0 w al be co y s t sc pc = 0 := by
  unfold lanes
  refine Finset.sum_eq_zero fun ci _ => ?_
  rw [mat_zero _ t sc co pc al be ci h, zero_mul]

/-- The sum over the 128 lanes, in halves. -/
theorem halves (x0 : Vec Ideal S1x2x114x114x128 .f32) (w : Vec Ideal S3x64x3x3 .f32) (al be : Fin 2) (co : Fin 3) (y s : Fin 112)
    (t : Fin 4) (sc : Fin 3) :
    ∑ k : Fin 128, (weights w (ix4 t sc k ⟨3 * (2 * al.val + be.val) + co.val, by omega⟩)
      * x0 (ix5 0 ⟨(t.val + 1) % 2, by omega⟩ ⟨y.val + (t.val + 1) / 2, by omega⟩ ⟨s.val + sc.val, by omega⟩ k) : EReal)
      = ∑ pc, lanes x0 w al be co y s t sc pc := by
  simp only [weights_at]
  rw [Fin.sum_univ_two_halves 64 64 rfl, Fin.sum_univ_two]
  unfold lanes
  refine congrArg₂ (fun a b : EReal => a + b) ?_ ?_ <;> refine Finset.sum_congr rfl fun ci _ => ?_
  · congr 3 <;> simp
  · congr 3 <;> simp

/-- A pixel of the region's block, from the convolution's own weights: the nine taps at the pixel `(2 y + al, 2 s + be)`. -/
theorem win_taps (x0 : Vec Ideal S1x2x114x114x128 .f32) (w : Vec Ideal S3x64x3x3 .f32) (x2 : Vec Ideal S12 .f32) (al be : Fin 2) (co : Fin 3) (y s : Fin 112) :
    win x0 (weights w) x2 ⟨3 * (2 * al.val + be.val) + co.val, by omega⟩ y s
      = Ideal.tanh ((∑ kh : Fin 3, ∑ kw : Fin 3, taken x0 w al be co y s kh kw) + x2 (ix1 ⟨3 * (2 * al.val + be.val) + co.val, by omega⟩)) := by
  have S : (∑ t : Fin 4, ∑ sc : Fin 3, ∑ k : Fin 128, (weights w (ix4 t sc k ⟨3 * (2 * al.val + be.val) + co.val, by omega⟩)
      * x0 (ix5 0 ⟨(t.val + 1) % 2, by omega⟩ ⟨y.val + (t.val + 1) / 2, by omega⟩ ⟨s.val + sc.val, by omega⟩ k) : EReal))
      = ∑ kh : Fin 3, ∑ kw : Fin 3, taken x0 w al be co y s kh kw :=
    (Finset.sum_congr rfl fun t _ => Finset.sum_congr rfl fun sc _ => halves x0 w al be co y s t sc).trans
      (nine (lanes x0 w al be co y s) (taken x0 w al be co y s) al be (lanes_taken x0 w al be co y s) (lanes_zero x0 w al be co y s))
  unfold win
  rw [S]

end Cert.LastIdeal.Layer
-- ==== Proof.Last.Reference.lean ====
module

public import proofs.«01_k».proof.Proof.Gen.LastReferenceIdeal.Run
public import Idealize.ShloMosaic.Lib.Pointwise

@[expose] public section

noncomputable section

namespace Cert.LastReferenceIdeal.Layer

open Cert.LastReferenceIdeal Cert.LastReferenceIdeal.Gen Idealize.ShloMosaic Idealize.ShloMosaic.TcCoe Idealize.SL.Sem

variable {F : FTy → Type} [FloatOps F]

/-- The image with its border, from its phases. -/
def pixels (X : Vec F S8x2x114x114x128 .f32) : Vec F S8x228x228x64 .f32 :=
  shapeCast _ (transpose S8x114x2x114x2x64 [0, 2, 1, 3, 4, 5] (shapeCast _ X shapeCasts_S8x2x114x114x128_S8x2x114x114x2x64)
    transposes_S8x2x114x114x2x64_S8x114x2x114x2x64_0_2_1_3_4_5) shapeCasts_S8x114x2x114x2x64_S8x228x228x64

/-- A pixel of the image lies in the phase of its row, the phase of its column choosing a half of the lanes. -/
theorem pixels_at (X : Vec F S8x2x114x114x128 .f32) (n : Fin 8) (a b : Fin 228) (ci : Fin 64) :
    pixels X (ix4 n a b ci) = X (ix5 n ⟨a.val % 2, by omega⟩ ⟨a.val / 2, by omega⟩ ⟨b.val / 2, by omega⟩ ⟨64 * (b.val % 2) + ci.val, by omega⟩) := by
  unfold pixels
  pointwise
  refine congrArg (fun e => X (ix5 n _ _ _ e)) (Fin.ext ?_)
  show b.val % 2 * 64 + ci.val = 64 * (b.val % 2) + ci.val
  omega

/-- One tap of the convolution. -/
def tap (X : Vec F S8x2x114x114x128 .f32) (W : Vec F S3x64x3x3 .f32) (kh kw : Fin 3) : FVec F S8x224x224x3 .f32 :=
  have x : FVec F S8x224x224x64 .f32 := extractStridedSlice S8x224x224x64 ![0, 1 + kh.val, 1 + kw.val, 0] (pixels X) (by
    refine ⟨rfl, fun a => ?_⟩
    have := kh.isLt; have := kw.isLt
    fin_cases a <;> simp [S8x228x228x64, S8x224x224x64] <;> omega)
  have k : Vec F S3x64x1x1 .f32 := extractStridedSlice S3x64x1x1 ![0, 0, kh.val, kw.val] W (by
    refine ⟨rfl, fun a => ?_⟩
    have := kh.isLt; have := kw.isLt
    fin_cases a <;> simp [S3x64x3x3, S3x64x1x1] <;> omega)
  have w : FVec F S3x64 .f32 := shapeCast S3x64 k shapeCasts_S3x64x1x1_S3x64
  Host.dotGeneral dot_S8x224x224x64_S3x64_S8x224x224x3_3_1_012_0_n_n none x w

/-- The nine taps, added in order. -/
def sum (X : Vec F S8x2x114x114x128 .f32) (W : Vec F S3x64x3x3 .f32) : FVec F S8x224x224x3 .f32 :=
  addf (addf (addf (addf (addf (addf (addf (addf (addf (broadcastInDim S8x224x224x3 ![] bcast_S_S8x224x224x3 (constant S_ .f32 0x00000000#32))
    (tap X W 0 0)) (tap X W 0 1)) (tap X W 0 2)) (tap X W 1 0)) (tap X W 1 1)) (tap X W 1 2)) (tap X W 2 0)) (tap X W 2 1)) (tap X W 2 2)

/-- The image, as the convolution's layer leaves it. -/
def image (X : Vec F S8x2x114x114x128 .f32) (W : Vec F S3x64x3x3 .f32) (b : Vec F S3 .f32) : FVec F S8x3x224x224 .f32 :=
  Host.tanh (addf (transpose S8x3x224x224 [0, 3, 1, 2] (sum X W) transposes_S8x224x224x3_S8x3x224x224_0_3_1_2)
    (broadcastInDim S8x3x224x224 ![0, 1, 2, 3] bcast_S1x3x1x1_S8x3x224x224_0_1_2_3 (broadcastInDim S1x3x1x1 ![1] bcast_S3_S1x3x1x1_1 b)))

/-- The image's pixels by their phases. -/
def phases (Y : FVec F S8x3x224x224 .f32) : Vec F S8x12x112x112 .f32 :=
  shapeCast _ (transpose S8x2x2x3x112x112 [0, 3, 5, 1, 2, 4] (shapeCast _ Y shapeCasts_S8x3x224x224_S8x3x112x2x112x2)
    transposes_S8x3x112x2x112x2_S8x2x2x3x112x112_0_3_5_1_2_4) shapeCasts_S8x2x2x3x112x112_S8x12x112x112

theorem res_eq (m : (ℓ : Loc nD τ sig) → Buf (Elt F) ℓ) (c : Dev nD) :
    Value.res_main_v56 m c = phases (image (m (c, main_arg0)) (m (c, main_arg1)) (m (c, main_arg2))) := by
  unfold Value.res_main_v56 phases image sum tap pixels
  rfl

theorem phases_at (Y : FVec F S8x3x224x224 .f32) (n : Fin 8) (al be : Fin 2) (co : Fin 3) (r s : Fin 112) :
    phases Y (ix4 n ⟨3 * (2 * al.val + be.val) + co.val, by omega⟩ r s) = Y (ix4 n co ⟨2 * r.val + al.val, by omega⟩ ⟨2 * s.val + be.val, by omega⟩) := by
  unfold phases
  pointwise
  refine congrArg₂ (fun d e => Y (ix4 n co d e)) (Fin.ext ?_) (Fin.ext ?_)
  · show r.val * 2 + al.val = 2 * r.val + al.val
    omega
  · show s.val * 2 + be.val = 2 * s.val + be.val
    omega

theorem tap_at (X : Vec Ideal S8x2x114x114x128 .f32) (W : Vec Ideal S3x64x3x3 .f32) (kh kw co : Fin 3) (n : Fin 8) (a b : Fin 224) :
    tap X W kh kw (ix4 n a b co)
      = ∑ ci : Fin 64, pixels X (ix4 n ⟨a.val + 1 + kh.val, by omega⟩ ⟨b.val + 1 + kw.val, by omega⟩ ci) * W (ix4 co ci kh kw) := by
  unfold tap
  simp only [pointwise]
  rw [zero_add]
  refine Finset.sum_congr rfl fun ci _ => ?_
  refine congrArg₂ (fun d e : EReal => d * e) (congrArg (pixels X) ?_) (congrArg W ?_)
  · funext q
    fin_cases q <;> apply Fin.ext
    · show 0 + n.val = n.val; omega
    · show 1 + kh.val + a.val = a.val + 1 + kh.val; omega
    · show 1 + kw.val + b.val = b.val + 1 + kw.val; omega
    · show 0 + ci.val = ci.val; omega
  · funext q
    fin_cases q <;> apply Fin.ext
    · show 0 + co.val = co.val; omega
    · show 0 + ci.val = ci.val; omega
    · rfl
    · rfl

/-- The convolution's sum at a pixel and an output channel, the nine taps as one sum. -/
theorem sum_at (X : Vec Ideal S8x2x114x114x128 .f32) (W : Vec Ideal S3x64x3x3 .f32) (co : Fin 3) (n : Fin 8) (a b : Fin 224) :
    sum X W (ix4 n a b co) = ∑ kh : Fin 3, ∑ kw : Fin 3, (tap X W kh kw (ix4 n a b co) : EReal) := by
  unfold sum
  simp only [pointwise, Fin.sum_univ_three]
  abel

/-- A tap at the pixel `(2 r + al, 2 s + be)`, from the image's phases. -/
theorem tap_phases (X : Vec Ideal S8x2x114x114x128 .f32) (W : Vec Ideal S3x64x3x3 .f32) (al be : Fin 2) (kh kw co : Fin 3) (n : Fin 8) (r s : Fin 112) :
    tap X W kh kw (ix4 n ⟨2 * r.val + al.val, by omega⟩ ⟨2 * s.val + be.val, by omega⟩ co)
      = ∑ ci : Fin 64, W (ix4 co ci kh kw)
          * X (ix5 n ⟨(al.val + kh.val + 1) % 2, by omega⟩ ⟨r.val + (al.val + kh.val + 1) / 2, by omega⟩ ⟨s.val + (be.val + kw.val + 1) / 2, by omega⟩
              ⟨64 * ((be.val + kw.val + 1) % 2) + ci.val, by omega⟩) := by
  rw [tap_at]
  refine Finset.sum_congr rfl fun ci _ => ?_
  rw [pixels_at]
  refine (mul_comm (G := EReal) _ _).trans ?_
  refine congrArg (fun e => (W (ix4 co ci kh kw) * X e : EReal)) ?_
  funext q
  fin_cases q <;> apply Fin.ext
  · rfl
  · show (2 * r.val + al.val + 1 + kh.val) % 2 = (al.val + kh.val + 1) % 2; omega
  · show (2 * r.val + al.val + 1 + kh.val) / 2 = r.val + (al.val + kh.val + 1) / 2; omega
  · show (2 * s.val + be.val + 1 + kw.val) / 2 = s.val + (be.val + kw.val + 1) / 2; omega
  · show 64 * ((2 * s.val + be.val + 1 + kw.val) % 2) + ci.val = 64 * ((be.val + kw.val + 1) % 2) + ci.val; omega

/-- The reference's result at an output channel `3 (2 al + be) + co` and a place `(r, s)`. -/
theorem layer_at (X : Vec Ideal S8x2x114x114x128 .f32) (W : Vec Ideal S3x64x3x3 .f32) (b : Vec Ideal S3 .f32) (al be : Fin 2) (co : Fin 3) (n : Fin 8)
    (r s : Fin 112) :
    phases (image X W b) (ix4 n ⟨3 * (2 * al.val + be.val) + co.val, by omega⟩ r s)
      = Ideal.tanh ((∑ kh : Fin 3, ∑ kw : Fin 3, (tap X W kh kw (ix4 n ⟨2 * r.val + al.val, by omega⟩ ⟨2 * s.val + be.val, by omega⟩ co) : EReal))
        + b (ix1 co)) := by
  rw [phases_at, ← sum_at]
  unfold image
  simp only [pointwise]
  rfl

end Cert.LastReferenceIdeal.Layer
-- ==== Proof.Last.Same.lean ====
module

public import proofs.«01_k».proof.Proof.Last.Sum
public import proofs.«01_k».proof.Proof.Last.Reference
public import Idealize.ShloMosaic.Lib.Pipeline.ValueKit

@[expose] public section

noncomputable section

namespace Cert.LastIdeal.Layer

open Cert.LastIdeal Cert.LastIdeal.Gen Idealize.ShloMosaic Idealize.ShloMosaic.TcCoe Idealize.SL.Sem

variable (m : (ℓ : Loc nD τ sig) → Buf (Elt Ideal) ℓ)

/-- The block of the phases at grid point `t` is image `t`. -/
theorem index_x : ∀ t : Fin cfg0.N, win0_0.index t = ![t.val, 0, 0, 0, 0] := by decide +kernel

/-- The weights' block is the whole array at every grid point. -/
theorem index_w : ∀ t : Fin cfg0.N, win0_1.index t = ![0, 0, 0, 0] := by decide +kernel

/-- The biases' block is the whole array at every grid point. -/
theorem index_b : ∀ t : Fin cfg0.N, win0_2.index t = ![0] := by decide +kernel

/-- The result's block at grid point `t` is image `t`. -/
theorem index_o : ∀ t : Fin cfg0.N, win0_3.index t = ![t.val, 0, 0, 0] := by decide +kernel

/-- A read of the phases' block. -/
theorem blk_x (c : Dev nD) (t : Fin cfg0.N) (p : Fin 2) (a b : Fin 114) (k : Fin 128) :
    iblk m c 0 t (ix5 0 p a b k) = m (c, main_arg0) (ix5 (t : Fin 8) p a b k) := by
  blk_point [iblk, V, index_x t]

/-- The weights' block. -/
theorem blk_w (c : Dev nD) (t : Fin cfg0.N) : iblk m c 1 t = weights (m (c, main_arg1)) := by
  rw [← V_weights]
  unfold iblk
  funext y
  blk_simp
  refine congrArg _ (funext fun a => Fin.ext ?_)
  fin_cases a <;> blk_simp [index_w t]

/-- A read of the biases' block. -/
theorem blk_b (c : Dev nD) (t : Fin cfg0.N) (g : Fin 4) (co : Fin 3) :
    iblk m c 2 t (ix1 (⟨3 * g.val + co.val, by omega⟩ : Fin 12)) = m (c, main_arg2) (ix1 co) := by
  refine Eq.trans ?_ (V_bias m c g co)
  unfold iblk
  blk_simp
  refine congrArg _ (funext fun a => Fin.ext ?_)
  fin_cases a
  blk_simp [index_b t]

/-- The kernel's array after the last grid point is the reference's: at image `n`, output channel `3 (2 al + be) + co` and place
`(r, s)` both hold the hyperbolic tangent of the nine taps' sum and the channel's bias. -/
theorem arr_eq (c : Dev nD) :
    (dats m 0 c).arrAt 3 cfg0.N
      = Cert.LastReferenceIdeal.Layer.phases (Cert.LastReferenceIdeal.Layer.image (m (c, main_arg0)) (m (c, main_arg1)) (m (c, main_arg2))) := by
  refine (dats m 0 c).arrAt_eq_of_covers 3 _ (by decide +kernel) fun t hf y => ?_
  rw [after0_3, blk_w]
  blk_simp
  obtain ⟨n, ch, r, s, rfl⟩ : ∃ (n : Fin 1) (ch : Fin 12) (r s : Fin 112), y = ix4 n ch r s := ⟨_, _, _, _, eq_ix4 y⟩
  obtain rfl : n = 0 := Subsingleton.elim _ _
  obtain ⟨al, be, co, rfl⟩ : ∃ (al be : Fin 2) (co : Fin 3), ch = ⟨3 * (2 * al.val + be.val) + co.val, by omega⟩ :=
    ⟨⟨ch.val / 6, by omega⟩, ⟨ch.val / 3 % 2, by omega⟩, ⟨ch.val % 3, by omega⟩, Fin.ext (by simp only; omega)⟩
  have e : (win0_3.blk t).view.emb (ix4 0 (⟨3 * (2 * al.val + be.val) + co.val, by omega⟩ : Fin 12) r s)
      = ix4 (t : Fin 8) (⟨3 * (2 * al.val + be.val) + co.val, by omega⟩ : Fin 12) r s := by
    refine funext fun a => Fin.ext ?_
    fin_cases a <;> blk_simp [index_o t] <;> rfl
  rw [e]
  refine Eq.trans ?_ (Cert.LastReferenceIdeal.Layer.layer_at (m (c, main_arg0)) (m (c, main_arg1)) (m (c, main_arg2)) al be co t r s).symm
  rw [out_at, win_taps]
  have B := blk_b m c t ⟨2 * al.val + be.val, by omega⟩ co
  rw [B]
  have S : (∑ kh : Fin 3, ∑ kw : Fin 3, taken (iblk m c 0 t) (m (c, main_arg1)) al be co r s kh kw)
      = ∑ kh : Fin 3, ∑ kw : Fin 3, (Cert.LastReferenceIdeal.Layer.tap (m (c, main_arg0)) (m (c, main_arg1)) kh kw
          (ix4 (t : Fin 8) ⟨2 * r.val + al.val, by omega⟩ ⟨2 * s.val + be.val, by omega⟩ co) : EReal) :=
    Finset.sum_congr rfl fun kh _ => Finset.sum_congr rfl fun kw _ => by
      refine Eq.trans ?_ (Cert.LastReferenceIdeal.Layer.tap_phases (m (c, main_arg0)) (m (c, main_arg1)) al be kh kw co t r s).symm
      simp only [taken, blk_x]
  rw [S]

/-- The reference keeps its arguments and ends with every counter at zero. -/
theorem frame_r (m : (ℓ : Loc Cert.LastReferenceIdeal.nD Cert.LastReferenceIdeal.τ Cert.LastReferenceIdeal.sig) → Buf (Elt Ideal) ℓ)
    (ρ : Dev Cert.LastReferenceIdeal.nD → PrngReg) :
    θ_run (Cert.LastReferenceIdeal.defs (F := Ideal)) (onTc (τ := Cert.LastReferenceIdeal.τ) (Cert.LastReferenceIdeal.main (F := Ideal)))
        ⟨m, fun _ => 0, ρ⟩ (fun r => (∀ c : Dev Cert.LastReferenceIdeal.nD,
          r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2))
      ∧ r.2.sem = fun _ => 0) :=
  (θ_run Cert.LastReferenceIdeal.defs _ _).mono (fun r h => ⟨fun c => (h c).2, sem_eq_zero_of_no_sems (by decide) r.2⟩)
    (Cert.LastReferenceIdeal.Value.run m ρ)

/-- From memories that agree on the three arguments the last layer and its reference end with the same result. -/
theorem same (ρ : Dev nD → PrngReg)
    (m' : (ℓ : Loc Cert.LastReferenceIdeal.nD Cert.LastReferenceIdeal.τ Cert.LastReferenceIdeal.sig) → Buf (Elt Ideal) ℓ)
    (ρ' : Dev Cert.LastReferenceIdeal.nD → PrngReg)
    (hag : ∀ c : Dev nD,
      m' ((c.tc : Thread Cert.LastReferenceIdeal.nD Cert.LastReferenceIdeal.τ).loc Cert.LastReferenceIdeal.main_arg0) = m ((c.tc : Thread nD τ).loc main_arg0)
      ∧ m' ((c.tc : Thread Cert.LastReferenceIdeal.nD Cert.LastReferenceIdeal.τ).loc Cert.LastReferenceIdeal.main_arg1) = m ((c.tc : Thread nD τ).loc main_arg1)
      ∧ m' ((c.tc : Thread Cert.LastReferenceIdeal.nD Cert.LastReferenceIdeal.τ).loc Cert.LastReferenceIdeal.main_arg2) = m ((c.tc : Thread nD τ).loc main_arg2)) :
    ∃ (v0 : (c : Dev nD) → Buf (Elt Ideal) ((c.tc : Thread nD τ).loc main_v253)),
      θ_run (defs (F := Ideal)) (onTc (τ := τ) (main (F := Ideal))) ⟨m, fun _ => 0, ρ⟩ (fun r => ∀ c : Dev nD,
          r.2.mem ((c.tc : Thread nD τ).loc main_v253) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))
      ∧ θ_run (Cert.LastReferenceIdeal.defs (F := Ideal)) (onTc (τ := Cert.LastReferenceIdeal.τ) (Cert.LastReferenceIdeal.main (F := Ideal)))
          ⟨m', fun _ => 0, ρ'⟩ (fun r => ∀ c : Dev Cert.LastReferenceIdeal.nD,
          r.2.mem ((c.tc : Thread Cert.LastReferenceIdeal.nD Cert.LastReferenceIdeal.τ).loc Cert.LastReferenceIdeal.main_v56) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)) := by
  refine ⟨fun c => (dats m 0 c).arrAt 3 cfg0.N, Value.run_blocks m ρ, ?_⟩
  refine (θ_run Cert.LastReferenceIdeal.defs _ _).mono (fun _ h c => ⟨(h c).1.trans ?_, (h c).2⟩) (Cert.LastReferenceIdeal.Value.run m' ρ')
  refine (Cert.LastReferenceIdeal.Layer.res_eq m' c).trans ?_
  have e0 : m' (c, Cert.LastReferenceIdeal.main_arg0) = m (c, main_arg0) := (hag c).1
  have e1 : m' (c, Cert.LastReferenceIdeal.main_arg1) = m (c, main_arg1) := (hag c).2.1
  have e2 : m' (c, Cert.LastReferenceIdeal.main_arg2) = m (c, main_arg2) := (hag c).2.2
  refine Eq.trans ?_ (arr_eq m c).symm
  rw [e0, e1, e2]

end Cert.LastIdeal.Layer

end
-- ==== Proof.Deconv.Places.lean ====
module

public import Idealize.ShloMosaic.Lib.Pipeline.ValueKit.Tiles
public import Idealize.ShloMosaic.Lib.Pointwise

@[expose] public section

noncomputable section

namespace Cert.Deconv.Places

open Idealize.ShloMosaic

/-- One image of the call's result: two row phases, 114 rows and 114 columns with the border, two column phases of 64 channels. -/
abbrev Whole : Shape := ⟨5, ![1, 2, 114, 114, 128]⟩

/-- The row `R` of row phase `a`, border row when `R` is 0 or 113. -/
abbrev row (a : Fin 2) (R : Fin 114) : Rect Whole :=
  Rect.unit (s := Whole) ![0, a.val, R.val, 0, 0] ![1, 1, 1, 114, 128] (by
    intro e; have := a.isLt; have := R.isLt
    fin_cases e <;> simp [Whole] <;> omega)

/-- Band `q` of row phase `a`: rows `28 q + 1` to `28 q + 28`, without the border columns. -/
abbrev band (a : Fin 2) (q : Fin 4) : Rect Whole :=
  Rect.unit (s := Whole) ![0, a.val, 28 * q.val + 1, 1, 0] ![1, 1, 28, 112, 128] (by
    intro e; have := a.isLt; have := q.isLt
    fin_cases e <;> simp [Whole] <;> omega)

/-- Column `S` of band `q`'s rows. -/
abbrev side (a : Fin 2) (q : Fin 4) (S : Fin 114) : Rect Whole :=
  Rect.unit (s := Whole) ![0, a.val, 28 * q.val + 1, S.val, 0] ![1, 1, 28, 1, 128] (by
    intro e; have := a.isLt; have := q.isLt; have := S.isLt
    fin_cases e <;> simp [Whole] <;> omega)

/-- Where the body stores, the last store first. -/
def places : List (Rect Whole) :=
  [1, 0].flatMap fun a => ([3, 2, 1, 0].flatMap fun q => [side a q 113, side a q 0, band a q]) ++ [row a 113, row a 0]

/-- The stores leave no place of the result out. -/
theorem places_cover (y : Whole.Idx) : ∃ r ∈ places, y ∈ r.set := by
  have two : ∀ a : Fin 2, a ∈ ([1, 0] : List (Fin 2)) := by decide
  have four : ∀ q : Fin 4, q ∈ ([3, 2, 1, 0] : List (Fin 4)) := by decide
  have h0 : (y 0).val < 1 := (y 0).isLt
  have h1 : (y 1).val < 2 := (y 1).isLt
  have h2 : (y 2).val < 114 := (y 2).isLt
  have h3 : (y 3).val < 114 := (y 3).isLt
  have h4 : (y 4).val < 128 := (y 4).isLt
  have inRow : ∀ R : Fin 114, (y 2).val = R.val → y ∈ (row ⟨(y 1).val, h1⟩ R).set := fun R hR => by
    rw [Rect.mem_set_unit]
    intro e
    fin_cases e <;> simp [row] <;> omega
  by_cases top : (y 2).val = 0
  · exact ⟨_, List.mem_flatMap.2 ⟨⟨(y 1).val, h1⟩, two _, List.mem_append.2 (.inr (.tail _ (.head _)))⟩, inRow 0 top⟩
  by_cases bottom : (y 2).val = 113
  · exact ⟨_, List.mem_flatMap.2 ⟨⟨(y 1).val, h1⟩, two _, List.mem_append.2 (.inr (.head _))⟩, inRow 113 bottom⟩
  have hq : ((y 2).val - 1) / 28 < 4 := by omega
  have inBand : ∀ r : Rect Whole, r ∈ [side ⟨(y 1).val, h1⟩ ⟨((y 2).val - 1) / 28, hq⟩ 113, side ⟨(y 1).val, h1⟩ ⟨((y 2).val - 1) / 28, hq⟩ 0,
      band ⟨(y 1).val, h1⟩ ⟨((y 2).val - 1) / 28, hq⟩] → r ∈ places := fun r hr =>
    List.mem_flatMap.2 ⟨⟨(y 1).val, h1⟩, two _, List.mem_append.2 (.inl (List.mem_flatMap.2 ⟨⟨((y 2).val - 1) / 28, hq⟩, four _, hr⟩))⟩
  by_cases left : (y 3).val = 0
  · refine ⟨_, inBand _ (.tail _ (.head _)), ?_⟩
    rw [Rect.mem_set_unit]
    intro e
    fin_cases e <;> simp <;> omega
  by_cases right : (y 3).val = 113
  · refine ⟨_, inBand _ (.head _), ?_⟩
    rw [Rect.mem_set_unit]
    intro e
    fin_cases e <;> simp <;> omega
  · refine ⟨_, inBand _ (.tail _ (.tail _ (.head _))), ?_⟩
    rw [Rect.mem_set_unit]
    intro e
    fin_cases e <;> simp <;> omega

/-- Pieces stored at these places leave no place of the result out. -/
theorem cover {Val : EltTy → Type} {e : EltTy} (L : List (View.Piece Val Whole e)) (h : L.map (·.1) = places) (y : Whole.Idx) :
    ∃ p ∈ L, y ∈ p.1.set := by
  obtain ⟨r, hr, hy⟩ := places_cover y
  rw [← h, List.mem_map] at hr
  obtain ⟨p, hp, rfl⟩ := hr
  exact ⟨p, hp, hy⟩

/-- A square of numbers with a border of one zero around it: `f`'s row `p - 1` and column `q - 1` at `(p, q)`, zero outside. -/
def edge {n : ℕ} (f : Fin n → Fin n → EReal) (p q : ℕ) : EReal :=
  if h : (1 ≤ p ∧ p ≤ n) ∧ (1 ≤ q ∧ q ≤ n) then f ⟨p - 1, by omega⟩ ⟨q - 1, by omega⟩ else 0

theorem edge_in {n : ℕ} (f : Fin n → Fin n → EReal) (p q : ℕ) (r s : Fin n) (hp : p = r.val + 1) (hq : q = s.val + 1) : edge f p q = f r s := by
  subst hp hq
  unfold edge
  rw [dif_pos (by omega)]
  rfl

theorem edge_out {n : ℕ} (f : Fin n → Fin n → EReal) (p q : ℕ) (h : ¬((1 ≤ p ∧ p ≤ n) ∧ (1 ≤ q ∧ q ≤ n))) : edge f p q = 0 := dif_neg h

/-- Sixteen summands by row and column, of which those are nothing whose row or column has the other parity than the phase asks:
four are left. -/
theorem four_of_sixteen (T : Fin 4 → Fin 4 → EReal) (a b : Fin 2)
    (N : ∀ kh kw, (a.val + kh.val) % 2 = 1 ∨ (b.val + kw.val) % 2 = 1 → T kh kw = 0) :
    ∑ kh, ∑ kw, T kh kw = ∑ u : Fin 2, ∑ v : Fin 2, T ⟨a.val + 2 * u.val, by omega⟩ ⟨b.val + 2 * v.val, by omega⟩ := by
  have two : ∀ a : Fin 2, a = 0 ∨ a = 1 := by decide
  simp only [Fin.sum_univ_four, Fin.sum_univ_two]
  rcases two a with rfl | rfl <;> rcases two b with rfl | rfl <;> simp [N] <;> abel

end Cert.Deconv.Places
end
-- ==== Proof.Deconv.Ideal.Frame.lean ====
module

public import proofs.«01_k».proof.Proof.Gen.DeconvIdeal.Frame.RunA
public import proofs.«01_k».proof.Proof.Deconv.Places
public import Idealize.ShloMosaic.Lib.Claim

@[expose] public section

set_option maxRecDepth 16384

noncomputable section

namespace Cert.DeconvIdeal.Layer

open Cert.DeconvIdeal Cert.DeconvIdeal.Gen Cert.Deconv Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's stores at grid point `t`, the last one first. -/
def stored (c : Dev nD) (t : Fin cfg0.N) : List (View.Piece (Elt F) S1x2x114x114x128 .f32) :=
  (kernelRun0_A c (grid0.coords t) (ms0_0 t) (hs0_0 t) (ms0_1 t) (hs0_1 t) (ms0_2 t) (hs0_2 t) (ms0_3 t) (hs0_3 t) scM0_0
    (Memref.isWhole_whole _) (iblk m c 0 t) (iblk m c 1 t) (iblk m c 2 t)).1

/-- They are stored at the listed places. -/
theorem stored_places (c : Dev nD) (t : Fin cfg0.N) : (stored m c t).map (·.1) = Places.places := rfl

/-- What the pipeline's proof is about: each input window keeps its block, the output window holds what the body stores,
    and the body needs and returns the scoped buffers alone. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => View.canon (stored m c t)
  Φ _ := Pipeline.ΦA spec0 c
  q _ := fullShare
  owed _ := 0

theorem data_A (c : Dev nD) (w : Fin cfg0.W) : (data m 0 c).A w = V m c (Pipeline.arrRef spec0 w) := by
  dsimp only [data]

theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = View.canon (stored m c t) := by dsimp only [data]

/-- The input windows hold their blocks when the body starts. -/
theorem before_0 (c : Dev nD) (t : Fin cfg0.N) (d) : (data m 0 c).before 0 t d = iblk m c 0 t :=
  before0_0_of m (data m 0 c) (data_A m c 0) (after_0 m c) t d
theorem before_1 (c : Dev nD) (t : Fin cfg0.N) (d) : (data m 0 c).before 1 t d = iblk m c 1 t :=
  before0_1_of m (data m 0 c) (data_A m c 1) (after_1 m c) t d
theorem before_2 (c : Dev nD) (t : Fin cfg0.N) (d) : (data m 0 c).before 2 t d = iblk m c 2 t :=
  before0_2_of m (data m 0 c) (data_A m c 2) (after_2 m c) t d

/-- The body at a grid point takes the windows from what they hold before to what `data` says of them after. -/
theorem body_at (c : Dev nD) (t : Fin cfg0.N) :
    (iprop((data m 0 c).Φ t.castSucc ∗ (data m 0 c).owesAt () t.castSucc
      ∗ (∃ d, owns (c : Thread nD τ) (ms0_0 t) fullShare ((data m 0 c).before 0 t d))
      ∗ (∃ d, owns (c : Thread nD τ) (ms0_1 t) fullShare ((data m 0 c).before 1 t d))
      ∗ (∃ d, owns (c : Thread nD τ) (ms0_2 t) fullShare ((data m 0 c).before 2 t d))
      ∗ (∃ d, owns (c : Thread nD τ) (ms0_3 t) fullShare ((data m 0 c).before 3 t d))) : sProp 𝕄)
    ⊢ wp frame (wpE (defs₀ (F := F)) Variants.none c none) Set.univ (bodyAt0 t) (fun _ =>
      iprop((data m 0 c).Φ t.succ ∗ (data m 0 c).owesAt () t.succ
        ∗ owns (c : Thread nD τ) (ms0_0 t) fullShare ((data m 0 c).after 0 t)
        ∗ owns (c : Thread nD τ) (ms0_1 t) fullShare ((data m 0 c).after 1 t)
        ∗ owns (c : Thread nD τ) (ms0_2 t) fullShare ((data m 0 c).after 2 t)
        ∗ owns (c : Thread nD τ) (ms0_3 t) fullShare ((data m 0 c).after 3 t))) := by
  unfold bodyAt0
  simp only [before_0, before_1, before_2, after_0, after_1, after_2, after_3]
  rw [show (data m 0 c).Φ t.succ = Pipeline.ΦA spec0 c from rfl, show (data m 0 c).Φ t.castSucc = Pipeline.ΦA spec0 c from rfl,
    show (data m 0 c).owesAt () t.succ = (data m 0 c).owesAt () t.castSucc from rfl, PhiA0_eq]
  iintro ⟨⟨Hs, Hg⟩, Ho, ⟨%d0, H0⟩, ⟨%d1, H1⟩, ⟨%d2, H2⟩, ⟨%d3, H3⟩⟩
  iapply ((kernelRun0_A c (grid0.coords t) _ _ _ _ _ _ _ _ _ _ (iblk m c 0 t) (iblk m c 1 t) (iblk m c 2 t)).2.2 Set.univ _)
  isplitl [H0]; · iexact H0
  isplitl [H1]; · iexact H1
  isplitl [H2]; · iexact H2
  isplitl [H3]; · iexists _; iexact H3
  isplitl [Hs]; · iexact Hs
  iintro ⟨H0, H1, H2, ⟨%e3, H3⟩, ⟨%es, Hs⟩⟩
  isplitl [Hs Hg]
  · isplitl [Hs]
    · iexists _; unfold owns; iexists _; isplitr
      swap; · iexact Hs
      ipureintro; rfl
    iexact Hg
  isplitl [Ho]; · iexact Ho
  isplitl [H0]; · iexact H0
  isplitl [H1]; · iexact H1
  isplitl [H2]; · iexact H2
  unfold owns; iexists _; isplitr
  swap; · iexact H3
  ipureintro
  exact View.read_writes_eq_canon _ _ _ (Places.cover (stored m c t) (stored_places m c t))

/-- The library's obligation for the body. -/
theorem body (c : Dev nD) : BodyObligation (data (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body_at m c t) rfl .rfl fun _ => .rfl

set_option backward.isDefEq.respectTransparency.types false in
/-- The program ends, its arrays at what `data` gives and its semaphores at zero. -/
theorem ends : θ_run defs (onTc (τ := τ) (main (F := F))) (s₀ m ρ)
    (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (body m c).loose) (hshare := fun c => (data m 0 c).share_full fun _ => rfl)
    (howed := fun _ _ => rfl) (V := V m) (hmain := hmain m Variants.none) (hA := data_A m) (hΦ := fun _ _ => rfl)

/-- The program ends, its arguments unchanged and its semaphores at zero. -/
theorem frame_k : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (data m) (data_A m) ((θ_run defs _ _).mono (fun _ h => h.1) (ends m ρ)))
    ((θ_run defs _ _).mono (fun _ h => h.2) (ends m ρ))

end Cert.DeconvIdeal.Layer
end
-- ==== Proof.Deconv.Ideal.Window.lean ====
module

public import proofs.«01_k».proof.Proof.Deconv.Ideal.Frame
public import Idealize.ShloMosaic.Lib.Pointwise
public import Idealize.ShloMosaic.Lib.Pipeline.Value
public import Idealize.ShloMosaic.Lib.Pipeline.ValueKit.Tiles

@[expose] public section

set_option maxRecDepth 16384

noncomputable section

namespace Cert.DeconvIdeal.Layer

open Cert.DeconvIdeal Cert.DeconvIdeal.Gen Cert.Deconv Idealize.ShloMosaic Idealize.ShloMosaic.TcCoe Idealize.SL.Sem
open Places (edge edge_in edge_out)

variable {F : FTy → Type} [FloatOps F]

/-- The inside of the scratch, where the image is put. -/
abbrev inner : Rect S114x114x128 := Rect.unit (s := S114x114x128) ![1, 1, 0] S112x112x128.size (by
  intro a; fin_cases a <;> simp [S114x114x128, S112x112x128])

/-- All of the scratch. -/
abbrev all : Rect S114x114x128 := Rect.unit (s := S114x114x128) ![0, 0, 0] S114x114x128.size (by
  intro a; fin_cases a <;> simp [S114x114x128])

/-- What the scratch holds: zeros, and the image written inside. -/
def padded (x0 : Vec F S1x112x112x128 .f32) : Vec F S114x114x128 .f32 :=
  View.canon [⟨inner, shapeCast S112x112x128 (shapeCast S112x112x128 x0 shapeCasts_S1x112x112x128_S112x112x128) shapeCasts_S112x112x128_S112x112x128⟩,
    ⟨all, shapeCast S114x114x128 (broadcast S114x114x128 (Scalar.ofBits .f32 0x00000000#32) : FVec F S114x114x128 .f32) shapeCasts_S114x114x128_S114x114x128⟩]

/-- The window of the scratch at row `dr` and column `dc` of band `q`. -/
abbrev zRect (q : Fin 4) (dr dc : Fin 3) : Rect S114x114x128 :=
  Rect.unit (s := S114x114x128) ![28 * q.val + dr.val, dc.val, 0] S28x112x128.size (by
    intro a; have := q.isLt; have := dr.isLt; have := dc.isLt
    fin_cases a <;> simp [S114x114x128, S28x112x128] <;> omega)

/-- The slice of the prepared weights at row tap `kh` and column `dc`. -/
abbrev wRect (kh : Fin 4) (dc : Fin 3) : Rect S4x3x128x128 :=
  Rect.unit (s := S4x3x128x128) ![kh.val, dc.val, 0, 0] S1x1x128x128.size (by
    intro a; have := kh.isLt; have := dc.isLt
    fin_cases a <;> simp [S4x3x128x128, S1x1x128x128] <;> omega)

/-- One product of the kernel: a window of the padded image with a slice of the prepared weights. -/
def product (Z : Vec F S28x112x128 .f32) (A : Vec F S1x1x128x128 .f32) : FVec F S3136x128 .f32 :=
  have z : FVec F S3136x128 .f32 := shapeCast S3136x128 Z shapeCasts_S28x112x128_S3136x128
  have a : FVec F S128x128 .f32 := shapeCast S128x128 A shapeCasts_S1x1x128x128_S128x128
  matmul dot_S3136x128_S128x128_S3136x128_1_0_0_1_n_n none z a (constant S3136x128 .f32 0x00000000#32)

/-- The row of the window, the row tap and the column of each product, in the order that they are added, by the row phase. -/
def taps : Fin 2 → List (Fin 3 × Fin 4 × Fin 3) :=
  ![[(1, 1, 0), (1, 1, 1), (1, 1, 2), (0, 3, 0), (0, 3, 1), (0, 3, 2)], [(1, 2, 0), (1, 2, 1), (1, 2, 2), (2, 0, 0), (2, 0, 1), (2, 0, 2)]]

/-- The products of band `q` in row phase `a`, summed. -/
def sums (z : Vec F S114x114x128 .f32) (x1 : Vec F S4x3x128x128 .f32) (a : Fin 2) (q : Fin 4) : FVec F S3136x128 .f32 :=
  List.foldl (fun y p => addf y (product (View.ld z (zRect q p.1 p.2.2)) (View.ld x1 (wRect p.2.1 p.2.2))))
    (broadcast S3136x128 (Scalar.ofBits .f32 0x00000000#32) : FVec F S3136x128 .f32) (taps a)

/-- Band `q` in row phase `a` as it is stored. -/
def band (z : Vec F S114x114x128 .f32) (x1 : Vec F S4x3x128x128 .f32) (x2 : Vec F S128 .f32) (a : Fin 2) (q : Fin 4) : FVec F S1x1x28x112x128 .f32 :=
  have b : FVec F S1x128 .f32 := shapeCast S1x128 (shapeCast S128 x2 shapeCasts_S128_S128) shapeCasts_S128_S1x128
  have y : FVec F S3136x128 .f32 := maximumf (addf (sums z x1 a q) (broadcastTo S3136x128 b broadcasts_S1x128_S3136x128))
    (broadcast S3136x128 (Scalar.ofBits .f32 0x00000000#32))
  have v : FVec F S28x112x128 .f32 := shapeCast S28x112x128 y shapeCasts_S3136x128_S28x112x128
  shapeCast S1x1x28x112x128 v shapeCasts_S28x112x128_S1x1x28x112x128

/-- A border row as it is stored. -/
def noRow : FVec F S1x1x1x114x128 .f32 :=
  shapeCast S1x1x1x114x128 (broadcast S114x128 (Scalar.ofBits .f32 0x00000000#32) : FVec F S114x128 .f32) shapeCasts_S114x128_S1x1x1x114x128

/-- A band's part of a border column as it is stored. -/
def noSide : FVec F S1x1x28x1x128 .f32 :=
  shapeCast S1x1x28x1x128 (broadcast S28x1x128 (Scalar.ofBits .f32 0x00000000#32) : FVec F S28x1x128 .f32) shapeCasts_S28x1x128_S1x1x28x1x128

/-- The body's stores, the last one first. -/
def pieces (z : Vec F S114x114x128 .f32) (x1 : Vec F S4x3x128x128 .f32) (x2 : Vec F S128 .f32) : List (View.Piece (Elt F) S1x2x114x114x128 .f32) :=
  [1, 0].flatMap fun a => ([3, 2, 1, 0].flatMap fun q =>
      [⟨Places.side a q 113, noSide⟩, ⟨Places.side a q 0, noSide⟩, ⟨Places.band a q, band z x1 x2 a q⟩])
    ++ [⟨Places.row a 113, noRow⟩, ⟨Places.row a 0, noRow⟩]

variable (m : (ℓ : Loc nD τ sig) → Buf (Elt F) ℓ)

theorem stored_eq (c : Dev nD) (t : Fin cfg0.N) :
    stored m c t = pieces (padded (View.ld (iblk m c 0 t) (Rect.unit (s := S1x112x112x128) ![0, 0, 0, 0] S1x112x112x128.size inb_S1x112x112x128_S1x112x112x128_0_0_0_0))) (iblk m c 1 t) (View.ld (iblk m c 2 t) (Rect.unit (s := S128) ![0] S128.size inb_S128_S128_0)) := by
  unfold stored kernelRun0_A
  dsimp only
  sl_unfold_words
  simp only [View.readCov_eq_canon', View.readAt_eq_ld, (hs0_0 t).read_unread, (hs0_1 t).read_unread, (hs0_2 t).read_unread]
  rfl

/-- The padded image at a place: the image inside, zero on the border. -/
theorem padded_at (x0 : Vec Ideal S1x112x112x128 .f32) (p q : Fin 114) (k : Fin 128) :
    padded x0 (ix3 p q k) = edge (n := 112) (fun r s => x0 (ix4 0 r s k)) p.val q.val := by
  unfold padded
  by_cases h : (1 ≤ p.val ∧ p.val ≤ 112) ∧ (1 ≤ q.val ∧ q.val ≤ 112)
  · have e : (ix3 p q k : S114x114x128.Idx) = inner.emb (ix3 (⟨p.val - 1, by omega⟩ : Fin 112) (⟨q.val - 1, by omega⟩ : Fin 112) k : S112x112x128.Idx) := by
      funext a
      refine Fin.ext ((?_ : _ = _).trans (Rect.idx_unit_val _ _ _ _ a).symm)
      fin_cases a
      · show p.val = 1 + (p.val - 1); omega
      · show q.val = 1 + (q.val - 1); omega
      · show k.val = 0 + k.val; omega
    rw [e, View.canon_cons_emb (Val := Elt Ideal) (e := .f32)]
    rw [edge_in (n := 112) _ p.val q.val ⟨p.val - 1, by omega⟩ ⟨q.val - 1, by omega⟩ (by show p.val = p.val - 1 + 1; omega) (by show q.val = q.val - 1 + 1; omega)]
    simp only [pointwise]
  · rw [View.canon_cons_of_not_mem (Val := Elt Ideal) (e := .f32), edge_out (n := 112) _ _ _ h]
    · have e : (ix3 p q k : S114x114x128.Idx) = all.emb (ix3 p q k : S114x114x128.Idx) := by
        funext a
        refine Fin.ext ((?_ : _ = _).trans (Rect.idx_unit_val _ _ _ _ a).symm)
        fin_cases a
        · show p.val = 0 + p.val; omega
        · show q.val = 0 + q.val; omega
        · show k.val = 0 + k.val; omega
      rw [e, View.canon_cons_emb (Val := Elt Ideal) (e := .f32)]
      simp only [pointwise]
    · rw [Rect.mem_set_unit]
      intro hm
      refine h ⟨⟨(hm 0).1, ?_⟩, ⟨(hm 1).1, ?_⟩⟩
      · have : p.val < 1 + 112 := (hm 0).2
        omega
      · have : q.val < 1 + 112 := (hm 1).2
        omega

/-- A product at a lane and a pixel of the band: the sum over the 128 channels. -/
theorem product_at (Z : Vec Ideal S28x112x128 .f32) (A : Vec Ideal S1x1x128x128 .f32) (r : Fin 28) (s : Fin 112) (l : Fin 128) :
    product Z A (ix2 ⟨r.val * 112 + s.val, by omega⟩ l) = ∑ k : Fin 128, Z (ix3 r s k) * A (ix4 0 0 k l) := by
  unfold product
  simp only [pointwise]
  exact zero_add _

/-- The kernel's sum for row phase `a` at a lane and a pixel `(y, s)`: two row taps, three columns, 128 channels. -/
def total (x0 : Vec Ideal S1x112x112x128 .f32) (x1 : Vec Ideal S4x3x128x128 .f32) (a : Fin 2) (y s : Fin 112) (l : Fin 128) : EReal :=
  ∑ u : Fin 2, ∑ dc : Fin 3, ∑ k : Fin 128, edge (n := 112) (fun r s => x0 (ix4 0 r s k)) (y.val + a.val + u.val) (s.val + dc.val)
    * x1 (ix4 ⟨3 - a.val - 2 * u.val, by omega⟩ dc k l)

/-- Summands at the listed products: two row taps and three columns. -/
theorem taps_sum {M : Type} [AddCommMonoid M] (P : Fin 3 × Fin 4 × Fin 3 → M) (a : Fin 2) :
    ((taps a).map P).sum = ∑ u : Fin 2, ∑ dc : Fin 3, P (⟨a.val + u.val, by omega⟩, ⟨3 - a.val - 2 * u.val, by omega⟩, dc) := by
  have e : ∀ a : Fin 2, a = 0 ∨ a = 1 := by decide
  rcases e a with rfl | rfl
  · simp only [Fin.sum_univ_two, Fin.sum_univ_three]
    refine Eq.trans ?_ (add_comm _ _)
    show (List.map P [(1, 1, 0), (1, 1, 1), (1, 1, 2), (0, 3, 0), (0, 3, 1), (0, 3, 2)]).sum = _
    simp only [List.map_cons, List.map_nil, List.sum_cons, List.sum_nil, add_zero, add_assoc]
    rfl
  · simp only [Fin.sum_univ_two, Fin.sum_univ_three]
    show (List.map P [(1, 2, 0), (1, 2, 1), (1, 2, 2), (2, 0, 0), (2, 0, 1), (2, 0, 2)]).sum = _
    simp only [List.map_cons, List.map_nil, List.sum_cons, List.sum_nil, add_zero, add_assoc]
    rfl

/-- The sum over the channels in one product, at a lane and a pixel. -/
def part (x0 : Vec Ideal S1x112x112x128 .f32) (x1 : Vec Ideal S4x3x128x128 .f32) (y s : Fin 112) (l : Fin 128) (p : Fin 3 × Fin 4 × Fin 3) : EReal :=
  ∑ k : Fin 128, edge (n := 112) (fun r s => x0 (ix4 0 r s k)) (y.val + p.1.val) (s.val + p.2.2.val) * x1 (ix4 p.2.1 p.2.2 k l)

theorem total_eq (x0 : Vec Ideal S1x112x112x128 .f32) (x1 : Vec Ideal S4x3x128x128 .f32) (a : Fin 2) (y s : Fin 112) (l : Fin 128) :
    total x0 x1 a y s l = ∑ u : Fin 2, ∑ dc : Fin 3, part x0 x1 y s l (⟨a.val + u.val, by omega⟩, ⟨3 - a.val - 2 * u.val, by omega⟩, dc) := by
  unfold total part
  refine Finset.sum_congr rfl fun u _ => Finset.sum_congr rfl fun dc _ => Finset.sum_congr rfl fun k _ => ?_
  rw [Nat.add_assoc y.val]

/-- The products summed, at a lane and a pixel of the band. -/
theorem sums_at (x0 : Vec Ideal S1x112x112x128 .f32) (x1 : Vec Ideal S4x3x128x128 .f32) (a : Fin 2) (q : Fin 4) (r : Fin 28) (s : Fin 112) (l : Fin 128) :
    sums (padded x0) x1 a q (ix2 ⟨r.val * 112 + s.val, by omega⟩ l) = total x0 x1 a ⟨28 * q.val + r.val, by omega⟩ s l := by
  have tap : ∀ p : Fin 3 × Fin 4 × Fin 3, product (View.ld (padded x0) (zRect q p.1 p.2.2)) (View.ld x1 (wRect p.2.1 p.2.2)) (ix2 ⟨r.val * 112 + s.val, by omega⟩ l)
      = part x0 x1 ⟨28 * q.val + r.val, by omega⟩ s l p := fun p => by
    rw [product_at]
    unfold part
    refine Finset.sum_congr rfl fun k _ => congrArg₂ (fun d e : EReal => d * e) ?_ (View.ld_unit_apply_of _ _ _ _ _ _ fun e => ?_)
    · refine (View.ld_unit_apply_of _ _ _ _ _ (ix3 ⟨28 * q.val + r.val + p.1.val, by omega⟩ ⟨s.val + p.2.2.val, by omega⟩ k) fun e => ?_).trans (padded_at x0 _ _ k)
      fin_cases e <;> simp [ix3] <;> omega
    · fin_cases e <;> simp [ix4]
  have fold : ∀ (L : List (Fin 3 × Fin 4 × Fin 3)) (y : FVec Ideal S3136x128 .f32) (j : S3136x128.Idx),
      List.foldl (fun y p => addf y (product (View.ld (padded x0) (zRect q p.1 p.2.2)) (View.ld x1 (wRect p.2.1 p.2.2)))) y L j
        = y j + (L.map fun p => product (View.ld (padded x0) (zRect q p.1 p.2.2)) (View.ld x1 (wRect p.2.1 p.2.2)) j).sum := fun L => by
    induction L with
    | nil => intro y j; exact (add_zero _).symm
    | cons p L ih => intro y j; rw [List.foldl_cons, ih, List.map_cons, List.sum_cons, ← add_assoc]; rfl
  have zero : (broadcast S3136x128 (Scalar.ofBits .f32 0x00000000#32) : FVec Ideal S3136x128 .f32) (ix2 ⟨r.val * 112 + s.val, by omega⟩ l) = 0 := by
    simp only [pointwise]
  unfold sums
  rw [fold, zero, zero_add, List.map_congr_left fun p _ => tap p]
  rw [total_eq]
  exact taps_sum (M := EReal) (fun p => part x0 x1 ⟨28 * q.val + r.val, by omega⟩ s l p) a

/-- A band at a lane and a pixel. -/
theorem band_at (x0 : Vec Ideal S1x112x112x128 .f32) (x1 : Vec Ideal S4x3x128x128 .f32) (x2 : Vec Ideal S128 .f32) (a : Fin 2) (q : Fin 4) (r : Fin 28) (s : Fin 112) (l : Fin 128) :
    band (padded x0) x1 x2 a q (ix5 0 0 r s l) = max (total x0 x1 a ⟨28 * q.val + r.val, by omega⟩ s l + x2 (ix1 l)) 0 := by
  rw [← sums_at]
  unfold band
  simp only [pointwise]
  rfl

/-- The kernel's result at a place of one image's array. -/
def win (x0 : Vec Ideal S1x112x112x128 .f32) (x1 : Vec Ideal S4x3x128x128 .f32) (x2 : Vec Ideal S128 .f32) (a : Fin 2) (R S : Fin 114) (l : Fin 128) : EReal :=
  edge (n := 112) (fun r s => max (total x0 x1 a r s l + x2 (ix1 l)) 0) R.val S.val

theorem zero_side (x : S1x1x28x1x128.Idx) (v : EReal) (h : v = 0) : (noSide (F := Ideal) x : EReal) = v := by
  rw [h, eq_ix5 x]
  unfold noSide
  simp only [pointwise]

theorem zero_row (x : S1x1x1x114x128.Idx) (v : EReal) (h : v = 0) : (noRow (F := Ideal) x : EReal) = v := by
  rw [h, eq_ix5 x]
  unfold noRow
  simp only [pointwise]

/-- What the body's stores leave is the kernel's result. -/
theorem pieces_at (x0 : Vec Ideal S1x112x112x128 .f32) (x1 : Vec Ideal S4x3x128x128 .f32) (x2 : Vec Ideal S128 .f32) (a : Fin 2) (R S : Fin 114) (l : Fin 128) :
    View.canon (pieces (padded x0) x1 x2) (ix5 0 a R S l) = win x0 x1 x2 a R S l := by
  refine View.canon_apply_of_pieces (Val := Elt Ideal) (e := .f32) (fun y : S1x2x114x114x128.Idx => (win x0 x1 x2 (y 1) (y 2) (y 3) (y 4) : EReal)) _ ?_ _
    (Places.cover (Val := Elt Ideal) (e := .f32) _ rfl _)
  intro p hp
  obtain ⟨a, -, hp⟩ := List.mem_flatMap.1 hp
  rcases List.mem_append.1 hp with hp | hp
  · obtain ⟨q, -, hp⟩ := List.mem_flatMap.1 hp
    simp only [List.mem_cons, List.not_mem_nil, or_false] at hp
    rcases hp with rfl | rfl | rfl
    · intro x
      have h : ((Places.side a q 113).emb x 3).val = 113 + (x 3).val := Rect.idx_unit_val _ _ _ x 3
      exact zero_side x _ (edge_out (n := 112) _ _ _ fun hm => by have := hm.2.2; simp only [h] at this; omega)
    · intro x
      have h : ((Places.side a q 0).emb x 3).val = 0 + (x 3).val := Rect.idx_unit_val _ _ _ x 3
      have h1 : (x 3).val < 1 := (x 3).isLt
      exact zero_side x _ (edge_out (n := 112) _ _ _ fun hm => by have := hm.2.1; simp only [h] at this; omega)
    · intro x
      obtain ⟨a0, a1, r, s, k, rfl⟩ : ∃ (a0 a1 : Fin 1) (r : Fin 28) (s : Fin 112) (k : Fin 128), x = ix5 a0 a1 r s k := ⟨x 0, x 1, x 2, x 3, x 4, eq_ix5 x⟩
      obtain rfl : a0 = 0 := Subsingleton.elim _ _
      obtain rfl : a1 = 0 := Subsingleton.elim _ _
      refine (band_at x0 x1 x2 a q r s k).trans ?_
      have e1 : (Places.band a q).emb (ix5 0 0 r s k) 1 = a := Fin.ext ((Rect.idx_unit_val _ _ _ _ 1).trans (Nat.add_zero _))
      have e4 : (Places.band a q).emb (ix5 0 0 r s k) 4 = k := Fin.ext ((Rect.idx_unit_val _ _ _ _ 4).trans (Nat.zero_add _))
      have e2 : ((Places.band a q).emb (ix5 0 0 r s k) 2).val = 28 * q.val + 1 + r.val := Rect.idx_unit_val _ _ _ _ 2
      have e3 : ((Places.band a q).emb (ix5 0 0 r s k) 3).val = 1 + s.val := Rect.idx_unit_val _ _ _ _ 3
      show _ = win x0 x1 x2 ((Places.band a q).emb (ix5 0 0 r s k) 1) ((Places.band a q).emb (ix5 0 0 r s k) 2) ((Places.band a q).emb (ix5 0 0 r s k) 3)
        ((Places.band a q).emb (ix5 0 0 r s k) 4)
      rw [e1, e4]
      exact (edge_in (fun r s => max (total x0 x1 a r s k + x2 (ix1 k)) 0) _ _ ⟨28 * q.val + r.val, by omega⟩ s (e2.trans (by show _ = 28 * q.val + r.val + 1; omega)) (e3.trans (by omega))).symm
  · simp only [List.mem_cons, List.not_mem_nil, or_false] at hp
    rcases hp with rfl | rfl
    · intro x
      have h : ((Places.row a 113).emb x 2).val = 113 + (x 2).val := Rect.idx_unit_val _ _ _ x 2
      exact zero_row x _ (edge_out (n := 112) _ _ _ fun hm => by have := hm.1.2; simp only [h] at this; omega)
    · intro x
      have h : ((Places.row a 0).emb x 2).val = 0 + (x 2).val := Rect.idx_unit_val _ _ _ x 2
      have h1 : (x 2).val < 1 := (x 2).isLt
      exact zero_row x _ (edge_out (n := 112) _ _ _ fun hm => by have := hm.1.1; simp only [h] at this; omega)

end Cert.DeconvIdeal.Layer
end
-- ==== Proof.Deconv.Ideal.Weights.lean ====
module

public import proofs.«01_k».proof.Proof.Deconv.Ideal.Window
public import proofs.«01_k».proof.Proof.Last.Weights
public import Idealize.ShloMosaic.Lib.StableHlo.ReadAt

@[expose] public section

noncomputable section

namespace Cert.DeconvIdeal.Layer

open Cert.DeconvIdeal Cert.DeconvIdeal.Gen Cert.Deconv Idealize.ShloMosaic Idealize.ShloMosaic.TcCoe Idealize.SL.Sem
open Places (edge edge_in edge_out)
open Cert.LastIdeal.Layer (three four)

variable {F : FTy → Type} [FloatOps F]

/-- The convolution's column that column phase `b` of the result reads at column `dc` of the window, where there is one. -/
def column (b : Fin 2) (dc : Fin 3) : Option (Fin 4) :=
  ![![some 3, some 1, none], ![none, some 2, some 0]] b dc

/-- A block of weights: those at one row and column of the convolution, or zeros. -/
def block (v : Vec F S4x4x128x64 .f32) (kh : Fin 4) : Option (Fin 4) → Vec F S128x64 .f32
  | none => broadcastInDim S128x64 ![] bcast_S_S128x64 (constant S_ .f32 0x00000000#32)
  | some kw => shapeCast S128x64 (extractStridedSlice S1x1x128x64 ![kh.val, kw.val, 0, 0] v (by
      refine ⟨rfl, fun a => ?_⟩
      have := kh.isLt; have := kw.isLt
      fin_cases a <;> simp [S4x4x128x64, S1x1x128x64] <;> omega)) shapeCasts_S1x1x128x64_S128x64

/-- The matrix of weights of row `kh` and column `dc`: one block beside the other. -/
def mat (v : Vec F S4x4x128x64 .f32) (kh : Fin 4) (dc : Fin 3) : Vec F S128x128 .f32 :=
  concatenate S128x128 1 [⟨S128x64, block v kh (column 0 dc)⟩, ⟨S128x64, block v kh (column 1 dc)⟩] concatenates_S128x64_S128x64_S128x128_d1

/-- The three matrices of a row. -/
def row (v : Vec F S4x4x128x64 .f32) (kh : Fin 4) : Vec F S3x128x128 .f32 :=
  concatenate S3x128x128 0 [⟨S1x128x128, broadcastInDim S1x128x128 ![1, 2] bcast_S128x128_S1x128x128_1_2 (mat v kh 0)⟩,
    ⟨S1x128x128, broadcastInDim S1x128x128 ![1, 2] bcast_S128x128_S1x128x128_1_2 (mat v kh 1)⟩,
    ⟨S1x128x128, broadcastInDim S1x128x128 ![1, 2] bcast_S128x128_S1x128x128_1_2 (mat v kh 2)⟩] concatenates_S1x128x128_S1x128x128_S1x128x128_S3x128x128_d0

/-- The prepared weights. -/
def weights (w : Vec F S128x64x4x4 .f32) : Vec F S4x3x128x128 .f32 :=
  have v : Vec F S4x4x128x64 .f32 := transpose S4x4x128x64 [2, 3, 0, 1] w transposes_S128x64x4x4_S4x4x128x64_2_3_0_1
  concatenate S4x3x128x128 0 [⟨S1x3x128x128, broadcastInDim S1x3x128x128 ![1, 2, 3] bcast_S3x128x128_S1x3x128x128_1_2_3 (row v 0)⟩,
    ⟨S1x3x128x128, broadcastInDim S1x3x128x128 ![1, 2, 3] bcast_S3x128x128_S1x3x128x128_1_2_3 (row v 1)⟩,
    ⟨S1x3x128x128, broadcastInDim S1x3x128x128 ![1, 2, 3] bcast_S3x128x128_S1x3x128x128_1_2_3 (row v 2)⟩,
    ⟨S1x3x128x128, broadcastInDim S1x3x128x128 ![1, 2, 3] bcast_S3x128x128_S1x3x128x128_1_2_3 (row v 3)⟩] concatenates_S1x3x128x128_S1x3x128x128_S1x3x128x128_S1x3x128x128_S4x3x128x128_d0

/-- A read of a block that is there. -/
theorem block_some (w : Vec F S128x64x4x4 .f32) (kh kw : Fin 4) (k : Fin 128) (co : Fin 64) :
    block (transpose S4x4x128x64 [2, 3, 0, 1] w transposes_S128x64x4x4_S4x4x128x64_2_3_0_1) kh (some kw) (ix2 k co) = w (ix4 k co kh kw) := by
  unfold block
  dsimp only
  simp only [pointwise]
  refine congrArg w (funext fun a => Fin.ext ?_)
  fin_cases a <;> simp [ix4]

/-- A read of a block that is not there. -/
theorem block_none (v : Vec Ideal S4x4x128x64 .f32) (kh : Fin 4) (k : Fin 128) (co : Fin 64) :
    (block v kh none (ix2 k co) : EReal) = 0 := by
  unfold block
  dsimp only
  simp only [pointwise]

/-- A read of a matrix: of the block of the result's column phase. -/
theorem mat_at (v : Vec F S4x4x128x64 .f32) (kh : Fin 4) (dc : Fin 3) (k : Fin 128) (b : Fin 2) (co : Fin 64) :
    mat v kh dc (ix2 k (⟨64 * b.val + co.val, by omega⟩ : Fin 128)) = block v kh (column b dc) (ix2 k co) := by
  unfold mat
  fin_cases b <;> pointwise

/-- A read of the prepared weights. -/
theorem weights_mat (w : Vec F S128x64x4x4 .f32) (kh : Fin 4) (dc : Fin 3) (k l : Fin 128) :
    weights w (ix4 kh dc k l) = mat (transpose S4x4x128x64 [2, 3, 0, 1] w transposes_S128x64x4x4_S4x4x128x64_2_3_0_1) kh dc (ix2 k l) := by
  unfold weights row
  dsimp only
  fin_cases kh <;> fin_cases dc <;> pointwise

variable (m : (ℓ : Loc nD τ sig) → Buf (Elt F) ℓ)

/-- A concatenation of two arrays of one shape, piece by piece. -/
theorem two {α : Type} {s T : Shape} {a : Fin T.rank} {x y x' y' : s.Idx → α} (hx : x = x') (hy : y = y') (h h') :
    concatenate T a [⟨s, x⟩, ⟨s, y⟩] h = concatenate T a [⟨s, x'⟩, ⟨s, y'⟩] h' := by
  subst hx hy; rfl

set_option maxRecDepth 8192 in
set_option maxHeartbeats 1000000 in
/-- The region finds the prepared weights in its second window's array. -/
theorem V_weights (c : Dev nD) : V m c main_v66 = weights (m (c, main_arg1)) := by
  unfold V
  after_reads_simp [StableHlo.readPieces]
  dsimp only [Matrix.cons_val]
  after_reads_simp [StableHlo.readPieces]
  dsimp only [Matrix.cons_val]
  after_reads_simp [StableHlo.readPieces]
  unfold weights row mat
  refine four ?_ ?_ ?_ ?_ _ _ <;> refine congrArg (fun x : Vec F S3x128x128 .f32 => broadcastInDim S1x3x128x128 (![1, 2, 3] : Fin S3x128x128.rank → Fin S1x3x128x128.rank) bcast_S3x128x128_S1x3x128x128_1_2_3 x) ?_ <;>
    refine three ?_ ?_ ?_ _ _ <;> refine congrArg (fun x : Vec F S128x128 .f32 => broadcastInDim S1x128x128 (![1, 2] : Fin S128x128.rank → Fin S1x128x128.rank) bcast_S128x128_S1x128x128_1_2 x) ?_ <;>
    refine two ?_ ?_ _ _
  all_goals rfl

/-- The region finds the bias twice in its third window's array. -/
theorem V_bias (c : Dev nD) (b : Fin 2) (co : Fin 64) :
    V m c main_v67 (ix1 (⟨64 * b.val + co.val, by omega⟩ : Fin 128)) = m (c, main_arg2) (ix1 co) := by
  unfold V
  fin_cases b <;> after_reads_at

/-- The sum of products with the prepared weights is the one with the convolution's own: of three columns two carry weights. -/
theorem total_weights (x0 : Vec Ideal S1x112x112x128 .f32) (w : Vec Ideal S128x64x4x4 .f32) (a b : Fin 2) (y s : Fin 112) (co : Fin 64) :
    total x0 (weights w) a y s ⟨64 * b.val + co.val, by omega⟩
      = ∑ u : Fin 2, ∑ v : Fin 2, ∑ k : Fin 128, edge (n := 112) (fun r s => x0 (ix4 0 r s k)) (y.val + a.val + u.val) (s.val + b.val + v.val)
          * w (ix4 k co ⟨3 - a.val - 2 * u.val, by omega⟩ ⟨3 - b.val - 2 * v.val, by omega⟩) := by
  unfold total
  refine Finset.sum_congr rfl fun u _ => ?_
  simp only [weights_mat, mat_at]
  generalize (⟨3 - a.val - 2 * u.val, by omega⟩ : Fin 4) = kh
  generalize y.val + a.val + u.val = p
  fin_cases b
  · rw [Fin.sum_univ_three, Fin.sum_univ_two]
    have e : ∀ k, (block (transpose S4x4x128x64 [2, 3, 0, 1] w transposes_S128x64x4x4_S4x4x128x64_2_3_0_1) kh (column 0 2) (ix2 k co) : EReal) = 0 := fun k => block_none _ kh k co
    have e0 : ∀ k, (block (transpose S4x4x128x64 [2, 3, 0, 1] w transposes_S128x64x4x4_S4x4x128x64_2_3_0_1) kh (column 0 0) (ix2 k co) : EReal) = w (ix4 k co kh 3) := fun k => block_some w kh 3 k co
    have e1 : ∀ k, (block (transpose S4x4x128x64 [2, 3, 0, 1] w transposes_S128x64x4x4_S4x4x128x64_2_3_0_1) kh (column 0 1) (ix2 k co) : EReal) = w (ix4 k co kh 1) := fun k => block_some w kh 1 k co
    simp only [Fin.zero_eta, e, e0, e1, mul_zero, Finset.sum_const_zero, add_zero]
    rfl
  · rw [Fin.sum_univ_three, Fin.sum_univ_two]
    have e : ∀ k, (block (transpose S4x4x128x64 [2, 3, 0, 1] w transposes_S128x64x4x4_S4x4x128x64_2_3_0_1) kh (column 1 0) (ix2 k co) : EReal) = 0 := fun k => block_none _ kh k co
    have e0 : ∀ k, (block (transpose S4x4x128x64 [2, 3, 0, 1] w transposes_S128x64x4x4_S4x4x128x64_2_3_0_1) kh (column 1 1) (ix2 k co) : EReal) = w (ix4 k co kh 2) := fun k => block_some w kh 2 k co
    have e1 : ∀ k, (block (transpose S4x4x128x64 [2, 3, 0, 1] w transposes_S128x64x4x4_S4x4x128x64_2_3_0_1) kh (column 1 2) (ix2 k co) : EReal) = w (ix4 k co kh 0) := fun k => block_some w kh 0 k co
    simp only [Fin.mk_one, e, e0, e1, mul_zero, Finset.sum_const_zero, zero_add]
    rfl

end Cert.DeconvIdeal.Layer
end
-- ==== Proof.Deconv.Reference.lean ====
module

public import proofs.«01_k».proof.Proof.Gen.DeconvReferenceIdeal.Run
public import proofs.«01_k».proof.Proof.Deconv.Places
public import Idealize.ShloMosaic.Lib.Pointwise
public import Idealize.ShloMosaic.Lib.KernelVsHost

@[expose] public section

noncomputable section

namespace Cert.DeconvReferenceIdeal.Layer

open Cert.DeconvReferenceIdeal Cert.DeconvReferenceIdeal.Gen Idealize.ShloMosaic Idealize.ShloMosaic.TcCoe Idealize.SL.Sem
open Cert.Deconv.Places (edge edge_in edge_out four_of_sixteen)

variable {F : FTy → Type} [FloatOps F]

/-- The image with zeros between its pixels and a border of two. -/
def spread (X : Vec F S8x112x112x128 .f32) : Vec F S8x227x227x128 .f32 :=
  pad S8x227x227x128 ![0, 2, 2, 0] ![0, 2, 2, 0] ![0, 1, 1, 0] X (constant S_ .f32 0x00000000#32) pads_S8x112x112x128_S8x227x227x128_000_221_221_000 h_S_

/-- The flipped taps, output channels first. -/
def flipped (W : Vec F S128x64x4x4 .f32) : Vec F S64x128x4x4 .f32 :=
  transpose S64x128x4x4 [1, 0, 2, 3] (Host.reverse [2, 3] W) transposes_S128x64x4x4_S64x128x4x4_1_0_2_3

/-- One tap of the convolution. -/
def tap (X : Vec F S8x112x112x128 .f32) (W : Vec F S128x64x4x4 .f32) (kh kw : Fin 4) : FVec F S8x224x224x64 .f32 :=
  have x : FVec F S8x224x224x128 .f32 := extractStridedSlice S8x224x224x128 ![0, kh.val, kw.val, 0] (spread X) (by
    refine ⟨rfl, fun a => ?_⟩
    have := kh.isLt; have := kw.isLt
    fin_cases a <;> simp [S8x227x227x128, S8x224x224x128] <;> omega)
  have k : Vec F S64x128x1x1 .f32 := extractStridedSlice S64x128x1x1 ![0, 0, kh.val, kw.val] (flipped W) (by
    refine ⟨rfl, fun a => ?_⟩
    have := kh.isLt; have := kw.isLt
    fin_cases a <;> simp [S64x128x4x4, S64x128x1x1] <;> omega)
  have w : FVec F S64x128 .f32 := shapeCast S64x128 k shapeCasts_S64x128x1x1_S64x128
  Host.dotGeneral dot_S8x224x224x128_S64x128_S8x224x224x64_3_1_012_0_n_n none x w

/-- The sixteen taps, added in order. -/
def sum (X : Vec F S8x112x112x128 .f32) (W : Vec F S128x64x4x4 .f32) : FVec F S8x224x224x64 .f32 :=
  List.foldl (fun y p => addf y (tap X W p.1 p.2)) (broadcastInDim S8x224x224x64 ![] bcast_S_S8x224x224x64 (constant S_ .f32 0x00000000#32))
    [(0, 0), (0, 1), (0, 2), (0, 3), (1, 0), (1, 1), (1, 2), (1, 3), (2, 0), (2, 1), (2, 2), (2, 3), (3, 0), (3, 1), (3, 2), (3, 3)]

/-- The layer's image. -/
def image (X : Vec F S8x112x112x128 .f32) (W : Vec F S128x64x4x4 .f32) (b : Vec F S64 .f32) : FVec F S8x224x224x64 .f32 :=
  maximumf (addf (sum X W) (broadcastInDim S8x224x224x64 ![0, 1, 2, 3] bcast_S1x1x1x64_S8x224x224x64_0_1_2_3
    (broadcastInDim S1x1x1x64 ![3] bcast_S64_S1x1x1x64_3 b))) (broadcastInDim S8x224x224x64 ![] bcast_S_S8x224x224x64 (constant S_ .f32 0x00000000#32))

/-- The image with a border of two zeros. -/
def framed (Y : FVec F S8x224x224x64 .f32) : Vec F S8x228x228x64 .f32 :=
  pad S8x228x228x64 ![0, 2, 2, 0] ![0, 2, 2, 0] ![0, 0, 0, 0] Y (sitofp .f32 (constantI S_ 32 0#32)) pads_S8x224x224x64_S8x228x228x64_000_220_220_000 h_S_

/-- The framed image's pixels by their phases. -/
def phases (Y : Vec F S8x228x228x64 .f32) : Vec F S8x2x114x114x128 .f32 :=
  shapeCast _ (transpose S8x2x114x114x2x64 [0, 2, 1, 3, 4, 5] (shapeCast _ Y shapeCasts_S8x228x228x64_S8x114x2x114x2x64)
    transposes_S8x114x2x114x2x64_S8x2x114x114x2x64_0_2_1_3_4_5) shapeCasts_S8x2x114x114x2x64_S8x2x114x114x128

theorem res_eq (m : (ℓ : Loc nD τ sig) → Buf (Elt F) ℓ) (c : Dev nD) :
    Value.res_main_v92 m c = phases (framed (image (m (c, main_arg0)) (m (c, main_arg1)) (m (c, main_arg2)))) := by
  unfold Value.res_main_v92 phases framed image sum
  simp only [List.foldl_cons, List.foldl_nil, tap, spread, flipped]
  rfl

theorem phases_at (Y : Vec F S8x228x228x64 .f32) (n : Fin 8) (a b : Fin 2) (R S : Fin 114) (co : Fin 64) :
    phases Y (ix5 n a R S ⟨64 * b.val + co.val, by omega⟩) = Y (ix4 n ⟨2 * R.val + a.val, by omega⟩ ⟨2 * S.val + b.val, by omega⟩ co) := by
  unfold phases
  pointwise
  refine congrArg₂ (fun d e => Y (ix4 n d e co)) (Fin.ext ?_) (Fin.ext ?_)
  · show R.val * 2 + a.val = 2 * R.val + a.val
    omega
  · show S.val * 2 + b.val = 2 * S.val + b.val
    omega

/-- The framed image at a phase's place: the image inside, zero on the border. -/
theorem framed_at (Y : FVec Ideal S8x224x224x64 .f32) (n : Fin 8) (a b : Fin 2) (R S : Fin 114) (co : Fin 64) :
    framed Y (ix4 n ⟨2 * R.val + a.val, by omega⟩ ⟨2 * S.val + b.val, by omega⟩ co)
      = edge (n := 112) (fun r s => Y (ix4 n ⟨2 * r.val + a.val, by omega⟩ ⟨2 * s.val + b.val, by omega⟩ co)) R.val S.val := by
  unfold framed
  by_cases h : (1 ≤ R.val ∧ R.val ≤ 112) ∧ (1 ≤ S.val ∧ S.val ≤ 112)
  · rw [edge_in (n := 112) _ R.val S.val ⟨R.val - 1, by omega⟩ ⟨S.val - 1, by omega⟩ (by show R.val = R.val - 1 + 1; omega) (by show S.val = S.val - 1 + 1; omega)]
    refine pad_apply_of_inside _ _ _ _ _ _ _ _ _ fun e => ?_
    fin_cases e
    · show n.val = 0 + n.val * (0 + 1); omega
    · show 2 * R.val + a.val = 2 + (2 * (R.val - 1) + a.val) * (0 + 1); omega
    · show 2 * S.val + b.val = 2 + (2 * (S.val - 1) + b.val) * (0 + 1); omega
    · show co.val = 0 + co.val * (0 + 1); omega
  · rw [edge_out (n := 112) _ _ _ h]
    have z : (sitofp .f32 (constantI S_ 32 0#32) : FVec Ideal S_ .f32) (Shape.Idx.first h_S_) = 0 := by
      simp only [pointwise]
      show (((0#32 : BitVec 32).toInt : ℝ) : EReal) = 0
      simp
    by_cases hR : 1 ≤ R.val ∧ R.val ≤ 112
    · refine (pad_apply_of_not_inside _ _ _ _ _ _ _ _ 2 fun hm => h ⟨hR, ?_⟩).trans z
      have h1 : 2 ≤ 2 * S.val + b.val := hm.1
      have h2 : (2 * S.val + b.val - 2) / (0 + 1) < 224 := hm.2.2
      omega
    · refine (pad_apply_of_not_inside _ _ _ _ _ _ _ _ 1 fun hm => hR ?_).trans z
      have h1 : 2 ≤ 2 * R.val + a.val := hm.1
      have h2 : (2 * R.val + a.val - 2) / (0 + 1) < 224 := hm.2.2
      omega

/-- The spread image is the image, with a border of one, at the even rows and columns. -/
theorem spread_even (X : Vec Ideal S8x112x112x128 .f32) (n : Fin 8) (p q : Fin 227) (ci : Fin 128) (P Q : ℕ) (hp : p.val = 2 * P) (hq : q.val = 2 * Q) :
    spread X (ix4 n p q ci) = edge (n := 112) (fun r s => X (ix4 n r s ci)) P Q := by
  unfold spread
  by_cases h : (1 ≤ P ∧ P ≤ 112) ∧ (1 ≤ Q ∧ Q ≤ 112)
  · rw [edge_in (n := 112) _ P Q ⟨P - 1, by omega⟩ ⟨Q - 1, by omega⟩ (by show P = P - 1 + 1; omega) (by show Q = Q - 1 + 1; omega)]
    refine pad_apply_of_inside _ _ _ _ _ _ _ _ _ fun e => ?_
    fin_cases e
    · show n.val = 0 + n.val * (0 + 1); omega
    · show p.val = 2 + (P - 1) * (1 + 1); omega
    · show q.val = 2 + (Q - 1) * (1 + 1); omega
    · show ci.val = 0 + ci.val * (0 + 1); omega
  · rw [edge_out (n := 112) _ _ _ h]
    have z : (constant S_ .f32 0x00000000#32 : FVec Ideal S_ .f32) (Shape.Idx.first h_S_) = 0 := by
      simp only [pointwise]
    by_cases hR : 1 ≤ P ∧ P ≤ 112
    · refine (pad_apply_of_not_inside _ _ _ _ _ _ _ _ 2 fun hm => h ⟨hR, ?_⟩).trans z
      have h1 : 2 ≤ q.val := hm.1
      have h2 : (q.val - 2) / (1 + 1) < 112 := hm.2.2
      omega
    · refine (pad_apply_of_not_inside _ _ _ _ _ _ _ _ 1 fun hm => hR ?_).trans z
      have h1 : 2 ≤ p.val := hm.1
      have h2 : (p.val - 2) / (1 + 1) < 112 := hm.2.2
      omega

/-- It is zero at an odd row or column. -/
theorem spread_odd (X : Vec Ideal S8x112x112x128 .f32) (n : Fin 8) (p q : Fin 227) (ci : Fin 128) (h : p.val % 2 = 1 ∨ q.val % 2 = 1) :
    spread X (ix4 n p q ci) = (0 : EReal) := by
  unfold spread
  have z : (constant S_ .f32 0x00000000#32 : FVec Ideal S_ .f32) (Shape.Idx.first h_S_) = 0 := by
    simp only [pointwise]
  rcases h with h | h
  · refine (pad_apply_of_not_inside _ _ _ _ _ _ _ _ 1 fun hm => ?_).trans z
    have h1 : 2 ≤ p.val := hm.1
    have h2 : (p.val - 2) % (1 + 1) = 0 := hm.2.1
    omega
  · refine (pad_apply_of_not_inside _ _ _ _ _ _ _ _ 2 fun hm => ?_).trans z
    have h1 : 2 ≤ q.val := hm.1
    have h2 : (q.val - 2) % (1 + 1) = 0 := hm.2.1
    omega

/-- A flipped tap. -/
theorem flipped_at (W : Vec F S128x64x4x4 .f32) (co : Fin 64) (ci : Fin 128) (kh kw : Fin 4) :
    flipped W (ix4 co ci kh kw) = W (ix4 ci co ⟨3 - kh.val, by omega⟩ ⟨3 - kw.val, by omega⟩) := by
  unfold flipped
  pointwise
  show W (ix4 ci co kh.rev kw.rev) = _
  refine congrArg₂ (fun d e => W (ix4 ci co d e)) (Fin.ext ?_) (Fin.ext ?_)
  · rw [Fin.val_rev]
    show 4 - (kh.val + 1) = 3 - kh.val
    omega
  · rw [Fin.val_rev]
    show 4 - (kw.val + 1) = 3 - kw.val
    omega

theorem tap_at (X : Vec Ideal S8x112x112x128 .f32) (W : Vec Ideal S128x64x4x4 .f32) (kh kw : Fin 4) (co : Fin 64) (n : Fin 8) (i j : Fin 224) :
    tap X W kh kw (ix4 n i j co)
      = ∑ ci : Fin 128, spread X (ix4 n ⟨i.val + kh.val, by omega⟩ ⟨j.val + kw.val, by omega⟩ ci) * flipped W (ix4 co ci kh kw) := by
  unfold tap
  simp only [pointwise]
  rw [zero_add]
  refine Finset.sum_congr rfl fun ci _ => ?_
  refine congrArg₂ (fun d e : EReal => d * e) (congrArg (spread X) ?_) (congrArg (flipped W) ?_)
  · funext q
    fin_cases q <;> apply Fin.ext
    · show 0 + n.val = n.val; omega
    · show kh.val + i.val = i.val + kh.val; omega
    · show kw.val + j.val = j.val + kw.val; omega
    · show 0 + ci.val = ci.val; omega
  · funext q
    fin_cases q <;> apply Fin.ext
    · show 0 + co.val = co.val; omega
    · show 0 + ci.val = ci.val; omega
    · rfl
    · rfl

/-- The sum at a pixel and a channel. -/
theorem sum_at (X : Vec Ideal S8x112x112x128 .f32) (W : Vec Ideal S128x64x4x4 .f32) (co : Fin 64) (n : Fin 8) (i j : Fin 224) :
    sum X W (ix4 n i j co) = ∑ kh : Fin 4, ∑ kw : Fin 4, (tap X W kh kw (ix4 n i j co) : EReal) := by
  unfold sum
  simp only [List.foldl_cons, List.foldl_nil, pointwise, Fin.sum_univ_four, zero_add]
  abel

/-- A tap at the pixel `(2 y + a, 2 s + b)`: nothing when its row or its column falls between the pixels, -/
theorem tap_none (X : Vec Ideal S8x112x112x128 .f32) (W : Vec Ideal S128x64x4x4 .f32) (kh kw : Fin 4) (co : Fin 64) (n : Fin 8) (a b : Fin 2) (y s : Fin 112)
    (h : (a.val + kh.val) % 2 = 1 ∨ (b.val + kw.val) % 2 = 1) :
    tap X W kh kw (ix4 n ⟨2 * y.val + a.val, by omega⟩ ⟨2 * s.val + b.val, by omega⟩ co) = (0 : EReal) := by
  rw [tap_at]
  refine Finset.sum_eq_zero fun ci _ => ?_
  rw [spread_odd X n _ _ ci (by
    rcases h with h | h
    · refine .inl ?_
      show (2 * y.val + a.val + kh.val) % 2 = 1
      omega
    · refine .inr ?_
      show (2 * s.val + b.val + kw.val) % 2 = 1
      omega)]
  exact zero_mul (M₀ := EReal) _

/-- and otherwise the sum over the channels of a pixel of the image times a weight. -/
theorem tap_some (X : Vec Ideal S8x112x112x128 .f32) (W : Vec Ideal S128x64x4x4 .f32) (co : Fin 64) (n : Fin 8) (a b u v : Fin 2) (y s : Fin 112) (kh kw : Fin 4)
    (hh : kh.val = a.val + 2 * u.val) (hw : kw.val = b.val + 2 * v.val) :
    tap X W kh kw (ix4 n ⟨2 * y.val + a.val, by omega⟩ ⟨2 * s.val + b.val, by omega⟩ co)
      = ∑ ci : Fin 128, edge (n := 112) (fun r s => X (ix4 n r s ci)) (y.val + a.val + u.val) (s.val + b.val + v.val)
          * W (ix4 ci co ⟨3 - a.val - 2 * u.val, by omega⟩ ⟨3 - b.val - 2 * v.val, by omega⟩) := by
  rw [tap_at]
  refine Finset.sum_congr rfl fun ci _ => ?_
  rw [spread_even X n _ _ ci (y.val + a.val + u.val) (s.val + b.val + v.val) (by show 2 * y.val + a.val + kh.val = _; omega)
    (by show 2 * s.val + b.val + kw.val = _; omega), flipped_at]
  refine congrArg₂ (fun d e => (_ * W (ix4 ci co d e) : EReal)) (Fin.ext ?_) (Fin.ext ?_)
  · show 3 - kh.val = 3 - a.val - 2 * u.val
    omega
  · show 3 - kw.val = 3 - b.val - 2 * v.val
    omega

/-- The sixteen taps at a pixel: twelve are nothing. -/
theorem sum_phases (X : Vec Ideal S8x112x112x128 .f32) (W : Vec Ideal S128x64x4x4 .f32) (co : Fin 64) (n : Fin 8) (a b : Fin 2) (y s : Fin 112) :
    sum X W (ix4 n ⟨2 * y.val + a.val, by omega⟩ ⟨2 * s.val + b.val, by omega⟩ co)
      = ∑ u : Fin 2, ∑ v : Fin 2, ∑ ci : Fin 128, edge (n := 112) (fun r s => X (ix4 n r s ci)) (y.val + a.val + u.val) (s.val + b.val + v.val)
          * W (ix4 ci co ⟨3 - a.val - 2 * u.val, by omega⟩ ⟨3 - b.val - 2 * v.val, by omega⟩) := by
  rw [sum_at]
  refine (four_of_sixteen (fun kh kw => (tap X W kh kw (ix4 n ⟨2 * y.val + a.val, by omega⟩ ⟨2 * s.val + b.val, by omega⟩ co) : EReal)) a b
    fun kh kw => tap_none X W kh kw co n a b y s).trans ?_
  exact Finset.sum_congr rfl fun u _ => Finset.sum_congr rfl fun v _ => tap_some X W co n a b u v y s _ _ rfl rfl

/-- The reference's result at a place. -/
theorem layer_at (X : Vec Ideal S8x112x112x128 .f32) (W : Vec Ideal S128x64x4x4 .f32) (bias : Vec Ideal S64 .f32) (n : Fin 8) (a b : Fin 2) (R S : Fin 114) (co : Fin 64) :
    phases (framed (image X W bias)) (ix5 n a R S ⟨64 * b.val + co.val, by omega⟩)
      = edge (n := 112) (fun y s => max ((∑ u : Fin 2, ∑ v : Fin 2, ∑ ci : Fin 128, edge (n := 112) (fun r s => X (ix4 n r s ci)) (y.val + a.val + u.val) (s.val + b.val + v.val)
          * W (ix4 ci co ⟨3 - a.val - 2 * u.val, by omega⟩ ⟨3 - b.val - 2 * v.val, by omega⟩)) + bias (ix1 co)) 0) R.val S.val := by
  rw [phases_at, framed_at]
  refine congrArg (fun f => edge (n := 112) f R.val S.val) (funext fun y => funext fun s => ?_)
  rw [← sum_phases]
  unfold image
  simp only [pointwise]
  rfl

end Cert.DeconvReferenceIdeal.Layer
end
-- ==== Proof.Deconv.Ideal.Same.lean ====
module

public import proofs.«01_k».proof.Proof.Deconv.Ideal.Weights
public import proofs.«01_k».proof.Proof.Deconv.Reference
public import Idealize.ShloMosaic.Lib.Pipeline.ValueKit

@[expose] public section

noncomputable section

namespace Cert.DeconvIdeal.Layer

open Cert.DeconvIdeal Cert.DeconvIdeal.Gen Cert.Deconv Idealize.ShloMosaic Idealize.ShloMosaic.TcCoe Idealize.SL.Sem
open Places (edge)

variable (m : (ℓ : Loc nD τ sig) → Buf (Elt Ideal) ℓ)

/-- The block of the argument at grid point `t` is image `t`. -/
theorem index_x : ∀ t : Fin cfg0.N, win0_0.index t = ![t.val, 0, 0, 0] := by decide +kernel

/-- The weights' block is the whole array at every grid point. -/
theorem index_w : ∀ t : Fin cfg0.N, win0_1.index t = ![0, 0, 0, 0] := by decide +kernel

/-- The biases' block is the whole array at every grid point. -/
theorem index_b : ∀ t : Fin cfg0.N, win0_2.index t = ![0] := by decide +kernel

/-- The result's block at grid point `t` is image `t`. -/
theorem index_o : ∀ t : Fin cfg0.N, win0_3.index t = ![t.val, 0, 0, 0, 0] := by decide +kernel

/-- A read of the argument's block. -/
theorem blk_x (c : Dev nD) (t : Fin cfg0.N) (r s : Fin 112) (k : Fin 128) :
    iblk m c 0 t (ix4 0 r s k) = m (c, main_arg0) (ix4 (t : Fin 8) r s k) := by
  blk_point [iblk, V, index_x t]

/-- The weights' block. -/
theorem blk_w (c : Dev nD) (t : Fin cfg0.N) : iblk m c 1 t = weights (m (c, main_arg1)) := by
  rw [← V_weights]
  unfold iblk
  funext y
  blk_simp
  refine congrArg _ (funext fun a => Fin.ext ?_)
  fin_cases a <;> blk_simp [index_w t]

/-- A read of the biases' block. -/
theorem blk_b (c : Dev nD) (t : Fin cfg0.N) (b : Fin 2) (co : Fin 64) :
    iblk m c 2 t (ix1 (⟨64 * b.val + co.val, by omega⟩ : Fin 128)) = m (c, main_arg2) (ix1 co) := by
  refine Eq.trans ?_ (V_bias m c b co)
  unfold iblk
  blk_simp
  refine congrArg _ (funext fun a => Fin.ext ?_)
  fin_cases a
  blk_simp [index_b t]

/-- A load of all of the argument's block is the block. -/
theorem load_x (x : Vec Ideal S1x112x112x128 .f32) (r s : Fin 112) (k : Fin 128) :
    View.ld x (Rect.unit (s := S1x112x112x128) ![0, 0, 0, 0] S1x112x112x128.size inb_S1x112x112x128_S1x112x112x128_0_0_0_0) (ix4 0 r s k)
      = x (ix4 0 r s k) :=
  View.ld_unit_apply_of x _ _ _ _ _ fun a => by fin_cases a <;> simp [ix4]

/-- A load of all of the biases is the biases. -/
theorem load_b (x : Vec Ideal S128 .f32) (l : Fin 128) :
    View.ld x (Rect.unit (s := S128) ![0] S128.size inb_S128_S128_0) (ix1 l) = x (ix1 l) :=
  View.ld_unit_apply_of x _ _ _ _ _ fun a => by fin_cases a; simp [ix1]

/-- The kernel's array after the last grid point is the reference's: at image `n`, row phase `a`, place `(R, S)` and lane
`64 b + co` both hold zero on the border and inside it the four taps' sum and the channel's bias, cut off below at zero. -/
theorem arr_eq (c : Dev nD) :
    (data m 0 c).arrAt 3 cfg0.N
      = Cert.DeconvReferenceIdeal.Layer.phases (Cert.DeconvReferenceIdeal.Layer.framed
          (Cert.DeconvReferenceIdeal.Layer.image (m (c, main_arg0)) (m (c, main_arg1)) (m (c, main_arg2)))) := by
  refine (data m 0 c).arrAt_eq_of_covers 3 _ (by decide +kernel) fun t hf y => ?_
  rw [after_3, stored_eq, blk_w]
  blk_simp
  obtain ⟨n, a, R, S, l, rfl⟩ : ∃ (n : Fin 1) (a : Fin 2) (R S : Fin 114) (l : Fin 128), y = ix5 n a R S l := ⟨_, _, _, _, _, eq_ix5 y⟩
  obtain rfl : n = 0 := Subsingleton.elim _ _
  obtain ⟨b, co, rfl⟩ : ∃ (b : Fin 2) (co : Fin 64), l = ⟨64 * b.val + co.val, by omega⟩ :=
    ⟨⟨l.val / 64, by omega⟩, ⟨l.val % 64, by omega⟩, Fin.ext (by simp only; omega)⟩
  have e : (win0_3.blk t).view.emb (ix5 0 a R S (⟨64 * b.val + co.val, by omega⟩ : Fin 128))
      = ix5 (t : Fin 8) a R S (⟨64 * b.val + co.val, by omega⟩ : Fin 128) := by
    refine funext fun a => Fin.ext ?_
    fin_cases a <;> blk_simp [index_o t] <;> rfl
  rw [e]
  refine Eq.trans ?_ (Cert.DeconvReferenceIdeal.Layer.layer_at (m (c, main_arg0)) (m (c, main_arg1)) (m (c, main_arg2)) t a b R S co).symm
  rw [pieces_at]
  unfold win
  refine congrArg (fun f => edge (n := 112) f R.val S.val) (funext fun y => funext fun s => ?_)
  refine congrArg₂ (fun d e : EReal => max (d + e) 0) ?_ ((load_b _ _).trans (blk_b m c t b co))
  refine (total_weights _ _ a b y s co).trans ?_
  refine Finset.sum_congr rfl fun u _ => Finset.sum_congr rfl fun v _ => Finset.sum_congr rfl fun k _ => ?_
  refine congrArg (fun f => edge (n := 112) f _ _ * _) (funext fun r => funext fun s => ?_)
  exact (load_x _ r s k).trans (blk_x m c t r s k)

/-- The kernel ends with its result the array that the pipeline leaves, and keeps its arguments. -/
theorem run_named (ρ : Dev nD → PrngReg) : θ_run defs (onTc (τ := τ) (main (F := Ideal))) ⟨m, fun _ => 0, ρ⟩ fun r => ∀ c : Dev nD,
      r.2.mem ((c.tc : Thread nD τ).loc main_v68) = (data m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).1 3,
      ((h.1 c).1 0).trans (((data m 0 c).arrAt_in 0 rfl _).trans ((data_A m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩)
    (ends m ρ)

/-- The reference keeps its arguments and ends with every counter at zero. -/
theorem frame_r (m : (ℓ : Loc Cert.DeconvReferenceIdeal.nD Cert.DeconvReferenceIdeal.τ Cert.DeconvReferenceIdeal.sig) → Buf (Elt Ideal) ℓ)
    (ρ : Dev Cert.DeconvReferenceIdeal.nD → PrngReg) :
    θ_run (Cert.DeconvReferenceIdeal.defs (F := Ideal)) (onTc (τ := Cert.DeconvReferenceIdeal.τ) (Cert.DeconvReferenceIdeal.main (F := Ideal)))
        ⟨m, fun _ => 0, ρ⟩ (fun r => (∀ c : Dev Cert.DeconvReferenceIdeal.nD,
          r.2.mem ((c.tc : Thread Cert.DeconvReferenceIdeal.nD Cert.DeconvReferenceIdeal.τ).loc Cert.DeconvReferenceIdeal.main_arg0) = m ((c.tc : Thread Cert.DeconvReferenceIdeal.nD Cert.DeconvReferenceIdeal.τ).loc Cert.DeconvReferenceIdeal.main_arg0)
          ∧ r.2.mem ((c.tc : Thread Cert.DeconvReferenceIdeal.nD Cert.DeconvReferenceIdeal.τ).loc Cert.DeconvReferenceIdeal.main_arg1) = m ((c.tc : Thread Cert.DeconvReferenceIdeal.nD Cert.DeconvReferenceIdeal.τ).loc Cert.DeconvReferenceIdeal.main_arg1)
          ∧ r.2.mem ((c.tc : Thread Cert.DeconvReferenceIdeal.nD Cert.DeconvReferenceIdeal.τ).loc Cert.DeconvReferenceIdeal.main_arg2) = m ((c.tc : Thread Cert.DeconvReferenceIdeal.nD Cert.DeconvReferenceIdeal.τ).loc Cert.DeconvReferenceIdeal.main_arg2))
      ∧ r.2.sem = fun _ => 0) :=
  (θ_run Cert.DeconvReferenceIdeal.defs _ _).mono (fun r h => ⟨fun c => (h c).2, sem_eq_zero_of_no_sems (by decide) r.2⟩)
    (Cert.DeconvReferenceIdeal.Value.run m ρ)

/-- From memories that agree on the three arguments the second transposed convolution and its reference end with the same result. -/
theorem same (ρ : Dev nD → PrngReg)
    (m' : (ℓ : Loc Cert.DeconvReferenceIdeal.nD Cert.DeconvReferenceIdeal.τ Cert.DeconvReferenceIdeal.sig) → Buf (Elt Ideal) ℓ)
    (ρ' : Dev Cert.DeconvReferenceIdeal.nD → PrngReg)
    (hag : ∀ c : Dev nD,
      m' ((c.tc : Thread Cert.DeconvReferenceIdeal.nD Cert.DeconvReferenceIdeal.τ).loc Cert.DeconvReferenceIdeal.main_arg0) = m ((c.tc : Thread nD τ).loc main_arg0)
      ∧ m' ((c.tc : Thread Cert.DeconvReferenceIdeal.nD Cert.DeconvReferenceIdeal.τ).loc Cert.DeconvReferenceIdeal.main_arg1) = m ((c.tc : Thread nD τ).loc main_arg1)
      ∧ m' ((c.tc : Thread Cert.DeconvReferenceIdeal.nD Cert.DeconvReferenceIdeal.τ).loc Cert.DeconvReferenceIdeal.main_arg2) = m ((c.tc : Thread nD τ).loc main_arg2)) :
    ∃ (v0 : (c : Dev nD) → Buf (Elt Ideal) ((c.tc : Thread nD τ).loc main_v68)),
      θ_run (defs (F := Ideal)) (onTc (τ := τ) (main (F := Ideal))) ⟨m, fun _ => 0, ρ⟩ (fun r => ∀ c : Dev nD,
          r.2.mem ((c.tc : Thread nD τ).loc main_v68) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))
      ∧ θ_run (Cert.DeconvReferenceIdeal.defs (F := Ideal)) (onTc (τ := Cert.DeconvReferenceIdeal.τ) (Cert.DeconvReferenceIdeal.main (F := Ideal)))
          ⟨m', fun _ => 0, ρ'⟩ (fun r => ∀ c : Dev Cert.DeconvReferenceIdeal.nD,
          r.2.mem ((c.tc : Thread Cert.DeconvReferenceIdeal.nD Cert.DeconvReferenceIdeal.τ).loc Cert.DeconvReferenceIdeal.main_v92) = v0 c
          ∧ r.2.mem ((c.tc : Thread Cert.DeconvReferenceIdeal.nD Cert.DeconvReferenceIdeal.τ).loc Cert.DeconvReferenceIdeal.main_arg0) = m' ((c.tc : Thread Cert.DeconvReferenceIdeal.nD Cert.DeconvReferenceIdeal.τ).loc Cert.DeconvReferenceIdeal.main_arg0)
          ∧ r.2.mem ((c.tc : Thread Cert.DeconvReferenceIdeal.nD Cert.DeconvReferenceIdeal.τ).loc Cert.DeconvReferenceIdeal.main_arg1) = m' ((c.tc : Thread Cert.DeconvReferenceIdeal.nD Cert.DeconvReferenceIdeal.τ).loc Cert.DeconvReferenceIdeal.main_arg1)
          ∧ r.2.mem ((c.tc : Thread Cert.DeconvReferenceIdeal.nD Cert.DeconvReferenceIdeal.τ).loc Cert.DeconvReferenceIdeal.main_arg2) = m' ((c.tc : Thread Cert.DeconvReferenceIdeal.nD Cert.DeconvReferenceIdeal.τ).loc Cert.DeconvReferenceIdeal.main_arg2)) := by
  refine ⟨fun c => (data m 0 c).arrAt 3 cfg0.N, run_named m ρ, ?_⟩
  refine (θ_run Cert.DeconvReferenceIdeal.defs _ _).mono (fun _ h c => ⟨(h c).1.trans ?_, (h c).2⟩) (Cert.DeconvReferenceIdeal.Value.run m' ρ')
  refine (Cert.DeconvReferenceIdeal.Layer.res_eq m' c).trans ?_
  have e0 : m' (c, Cert.DeconvReferenceIdeal.main_arg0) = m (c, main_arg0) := (hag c).1
  have e1 : m' (c, Cert.DeconvReferenceIdeal.main_arg1) = m (c, main_arg1) := (hag c).2.1
  have e2 : m' (c, Cert.DeconvReferenceIdeal.main_arg2) = m (c, main_arg2) := (hag c).2.2
  refine Eq.trans ?_ (arr_eq m c).symm
  rw [e0, e1, e2]

end Cert.DeconvIdeal.Layer

end
-- ==== Proof.Deconv1.Places.lean ====
module

public import Idealize.ShloMosaic.Lib.Pipeline.ValueKit.Tiles
public import Idealize.ShloMosaic.Lib.Pointwise

@[expose] public section

noncomputable section

namespace Cert.Deconv1.Places

open Idealize.ShloMosaic

/-- One image of the call's result: 112 rows and 112 columns of 128 channels. -/
abbrev Whole : Shape := ⟨4, ![1, 112, 112, 128]⟩

/-- Every second row from row `56 h + a` on, 28 of them, and of these every second column from column `b` on. -/
abbrev place (a b h : Fin 2) : Rect Whole :=
  ⟨⟨![0, 56 * h.val + a.val, b.val, 0], ![1, 28, 56, 128], ![1, 2, 2, 1], by
    intro e; have := a.isLt; have := b.isLt; have := h.isLt
    fin_cases e <;> simp [Whole] <;> omega⟩, by
    intro e; fin_cases e <;> simp⟩

/-- Where the body stores, the last store first. -/
def places : List (Rect Whole) :=
  [1, 0].flatMap fun a => [1, 0].flatMap fun b => [1, 0].map fun h => place a b h

/-- The stores leave no place of the result out. -/
theorem places_cover (y : Whole.Idx) : ∃ r ∈ places, y ∈ r.set := by
  have two : ∀ a : Fin 2, a ∈ ([1, 0] : List (Fin 2)) := by decide
  have h0 : (y 0).val < 1 := (y 0).isLt
  have h1 : (y 1).val < 112 := (y 1).isLt
  have h2 : (y 2).val < 112 := (y 2).isLt
  have h3 : (y 3).val < 128 := (y 3).isLt
  refine ⟨place ⟨(y 1).val % 2, by omega⟩ ⟨(y 2).val % 2, by omega⟩ ⟨(y 1).val / 56, by omega⟩,
    List.mem_flatMap.2 ⟨_, two _, List.mem_flatMap.2 ⟨_, two _, List.mem_map.2 ⟨_, two _, rfl⟩⟩⟩, ?_⟩
  refine (LoadRect.mem_set _).2 fun e => ?_
  fin_cases e
  · exact ⟨0, by simp, by simp; omega⟩
  · exact ⟨(y 1).val % 56 / 2, by show _ < 28; omega, by show (y 1).val = 56 * ((y 1).val / 56) + (y 1).val % 2 + 2 * ((y 1).val % 56 / 2); omega⟩
  · exact ⟨(y 2).val / 2, by show _ < 56; omega, by show (y 2).val = (y 2).val % 2 + 2 * ((y 2).val / 2); omega⟩
  · exact ⟨(y 3).val, h3, by show (y 3).val = 0 + 1 * (y 3).val; omega⟩

/-- Pieces stored at these places leave no place of the result out. -/
theorem cover {Val : EltTy → Type} {e : EltTy} (L : List (View.Piece Val Whole e)) (h : L.map (·.1) = places) (y : Whole.Idx) :
    ∃ p ∈ L, y ∈ p.1.set := by
  obtain ⟨r, hr, hy⟩ := places_cover y
  rw [← h, List.mem_map] at hr
  obtain ⟨p, hp, rfl⟩ := hr
  exact ⟨p, hp, hy⟩

end Cert.Deconv1.Places
end
-- ==== Proof.Deconv1.Ideal.Frame.lean ====
module

public import proofs.«01_k».proof.Proof.Gen.Deconv1Ideal.Frame
public import proofs.«01_k».proof.Proof.Deconv1.Places
public import Idealize.ShloMosaic.Lib.Claim

@[expose] public section

set_option maxRecDepth 16384

noncomputable section

namespace Cert.Deconv1Ideal.Layer

open Cert.Deconv1Ideal Cert.Deconv1Ideal.Gen Cert.Deconv1 Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

set_option maxHeartbeats 2000000 in
/-- What the body stores into its last two buffers, the last piece first, and that it ends with these stored and the other
    buffers as they were. -/
def bodyRun (c : Dev nD) (i : grid0.Coords) (a1 : Memref sig .tc .vmem S1x56x56x128 .f32) (h1 : a1.IsWhole)
    (a2 : Memref sig .tc .vmem S4x4x128x128 .f32) (h2 : a2.IsWhole) (a3 : Memref sig .tc .vmem S128 .f32) (h3 : a3.IsWhole)
    (a4 : Memref sig .tc .vmem S1x112x112x128 .f32) (h4 : a4.IsWhole) (a5 : Memref sig .tc .vmem S58x58x128 .f32) (h5 : a5.IsWhole)
    (x0 : Vec F S1x56x56x128 .f32) (x1 : Vec F S4x4x128x128 .f32) (x2 : Vec F S128 .f32) :
    Σ' (L : List (View.Piece (Elt F) S1x112x112x128 .f32)), { Z : List (View.Piece (Elt F) S58x58x128 .f32) //
      ∀ (E : Set ℕ) (K : PUnit → sProp 𝕄),
        iprop(owns (c : Thread nD τ) a1 fullShare x0 ∗ owns (c : Thread nD τ) a2 fullShare x1 ∗ owns (c : Thread nD τ) a3 fullShare x2
            ∗ (∃ d, owns (c : Thread nD τ) a4 fullShare d) ∗ (∃ d, owns (c : Thread nD τ) a5 fullShare d)
            ∗ (iprop(owns (c : Thread nD τ) a1 fullShare x0 ∗ owns (c : Thread nD τ) a2 fullShare x1 ∗ owns (c : Thread nD τ) a3 fullShare x2
                ∗ (∃ f, a4.view.loc (c : Thread nD τ) ↦[a4.view.set]{fullShare} a4.view.writes (Elt F) f L)
                ∗ (∃ f, a5.view.loc (c : Thread nD τ) ↦[a5.view.set]{fullShare} a5.view.writes (Elt F) f Z)) -∗ K ⟨⟩))
          ⊢ wp frame (wpE (defs₀ (F := F)) Variants.none c none) E (cc0__deconv1_body i a1 h1 a2 h2 a3 h3 a4 h4 a5 h5) K } := by
  refine ⟨?_, ?_, fun E K => ?_⟩
  case refine_3 =>
    unfold cc0__deconv1_body k0_part1 k0_part2 k0_part3 k0_part4 k0_part5 k0_part6 k0_part7 k0_part8 k0_part9 k0_part10 owns
    iintro ⟨⟨%f1, %e1, H1⟩, ⟨%f2, %e2, H2⟩, ⟨%f3, %e3, H3⟩, ⟨%d4, %f4, -, H4⟩, ⟨%d5, %f5, -, H5⟩, Hk⟩
    obtain rfl := h1.eq_unread e1; obtain rfl := h2.eq_unread e2; obtain rfl := h3.eq_unread e3
    sl_exec
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]; · iexists _; iexact H4
    iexists _; iexact H5

variable (m : (ℓ : Loc nD τ sig) → Buf (Elt F) ℓ) (ρ : Dev nD → PrngReg)

/-- The windows' staging buffers at grid point `t`, each a whole buffer. -/
abbrev ms0_0 (t : Fin cfg0.N) : Memref sig .tc .vmem S1x56x56x128 .f32 := win0_0.stage (cfg0.slots t 0)
theorem hs0_0 (t : Fin cfg0.N) : (ms0_0 t).IsWhole := hstage0_0 ((cfg0.slots t 0).cast nbuf0_0)
abbrev ms0_1 (t : Fin cfg0.N) : Memref sig .tc .vmem S4x4x128x128 .f32 := win0_1.stage (cfg0.slots t 1)
theorem hs0_1 (t : Fin cfg0.N) : (ms0_1 t).IsWhole := hstage0_1 ((cfg0.slots t 1).cast nbuf0_1)
abbrev ms0_2 (t : Fin cfg0.N) : Memref sig .tc .vmem S128 .f32 := win0_2.stage (cfg0.slots t 2)
theorem hs0_2 (t : Fin cfg0.N) : (ms0_2 t).IsWhole := hstage0_2 ((cfg0.slots t 2).cast nbuf0_2)
abbrev ms0_3 (t : Fin cfg0.N) : Memref sig .tc .vmem S1x112x112x128 .f32 := win0_3.stage (cfg0.slots t 3)
theorem hs0_3 (t : Fin cfg0.N) : (ms0_3 t).IsWhole := hstage0_3 ((cfg0.slots t 3).cast nbuf0_3)

/-- The body's scratch. -/
abbrev scratch : Memref sig .tc .vmem S58x58x128 .f32 := Memref.whole cc0_scratch0

/-- What the pipeline keeps between grid points: the scratch, at some contents, and the core's generator. -/
theorem rest_eq (c : Dev nD) :
    (Pipeline.ΦA spec0 c : sProp 𝕄) = iprop(iprop((∃ d, owns (c : Thread nD τ) scratch fullShare d)) ∗ (∃ r, prngReg c r)) := by
  unfold Pipeline.ΦA
  rw [scopedRest0_eq]
  simp only [scratch, owns_whole]
  rfl

/-- The body's stores at grid point `t`, the last one first. -/
def stored (c : Dev nD) (t : Fin cfg0.N) : List (View.Piece (Elt F) S1x112x112x128 .f32) :=
  (bodyRun c (grid0.coords t) (ms0_0 t) (hs0_0 t) (ms0_1 t) (hs0_1 t) (ms0_2 t) (hs0_2 t) (ms0_3 t) (hs0_3 t) scratch
    (Memref.isWhole_whole _) (iblk m c 0 t) (iblk m c 1 t) (iblk m c 2 t)).1

/-- They are stored at the listed places. -/
theorem stored_places (c : Dev nD) (t : Fin cfg0.N) : (stored m c t).map (·.1) = Places.places := rfl

/-- What the pipeline's proof is about: each input window keeps its block, the output window holds what the body stores,
    and the body needs and returns the scoped buffers alone. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => View.canon (stored m c t)
  Φ _ := Pipeline.ΦA spec0 c
  q _ := fullShare
  owed _ := 0

theorem data_A (c : Dev nD) (w : Fin cfg0.W) : (data m 0 c).A w = V m c (Pipeline.arrRef spec0 w) := by
  dsimp only [data]

theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = View.canon (stored m c t) := by dsimp only [data]

/-- The input windows hold their blocks when the body starts. -/
theorem before_0 (c : Dev nD) (t : Fin cfg0.N) (d) : (data m 0 c).before 0 t d = iblk m c 0 t :=
  before0_0_of m (data m 0 c) (data_A m c 0) (after_0 m c) t d
theorem before_1 (c : Dev nD) (t : Fin cfg0.N) (d) : (data m 0 c).before 1 t d = iblk m c 1 t :=
  before0_1_of m (data m 0 c) (data_A m c 1) (after_1 m c) t d
theorem before_2 (c : Dev nD) (t : Fin cfg0.N) (d) : (data m 0 c).before 2 t d = iblk m c 2 t :=
  before0_2_of m (data m 0 c) (data_A m c 2) (after_2 m c) t d

/-- The body at a grid point takes the windows from what they hold before to what `data` says of them after. -/
theorem body_at (c : Dev nD) (t : Fin cfg0.N) :
    (iprop((data m 0 c).Φ t.castSucc ∗ (data m 0 c).owesAt () t.castSucc
      ∗ (∃ d, owns (c : Thread nD τ) (ms0_0 t) fullShare ((data m 0 c).before 0 t d))
      ∗ (∃ d, owns (c : Thread nD τ) (ms0_1 t) fullShare ((data m 0 c).before 1 t d))
      ∗ (∃ d, owns (c : Thread nD τ) (ms0_2 t) fullShare ((data m 0 c).before 2 t d))
      ∗ (∃ d, owns (c : Thread nD τ) (ms0_3 t) fullShare ((data m 0 c).before 3 t d))) : sProp 𝕄)
    ⊢ wp frame (wpE (defs₀ (F := F)) Variants.none c none) Set.univ (bodyAt0 t) (fun _ =>
      iprop((data m 0 c).Φ t.succ ∗ (data m 0 c).owesAt () t.succ
        ∗ owns (c : Thread nD τ) (ms0_0 t) fullShare ((data m 0 c).after 0 t)
        ∗ owns (c : Thread nD τ) (ms0_1 t) fullShare ((data m 0 c).after 1 t)
        ∗ owns (c : Thread nD τ) (ms0_2 t) fullShare ((data m 0 c).after 2 t)
        ∗ owns (c : Thread nD τ) (ms0_3 t) fullShare ((data m 0 c).after 3 t))) := by
  unfold bodyAt0
  simp only [before_0, before_1, before_2, after_0, after_1, after_2, after_3]
  rw [show (data m 0 c).Φ t.succ = Pipeline.ΦA spec0 c from rfl, show (data m 0 c).Φ t.castSucc = Pipeline.ΦA spec0 c from rfl,
    show (data m 0 c).owesAt () t.succ = (data m 0 c).owesAt () t.castSucc from rfl, rest_eq]
  iintro ⟨⟨Hs, Hg⟩, Ho, ⟨%d0, H0⟩, ⟨%d1, H1⟩, ⟨%d2, H2⟩, ⟨%d3, H3⟩⟩
  iapply ((bodyRun c (grid0.coords t) _ _ _ _ _ _ _ _ _ _ (iblk m c 0 t) (iblk m c 1 t) (iblk m c 2 t)).2.2 Set.univ _)
  isplitl [H0]; · iexact H0
  isplitl [H1]; · iexact H1
  isplitl [H2]; · iexact H2
  isplitl [H3]; · iexists _; iexact H3
  isplitl [Hs]; · iexact Hs
  iintro ⟨H0, H1, H2, ⟨%e3, H3⟩, ⟨%es, Hs⟩⟩
  isplitl [Hs Hg]
  · isplitl [Hs]
    · iexists _; unfold owns; iexists _; isplitr
      swap; · iexact Hs
      ipureintro; rfl
    iexact Hg
  isplitl [Ho]; · iexact Ho
  isplitl [H0]; · iexact H0
  isplitl [H1]; · iexact H1
  isplitl [H2]; · iexact H2
  unfold owns; iexists _; isplitr
  swap; · iexact H3
  ipureintro
  exact View.read_writes_eq_canon _ _ _ (Places.cover (stored m c t) (stored_places m c t))

/-- The library's obligation for the body. -/
theorem body (c : Dev nD) : BodyObligation (data (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body_at m c t) rfl .rfl fun _ => .rfl

set_option backward.isDefEq.respectTransparency.types false in
/-- The program ends, its arrays at what `data` gives and its semaphores at zero. -/
theorem ends : θ_run defs (onTc (τ := τ) (main (F := F))) (s₀ m ρ)
    (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (body m c).loose) (hshare := fun c => (data m 0 c).share_full fun _ => rfl)
    (howed := fun _ _ => rfl) (V := V m) (hmain := hmain m Variants.none) (hA := data_A m) (hΦ := fun _ _ => rfl)

/-- The program ends, its arguments unchanged and its semaphores at zero. -/
theorem frame_k : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (data m) (data_A m) ((θ_run defs _ _).mono (fun _ h => h.1) (ends m ρ)))
    ((θ_run defs _ _).mono (fun _ h => h.2) (ends m ρ))

end Cert.Deconv1Ideal.Layer
end
-- ==== Proof.Deconv1.Ideal.Window.lean ====
module

public import proofs.«01_k».proof.Proof.Deconv1.Ideal.Frame
public import proofs.«01_k».proof.Proof.Deconv.Places
public import Idealize.ShloMosaic.Lib.Pointwise
public import Idealize.ShloMosaic.Lib.Pipeline.Value
public import Idealize.ShloMosaic.Lib.Pipeline.ValueKit.Tiles

@[expose] public section

set_option maxRecDepth 16384

noncomputable section

namespace Cert.Deconv1Ideal.Layer

open Cert.Deconv1Ideal Cert.Deconv1Ideal.Gen Cert.Deconv1 Idealize.ShloMosaic Idealize.ShloMosaic.TcCoe Idealize.SL.Sem
open Cert.Deconv.Places (edge edge_in edge_out)

variable {F : FTy → Type} [FloatOps F]

/-- The inside of the scratch, where the image is put. -/
abbrev inner : Rect S58x58x128 := Rect.unit (s := S58x58x128) ![1, 1, 0] S56x56x128.size (by
  intro a; fin_cases a <;> simp [S58x58x128, S56x56x128])

/-- All of the scratch. -/
abbrev all : Rect S58x58x128 := Rect.unit (s := S58x58x128) ![0, 0, 0] S58x58x128.size (by
  intro a; fin_cases a <;> simp [S58x58x128])

/-- What the scratch holds: zeros, and the image written inside. -/
def padded (x0 : Vec F S1x56x56x128 .f32) : Vec F S58x58x128 .f32 :=
  View.canon [⟨inner, shapeCast S56x56x128 (shapeCast S56x56x128 x0 shapeCasts_S1x56x56x128_S56x56x128) shapeCasts_S56x56x128_S56x56x128⟩,
    ⟨all, shapeCast S58x58x128 (broadcast S58x58x128 (Scalar.ofBits .f32 0x00000000#32) : FVec F S58x58x128 .f32) shapeCasts_S58x58x128_S58x58x128⟩]

/-- The window of the scratch at row `dr` and column `dc` of band `h`. -/
abbrev zRect (h : Fin 2) (dr dc : Fin 3) : Rect S58x58x128 :=
  Rect.unit (s := S58x58x128) ![28 * h.val + dr.val, dc.val, 0] S28x56x128.size (by
    intro a; have := h.isLt; have := dr.isLt; have := dc.isLt
    fin_cases a <;> simp [S58x58x128, S28x56x128] <;> omega)

/-- The slice of the weights at row `kh` and column `kw`. -/
abbrev wRect (kh kw : Fin 4) : Rect S4x4x128x128 :=
  Rect.unit (s := S4x4x128x128) ![kh.val, kw.val, 0, 0] S1x1x128x128.size (by
    intro a; have := kh.isLt; have := kw.isLt
    fin_cases a <;> simp [S4x4x128x128, S1x1x128x128] <;> omega)

/-- One product of the kernel: a window of the padded image with a slice of the weights. -/
def product (Z : Vec F S28x56x128 .f32) (A : Vec F S1x1x128x128 .f32) : FVec F S1568x128 .f32 :=
  have z : FVec F S1568x128 .f32 := shapeCast S1568x128 Z shapeCasts_S28x56x128_S1568x128
  have a : FVec F S128x128 .f32 := shapeCast S128x128 A shapeCasts_S1x1x128x128_S128x128
  matmul dot_S1568x128_S128x128_S1568x128_1_0_0_1_n_n none z a (constant S1568x128 .f32 0x00000000#32)

/-- The two places of the window and the weight of each, along one direction, by the result's phase in it. -/
def taps : Fin 2 → List (Fin 3 × Fin 4) := ![[(1, 1), (0, 3)], [(1, 2), (2, 0)]]

/-- The place and the weight of each product: of rows, then of columns, in the order that the products are added. -/
def pairs (a b : Fin 2) : List ((Fin 3 × Fin 4) × Fin 3 × Fin 4) := (taps a).flatMap fun p => (taps b).map fun q => (p, q)

/-- The products of band `h` in row phase `a` and column phase `b`, summed. -/
def sums (z : Vec F S58x58x128 .f32) (x1 : Vec F S4x4x128x128 .f32) (a b h : Fin 2) : FVec F S1568x128 .f32 :=
  List.foldl (fun y p => addf y (product (View.ld z (zRect h p.1.1 p.2.1)) (View.ld x1 (wRect p.1.2 p.2.2))))
    (broadcast S1568x128 (Scalar.ofBits .f32 0x00000000#32) : FVec F S1568x128 .f32) (pairs a b)

/-- Band `h` in row phase `a` and column phase `b` as it is stored. -/
def band (z : Vec F S58x58x128 .f32) (x1 : Vec F S4x4x128x128 .f32) (x2 : Vec F S128 .f32) (a b h : Fin 2) : FVec F S1x28x56x128 .f32 :=
  have bias : FVec F S1x128 .f32 := shapeCast S1x128 x2 shapeCasts_S128_S1x128
  have y : FVec F S1568x128 .f32 := maximumf (addf (sums z x1 a b h) (broadcastTo S1568x128 bias broadcasts_S1x128_S1568x128))
    (broadcast S1568x128 (Scalar.ofBits .f32 0x00000000#32))
  have v : FVec F S28x56x128 .f32 := shapeCast S28x56x128 y shapeCasts_S1568x128_S28x56x128
  shapeCast S1x28x56x128 v shapeCasts_S28x56x128_S1x28x56x128

/-- The body's stores, the last one first. -/
def pieces (z : Vec F S58x58x128 .f32) (x1 : Vec F S4x4x128x128 .f32) (x2 : Vec F S128 .f32) : List (View.Piece (Elt F) S1x112x112x128 .f32) :=
  [1, 0].flatMap fun a => [1, 0].flatMap fun b => [1, 0].map fun h => ⟨Places.place a b h, band z x1 x2 a b h⟩

variable (m : (ℓ : Loc nD τ sig) → Buf (Elt F) ℓ)

theorem stored_eq (c : Dev nD) (t : Fin cfg0.N) :
    stored m c t = pieces (padded (View.ld (iblk m c 0 t) (Rect.unit (s := S1x56x56x128) ![0, 0, 0, 0] S1x56x56x128.size inb_S1x56x56x128_S1x56x56x128_0_0_0_0))) (iblk m c 1 t) (View.ld (iblk m c 2 t) (Rect.unit (s := S128) ![0] S128.size inb_S128_S128_0)) := by
  unfold stored bodyRun
  dsimp only
  sl_unfold_words
  simp only [View.readCov_eq_canon', View.readAt_eq_ld, (hs0_0 t).read_unread, (hs0_1 t).read_unread, (hs0_2 t).read_unread]
  rfl

/-- The padded image at a place: the image inside, zero on the border. -/
theorem padded_at (x0 : Vec Ideal S1x56x56x128 .f32) (p q : Fin 58) (k : Fin 128) :
    padded x0 (ix3 p q k) = edge (n := 56) (fun r s => x0 (ix4 0 r s k)) p.val q.val := by
  unfold padded
  by_cases h : (1 ≤ p.val ∧ p.val ≤ 56) ∧ (1 ≤ q.val ∧ q.val ≤ 56)
  · have e : (ix3 p q k : S58x58x128.Idx) = inner.emb (ix3 (⟨p.val - 1, by omega⟩ : Fin 56) (⟨q.val - 1, by omega⟩ : Fin 56) k : S56x56x128.Idx) := by
      funext a
      refine Fin.ext ((?_ : _ = _).trans (Rect.idx_unit_val _ _ _ _ a).symm)
      fin_cases a
      · show p.val = 1 + (p.val - 1); omega
      · show q.val = 1 + (q.val - 1); omega
      · show k.val = 0 + k.val; omega
    rw [e, View.canon_cons_emb (Val := Elt Ideal) (e := .f32)]
    rw [edge_in (n := 56) _ p.val q.val ⟨p.val - 1, by omega⟩ ⟨q.val - 1, by omega⟩ (by show p.val = p.val - 1 + 1; omega) (by show q.val = q.val - 1 + 1; omega)]
    simp only [pointwise]
  · rw [View.canon_cons_of_not_mem (Val := Elt Ideal) (e := .f32), edge_out (n := 56) _ _ _ h]
    · have e : (ix3 p q k : S58x58x128.Idx) = all.emb (ix3 p q k : S58x58x128.Idx) := by
        funext a
        refine Fin.ext ((?_ : _ = _).trans (Rect.idx_unit_val _ _ _ _ a).symm)
        fin_cases a
        · show p.val = 0 + p.val; omega
        · show q.val = 0 + q.val; omega
        · show k.val = 0 + k.val; omega
      rw [e, View.canon_cons_emb (Val := Elt Ideal) (e := .f32)]
      simp only [pointwise]
    · rw [Rect.mem_set_unit]
      intro hm
      refine h ⟨⟨(hm 0).1, ?_⟩, ⟨(hm 1).1, ?_⟩⟩
      · have : p.val < 1 + 56 := (hm 0).2
        omega
      · have : q.val < 1 + 56 := (hm 1).2
        omega

/-- A product at a channel and a pixel of the band: the sum over the image's 128 channels. -/
theorem product_at (Z : Vec Ideal S28x56x128 .f32) (A : Vec Ideal S1x1x128x128 .f32) (r : Fin 28) (s : Fin 56) (l : Fin 128) :
    product Z A (ix2 ⟨r.val * 56 + s.val, by omega⟩ l) = ∑ k : Fin 128, Z (ix3 r s k) * A (ix4 0 0 k l) := by
  unfold product
  simp only [pointwise]
  exact zero_add _

/-- The sum over the image's channels in one product, at a channel and a pixel. -/
def part (x0 : Vec Ideal S1x56x56x128 .f32) (x1 : Vec Ideal S4x4x128x128 .f32) (y s : Fin 56) (l : Fin 128) (p : (Fin 3 × Fin 4) × Fin 3 × Fin 4) : EReal :=
  ∑ k : Fin 128, edge (n := 56) (fun r s => x0 (ix4 0 r s k)) (y.val + p.1.1.val) (s.val + p.2.1.val) * x1 (ix4 p.1.2 p.2.2 k l)

/-- The kernel's sum in the phases `a` and `b` at a channel and a pixel `(y, s)`: two rows, two columns, 128 channels. -/
def total (x0 : Vec Ideal S1x56x56x128 .f32) (x1 : Vec Ideal S4x4x128x128 .f32) (a b : Fin 2) (y s : Fin 56) (l : Fin 128) : EReal :=
  ∑ u : Fin 2, ∑ v : Fin 2, ∑ k : Fin 128, edge (n := 56) (fun r s => x0 (ix4 0 r s k)) (y.val + a.val + u.val) (s.val + b.val + v.val)
    * x1 (ix4 ⟨3 - a.val - 2 * u.val, by omega⟩ ⟨3 - b.val - 2 * v.val, by omega⟩ k l)

/-- Summands along one direction: two. -/
theorem taps_sum {M : Type} [AddCommMonoid M] (P : Fin 3 × Fin 4 → M) (a : Fin 2) :
    ((taps a).map P).sum = ∑ u : Fin 2, P (⟨a.val + u.val, by omega⟩, ⟨3 - a.val - 2 * u.val, by omega⟩) := by
  have e : ∀ a : Fin 2, a = 0 ∨ a = 1 := by decide
  rcases e a with rfl | rfl
  · rw [Fin.sum_univ_two]
    refine Eq.trans ?_ (add_comm _ _)
    show (List.map P [(1, 1), (0, 3)]).sum = _
    simp only [List.map_cons, List.map_nil, List.sum_cons, List.sum_nil, add_zero]
    rfl
  · rw [Fin.sum_univ_two]
    show (List.map P [(1, 2), (2, 0)]).sum = _
    simp only [List.map_cons, List.map_nil, List.sum_cons, List.sum_nil, add_zero]
    rfl

/-- Summands at the products: two rows by two columns. -/
theorem pairs_sum {M : Type} [AddCommMonoid M] (P : (Fin 3 × Fin 4) × Fin 3 × Fin 4 → M) (a b : Fin 2) :
    ((pairs a b).map P).sum = ∑ u : Fin 2, ∑ v : Fin 2, P ((⟨a.val + u.val, by omega⟩, ⟨3 - a.val - 2 * u.val, by omega⟩),
      (⟨b.val + v.val, by omega⟩, ⟨3 - b.val - 2 * v.val, by omega⟩)) := by
  have inner : ∀ L : List (Fin 3 × Fin 4), ((L.flatMap fun p => (taps b).map fun q => (p, q)).map P).sum
      = (L.map fun p => ((taps b).map fun q => P (p, q)).sum).sum := fun L => by
    induction L with
    | nil => rfl
    | cons p L ih => rw [List.flatMap_cons, List.map_append, List.sum_append, ih, List.map_cons, List.sum_cons, List.map_map]; rfl
  unfold pairs
  rw [inner, taps_sum (fun p => ((taps b).map fun q => P (p, q)).sum)]
  exact Finset.sum_congr rfl fun u _ => taps_sum (fun q => P (_, q)) b

/-- The products summed, at a channel and a pixel of the band. -/
theorem sums_at (x0 : Vec Ideal S1x56x56x128 .f32) (x1 : Vec Ideal S4x4x128x128 .f32) (a b h : Fin 2) (r : Fin 28) (s : Fin 56) (l : Fin 128) :
    sums (padded x0) x1 a b h (ix2 ⟨r.val * 56 + s.val, by omega⟩ l) = total x0 x1 a b ⟨28 * h.val + r.val, by omega⟩ s l := by
  have tap : ∀ p : (Fin 3 × Fin 4) × Fin 3 × Fin 4, product (View.ld (padded x0) (zRect h p.1.1 p.2.1)) (View.ld x1 (wRect p.1.2 p.2.2)) (ix2 ⟨r.val * 56 + s.val, by omega⟩ l)
      = part x0 x1 ⟨28 * h.val + r.val, by omega⟩ s l p := fun p => by
    rw [product_at]
    unfold part
    refine Finset.sum_congr rfl fun k _ => congrArg₂ (fun d e : EReal => d * e) ?_ (View.ld_unit_apply_of _ _ _ _ _ _ fun e => ?_)
    · refine (View.ld_unit_apply_of _ _ _ _ _ (ix3 ⟨28 * h.val + r.val + p.1.1.val, by omega⟩ ⟨s.val + p.2.1.val, by omega⟩ k) fun e => ?_).trans (padded_at x0 _ _ k)
      fin_cases e <;> simp [ix3] <;> omega
    · fin_cases e <;> simp [ix4]
  have fold : ∀ (L : List ((Fin 3 × Fin 4) × Fin 3 × Fin 4)) (y : FVec Ideal S1568x128 .f32) (j : S1568x128.Idx),
      List.foldl (fun y p => addf y (product (View.ld (padded x0) (zRect h p.1.1 p.2.1)) (View.ld x1 (wRect p.1.2 p.2.2)))) y L j
        = y j + (L.map fun p => product (View.ld (padded x0) (zRect h p.1.1 p.2.1)) (View.ld x1 (wRect p.1.2 p.2.2)) j).sum := fun L => by
    induction L with
    | nil => intro y j; exact (add_zero _).symm
    | cons p L ih => intro y j; rw [List.foldl_cons, ih, List.map_cons, List.sum_cons, ← add_assoc]; rfl
  have zero : (broadcast S1568x128 (Scalar.ofBits .f32 0x00000000#32) : FVec Ideal S1568x128 .f32) (ix2 ⟨r.val * 56 + s.val, by omega⟩ l) = 0 := by
    simp only [pointwise]
  unfold sums
  rw [fold, zero, zero_add, List.map_congr_left fun p _ => tap p]
  refine (pairs_sum (M := EReal) (fun p => part x0 x1 ⟨28 * h.val + r.val, by omega⟩ s l p) a b).trans ?_
  unfold total part
  refine Finset.sum_congr rfl fun u _ => Finset.sum_congr rfl fun v _ => Finset.sum_congr rfl fun k _ => ?_
  rw [Nat.add_assoc _ a.val, Nat.add_assoc _ b.val]

/-- A band at a channel and a pixel. -/
theorem band_at (x0 : Vec Ideal S1x56x56x128 .f32) (x1 : Vec Ideal S4x4x128x128 .f32) (x2 : Vec Ideal S128 .f32) (a b h : Fin 2) (r : Fin 28) (s : Fin 56) (l : Fin 128) :
    band (padded x0) x1 x2 a b h (ix4 0 r s l) = max (total x0 x1 a b ⟨28 * h.val + r.val, by omega⟩ s l + x2 (ix1 l)) 0 := by
  rw [← sums_at]
  unfold band
  simp only [pointwise]
  rfl

/-- The kernel's result at a place of one image. -/
def win (x0 : Vec Ideal S1x56x56x128 .f32) (x1 : Vec Ideal S4x4x128x128 .f32) (x2 : Vec Ideal S128 .f32) (i j : Fin 112) (l : Fin 128) : EReal :=
  max (total x0 x1 ⟨i.val % 2, by omega⟩ ⟨j.val % 2, by omega⟩ ⟨i.val / 2, by omega⟩ ⟨j.val / 2, by omega⟩ l + x2 (ix1 l)) 0

theorem win_at (x0 : Vec Ideal S1x56x56x128 .f32) (x1 : Vec Ideal S4x4x128x128 .f32) (x2 : Vec Ideal S128 .f32) (a b : Fin 2) (y s : Fin 56) (l : Fin 128)
    (i j : Fin 112) (hi : i.val = 2 * y.val + a.val) (hj : j.val = 2 * s.val + b.val) :
    win x0 x1 x2 i j l = max (total x0 x1 a b y s l + x2 (ix1 l)) 0 := by
  have e1 : (⟨i.val % 2, by omega⟩ : Fin 2) = a := Fin.ext (by show i.val % 2 = a.val; omega)
  have e2 : (⟨j.val % 2, by omega⟩ : Fin 2) = b := Fin.ext (by show j.val % 2 = b.val; omega)
  have e3 : (⟨i.val / 2, by omega⟩ : Fin 56) = y := Fin.ext (by show i.val / 2 = y.val; omega)
  have e4 : (⟨j.val / 2, by omega⟩ : Fin 56) = s := Fin.ext (by show j.val / 2 = s.val; omega)
  unfold win
  rw [e1, e2, e3, e4]

/-- What the body's stores leave is the kernel's result. -/
theorem pieces_at (x0 : Vec Ideal S1x56x56x128 .f32) (x1 : Vec Ideal S4x4x128x128 .f32) (x2 : Vec Ideal S128 .f32) (i j : Fin 112) (l : Fin 128) :
    View.canon (pieces (padded x0) x1 x2) (ix4 0 i j l) = win x0 x1 x2 i j l := by
  refine View.canon_apply_of_pieces (Val := Elt Ideal) (e := .f32) (fun y : S1x112x112x128.Idx => (win x0 x1 x2 (y 1) (y 2) (y 3) : EReal)) _ ?_ _
    (Places.cover (Val := Elt Ideal) (e := .f32) _ rfl _)
  intro p hp
  obtain ⟨a, -, hp⟩ := List.mem_flatMap.1 hp
  obtain ⟨b, -, hp⟩ := List.mem_flatMap.1 hp
  obtain ⟨h, -, rfl⟩ := List.mem_map.1 hp
  intro x
  obtain ⟨n, r, s, k, rfl⟩ : ∃ (n : Fin 1) (r : Fin 28) (s : Fin 56) (k : Fin 128), x = ix4 n r s k := ⟨x 0, x 1, x 2, x 3, eq_ix4 x⟩
  obtain rfl : n = 0 := Subsingleton.elim _ _
  refine (band_at x0 x1 x2 a b h r s k).trans ?_
  have e1 : ((Places.place a b h).emb (ix4 0 r s k) 1).val = 56 * h.val + a.val + 2 * r.val := rfl
  have e2 : ((Places.place a b h).emb (ix4 0 r s k) 2).val = b.val + 2 * s.val := rfl
  have e3 : (Places.place a b h).emb (ix4 0 r s k) 3 = k := Fin.ext (by show 0 + 1 * k.val = k.val; omega)
  show _ = win x0 x1 x2 ((Places.place a b h).emb (ix4 0 r s k) 1) ((Places.place a b h).emb (ix4 0 r s k) 2) ((Places.place a b h).emb (ix4 0 r s k) 3)
  rw [e3]
  exact (win_at x0 x1 x2 a b ⟨28 * h.val + r.val, by omega⟩ s k _ _ (by rw [e1]; show _ = 2 * (28 * h.val + r.val) + a.val; omega) (by omega)).symm

end Cert.Deconv1Ideal.Layer
end
-- ==== Proof.Deconv1.Reference.lean ====
module

public import proofs.«01_k».proof.Proof.Gen.Deconv1ReferenceIdeal.Run
public import proofs.«01_k».proof.Proof.Deconv.Places
public import Idealize.ShloMosaic.Lib.Pointwise
public import Idealize.ShloMosaic.Lib.KernelVsHost

@[expose] public section

noncomputable section

namespace Cert.Deconv1ReferenceIdeal.Layer

open Cert.Deconv1ReferenceIdeal Cert.Deconv1ReferenceIdeal.Gen Idealize.ShloMosaic Idealize.ShloMosaic.TcCoe Idealize.SL.Sem
open Cert.Deconv.Places (edge edge_in edge_out four_of_sixteen)

variable {F : FTy → Type} [FloatOps F]

/-- The image with zeros between its pixels and a border of two. -/
def spread (X : Vec F S8x56x56x128 .f32) : Vec F S8x115x115x128 .f32 :=
  pad S8x115x115x128 ![0, 2, 2, 0] ![0, 2, 2, 0] ![0, 1, 1, 0] X (constant S_ .f32 0x00000000#32) pads_S8x56x56x128_S8x115x115x128_000_221_221_000 h_S_

/-- The flipped taps, output channels first. -/
def flipped (W : Vec F S128x128x4x4 .f32) : Vec F S128x128x4x4 .f32 :=
  transpose S128x128x4x4 [1, 0, 2, 3] (Host.reverse [2, 3] W) transposes_S128x128x4x4_S128x128x4x4_1_0_2_3

/-- One tap of the convolution. -/
def tap (X : Vec F S8x56x56x128 .f32) (W : Vec F S128x128x4x4 .f32) (kh kw : Fin 4) : FVec F S8x112x112x128 .f32 :=
  have x : FVec F S8x112x112x128 .f32 := extractStridedSlice S8x112x112x128 ![0, kh.val, kw.val, 0] (spread X) (by
    refine ⟨rfl, fun a => ?_⟩
    have := kh.isLt; have := kw.isLt
    fin_cases a <;> simp [S8x115x115x128, S8x112x112x128] <;> omega)
  have k : Vec F S128x128x1x1 .f32 := extractStridedSlice S128x128x1x1 ![0, 0, kh.val, kw.val] (flipped W) (by
    refine ⟨rfl, fun a => ?_⟩
    have := kh.isLt; have := kw.isLt
    fin_cases a <;> simp [S128x128x4x4, S128x128x1x1] <;> omega)
  have w : FVec F S128x128 .f32 := shapeCast S128x128 k shapeCasts_S128x128x1x1_S128x128
  Host.dotGeneral dot_S8x112x112x128_S128x128_S8x112x112x128_3_1_012_0_n_n none x w

/-- The sixteen taps, added in order. -/
def sum (X : Vec F S8x56x56x128 .f32) (W : Vec F S128x128x4x4 .f32) : FVec F S8x112x112x128 .f32 :=
  List.foldl (fun y p => addf y (tap X W p.1 p.2)) (broadcastInDim S8x112x112x128 ![] bcast_S_S8x112x112x128 (constant S_ .f32 0x00000000#32))
    [(0, 0), (0, 1), (0, 2), (0, 3), (1, 0), (1, 1), (1, 2), (1, 3), (2, 0), (2, 1), (2, 2), (2, 3), (3, 0), (3, 1), (3, 2), (3, 3)]

/-- The layer's image. -/
def image (X : Vec F S8x56x56x128 .f32) (W : Vec F S128x128x4x4 .f32) (b : Vec F S128 .f32) : FVec F S8x112x112x128 .f32 :=
  maximumf (addf (sum X W) (broadcastInDim S8x112x112x128 ![0, 1, 2, 3] bcast_S1x1x1x128_S8x112x112x128_0_1_2_3
    (broadcastInDim S1x1x1x128 ![3] bcast_S128_S1x1x1x128_3 b))) (broadcastInDim S8x112x112x128 ![] bcast_S_S8x112x112x128 (constant S_ .f32 0x00000000#32))

theorem res_eq (m : (ℓ : Loc nD τ sig) → Buf (Elt F) ℓ) (c : Dev nD) :
    Value.res_main_v88 m c = image (m (c, main_arg0)) (m (c, main_arg1)) (m (c, main_arg2)) := by
  unfold Value.res_main_v88 image sum
  simp only [List.foldl_cons, List.foldl_nil, tap, spread, flipped]
  rfl

/-- The spread image is the image, with a border of one, at the even rows and columns. -/
theorem spread_even (X : Vec Ideal S8x56x56x128 .f32) (n : Fin 8) (p q : Fin 115) (ci : Fin 128) (P Q : ℕ) (hp : p.val = 2 * P) (hq : q.val = 2 * Q) :
    spread X (ix4 n p q ci) = edge (n := 56) (fun r s => X (ix4 n r s ci)) P Q := by
  unfold spread
  by_cases h : (1 ≤ P ∧ P ≤ 56) ∧ (1 ≤ Q ∧ Q ≤ 56)
  · rw [edge_in (n := 56) _ P Q ⟨P - 1, by omega⟩ ⟨Q - 1, by omega⟩ (by show P = P - 1 + 1; omega) (by show Q = Q - 1 + 1; omega)]
    refine pad_apply_of_inside _ _ _ _ _ _ _ _ _ fun e => ?_
    fin_cases e
    · show n.val = 0 + n.val * (0 + 1); omega
    · show p.val = 2 + (P - 1) * (1 + 1); omega
    · show q.val = 2 + (Q - 1) * (1 + 1); omega
    · show ci.val = 0 + ci.val * (0 + 1); omega
  · rw [edge_out (n := 56) _ _ _ h]
    have z : (constant S_ .f32 0x00000000#32 : FVec Ideal S_ .f32) (Shape.Idx.first h_S_) = 0 := by
      simp only [pointwise]
    by_cases hR : 1 ≤ P ∧ P ≤ 56
    · refine (pad_apply_of_not_inside _ _ _ _ _ _ _ _ 2 fun hm => h ⟨hR, ?_⟩).trans z
      have h1 : 2 ≤ q.val := hm.1
      have h2 : (q.val - 2) / (1 + 1) < 56 := hm.2.2
      omega
    · refine (pad_apply_of_not_inside _ _ _ _ _ _ _ _ 1 fun hm => hR ?_).trans z
      have h1 : 2 ≤ p.val := hm.1
      have h2 : (p.val - 2) / (1 + 1) < 56 := hm.2.2
      omega

/-- It is zero at an odd row or column. -/
theorem spread_odd (X : Vec Ideal S8x56x56x128 .f32) (n : Fin 8) (p q : Fin 115) (ci : Fin 128) (h : p.val % 2 = 1 ∨ q.val % 2 = 1) :
    spread X (ix4 n p q ci) = (0 : EReal) := by
  unfold spread
  have z : (constant S_ .f32 0x00000000#32 : FVec Ideal S_ .f32) (Shape.Idx.first h_S_) = 0 := by
    simp only [pointwise]
  rcases h with h | h
  · refine (pad_apply_of_not_inside _ _ _ _ _ _ _ _ 1 fun hm => ?_).trans z
    have h1 : 2 ≤ p.val := hm.1
    have h2 : (p.val - 2) % (1 + 1) = 0 := hm.2.1
    omega
  · refine (pad_apply_of_not_inside _ _ _ _ _ _ _ _ 2 fun hm => ?_).trans z
    have h1 : 2 ≤ q.val := hm.1
    have h2 : (q.val - 2) % (1 + 1) = 0 := hm.2.1
    omega

/-- A flipped tap. -/
theorem flipped_at (W : Vec F S128x128x4x4 .f32) (co : Fin 128) (ci : Fin 128) (kh kw : Fin 4) :
    flipped W (ix4 co ci kh kw) = W (ix4 ci co ⟨3 - kh.val, by omega⟩ ⟨3 - kw.val, by omega⟩) := by
  unfold flipped
  pointwise
  show W (ix4 ci co kh.rev kw.rev) = _
  refine congrArg₂ (fun d e => W (ix4 ci co d e)) (Fin.ext ?_) (Fin.ext ?_)
  · rw [Fin.val_rev]
    show 4 - (kh.val + 1) = 3 - kh.val
    omega
  · rw [Fin.val_rev]
    show 4 - (kw.val + 1) = 3 - kw.val
    omega

theorem tap_at (X : Vec Ideal S8x56x56x128 .f32) (W : Vec Ideal S128x128x4x4 .f32) (kh kw : Fin 4) (co : Fin 128) (n : Fin 8) (i j : Fin 112) :
    tap X W kh kw (ix4 n i j co)
      = ∑ ci : Fin 128, spread X (ix4 n ⟨i.val + kh.val, by omega⟩ ⟨j.val + kw.val, by omega⟩ ci) * flipped W (ix4 co ci kh kw) := by
  unfold tap
  simp only [pointwise]
  rw [zero_add]
  refine Finset.sum_congr rfl fun ci _ => ?_
  refine congrArg₂ (fun d e : EReal => d * e) (congrArg (spread X) ?_) (congrArg (flipped W) ?_)
  · funext q
    fin_cases q <;> apply Fin.ext
    · show 0 + n.val = n.val; omega
    · show kh.val + i.val = i.val + kh.val; omega
    · show kw.val + j.val = j.val + kw.val; omega
    · show 0 + ci.val = ci.val; omega
  · funext q
    fin_cases q <;> apply Fin.ext
    · show 0 + co.val = co.val; omega
    · show 0 + ci.val = ci.val; omega
    · rfl
    · rfl

/-- The sum at a pixel and a channel. -/
theorem sum_at (X : Vec Ideal S8x56x56x128 .f32) (W : Vec Ideal S128x128x4x4 .f32) (co : Fin 128) (n : Fin 8) (i j : Fin 112) :
    sum X W (ix4 n i j co) = ∑ kh : Fin 4, ∑ kw : Fin 4, (tap X W kh kw (ix4 n i j co) : EReal) := by
  unfold sum
  simp only [List.foldl_cons, List.foldl_nil, pointwise, Fin.sum_univ_four, zero_add]
  abel

/-- A tap at the pixel `(2 y + a, 2 s + b)`: nothing when its row or its column falls between the pixels, -/
theorem tap_none (X : Vec Ideal S8x56x56x128 .f32) (W : Vec Ideal S128x128x4x4 .f32) (kh kw : Fin 4) (co : Fin 128) (n : Fin 8) (a b : Fin 2) (y s : Fin 56)
    (h : (a.val + kh.val) % 2 = 1 ∨ (b.val + kw.val) % 2 = 1) :
    tap X W kh kw (ix4 n ⟨2 * y.val + a.val, by omega⟩ ⟨2 * s.val + b.val, by omega⟩ co) = (0 : EReal) := by
  rw [tap_at]
  refine Finset.sum_eq_zero fun ci _ => ?_
  rw [spread_odd X n _ _ ci (by
    rcases h with h | h
    · refine .inl ?_
      show (2 * y.val + a.val + kh.val) % 2 = 1
      omega
    · refine .inr ?_
      show (2 * s.val + b.val + kw.val) % 2 = 1
      omega)]
  exact zero_mul (M₀ := EReal) _

/-- and otherwise the sum over the channels of a pixel of the image times a weight. -/
theorem tap_some (X : Vec Ideal S8x56x56x128 .f32) (W : Vec Ideal S128x128x4x4 .f32) (co : Fin 128) (n : Fin 8) (a b u v : Fin 2) (y s : Fin 56) (kh kw : Fin 4)
    (hh : kh.val = a.val + 2 * u.val) (hw : kw.val = b.val + 2 * v.val) :
    tap X W kh kw (ix4 n ⟨2 * y.val + a.val, by omega⟩ ⟨2 * s.val + b.val, by omega⟩ co)
      = ∑ ci : Fin 128, edge (n := 56) (fun r s => X (ix4 n r s ci)) (y.val + a.val + u.val) (s.val + b.val + v.val)
          * W (ix4 ci co ⟨3 - a.val - 2 * u.val, by omega⟩ ⟨3 - b.val - 2 * v.val, by omega⟩) := by
  rw [tap_at]
  refine Finset.sum_congr rfl fun ci _ => ?_
  rw [spread_even X n _ _ ci (y.val + a.val + u.val) (s.val + b.val + v.val) (by show 2 * y.val + a.val + kh.val = _; omega)
    (by show 2 * s.val + b.val + kw.val = _; omega), flipped_at]
  refine congrArg₂ (fun d e => (_ * W (ix4 ci co d e) : EReal)) (Fin.ext ?_) (Fin.ext ?_)
  · show 3 - kh.val = 3 - a.val - 2 * u.val
    omega
  · show 3 - kw.val = 3 - b.val - 2 * v.val
    omega

/-- The sixteen taps at a pixel: twelve are nothing. -/
theorem sum_phases (X : Vec Ideal S8x56x56x128 .f32) (W : Vec Ideal S128x128x4x4 .f32) (co : Fin 128) (n : Fin 8) (a b : Fin 2) (y s : Fin 56) :
    sum X W (ix4 n ⟨2 * y.val + a.val, by omega⟩ ⟨2 * s.val + b.val, by omega⟩ co)
      = ∑ u : Fin 2, ∑ v : Fin 2, ∑ ci : Fin 128, edge (n := 56) (fun r s => X (ix4 n r s ci)) (y.val + a.val + u.val) (s.val + b.val + v.val)
          * W (ix4 ci co ⟨3 - a.val - 2 * u.val, by omega⟩ ⟨3 - b.val - 2 * v.val, by omega⟩) := by
  rw [sum_at]
  refine (four_of_sixteen (fun kh kw => (tap X W kh kw (ix4 n ⟨2 * y.val + a.val, by omega⟩ ⟨2 * s.val + b.val, by omega⟩ co) : EReal)) a b
    fun kh kw => tap_none X W kh kw co n a b y s).trans ?_
  exact Finset.sum_congr rfl fun u _ => Finset.sum_congr rfl fun v _ => tap_some X W co n a b u v y s _ _ rfl rfl

/-- The reference's result at the pixel `(2 y + a, 2 s + b)`. -/
theorem layer_at (X : Vec Ideal S8x56x56x128 .f32) (W : Vec Ideal S128x128x4x4 .f32) (bias : Vec Ideal S128 .f32) (n : Fin 8) (a b : Fin 2) (y s : Fin 56) (co : Fin 128) :
    image X W bias (ix4 n ⟨2 * y.val + a.val, by omega⟩ ⟨2 * s.val + b.val, by omega⟩ co)
      = max ((∑ u : Fin 2, ∑ v : Fin 2, ∑ ci : Fin 128, edge (n := 56) (fun r s => X (ix4 n r s ci)) (y.val + a.val + u.val) (s.val + b.val + v.val)
          * W (ix4 ci co ⟨3 - a.val - 2 * u.val, by omega⟩ ⟨3 - b.val - 2 * v.val, by omega⟩)) + bias (ix1 co)) 0 := by
  rw [← sum_phases]
  unfold image
  simp only [pointwise]
  rfl

end Cert.Deconv1ReferenceIdeal.Layer
end
-- ==== Proof.Deconv1.Ideal.Same.lean ====
module

public import proofs.«01_k».proof.Proof.Deconv1.Ideal.Window
public import proofs.«01_k».proof.Proof.Deconv1.Reference
public import Idealize.ShloMosaic.Lib.Pipeline.ValueKit
public import Idealize.ShloMosaic.Lib.StableHlo.ReadAt

@[expose] public section

noncomputable section

namespace Cert.Deconv1Ideal.Layer

open Cert.Deconv1Ideal Cert.Deconv1Ideal.Gen Cert.Deconv1 Idealize.ShloMosaic Idealize.ShloMosaic.TcCoe Idealize.SL.Sem
open Cert.Deconv.Places (edge)

variable (m : (ℓ : Loc nD τ sig) → Buf (Elt Ideal) ℓ)

/-- The block of the argument at grid point `t` is image `t`. -/
theorem index_x : ∀ t : Fin cfg0.N, win0_0.index t = ![t.val, 0, 0, 0] := by decide +kernel

/-- The weights' block is the whole array at every grid point. -/
theorem index_w : ∀ t : Fin cfg0.N, win0_1.index t = ![0, 0, 0, 0] := by decide +kernel

/-- The biases' block is the whole array at every grid point. -/
theorem index_b : ∀ t : Fin cfg0.N, win0_2.index t = ![0] := by decide +kernel

/-- The result's block at grid point `t` is image `t`. -/
theorem index_o : ∀ t : Fin cfg0.N, win0_3.index t = ![t.val, 0, 0, 0] := by decide +kernel

/-- A read of the argument's block. -/
theorem blk_x (c : Dev nD) (t : Fin cfg0.N) (r s : Fin 56) (k : Fin 128) :
    iblk m c 0 t (ix4 0 r s k) = m (c, main_arg0) (ix4 (t : Fin 8) r s k) := by
  blk_point [iblk, V, index_x t]

/-- The region finds the weights in its second window's array, their rows and columns first. -/
theorem V_weights (c : Dev nD) (kh kw : Fin 4) (k l : Fin 128) :
    V m c main_v0 (ix4 kh kw k l) = m (c, main_arg1) (ix4 k l kh kw) := by
  unfold V
  after_reads_at

/-- A read of the weights' block. -/
theorem blk_w (c : Dev nD) (t : Fin cfg0.N) (kh kw : Fin 4) (k l : Fin 128) :
    iblk m c 1 t (ix4 kh kw k l) = m (c, main_arg1) (ix4 k l kh kw) := by
  refine Eq.trans ?_ (V_weights m c kh kw k l)
  unfold iblk
  blk_simp
  refine congrArg _ (funext fun a => Fin.ext ?_)
  fin_cases a <;> blk_simp [index_w t]

/-- A read of the biases' block. -/
theorem blk_b (c : Dev nD) (t : Fin cfg0.N) (l : Fin 128) :
    iblk m c 2 t (ix1 l) = m (c, main_arg2) (ix1 l) := by
  refine Eq.trans ?_ (congrFun (V_main_arg2 m c) (ix1 l))
  unfold iblk
  blk_simp
  refine congrArg _ (funext fun a => Fin.ext ?_)
  fin_cases a
  blk_simp [index_b t]

/-- A load of all of the argument's block is the block. -/
theorem load_x (x : Vec Ideal S1x56x56x128 .f32) (r s : Fin 56) (k : Fin 128) :
    View.ld x (Rect.unit (s := S1x56x56x128) ![0, 0, 0, 0] S1x56x56x128.size inb_S1x56x56x128_S1x56x56x128_0_0_0_0) (ix4 0 r s k)
      = x (ix4 0 r s k) :=
  View.ld_unit_apply_of x _ _ _ _ _ fun a => by fin_cases a <;> simp [ix4]

/-- A load of all of the biases is the biases. -/
theorem load_b (x : Vec Ideal S128 .f32) (l : Fin 128) :
    View.ld x (Rect.unit (s := S128) ![0] S128.size inb_S128_S128_0) (ix1 l) = x (ix1 l) :=
  View.ld_unit_apply_of x _ _ _ _ _ fun a => by fin_cases a; simp [ix1]

/-- The kernel's array after the last grid point is the reference's: at image `n`, pixel `(2 y + a, 2 s + b)` and channel `l`
both hold the four taps' sum and the channel's bias, cut off below at zero. -/
theorem arr_eq (c : Dev nD) :
    (data m 0 c).arrAt 3 cfg0.N
      = Cert.Deconv1ReferenceIdeal.Layer.image (m (c, main_arg0)) (m (c, main_arg1)) (m (c, main_arg2)) := by
  refine (data m 0 c).arrAt_eq_of_covers 3 _ (by decide +kernel) fun t hf y => ?_
  rw [after_3, stored_eq]
  blk_simp
  obtain ⟨n, i, j, l, rfl⟩ : ∃ (n : Fin 1) (i j : Fin 112) (l : Fin 128), y = ix4 n i j l := ⟨_, _, _, _, eq_ix4 y⟩
  obtain rfl : n = 0 := Subsingleton.elim _ _
  obtain ⟨a, r, rfl⟩ : ∃ (a : Fin 2) (r : Fin 56), i = ⟨2 * r.val + a.val, by omega⟩ :=
    ⟨⟨i.val % 2, by omega⟩, ⟨i.val / 2, by omega⟩, Fin.ext (by simp only; omega)⟩
  obtain ⟨b, s, rfl⟩ : ∃ (b : Fin 2) (s : Fin 56), j = ⟨2 * s.val + b.val, by omega⟩ :=
    ⟨⟨j.val % 2, by omega⟩, ⟨j.val / 2, by omega⟩, Fin.ext (by simp only; omega)⟩
  have e : (win0_3.blk t).view.emb (ix4 0 (⟨2 * r.val + a.val, by omega⟩ : Fin 112) (⟨2 * s.val + b.val, by omega⟩ : Fin 112) l)
      = ix4 (t : Fin 8) (⟨2 * r.val + a.val, by omega⟩ : Fin 112) (⟨2 * s.val + b.val, by omega⟩ : Fin 112) l := by
    refine funext fun a => Fin.ext ?_
    fin_cases a <;> blk_simp [index_o t] <;> rfl
  rw [e]
  refine Eq.trans ?_ (Cert.Deconv1ReferenceIdeal.Layer.layer_at (m (c, main_arg0)) (m (c, main_arg1)) (m (c, main_arg2)) t a b r s l).symm
  rw [pieces_at, win_at _ _ _ a b r s l _ _ rfl rfl]
  refine congrArg₂ (fun d e : EReal => max (d + e) 0) ?_ ((load_b _ _).trans (blk_b m c t l))
  unfold total
  refine Finset.sum_congr rfl fun u _ => Finset.sum_congr rfl fun v _ => Finset.sum_congr rfl fun k _ => ?_
  refine congrArg₂ (fun d e : EReal => d * e) (congrArg (fun f => edge (n := 56) f _ _) (funext fun r => funext fun s => ?_)) (blk_w m c t _ _ k l)
  exact (load_x _ r s k).trans (blk_x m c t r s k)

/-- The kernel ends with its result the array that the pipeline leaves, and keeps its arguments. -/
theorem run_named (ρ : Dev nD → PrngReg) : θ_run defs (onTc (τ := τ) (main (F := Ideal))) ⟨m, fun _ => 0, ρ⟩ fun r => ∀ c : Dev nD,
      r.2.mem ((c.tc : Thread nD τ).loc main_v1) = (data m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).1 3,
      ((h.1 c).1 0).trans (((data m 0 c).arrAt_in 0 rfl _).trans ((data_A m c 0).trans (V_main_arg0 m c))),
      ((h.1 c).2 main_arg1 (Pipeline.mem_restRefs_of main_arg1 (by decide) (by decide))).trans (V_main_arg1 m c),
      ((h.1 c).1 2).trans (((data m 0 c).arrAt_in 2 rfl _).trans ((data_A m c 2).trans (V_main_arg2 m c)))⟩)
    (ends m ρ)

/-- The reference keeps its arguments and ends with every counter at zero. -/
theorem frame_r (m : (ℓ : Loc Cert.Deconv1ReferenceIdeal.nD Cert.Deconv1ReferenceIdeal.τ Cert.Deconv1ReferenceIdeal.sig) → Buf (Elt Ideal) ℓ)
    (ρ : Dev Cert.Deconv1ReferenceIdeal.nD → PrngReg) :
    θ_run (Cert.Deconv1ReferenceIdeal.defs (F := Ideal)) (onTc (τ := Cert.Deconv1ReferenceIdeal.τ) (Cert.Deconv1ReferenceIdeal.main (F := Ideal)))
        ⟨m, fun _ => 0, ρ⟩ (fun r => (∀ c : Dev Cert.Deconv1ReferenceIdeal.nD,
          r.2.mem ((c.tc : Thread Cert.Deconv1ReferenceIdeal.nD Cert.Deconv1ReferenceIdeal.τ).loc Cert.Deconv1ReferenceIdeal.main_arg0) = m ((c.tc : Thread Cert.Deconv1ReferenceIdeal.nD Cert.Deconv1ReferenceIdeal.τ).loc Cert.Deconv1ReferenceIdeal.main_arg0)
          ∧ r.2.mem ((c.tc : Thread Cert.Deconv1ReferenceIdeal.nD Cert.Deconv1ReferenceIdeal.τ).loc Cert.Deconv1ReferenceIdeal.main_arg1) = m ((c.tc : Thread Cert.Deconv1ReferenceIdeal.nD Cert.Deconv1ReferenceIdeal.τ).loc Cert.Deconv1ReferenceIdeal.main_arg1)
          ∧ r.2.mem ((c.tc : Thread Cert.Deconv1ReferenceIdeal.nD Cert.Deconv1ReferenceIdeal.τ).loc Cert.Deconv1ReferenceIdeal.main_arg2) = m ((c.tc : Thread Cert.Deconv1ReferenceIdeal.nD Cert.Deconv1ReferenceIdeal.τ).loc Cert.Deconv1ReferenceIdeal.main_arg2))
      ∧ r.2.sem = fun _ => 0) :=
  (θ_run Cert.Deconv1ReferenceIdeal.defs _ _).mono (fun r h => ⟨fun c => (h c).2, sem_eq_zero_of_no_sems (by decide) r.2⟩)
    (Cert.Deconv1ReferenceIdeal.Value.run m ρ)

/-- From memories that agree on the three arguments the first transposed convolution and its reference end with the same result. -/
theorem same (ρ : Dev nD → PrngReg)
    (m' : (ℓ : Loc Cert.Deconv1ReferenceIdeal.nD Cert.Deconv1ReferenceIdeal.τ Cert.Deconv1ReferenceIdeal.sig) → Buf (Elt Ideal) ℓ)
    (ρ' : Dev Cert.Deconv1ReferenceIdeal.nD → PrngReg)
    (hag : ∀ c : Dev nD,
      m' ((c.tc : Thread Cert.Deconv1ReferenceIdeal.nD Cert.Deconv1ReferenceIdeal.τ).loc Cert.Deconv1ReferenceIdeal.main_arg0) = m ((c.tc : Thread nD τ).loc main_arg0)
      ∧ m' ((c.tc : Thread Cert.Deconv1ReferenceIdeal.nD Cert.Deconv1ReferenceIdeal.τ).loc Cert.Deconv1ReferenceIdeal.main_arg1) = m ((c.tc : Thread nD τ).loc main_arg1)
      ∧ m' ((c.tc : Thread Cert.Deconv1ReferenceIdeal.nD Cert.Deconv1ReferenceIdeal.τ).loc Cert.Deconv1ReferenceIdeal.main_arg2) = m ((c.tc : Thread nD τ).loc main_arg2)) :
    ∃ (v0 : (c : Dev nD) → Buf (Elt Ideal) ((c.tc : Thread nD τ).loc main_v1)),
      θ_run (defs (F := Ideal)) (onTc (τ := τ) (main (F := Ideal))) ⟨m, fun _ => 0, ρ⟩ (fun r => ∀ c : Dev nD,
          r.2.mem ((c.tc : Thread nD τ).loc main_v1) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))
      ∧ θ_run (Cert.Deconv1ReferenceIdeal.defs (F := Ideal)) (onTc (τ := Cert.Deconv1ReferenceIdeal.τ) (Cert.Deconv1ReferenceIdeal.main (F := Ideal)))
          ⟨m', fun _ => 0, ρ'⟩ (fun r => ∀ c : Dev Cert.Deconv1ReferenceIdeal.nD,
          r.2.mem ((c.tc : Thread Cert.Deconv1ReferenceIdeal.nD Cert.Deconv1ReferenceIdeal.τ).loc Cert.Deconv1ReferenceIdeal.main_v88) = v0 c
          ∧ r.2.mem ((c.tc : Thread Cert.Deconv1ReferenceIdeal.nD Cert.Deconv1ReferenceIdeal.τ).loc Cert.Deconv1ReferenceIdeal.main_arg0) = m' ((c.tc : Thread Cert.Deconv1ReferenceIdeal.nD Cert.Deconv1ReferenceIdeal.τ).loc Cert.Deconv1ReferenceIdeal.main_arg0)
          ∧ r.2.mem ((c.tc : Thread Cert.Deconv1ReferenceIdeal.nD Cert.Deconv1ReferenceIdeal.τ).loc Cert.Deconv1ReferenceIdeal.main_arg1) = m' ((c.tc : Thread Cert.Deconv1ReferenceIdeal.nD Cert.Deconv1ReferenceIdeal.τ).loc Cert.Deconv1ReferenceIdeal.main_arg1)
          ∧ r.2.mem ((c.tc : Thread Cert.Deconv1ReferenceIdeal.nD Cert.Deconv1ReferenceIdeal.τ).loc Cert.Deconv1ReferenceIdeal.main_arg2) = m' ((c.tc : Thread Cert.Deconv1ReferenceIdeal.nD Cert.Deconv1ReferenceIdeal.τ).loc Cert.Deconv1ReferenceIdeal.main_arg2)) := by
  refine ⟨fun c => (data m 0 c).arrAt 3 cfg0.N, run_named m ρ, ?_⟩
  refine (θ_run Cert.Deconv1ReferenceIdeal.defs _ _).mono (fun _ h c => ⟨(h c).1.trans ?_, (h c).2⟩) (Cert.Deconv1ReferenceIdeal.Value.run m' ρ')
  refine (Cert.Deconv1ReferenceIdeal.Layer.res_eq m' c).trans ?_
  have e0 : m' (c, Cert.Deconv1ReferenceIdeal.main_arg0) = m (c, main_arg0) := (hag c).1
  have e1 : m' (c, Cert.Deconv1ReferenceIdeal.main_arg1) = m (c, main_arg1) := (hag c).2.1
  have e2 : m' (c, Cert.Deconv1ReferenceIdeal.main_arg2) = m (c, main_arg2) := (hag c).2.2
  refine Eq.trans ?_ (arr_eq m c).symm
  rw [e0, e1, e2]

end Cert.Deconv1Ideal.Layer

end
-- ==== Proof.Conv1.Window.lean ====
module

public import proofs.«01_k».proof.Proof.Gen.Conv1Ideal.Value
public import Idealize.ShloMosaic.Lib.Pointwise
public import Idealize.ShloMosaic.Lib.Pipeline.ValueKit.Tiles

@[expose] public section

noncomputable section

namespace Cert.Conv1Ideal.Layer

open Cert.Conv1Ideal Cert.Conv1Ideal.Gen Idealize.ShloMosaic Idealize.ShloMosaic.TcCoe Idealize.SL.Sem

variable {F : FTy → Type} [FloatOps F]

/-- One product of the kernel: a window of the image's phases with a slice of the prepared weights. -/
def product (X : Vec F S1x16x112x12 .f32) (A : Vec F S1x1x12x64 .f32) : FVec F S1792x64 .f32 :=
  have x : FVec F S16x112x12 .f32 := shapeCast S16x112x12 X shapeCasts_S1x16x112x12_S16x112x12
  have z : FVec F S1792x12 .f32 := shapeCast S1792x12 x shapeCasts_S16x112x12_S1792x12
  have a : FVec F S12x64 .f32 := shapeCast S12x64 A shapeCasts_S1x1x12x64_S12x64
  matmul dot_S1792x12_S12x64_S1792x64_1_0_0_1_n_n none z a (constant S1792x64 .f32 0x00000000#32)

/-- One product at a pixel of the band and an output channel: the sum over the twelve lanes. -/
theorem product_at (X : Vec Ideal S1x16x112x12 .f32) (A : Vec Ideal S1x1x12x64 .f32) (r : Fin 16) (s : Fin 112) (co : Fin 64) :
    product X A (ix2 ⟨r.val * 112 + s.val, by omega⟩ co) = ∑ k : Fin 12, X (ix4 0 r s k) * A (ix4 0 0 k co) := by
  unfold product
  simp only [pointwise]
  exact zero_add _

/-- The window of band `q` at the tap pair `(dh, dw)`. -/
abbrev xRect (q : Fin 7) (dh dw : Fin 2) : Rect S1x113x113x12 :=
  Rect.unit (s := S1x113x113x12) ![0, 16 * q.val + dh.val, dw.val, 0] S1x16x112x12.size (by
    intro a; have := q.isLt; have := dh.isLt; have := dw.isLt
    fin_cases a <;> simp [S1x113x113x12, S1x16x112x12] <;> omega)

/-- The slice of the prepared weights at the tap pair `(dh, dw)`. -/
abbrev wRect (dh dw : Fin 2) : Rect S2x2x12x64 :=
  Rect.unit (s := S2x2x12x64) ![dh.val, dw.val, 0, 0] S1x1x12x64.size (by
    intro a; have := dh.isLt; have := dw.isLt
    fin_cases a <;> simp [S2x2x12x64, S1x1x12x64] <;> omega)

/-- Where band `q` is stored: rows `16 q` to `16 q + 15`. -/
abbrev oRect (q : Fin 7) : Rect S1x112x112x64 :=
  Rect.unit (s := S1x112x112x64) ![0, 16 * q.val, 0, 0] S1x16x112x64.size (by
    intro a; have := q.isLt
    fin_cases a <;> simp [S1x112x112x64, S1x16x112x64] <;> omega)

/-- The product of band `q` at the tap pair `(dh, dw)`. -/
def part (x0 : Vec F S1x113x113x12 .f32) (x1 : Vec F S2x2x12x64 .f32) (q : Fin 7) (dh dw : Fin 2) : FVec F S1792x64 .f32 :=
  product (View.ld x0 (xRect q dh dw)) (View.ld x1 (wRect dh dw))

/-- Band `q`'s four products summed in pairs. -/
def sums (x0 : Vec F S1x113x113x12 .f32) (x1 : Vec F S2x2x12x64 .f32) (q : Fin 7) : FVec F S1792x64 .f32 :=
  addf (addf (part x0 x1 q 0 0) (part x0 x1 q 0 1)) (addf (part x0 x1 q 1 0) (part x0 x1 q 1 1))

/-- Band `q` as it is stored. -/
def band (x0 : Vec F S1x113x113x12 .f32) (x1 : Vec F S2x2x12x64 .f32) (x2 : Vec F S64 .f32) (q : Fin 7) : FVec F S1x16x112x64 .f32 :=
  have b : FVec F S1x64 .f32 := shapeCast S1x64 (View.ld x2 r0_8) shapeCasts_S64_S1x64
  have y : FVec F S1792x64 .f32 := maximumf (addf (sums x0 x1 q) (broadcastTo S1792x64 b broadcasts_S1x64_S1792x64)) (broadcast S1792x64 (Scalar.ofBits .f32 0x00000000#32))
  have z : FVec F S16x112x64 .f32 := shapeCast S16x112x64 y shapeCasts_S1792x64_S16x112x64
  shapeCast S1x16x112x64 z shapeCasts_S16x112x64_S1x16x112x64

/-- What the body leaves in the output's buffer: the seven bands. -/
theorem out_eq (x0 : Vec F S1x113x113x12 .f32) (x1 : Vec F S2x2x12x64 .f32) (x2 : Vec F S64 .f32) :
    out0_3 x0 x1 x2 = View.canon [⟨oRect 6, band x0 x1 x2 6⟩, ⟨oRect 5, band x0 x1 x2 5⟩, ⟨oRect 4, band x0 x1 x2 4⟩, ⟨oRect 3, band x0 x1 x2 3⟩,
      ⟨oRect 2, band x0 x1 x2 2⟩, ⟨oRect 1, band x0 x1 x2 1⟩, ⟨oRect 0, band x0 x1 x2 0⟩] := rfl

/-- A product of a band at a pixel and an output channel. -/
theorem part_at (x0 : Vec Ideal S1x113x113x12 .f32) (x1 : Vec Ideal S2x2x12x64 .f32) (q : Fin 7) (dh dw : Fin 2) (r : Fin 16) (s : Fin 112) (co : Fin 64) :
    part x0 x1 q dh dw (ix2 ⟨r.val * 112 + s.val, by omega⟩ co)
      = ∑ k : Fin 12, x0 (ix4 0 ⟨16 * q.val + r.val + dh.val, by omega⟩ ⟨s.val + dw.val, by omega⟩ k) * x1 (ix4 dh dw k co) := by
  unfold part
  rw [product_at]
  refine Finset.sum_congr rfl fun k _ => congrArg₂ (· * ·) (View.ld_unit_apply_of _ _ _ _ _ _ fun a => ?_) (View.ld_unit_apply_of _ _ _ _ _ _ fun a => ?_)
  · fin_cases a <;> simp [ix4] <;> omega
  · fin_cases a <;> simp [ix4]

/-- The products summed, at a pixel of the band and an output channel. -/
theorem sums_at (x0 : Vec Ideal S1x113x113x12 .f32) (x1 : Vec Ideal S2x2x12x64 .f32) (q : Fin 7) (r : Fin 16) (s : Fin 112) (co : Fin 64) :
    sums x0 x1 q (ix2 ⟨r.val * 112 + s.val, by omega⟩ co)
      = ∑ dh : Fin 2, ∑ dw : Fin 2, ∑ k : Fin 12, x0 (ix4 0 ⟨16 * q.val + r.val + dh.val, by omega⟩ ⟨s.val + dw.val, by omega⟩ k) * x1 (ix4 dh dw k co) := by
  rw [Fin.sum_univ_two, Fin.sum_univ_two, Fin.sum_univ_two, ← part_at, ← part_at, ← part_at, ← part_at]
  rfl

/-- A band at a pixel and an output channel. -/
theorem band_at (x0 : Vec Ideal S1x113x113x12 .f32) (x1 : Vec Ideal S2x2x12x64 .f32) (x2 : Vec Ideal S64 .f32) (q : Fin 7) (r : Fin 16) (s : Fin 112) (co : Fin 64) :
    band x0 x1 x2 q (ix4 0 r s co) = max (sums x0 x1 q (ix2 ⟨r.val * 112 + s.val, by omega⟩ co) + x2 (ix1 co)) (0 : EReal) := by
  unfold band
  simp only [pointwise]
  refine congrArg (fun e => max (_ + x2 (ix1 e)) (0 : EReal)) (Fin.ext ?_)
  show 0 + 1 * co.val = co.val
  omega

/-- The kernel's result at a pixel `(y, s)` and an output channel `co`, from one image's phases, the prepared weights and the bias. -/
def win (x0 : Vec Ideal S1x113x113x12 .f32) (x1 : Vec Ideal S2x2x12x64 .f32) (x2 : Vec Ideal S64 .f32) (y s : Fin 112) (co : Fin 64) : EReal :=
  max ((∑ dh : Fin 2, ∑ dw : Fin 2, ∑ k : Fin 12, x0 (ix4 0 ⟨y.val + dh.val, by omega⟩ ⟨s.val + dw.val, by omega⟩ k) * x1 (ix4 dh dw k co)) + x2 (ix1 co)) 0

/-- Each band holds the result at its own pixels. -/
theorem band_win (x0 : Vec Ideal S1x113x113x12 .f32) (x1 : Vec Ideal S2x2x12x64 .f32) (x2 : Vec Ideal S64 .f32) (y s : Fin 112) (co : Fin 64) (q : Fin 7)
    (x : (⟨4, S1x16x112x64.size⟩ : Shape).Idx)
    (hx : ∀ a, ((ix4 0 y s co : S1x112x112x64.Idx) a : Nat) = (![0, 16 * q.val, 0, 0] : Fin 4 → Nat) a + x a) :
    band x0 x1 x2 q x = win x0 x1 x2 y s co := by
  obtain ⟨a, r, s', co', rfl⟩ : ∃ (a : Fin 1) (r : Fin 16) (s' : Fin 112) (b : Fin 64), x = ix4 a r s' b := ⟨x 0, x 1, x 2, x 3, eq_ix4 x⟩
  obtain rfl : a = 0 := Subsingleton.elim _ _
  have hy : y.val = 16 * q.val + r.val := hx 1
  obtain rfl : s = s' := Fin.ext ((hx 2).trans (Nat.zero_add _))
  obtain rfl : co = co' := Fin.ext ((hx 3).trans (Nat.zero_add _))
  rw [band_at, sums_at]
  unfold win
  simp only [hy]

/-- What the body leaves in the output's buffer is the kernel's result. -/
theorem out_at (x0 : Vec Ideal S1x113x113x12 .f32) (x1 : Vec Ideal S2x2x12x64 .f32) (x2 : Vec Ideal S64 .f32) (y s : Fin 112) (co : Fin 64) :
    out0_3 x0 x1 x2 (ix4 0 y s co) = win x0 x1 x2 y s co := by
  rw [out_eq]
  refine View.canon_eq_of_allAt (Val := Elt Ideal) (e := .f32) _ _ _ (cover0_3 _ _ _ _ _ _ _ _) ?_
  refine View.allAt_cons_unit _ _ _ _ _ (band_win x0 x1 x2 y s co 6) ?_
  refine View.allAt_cons_unit _ _ _ _ _ (band_win x0 x1 x2 y s co 5) ?_
  refine View.allAt_cons_unit _ _ _ _ _ (band_win x0 x1 x2 y s co 4) ?_
  refine View.allAt_cons_unit _ _ _ _ _ (band_win x0 x1 x2 y s co 3) ?_
  refine View.allAt_cons_unit _ _ _ _ _ (band_win x0 x1 x2 y s co 2) ?_
  refine View.allAt_cons_unit _ _ _ _ _ (band_win x0 x1 x2 y s co 1) ?_
  exact View.allAt_cons_unit _ _ _ _ _ (band_win x0 x1 x2 y s co 0) (View.allAt_nil _ _)

end Cert.Conv1Ideal.Layer
end
-- ==== Proof.Conv.Edge.lean ====
module

public import proofs.«01_k».proof.Proof.Deconv.Places
public import Idealize.ShloMosaic.Lib.KernelVsHost

@[expose] public section

noncomputable section

namespace Cert.Conv

open Idealize.ShloMosaic
open Cert.Deconv.Places (edge edge_in edge_out)

/-- Images padded with one row and one column of zeros on every side: a channel of one is the square with its border. -/
theorem pad_edge {n N C : ℕ} (hN : N = n + 2) (X : Vec Ideal ⟨4, ![8, n, n, C]⟩ .f32) {u : Shape} (v : Vec Ideal u .f32)
    (h : (⟨4, ![8, n, n, C]⟩ : Shape).Pads ![0, 1, 1, 0] ![0, 1, 1, 0] ![0, 0, 0, 0] ⟨4, ![8, N, N, C]⟩) (hu : 0 < u.numel)
    (z : v (Shape.Idx.first hu) = (0 : EReal)) (b : Fin 8) (p q : Fin N) (c : Fin C) :
    pad ⟨4, ![8, N, N, C]⟩ ![0, 1, 1, 0] ![0, 1, 1, 0] ![0, 0, 0, 0] X v h hu (ix4 b p q c)
      = edge (n := n) (fun r s => X (ix4 b r s c)) p.val q.val := by
  by_cases hin : (1 ≤ p.val ∧ p.val ≤ n) ∧ (1 ≤ q.val ∧ q.val ≤ n)
  · rw [edge_in (n := n) _ p.val q.val ⟨p.val - 1, by omega⟩ ⟨q.val - 1, by omega⟩ (by show p.val = p.val - 1 + 1; omega) (by show q.val = q.val - 1 + 1; omega)]
    refine pad_apply_of_inside _ _ _ _ _ _ _ _ _ fun e => ?_
    fin_cases e
    · show b.val = 0 + b.val * (0 + 1); omega
    · show p.val = 1 + (p.val - 1) * (0 + 1); omega
    · show q.val = 1 + (q.val - 1) * (0 + 1); omega
    · show c.val = 0 + c.val * (0 + 1); omega
  · rw [edge_out (n := n) _ _ _ hin]
    by_cases hR : 1 ≤ p.val ∧ p.val ≤ n
    · refine (pad_apply_of_not_inside _ _ _ _ _ _ _ _ 2 fun hm => hin ⟨hR, ?_⟩).trans z
      have h1 : 1 ≤ q.val := hm.1
      have h2 : (q.val - 1) / (0 + 1) < n := hm.2.2
      omega
    · refine (pad_apply_of_not_inside _ _ _ _ _ _ _ _ 1 fun hm => hR ?_).trans z
      have h1 : 1 ≤ p.val := hm.1
      have h2 : (p.val - 1) / (0 + 1) < n := hm.2.2
      omega

/-- A sum over `a` groups of `b`. -/
theorem split {M : Type} [AddCommMonoid M] (a b : ℕ) (g : Fin (a * b) → M) :
    ∑ k : Fin (a * b), g k = ∑ i : Fin a, ∑ j : Fin b, g ⟨i.val * b + j.val, by
      calc i.val * b + j.val < i.val * b + b := by omega
        _ = (i.val + 1) * b := by ring
        _ ≤ a * b := Nat.mul_le_mul_right b i.isLt⟩ := by
  rw [← finProdFinEquiv.sum_comp g, Fintype.sum_prod_type]
  refine Finset.sum_congr rfl fun i _ => Finset.sum_congr rfl fun j _ => congrArg g (Fin.ext ?_)
  show j.val + b * i.val = i.val * b + j.val
  ring

/-- Sixteen taps of `C` channels each, summed by the taps' halves: first the row's and the column's quotient by two, then their remainders. -/
theorem halves {M : Type} [AddCommMonoid M] {C : ℕ} (g : Fin 4 → Fin 4 → Fin C → M) :
    ∑ kh : Fin 4, ∑ kw : Fin 4, ∑ c : Fin C, g kh kw c
      = ∑ dh : Fin 2, ∑ dw : Fin 2, ∑ p : Fin 2, ∑ q : Fin 2, ∑ c : Fin C, g ⟨dh.val * 2 + p.val, by omega⟩ ⟨dw.val * 2 + q.val, by omega⟩ c := by
  have four : ∀ f : Fin 4 → M, ∑ k : Fin 4, f k = ∑ d : Fin 2, ∑ p : Fin 2, f ⟨d.val * 2 + p.val, by omega⟩ := fun f => split 2 2 f
  rw [four]
  refine Finset.sum_congr rfl fun dh _ => ?_
  exact (Finset.sum_congr rfl fun p _ => four _).trans Finset.sum_comm

end Cert.Conv
end
-- ==== Proof.Conv1.Reference.lean ====
module

public import proofs.«01_k».proof.Proof.Gen.Conv1ReferenceIdeal.Run
public import proofs.«01_k».proof.Proof.Conv.Edge
public import Idealize.ShloMosaic.Lib.Pointwise

@[expose] public section

noncomputable section

namespace Cert.Conv1ReferenceIdeal.Layer

open Cert.Conv1ReferenceIdeal Cert.Conv1ReferenceIdeal.Gen Idealize.ShloMosaic Idealize.ShloMosaic.TcCoe Idealize.SL.Sem
open Cert.Deconv.Places (edge)

variable {F : FTy → Type} [FloatOps F]

/-- The images, channels last, with a border of one. -/
def padded (X : Vec F S8x3x224x224 .f32) : Vec F S8x226x226x3 .f32 :=
  pad S8x226x226x3 ![0, 1, 1, 0] ![0, 1, 1, 0] ![0, 0, 0, 0] (transpose S8x224x224x3 [0, 2, 3, 1] X transposes_S8x3x224x224_S8x224x224x3_0_2_3_1)
    (sitofp .f32 (constantI S_ 32 0#32)) pads_S8x224x224x3_S8x226x226x3_000_110_110_000 h_S_

/-- One tap of the convolution. -/
def tap (X : Vec F S8x3x224x224 .f32) (W : Vec F S64x3x4x4 .f32) (kh kw : Fin 4) : FVec F S8x112x112x64 .f32 :=
  have x : FVec F S8x112x112x3 .f32 := Host.slice S8x112x112x3 ![0, kh.val, kw.val, 0] ![1, 2, 2, 1] (padded X) (by
    refine ⟨rfl, fun a => ?_⟩
    have := kh.isLt; have := kw.isLt
    fin_cases a <;> simp [S8x226x226x3, S8x112x112x3] <;> omega)
  have k : Vec F S64x3x1x1 .f32 := extractStridedSlice S64x3x1x1 ![0, 0, kh.val, kw.val] W (by
    refine ⟨rfl, fun a => ?_⟩
    have := kh.isLt; have := kw.isLt
    fin_cases a <;> simp [S64x3x4x4, S64x3x1x1] <;> omega)
  have w : FVec F S64x3 .f32 := shapeCast S64x3 k shapeCasts_S64x3x1x1_S64x3
  Host.dotGeneral dot_S8x112x112x3_S64x3_S8x112x112x64_3_1_012_0_n_n none x w

/-- The sixteen taps, added in order. -/
def sum (X : Vec F S8x3x224x224 .f32) (W : Vec F S64x3x4x4 .f32) : FVec F S8x112x112x64 .f32 :=
  List.foldl (fun y p => addf y (tap X W p.1 p.2)) (broadcastInDim S8x112x112x64 ![] bcast_S_S8x112x112x64 (constant S_ .f32 0x00000000#32))
    [(0, 0), (0, 1), (0, 2), (0, 3), (1, 0), (1, 1), (1, 2), (1, 3), (2, 0), (2, 1), (2, 2), (2, 3), (3, 0), (3, 1), (3, 2), (3, 3)]

/-- The layer's image. -/
def image (X : Vec F S8x3x224x224 .f32) (W : Vec F S64x3x4x4 .f32) (b : Vec F S64 .f32) : FVec F S8x112x112x64 .f32 :=
  maximumf (addf (sum X W) (broadcastInDim S8x112x112x64 ![0, 1, 2, 3] bcast_S1x1x1x64_S8x112x112x64_0_1_2_3
    (broadcastInDim S1x1x1x64 ![3] bcast_S64_S1x1x1x64_3 b))) (broadcastInDim S8x112x112x64 ![] bcast_S_S8x112x112x64 (constant S_ .f32 0x00000000#32))

theorem res_eq (m : (ℓ : Loc nD τ sig) → Buf (Elt F) ℓ) (c : Dev nD) :
    Value.res_main_v87 m c = image (m (c, main_arg0)) (m (c, main_arg1)) (m (c, main_arg2)) := by
  unfold Value.res_main_v87 image sum
  simp only [List.foldl_cons, List.foldl_nil, tap, padded]
  rfl

/-- A read of the padded images. -/
theorem padded_at (X : Vec Ideal S8x3x224x224 .f32) (n : Fin 8) (p q : Fin 226) (ci : Fin 3) :
    padded X (ix4 n p q ci) = edge (n := 224) (fun r s => X (ix4 n ci r s)) p.val q.val := by
  unfold padded
  refine (Cert.Conv.pad_edge (n := 224) (N := 226) (C := 3) rfl _ _ _ _ ?_ n p q ci).trans ?_
  · simp only [pointwise]
    show (((0#32 : BitVec 32).toInt : ℝ) : EReal) = 0
    simp
  · refine congrArg (fun f => edge f p.val q.val) (funext fun r => funext fun s => ?_)
    simp only [pointwise]

/-- A tap at a pixel and an output channel. -/
theorem tap_at (X : Vec Ideal S8x3x224x224 .f32) (W : Vec Ideal S64x3x4x4 .f32) (kh kw : Fin 4) (n : Fin 8) (i j : Fin 112) (co : Fin 64) :
    tap X W kh kw (ix4 n i j co)
      = ∑ ci : Fin 3, edge (n := 224) (fun r s => X (ix4 n ci r s)) (2 * i.val + kh.val) (2 * j.val + kw.val) * W (ix4 co ci kh kw) := by
  unfold tap
  simp only [pointwise]
  rw [zero_add]
  refine Finset.sum_congr rfl fun ci _ => ?_
  refine congrArg₂ (fun d e : EReal => d * e) (Eq.trans (congrArg (padded X) ?_)
    (padded_at X n ⟨2 * i.val + kh.val, by omega⟩ ⟨2 * j.val + kw.val, by omega⟩ ci)) (congrArg W ?_)
  · funext q
    fin_cases q <;> apply Fin.ext
    · show 0 + 1 * n.val = n.val; omega
    · show kh.val + 2 * i.val = 2 * i.val + kh.val; omega
    · show kw.val + 2 * j.val = 2 * j.val + kw.val; omega
    · show 0 + 1 * ci.val = ci.val; omega
  · funext q
    fin_cases q <;> apply Fin.ext
    · show 0 + co.val = co.val; omega
    · show 0 + ci.val = ci.val; omega
    · rfl
    · rfl

/-- The sum at a pixel and a channel. -/
theorem sum_at (X : Vec Ideal S8x3x224x224 .f32) (W : Vec Ideal S64x3x4x4 .f32) (n : Fin 8) (i j : Fin 112) (co : Fin 64) :
    sum X W (ix4 n i j co) = ∑ kh : Fin 4, ∑ kw : Fin 4, (tap X W kh kw (ix4 n i j co) : EReal) := by
  unfold sum
  simp only [List.foldl_cons, List.foldl_nil, pointwise, Fin.sum_univ_four, zero_add]
  abel

/-- The reference's result at a pixel and a channel. -/
theorem layer_at (X : Vec Ideal S8x3x224x224 .f32) (W : Vec Ideal S64x3x4x4 .f32) (bias : Vec Ideal S64 .f32) (n : Fin 8) (i j : Fin 112) (co : Fin 64) :
    image X W bias (ix4 n i j co)
      = max ((∑ kh : Fin 4, ∑ kw : Fin 4, ∑ ci : Fin 3, edge (n := 224) (fun r s => X (ix4 n ci r s)) (2 * i.val + kh.val) (2 * j.val + kw.val)
          * W (ix4 co ci kh kw)) + bias (ix1 co)) 0 := by
  simp only [← tap_at]
  rw [← sum_at]
  unfold image
  simp only [pointwise]
  rfl

end Cert.Conv1ReferenceIdeal.Layer
end
-- ==== Proof.Conv1.Same.lean ====
module

public import proofs.«01_k».proof.Proof.Conv1.Window
public import proofs.«01_k».proof.Proof.Conv1.Reference
public import Idealize.ShloMosaic.Lib.StableHlo.ReadAt
public import Idealize.ShloMosaic.Lib.Pipeline.ValueKit

@[expose] public section

noncomputable section

namespace Cert.Conv1Ideal.Layer

open Cert.Conv1Ideal Cert.Conv1Ideal.Gen Idealize.ShloMosaic Idealize.ShloMosaic.TcCoe Idealize.SL.Sem
open Cert.Deconv.Places (edge)

section Host
variable {F : FTy → Type} [FloatOps F]

/-- Each two by two square of pixels made one pixel of twelve channels. -/
def folded (x : Vec F S8x226x226x3 .f32) : Vec F S8x113x113x12 .f32 :=
  have y : Vec F S8x113x2x113x2x3 .f32 := shapeCast S8x113x2x113x2x3 x shapeCasts_S8x226x226x3_S8x113x2x113x2x3
  have z : Vec F S2x2x8x113x113x3 .f32 := transpose S2x2x8x113x113x3 [2, 4, 0, 1, 3, 5] y transposes_S8x113x2x113x2x3_S2x2x8x113x113x3_2_4_0_1_3_5
  have u : Vec F S8x113x113x2x2x3 .f32 := transpose S8x113x113x2x2x3 [2, 3, 4, 0, 1, 5] z transposes_S2x2x8x113x113x3_S8x113x113x2x2x3_2_3_4_0_1_5
  shapeCast S8x113x113x12 u shapeCasts_S8x113x113x2x2x3_S8x113x113x12

/-- A read of a folded image. -/
theorem folded_at (x : Vec F S8x226x226x3 .f32) (n : Fin 8) (r s : Fin 113) (p q : Fin 2) (ci : Fin 3) :
    folded x (ix4 n r s (⟨(p.val * 2 + q.val) * 3 + ci.val, by omega⟩ : Fin 12)) = x (ix4 n ⟨r.val * 2 + p.val, by omega⟩ ⟨s.val * 2 + q.val, by omega⟩ ci) := by
  unfold folded
  simp only [pointwise]

/-- The prepared images: with a border of one, and folded. -/
def prepared (X : Vec F S8x3x224x224 .f32) : Vec F S8x113x113x12 .f32 :=
  folded (pad S8x226x226x3 ![0, 1, 1, 0] ![0, 1, 1, 0] ![0, 0, 0, 0] (transpose S8x224x224x3 [0, 2, 3, 1] X transposes_S8x3x224x224_S8x224x224x3_0_2_3_1)
    (sitofp .f32 (constantI S_ 32 0#32)) pads_S8x224x224x3_S8x226x226x3_000_110_110_000 h_S_)

/-- The prepared weights: the taps of each two by two square beside one another. -/
def weights (W : Vec F S64x3x4x4 .f32) : Vec F S2x2x12x64 .f32 :=
  have x : Vec F S4x4x3x64 .f32 := transpose S4x4x3x64 [2, 3, 1, 0] W transposes_S64x3x4x4_S4x4x3x64_2_3_1_0
  have y : Vec F S2x2x2x2x3x64 .f32 := shapeCast S2x2x2x2x3x64 x shapeCasts_S4x4x3x64_S2x2x2x2x3x64
  have z : Vec F S2x2x2x2x3x64 .f32 := transpose S2x2x2x2x3x64 [0, 2, 1, 3, 4, 5] y transposes_S2x2x2x2x3x64_S2x2x2x2x3x64_0_2_1_3_4_5
  shapeCast S2x2x12x64 z shapeCasts_S2x2x2x2x3x64_S2x2x12x64

/-- A read of the prepared weights. -/
theorem weights_at (W : Vec F S64x3x4x4 .f32) (dh dw p q : Fin 2) (ci : Fin 3) (co : Fin 64) :
    weights W (ix4 dh dw (⟨(p.val * 2 + q.val) * 3 + ci.val, by omega⟩ : Fin 12) co)
      = W (ix4 co ci ⟨dh.val * 2 + p.val, by omega⟩ ⟨dw.val * 2 + q.val, by omega⟩) := by
  unfold weights
  simp only [pointwise]

variable (m : (ℓ : Loc nD τ sig) → Buf (Elt F) ℓ)

/-- The region finds the prepared images in its first window's array, -/
theorem V_image (c : Dev nD) : V m c main_v5 = prepared (m (c, main_arg0)) := by
  unfold V
  after_reads_simp [StableHlo.readPieces]
  rfl

/-- and the prepared weights in its second's. -/
theorem V_weights (c : Dev nD) : V m c main_v9 = weights (m (c, main_arg1)) := by
  unfold V
  after_reads_simp [StableHlo.readPieces]
  rfl

end Host

/-- A read of the prepared images. -/
theorem prepared_at (X : Vec Ideal S8x3x224x224 .f32) (n : Fin 8) (r s : Fin 113) (p q : Fin 2) (ci : Fin 3) :
    prepared X (ix4 n r s (⟨(p.val * 2 + q.val) * 3 + ci.val, by omega⟩ : Fin 12))
      = edge (n := 224) (fun r s => X (ix4 n ci r s)) (r.val * 2 + p.val) (s.val * 2 + q.val) := by
  exact (folded_at _ n r s p q ci).trans (Cert.Conv1ReferenceIdeal.Layer.padded_at X n ⟨r.val * 2 + p.val, by omega⟩ ⟨s.val * 2 + q.val, by omega⟩ ci)

variable (m : (ℓ : Loc nD τ sig) → Buf (Elt Ideal) ℓ)

/-- The images' block at grid point `t` is image `t`. -/
theorem index_x : ∀ t : Fin cfg0.N, win0_0.index t = ![t.val, 0, 0, 0] := by decide +kernel

/-- The weights' block is the whole array at every grid point. -/
theorem index_w : ∀ t : Fin cfg0.N, win0_1.index t = ![0, 0, 0, 0] := by decide +kernel

/-- The biases' block is the whole array at every grid point. -/
theorem index_b : ∀ t : Fin cfg0.N, win0_2.index t = ![0] := by decide +kernel

/-- The result's block at grid point `t` is image `t`. -/
theorem index_o : ∀ t : Fin cfg0.N, win0_3.index t = ![t.val, 0, 0, 0] := by decide +kernel

/-- A read of the images' block. -/
theorem blk_x (c : Dev nD) (t : Fin cfg0.N) (a b : Fin 113) (k : Fin 12) :
    iblk m c 0 t (ix4 0 a b k) = prepared (m (c, main_arg0)) (ix4 (t : Fin 8) a b k) := by
  rw [← V_image]
  unfold iblk
  blk_simp
  refine congrArg _ (funext fun a => Fin.ext ?_)
  fin_cases a <;> blk_simp [index_x t] <;> rfl

/-- The weights' block. -/
theorem blk_w (c : Dev nD) (t : Fin cfg0.N) : iblk m c 1 t = weights (m (c, main_arg1)) := by
  rw [← V_weights]
  unfold iblk
  funext y
  blk_simp
  refine congrArg _ (funext fun a => Fin.ext ?_)
  fin_cases a <;> blk_simp [index_w t]

/-- The biases' block. -/
theorem blk_b (c : Dev nD) (t : Fin cfg0.N) : iblk m c 2 t = m (c, main_arg2) := by
  refine Eq.trans ?_ (V_main_arg2 m c)
  unfold iblk
  funext y
  blk_simp
  refine congrArg _ (funext fun a => Fin.ext ?_)
  fin_cases a
  blk_simp [index_b t]

/-- The kernel's array after the last grid point is the reference's: at each pixel and channel both hold the sixteen taps' sum
and the channel's bias, cut off at zero. -/
theorem arr_eq (c : Dev nD) :
    (dats m 0 c).arrAt 3 cfg0.N = Cert.Conv1ReferenceIdeal.Layer.image (m (c, main_arg0)) (m (c, main_arg1)) (m (c, main_arg2)) := by
  refine (dats m 0 c).arrAt_eq_of_covers 3 _ (by decide +kernel) fun t hf y => ?_
  rw [after0_3, blk_w, blk_b]
  blk_simp
  obtain ⟨n, r, s, co, rfl⟩ : ∃ (n : Fin 1) (r s : Fin 112) (co : Fin 64), y = ix4 n r s co := ⟨_, _, _, _, eq_ix4 y⟩
  obtain rfl : n = 0 := Subsingleton.elim _ _
  have e : (win0_3.blk t).view.emb (ix4 0 r s co) = ix4 (t : Fin 8) r s co := by
    refine funext fun a => Fin.ext ?_
    fin_cases a <;> blk_simp [index_o t] <;> rfl
  rw [e]
  refine Eq.trans ?_ (Cert.Conv1ReferenceIdeal.Layer.layer_at (m (c, main_arg0)) (m (c, main_arg1)) (m (c, main_arg2)) t r s co).symm
  rw [out_at]
  unfold win
  refine congrArg (fun e : EReal => max (e + m (c, main_arg2) (ix1 co)) 0) ?_
  refine Eq.trans ?_ (Cert.Conv.halves (M := EReal) fun kh kw (ci : Fin 3) => edge (n := 224) (fun a b => m (c, main_arg0) (ix4 (t : Fin 8) ci a b))
    (2 * r.val + kh.val) (2 * s.val + kw.val) * m (c, main_arg1) (ix4 co ci kh kw)).symm
  refine Finset.sum_congr rfl fun dh _ => Finset.sum_congr rfl fun dw _ => ?_
  refine (Cert.Conv.split (M := EReal) 4 3 _).trans ?_
  refine (Cert.Conv.split (M := EReal) 2 2 _).trans ?_
  refine Finset.sum_congr rfl fun p _ => Finset.sum_congr rfl fun q _ => Finset.sum_congr rfl fun ci _ => ?_
  refine congrArg₂ (fun d e : EReal => d * e) ?_ (weights_at (m (c, main_arg1)) dh dw p q ci co)
  refine (blk_x m c t _ _ _).trans ?_
  refine (prepared_at (m (c, main_arg0)) t ⟨r.val + dh.val, by omega⟩ ⟨s.val + dw.val, by omega⟩ p q ci).trans ?_
  refine congrArg₂ (edge (n := 224) fun a b => m (c, main_arg0) (ix4 (t : Fin 8) ci a b)) ?_ ?_
  · show (r.val + dh.val) * 2 + p.val = 2 * r.val + (dh.val * 2 + p.val)
    omega
  · show (s.val + dw.val) * 2 + q.val = 2 * s.val + (dw.val * 2 + q.val)
    omega

/-- The reference keeps its arguments and ends with every counter at zero. -/
theorem frame_r (m : (ℓ : Loc Cert.Conv1ReferenceIdeal.nD Cert.Conv1ReferenceIdeal.τ Cert.Conv1ReferenceIdeal.sig) → Buf (Elt Ideal) ℓ)
    (ρ : Dev Cert.Conv1ReferenceIdeal.nD → PrngReg) :
    θ_run (Cert.Conv1ReferenceIdeal.defs (F := Ideal)) (onTc (τ := Cert.Conv1ReferenceIdeal.τ) (Cert.Conv1ReferenceIdeal.main (F := Ideal)))
        ⟨m, fun _ => 0, ρ⟩ (fun r => (∀ c : Dev Cert.Conv1ReferenceIdeal.nD,
          r.2.mem ((c.tc : Thread Cert.Conv1ReferenceIdeal.nD Cert.Conv1ReferenceIdeal.τ).loc Cert.Conv1ReferenceIdeal.main_arg0) = m ((c.tc : Thread Cert.Conv1ReferenceIdeal.nD Cert.Conv1ReferenceIdeal.τ).loc Cert.Conv1ReferenceIdeal.main_arg0)
          ∧ r.2.mem ((c.tc : Thread Cert.Conv1ReferenceIdeal.nD Cert.Conv1ReferenceIdeal.τ).loc Cert.Conv1ReferenceIdeal.main_arg1) = m ((c.tc : Thread Cert.Conv1ReferenceIdeal.nD Cert.Conv1ReferenceIdeal.τ).loc Cert.Conv1ReferenceIdeal.main_arg1)
          ∧ r.2.mem ((c.tc : Thread Cert.Conv1ReferenceIdeal.nD Cert.Conv1ReferenceIdeal.τ).loc Cert.Conv1ReferenceIdeal.main_arg2) = m ((c.tc : Thread Cert.Conv1ReferenceIdeal.nD Cert.Conv1ReferenceIdeal.τ).loc Cert.Conv1ReferenceIdeal.main_arg2))
      ∧ r.2.sem = fun _ => 0) :=
  (θ_run Cert.Conv1ReferenceIdeal.defs _ _).mono (fun r h => ⟨fun c => (h c).2, sem_eq_zero_of_no_sems (by decide) r.2⟩)
    (Cert.Conv1ReferenceIdeal.Value.run m ρ)

/-- From memories that agree on the three arguments the first convolution and its reference end with the same result. -/
theorem same (ρ : Dev nD → PrngReg)
    (m' : (ℓ : Loc Cert.Conv1ReferenceIdeal.nD Cert.Conv1ReferenceIdeal.τ Cert.Conv1ReferenceIdeal.sig) → Buf (Elt Ideal) ℓ)
    (ρ' : Dev Cert.Conv1ReferenceIdeal.nD → PrngReg)
    (hag : ∀ c : Dev nD,
      m' ((c.tc : Thread Cert.Conv1ReferenceIdeal.nD Cert.Conv1ReferenceIdeal.τ).loc Cert.Conv1ReferenceIdeal.main_arg0) = m ((c.tc : Thread nD τ).loc main_arg0)
      ∧ m' ((c.tc : Thread Cert.Conv1ReferenceIdeal.nD Cert.Conv1ReferenceIdeal.τ).loc Cert.Conv1ReferenceIdeal.main_arg1) = m ((c.tc : Thread nD τ).loc main_arg1)
      ∧ m' ((c.tc : Thread Cert.Conv1ReferenceIdeal.nD Cert.Conv1ReferenceIdeal.τ).loc Cert.Conv1ReferenceIdeal.main_arg2) = m ((c.tc : Thread nD τ).loc main_arg2)) :
    ∃ (v0 : (c : Dev nD) → Buf (Elt Ideal) ((c.tc : Thread nD τ).loc main_v10)),
      θ_run (defs (F := Ideal)) (onTc (τ := τ) (main (F := Ideal))) ⟨m, fun _ => 0, ρ⟩ (fun r => ∀ c : Dev nD,
          r.2.mem ((c.tc : Thread nD τ).loc main_v10) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))
      ∧ θ_run (Cert.Conv1ReferenceIdeal.defs (F := Ideal)) (onTc (τ := Cert.Conv1ReferenceIdeal.τ) (Cert.Conv1ReferenceIdeal.main (F := Ideal)))
          ⟨m', fun _ => 0, ρ'⟩ (fun r => ∀ c : Dev Cert.Conv1ReferenceIdeal.nD,
          r.2.mem ((c.tc : Thread Cert.Conv1ReferenceIdeal.nD Cert.Conv1ReferenceIdeal.τ).loc Cert.Conv1ReferenceIdeal.main_v87) = v0 c
          ∧ r.2.mem ((c.tc : Thread Cert.Conv1ReferenceIdeal.nD Cert.Conv1ReferenceIdeal.τ).loc Cert.Conv1ReferenceIdeal.main_arg0) = m' ((c.tc : Thread Cert.Conv1ReferenceIdeal.nD Cert.Conv1ReferenceIdeal.τ).loc Cert.Conv1ReferenceIdeal.main_arg0)
          ∧ r.2.mem ((c.tc : Thread Cert.Conv1ReferenceIdeal.nD Cert.Conv1ReferenceIdeal.τ).loc Cert.Conv1ReferenceIdeal.main_arg1) = m' ((c.tc : Thread Cert.Conv1ReferenceIdeal.nD Cert.Conv1ReferenceIdeal.τ).loc Cert.Conv1ReferenceIdeal.main_arg1)
          ∧ r.2.mem ((c.tc : Thread Cert.Conv1ReferenceIdeal.nD Cert.Conv1ReferenceIdeal.τ).loc Cert.Conv1ReferenceIdeal.main_arg2) = m' ((c.tc : Thread Cert.Conv1ReferenceIdeal.nD Cert.Conv1ReferenceIdeal.τ).loc Cert.Conv1ReferenceIdeal.main_arg2)) := by
  refine ⟨fun c => (dats m 0 c).arrAt 3 cfg0.N, Value.run_blocks m ρ, ?_⟩
  refine (θ_run Cert.Conv1ReferenceIdeal.defs _ _).mono (fun _ h c => ⟨(h c).1.trans ?_, (h c).2⟩) (Cert.Conv1ReferenceIdeal.Value.run m' ρ')
  refine (Cert.Conv1ReferenceIdeal.Layer.res_eq m' c).trans ?_
  have e0 : m' (c, Cert.Conv1ReferenceIdeal.main_arg0) = m (c, main_arg0) := (hag c).1
  have e1 : m' (c, Cert.Conv1ReferenceIdeal.main_arg1) = m (c, main_arg1) := (hag c).2.1
  have e2 : m' (c, Cert.Conv1ReferenceIdeal.main_arg2) = m (c, main_arg2) := (hag c).2.2
  refine Eq.trans ?_ (arr_eq m c).symm
  rw [e0, e1, e2]

end Cert.Conv1Ideal.Layer
end
-- ==== Proof.Conv2.Window.lean ====
module

public import proofs.«01_k».proof.Proof.Gen.Conv2Ideal.Value
public import Idealize.ShloMosaic.Lib.Pointwise
public import Idealize.ShloMosaic.Lib.Pipeline.ValueKit.Tiles

@[expose] public section

noncomputable section

namespace Cert.Conv2Ideal.Layer

open Cert.Conv2Ideal Cert.Conv2Ideal.Gen Idealize.ShloMosaic Idealize.ShloMosaic.TcCoe Idealize.SL.Sem

variable {F : FTy → Type} [FloatOps F]

/-- One product of the kernel: a window of the image's phases with a slice of the prepared weights. -/
def product (X : Vec F S1x1x28x56x128 .f32) (A : Vec F S1x1x1x128x128 .f32) : FVec F S1568x128 .f32 :=
  have x : FVec F S28x56x128 .f32 := shapeCast S28x56x128 X shapeCasts_S1x1x28x56x128_S28x56x128
  have z : FVec F S1568x128 .f32 := shapeCast S1568x128 x shapeCasts_S28x56x128_S1568x128
  have a : FVec F S128x128 .f32 := shapeCast S128x128 A shapeCasts_S1x1x1x128x128_S128x128
  matmul dot_S1568x128_S128x128_S1568x128_1_0_0_1_n_n none z a (constant S1568x128 .f32 0x00000000#32)

/-- One product at a pixel of the band and an output channel: the sum over the 128 lanes. -/
theorem product_at (X : Vec Ideal S1x1x28x56x128 .f32) (A : Vec Ideal S1x1x1x128x128 .f32) (r : Fin 28) (s : Fin 56) (co : Fin 128) :
    product X A (ix2 ⟨r.val * 56 + s.val, by omega⟩ co) = ∑ k : Fin 128, X (ix5 0 0 r s k) * A (ix5 0 0 0 k co) := by
  unfold product
  simp only [pointwise]
  exact zero_add _

/-- The window of band `q` at the row phase `a` and the tap pair `(dh, dw)`. -/
abbrev xRect (q a dh dw : Fin 2) : Rect S1x2x57x57x128 :=
  Rect.unit (s := S1x2x57x57x128) ![0, a.val, 28 * q.val + dh.val, dw.val, 0] S1x1x28x56x128.size (by
    intro e; have := q.isLt; have := a.isLt; have := dh.isLt; have := dw.isLt
    fin_cases e <;> simp [S1x2x57x57x128, S1x1x28x56x128] <;> omega)

/-- The slice of the prepared weights at the row phase `a` and the tap pair `(dh, dw)`. -/
abbrev wRect (a dh dw : Fin 2) : Rect S2x2x2x128x128 :=
  Rect.unit (s := S2x2x2x128x128) ![a.val, dh.val, dw.val, 0, 0] S1x1x1x128x128.size (by
    intro e; have := a.isLt; have := dh.isLt; have := dw.isLt
    fin_cases e <;> simp [S2x2x2x128x128, S1x1x1x128x128] <;> omega)

/-- Where band `q` is stored: rows `28 q` to `28 q + 27`. -/
abbrev oRect (q : Fin 2) : Rect S1x56x56x128 :=
  Rect.unit (s := S1x56x56x128) ![0, 28 * q.val, 0, 0] S1x28x56x128.size (by
    intro a; have := q.isLt
    fin_cases a <;> simp [S1x56x56x128, S1x28x56x128] <;> omega)

/-- The product of band `q` at the row phase `a` and the tap pair `(dh, dw)`. -/
def part (x0 : Vec F S1x2x57x57x128 .f32) (x1 : Vec F S2x2x2x128x128 .f32) (q a dh dw : Fin 2) : FVec F S1568x128 .f32 :=
  product (View.ld x0 (xRect q a dh dw)) (View.ld x1 (wRect a dh dw))

/-- Band `q`'s eight products summed in pairs. -/
def sums (x0 : Vec F S1x2x57x57x128 .f32) (x1 : Vec F S2x2x2x128x128 .f32) (q : Fin 2) : FVec F S1568x128 .f32 :=
  addf (addf (addf (part x0 x1 q 0 0 0) (part x0 x1 q 0 0 1)) (addf (part x0 x1 q 0 1 0) (part x0 x1 q 0 1 1)))
    (addf (addf (part x0 x1 q 1 0 0) (part x0 x1 q 1 0 1)) (addf (part x0 x1 q 1 1 0) (part x0 x1 q 1 1 1)))

/-- Band `q` as it is stored. -/
def band (x0 : Vec F S1x2x57x57x128 .f32) (x1 : Vec F S2x2x2x128x128 .f32) (x2 : Vec F S128 .f32) (q : Fin 2) : FVec F S1x28x56x128 .f32 :=
  have b : FVec F S1x128 .f32 := shapeCast S1x128 (View.ld x2 r0_16) shapeCasts_S128_S1x128
  have y : FVec F S1568x128 .f32 := maximumf (addf (sums x0 x1 q) (broadcastTo S1568x128 b broadcasts_S1x128_S1568x128)) (broadcast S1568x128 (Scalar.ofBits .f32 0x00000000#32))
  have z : FVec F S28x56x128 .f32 := shapeCast S28x56x128 y shapeCasts_S1568x128_S28x56x128
  shapeCast S1x28x56x128 z shapeCasts_S28x56x128_S1x28x56x128

/-- What the body leaves in the output's buffer: the two bands. -/
theorem out_eq (x0 : Vec F S1x2x57x57x128 .f32) (x1 : Vec F S2x2x2x128x128 .f32) (x2 : Vec F S128 .f32) :
    out0_3 x0 x1 x2 = View.canon [⟨oRect 1, band x0 x1 x2 1⟩, ⟨oRect 0, band x0 x1 x2 0⟩] := rfl

/-- A product of a band at a pixel and an output channel. -/
theorem part_at (x0 : Vec Ideal S1x2x57x57x128 .f32) (x1 : Vec Ideal S2x2x2x128x128 .f32) (q a dh dw : Fin 2) (r : Fin 28) (s : Fin 56) (co : Fin 128) :
    part x0 x1 q a dh dw (ix2 ⟨r.val * 56 + s.val, by omega⟩ co)
      = ∑ k : Fin 128, x0 (ix5 0 a ⟨28 * q.val + r.val + dh.val, by omega⟩ ⟨s.val + dw.val, by omega⟩ k) * x1 (ix5 a dh dw k co) := by
  unfold part
  rw [product_at]
  refine Finset.sum_congr rfl fun k _ => congrArg₂ (· * ·) (View.ld_unit_apply_of _ _ _ _ _ _ fun e => ?_) (View.ld_unit_apply_of _ _ _ _ _ _ fun e => ?_)
  · fin_cases e <;> simp [ix5] <;> omega
  · fin_cases e <;> simp [ix5]

/-- The products summed, at a pixel of the band and an output channel. -/
theorem sums_at (x0 : Vec Ideal S1x2x57x57x128 .f32) (x1 : Vec Ideal S2x2x2x128x128 .f32) (q : Fin 2) (r : Fin 28) (s : Fin 56) (co : Fin 128) :
    sums x0 x1 q (ix2 ⟨r.val * 56 + s.val, by omega⟩ co)
      = ∑ a : Fin 2, ∑ dh : Fin 2, ∑ dw : Fin 2, ∑ k : Fin 128, x0 (ix5 0 a ⟨28 * q.val + r.val + dh.val, by omega⟩ ⟨s.val + dw.val, by omega⟩ k) * x1 (ix5 a dh dw k co) := by
  refine Eq.trans ?_ (Finset.sum_congr rfl fun a _ => Finset.sum_congr rfl fun dh _ => Finset.sum_congr rfl fun dw _ => part_at x0 x1 q a dh dw r s co)
  simp only [Fin.sum_univ_two]
  rfl

/-- A band at a pixel and an output channel. -/
theorem band_at (x0 : Vec Ideal S1x2x57x57x128 .f32) (x1 : Vec Ideal S2x2x2x128x128 .f32) (x2 : Vec Ideal S128 .f32) (q : Fin 2) (r : Fin 28) (s : Fin 56) (co : Fin 128) :
    band x0 x1 x2 q (ix4 0 r s co) = max (sums x0 x1 q (ix2 ⟨r.val * 56 + s.val, by omega⟩ co) + x2 (ix1 co)) (0 : EReal) := by
  unfold band
  simp only [pointwise]
  refine congrArg (fun e => max (_ + x2 (ix1 e)) (0 : EReal)) (Fin.ext ?_)
  show 0 + 1 * co.val = co.val
  omega

/-- The kernel's result at a pixel `(y, s)` and an output channel `co`, from one image's phases, the prepared weights and the bias. -/
def win (x0 : Vec Ideal S1x2x57x57x128 .f32) (x1 : Vec Ideal S2x2x2x128x128 .f32) (x2 : Vec Ideal S128 .f32) (y s : Fin 56) (co : Fin 128) : EReal :=
  max ((∑ a : Fin 2, ∑ dh : Fin 2, ∑ dw : Fin 2, ∑ k : Fin 128, x0 (ix5 0 a ⟨y.val + dh.val, by omega⟩ ⟨s.val + dw.val, by omega⟩ k) * x1 (ix5 a dh dw k co)) + x2 (ix1 co)) 0

/-- Each band holds the result at its own pixels. -/
theorem band_win (x0 : Vec Ideal S1x2x57x57x128 .f32) (x1 : Vec Ideal S2x2x2x128x128 .f32) (x2 : Vec Ideal S128 .f32) (y s : Fin 56) (co : Fin 128) (q : Fin 2)
    (x : (⟨4, S1x28x56x128.size⟩ : Shape).Idx)
    (hx : ∀ a, ((ix4 0 y s co : S1x56x56x128.Idx) a : Nat) = (![0, 28 * q.val, 0, 0] : Fin 4 → Nat) a + x a) :
    band x0 x1 x2 q x = win x0 x1 x2 y s co := by
  obtain ⟨a, r, s', co', rfl⟩ : ∃ (a : Fin 1) (r : Fin 28) (s' : Fin 56) (b : Fin 128), x = ix4 a r s' b := ⟨x 0, x 1, x 2, x 3, eq_ix4 x⟩
  obtain rfl : a = 0 := Subsingleton.elim _ _
  have hy : y.val = 28 * q.val + r.val := hx 1
  obtain rfl : s = s' := Fin.ext ((hx 2).trans (Nat.zero_add _))
  obtain rfl : co = co' := Fin.ext ((hx 3).trans (Nat.zero_add _))
  rw [band_at, sums_at]
  unfold win
  simp only [hy]

/-- What the body leaves in the output's buffer is the kernel's result. -/
theorem out_at (x0 : Vec Ideal S1x2x57x57x128 .f32) (x1 : Vec Ideal S2x2x2x128x128 .f32) (x2 : Vec Ideal S128 .f32) (y s : Fin 56) (co : Fin 128) :
    out0_3 x0 x1 x2 (ix4 0 y s co) = win x0 x1 x2 y s co := by
  rw [out_eq]
  refine View.canon_eq_of_allAt (Val := Elt Ideal) (e := .f32) _ _ _ (cover0_3 _ _ _) ?_
  refine View.allAt_cons_unit _ _ _ _ _ (band_win x0 x1 x2 y s co 1) ?_
  exact View.allAt_cons_unit _ _ _ _ _ (band_win x0 x1 x2 y s co 0) (View.allAt_nil _ _)

end Cert.Conv2Ideal.Layer
end
-- ==== Proof.Conv2.Reference.lean ====
module

public import proofs.«01_k».proof.Proof.Gen.Conv2ReferenceIdeal.Run
public import proofs.«01_k».proof.Proof.Conv.Edge
public import Idealize.ShloMosaic.Lib.Pointwise

@[expose] public section

noncomputable section

namespace Cert.Conv2ReferenceIdeal.Layer

open Cert.Conv2ReferenceIdeal Cert.Conv2ReferenceIdeal.Gen Idealize.ShloMosaic Idealize.ShloMosaic.TcCoe Idealize.SL.Sem
open Cert.Deconv.Places (edge)

variable {F : FTy → Type} [FloatOps F]

/-- The images with a border of one. -/
def padded (X : Vec F S8x112x112x64 .f32) : Vec F S8x114x114x64 .f32 :=
  pad S8x114x114x64 ![0, 1, 1, 0] ![0, 1, 1, 0] ![0, 0, 0, 0] X
    (sitofp .f32 (constantI S_ 32 0#32)) pads_S8x112x112x64_S8x114x114x64_000_110_110_000 h_S_

/-- One tap of the convolution. -/
def tap (X : Vec F S8x112x112x64 .f32) (W : Vec F S128x64x4x4 .f32) (kh kw : Fin 4) : FVec F S8x56x56x128 .f32 :=
  have x : FVec F S8x56x56x64 .f32 := Host.slice S8x56x56x64 ![0, kh.val, kw.val, 0] ![1, 2, 2, 1] (padded X) (by
    refine ⟨rfl, fun a => ?_⟩
    have := kh.isLt; have := kw.isLt
    fin_cases a <;> simp [S8x114x114x64, S8x56x56x64] <;> omega)
  have k : Vec F S128x64x1x1 .f32 := extractStridedSlice S128x64x1x1 ![0, 0, kh.val, kw.val] W (by
    refine ⟨rfl, fun a => ?_⟩
    have := kh.isLt; have := kw.isLt
    fin_cases a <;> simp [S128x64x4x4, S128x64x1x1] <;> omega)
  have w : FVec F S128x64 .f32 := shapeCast S128x64 k shapeCasts_S128x64x1x1_S128x64
  Host.dotGeneral dot_S8x56x56x64_S128x64_S8x56x56x128_3_1_012_0_n_n none x w

/-- The sixteen taps, added in order. -/
def sum (X : Vec F S8x112x112x64 .f32) (W : Vec F S128x64x4x4 .f32) : FVec F S8x56x56x128 .f32 :=
  List.foldl (fun y p => addf y (tap X W p.1 p.2)) (broadcastInDim S8x56x56x128 ![] bcast_S_S8x56x56x128 (constant S_ .f32 0x00000000#32))
    [(0, 0), (0, 1), (0, 2), (0, 3), (1, 0), (1, 1), (1, 2), (1, 3), (2, 0), (2, 1), (2, 2), (2, 3), (3, 0), (3, 1), (3, 2), (3, 3)]

/-- The layer's image. -/
def image (X : Vec F S8x112x112x64 .f32) (W : Vec F S128x64x4x4 .f32) (b : Vec F S128 .f32) : FVec F S8x56x56x128 .f32 :=
  maximumf (addf (sum X W) (broadcastInDim S8x56x56x128 ![0, 1, 2, 3] bcast_S1x1x1x128_S8x56x56x128_0_1_2_3
    (broadcastInDim S1x1x1x128 ![3] bcast_S128_S1x1x1x128_3 b))) (broadcastInDim S8x56x56x128 ![] bcast_S_S8x56x56x128 (constant S_ .f32 0x00000000#32))

theorem res_eq (m : (ℓ : Loc nD τ sig) → Buf (Elt F) ℓ) (c : Dev nD) :
    Value.res_main_v86 m c = image (m (c, main_arg0)) (m (c, main_arg1)) (m (c, main_arg2)) := by
  unfold Value.res_main_v86 image sum
  simp only [List.foldl_cons, List.foldl_nil, tap, padded]
  rfl

/-- A read of the padded images. -/
theorem padded_at (X : Vec Ideal S8x112x112x64 .f32) (n : Fin 8) (p q : Fin 114) (ci : Fin 64) :
    padded X (ix4 n p q ci) = edge (n := 112) (fun r s => X (ix4 n r s ci)) p.val q.val := by
  unfold padded
  refine Cert.Conv.pad_edge (n := 112) (N := 114) (C := 64) rfl _ _ _ _ ?_ n p q ci
  simp only [pointwise]
  show (((0#32 : BitVec 32).toInt : ℝ) : EReal) = 0
  simp

/-- A tap at a pixel and an output channel. -/
theorem tap_at (X : Vec Ideal S8x112x112x64 .f32) (W : Vec Ideal S128x64x4x4 .f32) (kh kw : Fin 4) (n : Fin 8) (i j : Fin 56) (co : Fin 128) :
    tap X W kh kw (ix4 n i j co)
      = ∑ ci : Fin 64, edge (n := 112) (fun r s => X (ix4 n r s ci)) (2 * i.val + kh.val) (2 * j.val + kw.val) * W (ix4 co ci kh kw) := by
  unfold tap
  simp only [pointwise]
  rw [zero_add]
  refine Finset.sum_congr rfl fun ci _ => ?_
  refine congrArg₂ (fun d e : EReal => d * e) (Eq.trans (congrArg (padded X) ?_)
    (padded_at X n ⟨2 * i.val + kh.val, by omega⟩ ⟨2 * j.val + kw.val, by omega⟩ ci)) (congrArg W ?_)
  · funext q
    fin_cases q <;> apply Fin.ext
    · show 0 + 1 * n.val = n.val; omega
    · show kh.val + 2 * i.val = 2 * i.val + kh.val; omega
    · show kw.val + 2 * j.val = 2 * j.val + kw.val; omega
    · show 0 + 1 * ci.val = ci.val; omega
  · funext q
    fin_cases q <;> apply Fin.ext
    · show 0 + co.val = co.val; omega
    · show 0 + ci.val = ci.val; omega
    · rfl
    · rfl

/-- The sum at a pixel and a channel. -/
theorem sum_at (X : Vec Ideal S8x112x112x64 .f32) (W : Vec Ideal S128x64x4x4 .f32) (n : Fin 8) (i j : Fin 56) (co : Fin 128) :
    sum X W (ix4 n i j co) = ∑ kh : Fin 4, ∑ kw : Fin 4, (tap X W kh kw (ix4 n i j co) : EReal) := by
  unfold sum
  simp only [List.foldl_cons, List.foldl_nil, pointwise, Fin.sum_univ_four, zero_add]
  abel

/-- The reference's result at a pixel and a channel. -/
theorem layer_at (X : Vec Ideal S8x112x112x64 .f32) (W : Vec Ideal S128x64x4x4 .f32) (bias : Vec Ideal S128 .f32) (n : Fin 8) (i j : Fin 56) (co : Fin 128) :
    image X W bias (ix4 n i j co)
      = max ((∑ kh : Fin 4, ∑ kw : Fin 4, ∑ ci : Fin 64, edge (n := 112) (fun r s => X (ix4 n r s ci)) (2 * i.val + kh.val) (2 * j.val + kw.val)
          * W (ix4 co ci kh kw)) + bias (ix1 co)) 0 := by
  simp only [← tap_at]
  rw [← sum_at]
  unfold image
  simp only [pointwise]
  rfl

end Cert.Conv2ReferenceIdeal.Layer
end
-- ==== Proof.Conv2.Same.lean ====
module

public import proofs.«01_k».proof.Proof.Conv2.Window
public import proofs.«01_k».proof.Proof.Conv2.Reference
public import Idealize.ShloMosaic.Lib.StableHlo.ReadAt
public import Idealize.ShloMosaic.Lib.Pipeline.ValueKit

@[expose] public section

noncomputable section

namespace Cert.Conv2Ideal.Layer

open Cert.Conv2Ideal Cert.Conv2Ideal.Gen Idealize.ShloMosaic Idealize.ShloMosaic.TcCoe Idealize.SL.Sem
open Cert.Deconv.Places (edge)

section Host
variable {F : FTy → Type} [FloatOps F]

/-- The rows dealt out by their remainder by two, each two neighbouring pixels of a row made one of 128 channels. -/
def folded (x : Vec F S8x114x114x64 .f32) : Vec F S8x2x57x57x128 .f32 :=
  have y : Vec F S8x57x2x57x2x64 .f32 := shapeCast S8x57x2x57x2x64 x shapeCasts_S8x114x114x64_S8x57x2x57x2x64
  have z : Vec F S8x2x57x57x2x64 .f32 := transpose S8x2x57x57x2x64 [0, 2, 1, 3, 4, 5] y transposes_S8x57x2x57x2x64_S8x2x57x57x2x64_0_2_1_3_4_5
  shapeCast S8x2x57x57x128 z shapeCasts_S8x2x57x57x2x64_S8x2x57x57x128

/-- A read of a folded image. -/
theorem folded_at (x : Vec F S8x114x114x64 .f32) (n : Fin 8) (p : Fin 2) (r s : Fin 57) (q : Fin 2) (ci : Fin 64) :
    folded x (ix5 n p r s (⟨q.val * 64 + ci.val, by omega⟩ : Fin 128)) = x (ix4 n ⟨r.val * 2 + p.val, by omega⟩ ⟨s.val * 2 + q.val, by omega⟩ ci) := by
  unfold folded
  simp only [pointwise]

/-- The prepared images: with a border of one, and folded. -/
def prepared (X : Vec F S8x112x112x64 .f32) : Vec F S8x2x57x57x128 .f32 :=
  folded (pad S8x114x114x64 ![0, 1, 1, 0] ![0, 1, 1, 0] ![0, 0, 0, 0] X
    (sitofp .f32 (constantI S_ 32 0#32)) pads_S8x112x112x64_S8x114x114x64_000_110_110_000 h_S_)

/-- The prepared weights: the rows of taps dealt out by their remainder by two, each two neighbouring taps of a row beside one another. -/
def weights (W : Vec F S128x64x4x4 .f32) : Vec F S2x2x2x128x128 .f32 :=
  have x : Vec F S4x4x64x128 .f32 := transpose S4x4x64x128 [2, 3, 1, 0] W transposes_S128x64x4x4_S4x4x64x128_2_3_1_0
  have y : Vec F S2x2x2x2x64x128 .f32 := shapeCast S2x2x2x2x64x128 x shapeCasts_S4x4x64x128_S2x2x2x2x64x128
  have z : Vec F S2x2x2x2x64x128 .f32 := transpose S2x2x2x2x64x128 [1, 0, 2, 3, 4, 5] y transposes_S2x2x2x2x64x128_S2x2x2x2x64x128_1_0_2_3_4_5
  shapeCast S2x2x2x128x128 z shapeCasts_S2x2x2x2x64x128_S2x2x2x128x128

/-- A read of the prepared weights. -/
theorem weights_at (W : Vec F S128x64x4x4 .f32) (p dh dw q : Fin 2) (ci : Fin 64) (co : Fin 128) :
    weights W (ix5 p dh dw (⟨q.val * 64 + ci.val, by omega⟩ : Fin 128) co)
      = W (ix4 co ci ⟨dh.val * 2 + p.val, by omega⟩ ⟨dw.val * 2 + q.val, by omega⟩) := by
  unfold weights
  simp only [pointwise]

variable (m : (ℓ : Loc nD τ sig) → Buf (Elt F) ℓ)

/-- The region finds the prepared images in its first window's array, -/
theorem V_image (c : Dev nD) : V m c main_v3 = prepared (m (c, main_arg0)) := by
  unfold V
  after_reads_simp [StableHlo.readPieces]
  rfl

/-- and the prepared weights in its second's. -/
theorem V_weights (c : Dev nD) : V m c main_v7 = weights (m (c, main_arg1)) := by
  unfold V
  after_reads_simp [StableHlo.readPieces]
  rfl

end Host

/-- A read of the prepared images. -/
theorem prepared_at (X : Vec Ideal S8x112x112x64 .f32) (n : Fin 8) (p : Fin 2) (r s : Fin 57) (q : Fin 2) (ci : Fin 64) :
    prepared X (ix5 n p r s (⟨q.val * 64 + ci.val, by omega⟩ : Fin 128))
      = edge (n := 112) (fun r s => X (ix4 n r s ci)) (r.val * 2 + p.val) (s.val * 2 + q.val) := by
  exact (folded_at _ n p r s q ci).trans (Cert.Conv2ReferenceIdeal.Layer.padded_at X n ⟨r.val * 2 + p.val, by omega⟩ ⟨s.val * 2 + q.val, by omega⟩ ci)

variable (m : (ℓ : Loc nD τ sig) → Buf (Elt Ideal) ℓ)

/-- The images' block at grid point `t` is image `t`. -/
theorem index_x : ∀ t : Fin cfg0.N, win0_0.index t = ![t.val, 0, 0, 0, 0] := by decide +kernel

/-- The weights' block is the whole array at every grid point. -/
theorem index_w : ∀ t : Fin cfg0.N, win0_1.index t = ![0, 0, 0, 0, 0] := by decide +kernel

/-- The biases' block is the whole array at every grid point. -/
theorem index_b : ∀ t : Fin cfg0.N, win0_2.index t = ![0] := by decide +kernel

/-- The result's block at grid point `t` is image `t`. -/
theorem index_o : ∀ t : Fin cfg0.N, win0_3.index t = ![t.val, 0, 0, 0] := by decide +kernel

/-- A read of the images' block. -/
theorem blk_x (c : Dev nD) (t : Fin cfg0.N) (p : Fin 2) (a b : Fin 57) (k : Fin 128) :
    iblk m c 0 t (ix5 0 p a b k) = prepared (m (c, main_arg0)) (ix5 (t : Fin 8) p a b k) := by
  rw [← V_image]
  unfold iblk
  blk_simp
  refine congrArg _ (funext fun a => Fin.ext ?_)
  fin_cases a <;> blk_simp [index_x t] <;> rfl

/-- The weights' block. -/
theorem blk_w (c : Dev nD) (t : Fin cfg0.N) : iblk m c 1 t = weights (m (c, main_arg1)) := by
  rw [← V_weights]
  unfold iblk
  funext y
  blk_simp
  refine congrArg _ (funext fun a => Fin.ext ?_)
  fin_cases a <;> blk_simp [index_w t]

/-- The biases' block. -/
theorem blk_b (c : Dev nD) (t : Fin cfg0.N) : iblk m c 2 t = m (c, main_arg2) := by
  refine Eq.trans ?_ (V_main_arg2 m c)
  unfold iblk
  funext y
  blk_simp
  refine congrArg _ (funext fun a => Fin.ext ?_)
  fin_cases a
  blk_simp [index_b t]

/-- The kernel's array after the last grid point is the reference's: at each pixel and channel both hold the sixteen taps' sum
and the channel's bias, cut off at zero. -/
theorem arr_eq (c : Dev nD) :
    (dats m 0 c).arrAt 3 cfg0.N = Cert.Conv2ReferenceIdeal.Layer.image (m (c, main_arg0)) (m (c, main_arg1)) (m (c, main_arg2)) := by
  refine (dats m 0 c).arrAt_eq_of_covers 3 _ (by decide +kernel) fun t hf y => ?_
  rw [after0_3, blk_w, blk_b]
  blk_simp
  obtain ⟨n, r, s, co, rfl⟩ : ∃ (n : Fin 1) (r s : Fin 56) (co : Fin 128), y = ix4 n r s co := ⟨_, _, _, _, eq_ix4 y⟩
  obtain rfl : n = 0 := Subsingleton.elim _ _
  have e : (win0_3.blk t).view.emb (ix4 0 r s co) = ix4 (t : Fin 8) r s co := by
    refine funext fun a => Fin.ext ?_
    fin_cases a <;> blk_simp [index_o t] <;> rfl
  rw [e]
  refine Eq.trans ?_ (Cert.Conv2ReferenceIdeal.Layer.layer_at (m (c, main_arg0)) (m (c, main_arg1)) (m (c, main_arg2)) t r s co).symm
  rw [out_at]
  unfold win
  refine congrArg (fun e : EReal => max (e + m (c, main_arg2) (ix1 co)) 0) ?_
  refine Eq.trans ?_ (Cert.Conv.halves (M := EReal) fun kh kw (ci : Fin 64) => edge (n := 112) (fun a b => m (c, main_arg0) (ix4 (t : Fin 8) a b ci))
    (2 * r.val + kh.val) (2 * s.val + kw.val) * m (c, main_arg1) (ix4 co ci kh kw)).symm
  refine Finset.sum_comm.trans (Finset.sum_congr rfl fun dh _ => Finset.sum_comm.trans (Finset.sum_congr rfl fun dw _ => Finset.sum_congr rfl fun p _ => ?_))
  refine (Cert.Conv.split (M := EReal) 2 64 _).trans ?_
  refine Finset.sum_congr rfl fun q _ => Finset.sum_congr rfl fun ci _ => ?_
  refine congrArg₂ (fun d e : EReal => d * e) ?_ (weights_at (m (c, main_arg1)) p dh dw q ci co)
  refine (blk_x m c t _ _ _ _).trans ?_
  refine (prepared_at (m (c, main_arg0)) t p ⟨r.val + dh.val, by omega⟩ ⟨s.val + dw.val, by omega⟩ q ci).trans ?_
  refine congrArg₂ (edge (n := 112) fun a b => m (c, main_arg0) (ix4 (t : Fin 8) a b ci)) ?_ ?_
  · show (r.val + dh.val) * 2 + p.val = 2 * r.val + (dh.val * 2 + p.val)
    omega
  · show (s.val + dw.val) * 2 + q.val = 2 * s.val + (dw.val * 2 + q.val)
    omega

/-- The reference keeps its arguments and ends with every counter at zero. -/
theorem frame_r (m : (ℓ : Loc Cert.Conv2ReferenceIdeal.nD Cert.Conv2ReferenceIdeal.τ Cert.Conv2ReferenceIdeal.sig) → Buf (Elt Ideal) ℓ)
    (ρ : Dev Cert.Conv2ReferenceIdeal.nD → PrngReg) :
    θ_run (Cert.Conv2ReferenceIdeal.defs (F := Ideal)) (onTc (τ := Cert.Conv2ReferenceIdeal.τ) (Cert.Conv2ReferenceIdeal.main (F := Ideal)))
        ⟨m, fun _ => 0, ρ⟩ (fun r => (∀ c : Dev Cert.Conv2ReferenceIdeal.nD,
          r.2.mem ((c.tc : Thread Cert.Conv2ReferenceIdeal.nD Cert.Conv2ReferenceIdeal.τ).loc Cert.Conv2ReferenceIdeal.main_arg0) = m ((c.tc : Thread Cert.Conv2ReferenceIdeal.nD Cert.Conv2ReferenceIdeal.τ).loc Cert.Conv2ReferenceIdeal.main_arg0)
          ∧ r.2.mem ((c.tc : Thread Cert.Conv2ReferenceIdeal.nD Cert.Conv2ReferenceIdeal.τ).loc Cert.Conv2ReferenceIdeal.main_arg1) = m ((c.tc : Thread Cert.Conv2ReferenceIdeal.nD Cert.Conv2ReferenceIdeal.τ).loc Cert.Conv2ReferenceIdeal.main_arg1)
          ∧ r.2.mem ((c.tc : Thread Cert.Conv2ReferenceIdeal.nD Cert.Conv2ReferenceIdeal.τ).loc Cert.Conv2ReferenceIdeal.main_arg2) = m ((c.tc : Thread Cert.Conv2ReferenceIdeal.nD Cert.Conv2ReferenceIdeal.τ).loc Cert.Conv2ReferenceIdeal.main_arg2))
      ∧ r.2.sem = fun _ => 0) :=
  (θ_run Cert.Conv2ReferenceIdeal.defs _ _).mono (fun r h => ⟨fun c => (h c).2, sem_eq_zero_of_no_sems (by decide) r.2⟩)
    (Cert.Conv2ReferenceIdeal.Value.run m ρ)

/-- From memories that agree on the three arguments the second convolution and its reference end with the same result. -/
theorem same (ρ : Dev nD → PrngReg)
    (m' : (ℓ : Loc Cert.Conv2ReferenceIdeal.nD Cert.Conv2ReferenceIdeal.τ Cert.Conv2ReferenceIdeal.sig) → Buf (Elt Ideal) ℓ)
    (ρ' : Dev Cert.Conv2ReferenceIdeal.nD → PrngReg)
    (hag : ∀ c : Dev nD,
      m' ((c.tc : Thread Cert.Conv2ReferenceIdeal.nD Cert.Conv2ReferenceIdeal.τ).loc Cert.Conv2ReferenceIdeal.main_arg0) = m ((c.tc : Thread nD τ).loc main_arg0)
      ∧ m' ((c.tc : Thread Cert.Conv2ReferenceIdeal.nD Cert.Conv2ReferenceIdeal.τ).loc Cert.Conv2ReferenceIdeal.main_arg1) = m ((c.tc : Thread nD τ).loc main_arg1)
      ∧ m' ((c.tc : Thread Cert.Conv2ReferenceIdeal.nD Cert.Conv2ReferenceIdeal.τ).loc Cert.Conv2ReferenceIdeal.main_arg2) = m ((c.tc : Thread nD τ).loc main_arg2)) :
    ∃ (v0 : (c : Dev nD) → Buf (Elt Ideal) ((c.tc : Thread nD τ).loc main_v8)),
      θ_run (defs (F := Ideal)) (onTc (τ := τ) (main (F := Ideal))) ⟨m, fun _ => 0, ρ⟩ (fun r => ∀ c : Dev nD,
          r.2.mem ((c.tc : Thread nD τ).loc main_v8) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))
      ∧ θ_run (Cert.Conv2ReferenceIdeal.defs (F := Ideal)) (onTc (τ := Cert.Conv2ReferenceIdeal.τ) (Cert.Conv2ReferenceIdeal.main (F := Ideal)))
          ⟨m', fun _ => 0, ρ'⟩ (fun r => ∀ c : Dev Cert.Conv2ReferenceIdeal.nD,
          r.2.mem ((c.tc : Thread Cert.Conv2ReferenceIdeal.nD Cert.Conv2ReferenceIdeal.τ).loc Cert.Conv2ReferenceIdeal.main_v86) = v0 c
          ∧ r.2.mem ((c.tc : Thread Cert.Conv2ReferenceIdeal.nD Cert.Conv2ReferenceIdeal.τ).loc Cert.Conv2ReferenceIdeal.main_arg0) = m' ((c.tc : Thread Cert.Conv2ReferenceIdeal.nD Cert.Conv2ReferenceIdeal.τ).loc Cert.Conv2ReferenceIdeal.main_arg0)
          ∧ r.2.mem ((c.tc : Thread Cert.Conv2ReferenceIdeal.nD Cert.Conv2ReferenceIdeal.τ).loc Cert.Conv2ReferenceIdeal.main_arg1) = m' ((c.tc : Thread Cert.Conv2ReferenceIdeal.nD Cert.Conv2ReferenceIdeal.τ).loc Cert.Conv2ReferenceIdeal.main_arg1)
          ∧ r.2.mem ((c.tc : Thread Cert.Conv2ReferenceIdeal.nD Cert.Conv2ReferenceIdeal.τ).loc Cert.Conv2ReferenceIdeal.main_arg2) = m' ((c.tc : Thread Cert.Conv2ReferenceIdeal.nD Cert.Conv2ReferenceIdeal.τ).loc Cert.Conv2ReferenceIdeal.main_arg2)) := by
  refine ⟨fun c => (dats m 0 c).arrAt 3 cfg0.N, Value.run_blocks m ρ, ?_⟩
  refine (θ_run Cert.Conv2ReferenceIdeal.defs _ _).mono (fun _ h c => ⟨(h c).1.trans ?_, (h c).2⟩) (Cert.Conv2ReferenceIdeal.Value.run m' ρ')
  refine (Cert.Conv2ReferenceIdeal.Layer.res_eq m' c).trans ?_
  have e0 : m' (c, Cert.Conv2ReferenceIdeal.main_arg0) = m (c, main_arg0) := (hag c).1
  have e1 : m' (c, Cert.Conv2ReferenceIdeal.main_arg1) = m (c, main_arg1) := (hag c).2.1
  have e2 : m' (c, Cert.Conv2ReferenceIdeal.main_arg2) = m (c, main_arg2) := (hag c).2.2
  refine Eq.trans ?_ (arr_eq m c).symm
  rw [e0, e1, e2]

end Cert.Conv2Ideal.Layer
end
-- ==== Proof.Codes.First.lean ====
module

public import proofs.«01_k».proof.Proof.Gen.CodesReferenceIdeal
public import Idealize.ShloMosaic.Lib.Pointwise

@[expose] public section

noncomputable section

namespace Cert.Codes

open Cert.CodesReferenceIdeal Cert.CodesReferenceIdeal.Gen Idealize.ShloMosaic Idealize.ShloMosaic.TcCoe

/-- `a` is the first place at which `f` is least. -/
def First {n : Nat} (f : Fin n → EReal) (a : Fin n) : Prop := (∀ k, f a ≤ f k) ∧ ∀ k, k < a → f a < f k

/-- There is a first least place. -/
theorem exists_first (f : Fin 512 → EReal) : ∃ a, First f a := by
  obtain ⟨b, hb⟩ := Finite.exists_min f
  obtain ⟨a, ha, hm⟩ := (wellFounded_lt (α := Fin 512)).has_min {k | ∀ l, f k ≤ f l} ⟨b, hb⟩
  refine ⟨a, ha, fun k hk => lt_of_not_ge fun h => hm k (fun l => h.trans (ha l)) hk⟩

/-- A constant added to every value leaves the first least place where it was. -/
theorem first_add (f g : Fin 512 → EReal) (r : ℝ) (hg : ∀ k, g k = f k + r) (a : Fin 512) (h : First f a) : First g a := by
  refine ⟨fun k => ?_, fun k hk => ?_⟩
  · rw [hg, hg]; exact add_le_add (h.1 k) le_rfl
  · rw [hg, hg]; exact EReal.add_lt_add_right_coe (h.2 k hk) r

/-- A number below 512 as a word, read signed. -/
theorem word_toInt (k : Nat) (h : k ≤ 512) : (BitVec.ofNat 32 k).toInt = k := by
  have e : k % 2 ^ 32 = k := Nat.mod_eq_of_lt (by omega)
  rw [BitVec.toInt_eq_toNat_cond, BitVec.toNat_ofNat, e, if_pos (by omega)]

/-- The smaller of two words, read signed. -/
theorem minsi_toInt (x y : BitVec 32) : (IntOp.minsi x y).toInt = min x.toInt y.toInt := by
  unfold IntOp.minsi
  by_cases h : x.slt y = true
  · rw [if_pos h, min_eq_left (le_of_lt (BitVec.slt_iff_toInt_lt.1 h))]
  · rw [if_neg h, min_eq_right (not_lt.1 fun e => h (BitVec.slt_iff_toInt_lt.2 e))]

/-- The least of the numbers whose value is at most every other is the first least place. -/
theorem first_fold (f : Fin 512 → EReal) (a : Fin 512) (h : First f a) (v : Fin 512 → BitVec 32)
    (h1 : ∀ k, (∀ l, f k ≤ f l) → v k = BitVec.ofNat 32 k.val) (h2 : ∀ k, ¬ (∀ l, f k ≤ f l) → v k = 512#32) :
    (Finset.univ : Finset (Fin 512)).fold IntOp.minsi 2147483647#32 v = BitVec.ofNat 32 a.val := by
  refine BitVec.eq_of_toInt_eq ?_
  rw [← Finset.fold_hom (op' := min) (m := BitVec.toInt) minsi_toInt, word_toInt _ a.isLt.le]
  refine le_antisymm ((Finset.fold_min_le _).2 (Or.inr ⟨a, Finset.mem_univ _, ?_⟩)) ((Finset.le_fold_min _).2 ⟨?_, fun k _ => ?_⟩)
  · rw [h1 a h.1, word_toInt _ a.isLt.le]
  · have : (2147483647#32 : BitVec 32).toInt = 2147483647 := by decide
    rw [this]; have := a.isLt; omega
  · by_cases hk : ∀ l, f k ≤ f l
    · rw [h1 k hk, word_toInt _ k.isLt.le]
      have : ¬ k < a := fun e => absurd (h.2 k e) (not_lt.2 (hk a))
      have : a.val ≤ k.val := not_lt.1 this
      omega
    · rw [h2 k hk]
      have : (512#32 : BitVec 32).toInt = 512 := by decide
      rw [this]; have := a.isLt; omega

/-- A pair comes before another: its value is smaller, or the values are equal and its number is smaller. -/
def Before (p q : EReal × BitVec 32) : Prop := p.1 < q.1 ∨ (p.1 = q.1 ∧ p.2.toInt < q.2.toInt)

/-- Of two pairs the body keeps the one that comes before. -/
theorem keep_left (p q : EReal × BitVec 32) (h : Before p q) : reducer_argmin_f32_i32 (F := Ideal) p q = p := by
  obtain ⟨x, i⟩ := p
  obtain ⟨y, j⟩ := q
  rcases h with h | ⟨h, h'⟩
  · simp only at h
    simp [reducer_argmin_f32_i32, Ideal.cmpf_def, Ideal.cmp, IntOp.cmpi, IntOp.ori, IntOp.andi, Scalar.select, h, h.ne]
  · simp only at h h'
    subst h
    have : i.slt j = true := BitVec.slt_iff_toInt_lt.2 h'
    simp [reducer_argmin_f32_i32, Ideal.cmpf_def, Ideal.cmp, IntOp.cmpi, IntOp.ori, IntOp.andi, Scalar.select, this]

/-- Otherwise it keeps the other one. -/
theorem keep_right (p q : EReal × BitVec 32) (h : ¬ Before p q) : reducer_argmin_f32_i32 (F := Ideal) p q = q := by
  obtain ⟨x, i⟩ := p
  obtain ⟨y, j⟩ := q
  unfold Before at h
  push Not at h
  simp only at h
  have h1 : ¬ x < y := not_lt.2 h.1
  by_cases e : x = y
  · subst e
    have : i.slt j = false := by
      rw [Bool.eq_false_iff]; exact fun w => absurd (BitVec.slt_iff_toInt_lt.1 w) (not_lt.2 (h.2 rfl))
    simp [reducer_argmin_f32_i32, Ideal.cmpf_def, Ideal.cmp, IntOp.cmpi, IntOp.ori, IntOp.andi, Scalar.select, this]
  · simp [reducer_argmin_f32_i32, Ideal.cmpf_def, Ideal.cmp, IntOp.cmpi, IntOp.ori, IntOp.andi, Scalar.select, h1, e]

/-- Of two pairs at most one comes before the other. -/
theorem before_asymm (p q : EReal × BitVec 32) (h : Before p q) : ¬ Before q p := by
  rintro (h' | ⟨h', w'⟩) <;> rcases h with h | ⟨h, w⟩
  · exact absurd h (not_lt.2 h'.le)
  · exact absurd h h'.ne'
  · exact absurd h' h.ne'
  · omega

/-- The fold of the body over a list, from a pair, is the pair that comes before all the others. -/
theorem fold_before (t : EReal × BitVec 32) (L : List (EReal × BitVec 32)) : ∀ i : EReal × BitVec 32,
    t ∈ i :: L → (∀ q ∈ i :: L, q = t ∨ Before t q) → L.foldl (reducer_argmin_f32_i32 (F := Ideal)) i = t := by
  induction L with
  | nil => intro i hm _; exact (List.mem_singleton.1 hm).symm
  | cons q L ih =>
    intro i hm hb
    refine ih _ ?_ ?_
    · by_cases e : i = t
      · subst e
        rcases hb q (by simp) with e | e
        · rw [e]
          by_cases w : Before i i
          · rw [keep_left _ _ w]; simp
          · rw [keep_right _ _ w]; simp
        · rw [keep_left _ _ e]; simp
      · by_cases e' : q = t
        · subst e'
          have := (hb i (by simp)).resolve_left e
          rw [keep_right _ _ (before_asymm _ _ this)]; simp
        · have : t ∈ L := by
            rcases List.mem_cons.1 hm with w | w
            · exact absurd w.symm e
            · rcases List.mem_cons.1 w with w | w
              · exact absurd w.symm e'
              · exact w
          exact List.mem_cons_of_mem _ this
    · intro r hr
      rcases List.mem_cons.1 hr with w | w
      · by_cases c : Before i q
        · rw [keep_left _ _ c] at w; exact hb r (by simp [w])
        · rw [keep_right _ _ c] at w; exact hb r (by simp [w])
      · exact hb r (by simp [w])

/-- The reference's arg-min along a row is the first least place, when the least value is not infinite. -/
theorem argmin_first (d : FVec Ideal S25088x512 .f32) (p : Fin 25088) (a : Fin 512) (h : First (fun k => d (ix2 p k)) a) (ht : d (ix2 p a) < (⊤ : EReal)) :
    (Host.argReduce reducer_argmin_f32_i32 d (iotaInDim S25088x512 32 1) (constant S_ .f32 0x7F800000#32) (constantI S_ 32 0#32)
      reducesTo_S25088x512_S25088_d1 h_S_ (ix1 p)).2 = BitVec.ofNat 32 a.val := by
  rw [Ideal.argReduce_eq_reduce2, Host.reduce2_eq_foldl_fiber]
  have top : (constant S_ .f32 0x7F800000#32 : FVec Ideal S_ .f32) (Shape.Idx.first h_S_) = (⊤ : EReal) := by
    show Ideal.ofBits .f32 0x7F800000#32 = ⊤
    simp [Ideal.ofBits, Ideal.ieee]
  have mem : ∀ q : EReal × BitVec 32, q ∈ Host.argReduceFiber (α := EReal) d (iotaInDim S25088x512 32 1) reducesTo_S25088x512_S25088_d1 (ix1 p)
      ↔ ∃ k : Fin 512, q = (d (ix2 p k), BitVec.ofNat 32 k.val) := fun q => by
    unfold Host.argReduceFiber
    simp only [List.mem_map, List.mem_filter, List.mem_finRange, true_and, decide_eq_true_eq]
    constructor
    · rintro ⟨n, hn, rfl⟩
      obtain ⟨k, hk⟩ := (Shape.ReducesTo.fiber_r2_a1 reducesTo_S25088x512_S25088_d1 _ _).1 hn
      exact ⟨k, by rw [← hk]; rfl⟩
    · rintro ⟨k, rfl⟩
      refine ⟨S25088x512.rowMajor (ix2 p k), ?_, ?_⟩
      · rw [Equiv.symm_apply_apply]
        exact (Shape.ReducesTo.fiber_r2_a1 reducesTo_S25088x512_S25088_d1 _ _).2 ⟨k, rfl⟩
      · rw [Equiv.symm_apply_apply]; rfl
  refine (congrArg Prod.snd (fold_before (d (ix2 p a), BitVec.ofNat 32 a.val) _ _ (List.mem_cons_of_mem _ ((mem _).2 ⟨a, rfl⟩)) fun q hq => ?_))
  rcases List.mem_cons.1 hq with w | w
  · right; left
    rw [w]
    show d (ix2 p a) < _
    rw [top]; exact ht
  · obtain ⟨k, rfl⟩ := (mem q).1 w
    rcases lt_trichotomy k a with c | c | c
    · exact Or.inr (Or.inl (h.2 k c))
    · left; rw [c]
    · right
      rcases lt_or_eq_of_le (h.1 k) with e | e
      · exact Or.inl e
      · refine Or.inr ⟨e, ?_⟩
        show (BitVec.ofNat 32 a.val).toInt < (BitVec.ofNat 32 k.val).toInt
        rw [word_toInt _ a.isLt.le, word_toInt _ k.isLt.le]
        have : a.val < k.val := c
        omega

end Cert.Codes
end
-- ==== Proof.Codes.Window.lean ====
module

public import proofs.«01_k».proof.Proof.Gen.CodesIdeal.Value
public import proofs.«01_k».proof.Proof.Conv.Edge
public import proofs.«01_k».proof.Proof.Codes.First
public import Idealize.ShloMosaic.Lib.Pointwise
public import Idealize.ShloMosaic.Lib.Pipeline.Value
public import Idealize.ShloMosaic.Lib.Pipeline.ValueKit.Tiles

@[expose] public section

set_option maxRecDepth 16384

noncomputable section

namespace Cert.CodesIdeal.Layer

open Cert.CodesIdeal Cert.CodesIdeal.Gen Idealize.ShloMosaic Idealize.ShloMosaic.TcCoe Idealize.SL.Sem
open Cert.Deconv.Places (edge edge_in edge_out)

variable {F : FTy → Type} [FloatOps F]

/-- The inside of the scratch, where the image is put. -/
abbrev inner : Rect S58x58x128 := Rect.unit (s := S58x58x128) ![1, 1, 0] S56x56x128.size inb_S58x58x128_S56x56x128_1_1_0

/-- All of the scratch. -/
abbrev all : Rect S58x58x128 := Rect.unit (s := S58x58x128) ![0, 0, 0] S58x58x128.size inb_S58x58x128_S58x58x128_0_0_0

/-- What the scratch holds: zeros, and the image written inside. -/
def padded (x0 : Vec F S1x56x56x128 .f32) : Vec F S58x58x128 .f32 :=
  View.canon [⟨inner, shapeCast S56x56x128 (shapeCast S56x56x128 x0 shapeCasts_S1x56x56x128_S56x56x128) shapeCasts_S56x56x128_S56x56x128⟩,
    ⟨all, shapeCast S58x58x128 (broadcast S58x58x128 (Scalar.ofBits .f32 0x00000000#32) : FVec F S58x58x128 .f32) shapeCasts_S58x58x128_S58x58x128⟩]

/-- The window of the scratch at the tap `(kh, kw)` of band `q`. -/
abbrev zRect (q : Fin 2) (kh kw : Fin 3) : Rect S58x58x128 :=
  Rect.unit (s := S58x58x128) ![28 * q.val + kh.val, kw.val, 0] S28x56x128.size (by
    intro a; have := q.isLt; have := kh.isLt; have := kw.isLt
    fin_cases a <;> simp [S58x58x128, S28x56x128] <;> omega)

/-- The slice of the prepared weights at the tap `(kh, kw)`. -/
abbrev wRect (kh kw : Fin 3) : Rect S3x3x128x128 :=
  Rect.unit (s := S3x3x128x128) ![kh.val, kw.val, 0, 0] S1x1x128x128.size (by
    intro a; have := kh.isLt; have := kw.isLt
    fin_cases a <;> simp [S3x3x128x128, S1x1x128x128] <;> omega)

/-- Where band `q` is stored. -/
abbrev oRect (q : Fin 2) : Rect S1x3136x1 :=
  Rect.unit (s := S1x3136x1) ![0, 1568 * q.val, 0] S1x1568x1.size (by
    intro a; have := q.isLt
    fin_cases a <;> simp [S1x3136x1, S1x1568x1] <;> omega)

/-- One product of the kernel: a window of the padded image with a slice of the prepared weights. -/
def product (Z : Vec F S28x56x128 .f32) (A : Vec F S1x1x128x128 .f32) : FVec F S1568x128 .f32 :=
  have z : FVec F S1568x128 .f32 := shapeCast S1568x128 Z shapeCasts_S28x56x128_S1568x128
  have a : FVec F S128x128 .f32 := shapeCast S128x128 A shapeCasts_S1x1x128x128_S128x128
  matmul dot_S1568x128_S128x128_S1568x128_1_0_0_1_n_n none z a (constant S1568x128 .f32 0x00000000#32)

/-- The product of band `q` at the tap `(kh, kw)`. -/
def part (z : Vec F S58x58x128 .f32) (x1 : Vec F S3x3x128x128 .f32) (q : Fin 2) (kh kw : Fin 3) : FVec F S1568x128 .f32 :=
  product (View.ld z (zRect q kh kw)) (View.ld x1 (wRect kh kw))

/-- Band `q`'s nine products, summed in pairs. -/
def sums (z : Vec F S58x58x128 .f32) (x1 : Vec F S3x3x128x128 .f32) (q : Fin 2) : FVec F S1568x128 .f32 :=
  addf (addf (addf (addf (part z x1 q 0 0) (part z x1 q 0 1)) (addf (part z x1 q 0 2) (part z x1 q 1 0)))
    (addf (addf (part z x1 q 1 1) (part z x1 q 1 2)) (addf (part z x1 q 2 0) (part z x1 q 2 1)))) (part z x1 q 2 2)

/-- Band `q`'s features: the products' sum and the biases. -/
def features (z : Vec F S58x58x128 .f32) (x1 : Vec F S3x3x128x128 .f32) (x2 : Vec F S128 .f32) (q : Fin 2) : FVec F S1568x128 .f32 :=
  have b : FVec F S1x128 .f32 := shapeCast S1x128 x2 shapeCasts_S128_S1x128
  addf (sums z x1 q) (broadcastTo S1568x128 b broadcasts_S1x128_S1568x128)

/-- The products of the features with the rows of the codebook. -/
def cross (y : FVec F S1568x128 .f32) (x3 : Vec F S128x512 .f32) : FVec F S1568x512 .f32 :=
  have e : FVec F S128x512 .f32 := shapeCast S128x512 x3 shapeCasts_S128x512_S128x512
  matmul dot_S1568x128_S128x512_S1568x512_1_0_0_1_n_n none y e (constant S1568x512 .f32 0x00000000#32)

/-- The scores of band `q`'s pixels against the rows of the codebook. -/
def scores (y : FVec F S1568x128 .f32) (x3 : Vec F S128x512 .f32) (x4 : Vec F S1x512 .f32) : FVec F S1568x512 .f32 :=
  have e : FVec F S1x512 .f32 := shapeCast S1x512 (shapeCast S512 x4 shapeCasts_S1x512_S512) shapeCasts_S512_S1x512
  subf (broadcastTo S1568x512 e broadcasts_S1x512_S1568x512) (mulf (broadcast S1568x512 (Scalar.ofBits .f32 0x40000000#32)) (cross y x3))

/-- The least score of each pixel. -/
def mins (d : FVec F S1568x512 .f32) : FVec F S1568 .f32 :=
  multiReduction .minimumf [1] S1568 d 0x7F800000#32 reduces_S1568x512_S1568 (.inl rfl) rfl

/-- The number of each row whose score is at most `v`, and 512 in place of the others. -/
def picked (d : FVec F S1568x512 .f32) (v : FVec F S1568 .f32) : IVec S1568x512 32 :=
  have m : FVec F S1568x1 .f32 := shapeCast S1568x1 v shapeCasts_S1568_S1568x1
  select (cmpf .ole d (broadcastTo S1568x512 m broadcasts_S1568x1_S1568x512)) (iota .tc S1568x512 32 [1] iota_S1568x512_d1_w32) (broadcast S1568x512 512#32)

/-- The numbers of the rows with a least score. -/
def least (d : FVec F S1568x512 .f32) : IVec S1568 32 :=
  multiReductionI .minsi [1] S1568 (picked d (mins d)) 2147483647#32 reduces_S1568x512_S1568 rfl

/-- Band `q` as it is stored. -/
def band (z : Vec F S58x58x128 .f32) (x1 : Vec F S3x3x128x128 .f32) (x2 : Vec F S128 .f32) (x3 : Vec F S128x512 .f32) (x4 : Vec F S1x512 .f32) (q : Fin 2) : Vec F S1x1568x1 .i32 :=
  shapeCast S1x1568x1 (shapeCast S1568x1 (least (scores (features z x1 x2 q) x3 x4)) shapeCasts_S1568_S1568x1) shapeCasts_S1568x1_S1x1568x1

variable (m : (ℓ : Loc nD τ sig) → Buf (Elt F) ℓ)

/-- What the body leaves in the output's buffer: the two bands. -/
theorem out_eq (c : Dev nD) (t : Fin cfg0.N) :
    outsAt0 m c t = View.canon
      [⟨oRect 1, band (padded (View.ld (iblk m c 0 t) (Rect.unit (s := S1x56x56x128) ![0, 0, 0, 0] S1x56x56x128.size inb_S1x56x56x128_S1x56x56x128_0_0_0_0)))
          (iblk m c 1 t) (View.ld (iblk m c 2 t) (Rect.unit (s := S128) ![0] S128.size inb_S128_S128_0))
          (View.ld (iblk m c 3 t) (Rect.unit (s := S128x512) ![0, 0] S128x512.size inb_S128x512_S128x512_0_0))
          (View.ld (iblk m c 4 t) (Rect.unit (s := S1x512) ![0, 0] S1x512.size inb_S1x512_S1x512_0_0)) 1⟩,
        ⟨oRect 0, band (padded (View.ld (iblk m c 0 t) (Rect.unit (s := S1x56x56x128) ![0, 0, 0, 0] S1x56x56x128.size inb_S1x56x56x128_S1x56x56x128_0_0_0_0)))
          (iblk m c 1 t) (View.ld (iblk m c 2 t) (Rect.unit (s := S128) ![0] S128.size inb_S128_S128_0))
          (View.ld (iblk m c 3 t) (Rect.unit (s := S128x512) ![0, 0] S128x512.size inb_S128x512_S128x512_0_0))
          (View.ld (iblk m c 4 t) (Rect.unit (s := S1x512) ![0, 0] S1x512.size inb_S1x512_S1x512_0_0)) 0⟩] := by
  unfold outsAt0 out0_A_5
  rw [View.read_writes_junk_eq_canon]
  unfold kernelRun0_A
  dsimp only
  sl_unfold_words
  simp only [View.readCov_eq_canon', View.readAt_eq_ld, (hs0_0 t).read_unread, (hs0_1 t).read_unread, (hs0_2 t).read_unread, (hs0_3 t).read_unread, (hs0_4 t).read_unread]
  rfl

/-- The padded image at a place: the image inside, zero on the border. -/
theorem padded_at (x0 : Vec Ideal S1x56x56x128 .f32) (p q : Fin 58) (k : Fin 128) :
    padded x0 (ix3 p q k) = edge (n := 56) (fun r s => x0 (ix4 0 r s k)) p.val q.val := by
  unfold padded
  by_cases h : (1 ≤ p.val ∧ p.val ≤ 56) ∧ (1 ≤ q.val ∧ q.val ≤ 56)
  · have e : (ix3 p q k : S58x58x128.Idx) = inner.emb (ix3 (⟨p.val - 1, by omega⟩ : Fin 56) (⟨q.val - 1, by omega⟩ : Fin 56) k : S56x56x128.Idx) := by
      funext a
      refine Fin.ext ((?_ : _ = _).trans (Rect.idx_unit_val _ _ _ _ a).symm)
      fin_cases a
      · show p.val = 1 + (p.val - 1); omega
      · show q.val = 1 + (q.val - 1); omega
      · show k.val = 0 + k.val; omega
    rw [e, View.canon_cons_emb (Val := Elt Ideal) (e := .f32)]
    rw [edge_in (n := 56) _ p.val q.val ⟨p.val - 1, by omega⟩ ⟨q.val - 1, by omega⟩ (by show p.val = p.val - 1 + 1; omega) (by show q.val = q.val - 1 + 1; omega)]
    simp only [pointwise]
  · rw [View.canon_cons_of_not_mem (Val := Elt Ideal) (e := .f32), edge_out (n := 56) _ _ _ h]
    · have e : (ix3 p q k : S58x58x128.Idx) = all.emb (ix3 p q k : S58x58x128.Idx) := by
        funext a
        refine Fin.ext ((?_ : _ = _).trans (Rect.idx_unit_val _ _ _ _ a).symm)
        fin_cases a
        · show p.val = 0 + p.val; omega
        · show q.val = 0 + q.val; omega
        · show k.val = 0 + k.val; omega
      rw [e, View.canon_cons_emb (Val := Elt Ideal) (e := .f32)]
      simp only [pointwise]
    · rw [Rect.mem_set_unit]
      intro hm
      refine h ⟨⟨(hm 0).1, ?_⟩, ⟨(hm 1).1, ?_⟩⟩
      · have : p.val < 1 + 56 := (hm 0).2
        omega
      · have : q.val < 1 + 56 := (hm 1).2
        omega

/-- A product at a pixel of the band and an output channel: the sum over the 128 channels. -/
theorem product_at (Z : Vec Ideal S28x56x128 .f32) (A : Vec Ideal S1x1x128x128 .f32) (r : Fin 28) (s : Fin 56) (l : Fin 128) :
    product Z A (ix2 ⟨r.val * 56 + s.val, by omega⟩ l) = ∑ k : Fin 128, Z (ix3 r s k) * A (ix4 0 0 k l) := by
  unfold product
  simp only [pointwise]
  exact zero_add _

/-- A product of a band at a pixel and an output channel. -/
theorem part_at (x0 : Vec Ideal S1x56x56x128 .f32) (x1 : Vec Ideal S3x3x128x128 .f32) (q : Fin 2) (kh kw : Fin 3) (r : Fin 28) (s : Fin 56) (l : Fin 128) :
    part (padded x0) x1 q kh kw (ix2 ⟨r.val * 56 + s.val, by omega⟩ l)
      = ∑ k : Fin 128, edge (n := 56) (fun r s => x0 (ix4 0 r s k)) (28 * q.val + r.val + kh.val) (s.val + kw.val) * x1 (ix4 kh kw k l) := by
  unfold part
  rw [product_at]
  refine Finset.sum_congr rfl fun k _ => congrArg₂ (fun d e : EReal => d * e) ?_ (View.ld_unit_apply_of _ _ _ _ _ _ fun e => ?_)
  · refine (View.ld_unit_apply_of _ _ _ _ _ (ix3 ⟨28 * q.val + r.val + kh.val, by omega⟩ ⟨s.val + kw.val, by omega⟩ k) fun e => ?_).trans (padded_at x0 _ _ k)
    fin_cases e <;> simp [ix3] <;> omega
  · fin_cases e <;> simp [ix4]

/-- The features at a pixel `(y, s)` and a channel: nine taps, 128 channels, and the channel's bias. -/
def feature (x0 : Vec Ideal S1x56x56x128 .f32) (x1 : Vec Ideal S3x3x128x128 .f32) (x2 : Vec Ideal S128 .f32) (y s : Fin 56) (l : Fin 128) : EReal :=
  (∑ kh : Fin 3, ∑ kw : Fin 3, ∑ k : Fin 128, edge (n := 56) (fun r s => x0 (ix4 0 r s k)) (y.val + kh.val) (s.val + kw.val) * x1 (ix4 kh kw k l)) + x2 (ix1 l)

/-- The features of a band's pixel are the image's at that pixel. -/
theorem features_at (x0 : Vec Ideal S1x56x56x128 .f32) (x1 : Vec Ideal S3x3x128x128 .f32) (x2 : Vec Ideal S128 .f32) (q : Fin 2) (r : Fin 28) (s : Fin 56) (l : Fin 128) :
    features (padded x0) x1 x2 q (ix2 ⟨r.val * 56 + s.val, by omega⟩ l) = feature x0 x1 x2 ⟨28 * q.val + r.val, by omega⟩ s l := by
  unfold feature
  refine Eq.trans ?_ (congrArg (fun e : EReal => e + x2 (ix1 l))
    (Finset.sum_congr rfl fun kh _ => Finset.sum_congr rfl fun kw _ => part_at x0 x1 q kh kw r s l))
  unfold features sums
  simp only [pointwise, Fin.sum_univ_three]
  refine congrArg (fun e : EReal => e + x2 (ix1 l)) ?_
  abel

/-- A score at a pixel and a row of the codebook. -/
theorem scores_at (y : FVec Ideal S1568x128 .f32) (x3 : Vec Ideal S128x512 .f32) (x4 : Vec Ideal S1x512 .f32) (p : Fin 1568) (k : Fin 512) :
    scores y x3 x4 (ix2 p k) = x4 (ix2 0 k) - Ideal.ofBits .f32 0x40000000#32 * ∑ l : Fin 128, (y (ix2 p l) : EReal) * x3 (ix2 l k) := by
  have h : cross y x3 (ix2 p k) = ∑ l : Fin 128, (y (ix2 p l) : EReal) * x3 (ix2 l k) := by
    unfold cross
    simp only [pointwise]
    exact zero_add _
  rw [← h]
  unfold scores
  generalize cross y x3 = d
  simp only [pointwise]
  rfl

/-- The least score of a pixel. -/
theorem mins_at (d : FVec Ideal S1568x512 .f32) (p : Fin 1568) :
    mins d (ix1 p) = (Finset.univ : Finset (Fin 512)).fold min (⊤ : EReal) fun l => d (ix2 p l) := by
  have top : (Ideal.ofBits .f32 0x7F800000#32 : EReal) = ⊤ := by simp [Ideal.ofBits, Ideal.ieee]
  unfold mins
  refine (multiReduction_minimumf_eq_fold (F := Ideal) _ _ _ _ _ _).trans ((Shape.Reduces.fold_fiber_r2_a1 _ _ _ _ _).trans ?_)
  refine Eq.trans ?_ (congrArg (fun b : EReal => (Finset.univ : Finset (Fin 512)).fold min b fun l => d (ix2 p l)) top)
  rfl

/-- A number where the score is at most the least, else 512. -/
theorem picked_at (d : FVec Ideal S1568x512 .f32) (v : FVec Ideal S1568 .f32) (p : Fin 1568) (k : Fin 512) :
    picked d v (ix2 p k) = if (d (ix2 p k) : EReal) ≤ v (ix1 p) then BitVec.ofNat 32 k.val else 512#32 := by
  have e : cmpf .ole d (broadcastTo S1568x512 (shapeCast S1568x1 v shapeCasts_S1568_S1568x1) broadcasts_S1568x1_S1568x512) (ix2 p k)
      = BitVec.ofBool (decide ((d (ix2 p k) : EReal) ≤ v (ix1 p))) := by
    simp only [pointwise]
    rfl
  unfold picked
  show Scalar.select (cmpf .ole d (broadcastTo S1568x512 (shapeCast S1568x1 v shapeCasts_S1568_S1568x1) broadcasts_S1568x1_S1568x512) (ix2 p k))
    (BitVec.ofNat 32 (0 * 512 + k.val)) 512#32 = _
  rw [e, Nat.zero_mul, Nat.zero_add]
  by_cases h : (d (ix2 p k) : EReal) ≤ v (ix1 p)
  · rw [if_pos h, decide_eq_true h]; rfl
  · rw [if_neg h, decide_eq_false h]; rfl

/-- The number of the first row with a least score. -/
theorem least_at (d : FVec Ideal S1568x512 .f32) (p : Fin 1568) (a : Fin 512) (h : Cert.Codes.First (fun k => d (ix2 p k)) a) :
    least d (ix1 p) = BitVec.ofNat 32 a.val := by
  have w : ∀ k, (d (ix2 p k) : EReal) ≤ mins d (ix1 p) ↔ ∀ l, (d (ix2 p k) : EReal) ≤ d (ix2 p l) := fun k => by
    rw [mins_at]
    exact (Finset.le_fold_min _).trans ⟨fun h l => h.2 l (Finset.mem_univ _), fun h => ⟨le_top, fun l _ => h l⟩⟩
  unfold least
  refine (multiReductionI_eq_fold _ _ _ _ _ _).trans ((Shape.Reduces.fold_fiber_r2_a1 _ _ _ _ _).trans ?_)
  exact Cert.Codes.first_fold (fun k => d (ix2 p k)) a h _ (fun k hk => (picked_at d _ p k).trans (if_pos ((w k).2 hk)))
    (fun k hk => (picked_at d _ p k).trans (if_neg fun e => hk ((w k).1 e)))

/-- A band at a pixel. -/
theorem band_at (z : Vec Ideal S58x58x128 .f32) (x1 : Vec Ideal S3x3x128x128 .f32) (x2 : Vec Ideal S128 .f32) (x3 : Vec Ideal S128x512 .f32) (x4 : Vec Ideal S1x512 .f32)
    (q : Fin 2) (p : Fin 1568) :
    band z x1 x2 x3 x4 q (ix3 0 p 0) = least (scores (features z x1 x2 q) x3 x4) (ix1 p) := by
  unfold band
  simp only [pointwise]

end Cert.CodesIdeal.Layer
end
-- ==== Proof.Codes.Run.lean ====
module

public import proofs.«01_k».proof.Proof.Gen.CodesReferenceIdeal
public import Idealize.ShloMosaic.Lib.StableHlo.Run

@[expose] public section

noncomputable section

namespace Cert.CodesReferenceIdeal.Value

open Cert.CodesReferenceIdeal Cert.CodesReferenceIdeal.Gen Idealize.ShloMosaic Idealize.ShloMosaic.TcCoe Idealize.SL.Sem Idealize.ShloMosaic.StableHlo

variable {F : FTy → Type} [FloatOps F]

/-- The statements that pad the images and make the zeros. -/
def start : List (HloOp τ sig (Elt F)) :=
  [ nullary main_c (constantI S_ 32 0#32)
  , TRef.unary (TRef.of (T := ⟨S_, .i32⟩) main_c) (TRef.of (T := ⟨S_, .f32⟩) main_call0_v0) (sitofp .f32)
  , TRef.binary (TRef.of (T := ⟨S8x56x56x128, .f32⟩) main_arg0) (TRef.of (T := ⟨S_, .f32⟩) main_call0_v0) (TRef.of (T := ⟨S8x58x58x128, .f32⟩) main_v0) (fun x v => pad S8x58x58x128 ![0, 1, 1, 0] ![0, 1, 1, 0] ![0, 0, 0, 0] x v pads_S8x56x56x128_S8x58x58x128_000_110_110_000 h_S_)
  , nullary main_cst (constant S_ .f32 0x00000000#32)
  , unary main_cst main_v1 (broadcastInDim S8x56x56x128 ![] bcast_S_S8x56x56x128 : (⟨S_, .f32⟩ : BufTy).Contents (Elt F) → (⟨S8x56x56x128, .f32⟩ : BufTy).Contents (Elt F)) ]

/-- The statements that make the features: the taps of the convolution and its bias. -/
def layer : List (HloOp τ sig (Elt F)) :=
  [ unary main_v0 main_v2 ((extractStridedSlice S8x56x56x128 ![0, 0, 0, 0] · slices_S8x58x58x128_S8x56x56x128_0_0_0_0) : (⟨S8x58x58x128, .f32⟩ : BufTy).Contents (Elt F) → (⟨S8x56x56x128, .f32⟩ : BufTy).Contents (Elt F))
  , unary main_arg1 main_v3 ((extractStridedSlice S128x128x1x1 ![0, 0, 0, 0] · slices_S128x128x3x3_S128x128x1x1_0_0_0_0) : (⟨S128x128x3x3, .f32⟩ : BufTy).Contents (Elt F) → (⟨S128x128x1x1, .f32⟩ : BufTy).Contents (Elt F))
  , reshape main_v3 main_v4 (rfl : (.f32 : EltTy) = .f32) shapeCasts_S128x128x1x1_S128x128
  , binary main_v2 main_v4 main_v5 ((fun l r => Host.dotGeneral dot_S8x56x56x128_S128x128_S8x56x56x128_3_1_012_0_n_n none l r) : (⟨S8x56x56x128, .f32⟩ : BufTy).Contents (Elt F) → (⟨S128x128, .f32⟩ : BufTy).Contents (Elt F) → (⟨S8x56x56x128, .f32⟩ : BufTy).Contents (Elt F))
  , binary main_v1 main_v5 main_v6 (addf : (⟨S8x56x56x128, .f32⟩ : BufTy).Contents (Elt F) → (⟨S8x56x56x128, .f32⟩ : BufTy).Contents (Elt F) → (⟨S8x56x56x128, .f32⟩ : BufTy).Contents (Elt F))
  , unary main_v0 main_v7 ((extractStridedSlice S8x56x56x128 ![0, 0, 1, 0] · slices_S8x58x58x128_S8x56x56x128_0_0_1_0) : (⟨S8x58x58x128, .f32⟩ : BufTy).Contents (Elt F) → (⟨S8x56x56x128, .f32⟩ : BufTy).Contents (Elt F))
  , unary main_arg1 main_v8 ((extractStridedSlice S128x128x1x1 ![0, 0, 0, 1] · slices_S128x128x3x3_S128x128x1x1_0_0_0_1) : (⟨S128x128x3x3, .f32⟩ : BufTy).Contents (Elt F) → (⟨S128x128x1x1, .f32⟩ : BufTy).Contents (Elt F))
  , reshape main_v8 main_v9 (rfl : (.f32 : EltTy) = .f32) shapeCasts_S128x128x1x1_S128x128
  , binary main_v7 main_v9 main_v10 ((fun l r => Host.dotGeneral dot_S8x56x56x128_S128x128_S8x56x56x128_3_1_012_0_n_n none l r) : (⟨S8x56x56x128, .f32⟩ : BufTy).Contents (Elt F) → (⟨S128x128, .f32⟩ : BufTy).Contents (Elt F) → (⟨S8x56x56x128, .f32⟩ : BufTy).Contents (Elt F))
  , binary main_v6 main_v10 main_v11 (addf : (⟨S8x56x56x128, .f32⟩ : BufTy).Contents (Elt F) → (⟨S8x56x56x128, .f32⟩ : BufTy).Contents (Elt F) → (⟨S8x56x56x128, .f32⟩ : BufTy).Contents (Elt F))
  , unary main_v0 main_v12 ((extractStridedSlice S8x56x56x128 ![0, 0, 2, 0] · slices_S8x58x58x128_S8x56x56x128_0_0_2_0) : (⟨S8x58x58x128, .f32⟩ : BufTy).Contents (Elt F) → (⟨S8x56x56x128, .f32⟩ : BufTy).Contents (Elt F))
  , unary main_arg1 main_v13 ((extractStridedSlice S128x128x1x1 ![0, 0, 0, 2] · slices_S128x128x3x3_S128x128x1x1_0_0_0_2) : (⟨S128x128x3x3, .f32⟩ : BufTy).Contents (Elt F) → (⟨S128x128x1x1, .f32⟩ : BufTy).Contents (Elt F))
  , reshape main_v13 main_v14 (rfl : (.f32 : EltTy) = .f32) shapeCasts_S128x128x1x1_S128x128
  , binary main_v12 main_v14 main_v15 ((fun l r => Host.dotGeneral dot_S8x56x56x128_S128x128_S8x56x56x128_3_1_012_0_n_n none l r) : (⟨S8x56x56x128, .f32⟩ : BufTy).Contents (Elt F) → (⟨S128x128, .f32⟩ : BufTy).Contents (Elt F) → (⟨S8x56x56x128, .f32⟩ : BufTy).Contents (Elt F))
  , binary main_v11 main_v15 main_v16 (addf : (⟨S8x56x56x128, .f32⟩ : BufTy).Contents (Elt F) → (⟨S8x56x56x128, .f32⟩ : BufTy).Contents (Elt F) → (⟨S8x56x56x128, .f32⟩ : BufTy).Contents (Elt F))
  , unary main_v0 main_v17 ((extractStridedSlice S8x56x56x128 ![0, 1, 0, 0] · slices_S8x58x58x128_S8x56x56x128_0_1_0_0) : (⟨S8x58x58x128, .f32⟩ : BufTy).Contents (Elt F) → (⟨S8x56x56x128, .f32⟩ : BufTy).Contents (Elt F))
  , unary main_arg1 main_v18 ((extractStridedSlice S128x128x1x1 ![0, 0, 1, 0] · slices_S128x128x3x3_S128x128x1x1_0_0_1_0) : (⟨S128x128x3x3, .f32⟩ : BufTy).Contents (Elt F) → (⟨S128x128x1x1, .f32⟩ : BufTy).Contents (Elt F))
  , reshape main_v18 main_v19 (rfl : (.f32 : EltTy) = .f32) shapeCasts_S128x128x1x1_S128x128
  , binary main_v17 main_v19 main_v20 ((fun l r => Host.dotGeneral dot_S8x56x56x128_S128x128_S8x56x56x128_3_1_012_0_n_n none l r) : (⟨S8x56x56x128, .f32⟩ : BufTy).Contents (Elt F) → (⟨S128x128, .f32⟩ : BufTy).Contents (Elt F) → (⟨S8x56x56x128, .f32⟩ : BufTy).Contents (Elt F))
  , binary main_v16 main_v20 main_v21 (addf : (⟨S8x56x56x128, .f32⟩ : BufTy).Contents (Elt F) → (⟨S8x56x56x128, .f32⟩ : BufTy).Contents (Elt F) → (⟨S8x56x56x128, .f32⟩ : BufTy).Contents (Elt F))
  , unary main_v0 main_v22 ((extractStridedSlice S8x56x56x128 ![0, 1, 1, 0] · slices_S8x58x58x128_S8x56x56x128_0_1_1_0) : (⟨S8x58x58x128, .f32⟩ : BufTy).Contents (Elt F) → (⟨S8x56x56x128, .f32⟩ : BufTy).Contents (Elt F))
  , unary main_arg1 main_v23 ((extractStridedSlice S128x128x1x1 ![0, 0, 1, 1] · slices_S128x128x3x3_S128x128x1x1_0_0_1_1) : (⟨S128x128x3x3, .f32⟩ : BufTy).Contents (Elt F) → (⟨S128x128x1x1, .f32⟩ : BufTy).Contents (Elt F))
  , reshape main_v23 main_v24 (rfl : (.f32 : EltTy) = .f32) shapeCasts_S128x128x1x1_S128x128
  , binary main_v22 main_v24 main_v25 ((fun l r => Host.dotGeneral dot_S8x56x56x128_S128x128_S8x56x56x128_3_1_012_0_n_n none l r) : (⟨S8x56x56x128, .f32⟩ : BufTy).Contents (Elt F) → (⟨S128x128, .f32⟩ : BufTy).Contents (Elt F) → (⟨S8x56x56x128, .f32⟩ : BufTy).Contents (Elt F))
  , binary main_v21 main_v25 main_v26 (addf : (⟨S8x56x56x128, .f32⟩ : BufTy).Contents (Elt F) → (⟨S8x56x56x128, .f32⟩ : BufTy).Contents (Elt F) → (⟨S8x56x56x128, .f32⟩ : BufTy).Contents (Elt F))
  , unary main_v0 main_v27 ((extractStridedSlice S8x56x56x128 ![0, 1, 2, 0] · slices_S8x58x58x128_S8x56x56x128_0_1_2_0) : (⟨S8x58x58x128, .f32⟩ : BufTy).Contents (Elt F) → (⟨S8x56x56x128, .f32⟩ : BufTy).Contents (Elt F))
  , unary main_arg1 main_v28 ((extractStridedSlice S128x128x1x1 ![0, 0, 1, 2] · slices_S128x128x3x3_S128x128x1x1_0_0_1_2) : (⟨S128x128x3x3, .f32⟩ : BufTy).Contents (Elt F) → (⟨S128x128x1x1, .f32⟩ : BufTy).Contents (Elt F))
  , reshape main_v28 main_v29 (rfl : (.f32 : EltTy) = .f32) shapeCasts_S128x128x1x1_S128x128
  , binary main_v27 main_v29 main_v30 ((fun l r => Host.dotGeneral dot_S8x56x56x128_S128x128_S8x56x56x128_3_1_012_0_n_n none l r) : (⟨S8x56x56x128, .f32⟩ : BufTy).Contents (Elt F) → (⟨S128x128, .f32⟩ : BufTy).Contents (Elt F) → (⟨S8x56x56x128, .f32⟩ : BufTy).Contents (Elt F))
  , binary main_v26 main_v30 main_v31 (addf : (⟨S8x56x56x128, .f32⟩ : BufTy).Contents (Elt F) → (⟨S8x56x56x128, .f32⟩ : BufTy).Contents (Elt F) → (⟨S8x56x56x128, .f32⟩ : BufTy).Contents (Elt F))
  , unary main_v0 main_v32 ((extractStridedSlice S8x56x56x128 ![0, 2, 0, 0] · slices_S8x58x58x128_S8x56x56x128_0_2_0_0) : (⟨S8x58x58x128, .f32⟩ : BufTy).Contents (Elt F) → (⟨S8x56x56x128, .f32⟩ : BufTy).Contents (Elt F))
  , unary main_arg1 main_v33 ((extractStridedSlice S128x128x1x1 ![0, 0, 2, 0] · slices_S128x128x3x3_S128x128x1x1_0_0_2_0) : (⟨S128x128x3x3, .f32⟩ : BufTy).Contents (Elt F) → (⟨S128x128x1x1, .f32⟩ : BufTy).Contents (Elt F))
  , reshape main_v33 main_v34 (rfl : (.f32 : EltTy) = .f32) shapeCasts_S128x128x1x1_S128x128
  , binary main_v32 main_v34 main_v35 ((fun l r => Host.dotGeneral dot_S8x56x56x128_S128x128_S8x56x56x128_3_1_012_0_n_n none l r) : (⟨S8x56x56x128, .f32⟩ : BufTy).Contents (Elt F) → (⟨S128x128, .f32⟩ : BufTy).Contents (Elt F) → (⟨S8x56x56x128, .f32⟩ : BufTy).Contents (Elt F))
  , binary main_v31 main_v35 main_v36 (addf : (⟨S8x56x56x128, .f32⟩ : BufTy).Contents (Elt F) → (⟨S8x56x56x128, .f32⟩ : BufTy).Contents (Elt F) → (⟨S8x56x56x128, .f32⟩ : BufTy).Contents (Elt F))
  , unary main_v0 main_v37 ((extractStridedSlice S8x56x56x128 ![0, 2, 1, 0] · slices_S8x58x58x128_S8x56x56x128_0_2_1_0) : (⟨S8x58x58x128, .f32⟩ : BufTy).Contents (Elt F) → (⟨S8x56x56x128, .f32⟩ : BufTy).Contents (Elt F))
  , unary main_arg1 main_v38 ((extractStridedSlice S128x128x1x1 ![0, 0, 2, 1] · slices_S128x128x3x3_S128x128x1x1_0_0_2_1) : (⟨S128x128x3x3, .f32⟩ : BufTy).Contents (Elt F) → (⟨S128x128x1x1, .f32⟩ : BufTy).Contents (Elt F))
  , reshape main_v38 main_v39 (rfl : (.f32 : EltTy) = .f32) shapeCasts_S128x128x1x1_S128x128
  , binary main_v37 main_v39 main_v40 ((fun l r => Host.dotGeneral dot_S8x56x56x128_S128x128_S8x56x56x128_3_1_012_0_n_n none l r) : (⟨S8x56x56x128, .f32⟩ : BufTy).Contents (Elt F) → (⟨S128x128, .f32⟩ : BufTy).Contents (Elt F) → (⟨S8x56x56x128, .f32⟩ : BufTy).Contents (Elt F))
  , binary main_v36 main_v40 main_v41 (addf : (⟨S8x56x56x128, .f32⟩ : BufTy).Contents (Elt F) → (⟨S8x56x56x128, .f32⟩ : BufTy).Contents (Elt F) → (⟨S8x56x56x128, .f32⟩ : BufTy).Contents (Elt F))
  , unary main_v0 main_v42 ((extractStridedSlice S8x56x56x128 ![0, 2, 2, 0] · slices_S8x58x58x128_S8x56x56x128_0_2_2_0) : (⟨S8x58x58x128, .f32⟩ : BufTy).Contents (Elt F) → (⟨S8x56x56x128, .f32⟩ : BufTy).Contents (Elt F))
  , unary main_arg1 main_v43 ((extractStridedSlice S128x128x1x1 ![0, 0, 2, 2] · slices_S128x128x3x3_S128x128x1x1_0_0_2_2) : (⟨S128x128x3x3, .f32⟩ : BufTy).Contents (Elt F) → (⟨S128x128x1x1, .f32⟩ : BufTy).Contents (Elt F))
  , reshape main_v43 main_v44 (rfl : (.f32 : EltTy) = .f32) shapeCasts_S128x128x1x1_S128x128
  , binary main_v42 main_v44 main_v45 ((fun l r => Host.dotGeneral dot_S8x56x56x128_S128x128_S8x56x56x128_3_1_012_0_n_n none l r) : (⟨S8x56x56x128, .f32⟩ : BufTy).Contents (Elt F) → (⟨S128x128, .f32⟩ : BufTy).Contents (Elt F) → (⟨S8x56x56x128, .f32⟩ : BufTy).Contents (Elt F))
  , binary main_v41 main_v45 main_v46 (addf : (⟨S8x56x56x128, .f32⟩ : BufTy).Contents (Elt F) → (⟨S8x56x56x128, .f32⟩ : BufTy).Contents (Elt F) → (⟨S8x56x56x128, .f32⟩ : BufTy).Contents (Elt F))
  , unary main_arg2 main_v47 (broadcastInDim S1x1x1x128 ![3] bcast_S128_S1x1x1x128_3 : (⟨S128, .f32⟩ : BufTy).Contents (Elt F) → (⟨S1x1x1x128, .f32⟩ : BufTy).Contents (Elt F))
  , unary main_v47 main_v48 (broadcastInDim S8x56x56x128 ![0, 1, 2, 3] bcast_S1x1x1x128_S8x56x56x128_0_1_2_3 : (⟨S1x1x1x128, .f32⟩ : BufTy).Contents (Elt F) → (⟨S8x56x56x128, .f32⟩ : BufTy).Contents (Elt F))
  , binary main_v46 main_v48 main_v49 (addf : (⟨S8x56x56x128, .f32⟩ : BufTy).Contents (Elt F) → (⟨S8x56x56x128, .f32⟩ : BufTy).Contents (Elt F) → (⟨S8x56x56x128, .f32⟩ : BufTy).Contents (Elt F)) ]

/-- The statements that measure the distances. -/
def measure : List (HloOp τ sig (Elt F)) :=
  [ reshape main_v49 main_v50 (rfl : (.f32 : EltTy) = .f32) shapeCasts_S8x56x56x128_S25088x128
  , binary main_v50 main_v50 main_v51 (mulf : (⟨S25088x128, .f32⟩ : BufTy).Contents (Elt F) → (⟨S25088x128, .f32⟩ : BufTy).Contents (Elt F) → (⟨S25088x128, .f32⟩ : BufTy).Contents (Elt F))
  , nullary main_cst_0 (constant S_ .f32 0x00000000#32)
  , binary main_v51 main_cst_0 main_v52 ((fun x v => Host.reduceAdd x v reducesTo_S25088x128_S25088_d1 h_S_) : (⟨S25088x128, .f32⟩ : BufTy).Contents (Elt F) → (⟨S_, .f32⟩ : BufTy).Contents (Elt F) → (⟨S25088, .f32⟩ : BufTy).Contents (Elt F))
  , unary main_v52 main_v53 (broadcastInDim S25088x1 ![0] bcast_S25088_S25088x1_0 : (⟨S25088, .f32⟩ : BufTy).Contents (Elt F) → (⟨S25088x1, .f32⟩ : BufTy).Contents (Elt F))
  , binary main_arg3 main_arg3 main_v54 (mulf : (⟨S512x128, .f32⟩ : BufTy).Contents (Elt F) → (⟨S512x128, .f32⟩ : BufTy).Contents (Elt F) → (⟨S512x128, .f32⟩ : BufTy).Contents (Elt F))
  , nullary main_cst_1 (constant S_ .f32 0x00000000#32)
  , binary main_v54 main_cst_1 main_v55 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F))
  , unary main_v55 main_v56 (broadcastInDim S1x512 ![1] bcast_S512_S1x512_1 : (⟨S512, .f32⟩ : BufTy).Contents (Elt F) → (⟨S1x512, .f32⟩ : BufTy).Contents (Elt F))
  , unary main_v53 main_v57 (broadcastInDim S25088x512 ![0, 1] bcast_S25088x1_S25088x512_0_1 : (⟨S25088x1, .f32⟩ : BufTy).Contents (Elt F) → (⟨S25088x512, .f32⟩ : BufTy).Contents (Elt F))
  , unary main_v56 main_v58 (broadcastInDim S25088x512 ![0, 1] bcast_S1x512_S25088x512_0_1 : (⟨S1x512, .f32⟩ : BufTy).Contents (Elt F) → (⟨S25088x512, .f32⟩ : BufTy).Contents (Elt F))
  , binary main_v57 main_v58 main_v59 (addf : (⟨S25088x512, .f32⟩ : BufTy).Contents (Elt F) → (⟨S25088x512, .f32⟩ : BufTy).Contents (Elt F) → (⟨S25088x512, .f32⟩ : BufTy).Contents (Elt F))
  , unary main_arg3 main_v60 ((transpose S128x512 [1, 0] · transposes_S512x128_S128x512_1_0) : (⟨S512x128, .f32⟩ : BufTy).Contents (Elt F) → (⟨S128x512, .f32⟩ : BufTy).Contents (Elt F))
  , binary main_v50 main_v60 main_v61 ((fun l r => Host.dotGeneral dot_S25088x128_S128x512_S25088x512_1_0_0_1_n_n none l r) : (⟨S25088x128, .f32⟩ : BufTy).Contents (Elt F) → (⟨S128x512, .f32⟩ : BufTy).Contents (Elt F) → (⟨S25088x512, .f32⟩ : BufTy).Contents (Elt F))
  , nullary main_cst_2 (constant S_ .f32 0x40000000#32)
  , unary main_cst_2 main_v62 (broadcastInDim S25088x512 ![] bcast_S_S25088x512 : (⟨S_, .f32⟩ : BufTy).Contents (Elt F) → (⟨S25088x512, .f32⟩ : BufTy).Contents (Elt F))
  , binary main_v62 main_v61 main_v63 (mulf : (⟨S25088x512, .f32⟩ : BufTy).Contents (Elt F) → (⟨S25088x512, .f32⟩ : BufTy).Contents (Elt F) → (⟨S25088x512, .f32⟩ : BufTy).Contents (Elt F))
  , binary main_v59 main_v63 main_v64 (subf : (⟨S25088x512, .f32⟩ : BufTy).Contents (Elt F) → (⟨S25088x512, .f32⟩ : BufTy).Contents (Elt F) → (⟨S25088x512, .f32⟩ : BufTy).Contents (Elt F)) ]

/-- The statements that find the nearest row of the codebook, with the functions `f` and `g` for the least value and its number. -/
def nearestBy (f : ((⟨S25088x512, .f32⟩ : BufTy).Contents (Elt F) → (⟨S25088x512, .i32⟩ : BufTy).Contents (Elt F) → (⟨S_, .f32⟩ : BufTy).Contents (Elt F) → (⟨S_, .i32⟩ : BufTy).Contents (Elt F) → (⟨S25088, .f32⟩ : BufTy).Contents (Elt F))) (g : ((⟨S25088x512, .f32⟩ : BufTy).Contents (Elt F) → (⟨S25088x512, .i32⟩ : BufTy).Contents (Elt F) → (⟨S_, .f32⟩ : BufTy).Contents (Elt F) → (⟨S_, .i32⟩ : BufTy).Contents (Elt F) → (⟨S25088, .i32⟩ : BufTy).Contents (Elt F))) : List (HloOp τ sig (Elt F)) :=
  [ nullary main_call1_v0 (iotaInDim S25088x512 32 1)
  , nullary main_call1_cst (constant S_ .f32 0x7F800000#32)
  , nullary main_call1_c (constantI S_ 32 0#32)
  , quaternary main_v64 main_call1_v0 main_call1_cst main_call1_c main_call1_v1_0 f
  , quaternary main_v64 main_call1_v0 main_call1_cst main_call1_c main_v65 g
  , reshape main_v65 main_v66 (rfl : (.i32 : EltTy) = .i32) shapeCasts_S25088_S8x3136x1 ]

/-- The statements that find the nearest row of the codebook for each row of features. -/
def nearest : List (HloOp τ sig (Elt F)) :=
  nearestBy (fun x y u v j => (Host.argReduce reducer_argmin_f32_i32 x y u v reducesTo_S25088x512_S25088_d1 h_S_ j).1)
    (fun x y u v j => (Host.argReduce reducer_argmin_f32_i32 x y u v reducesTo_S25088x512_S25088_d1 h_S_ j).2)

set_option maxRecDepth 8192 in
/-- The first part names arrays of the program only. -/
theorem start_sub : (start : List (HloOp τ sig (Elt F))).Forall fun op => op.bufs ⊆ tcRefs τ sig :=
  ⟨nullary_bufs_sub .., unary_bufs_sub .., binary_bufs_sub .., nullary_bufs_sub .., unary_bufs_sub ..⟩

set_option maxRecDepth 8192 in
/-- The second part names arrays of the program only. -/
theorem layer_sub : (layer : List (HloOp τ sig (Elt F))).Forall fun op => op.bufs ⊆ tcRefs τ sig :=
  ⟨unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., binary_bufs_sub ..⟩

set_option maxRecDepth 8192 in
/-- The third part names arrays of the program only. -/
theorem measure_sub : (measure : List (HloOp τ sig (Elt F))).Forall fun op => op.bufs ⊆ tcRefs τ sig :=
  ⟨reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩

set_option maxRecDepth 8192 in
/-- The last part names arrays of the program only. -/
theorem nearest_sub : (nearest : List (HloOp τ sig (Elt F))).Forall fun op => op.bufs ⊆ tcRefs τ sig :=
  ⟨nullary_bufs_sub .., nullary_bufs_sub .., nullary_bufs_sub .., quaternary_bufs_sub .., quaternary_bufs_sub .., reshape_bufs_sub ..⟩

set_option maxRecDepth 16384 in
set_option maxHeartbeats 4000000 in
/-- The program is its four parts, one after another. -/
theorem main_eq (c : Dev nD) : main (F := F) c = seq (start ++ (layer ++ (measure ++ nearest))) := rfl

/-- No array is scoped. -/
theorem scopedRefs_eq : (Finset.univ.filter fun b : Ref sig .tc => b.isScoped) = ∅ := by decide
/-- No counter is scoped. -/
theorem scopedSems_eq : (Finset.univ.filter fun sm : SemLoc sig => sm.isScoped .tc) = ∅ := by decide

/-- The four parts together name arrays of the program only. -/
theorem ops_sub : (start ++ (layer ++ (measure ++ nearest)) : List (HloOp τ sig (Elt F))).Forall fun op => op.bufs ⊆ tcRefs τ sig :=
  List.forall_iff_forall_mem.2 fun op h => (List.mem_append.1 h).elim (List.forall_iff_forall_mem.1 start_sub op) fun h =>
    (List.mem_append.1 h).elim (List.forall_iff_forall_mem.1 layer_sub op) fun h =>
    (List.mem_append.1 h).elim (List.forall_iff_forall_mem.1 measure_sub op) (List.forall_iff_forall_mem.1 nearest_sub op)

/-- One line after another: the second from what the first leaves. -/
theorem after_append (l k : List (HloOp τ sig (Elt F))) (V : Valuation τ sig (Elt F)) : after (l ++ k) V = after k (after l V) := by
  induction l generalizing V with
  | nil => rfl
  | cons op l ih => exact ih _

end Cert.CodesReferenceIdeal.Value

end
-- ==== Proof.Codes.Reference.lean ====
module

public import proofs.«01_k».proof.Proof.Codes.Run
public import proofs.«01_k».proof.Proof.Conv.Edge
public import Idealize.ShloMosaic.Lib.Pointwise

@[expose] public section

noncomputable section

namespace Cert.CodesReferenceIdeal.Layer

open Cert.CodesReferenceIdeal Cert.CodesReferenceIdeal.Gen Idealize.ShloMosaic Idealize.ShloMosaic.TcCoe Idealize.SL.Sem Idealize.ShloMosaic.StableHlo
open Cert.Deconv.Places (edge)

variable {F : FTy → Type} [FloatOps F]

/-- The images with a border of one. -/
def padded (X : Vec F S8x56x56x128 .f32) : Vec F S8x58x58x128 .f32 :=
  pad S8x58x58x128 ![0, 1, 1, 0] ![0, 1, 1, 0] ![0, 0, 0, 0] X
    (sitofp .f32 (constantI S_ 32 0#32)) pads_S8x56x56x128_S8x58x58x128_000_110_110_000 h_S_

/-- One tap of the convolution, from the padded images. -/
def tap (Z : Vec F S8x58x58x128 .f32) (W : Vec F S128x128x3x3 .f32) (kh kw : Fin 3) : FVec F S8x56x56x128 .f32 :=
  have x : FVec F S8x56x56x128 .f32 := extractStridedSlice S8x56x56x128 ![0, kh.val, kw.val, 0] Z (by
    refine ⟨rfl, fun a => ?_⟩
    have := kh.isLt; have := kw.isLt
    fin_cases a <;> simp [S8x58x58x128, S8x56x56x128] <;> omega)
  have k : Vec F S128x128x1x1 .f32 := extractStridedSlice S128x128x1x1 ![0, 0, kh.val, kw.val] W (by
    refine ⟨rfl, fun a => ?_⟩
    have := kh.isLt; have := kw.isLt
    fin_cases a <;> simp [S128x128x3x3, S128x128x1x1] <;> omega)
  have w : FVec F S128x128 .f32 := shapeCast S128x128 k shapeCasts_S128x128x1x1_S128x128
  Host.dotGeneral dot_S8x56x56x128_S128x128_S8x56x56x128_3_1_012_0_n_n none x w

/-- The zeros that the sum starts from. -/
def zeros : Vec F S8x56x56x128 .f32 := broadcastInDim S8x56x56x128 ![] bcast_S_S8x56x56x128 (constant S_ .f32 0x00000000#32)

/-- The nine taps, added in order. -/
def sum (y : Vec F S8x56x56x128 .f32) (Z : Vec F S8x58x58x128 .f32) (W : Vec F S128x128x3x3 .f32) : FVec F S8x56x56x128 .f32 :=
  List.foldl (fun y p => addf y (tap Z W p.1 p.2)) y
    [(0, 0), (0, 1), (0, 2), (1, 0), (1, 1), (1, 2), (2, 0), (2, 1), (2, 2)]

/-- The features of each pixel. -/
def image (y : Vec F S8x56x56x128 .f32) (Z : Vec F S8x58x58x128 .f32) (W : Vec F S128x128x3x3 .f32) (b : Vec F S128 .f32) : FVec F S8x56x56x128 .f32 :=
  addf (sum y Z W) (broadcastInDim S8x56x56x128 ![0, 1, 2, 3] bcast_S1x1x1x128_S8x56x56x128_0_1_2_3
    (broadcastInDim S1x1x1x128 ![3] bcast_S128_S1x1x1x128_3 b))

/-- One row for each pixel. -/
def rows (y : Vec F S8x56x56x128 .f32) : FVec F S25088x128 .f32 := shapeCast S25088x128 y shapeCasts_S8x56x56x128_S25088x128

/-- The squared distance of each row of features from each row of the codebook, by its three terms. -/
def distance (z : FVec F S25088x128 .f32) (E : FVec F S512x128 .f32) : FVec F S25088x512 .f32 :=
  subf
    (addf
      (broadcastInDim S25088x512 ![0, 1] bcast_S25088x1_S25088x512_0_1 (broadcastInDim S25088x1 ![0] bcast_S25088_S25088x1_0
        (Host.reduceAdd (mulf z z) (constant S_ .f32 0x00000000#32) reducesTo_S25088x128_S25088_d1 h_S_)))
      (broadcastInDim S25088x512 ![0, 1] bcast_S1x512_S25088x512_0_1 (broadcastInDim S1x512 ![1] bcast_S512_S1x512_1
        (Host.reduceAdd (mulf E E) (constant S_ .f32 0x00000000#32) reducesTo_S512x128_S512_d1 h_S_))))
    (mulf (broadcastInDim S25088x512 ![] bcast_S_S25088x512 (constant S_ .f32 0x40000000#32))
      (Host.dotGeneral dot_S25088x128_S128x512_S25088x512_1_0_0_1_n_n none z (transpose S128x512 [1, 0] E transposes_S512x128_S128x512_1_0)))

/-- The number of the nearest row of the codebook, for each pixel. -/
def codes (d : FVec F S25088x512 .f32) : Vec F S8x3136x1 .i32 :=
  shapeCast S8x3136x1 (fun j => (Host.argReduce reducer_argmin_f32_i32 d (iotaInDim S25088x512 32 1) (constant S_ .f32 0x7F800000#32) (constantI S_ 32 0#32)
    reducesTo_S25088x512_S25088_d1 h_S_ j).2 : Vec F S25088 .i32) shapeCasts_S25088_S8x3136x1

variable (V : Valuation τ sig (Elt F))

/-- The first part leaves the padded images and an image of zeros. -/
theorem start_padded : after Value.start V main_v0 = padded (V main_arg0) ∧ after Value.start V main_v1 = zeros := by
  unfold padded zeros
  simp only [Value.start, TRef.binary, TRef.nullary, TRef.unary, TRef.toBuf, TRef.ofBuf, cast_eq]
  refine ⟨?_, ?_⟩ <;> after_results_simp <;> rfl

/-- The first part leaves the arguments alone. -/
theorem start_args : after Value.start V main_arg0 = V main_arg0 ∧ after Value.start V main_arg1 = V main_arg1
    ∧ after Value.start V main_arg2 = V main_arg2 ∧ after Value.start V main_arg3 = V main_arg3 := by
  simp only [Value.start, TRef.binary, TRef.nullary, TRef.unary, TRef.toBuf, TRef.ofBuf, cast_eq]
  refine ⟨?_, ?_, ?_, ?_⟩ <;> after_results_simp <;> rfl

set_option maxHeartbeats 4000000 in
set_option maxRecDepth 16384 in
/-- The second part leaves the convolution's image. -/
theorem layer_image : after Value.layer V main_v49 = image (V main_v1) (V main_v0) (V main_arg1) (V main_arg2) := by
  unfold image sum
  simp only [List.foldl_cons, List.foldl_nil, tap]
  simp only [Value.layer]
  after_results_simp
  refine congrArg₂ addf ?_ rfl
  repeat (refine congrArg₂ addf ?_ ?_; rotate_left; rfl)
  rfl

/-- The third part leaves the distances. -/
theorem measure_distance : after Value.measure V main_v64 = distance (rows (V main_v49)) (V main_arg3) := by
  unfold distance rows
  simp only [Value.measure]
  after_results_simp <;> rfl

/-- The last part, with any two functions for its two results, leaves the second one's, shaped, and the arguments alone. -/
theorem nearest_by (f : ((⟨S25088x512, .f32⟩ : BufTy).Contents (Elt F) → (⟨S25088x512, .i32⟩ : BufTy).Contents (Elt F) → (⟨S_, .f32⟩ : BufTy).Contents (Elt F)
      → (⟨S_, .i32⟩ : BufTy).Contents (Elt F) → (⟨S25088, .f32⟩ : BufTy).Contents (Elt F)))
    (g : ((⟨S25088x512, .f32⟩ : BufTy).Contents (Elt F) → (⟨S25088x512, .i32⟩ : BufTy).Contents (Elt F) → (⟨S_, .f32⟩ : BufTy).Contents (Elt F)
      → (⟨S_, .i32⟩ : BufTy).Contents (Elt F) → (⟨S25088, .i32⟩ : BufTy).Contents (Elt F))) :
    after (Value.nearestBy f g) V main_v66
      = shapeCast S8x3136x1 (g (V main_v64) (iotaInDim S25088x512 32 1) (constant S_ .f32 0x7F800000#32) (constantI S_ 32 0#32) : Vec F S25088 .i32)
        shapeCasts_S25088_S8x3136x1
    ∧ after (Value.nearestBy f g) V main_arg0 = V main_arg0 ∧ after (Value.nearestBy f g) V main_arg1 = V main_arg1
    ∧ after (Value.nearestBy f g) V main_arg2 = V main_arg2 ∧ after (Value.nearestBy f g) V main_arg3 = V main_arg3 := by
  simp only [Value.nearestBy]
  refine ⟨?_, ?_, ?_, ?_, ?_⟩ <;> after_results_simp <;> rfl

/-- The last part leaves the numbers of the nearest rows. -/
theorem nearest_codes : after Value.nearest V main_v66 = codes (V main_v64) := (nearest_by V _ _).1

/-- The second part leaves the arguments alone. -/
theorem layer_args : after Value.layer V main_arg0 = V main_arg0 ∧ after Value.layer V main_arg1 = V main_arg1
    ∧ after Value.layer V main_arg2 = V main_arg2 ∧ after Value.layer V main_arg3 = V main_arg3 := by
  simp only [Value.layer]
  refine ⟨?_, ?_, ?_, ?_⟩ <;> after_results_simp <;> rfl

/-- The third part leaves the arguments alone. -/
theorem measure_args : after Value.measure V main_arg0 = V main_arg0 ∧ after Value.measure V main_arg1 = V main_arg1
    ∧ after Value.measure V main_arg2 = V main_arg2 ∧ after Value.measure V main_arg3 = V main_arg3 := by
  simp only [Value.measure]
  refine ⟨?_, ?_, ?_, ?_⟩ <;> after_results_simp <;> rfl

/-- The last part leaves the arguments alone. -/
theorem nearest_args : after Value.nearest V main_arg0 = V main_arg0 ∧ after Value.nearest V main_arg1 = V main_arg1
    ∧ after Value.nearest V main_arg2 = V main_arg2 ∧ after Value.nearest V main_arg3 = V main_arg3 :=
  (nearest_by V _ _).2

/-- The features of the images `X`, with the weights `W` and the biases `b`. -/
def features (X : Vec F S8x56x56x128 .f32) (W : Vec F S128x128x3x3 .f32) (b : Vec F S128 .f32) : FVec F S25088x128 .f32 := rows (image zeros (padded X) W b)

/-- Every run of the reference ends with the numbers of the nearest rows, and leaves its arguments alone. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66) = codes (distance (features (m (c, main_arg0)) (m (c, main_arg1)) (m (c, main_arg2))) (m (c, main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_)
    (run_seq Value.scopedRefs_eq Value.scopedSems_eq defs main (fun _ => Value.start ++ (Value.layer ++ (Value.measure ++ Value.nearest))) Value.main_eq (fun _ => Value.ops_sub) m ρ)
  have e : ∀ b, r.2.mem ((c.tc : Thread nD τ).loc b) = after Value.nearest (after Value.measure (after Value.layer (after Value.start (launchContents m c)))) (Proc.devRef .tc b) :=
    fun b => (h c b).trans (congrFun ((Value.after_append _ _ _).trans ((Value.after_append _ _ _).trans (Value.after_append _ _ _))) _)
  obtain ⟨s0, s1, s2, s3⟩ := start_args (launchContents m c)
  obtain ⟨a0, a1, a2, a3⟩ := layer_args (after Value.start (launchContents m c))
  obtain ⟨d0, d1, d2, d3⟩ := measure_args (after Value.layer (after Value.start (launchContents m c)))
  obtain ⟨b0, b1, b2, b3⟩ := nearest_args (after Value.measure (after Value.layer (after Value.start (launchContents m c))))
  obtain ⟨p0, p1⟩ := start_padded (launchContents m c)
  refine ⟨(e main_v66).trans ((nearest_codes _).trans ?_), (e _).trans (b0.trans (d0.trans (a0.trans s0))), (e _).trans (b1.trans (d1.trans (a1.trans s1))),
    (e _).trans (b2.trans (d2.trans (a2.trans s2))), (e _).trans (b3.trans (d3.trans (a3.trans s3)))⟩
  rw [measure_distance, layer_image, a3, p0, p1, s1, s2, s3]
  rfl

end Cert.CodesReferenceIdeal.Layer
end
-- ==== Proof.Codes.Values.lean ====
module

public import proofs.«01_k».proof.Proof.Codes.Reference
public import proofs.«01_k».proof.Proof.Codes.First

@[expose] public section

noncomputable section

namespace Cert.Codes

open Idealize.ShloMosaic

/-- A value that is a real number. -/
def IsReal (x : EReal) : Prop := ∃ r : ℝ, x = r

/-- A sum of two reals is real. -/
theorem IsReal.add {x y : EReal} : IsReal x → IsReal y → IsReal (x + y) := by
  rintro ⟨a, rfl⟩ ⟨b, rfl⟩; exact ⟨a + b, (EReal.coe_add a b).symm⟩

/-- A difference of two reals is real. -/
theorem IsReal.sub {x y : EReal} : IsReal x → IsReal y → IsReal (x - y) := by
  rintro ⟨a, rfl⟩ ⟨b, rfl⟩; exact ⟨a - b, (EReal.coe_sub a b).symm⟩

/-- A product of two reals is real. -/
theorem IsReal.mul {x y : EReal} : IsReal x → IsReal y → IsReal (x * y) := by
  rintro ⟨a, rfl⟩ ⟨b, rfl⟩; exact ⟨a * b, (EReal.coe_mul a b).symm⟩

/-- Zero is real. -/
theorem IsReal.zero : IsReal 0 := ⟨0, rfl⟩

/-- A finite sum of reals is real. -/
theorem IsReal.sum {ι : Type} (s : Finset ι) (f : ι → EReal) (h : ∀ i, IsReal (f i)) : IsReal (∑ i ∈ s, f i) := by
  classical
  induction s using Finset.induction_on with
  | empty => exact IsReal.zero
  | insert a s ha ih => rw [Finset.sum_insert ha]; exact (h a).add ih

/-- The constant two is real. -/
theorem IsReal.two : IsReal (Ideal.ofBits .f32 0x40000000#32) := ⟨2, by
  simp [Ideal.ofBits, Ideal.ieee]
  rw [← EReal.coe_mul]
  norm_num⟩

/-- The constant 512 is 512. -/
theorem IsReal.count : Ideal.ofBits .f32 0x44000000#32 = ((512 : ℝ) : EReal) := by
  simp [Ideal.ofBits, Ideal.ieee]
  rw [← EReal.coe_mul]
  norm_num

/-- A real divided by 512 is real. -/
theorem IsReal.div {x : EReal} : IsReal x → IsReal (Ideal.div x (Ideal.ofBits .f32 0x44000000#32)) := by
  rintro ⟨a, rfl⟩
  rw [IsReal.count]
  refine ⟨a * (512 : ℝ)⁻¹, ?_⟩
  have h : ((512 : ℝ) : EReal) ≠ 0 := by norm_num
  unfold Ideal.div
  rw [if_neg h, EReal.coe_mul, EReal.coe_inv]

/-- A real value is what has a finite absolute value. -/
theorem IsReal.of_abs {x : EReal} (h : max x (-x) < ⊤) : IsReal x := by
  induction x using EReal.rec with
  | bot => simp at h
  | top => simp at h
  | coe r => exact ⟨r, rfl⟩

/-- The kernel's scores and the reference's distances have the same first least place: they differ by a constant. -/
theorem same_first (N M : EReal) (e p : Fin 512 → EReal) (hN : IsReal N) (hM : IsReal M) (he : ∀ k, IsReal (e k)) (hp : ∀ k, IsReal (p k)) (a : Fin 512)
    (h : First (fun k => (e k - M) - p k) a) : First (fun k => (N + e k) - p k) a ∧ (N + e a) - p a < ⊤ := by
  obtain ⟨n, rfl⟩ := hN
  obtain ⟨m, rfl⟩ := hM
  choose e' he using he
  choose p' hp using hp
  refine ⟨first_add _ _ (n + m) (fun k => ?_) a h, ?_⟩
  · rw [he, hp]
    norm_cast
    ring
  · rw [he, hp]
    norm_cast
    exact EReal.coe_lt_top _

end Cert.Codes

namespace Cert.CodesReferenceIdeal.Layer

open Cert.CodesReferenceIdeal Cert.CodesReferenceIdeal.Gen Idealize.ShloMosaic Idealize.ShloMosaic.TcCoe
open Cert.Deconv.Places (edge)

/-- A read of the padded images. -/
theorem padded_at (X : Vec Ideal S8x56x56x128 .f32) (n : Fin 8) (p q : Fin 58) (ci : Fin 128) :
    padded X (ix4 n p q ci) = edge (n := 56) (fun r s => X (ix4 n r s ci)) p.val q.val := by
  unfold padded
  refine Cert.Conv.pad_edge (n := 56) (N := 58) (C := 128) rfl _ _ _ _ ?_ n p q ci
  simp only [pointwise]
  show (((0#32 : BitVec 32).toInt : ℝ) : EReal) = 0
  simp

/-- A tap at a pixel and an output channel. -/
theorem tap_at (X : Vec Ideal S8x56x56x128 .f32) (W : Vec Ideal S128x128x3x3 .f32) (kh kw : Fin 3) (n : Fin 8) (i j : Fin 56) (co : Fin 128) :
    tap (padded X) W kh kw (ix4 n i j co)
      = ∑ ci : Fin 128, edge (n := 56) (fun r s => X (ix4 n r s ci)) (i.val + kh.val) (j.val + kw.val) * W (ix4 co ci kh kw) := by
  unfold tap
  generalize hZ : padded X = Z
  simp only [pointwise]
  rw [zero_add]
  refine Finset.sum_congr rfl fun ci _ => ?_
  refine congrArg₂ (fun d e : EReal => d * e) (Eq.trans (congrArg Z ?_)
    ((congrFun hZ.symm _).trans (padded_at X n ⟨i.val + kh.val, by omega⟩ ⟨j.val + kw.val, by omega⟩ ci))) (congrArg W ?_)
  · funext q
    fin_cases q <;> apply Fin.ext
    · show 0 + n.val = n.val; omega
    · show kh.val + i.val = i.val + kh.val; omega
    · show kw.val + j.val = j.val + kw.val; omega
    · show 0 + ci.val = ci.val; omega
  · funext q
    fin_cases q <;> apply Fin.ext
    · show 0 + co.val = co.val; omega
    · show 0 + ci.val = ci.val; omega
    · rfl
    · rfl

/-- The sum at a pixel and a channel. -/
theorem sum_at (Z : Vec Ideal S8x58x58x128 .f32) (W : Vec Ideal S128x128x3x3 .f32) (n : Fin 8) (i j : Fin 56) (co : Fin 128) :
    sum zeros Z W (ix4 n i j co) = ∑ kh : Fin 3, ∑ kw : Fin 3, (tap Z W kh kw (ix4 n i j co) : EReal) := by
  unfold sum zeros
  simp only [List.foldl_cons, List.foldl_nil, pointwise, Fin.sum_univ_three, zero_add]
  abel

/-- The features at a pixel and a channel. -/
def feature (X : Vec Ideal S8x56x56x128 .f32) (W : Vec Ideal S128x128x3x3 .f32) (b : Vec Ideal S128 .f32) (n : Fin 8) (i j : Fin 56) (co : Fin 128) : EReal :=
  (∑ kh : Fin 3, ∑ kw : Fin 3, ∑ ci : Fin 128, edge (n := 56) (fun r s => X (ix4 n r s ci)) (i.val + kh.val) (j.val + kw.val) * W (ix4 co ci kh kw)) + b (ix1 co)

/-- The convolution's image at a pixel and a channel. -/
theorem image_at (X : Vec Ideal S8x56x56x128 .f32) (W : Vec Ideal S128x128x3x3 .f32) (b : Vec Ideal S128 .f32) (n : Fin 8) (i j : Fin 56) (co : Fin 128) :
    image zeros (padded X) W b (ix4 n i j co) = feature X W b n i j co := by
  unfold feature
  simp only [← tap_at]
  rw [← sum_at]
  unfold image
  simp only [pointwise]
  rfl

/-- The features, a row for each pixel. -/
theorem features_at (X : Vec Ideal S8x56x56x128 .f32) (W : Vec Ideal S128x128x3x3 .f32) (b : Vec Ideal S128 .f32) (n : Fin 8) (i j : Fin 56) (co : Fin 128) :
    features X W b (ix2 (⟨(n.val * 56 + i.val) * 56 + j.val, by omega⟩ : Fin 25088) co) = feature X W b n i j co := by
  rw [← image_at]
  unfold features rows
  generalize image zeros (padded X) W b = Y
  simp only [pointwise]

/-- A distance at a pixel and a row of the codebook. -/
theorem distance_at (z : FVec Ideal S25088x128 .f32) (E : FVec Ideal S512x128 .f32) (p : Fin 25088) (k : Fin 512) :
    distance z E (ix2 p k)
      = ((∑ l : Fin 128, (z (ix2 p l) : EReal) * z (ix2 p l)) + ∑ l : Fin 128, (E (ix2 k l) : EReal) * E (ix2 k l))
        - Ideal.ofBits .f32 0x40000000#32 * ∑ l : Fin 128, (z (ix2 p l) : EReal) * E (ix2 k l) := by
  unfold distance
  simp only [pointwise]
  simp only [zero_add]
  rfl

/-- The numbers, in a row, read image by image. -/
theorem recount {F : FTy → Type} [FloatOps F] (g : Vec F S25088 .i32) (n : Fin 8) (r : Fin 3136) :
    shapeCast S8x3136x1 g shapeCasts_S25088_S8x3136x1 (ix3 n r 0) = g (ix1 (⟨n.val * 3136 + r.val, by omega⟩ : Fin 25088)) := by
  simp only [pointwise]

/-- A number at a pixel. -/
theorem codes_at (d : FVec Ideal S25088x512 .f32) (n : Fin 8) (r : Fin 3136) (a : Fin 512)
    (h : Cert.Codes.First (fun k => d (ix2 (⟨n.val * 3136 + r.val, by omega⟩ : Fin 25088) k)) a) (ht : d (ix2 (⟨n.val * 3136 + r.val, by omega⟩ : Fin 25088) a) < (⊤ : EReal)) :
    codes d (ix3 n r 0) = BitVec.ofNat 32 a.val := by
  unfold codes
  exact (recount _ n r).trans (Cert.Codes.argmin_first d _ a h ht)

end Cert.CodesReferenceIdeal.Layer
end
-- ==== Proof.Codes.Word.lean ====
module

public import proofs.«01_k».proof.Proof.Codes.Window
public import proofs.«01_k».proof.Proof.Codes.Values

@[expose] public section

noncomputable section

namespace Cert.CodesIdeal.Layer

open Cert.CodesIdeal Cert.CodesIdeal.Gen Idealize.ShloMosaic Idealize.ShloMosaic.TcCoe Idealize.SL.Sem
open Cert.Deconv.Places (edge edge_in edge_out)
open Cert.Codes (IsReal First)

section Host
variable {F : FTy → Type} [FloatOps F]

/-- The prepared weights: taps first. -/
def taps (W : Vec F S128x128x3x3 .f32) : Vec F S3x3x128x128 .f32 :=
  transpose S3x3x128x128 [2, 3, 1, 0] W transposes_S128x128x3x3_S3x3x128x128_2_3_1_0

/-- The prepared codebook: its rows as columns. -/
def columns (E : Vec F S512x128 .f32) : Vec F S128x512 .f32 :=
  transpose S128x512 [1, 0] E transposes_S512x128_S128x512_1_0

/-- The sum of the squares of each row of the codebook. -/
def norms (E : FVec F S512x128 .f32) : FVec F S512 .f32 :=
  Host.reduceAdd (mulf E E) (constant S_ .f32 0x00000000#32) reducesTo_S512x128_S512_d1 h_S_

/-- Their mean. -/
def mean (e : FVec F S512 .f32) : FVec F S_ .f32 :=
  Host.divf (Host.reduceAdd e (constant S_ .f32 0x00000000#32) reducesTo_S512_S_d0 h_S_) (constant S_ .f32 0x44000000#32)

/-- The prepared sums: less their mean. -/
def centred (E : FVec F S512x128 .f32) : FVec F S1x512 .f32 :=
  broadcastInDim S1x512 ![1] bcast_S512_S1x512_1 (subf (norms E) (broadcastInDim S512 ![] bcast_S_S512 (mean (norms E))))

/-- A read of the prepared weights. -/
theorem taps_at (W : Vec F S128x128x3x3 .f32) (kh kw : Fin 3) (k l : Fin 128) : taps W (ix4 kh kw k l) = W (ix4 l k kh kw) := by
  unfold taps
  simp only [pointwise]

/-- A read of the prepared codebook. -/
theorem columns_at (E : Vec F S512x128 .f32) (l : Fin 128) (k : Fin 512) : columns E (ix2 l k) = E (ix2 k l) := by
  unfold columns
  simp only [pointwise]

end Host

/-- A read of the sums of squares. -/
theorem norms_at (E : FVec Ideal S512x128 .f32) (k : Fin 512) : norms E (ix1 k) = ∑ l : Fin 128, (E (ix2 k l) : EReal) * E (ix2 k l) := by
  unfold norms
  simp only [pointwise]
  exact zero_add _

/-- The mean of 512 numbers. -/
theorem mean_at (e : FVec Ideal S512 .f32) (i : S_.Idx) : mean e i = Ideal.div (∑ k : Fin 512, (e (ix1 k) : EReal)) (Ideal.ofBits .f32 0x44000000#32) := by
  unfold mean
  simp only [pointwise]
  simp only [zero_add]

/-- A read of the prepared sums. -/
theorem centred_at (E : FVec Ideal S512x128 .f32) (k : Fin 512) :
    centred E (ix2 0 k) = norms E (ix1 k) - Ideal.div (∑ k : Fin 512, (norms E (ix1 k) : EReal)) (Ideal.ofBits .f32 0x44000000#32) := by
  rw [← mean_at (norms E) (fun a => a.elim0)]
  unfold centred
  generalize mean (norms E) = M
  generalize norms E = N
  simp only [pointwise]
  refine congrArg (fun e : EReal => (N (ix1 k) : EReal) - e) (congrArg M ?_)
  funext a
  exact a.elim0

/-- An entry of the image, or zero outside it, is real when the image's entries are. -/
theorem edge_real (f : Fin 56 → Fin 56 → EReal) (h : ∀ r s, IsReal (f r s)) (p q : Nat) : IsReal (edge (n := 56) f p q) := by
  unfold edge
  split
  · exact h _ _
  · exact IsReal.zero

/-- The kernel's features are the reference's. -/
theorem feature_eq (x0 : Vec Ideal S1x56x56x128 .f32) (X : Vec Ideal S8x56x56x128 .f32) (W : Vec Ideal S128x128x3x3 .f32) (b : Vec Ideal S128 .f32) (n : Fin 8)
    (hx : ∀ (r s : Fin 56) (k : Fin 128), x0 (ix4 0 r s k) = X (ix4 n r s k)) (i j : Fin 56) (l : Fin 128) :
    feature x0 (taps W) b i j l = Cert.CodesReferenceIdeal.Layer.feature X W b n i j l := by
  unfold feature Cert.CodesReferenceIdeal.Layer.feature
  simp only [taps_at, hx]

/-- Of real arguments the features are real. -/
theorem feature_real (X : Vec Ideal S8x56x56x128 .f32) (W : Vec Ideal S128x128x3x3 .f32) (b : Vec Ideal S128 .f32) (hX : ∀ y, IsReal (X y)) (hW : ∀ y, IsReal (W y))
    (hb : ∀ y, IsReal (b y)) (n : Fin 8) (i j : Fin 56) (l : Fin 128) : IsReal (Cert.CodesReferenceIdeal.Layer.feature X W b n i j l) := by
  unfold Cert.CodesReferenceIdeal.Layer.feature
  exact (IsReal.sum _ _ fun kh => IsReal.sum _ _ fun kw => IsReal.sum _ _ fun k => (edge_real _ (fun r s => hX _) _ _).mul (hW _)).add (hb _)

/-- The mean of the sums of squares. -/
def middle (E : FVec Ideal S512x128 .f32) : EReal := Ideal.div (∑ k : Fin 512, (norms E (ix1 k) : EReal)) (Ideal.ofBits .f32 0x44000000#32)

/-- Twice the product of a pixel's features with a row of the codebook. -/
def twice (f : Fin 128 → EReal) (E : FVec Ideal S512x128 .f32) (k : Fin 512) : EReal :=
  Ideal.ofBits .f32 0x40000000#32 * ∑ l : Fin 128, f l * E (ix2 k l)

/-- The kernel's score at a pixel of features `f`. -/
theorem score_eq (y : FVec Ideal S1568x128 .f32) (E : FVec Ideal S512x128 .f32) (p : Fin 1568) (f : Fin 128 → EReal) (h : ∀ l, y (ix2 p l) = f l) (k : Fin 512) :
    scores y (columns E) (centred E) (ix2 p k) = ((norms E (ix1 k) : EReal) - middle E) - twice f E k := by
  rw [scores_at]
  refine congrArg₂ (fun a b : EReal => a - b) (centred_at E k) ?_
  unfold twice
  refine congrArg (fun e : EReal => Ideal.ofBits .f32 0x40000000#32 * e) (Finset.sum_congr rfl fun l _ => ?_)
  exact congrArg₂ (fun a b : EReal => a * b) (h l) (columns_at (F := Ideal) E l k)

/-- The reference's distance at a pixel of features `f`. -/
theorem distance_eq (z : FVec Ideal Cert.CodesReferenceIdeal.S25088x128 .f32) (E : FVec Ideal S512x128 .f32) (p : Fin 25088) (f : Fin 128 → EReal) (h : ∀ l, z (ix2 p l) = f l) (k : Fin 512) :
    Cert.CodesReferenceIdeal.Layer.distance z E (ix2 p k) = ((∑ l : Fin 128, f l * f l) + norms E (ix1 k)) - twice f E k := by
  refine (Cert.CodesReferenceIdeal.Layer.distance_at z E p k).trans ?_
  unfold twice
  refine congrArg₂ (fun a b : EReal => a - b) (congrArg₂ (fun a b : EReal => a + b) (Finset.sum_congr rfl fun l _ => ?_) (norms_at E k).symm)
    (congrArg (fun e : EReal => Ideal.ofBits .f32 0x40000000#32 * e) (Finset.sum_congr rfl fun l _ => ?_))
  · exact congrArg₂ (fun a b : EReal => a * b) (h l) (h l)
  · exact congrArg (fun a : EReal => a * E (ix2 k l)) (h l)

/-- Where the features are the same and all is real, some row is the first of the least scores and the first of the least distances, which are below infinity. -/
theorem first_eq (y : FVec Ideal S1568x128 .f32) (z : FVec Ideal Cert.CodesReferenceIdeal.S25088x128 .f32) (E : FVec Ideal S512x128 .f32) (p : Fin 1568) (p' : Fin 25088) (f : Fin 128 → EReal)
    (hf : ∀ l, IsReal (f l)) (hE : ∀ y, IsReal (E y)) (hy : ∀ l, y (ix2 p l) = f l) (hz : ∀ l, z (ix2 p' l) = f l) :
    ∃ a, First (fun k => scores y (columns E) (centred E) (ix2 p k)) a ∧ First (fun k => Cert.CodesReferenceIdeal.Layer.distance z E (ix2 p' k)) a
      ∧ Cert.CodesReferenceIdeal.Layer.distance z E (ix2 p' a) < (⊤ : EReal) := by
  have hn : ∀ k, IsReal (norms E (ix1 k)) := fun k => by
    rw [norms_at]
    exact IsReal.sum _ _ fun l => (hE _).mul (hE _)
  have hp : ∀ k : Fin 512, IsReal (twice f E k) := fun k => IsReal.two.mul (IsReal.sum _ _ fun l => (hf l).mul (hE _))
  obtain ⟨a, ha⟩ := Cert.Codes.exists_first fun k => ((norms E (ix1 k) : EReal) - middle E) - twice f E k
  obtain ⟨hd, ht⟩ := Cert.Codes.same_first (∑ l : Fin 128, f l * f l) (middle E) (fun k => norms E (ix1 k)) (twice f E) (IsReal.sum _ _ fun l => (hf l).mul (hf l))
    (IsReal.sum _ _ hn).div hn hp a ha
  refine ⟨a, ?_, ?_, ?_⟩
  · rw [funext (score_eq y E p f hy)]; exact ha
  · rw [funext (distance_eq z E p' f hz)]; exact hd
  · rw [distance_eq z E p' f hz]; exact ht

/-- The number the kernel finds at a pixel of band `q` is the number the reference finds there, of real arguments: the kernel's scores
are the reference's distances less a constant. -/
theorem word_eq (x0 : Vec Ideal S1x56x56x128 .f32) (X : Vec Ideal S8x56x56x128 .f32) (W : Vec Ideal S128x128x3x3 .f32) (b : Vec Ideal S128 .f32) (E : FVec Ideal S512x128 .f32)
    (hX : ∀ y, IsReal (X y)) (hW : ∀ y, IsReal (W y)) (hb : ∀ y, IsReal (b y)) (hE : ∀ y, IsReal (E y)) (n : Fin 8)
    (hx : ∀ (r s : Fin 56) (k : Fin 128), x0 (ix4 0 r s k) = X (ix4 n r s k)) (q : Fin 2) (r : Fin 28) (s : Fin 56) :
    band (padded x0) (taps W) b (columns E) (centred E) q (ix3 0 (⟨r.val * 56 + s.val, by omega⟩ : Fin 1568) 0)
      = Cert.CodesReferenceIdeal.Layer.codes (Cert.CodesReferenceIdeal.Layer.distance (Cert.CodesReferenceIdeal.Layer.features X W b) E)
          (ix3 n (⟨(28 * q.val + r.val) * 56 + s.val, by omega⟩ : Fin 3136) 0) := by
  obtain ⟨a, ha, hd, ht⟩ := first_eq (features (padded x0) (taps W) b q) (Cert.CodesReferenceIdeal.Layer.features X W b) E
    (⟨r.val * 56 + s.val, by omega⟩ : Fin 1568) (⟨n.val * 3136 + ((28 * q.val + r.val) * 56 + s.val), by omega⟩ : Fin 25088)
    (Cert.CodesReferenceIdeal.Layer.feature X W b n ⟨28 * q.val + r.val, by omega⟩ s) (feature_real X W b hX hW hb n _ s) hE
    (fun l => (features_at x0 (taps W) b q r s l).trans (feature_eq x0 X W b n hx _ s l))
    (fun l => by
      refine Eq.trans ?_ (Cert.CodesReferenceIdeal.Layer.features_at X W b n ⟨28 * q.val + r.val, by omega⟩ s l)
      refine congrArg (fun p : Fin 25088 => Cert.CodesReferenceIdeal.Layer.features X W b (ix2 p l)) (Fin.ext ?_)
      show n.val * 3136 + ((28 * q.val + r.val) * 56 + s.val) = (n.val * 56 + (28 * q.val + r.val)) * 56 + s.val
      omega)
  exact (band_at _ _ _ _ _ q _).trans ((least_at _ _ a ha).trans
    (Cert.CodesReferenceIdeal.Layer.codes_at _ n ⟨(28 * q.val + r.val) * 56 + s.val, by omega⟩ a hd ht).symm)

end Cert.CodesIdeal.Layer
end
-- ==== Proof.Codes.Same.lean ====
module

public import proofs.«01_k».proof.Proof.Codes.Word
public import proofs.«01_k».proof.Proof.Gen.Pre_finite
public import Idealize.ShloMosaic.Lib.StableHlo.ReadAt
public import Idealize.ShloMosaic.Lib.Pipeline.ValueKit
public import Idealize.ShloMosaic.Lib.ReduceAll
public import Idealize.ShloMosaic.Lib.Routing.Ops

@[expose] public section

noncomputable section

namespace Cert.CodesIdeal.Layer

open Cert.CodesIdeal Cert.CodesIdeal.Gen Idealize.ShloMosaic Idealize.ShloMosaic.TcCoe Idealize.SL.Sem
open Cert.Codes (IsReal)

section Host
variable {F : FTy → Type} [FloatOps F]
variable (m : (ℓ : Loc nD τ sig) → Buf (Elt F) ℓ)

/-- The region finds the prepared weights in its second window's array, -/
theorem V_weights (c : Dev nD) : V m c main_v0 = taps (m (c, main_arg1)) := by
  unfold V
  after_reads_simp [StableHlo.readPieces]
  rfl

/-- the prepared codebook in its fourth's, -/
theorem V_columns (c : Dev nD) : V m c main_v1 = columns (m (c, main_arg3)) := by
  unfold V
  after_reads_simp [StableHlo.readPieces]
  rfl

/-- and the prepared sums in its fifth's. -/
theorem V_centred (c : Dev nD) : V m c main_v8 = centred (m (c, main_arg3)) := by
  unfold V
  after_reads_simp [StableHlo.readPieces]
  rfl

/-- The images' block at grid point `t` is image `t`. -/
theorem index_x : ∀ t : Fin cfg0.N, win0_0.index t = ![t.val, 0, 0, 0] := by decide +kernel

/-- The weights' block is the whole array at every grid point, -/
theorem index_w : ∀ t : Fin cfg0.N, win0_1.index t = ![0, 0, 0, 0] := by decide +kernel

/-- and so is the biases', -/
theorem index_b : ∀ t : Fin cfg0.N, win0_2.index t = ![0] := by decide +kernel

/-- the codebook's, -/
theorem index_e : ∀ t : Fin cfg0.N, win0_3.index t = ![0, 0] := by decide +kernel

/-- and the sums'. -/
theorem index_n : ∀ t : Fin cfg0.N, win0_4.index t = ![0, 0] := by decide +kernel

/-- The result's block at grid point `t` is image `t`. -/
theorem index_o : ∀ t : Fin cfg0.N, win0_5.index t = ![t.val, 0, 0] := by decide +kernel

/-- A read of the images' block. -/
theorem blk_x (c : Dev nD) (t : Fin cfg0.N) (r s : Fin 56) (k : Fin 128) :
    iblk m c 0 t (ix4 0 r s k) = m (c, main_arg0) (ix4 (t : Fin 8) r s k) := by
  refine Eq.trans ?_ (congrFun (V_main_arg0 m c) _)
  unfold iblk
  blk_simp
  refine congrArg _ (funext fun a => Fin.ext ?_)
  fin_cases a <;> blk_simp [index_x t] <;> rfl

/-- The weights' block. -/
theorem blk_w (c : Dev nD) (t : Fin cfg0.N) : iblk m c 1 t = taps (m (c, main_arg1)) := by
  rw [← V_weights]
  unfold iblk
  funext y
  blk_simp
  refine congrArg _ (funext fun a => Fin.ext ?_)
  fin_cases a <;> blk_simp [index_w t]

/-- The biases' block. -/
theorem blk_b (c : Dev nD) (t : Fin cfg0.N) : iblk m c 2 t = m (c, main_arg2) := by
  refine Eq.trans ?_ (V_main_arg2 m c)
  unfold iblk
  funext y
  blk_simp
  refine congrArg _ (funext fun a => Fin.ext ?_)
  fin_cases a
  blk_simp [index_b t]

/-- The codebook's block. -/
theorem blk_e (c : Dev nD) (t : Fin cfg0.N) : iblk m c 3 t = columns (m (c, main_arg3)) := by
  rw [← V_columns]
  unfold iblk
  funext y
  blk_simp
  refine congrArg _ (funext fun a => Fin.ext ?_)
  fin_cases a <;> blk_simp [index_e t]

/-- The sums' block. -/
theorem blk_n (c : Dev nD) (t : Fin cfg0.N) : iblk m c 4 t = centred (m (c, main_arg3)) := by
  rw [← V_centred]
  unfold iblk
  funext y
  blk_simp
  refine congrArg _ (funext fun a => Fin.ext ?_)
  fin_cases a <;> blk_simp [index_n t]

/-- A whole block read at once is itself. -/
theorem ld_x (x : Vec F S1x56x56x128 .f32) :
    View.ld x (Rect.unit (s := S1x56x56x128) ![0, 0, 0, 0] S1x56x56x128.size inb_S1x56x56x128_S1x56x56x128_0_0_0_0) = x := by
  funext y
  exact View.ld_unit_apply_of x _ _ _ _ _ fun a => by fin_cases a <;> simp

/-- The biases read at once are themselves. -/
theorem ld_b (x : Vec F S128 .f32) : View.ld x (Rect.unit (s := S128) ![0] S128.size inb_S128_S128_0) = x := by
  funext y
  exact View.ld_unit_apply_of x _ _ _ _ _ fun a => by fin_cases a; simp

/-- The codebook read at once is itself. -/
theorem ld_e (x : Vec F S128x512 .f32) : View.ld x (Rect.unit (s := S128x512) ![0, 0] S128x512.size inb_S128x512_S128x512_0_0) = x := by
  funext y
  exact View.ld_unit_apply_of x _ _ _ _ _ fun a => by fin_cases a <;> simp

/-- The sums read at once are themselves. -/
theorem ld_n (x : Vec F S1x512 .f32) : View.ld x (Rect.unit (s := S1x512) ![0, 0] S1x512.size inb_S1x512_S1x512_0_0) = x := by
  funext y
  exact View.ld_unit_apply_of x _ _ _ _ _ fun a => by fin_cases a <;> simp

/-- The two bands of grid point `t`, of the prepared arguments. -/
theorem out_bands (c : Dev nD) (t : Fin cfg0.N) :
    outsAt0 m c t = View.canon
      [⟨oRect 1, band (padded (iblk m c 0 t)) (taps (m (c, main_arg1))) (m (c, main_arg2)) (columns (m (c, main_arg3))) (centred (m (c, main_arg3))) 1⟩,
        ⟨oRect 0, band (padded (iblk m c 0 t)) (taps (m (c, main_arg1))) (m (c, main_arg2)) (columns (m (c, main_arg3))) (centred (m (c, main_arg3))) 0⟩] := by
  rw [out_eq, blk_w, blk_b, blk_e, blk_n, ld_x, ld_b, ld_e, ld_n]
  rw [ld_x, ld_b, ld_e, ld_n]

/-- The two bands cover a block. -/
theorem bands_cover (b : Fin 2 → Vec F S1x1568x1 .i32) (y : S1x3136x1.Idx) :
    ∃ p ∈ ([⟨oRect 1, b 1⟩, ⟨oRect 0, b 0⟩] : List (View.Piece (Elt F) S1x3136x1 .i32)), y ∈ p.1.set :=
  View.cover_of_tiledL (s := S1x3136x1) [⟨oRect 1, b 1⟩, ⟨oRect 0, b 0⟩] S1x1568x1.size (by sl_kernel_rfl) y

end Host

variable (m : (ℓ : Loc nD τ sig) → Buf (Elt Ideal) ℓ)

/-- Each band of an image's block holds the reference's numbers at its own pixels. -/
theorem band_win (x0 : Vec Ideal S1x56x56x128 .f32) (X : Vec Ideal S8x56x56x128 .f32) (W : Vec Ideal S128x128x3x3 .f32) (b : Vec Ideal S128 .f32) (E : FVec Ideal S512x128 .f32)
    (hX : ∀ y, IsReal (X y)) (hW : ∀ y, IsReal (W y)) (hb : ∀ y, IsReal (b y)) (hE : ∀ y, IsReal (E y)) (n : Fin 8)
    (hx : ∀ (r s : Fin 56) (k : Fin 128), x0 (ix4 0 r s k) = X (ix4 n r s k)) (i : Fin 3136) (q : Fin 2)
    (x : (⟨3, S1x1568x1.size⟩ : Shape).Idx)
    (h : ∀ a, ((ix3 0 i 0 : S1x3136x1.Idx) a : Nat) = (![0, 1568 * q.val, 0] : Fin 3 → Nat) a + x a) :
    band (padded x0) (taps W) b (columns E) (centred E) q x
      = Cert.CodesReferenceIdeal.Layer.codes (Cert.CodesReferenceIdeal.Layer.distance (Cert.CodesReferenceIdeal.Layer.features X W b) E) (ix3 n i 0) := by
  obtain ⟨a, p, d, rfl⟩ : ∃ (a : Fin 1) (p : Fin 1568) (d : Fin 1), x = ix3 a p d := ⟨x 0, x 1, x 2, eq_ix3 x⟩
  obtain rfl : a = 0 := Subsingleton.elim _ _
  obtain rfl : d = 0 := Subsingleton.elim _ _
  have hi : i.val = 1568 * q.val + p.val := h 1
  have hp := p.isLt
  have e := word_eq x0 X W b E hX hW hb hE n hx q ⟨p.val / 56, by omega⟩ ⟨p.val % 56, by omega⟩
  have ep : (⟨p.val / 56 * 56 + p.val % 56, by omega⟩ : Fin 1568) = p := Fin.ext (by show p.val / 56 * 56 + p.val % 56 = p.val; omega)
  have ei : (⟨(28 * q.val + p.val / 56) * 56 + p.val % 56, by omega⟩ : Fin 3136) = i :=
    Fin.ext (by show (28 * q.val + p.val / 56) * 56 + p.val % 56 = i.val; omega)
  exact (congrArg (fun p : Fin 1568 => band (padded x0) (taps W) b (columns E) (centred E) q (ix3 0 p 0)) ep).symm.trans (e.trans
    (congrArg (fun i : Fin 3136 => Cert.CodesReferenceIdeal.Layer.codes (Cert.CodesReferenceIdeal.Layer.distance (Cert.CodesReferenceIdeal.Layer.features X W b) E) (ix3 n i 0)) ei))

/-- What the body leaves at grid point `t`, of real arguments: the reference's numbers of image `t`. -/
theorem out_at (c : Dev nD) (hX : ∀ y, IsReal (m (c, main_arg0) y)) (hW : ∀ y, IsReal (m (c, main_arg1) y)) (hb : ∀ y, IsReal (m (c, main_arg2) y))
    (hE : ∀ y, IsReal (m (c, main_arg3) y)) (t : Fin cfg0.N) (i : Fin 3136) :
    outsAt0 m c t (ix3 0 i 0) = Cert.CodesReferenceIdeal.Layer.codes (Cert.CodesReferenceIdeal.Layer.distance
      (Cert.CodesReferenceIdeal.Layer.features (m (c, main_arg0)) (m (c, main_arg1)) (m (c, main_arg2))) (m (c, main_arg3))) (ix3 (t : Fin 8) i 0) := by
  have w := band_win (iblk m c 0 t) (m (c, main_arg0)) (m (c, main_arg1)) (m (c, main_arg2)) (m (c, main_arg3)) hX hW hb hE t (blk_x m c t) i
  rw [out_bands]
  generalize Cert.CodesReferenceIdeal.Layer.codes (Cert.CodesReferenceIdeal.Layer.distance
      (Cert.CodesReferenceIdeal.Layer.features (m (c, main_arg0)) (m (c, main_arg1)) (m (c, main_arg2))) (m (c, main_arg3))) (ix3 (t : Fin 8) i 0) = v at w ⊢
  have h := bands_cover (F := Ideal) (fun q => band (padded (iblk m c 0 t)) (taps (F := Ideal) (m (c, main_arg1))) (m (c, main_arg2)) (columns (F := Ideal) (m (c, main_arg3))) (centred (F := Ideal) (m (c, main_arg3))) q) (ix3 0 i 0)
  generalize band (padded (iblk m c 0 t)) (taps (F := Ideal) (m (c, main_arg1))) (m (c, main_arg2)) (columns (F := Ideal) (m (c, main_arg3))) (centred (F := Ideal) (m (c, main_arg3))) = b at w h ⊢
  refine View.canon_eq_of_allAt (Val := Elt Ideal) (e := .i32) _ _ _ h ?_
  refine View.allAt_cons_unit _ _ _ _ _ (w 1) ?_
  exact View.allAt_cons_unit _ _ _ _ _ (w 0) (View.allAt_nil _ _)

/-- The kernel's array after the last grid point is the reference's, of real arguments: at each pixel both hold the number of the first
nearest row of the codebook. -/
theorem arr_eq (c : Dev nD) (hX : ∀ y, IsReal (m (c, main_arg0) y)) (hW : ∀ y, IsReal (m (c, main_arg1) y)) (hb : ∀ y, IsReal (m (c, main_arg2) y))
    (hE : ∀ y, IsReal (m (c, main_arg3) y)) :
    (dats m 0 c).arrAt 5 cfg0.N = Cert.CodesReferenceIdeal.Layer.codes (Cert.CodesReferenceIdeal.Layer.distance
      (Cert.CodesReferenceIdeal.Layer.features (m (c, main_arg0)) (m (c, main_arg1)) (m (c, main_arg2))) (m (c, main_arg3))) := by
  have w := out_at m c hX hW hb hE
  generalize Cert.CodesReferenceIdeal.Layer.codes (Cert.CodesReferenceIdeal.Layer.distance
      (Cert.CodesReferenceIdeal.Layer.features (m (c, main_arg0)) (m (c, main_arg1)) (m (c, main_arg2))) (m (c, main_arg3))) = R at w ⊢
  refine (dats m 0 c).arrAt_eq_of_covers 5 _ (by decide +kernel) fun t hf y => ?_
  rw [after0_5]
  obtain ⟨n, i, d, rfl⟩ : ∃ (n : Fin 1) (i : Fin 3136) (d : Fin 1), y = ix3 n i d := ⟨_, _, _, eq_ix3 y⟩
  obtain rfl : n = 0 := Subsingleton.elim _ _
  obtain rfl : d = 0 := Subsingleton.elim _ _
  have e : (win0_5.blk t).view.emb (ix3 0 i 0) = ix3 (t : Fin 8) i 0 := by
    refine funext fun a => Fin.ext ?_
    fin_cases a <;> blk_simp [index_o t] <;> rfl
  have w' := w t i
  generalize outsAt0 m c t = b at w' ⊢
  blk_simp
  rw [e]
  exact w'

/-! ## The precondition -/

/-- An entry whose absolute value compares below infinity is real. -/
theorem real_of_cmp (x : EReal) (h : FloatOps.cmpf (F := Ideal) (φ := .f32) .olt (FloatOps.hostAbsf (F := Ideal) (φ := .f32) x) (Ideal.ofBits .f32 0x7F800000#32) = 1#1) : IsReal x := by
  have ht : Ideal.ofBits .f32 0x7F800000#32 = ⊤ := by simp [Ideal.ofBits, Ideal.ieee]
  rw [ht, Ideal.cmpf_def, Ideal.hostAbsf_def, Ideal.absf_def] at h
  refine IsReal.of_abs (lt_of_not_ge fun hge => ?_)
  rw [show Ideal.cmp .olt (max x (-x)) ⊤ = BitVec.ofBool (decide (max x (-x) < ⊤)) from rfl, decide_eq_false (not_lt.mpr hge)] at h
  exact absurd h (by decide)

/-- The precondition says that every entry of the four arguments is real. -/
theorem real_of_pre (X : FVec Ideal Cert.Pre_finite.S8x56x56x128 .f32) (W : FVec Ideal Cert.Pre_finite.S128x128x3x3 .f32) (b : FVec Ideal Cert.Pre_finite.S128 .f32)
    (E : FVec Ideal Cert.Pre_finite.S512x128 .f32) (h : Cert.Pre_finite.fn (F := Ideal) X W b E = fun _ => 1#1) :
    (∀ y, IsReal (X y)) ∧ (∀ y, IsReal (W y)) ∧ (∀ y, IsReal (b y)) ∧ ∀ y, IsReal (E y) := by
  have h0 := congrFun h (fun a => a.elim0)
  unfold Cert.Pre_finite.fn Cert.Pre_finite.fn_part1 at h0
  obtain ⟨h1, hE⟩ := IntOp.andi_eq_one.1 h0
  obtain ⟨h2, hb⟩ := IntOp.andi_eq_one.1 h1
  obtain ⟨hX, hW⟩ := IntOp.andi_eq_one.1 h2
  haveI : Subsingleton Cert.Pre_finite.S_.Idx := ⟨fun a b => funext fun k => k.elim0⟩
  exact ⟨fun y => real_of_cmp _ (Host.reduce_andi_all _ _ _ _ _ hX y), fun y => real_of_cmp _ (Host.reduce_andi_all _ _ _ _ _ hW y),
    fun y => real_of_cmp _ (Host.reduce_andi_all _ _ _ _ _ hb y), fun y => real_of_cmp _ (Host.reduce_andi_all _ _ _ _ _ hE y)⟩

/-! ## The claims -/

/-- The reference keeps its arguments and ends with every counter at zero. -/
theorem frame_r (m : (ℓ : Loc Cert.CodesReferenceIdeal.nD Cert.CodesReferenceIdeal.τ Cert.CodesReferenceIdeal.sig) → Buf (Elt Ideal) ℓ)
    (ρ : Dev Cert.CodesReferenceIdeal.nD → PrngReg) :
    θ_run (Cert.CodesReferenceIdeal.defs (F := Ideal)) (onTc (τ := Cert.CodesReferenceIdeal.τ) (Cert.CodesReferenceIdeal.main (F := Ideal)))
        ⟨m, fun _ => 0, ρ⟩ (fun r => (∀ c : Dev Cert.CodesReferenceIdeal.nD,
          r.2.mem ((c.tc : Thread Cert.CodesReferenceIdeal.nD Cert.CodesReferenceIdeal.τ).loc Cert.CodesReferenceIdeal.main_arg0) = m ((c.tc : Thread Cert.CodesReferenceIdeal.nD Cert.CodesReferenceIdeal.τ).loc Cert.CodesReferenceIdeal.main_arg0)
          ∧ r.2.mem ((c.tc : Thread Cert.CodesReferenceIdeal.nD Cert.CodesReferenceIdeal.τ).loc Cert.CodesReferenceIdeal.main_arg1) = m ((c.tc : Thread Cert.CodesReferenceIdeal.nD Cert.CodesReferenceIdeal.τ).loc Cert.CodesReferenceIdeal.main_arg1)
          ∧ r.2.mem ((c.tc : Thread Cert.CodesReferenceIdeal.nD Cert.CodesReferenceIdeal.τ).loc Cert.CodesReferenceIdeal.main_arg2) = m ((c.tc : Thread Cert.CodesReferenceIdeal.nD Cert.CodesReferenceIdeal.τ).loc Cert.CodesReferenceIdeal.main_arg2)
          ∧ r.2.mem ((c.tc : Thread Cert.CodesReferenceIdeal.nD Cert.CodesReferenceIdeal.τ).loc Cert.CodesReferenceIdeal.main_arg3) = m ((c.tc : Thread Cert.CodesReferenceIdeal.nD Cert.CodesReferenceIdeal.τ).loc Cert.CodesReferenceIdeal.main_arg3))
      ∧ r.2.sem = fun _ => 0) :=
  (θ_run Cert.CodesReferenceIdeal.defs _ _).mono (fun r h => ⟨fun c => (h c).2, sem_eq_zero_of_no_sems (by decide) r.2⟩)
    (Cert.CodesReferenceIdeal.Layer.run m ρ)

/-- From memories that agree on the four arguments, all of them finite, the call and its reference end with the same numbers. -/
theorem same (ρ : Dev nD → PrngReg)
    (m' : (ℓ : Loc Cert.CodesReferenceIdeal.nD Cert.CodesReferenceIdeal.τ Cert.CodesReferenceIdeal.sig) → Buf (Elt Ideal) ℓ)
    (ρ' : Dev Cert.CodesReferenceIdeal.nD → PrngReg)
    (hpre : ∀ c : Dev nD, Cert.Pre_finite.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1)
    (hag : ∀ c : Dev nD,
      m' ((c.tc : Thread Cert.CodesReferenceIdeal.nD Cert.CodesReferenceIdeal.τ).loc Cert.CodesReferenceIdeal.main_arg0) = m ((c.tc : Thread nD τ).loc main_arg0)
      ∧ m' ((c.tc : Thread Cert.CodesReferenceIdeal.nD Cert.CodesReferenceIdeal.τ).loc Cert.CodesReferenceIdeal.main_arg1) = m ((c.tc : Thread nD τ).loc main_arg1)
      ∧ m' ((c.tc : Thread Cert.CodesReferenceIdeal.nD Cert.CodesReferenceIdeal.τ).loc Cert.CodesReferenceIdeal.main_arg2) = m ((c.tc : Thread nD τ).loc main_arg2)
      ∧ m' ((c.tc : Thread Cert.CodesReferenceIdeal.nD Cert.CodesReferenceIdeal.τ).loc Cert.CodesReferenceIdeal.main_arg3) = m ((c.tc : Thread nD τ).loc main_arg3)) :
    ∃ (v0 : (c : Dev nD) → Buf (Elt Ideal) ((c.tc : Thread nD τ).loc main_v9)),
      θ_run (defs (F := Ideal)) (onTc (τ := τ) (main (F := Ideal))) ⟨m, fun _ => 0, ρ⟩ (fun r => ∀ c : Dev nD,
          r.2.mem ((c.tc : Thread nD τ).loc main_v9) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3))
      ∧ θ_run (Cert.CodesReferenceIdeal.defs (F := Ideal)) (onTc (τ := Cert.CodesReferenceIdeal.τ) (Cert.CodesReferenceIdeal.main (F := Ideal)))
          ⟨m', fun _ => 0, ρ'⟩ (fun r => ∀ c : Dev Cert.CodesReferenceIdeal.nD,
          r.2.mem ((c.tc : Thread Cert.CodesReferenceIdeal.nD Cert.CodesReferenceIdeal.τ).loc Cert.CodesReferenceIdeal.main_v66) = v0 c
          ∧ r.2.mem ((c.tc : Thread Cert.CodesReferenceIdeal.nD Cert.CodesReferenceIdeal.τ).loc Cert.CodesReferenceIdeal.main_arg0) = m' ((c.tc : Thread Cert.CodesReferenceIdeal.nD Cert.CodesReferenceIdeal.τ).loc Cert.CodesReferenceIdeal.main_arg0)
          ∧ r.2.mem ((c.tc : Thread Cert.CodesReferenceIdeal.nD Cert.CodesReferenceIdeal.τ).loc Cert.CodesReferenceIdeal.main_arg1) = m' ((c.tc : Thread Cert.CodesReferenceIdeal.nD Cert.CodesReferenceIdeal.τ).loc Cert.CodesReferenceIdeal.main_arg1)
          ∧ r.2.mem ((c.tc : Thread Cert.CodesReferenceIdeal.nD Cert.CodesReferenceIdeal.τ).loc Cert.CodesReferenceIdeal.main_arg2) = m' ((c.tc : Thread Cert.CodesReferenceIdeal.nD Cert.CodesReferenceIdeal.τ).loc Cert.CodesReferenceIdeal.main_arg2)
          ∧ r.2.mem ((c.tc : Thread Cert.CodesReferenceIdeal.nD Cert.CodesReferenceIdeal.τ).loc Cert.CodesReferenceIdeal.main_arg3) = m' ((c.tc : Thread Cert.CodesReferenceIdeal.nD Cert.CodesReferenceIdeal.τ).loc Cert.CodesReferenceIdeal.main_arg3)) := by
  refine ⟨fun c => (dats m 0 c).arrAt 5 cfg0.N, Value.run_blocks m ρ, ?_⟩
  refine (θ_run Cert.CodesReferenceIdeal.defs _ _).mono (fun _ h c => ⟨(h c).1.trans ?_, (h c).2⟩) (Cert.CodesReferenceIdeal.Layer.run m' ρ')
  have e0 : m' (c, Cert.CodesReferenceIdeal.main_arg0) = m (c, main_arg0) := (hag c).1
  have e1 : m' (c, Cert.CodesReferenceIdeal.main_arg1) = m (c, main_arg1) := (hag c).2.1
  have e2 : m' (c, Cert.CodesReferenceIdeal.main_arg2) = m (c, main_arg2) := (hag c).2.2.1
  have e3 : m' (c, Cert.CodesReferenceIdeal.main_arg3) = m (c, main_arg3) := (hag c).2.2.2
  obtain ⟨hX, hW, hb, hE⟩ := real_of_pre _ _ _ _ (hpre c)
  refine Eq.trans ?_ (arr_eq m c hX hW hb hE).symm
  rw [e0, e1, e2, e3]

end Cert.CodesIdeal.Layer
end
-- ==== Proof.lean ====
/-
  The proof of `Cert.Claim`: the gather of the code book's rows by the SparseCore's thirty-two tasks, with its host reshapes, leaves
  exactly the rows that plain indexing takes, for words (`bitexact`) and for extended reals (`algebraic`); both programs run without
  a fault, leave their arguments, and end with every counter at zero. The kernel is Proof/Lanes.lean to Proof/Launch.lean, the
  reference and the precondition Proof/Take.lean, each stated for any float instance; Proof/Ideal/ has the same text for the
  idealized program's names. And the decoder's last layer: its pipelined convolution of the image's four phases, with the host code
  that packs the weights, leaves the hyperbolic tangent of the plain 3x3 convolution, for extended reals (Proof/Last/).
  And the layer before it: the pipelined transposed convolution, with its host code, leaves the phases of the plain one's image,
  cut off below at zero and framed by zeros, for extended reals (Proof/Deconv/). And the layer before that: the pipelined first
  transposed convolution leaves the plain one's image, cut off below at zero, for extended reals (Proof/Deconv1/). And
  the encoder's two stride-two convolutions: each pipelined call, with the host code that pads and folds its images and packs its
  weights, leaves the plain convolution's image, cut off below at zero, for extended reals (Proof/Conv1/ and Proof/Conv2/). And the
  encoder's last call: its convolution with the scores of the code book's rows leaves the numbers of the nearest rows, where the
  arguments are finite (Proof/Codes/).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Pre_names_a_code
public import proofs.«01_k».proof.Proof.Gen.Reference.Run
public import proofs.«01_k».proof.Proof.Gen.ReferenceIdeal.Run
public import proofs.«01_k».proof.Proof.Gen.Last
public import proofs.«01_k».proof.Proof.Gen.Last.Frame
public import proofs.«01_k».proof.Proof.Gen.LastIdeal
public import proofs.«01_k».proof.Proof.Gen.LastIdeal.Frame
public import proofs.«01_k».proof.Proof.Gen.LastIdeal.Value
public import proofs.«01_k».proof.Proof.Gen.LastReferenceIdeal
public import proofs.«01_k».proof.Proof.Gen.LastReferenceIdeal.Run
public import proofs.«01_k».proof.Proof.Gen.Deconv
public import proofs.«01_k».proof.Proof.Gen.Deconv.Frame.RunA
public import proofs.«01_k».proof.Proof.Gen.DeconvIdeal
public import proofs.«01_k».proof.Proof.Gen.DeconvIdeal.Frame.RunA
public import proofs.«01_k».proof.Proof.Gen.DeconvReferenceIdeal
public import proofs.«01_k».proof.Proof.Gen.DeconvReferenceIdeal.Run
public import proofs.«01_k».proof.Proof.Gen.Deconv1
public import proofs.«01_k».proof.Proof.Gen.Deconv1.Frame
public import proofs.«01_k».proof.Proof.Gen.Deconv1Ideal
public import proofs.«01_k».proof.Proof.Gen.Deconv1Ideal.Frame
public import proofs.«01_k».proof.Proof.Gen.Deconv1ReferenceIdeal
public import proofs.«01_k».proof.Proof.Gen.Deconv1ReferenceIdeal.Run
public import proofs.«01_k».proof.Proof.Gen.Conv1
public import proofs.«01_k».proof.Proof.Gen.Conv1.Frame
public import proofs.«01_k».proof.Proof.Gen.Conv1Ideal
public import proofs.«01_k».proof.Proof.Gen.Conv1Ideal.Frame
public import proofs.«01_k».proof.Proof.Gen.Conv1Ideal.Value
public import proofs.«01_k».proof.Proof.Gen.Conv1ReferenceIdeal
public import proofs.«01_k».proof.Proof.Gen.Conv1ReferenceIdeal.Run
public import proofs.«01_k».proof.Proof.Gen.Conv2
public import proofs.«01_k».proof.Proof.Gen.Conv2.Frame
public import proofs.«01_k».proof.Proof.Gen.Conv2Ideal
public import proofs.«01_k».proof.Proof.Gen.Conv2Ideal.Frame
public import proofs.«01_k».proof.Proof.Gen.Conv2Ideal.Value
public import proofs.«01_k».proof.Proof.Gen.Conv2ReferenceIdeal
public import proofs.«01_k».proof.Proof.Gen.Conv2ReferenceIdeal.Run
public import proofs.«01_k».proof.Proof.Gen.Codes
public import proofs.«01_k».proof.Proof.Gen.Codes.Frame
public import proofs.«01_k».proof.Proof.Gen.CodesIdeal
public import proofs.«01_k».proof.Proof.Gen.CodesIdeal.Frame
public import proofs.«01_k».proof.Proof.Gen.CodesIdeal.Value
public import proofs.«01_k».proof.Proof.Gen.CodesReferenceIdeal
public import proofs.«01_k».proof.Proof.Gen.Pre_finite
public import proofs.«01_k».proof.Proof.Take
public import proofs.«01_k».proof.Proof.Ideal.Take
public import proofs.«01_k».proof.Proof.Last.Same
public import proofs.«01_k».proof.Proof.Deconv.Frame
public import proofs.«01_k».proof.Proof.Deconv.Ideal.Same
public import proofs.«01_k».proof.Proof.Deconv1.Frame
public import proofs.«01_k».proof.Proof.Deconv1.Ideal.Same
public import proofs.«01_k».proof.Proof.Conv1.Same
public import proofs.«01_k».proof.Proof.Conv2.Same
public import proofs.«01_k».proof.Proof.Codes.Same
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Reference.Gen.facts,
    Cert.Last.Gen.facts, Cert.LastIdeal.Gen.facts, Cert.LastReferenceIdeal.Gen.facts,
    Cert.Deconv.Gen.facts, Cert.DeconvIdeal.Gen.facts, Cert.DeconvReferenceIdeal.Gen.facts,
    Cert.Deconv1.Gen.facts, Cert.Deconv1Ideal.Gen.facts, Cert.Deconv1ReferenceIdeal.Gen.facts,
    Cert.Conv1.Gen.facts, Cert.Conv1Ideal.Gen.facts, Cert.Conv1ReferenceIdeal.Gen.facts,
    Cert.Conv2.Gen.facts, Cert.Conv2Ideal.Gen.facts, Cert.Conv2ReferenceIdeal.Gen.facts,
    Cert.Codes.Gen.facts, Cert.CodesIdeal.Gen.facts, Cert.CodesReferenceIdeal.Gen.facts, Cert.Pre_names_a_code.Gen.facts, Cert.Pre_finite.Gen.facts,
    fun m ρ h => Cert.Reference.Take.frame_k (F := Bits) m ρ h,
    fun m ρ h => Cert.ReferenceIdeal.Take.frame_k (F := Ideal) m ρ h,
    fun m ρ _ => Cert.ReferenceIdeal.Take.frame_r (F := Ideal) m ρ,
    fun m ρ _ => Cert.ReferenceIdeal.Take.frame_r (F := Ideal) m ρ,
    fun m ρ _ => Cert.Reference.Take.frame_r (F := Bits) m ρ,
    fun m ρ _ => Cert.Last.Gen.frame m ρ,
    fun m ρ _ => Cert.LastIdeal.Gen.frame m ρ,
    fun m ρ _ => Cert.LastIdeal.Layer.frame_r m ρ,
    fun m ρ _ => Cert.Deconv.Layer.frame_k m ρ,
    fun m ρ _ => Cert.DeconvIdeal.Layer.frame_k m ρ,
    fun m ρ _ => Cert.DeconvIdeal.Layer.frame_r m ρ,
    fun m ρ _ => Cert.Deconv1.Layer.frame_k m ρ,
    fun m ρ _ => Cert.Deconv1Ideal.Layer.frame_k m ρ,
    fun m ρ _ => Cert.Deconv1Ideal.Layer.frame_r m ρ,
    fun m ρ _ => Cert.Conv1.Gen.frame m ρ,
    fun m ρ _ => Cert.Conv1Ideal.Gen.frame m ρ,
    fun m ρ _ => Cert.Conv1Ideal.Layer.frame_r m ρ,
    fun m ρ _ => Cert.Conv2.Gen.frame m ρ,
    fun m ρ _ => Cert.Conv2Ideal.Gen.frame m ρ,
    fun m ρ _ => Cert.Conv2Ideal.Layer.frame_r m ρ,
    fun m ρ _ => Cert.Codes.Gen.frame m ρ,
    fun m ρ _ => Cert.CodesIdeal.Gen.frame m ρ,
    fun m ρ _ => Cert.CodesIdeal.Gen.frame m ρ,
    fun m ρ _ => Cert.CodesIdeal.Layer.frame_r m ρ,
    fun m ρ _ => Cert.CodesIdeal.Layer.frame_r m ρ,
    trivial,
    fun m ρ m' ρ' h hag => Cert.ReferenceIdeal.Take.same (F := Ideal) m ρ m' ρ' h hag,
    fun m ρ m' ρ' h hag => Cert.Reference.Take.same (F := Bits) m ρ m' ρ' h hag,
    trivial,
    fun m ρ m' ρ' _ hag => Cert.LastIdeal.Layer.same m ρ m' ρ' hag,
    trivial,
    fun m ρ m' ρ' _ hag => Cert.DeconvIdeal.Layer.same m ρ m' ρ' hag,
    trivial,
    fun m ρ m' ρ' _ hag => Cert.Deconv1Ideal.Layer.same m ρ m' ρ' hag,
    trivial,
    fun m ρ m' ρ' _ hag => Cert.Conv1Ideal.Layer.same m ρ m' ρ' hag,
    trivial,
    fun m ρ m' ρ' _ hag => Cert.Conv2Ideal.Layer.same m ρ m' ρ' hag,
    trivial,
    fun m ρ m' ρ' h hag => Cert.CodesIdeal.Layer.same m ρ m' ρ' h hag⟩

end Cert.Proof

end
